-- ==== Defs.lean ====
def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_RefFfnIdeal (m : (ℓ : Loc Cert.RefFfnIdeal.nD Cert.RefFfnIdeal.τ Cert.RefFfnIdeal.sig) → Buf (Elt Ideal) ℓ) : Prop :=
  True

def Pre_FfnFinal (m : (ℓ : Loc Cert.FfnFinal.nD Cert.FfnFinal.τ Cert.FfnFinal.sig) → Buf (Elt Bits) ℓ) : Prop :=
  True

def Pre_FfnFinalIdeal (m : (ℓ : Loc Cert.FfnFinalIdeal.nD Cert.FfnFinalIdeal.τ Cert.FfnFinalIdeal.sig) → Buf (Elt Ideal) ℓ) : Prop :=
  True

def Pre_RefFfnFinalIdeal (m : (ℓ : Loc Cert.RefFfnFinalIdeal.nD Cert.RefFfnFinalIdeal.τ Cert.RefFfnFinalIdeal.sig) → Buf (Elt Ideal) ℓ) : Prop :=
  True

def Pre_MemKv (m : (ℓ : Loc Cert.MemKv.nD Cert.MemKv.τ Cert.MemKv.sig) → Buf (Elt Bits) ℓ) : Prop :=
  True

def Pre_MemKvIdeal (m : (ℓ : Loc Cert.MemKvIdeal.nD Cert.MemKvIdeal.τ Cert.MemKvIdeal.sig) → Buf (Elt Ideal) ℓ) : Prop :=
  True

def Pre_RefMemKvIdeal (m : (ℓ : Loc Cert.RefMemKvIdeal.nD Cert.RefMemKvIdeal.τ Cert.RefMemKvIdeal.sig) → Buf (Elt Ideal) ℓ) : Prop :=
  True

def Pre_CrossAttn (m : (ℓ : Loc Cert.CrossAttn.nD Cert.CrossAttn.τ Cert.CrossAttn.sig) → Buf (Elt Bits) ℓ) : Prop :=
  True

def Pre_CrossAttnIdeal (m : (ℓ : Loc Cert.CrossAttnIdeal.nD Cert.CrossAttnIdeal.τ Cert.CrossAttnIdeal.sig) → Buf (Elt Ideal) ℓ) : Prop :=
  True

def Pre_CrossAttnIdeal_finite_cross [hPre_finite_cross : Cert.Pre_finite_cross.Facts] (m : (ℓ : Loc Cert.CrossAttnIdeal.nD Cert.CrossAttnIdeal.τ Cert.CrossAttnIdeal.sig) → Buf (Elt Ideal) ℓ) : Prop :=
  ∀ c : Dev Cert.CrossAttnIdeal.nD,
    (Cert.Pre_finite_cross.fn (F := Ideal) (m ((c.tc : Thread Cert.CrossAttnIdeal.nD Cert.CrossAttnIdeal.τ).loc Cert.CrossAttnIdeal.main_arg0)) (m ((c.tc : Thread Cert.CrossAttnIdeal.nD Cert.CrossAttnIdeal.τ).loc Cert.CrossAttnIdeal.main_arg1)) (m ((c.tc : Thread Cert.CrossAttnIdeal.nD Cert.CrossAttnIdeal.τ).loc Cert.CrossAttnIdeal.main_arg2)) (m ((c.tc : Thread Cert.CrossAttnIdeal.nD Cert.CrossAttnIdeal.τ).loc Cert.CrossAttnIdeal.main_arg3)) (m ((c.tc : Thread Cert.CrossAttnIdeal.nD Cert.CrossAttnIdeal.τ).loc Cert.CrossAttnIdeal.main_arg4))).1 = (fun _ => 1#1)
    ∧ (Cert.Pre_finite_cross.fn (F := Ideal) (m ((c.tc : Thread Cert.CrossAttnIdeal.nD Cert.CrossAttnIdeal.τ).loc Cert.CrossAttnIdeal.main_arg0)) (m ((c.tc : Thread Cert.CrossAttnIdeal.nD Cert.CrossAttnIdeal.τ).loc Cert.CrossAttnIdeal.main_arg1)) (m ((c.tc : Thread Cert.CrossAttnIdeal.nD Cert.CrossAttnIdeal.τ).loc Cert.CrossAttnIdeal.main_arg2)) (m ((c.tc : Thread Cert.CrossAttnIdeal.nD Cert.CrossAttnIdeal.τ).loc Cert.CrossAttnIdeal.main_arg3)) (m ((c.tc : Thread Cert.CrossAttnIdeal.nD Cert.CrossAttnIdeal.τ).loc Cert.CrossAttnIdeal.main_arg4))).2.1 = (fun _ => 1#1)
    ∧ (Cert.Pre_finite_cross.fn (F := Ideal) (m ((c.tc : Thread Cert.CrossAttnIdeal.nD Cert.CrossAttnIdeal.τ).loc Cert.CrossAttnIdeal.main_arg0)) (m ((c.tc : Thread Cert.CrossAttnIdeal.nD Cert.CrossAttnIdeal.τ).loc Cert.CrossAttnIdeal.main_arg1)) (m ((c.tc : Thread Cert.CrossAttnIdeal.nD Cert.CrossAttnIdeal.τ).loc Cert.CrossAttnIdeal.main_arg2)) (m ((c.tc : Thread Cert.CrossAttnIdeal.nD Cert.CrossAttnIdeal.τ).loc Cert.CrossAttnIdeal.main_arg3)) (m ((c.tc : Thread Cert.CrossAttnIdeal.nD Cert.CrossAttnIdeal.τ).loc Cert.CrossAttnIdeal.main_arg4))).2.2 = (fun _ => 1#1)

def Pre_RefCrossAttnIdeal (m : (ℓ : Loc Cert.RefCrossAttnIdeal.nD Cert.RefCrossAttnIdeal.τ Cert.RefCrossAttnIdeal.sig) → Buf (Elt Ideal) ℓ) : Prop :=
  True

def Pre_RefCrossAttnIdeal_finite_cross [hPre_finite_cross : Cert.Pre_finite_cross.Facts] (m : (ℓ : Loc Cert.RefCrossAttnIdeal.nD Cert.RefCrossAttnIdeal.τ Cert.RefCrossAttnIdeal.sig) → Buf (Elt Ideal) ℓ) : Prop :=
  ∀ c : Dev Cert.RefCrossAttnIdeal.nD,
    (Cert.Pre_finite_cross.fn (F := Ideal) (m ((c.tc : Thread Cert.RefCrossAttnIdeal.nD Cert.RefCrossAttnIdeal.τ).loc Cert.RefCrossAttnIdeal.main_arg0)) (m ((c.tc : Thread Cert.RefCrossAttnIdeal.nD Cert.RefCrossAttnIdeal.τ).loc Cert.RefCrossAttnIdeal.main_arg1)) (m ((c.tc : Thread Cert.RefCrossAttnIdeal.nD Cert.RefCrossAttnIdeal.τ).loc Cert.RefCrossAttnIdeal.main_arg2)) (m ((c.tc : Thread Cert.RefCrossAttnIdeal.nD Cert.RefCrossAttnIdeal.τ).loc Cert.RefCrossAttnIdeal.main_arg3)) (m ((c.tc : Thread Cert.RefCrossAttnIdeal.nD Cert.RefCrossAttnIdeal.τ).loc Cert.RefCrossAttnIdeal.main_arg4))).1 = (fun _ => 1#1)
    ∧ (Cert.Pre_finite_cross.fn (F := Ideal) (m ((c.tc : Thread Cert.RefCrossAttnIdeal.nD Cert.RefCrossAttnIdeal.τ).loc Cert.RefCrossAttnIdeal.main_arg0)) (m ((c.tc : Thread Cert.RefCrossAttnIdeal.nD Cert.RefCrossAttnIdeal.τ).loc Cert.RefCrossAttnIdeal.main_arg1)) (m ((c.tc : Thread Cert.RefCrossAttnIdeal.nD Cert.RefCrossAttnIdeal.τ).loc Cert.RefCrossAttnIdeal.main_arg2)) (m ((c.tc : Thread Cert.RefCrossAttnIdeal.nD Cert.RefCrossAttnIdeal.τ).loc Cert.RefCrossAttnIdeal.main_arg3)) (m ((c.tc : Thread Cert.RefCrossAttnIdeal.nD Cert.RefCrossAttnIdeal.τ).loc Cert.RefCrossAttnIdeal.main_arg4))).2.1 = (fun _ => 1#1)
    ∧ (Cert.Pre_finite_cross.fn (F := Ideal) (m ((c.tc : Thread Cert.RefCrossAttnIdeal.nD Cert.RefCrossAttnIdeal.τ).loc Cert.RefCrossAttnIdeal.main_arg0)) (m ((c.tc : Thread Cert.RefCrossAttnIdeal.nD Cert.RefCrossAttnIdeal.τ).loc Cert.RefCrossAttnIdeal.main_arg1)) (m ((c.tc : Thread Cert.RefCrossAttnIdeal.nD Cert.RefCrossAttnIdeal.τ).loc Cert.RefCrossAttnIdeal.main_arg2)) (m ((c.tc : Thread Cert.RefCrossAttnIdeal.nD Cert.RefCrossAttnIdeal.τ).loc Cert.RefCrossAttnIdeal.main_arg3)) (m ((c.tc : Thread Cert.RefCrossAttnIdeal.nD Cert.RefCrossAttnIdeal.τ).loc Cert.RefCrossAttnIdeal.main_arg4))).2.2 = (fun _ => 1#1)

def Pre_OddMixer (m : (ℓ : Loc Cert.OddMixer.nD Cert.OddMixer.τ Cert.OddMixer.sig) → Buf (Elt Bits) ℓ) : Prop :=
  True

def Pre_OddMixerIdeal (m : (ℓ : Loc Cert.OddMixerIdeal.nD Cert.OddMixerIdeal.τ Cert.OddMixerIdeal.sig) → Buf (Elt Ideal) ℓ) : Prop :=
  True

def Pre_RefOddMixerIdeal (m : (ℓ : Loc Cert.RefOddMixerIdeal.nD Cert.RefOddMixerIdeal.τ Cert.RefOddMixerIdeal.sig) → Buf (Elt Ideal) ℓ) : Prop :=
  True

def Pre_EvenMixer (m : (ℓ : Loc Cert.EvenMixer.nD Cert.EvenMixer.τ Cert.EvenMixer.sig) → Buf (Elt Bits) ℓ) : Prop :=
  True

def Pre_EvenMixerIdeal (m : (ℓ : Loc Cert.EvenMixerIdeal.nD Cert.EvenMixerIdeal.τ Cert.EvenMixerIdeal.sig) → Buf (Elt Ideal) ℓ) : Prop :=
  True

def Pre_EvenMixerIdeal_finite_even [hPre_finite_even : Cert.Pre_finite_even.Facts] (m : (ℓ : Loc Cert.EvenMixerIdeal.nD Cert.EvenMixerIdeal.τ Cert.EvenMixerIdeal.sig) → Buf (Elt Ideal) ℓ) : Prop :=
  ∀ c : Dev Cert.EvenMixerIdeal.nD,
    (Cert.Pre_finite_even.fn (F := Ideal) (m ((c.tc : Thread Cert.EvenMixerIdeal.nD Cert.EvenMixerIdeal.τ).loc Cert.EvenMixerIdeal.main_arg0)) (m ((c.tc : Thread Cert.EvenMixerIdeal.nD Cert.EvenMixerIdeal.τ).loc Cert.EvenMixerIdeal.main_arg1)) (m ((c.tc : Thread Cert.EvenMixerIdeal.nD Cert.EvenMixerIdeal.τ).loc Cert.EvenMixerIdeal.main_arg2)) (m ((c.tc : Thread Cert.EvenMixerIdeal.nD Cert.EvenMixerIdeal.τ).loc Cert.EvenMixerIdeal.main_arg3)) (m ((c.tc : Thread Cert.EvenMixerIdeal.nD Cert.EvenMixerIdeal.τ).loc Cert.EvenMixerIdeal.main_arg4)) (m ((c.tc : Thread Cert.EvenMixerIdeal.nD Cert.EvenMixerIdeal.τ).loc Cert.EvenMixerIdeal.main_arg5)) (m ((c.tc : Thread Cert.EvenMixerIdeal.nD Cert.EvenMixerIdeal.τ).loc Cert.EvenMixerIdeal.main_arg6)) (m ((c.tc : Thread Cert.EvenMixerIdeal.nD Cert.EvenMixerIdeal.τ).loc Cert.EvenMixerIdeal.main_arg7)) (m ((c.tc : Thread Cert.EvenMixerIdeal.nD Cert.EvenMixerIdeal.τ).loc Cert.EvenMixerIdeal.main_arg8))).1 = (fun _ => 1#1)
    ∧ (Cert.Pre_finite_even.fn (F := Ideal) (m ((c.tc : Thread Cert.EvenMixerIdeal.nD Cert.EvenMixerIdeal.τ).loc Cert.EvenMixerIdeal.main_arg0)) (m ((c.tc : Thread Cert.EvenMixerIdeal.nD Cert.EvenMixerIdeal.τ).loc Cert.EvenMixerIdeal.main_arg1)) (m ((c.tc : Thread Cert.EvenMixerIdeal.nD Cert.EvenMixerIdeal.τ).loc Cert.EvenMixerIdeal.main_arg2)) (m ((c.tc : Thread Cert.EvenMixerIdeal.nD Cert.EvenMixerIdeal.τ).loc Cert.EvenMixerIdeal.main_arg3)) (m ((c.tc : Thread Cert.EvenMixerIdeal.nD Cert.EvenMixerIdeal.τ).loc Cert.EvenMixerIdeal.main_arg4)) (m ((c.tc : Thread Cert.EvenMixerIdeal.nD Cert.EvenMixerIdeal.τ).loc Cert.EvenMixerIdeal.main_arg5)) (m ((c.tc : Thread Cert.EvenMixerIdeal.nD Cert.EvenMixerIdeal.τ).loc Cert.EvenMixerIdeal.main_arg6)) (m ((c.tc : Thread Cert.EvenMixerIdeal.nD Cert.EvenMixerIdeal.τ).loc Cert.EvenMixerIdeal.main_arg7)) (m ((c.tc : Thread Cert.EvenMixerIdeal.nD Cert.EvenMixerIdeal.τ).loc Cert.EvenMixerIdeal.main_arg8))).2.1 = (fun _ => 1#1)
    ∧ (Cert.Pre_finite_even.fn (F := Ideal) (m ((c.tc : Thread Cert.EvenMixerIdeal.nD Cert.EvenMixerIdeal.τ).loc Cert.EvenMixerIdeal.main_arg0)) (m ((c.tc : Thread Cert.EvenMixerIdeal.nD Cert.EvenMixerIdeal.τ).loc Cert.EvenMixerIdeal.main_arg1)) (m ((c.tc : Thread Cert.EvenMixerIdeal.nD Cert.EvenMixerIdeal.τ).loc Cert.EvenMixerIdeal.main_arg2)) (m ((c.tc : Thread Cert.EvenMixerIdeal.nD Cert.EvenMixerIdeal.τ).loc Cert.EvenMixerIdeal.main_arg3)) (m ((c.tc : Thread Cert.EvenMixerIdeal.nD Cert.EvenMixerIdeal.τ).loc Cert.EvenMixerIdeal.main_arg4)) (m ((c.tc : Thread Cert.EvenMixerIdeal.nD Cert.EvenMixerIdeal.τ).loc Cert.EvenMixerIdeal.main_arg5)) (m ((c.tc : Thread Cert.EvenMixerIdeal.nD Cert.EvenMixerIdeal.τ).loc Cert.EvenMixerIdeal.main_arg6)) (m ((c.tc : Thread Cert.EvenMixerIdeal.nD Cert.EvenMixerIdeal.τ).loc Cert.EvenMixerIdeal.main_arg7)) (m ((c.tc : Thread Cert.EvenMixerIdeal.nD Cert.EvenMixerIdeal.τ).loc Cert.EvenMixerIdeal.main_arg8))).2.2 = (fun _ => 1#1)

def Pre_RefEvenMixerIdeal (m : (ℓ : Loc Cert.RefEvenMixerIdeal.nD Cert.RefEvenMixerIdeal.τ Cert.RefEvenMixerIdeal.sig) → Buf (Elt Ideal) ℓ) : Prop :=
  True

def Pre_RefEvenMixerIdeal_finite_even [hPre_finite_even : Cert.Pre_finite_even.Facts] (m : (ℓ : Loc Cert.RefEvenMixerIdeal.nD Cert.RefEvenMixerIdeal.τ Cert.RefEvenMixerIdeal.sig) → Buf (Elt Ideal) ℓ) : Prop :=
  ∀ c : Dev Cert.RefEvenMixerIdeal.nD,
    (Cert.Pre_finite_even.fn (F := Ideal) (m ((c.tc : Thread Cert.RefEvenMixerIdeal.nD Cert.RefEvenMixerIdeal.τ).loc Cert.RefEvenMixerIdeal.main_arg0)) (m ((c.tc : Thread Cert.RefEvenMixerIdeal.nD Cert.RefEvenMixerIdeal.τ).loc Cert.RefEvenMixerIdeal.main_arg1)) (m ((c.tc : Thread Cert.RefEvenMixerIdeal.nD Cert.RefEvenMixerIdeal.τ).loc Cert.RefEvenMixerIdeal.main_arg2)) (m ((c.tc : Thread Cert.RefEvenMixerIdeal.nD Cert.RefEvenMixerIdeal.τ).loc Cert.RefEvenMixerIdeal.main_arg3)) (m ((c.tc : Thread Cert.RefEvenMixerIdeal.nD Cert.RefEvenMixerIdeal.τ).loc Cert.RefEvenMixerIdeal.main_arg4)) (m ((c.tc : Thread Cert.RefEvenMixerIdeal.nD Cert.RefEvenMixerIdeal.τ).loc Cert.RefEvenMixerIdeal.main_arg5)) (m ((c.tc : Thread Cert.RefEvenMixerIdeal.nD Cert.RefEvenMixerIdeal.τ).loc Cert.RefEvenMixerIdeal.main_arg6)) (m ((c.tc : Thread Cert.RefEvenMixerIdeal.nD Cert.RefEvenMixerIdeal.τ).loc Cert.RefEvenMixerIdeal.main_arg7)) (m ((c.tc : Thread Cert.RefEvenMixerIdeal.nD Cert.RefEvenMixerIdeal.τ).loc Cert.RefEvenMixerIdeal.main_arg8))).1 = (fun _ => 1#1)
    ∧ (Cert.Pre_finite_even.fn (F := Ideal) (m ((c.tc : Thread Cert.RefEvenMixerIdeal.nD Cert.RefEvenMixerIdeal.τ).loc Cert.RefEvenMixerIdeal.main_arg0)) (m ((c.tc : Thread Cert.RefEvenMixerIdeal.nD Cert.RefEvenMixerIdeal.τ).loc Cert.RefEvenMixerIdeal.main_arg1)) (m ((c.tc : Thread Cert.RefEvenMixerIdeal.nD Cert.RefEvenMixerIdeal.τ).loc Cert.RefEvenMixerIdeal.main_arg2)) (m ((c.tc : Thread Cert.RefEvenMixerIdeal.nD Cert.RefEvenMixerIdeal.τ).loc Cert.RefEvenMixerIdeal.main_arg3)) (m ((c.tc : Thread Cert.RefEvenMixerIdeal.nD Cert.RefEvenMixerIdeal.τ).loc Cert.RefEvenMixerIdeal.main_arg4)) (m ((c.tc : Thread Cert.RefEvenMixerIdeal.nD Cert.RefEvenMixerIdeal.τ).loc Cert.RefEvenMixerIdeal.main_arg5)) (m ((c.tc : Thread Cert.RefEvenMixerIdeal.nD Cert.RefEvenMixerIdeal.τ).loc Cert.RefEvenMixerIdeal.main_arg6)) (m ((c.tc : Thread Cert.RefEvenMixerIdeal.nD Cert.RefEvenMixerIdeal.τ).loc Cert.RefEvenMixerIdeal.main_arg7)) (m ((c.tc : Thread Cert.RefEvenMixerIdeal.nD Cert.RefEvenMixerIdeal.τ).loc Cert.RefEvenMixerIdeal.main_arg8))).2.1 = (fun _ => 1#1)
    ∧ (Cert.Pre_finite_even.fn (F := Ideal) (m ((c.tc : Thread Cert.RefEvenMixerIdeal.nD Cert.RefEvenMixerIdeal.τ).loc Cert.RefEvenMixerIdeal.main_arg0)) (m ((c.tc : Thread Cert.RefEvenMixerIdeal.nD Cert.RefEvenMixerIdeal.τ).loc Cert.RefEvenMixerIdeal.main_arg1)) (m ((c.tc : Thread Cert.RefEvenMixerIdeal.nD Cert.RefEvenMixerIdeal.τ).loc Cert.RefEvenMixerIdeal.main_arg2)) (m ((c.tc : Thread Cert.RefEvenMixerIdeal.nD Cert.RefEvenMixerIdeal.τ).loc Cert.RefEvenMixerIdeal.main_arg3)) (m ((c.tc : Thread Cert.RefEvenMixerIdeal.nD Cert.RefEvenMixerIdeal.τ).loc Cert.RefEvenMixerIdeal.main_arg4)) (m ((c.tc : Thread Cert.RefEvenMixerIdeal.nD Cert.RefEvenMixerIdeal.τ).loc Cert.RefEvenMixerIdeal.main_arg5)) (m ((c.tc : Thread Cert.RefEvenMixerIdeal.nD Cert.RefEvenMixerIdeal.τ).loc Cert.RefEvenMixerIdeal.main_arg6)) (m ((c.tc : Thread Cert.RefEvenMixerIdeal.nD Cert.RefEvenMixerIdeal.τ).loc Cert.RefEvenMixerIdeal.main_arg7)) (m ((c.tc : Thread Cert.RefEvenMixerIdeal.nD Cert.RefEvenMixerIdeal.τ).loc Cert.RefEvenMixerIdeal.main_arg8))).2.2 = (fun _ => 1#1)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3))
      ∧ r.2.sem = fun _ => 0)

def quiescent_RefFfnIdeal [hRefFfnIdeal : Cert.RefFfnIdeal.Facts] : Prop :=
  ∀ (m : (ℓ : Loc Cert.RefFfnIdeal.nD Cert.RefFfnIdeal.τ Cert.RefFfnIdeal.sig) → Buf (Elt Ideal) ℓ) (g : Dev Cert.RefFfnIdeal.nD → PrngReg), Pre_RefFfnIdeal m →
    θ_run (Cert.RefFfnIdeal.defs (F := Ideal)) (onTc (τ := Cert.RefFfnIdeal.τ) (Cert.RefFfnIdeal.main (F := Ideal))) ⟨m, fun _ => 0, g⟩ (fun r => (∀ c : Dev Cert.RefFfnIdeal.nD,
      r.2.mem ((c.tc : Thread Cert.RefFfnIdeal.nD Cert.RefFfnIdeal.τ).loc Cert.RefFfnIdeal.main_arg0) = m ((c.tc : Thread Cert.RefFfnIdeal.nD Cert.RefFfnIdeal.τ).loc Cert.RefFfnIdeal.main_arg0)
      ∧ r.2.mem ((c.tc : Thread Cert.RefFfnIdeal.nD Cert.RefFfnIdeal.τ).loc Cert.RefFfnIdeal.main_arg1) = m ((c.tc : Thread Cert.RefFfnIdeal.nD Cert.RefFfnIdeal.τ).loc Cert.RefFfnIdeal.main_arg1)
      ∧ r.2.mem ((c.tc : Thread Cert.RefFfnIdeal.nD Cert.RefFfnIdeal.τ).loc Cert.RefFfnIdeal.main_arg2) = m ((c.tc : Thread Cert.RefFfnIdeal.nD Cert.RefFfnIdeal.τ).loc Cert.RefFfnIdeal.main_arg2)
      ∧ r.2.mem ((c.tc : Thread Cert.RefFfnIdeal.nD Cert.RefFfnIdeal.τ).loc Cert.RefFfnIdeal.main_arg3) = m ((c.tc : Thread Cert.RefFfnIdeal.nD Cert.RefFfnIdeal.τ).loc Cert.RefFfnIdeal.main_arg3))
      ∧ r.2.sem = fun _ => 0)

def quiescent_FfnFinal [hFfnFinal : Cert.FfnFinal.Facts] : Prop :=
  ∀ (m : (ℓ : Loc Cert.FfnFinal.nD Cert.FfnFinal.τ Cert.FfnFinal.sig) → Buf (Elt Bits) ℓ) (g : Dev Cert.FfnFinal.nD → PrngReg), Pre_FfnFinal m →
    θ_run (Cert.FfnFinal.defs (F := Bits)) (onTc (τ := Cert.FfnFinal.τ) (Cert.FfnFinal.main (F := Bits))) ⟨m, fun _ => 0, g⟩ (fun r => (∀ c : Dev Cert.FfnFinal.nD,
      r.2.mem ((c.tc : Thread Cert.FfnFinal.nD Cert.FfnFinal.τ).loc Cert.FfnFinal.main_arg0) = m ((c.tc : Thread Cert.FfnFinal.nD Cert.FfnFinal.τ).loc Cert.FfnFinal.main_arg0)
      ∧ r.2.mem ((c.tc : Thread Cert.FfnFinal.nD Cert.FfnFinal.τ).loc Cert.FfnFinal.main_arg1) = m ((c.tc : Thread Cert.FfnFinal.nD Cert.FfnFinal.τ).loc Cert.FfnFinal.main_arg1)
      ∧ r.2.mem ((c.tc : Thread Cert.FfnFinal.nD Cert.FfnFinal.τ).loc Cert.FfnFinal.main_arg2) = m ((c.tc : Thread Cert.FfnFinal.nD Cert.FfnFinal.τ).loc Cert.FfnFinal.main_arg2)
      ∧ r.2.mem ((c.tc : Thread Cert.FfnFinal.nD Cert.FfnFinal.τ).loc Cert.FfnFinal.main_arg3) = m ((c.tc : Thread Cert.FfnFinal.nD Cert.FfnFinal.τ).loc Cert.FfnFinal.main_arg3)
      ∧ r.2.mem ((c.tc : Thread Cert.FfnFinal.nD Cert.FfnFinal.τ).loc Cert.FfnFinal.main_arg4) = m ((c.tc : Thread Cert.FfnFinal.nD Cert.FfnFinal.τ).loc Cert.FfnFinal.main_arg4))
      ∧ r.2.sem = fun _ => 0)

def quiescent_FfnFinalIdeal [hFfnFinalIdeal : Cert.FfnFinalIdeal.Facts] : Prop :=
  ∀ (m : (ℓ : Loc Cert.FfnFinalIdeal.nD Cert.FfnFinalIdeal.τ Cert.FfnFinalIdeal.sig) → Buf (Elt Ideal) ℓ) (g : Dev Cert.FfnFinalIdeal.nD → PrngReg), Pre_FfnFinalIdeal m →
    θ_run (Cert.FfnFinalIdeal.defs (F := Ideal)) (onTc (τ := Cert.FfnFinalIdeal.τ) (Cert.FfnFinalIdeal.main (F := Ideal))) ⟨m, fun _ => 0, g⟩ (fun r => (∀ c : Dev Cert.FfnFinalIdeal.nD,
      r.2.mem ((c.tc : Thread Cert.FfnFinalIdeal.nD Cert.FfnFinalIdeal.τ).loc Cert.FfnFinalIdeal.main_arg0) = m ((c.tc : Thread Cert.FfnFinalIdeal.nD Cert.FfnFinalIdeal.τ).loc Cert.FfnFinalIdeal.main_arg0)
      ∧ r.2.mem ((c.tc : Thread Cert.FfnFinalIdeal.nD Cert.FfnFinalIdeal.τ).loc Cert.FfnFinalIdeal.main_arg1) = m ((c.tc : Thread Cert.FfnFinalIdeal.nD Cert.FfnFinalIdeal.τ).loc Cert.FfnFinalIdeal.main_arg1)
      ∧ r.2.mem ((c.tc : Thread Cert.FfnFinalIdeal.nD Cert.FfnFinalIdeal.τ).loc Cert.FfnFinalIdeal.main_arg2) = m ((c.tc : Thread Cert.FfnFinalIdeal.nD Cert.FfnFinalIdeal.τ).loc Cert.FfnFinalIdeal.main_arg2)
      ∧ r.2.mem ((c.tc : Thread Cert.FfnFinalIdeal.nD Cert.FfnFinalIdeal.τ).loc Cert.FfnFinalIdeal.main_arg3) = m ((c.tc : Thread Cert.FfnFinalIdeal.nD Cert.FfnFinalIdeal.τ).loc Cert.FfnFinalIdeal.main_arg3)
      ∧ r.2.mem ((c.tc : Thread Cert.FfnFinalIdeal.nD Cert.FfnFinalIdeal.τ).loc Cert.FfnFinalIdeal.main_arg4) = m ((c.tc : Thread Cert.FfnFinalIdeal.nD Cert.FfnFinalIdeal.τ).loc Cert.FfnFinalIdeal.main_arg4))
      ∧ r.2.sem = fun _ => 0)

def quiescent_RefFfnFinalIdeal [hRefFfnFinalIdeal : Cert.RefFfnFinalIdeal.Facts] : Prop :=
  ∀ (m : (ℓ : Loc Cert.RefFfnFinalIdeal.nD Cert.RefFfnFinalIdeal.τ Cert.RefFfnFinalIdeal.sig) → Buf (Elt Ideal) ℓ) (g : Dev Cert.RefFfnFinalIdeal.nD → PrngReg), Pre_RefFfnFinalIdeal m →
    θ_run (Cert.RefFfnFinalIdeal.defs (F := Ideal)) (onTc (τ := Cert.RefFfnFinalIdeal.τ) (Cert.RefFfnFinalIdeal.main (F := Ideal))) ⟨m, fun _ => 0, g⟩ (fun r => (∀ c : Dev Cert.RefFfnFinalIdeal.nD,
      r.2.mem ((c.tc : Thread Cert.RefFfnFinalIdeal.nD Cert.RefFfnFinalIdeal.τ).loc Cert.RefFfnFinalIdeal.main_arg0) = m ((c.tc : Thread Cert.RefFfnFinalIdeal.nD Cert.RefFfnFinalIdeal.τ).loc Cert.RefFfnFinalIdeal.main_arg0)
      ∧ r.2.mem ((c.tc : Thread Cert.RefFfnFinalIdeal.nD Cert.RefFfnFinalIdeal.τ).loc Cert.RefFfnFinalIdeal.main_arg1) = m ((c.tc : Thread Cert.RefFfnFinalIdeal.nD Cert.RefFfnFinalIdeal.τ).loc Cert.RefFfnFinalIdeal.main_arg1)
      ∧ r.2.mem ((c.tc : Thread Cert.RefFfnFinalIdeal.nD Cert.RefFfnFinalIdeal.τ).loc Cert.RefFfnFinalIdeal.main_arg2) = m ((c.tc : Thread Cert.RefFfnFinalIdeal.nD Cert.RefFfnFinalIdeal.τ).loc Cert.RefFfnFinalIdeal.main_arg2)
      ∧ r.2.mem ((c.tc : Thread Cert.RefFfnFinalIdeal.nD Cert.RefFfnFinalIdeal.τ).loc Cert.RefFfnFinalIdeal.main_arg3) = m ((c.tc : Thread Cert.RefFfnFinalIdeal.nD Cert.RefFfnFinalIdeal.τ).loc Cert.RefFfnFinalIdeal.main_arg3)
      ∧ r.2.mem ((c.tc : Thread Cert.RefFfnFinalIdeal.nD Cert.RefFfnFinalIdeal.τ).loc Cert.RefFfnFinalIdeal.main_arg4) = m ((c.tc : Thread Cert.RefFfnFinalIdeal.nD Cert.RefFfnFinalIdeal.τ).loc Cert.RefFfnFinalIdeal.main_arg4))
      ∧ r.2.sem = fun _ => 0)

def quiescent_MemKv [hMemKv : Cert.MemKv.Facts] : Prop :=
  ∀ (m : (ℓ : Loc Cert.MemKv.nD Cert.MemKv.τ Cert.MemKv.sig) → Buf (Elt Bits) ℓ) (g : Dev Cert.MemKv.nD → PrngReg), Pre_MemKv m →
    θ_run (Cert.MemKv.defs (F := Bits)) (onTc (τ := Cert.MemKv.τ) (Cert.MemKv.main (F := Bits))) ⟨m, fun _ => 0, g⟩ (fun r => (∀ c : Dev Cert.MemKv.nD,
      r.2.mem ((c.tc : Thread Cert.MemKv.nD Cert.MemKv.τ).loc Cert.MemKv.main_arg0) = m ((c.tc : Thread Cert.MemKv.nD Cert.MemKv.τ).loc Cert.MemKv.main_arg0)
      ∧ r.2.mem ((c.tc : Thread Cert.MemKv.nD Cert.MemKv.τ).loc Cert.MemKv.main_arg1) = m ((c.tc : Thread Cert.MemKv.nD Cert.MemKv.τ).loc Cert.MemKv.main_arg1)
      ∧ r.2.mem ((c.tc : Thread Cert.MemKv.nD Cert.MemKv.τ).loc Cert.MemKv.main_arg2) = m ((c.tc : Thread Cert.MemKv.nD Cert.MemKv.τ).loc Cert.MemKv.main_arg2))
      ∧ r.2.sem = fun _ => 0)

def quiescent_MemKvIdeal [hMemKvIdeal : Cert.MemKvIdeal.Facts] : Prop :=
  ∀ (m : (ℓ : Loc Cert.MemKvIdeal.nD Cert.MemKvIdeal.τ Cert.MemKvIdeal.sig) → Buf (Elt Ideal) ℓ) (g : Dev Cert.MemKvIdeal.nD → PrngReg), Pre_MemKvIdeal m →
    θ_run (Cert.MemKvIdeal.defs (F := Ideal)) (onTc (τ := Cert.MemKvIdeal.τ) (Cert.MemKvIdeal.main (F := Ideal))) ⟨m, fun _ => 0, g⟩ (fun r => (∀ c : Dev Cert.MemKvIdeal.nD,
      r.2.mem ((c.tc : Thread Cert.MemKvIdeal.nD Cert.MemKvIdeal.τ).loc Cert.MemKvIdeal.main_arg0) = m ((c.tc : Thread Cert.MemKvIdeal.nD Cert.MemKvIdeal.τ).loc Cert.MemKvIdeal.main_arg0)
      ∧ r.2.mem ((c.tc : Thread Cert.MemKvIdeal.nD Cert.MemKvIdeal.τ).loc Cert.MemKvIdeal.main_arg1) = m ((c.tc : Thread Cert.MemKvIdeal.nD Cert.MemKvIdeal.τ).loc Cert.MemKvIdeal.main_arg1)
      ∧ r.2.mem ((c.tc : Thread Cert.MemKvIdeal.nD Cert.MemKvIdeal.τ).loc Cert.MemKvIdeal.main_arg2) = m ((c.tc : Thread Cert.MemKvIdeal.nD Cert.MemKvIdeal.τ).loc Cert.MemKvIdeal.main_arg2))
      ∧ r.2.sem = fun _ => 0)

def quiescent_RefMemKvIdeal [hRefMemKvIdeal : Cert.RefMemKvIdeal.Facts] : Prop :=
  ∀ (m : (ℓ : Loc Cert.RefMemKvIdeal.nD Cert.RefMemKvIdeal.τ Cert.RefMemKvIdeal.sig) → Buf (Elt Ideal) ℓ) (g : Dev Cert.RefMemKvIdeal.nD → PrngReg), Pre_RefMemKvIdeal m →
    θ_run (Cert.RefMemKvIdeal.defs (F := Ideal)) (onTc (τ := Cert.RefMemKvIdeal.τ) (Cert.RefMemKvIdeal.main (F := Ideal))) ⟨m, fun _ => 0, g⟩ (fun r => (∀ c : Dev Cert.RefMemKvIdeal.nD,
      r.2.mem ((c.tc : Thread Cert.RefMemKvIdeal.nD Cert.RefMemKvIdeal.τ).loc Cert.RefMemKvIdeal.main_arg0) = m ((c.tc : Thread Cert.RefMemKvIdeal.nD Cert.RefMemKvIdeal.τ).loc Cert.RefMemKvIdeal.main_arg0)
      ∧ r.2.mem ((c.tc : Thread Cert.RefMemKvIdeal.nD Cert.RefMemKvIdeal.τ).loc Cert.RefMemKvIdeal.main_arg1) = m ((c.tc : Thread Cert.RefMemKvIdeal.nD Cert.RefMemKvIdeal.τ).loc Cert.RefMemKvIdeal.main_arg1)
      ∧ r.2.mem ((c.tc : Thread Cert.RefMemKvIdeal.nD Cert.RefMemKvIdeal.τ).loc Cert.RefMemKvIdeal.main_arg2) = m ((c.tc : Thread Cert.RefMemKvIdeal.nD Cert.RefMemKvIdeal.τ).loc Cert.RefMemKvIdeal.main_arg2))
      ∧ r.2.sem = fun _ => 0)

def quiescent_CrossAttn [hCrossAttn : Cert.CrossAttn.Facts] : Prop :=
  ∀ (m : (ℓ : Loc Cert.CrossAttn.nD Cert.CrossAttn.τ Cert.CrossAttn.sig) → Buf (Elt Bits) ℓ) (g : Dev Cert.CrossAttn.nD → PrngReg), Pre_CrossAttn m →
    θ_run (Cert.CrossAttn.defs (F := Bits)) (onTc (τ := Cert.CrossAttn.τ) (Cert.CrossAttn.main (F := Bits))) ⟨m, fun _ => 0, g⟩ (fun r => (∀ c : Dev Cert.CrossAttn.nD,
      r.2.mem ((c.tc : Thread Cert.CrossAttn.nD Cert.CrossAttn.τ).loc Cert.CrossAttn.main_arg0) = m ((c.tc : Thread Cert.CrossAttn.nD Cert.CrossAttn.τ).loc Cert.CrossAttn.main_arg0)
      ∧ r.2.mem ((c.tc : Thread Cert.CrossAttn.nD Cert.CrossAttn.τ).loc Cert.CrossAttn.main_arg1) = m ((c.tc : Thread Cert.CrossAttn.nD Cert.CrossAttn.τ).loc Cert.CrossAttn.main_arg1)
      ∧ r.2.mem ((c.tc : Thread Cert.CrossAttn.nD Cert.CrossAttn.τ).loc Cert.CrossAttn.main_arg2) = m ((c.tc : Thread Cert.CrossAttn.nD Cert.CrossAttn.τ).loc Cert.CrossAttn.main_arg2)
      ∧ r.2.mem ((c.tc : Thread Cert.CrossAttn.nD Cert.CrossAttn.τ).loc Cert.CrossAttn.main_arg3) = m ((c.tc : Thread Cert.CrossAttn.nD Cert.CrossAttn.τ).loc Cert.CrossAttn.main_arg3)
      ∧ r.2.mem ((c.tc : Thread Cert.CrossAttn.nD Cert.CrossAttn.τ).loc Cert.CrossAttn.main_arg4) = m ((c.tc : Thread Cert.CrossAttn.nD Cert.CrossAttn.τ).loc Cert.CrossAttn.main_arg4))
      ∧ r.2.sem = fun _ => 0)

def quiescent_CrossAttnIdeal [hCrossAttnIdeal : Cert.CrossAttnIdeal.Facts] : Prop :=
  ∀ (m : (ℓ : Loc Cert.CrossAttnIdeal.nD Cert.CrossAttnIdeal.τ Cert.CrossAttnIdeal.sig) → Buf (Elt Ideal) ℓ) (g : Dev Cert.CrossAttnIdeal.nD → PrngReg), Pre_CrossAttnIdeal m →
    θ_run (Cert.CrossAttnIdeal.defs (F := Ideal)) (onTc (τ := Cert.CrossAttnIdeal.τ) (Cert.CrossAttnIdeal.main (F := Ideal))) ⟨m, fun _ => 0, g⟩ (fun r => (∀ c : Dev Cert.CrossAttnIdeal.nD,
      r.2.mem ((c.tc : Thread Cert.CrossAttnIdeal.nD Cert.CrossAttnIdeal.τ).loc Cert.CrossAttnIdeal.main_arg0) = m ((c.tc : Thread Cert.CrossAttnIdeal.nD Cert.CrossAttnIdeal.τ).loc Cert.CrossAttnIdeal.main_arg0)
      ∧ r.2.mem ((c.tc : Thread Cert.CrossAttnIdeal.nD Cert.CrossAttnIdeal.τ).loc Cert.CrossAttnIdeal.main_arg1) = m ((c.tc : Thread Cert.CrossAttnIdeal.nD Cert.CrossAttnIdeal.τ).loc Cert.CrossAttnIdeal.main_arg1)
      ∧ r.2.mem ((c.tc : Thread Cert.CrossAttnIdeal.nD Cert.CrossAttnIdeal.τ).loc Cert.CrossAttnIdeal.main_arg2) = m ((c.tc : Thread Cert.CrossAttnIdeal.nD Cert.CrossAttnIdeal.τ).loc Cert.CrossAttnIdeal.main_arg2)
      ∧ r.2.mem ((c.tc : Thread Cert.CrossAttnIdeal.nD Cert.CrossAttnIdeal.τ).loc Cert.CrossAttnIdeal.main_arg3) = m ((c.tc : Thread Cert.CrossAttnIdeal.nD Cert.CrossAttnIdeal.τ).loc Cert.CrossAttnIdeal.main_arg3)
      ∧ r.2.mem ((c.tc : Thread Cert.CrossAttnIdeal.nD Cert.CrossAttnIdeal.τ).loc Cert.CrossAttnIdeal.main_arg4) = m ((c.tc : Thread Cert.CrossAttnIdeal.nD Cert.CrossAttnIdeal.τ).loc Cert.CrossAttnIdeal.main_arg4))
      ∧ r.2.sem = fun _ => 0)

def quiescent_CrossAttnIdeal_pre_finite_cross [hCrossAttnIdeal : Cert.CrossAttnIdeal.Facts] [hPre_finite_cross : Cert.Pre_finite_cross.Facts] : Prop :=
  ∀ (m : (ℓ : Loc Cert.CrossAttnIdeal.nD Cert.CrossAttnIdeal.τ Cert.CrossAttnIdeal.sig) → Buf (Elt Ideal) ℓ) (g : Dev Cert.CrossAttnIdeal.nD → PrngReg), Pre_CrossAttnIdeal_finite_cross m →
    θ_run (Cert.CrossAttnIdeal.defs (F := Ideal)) (onTc (τ := Cert.CrossAttnIdeal.τ) (Cert.CrossAttnIdeal.main (F := Ideal))) ⟨m, fun _ => 0, g⟩ (fun r => (∀ c : Dev Cert.CrossAttnIdeal.nD,
      r.2.mem ((c.tc : Thread Cert.CrossAttnIdeal.nD Cert.CrossAttnIdeal.τ).loc Cert.CrossAttnIdeal.main_arg0) = m ((c.tc : Thread Cert.CrossAttnIdeal.nD Cert.CrossAttnIdeal.τ).loc Cert.CrossAttnIdeal.main_arg0)
      ∧ r.2.mem ((c.tc : Thread Cert.CrossAttnIdeal.nD Cert.CrossAttnIdeal.τ).loc Cert.CrossAttnIdeal.main_arg1) = m ((c.tc : Thread Cert.CrossAttnIdeal.nD Cert.CrossAttnIdeal.τ).loc Cert.CrossAttnIdeal.main_arg1)
      ∧ r.2.mem ((c.tc : Thread Cert.CrossAttnIdeal.nD Cert.CrossAttnIdeal.τ).loc Cert.CrossAttnIdeal.main_arg2) = m ((c.tc : Thread Cert.CrossAttnIdeal.nD Cert.CrossAttnIdeal.τ).loc Cert.CrossAttnIdeal.main_arg2)
      ∧ r.2.mem ((c.tc : Thread Cert.CrossAttnIdeal.nD Cert.CrossAttnIdeal.τ).loc Cert.CrossAttnIdeal.main_arg3) = m ((c.tc : Thread Cert.CrossAttnIdeal.nD Cert.CrossAttnIdeal.τ).loc Cert.CrossAttnIdeal.main_arg3)
      ∧ r.2.mem ((c.tc : Thread Cert.CrossAttnIdeal.nD Cert.CrossAttnIdeal.τ).loc Cert.CrossAttnIdeal.main_arg4) = m ((c.tc : Thread Cert.CrossAttnIdeal.nD Cert.CrossAttnIdeal.τ).loc Cert.CrossAttnIdeal.main_arg4))
      ∧ r.2.sem = fun _ => 0)

def quiescent_RefCrossAttnIdeal [hRefCrossAttnIdeal : Cert.RefCrossAttnIdeal.Facts] : Prop :=
  ∀ (m : (ℓ : Loc Cert.RefCrossAttnIdeal.nD Cert.RefCrossAttnIdeal.τ Cert.RefCrossAttnIdeal.sig) → Buf (Elt Ideal) ℓ) (g : Dev Cert.RefCrossAttnIdeal.nD → PrngReg), Pre_RefCrossAttnIdeal m →
    θ_run (Cert.RefCrossAttnIdeal.defs (F := Ideal)) (onTc (τ := Cert.RefCrossAttnIdeal.τ) (Cert.RefCrossAttnIdeal.main (F := Ideal))) ⟨m, fun _ => 0, g⟩ (fun r => (∀ c : Dev Cert.RefCrossAttnIdeal.nD,
      r.2.mem ((c.tc : Thread Cert.RefCrossAttnIdeal.nD Cert.RefCrossAttnIdeal.τ).loc Cert.RefCrossAttnIdeal.main_arg0) = m ((c.tc : Thread Cert.RefCrossAttnIdeal.nD Cert.RefCrossAttnIdeal.τ).loc Cert.RefCrossAttnIdeal.main_arg0)
      ∧ r.2.mem ((c.tc : Thread Cert.RefCrossAttnIdeal.nD Cert.RefCrossAttnIdeal.τ).loc Cert.RefCrossAttnIdeal.main_arg1) = m ((c.tc : Thread Cert.RefCrossAttnIdeal.nD Cert.RefCrossAttnIdeal.τ).loc Cert.RefCrossAttnIdeal.main_arg1)
      ∧ r.2.mem ((c.tc : Thread Cert.RefCrossAttnIdeal.nD Cert.RefCrossAttnIdeal.τ).loc Cert.RefCrossAttnIdeal.main_arg2) = m ((c.tc : Thread Cert.RefCrossAttnIdeal.nD Cert.RefCrossAttnIdeal.τ).loc Cert.RefCrossAttnIdeal.main_arg2)
      ∧ r.2.mem ((c.tc : Thread Cert.RefCrossAttnIdeal.nD Cert.RefCrossAttnIdeal.τ).loc Cert.RefCrossAttnIdeal.main_arg3) = m ((c.tc : Thread Cert.RefCrossAttnIdeal.nD Cert.RefCrossAttnIdeal.τ).loc Cert.RefCrossAttnIdeal.main_arg3)
      ∧ r.2.mem ((c.tc : Thread Cert.RefCrossAttnIdeal.nD Cert.RefCrossAttnIdeal.τ).loc Cert.RefCrossAttnIdeal.main_arg4) = m ((c.tc : Thread Cert.RefCrossAttnIdeal.nD Cert.RefCrossAttnIdeal.τ).loc Cert.RefCrossAttnIdeal.main_arg4))
      ∧ r.2.sem = fun _ => 0)

def quiescent_RefCrossAttnIdeal_pre_finite_cross [hRefCrossAttnIdeal : Cert.RefCrossAttnIdeal.Facts] [hPre_finite_cross : Cert.Pre_finite_cross.Facts] : Prop :=
  ∀ (m : (ℓ : Loc Cert.RefCrossAttnIdeal.nD Cert.RefCrossAttnIdeal.τ Cert.RefCrossAttnIdeal.sig) → Buf (Elt Ideal) ℓ) (g : Dev Cert.RefCrossAttnIdeal.nD → PrngReg), Pre_RefCrossAttnIdeal_finite_cross m →
    θ_run (Cert.RefCrossAttnIdeal.defs (F := Ideal)) (onTc (τ := Cert.RefCrossAttnIdeal.τ) (Cert.RefCrossAttnIdeal.main (F := Ideal))) ⟨m, fun _ => 0, g⟩ (fun r => (∀ c : Dev Cert.RefCrossAttnIdeal.nD,
      r.2.mem ((c.tc : Thread Cert.RefCrossAttnIdeal.nD Cert.RefCrossAttnIdeal.τ).loc Cert.RefCrossAttnIdeal.main_arg0) = m ((c.tc : Thread Cert.RefCrossAttnIdeal.nD Cert.RefCrossAttnIdeal.τ).loc Cert.RefCrossAttnIdeal.main_arg0)
      ∧ r.2.mem ((c.tc : Thread Cert.RefCrossAttnIdeal.nD Cert.RefCrossAttnIdeal.τ).loc Cert.RefCrossAttnIdeal.main_arg1) = m ((c.tc : Thread Cert.RefCrossAttnIdeal.nD Cert.RefCrossAttnIdeal.τ).loc Cert.RefCrossAttnIdeal.main_arg1)
      ∧ r.2.mem ((c.tc : Thread Cert.RefCrossAttnIdeal.nD Cert.RefCrossAttnIdeal.τ).loc Cert.RefCrossAttnIdeal.main_arg2) = m ((c.tc : Thread Cert.RefCrossAttnIdeal.nD Cert.RefCrossAttnIdeal.τ).loc Cert.RefCrossAttnIdeal.main_arg2)
      ∧ r.2.mem ((c.tc : Thread Cert.RefCrossAttnIdeal.nD Cert.RefCrossAttnIdeal.τ).loc Cert.RefCrossAttnIdeal.main_arg3) = m ((c.tc : Thread Cert.RefCrossAttnIdeal.nD Cert.RefCrossAttnIdeal.τ).loc Cert.RefCrossAttnIdeal.main_arg3)
      ∧ r.2.mem ((c.tc : Thread Cert.RefCrossAttnIdeal.nD Cert.RefCrossAttnIdeal.τ).loc Cert.RefCrossAttnIdeal.main_arg4) = m ((c.tc : Thread Cert.RefCrossAttnIdeal.nD Cert.RefCrossAttnIdeal.τ).loc Cert.RefCrossAttnIdeal.main_arg4))
      ∧ r.2.sem = fun _ => 0)

def quiescent_OddMixer [hOddMixer : Cert.OddMixer.Facts] : Prop :=
  ∀ (m : (ℓ : Loc Cert.OddMixer.nD Cert.OddMixer.τ Cert.OddMixer.sig) → Buf (Elt Bits) ℓ) (g : Dev Cert.OddMixer.nD → PrngReg), Pre_OddMixer m →
    θ_run (Cert.OddMixer.defs (F := Bits)) (onTc (τ := Cert.OddMixer.τ) (Cert.OddMixer.main (F := Bits))) ⟨m, fun _ => 0, g⟩ (fun r => (∀ c : Dev Cert.OddMixer.nD,
      r.2.mem ((c.tc : Thread Cert.OddMixer.nD Cert.OddMixer.τ).loc Cert.OddMixer.main_arg0) = m ((c.tc : Thread Cert.OddMixer.nD Cert.OddMixer.τ).loc Cert.OddMixer.main_arg0)
      ∧ r.2.mem ((c.tc : Thread Cert.OddMixer.nD Cert.OddMixer.τ).loc Cert.OddMixer.main_arg1) = m ((c.tc : Thread Cert.OddMixer.nD Cert.OddMixer.τ).loc Cert.OddMixer.main_arg1)
      ∧ r.2.mem ((c.tc : Thread Cert.OddMixer.nD Cert.OddMixer.τ).loc Cert.OddMixer.main_arg2) = m ((c.tc : Thread Cert.OddMixer.nD Cert.OddMixer.τ).loc Cert.OddMixer.main_arg2)
      ∧ r.2.mem ((c.tc : Thread Cert.OddMixer.nD Cert.OddMixer.τ).loc Cert.OddMixer.main_arg3) = m ((c.tc : Thread Cert.OddMixer.nD Cert.OddMixer.τ).loc Cert.OddMixer.main_arg3)
      ∧ r.2.mem ((c.tc : Thread Cert.OddMixer.nD Cert.OddMixer.τ).loc Cert.OddMixer.main_arg4) = m ((c.tc : Thread Cert.OddMixer.nD Cert.OddMixer.τ).loc Cert.OddMixer.main_arg4))
      ∧ r.2.sem = fun _ => 0)

def quiescent_OddMixerIdeal [hOddMixerIdeal : Cert.OddMixerIdeal.Facts] : Prop :=
  ∀ (m : (ℓ : Loc Cert.OddMixerIdeal.nD Cert.OddMixerIdeal.τ Cert.OddMixerIdeal.sig) → Buf (Elt Ideal) ℓ) (g : Dev Cert.OddMixerIdeal.nD → PrngReg), Pre_OddMixerIdeal m →
    θ_run (Cert.OddMixerIdeal.defs (F := Ideal)) (onTc (τ := Cert.OddMixerIdeal.τ) (Cert.OddMixerIdeal.main (F := Ideal))) ⟨m, fun _ => 0, g⟩ (fun r => (∀ c : Dev Cert.OddMixerIdeal.nD,
      r.2.mem ((c.tc : Thread Cert.OddMixerIdeal.nD Cert.OddMixerIdeal.τ).loc Cert.OddMixerIdeal.main_arg0) = m ((c.tc : Thread Cert.OddMixerIdeal.nD Cert.OddMixerIdeal.τ).loc Cert.OddMixerIdeal.main_arg0)
      ∧ r.2.mem ((c.tc : Thread Cert.OddMixerIdeal.nD Cert.OddMixerIdeal.τ).loc Cert.OddMixerIdeal.main_arg1) = m ((c.tc : Thread Cert.OddMixerIdeal.nD Cert.OddMixerIdeal.τ).loc Cert.OddMixerIdeal.main_arg1)
      ∧ r.2.mem ((c.tc : Thread Cert.OddMixerIdeal.nD Cert.OddMixerIdeal.τ).loc Cert.OddMixerIdeal.main_arg2) = m ((c.tc : Thread Cert.OddMixerIdeal.nD Cert.OddMixerIdeal.τ).loc Cert.OddMixerIdeal.main_arg2)
      ∧ r.2.mem ((c.tc : Thread Cert.OddMixerIdeal.nD Cert.OddMixerIdeal.τ).loc Cert.OddMixerIdeal.main_arg3) = m ((c.tc : Thread Cert.OddMixerIdeal.nD Cert.OddMixerIdeal.τ).loc Cert.OddMixerIdeal.main_arg3)
      ∧ r.2.mem ((c.tc : Thread Cert.OddMixerIdeal.nD Cert.OddMixerIdeal.τ).loc Cert.OddMixerIdeal.main_arg4) = m ((c.tc : Thread Cert.OddMixerIdeal.nD Cert.OddMixerIdeal.τ).loc Cert.OddMixerIdeal.main_arg4))
      ∧ r.2.sem = fun _ => 0)

def quiescent_RefOddMixerIdeal [hRefOddMixerIdeal : Cert.RefOddMixerIdeal.Facts] : Prop :=
  ∀ (m : (ℓ : Loc Cert.RefOddMixerIdeal.nD Cert.RefOddMixerIdeal.τ Cert.RefOddMixerIdeal.sig) → Buf (Elt Ideal) ℓ) (g : Dev Cert.RefOddMixerIdeal.nD → PrngReg), Pre_RefOddMixerIdeal m →
    θ_run (Cert.RefOddMixerIdeal.defs (F := Ideal)) (onTc (τ := Cert.RefOddMixerIdeal.τ) (Cert.RefOddMixerIdeal.main (F := Ideal))) ⟨m, fun _ => 0, g⟩ (fun r => (∀ c : Dev Cert.RefOddMixerIdeal.nD,
      r.2.mem ((c.tc : Thread Cert.RefOddMixerIdeal.nD Cert.RefOddMixerIdeal.τ).loc Cert.RefOddMixerIdeal.main_arg0) = m ((c.tc : Thread Cert.RefOddMixerIdeal.nD Cert.RefOddMixerIdeal.τ).loc Cert.RefOddMixerIdeal.main_arg0)
      ∧ r.2.mem ((c.tc : Thread Cert.RefOddMixerIdeal.nD Cert.RefOddMixerIdeal.τ).loc Cert.RefOddMixerIdeal.main_arg1) = m ((c.tc : Thread Cert.RefOddMixerIdeal.nD Cert.RefOddMixerIdeal.τ).loc Cert.RefOddMixerIdeal.main_arg1)
      ∧ r.2.mem ((c.tc : Thread Cert.RefOddMixerIdeal.nD Cert.RefOddMixerIdeal.τ).loc Cert.RefOddMixerIdeal.main_arg2) = m ((c.tc : Thread Cert.RefOddMixerIdeal.nD Cert.RefOddMixerIdeal.τ).loc Cert.RefOddMixerIdeal.main_arg2)
      ∧ r.2.mem ((c.tc : Thread Cert.RefOddMixerIdeal.nD Cert.RefOddMixerIdeal.τ).loc Cert.RefOddMixerIdeal.main_arg3) = m ((c.tc : Thread Cert.RefOddMixerIdeal.nD Cert.RefOddMixerIdeal.τ).loc Cert.RefOddMixerIdeal.main_arg3)
      ∧ r.2.mem ((c.tc : Thread Cert.RefOddMixerIdeal.nD Cert.RefOddMixerIdeal.τ).loc Cert.RefOddMixerIdeal.main_arg4) = m ((c.tc : Thread Cert.RefOddMixerIdeal.nD Cert.RefOddMixerIdeal.τ).loc Cert.RefOddMixerIdeal.main_arg4))
      ∧ r.2.sem = fun _ => 0)

def quiescent_EvenMixer [hEvenMixer : Cert.EvenMixer.Facts] : Prop :=
  ∀ (m : (ℓ : Loc Cert.EvenMixer.nD Cert.EvenMixer.τ Cert.EvenMixer.sig) → Buf (Elt Bits) ℓ) (g : Dev Cert.EvenMixer.nD → PrngReg), Pre_EvenMixer m →
    θ_run (Cert.EvenMixer.defs (F := Bits)) (onTc (τ := Cert.EvenMixer.τ) (Cert.EvenMixer.main (F := Bits))) ⟨m, fun _ => 0, g⟩ (fun r => (∀ c : Dev Cert.EvenMixer.nD,
      r.2.mem ((c.tc : Thread Cert.EvenMixer.nD Cert.EvenMixer.τ).loc Cert.EvenMixer.main_arg0) = m ((c.tc : Thread Cert.EvenMixer.nD Cert.EvenMixer.τ).loc Cert.EvenMixer.main_arg0)
      ∧ r.2.mem ((c.tc : Thread Cert.EvenMixer.nD Cert.EvenMixer.τ).loc Cert.EvenMixer.main_arg1) = m ((c.tc : Thread Cert.EvenMixer.nD Cert.EvenMixer.τ).loc Cert.EvenMixer.main_arg1)
      ∧ r.2.mem ((c.tc : Thread Cert.EvenMixer.nD Cert.EvenMixer.τ).loc Cert.EvenMixer.main_arg2) = m ((c.tc : Thread Cert.EvenMixer.nD Cert.EvenMixer.τ).loc Cert.EvenMixer.main_arg2)
      ∧ r.2.mem ((c.tc : Thread Cert.EvenMixer.nD Cert.EvenMixer.τ).loc Cert.EvenMixer.main_arg3) = m ((c.tc : Thread Cert.EvenMixer.nD Cert.EvenMixer.τ).loc Cert.EvenMixer.main_arg3)
      ∧ r.2.mem ((c.tc : Thread Cert.EvenMixer.nD Cert.EvenMixer.τ).loc Cert.EvenMixer.main_arg4) = m ((c.tc : Thread Cert.EvenMixer.nD Cert.EvenMixer.τ).loc Cert.EvenMixer.main_arg4)
      ∧ r.2.mem ((c.tc : Thread Cert.EvenMixer.nD Cert.EvenMixer.τ).loc Cert.EvenMixer.main_arg5) = m ((c.tc : Thread Cert.EvenMixer.nD Cert.EvenMixer.τ).loc Cert.EvenMixer.main_arg5)
      ∧ r.2.mem ((c.tc : Thread Cert.EvenMixer.nD Cert.EvenMixer.τ).loc Cert.EvenMixer.main_arg6) = m ((c.tc : Thread Cert.EvenMixer.nD Cert.EvenMixer.τ).loc Cert.EvenMixer.main_arg6)
      ∧ r.2.mem ((c.tc : Thread Cert.EvenMixer.nD Cert.EvenMixer.τ).loc Cert.EvenMixer.main_arg7) = m ((c.tc : Thread Cert.EvenMixer.nD Cert.EvenMixer.τ).loc Cert.EvenMixer.main_arg7)
      ∧ r.2.mem ((c.tc : Thread Cert.EvenMixer.nD Cert.EvenMixer.τ).loc Cert.EvenMixer.main_arg8) = m ((c.tc : Thread Cert.EvenMixer.nD Cert.EvenMixer.τ).loc Cert.EvenMixer.main_arg8))
      ∧ r.2.sem = fun _ => 0)

def quiescent_EvenMixerIdeal [hEvenMixerIdeal : Cert.EvenMixerIdeal.Facts] : Prop :=
  ∀ (m : (ℓ : Loc Cert.EvenMixerIdeal.nD Cert.EvenMixerIdeal.τ Cert.EvenMixerIdeal.sig) → Buf (Elt Ideal) ℓ) (g : Dev Cert.EvenMixerIdeal.nD → PrngReg), Pre_EvenMixerIdeal m →
    θ_run (Cert.EvenMixerIdeal.defs (F := Ideal)) (onTc (τ := Cert.EvenMixerIdeal.τ) (Cert.EvenMixerIdeal.main (F := Ideal))) ⟨m, fun _ => 0, g⟩ (fun r => (∀ c : Dev Cert.EvenMixerIdeal.nD,
      r.2.mem ((c.tc : Thread Cert.EvenMixerIdeal.nD Cert.EvenMixerIdeal.τ).loc Cert.EvenMixerIdeal.main_arg0) = m ((c.tc : Thread Cert.EvenMixerIdeal.nD Cert.EvenMixerIdeal.τ).loc Cert.EvenMixerIdeal.main_arg0)
      ∧ r.2.mem ((c.tc : Thread Cert.EvenMixerIdeal.nD Cert.EvenMixerIdeal.τ).loc Cert.EvenMixerIdeal.main_arg1) = m ((c.tc : Thread Cert.EvenMixerIdeal.nD Cert.EvenMixerIdeal.τ).loc Cert.EvenMixerIdeal.main_arg1)
      ∧ r.2.mem ((c.tc : Thread Cert.EvenMixerIdeal.nD Cert.EvenMixerIdeal.τ).loc Cert.EvenMixerIdeal.main_arg2) = m ((c.tc : Thread Cert.EvenMixerIdeal.nD Cert.EvenMixerIdeal.τ).loc Cert.EvenMixerIdeal.main_arg2)
      ∧ r.2.mem ((c.tc : Thread Cert.EvenMixerIdeal.nD Cert.EvenMixerIdeal.τ).loc Cert.EvenMixerIdeal.main_arg3) = m ((c.tc : Thread Cert.EvenMixerIdeal.nD Cert.EvenMixerIdeal.τ).loc Cert.EvenMixerIdeal.main_arg3)
      ∧ r.2.mem ((c.tc : Thread Cert.EvenMixerIdeal.nD Cert.EvenMixerIdeal.τ).loc Cert.EvenMixerIdeal.main_arg4) = m ((c.tc : Thread Cert.EvenMixerIdeal.nD Cert.EvenMixerIdeal.τ).loc Cert.EvenMixerIdeal.main_arg4)
      ∧ r.2.mem ((c.tc : Thread Cert.EvenMixerIdeal.nD Cert.EvenMixerIdeal.τ).loc Cert.EvenMixerIdeal.main_arg5) = m ((c.tc : Thread Cert.EvenMixerIdeal.nD Cert.EvenMixerIdeal.τ).loc Cert.EvenMixerIdeal.main_arg5)
      ∧ r.2.mem ((c.tc : Thread Cert.EvenMixerIdeal.nD Cert.EvenMixerIdeal.τ).loc Cert.EvenMixerIdeal.main_arg6) = m ((c.tc : Thread Cert.EvenMixerIdeal.nD Cert.EvenMixerIdeal.τ).loc Cert.EvenMixerIdeal.main_arg6)
      ∧ r.2.mem ((c.tc : Thread Cert.EvenMixerIdeal.nD Cert.EvenMixerIdeal.τ).loc Cert.EvenMixerIdeal.main_arg7) = m ((c.tc : Thread Cert.EvenMixerIdeal.nD Cert.EvenMixerIdeal.τ).loc Cert.EvenMixerIdeal.main_arg7)
      ∧ r.2.mem ((c.tc : Thread Cert.EvenMixerIdeal.nD Cert.EvenMixerIdeal.τ).loc Cert.EvenMixerIdeal.main_arg8) = m ((c.tc : Thread Cert.EvenMixerIdeal.nD Cert.EvenMixerIdeal.τ).loc Cert.EvenMixerIdeal.main_arg8))
      ∧ r.2.sem = fun _ => 0)

def quiescent_EvenMixerIdeal_pre_finite_even [hEvenMixerIdeal : Cert.EvenMixerIdeal.Facts] [hPre_finite_even : Cert.Pre_finite_even.Facts] : Prop :=
  ∀ (m : (ℓ : Loc Cert.EvenMixerIdeal.nD Cert.EvenMixerIdeal.τ Cert.EvenMixerIdeal.sig) → Buf (Elt Ideal) ℓ) (g : Dev Cert.EvenMixerIdeal.nD → PrngReg), Pre_EvenMixerIdeal_finite_even m →
    θ_run (Cert.EvenMixerIdeal.defs (F := Ideal)) (onTc (τ := Cert.EvenMixerIdeal.τ) (Cert.EvenMixerIdeal.main (F := Ideal))) ⟨m, fun _ => 0, g⟩ (fun r => (∀ c : Dev Cert.EvenMixerIdeal.nD,
      r.2.mem ((c.tc : Thread Cert.EvenMixerIdeal.nD Cert.EvenMixerIdeal.τ).loc Cert.EvenMixerIdeal.main_arg0) = m ((c.tc : Thread Cert.EvenMixerIdeal.nD Cert.EvenMixerIdeal.τ).loc Cert.EvenMixerIdeal.main_arg0)
      ∧ r.2.mem ((c.tc : Thread Cert.EvenMixerIdeal.nD Cert.EvenMixerIdeal.τ).loc Cert.EvenMixerIdeal.main_arg1) = m ((c.tc : Thread Cert.EvenMixerIdeal.nD Cert.EvenMixerIdeal.τ).loc Cert.EvenMixerIdeal.main_arg1)
      ∧ r.2.mem ((c.tc : Thread Cert.EvenMixerIdeal.nD Cert.EvenMixerIdeal.τ).loc Cert.EvenMixerIdeal.main_arg2) = m ((c.tc : Thread Cert.EvenMixerIdeal.nD Cert.EvenMixerIdeal.τ).loc Cert.EvenMixerIdeal.main_arg2)
      ∧ r.2.mem ((c.tc : Thread Cert.EvenMixerIdeal.nD Cert.EvenMixerIdeal.τ).loc Cert.EvenMixerIdeal.main_arg3) = m ((c.tc : Thread Cert.EvenMixerIdeal.nD Cert.EvenMixerIdeal.τ).loc Cert.EvenMixerIdeal.main_arg3)
      ∧ r.2.mem ((c.tc : Thread Cert.EvenMixerIdeal.nD Cert.EvenMixerIdeal.τ).loc Cert.EvenMixerIdeal.main_arg4) = m ((c.tc : Thread Cert.EvenMixerIdeal.nD Cert.EvenMixerIdeal.τ).loc Cert.EvenMixerIdeal.main_arg4)
      ∧ r.2.mem ((c.tc : Thread Cert.EvenMixerIdeal.nD Cert.EvenMixerIdeal.τ).loc Cert.EvenMixerIdeal.main_arg5) = m ((c.tc : Thread Cert.EvenMixerIdeal.nD Cert.EvenMixerIdeal.τ).loc Cert.EvenMixerIdeal.main_arg5)
      ∧ r.2.mem ((c.tc : Thread Cert.EvenMixerIdeal.nD Cert.EvenMixerIdeal.τ).loc Cert.EvenMixerIdeal.main_arg6) = m ((c.tc : Thread Cert.EvenMixerIdeal.nD Cert.EvenMixerIdeal.τ).loc Cert.EvenMixerIdeal.main_arg6)
      ∧ r.2.mem ((c.tc : Thread Cert.EvenMixerIdeal.nD Cert.EvenMixerIdeal.τ).loc Cert.EvenMixerIdeal.main_arg7) = m ((c.tc : Thread Cert.EvenMixerIdeal.nD Cert.EvenMixerIdeal.τ).loc Cert.EvenMixerIdeal.main_arg7)
      ∧ r.2.mem ((c.tc : Thread Cert.EvenMixerIdeal.nD Cert.EvenMixerIdeal.τ).loc Cert.EvenMixerIdeal.main_arg8) = m ((c.tc : Thread Cert.EvenMixerIdeal.nD Cert.EvenMixerIdeal.τ).loc Cert.EvenMixerIdeal.main_arg8))
      ∧ r.2.sem = fun _ => 0)

def quiescent_RefEvenMixerIdeal [hRefEvenMixerIdeal : Cert.RefEvenMixerIdeal.Facts] : Prop :=
  ∀ (m : (ℓ : Loc Cert.RefEvenMixerIdeal.nD Cert.RefEvenMixerIdeal.τ Cert.RefEvenMixerIdeal.sig) → Buf (Elt Ideal) ℓ) (g : Dev Cert.RefEvenMixerIdeal.nD → PrngReg), Pre_RefEvenMixerIdeal m →
    θ_run (Cert.RefEvenMixerIdeal.defs (F := Ideal)) (onTc (τ := Cert.RefEvenMixerIdeal.τ) (Cert.RefEvenMixerIdeal.main (F := Ideal))) ⟨m, fun _ => 0, g⟩ (fun r => (∀ c : Dev Cert.RefEvenMixerIdeal.nD,
      r.2.mem ((c.tc : Thread Cert.RefEvenMixerIdeal.nD Cert.RefEvenMixerIdeal.τ).loc Cert.RefEvenMixerIdeal.main_arg0) = m ((c.tc : Thread Cert.RefEvenMixerIdeal.nD Cert.RefEvenMixerIdeal.τ).loc Cert.RefEvenMixerIdeal.main_arg0)
      ∧ r.2.mem ((c.tc : Thread Cert.RefEvenMixerIdeal.nD Cert.RefEvenMixerIdeal.τ).loc Cert.RefEvenMixerIdeal.main_arg1) = m ((c.tc : Thread Cert.RefEvenMixerIdeal.nD Cert.RefEvenMixerIdeal.τ).loc Cert.RefEvenMixerIdeal.main_arg1)
      ∧ r.2.mem ((c.tc : Thread Cert.RefEvenMixerIdeal.nD Cert.RefEvenMixerIdeal.τ).loc Cert.RefEvenMixerIdeal.main_arg2) = m ((c.tc : Thread Cert.RefEvenMixerIdeal.nD Cert.RefEvenMixerIdeal.τ).loc Cert.RefEvenMixerIdeal.main_arg2)
      ∧ r.2.mem ((c.tc : Thread Cert.RefEvenMixerIdeal.nD Cert.RefEvenMixerIdeal.τ).loc Cert.RefEvenMixerIdeal.main_arg3) = m ((c.tc : Thread Cert.RefEvenMixerIdeal.nD Cert.RefEvenMixerIdeal.τ).loc Cert.RefEvenMixerIdeal.main_arg3)
      ∧ r.2.mem ((c.tc : Thread Cert.RefEvenMixerIdeal.nD Cert.RefEvenMixerIdeal.τ).loc Cert.RefEvenMixerIdeal.main_arg4) = m ((c.tc : Thread Cert.RefEvenMixerIdeal.nD Cert.RefEvenMixerIdeal.τ).loc Cert.RefEvenMixerIdeal.main_arg4)
      ∧ r.2.mem ((c.tc : Thread Cert.RefEvenMixerIdeal.nD Cert.RefEvenMixerIdeal.τ).loc Cert.RefEvenMixerIdeal.main_arg5) = m ((c.tc : Thread Cert.RefEvenMixerIdeal.nD Cert.RefEvenMixerIdeal.τ).loc Cert.RefEvenMixerIdeal.main_arg5)
      ∧ r.2.mem ((c.tc : Thread Cert.RefEvenMixerIdeal.nD Cert.RefEvenMixerIdeal.τ).loc Cert.RefEvenMixerIdeal.main_arg6) = m ((c.tc : Thread Cert.RefEvenMixerIdeal.nD Cert.RefEvenMixerIdeal.τ).loc Cert.RefEvenMixerIdeal.main_arg6)
      ∧ r.2.mem ((c.tc : Thread Cert.RefEvenMixerIdeal.nD Cert.RefEvenMixerIdeal.τ).loc Cert.RefEvenMixerIdeal.main_arg7) = m ((c.tc : Thread Cert.RefEvenMixerIdeal.nD Cert.RefEvenMixerIdeal.τ).loc Cert.RefEvenMixerIdeal.main_arg7)
      ∧ r.2.mem ((c.tc : Thread Cert.RefEvenMixerIdeal.nD Cert.RefEvenMixerIdeal.τ).loc Cert.RefEvenMixerIdeal.main_arg8) = m ((c.tc : Thread Cert.RefEvenMixerIdeal.nD Cert.RefEvenMixerIdeal.τ).loc Cert.RefEvenMixerIdeal.main_arg8))
      ∧ r.2.sem = fun _ => 0)

def quiescent_RefEvenMixerIdeal_pre_finite_even [hRefEvenMixerIdeal : Cert.RefEvenMixerIdeal.Facts] [hPre_finite_even : Cert.Pre_finite_even.Facts] : Prop :=
  ∀ (m : (ℓ : Loc Cert.RefEvenMixerIdeal.nD Cert.RefEvenMixerIdeal.τ Cert.RefEvenMixerIdeal.sig) → Buf (Elt Ideal) ℓ) (g : Dev Cert.RefEvenMixerIdeal.nD → PrngReg), Pre_RefEvenMixerIdeal_finite_even m →
    θ_run (Cert.RefEvenMixerIdeal.defs (F := Ideal)) (onTc (τ := Cert.RefEvenMixerIdeal.τ) (Cert.RefEvenMixerIdeal.main (F := Ideal))) ⟨m, fun _ => 0, g⟩ (fun r => (∀ c : Dev Cert.RefEvenMixerIdeal.nD,
      r.2.mem ((c.tc : Thread Cert.RefEvenMixerIdeal.nD Cert.RefEvenMixerIdeal.τ).loc Cert.RefEvenMixerIdeal.main_arg0) = m ((c.tc : Thread Cert.RefEvenMixerIdeal.nD Cert.RefEvenMixerIdeal.τ).loc Cert.RefEvenMixerIdeal.main_arg0)
      ∧ r.2.mem ((c.tc : Thread Cert.RefEvenMixerIdeal.nD Cert.RefEvenMixerIdeal.τ).loc Cert.RefEvenMixerIdeal.main_arg1) = m ((c.tc : Thread Cert.RefEvenMixerIdeal.nD Cert.RefEvenMixerIdeal.τ).loc Cert.RefEvenMixerIdeal.main_arg1)
      ∧ r.2.mem ((c.tc : Thread Cert.RefEvenMixerIdeal.nD Cert.RefEvenMixerIdeal.τ).loc Cert.RefEvenMixerIdeal.main_arg2) = m ((c.tc : Thread Cert.RefEvenMixerIdeal.nD Cert.RefEvenMixerIdeal.τ).loc Cert.RefEvenMixerIdeal.main_arg2)
      ∧ r.2.mem ((c.tc : Thread Cert.RefEvenMixerIdeal.nD Cert.RefEvenMixerIdeal.τ).loc Cert.RefEvenMixerIdeal.main_arg3) = m ((c.tc : Thread Cert.RefEvenMixerIdeal.nD Cert.RefEvenMixerIdeal.τ).loc Cert.RefEvenMixerIdeal.main_arg3)
      ∧ r.2.mem ((c.tc : Thread Cert.RefEvenMixerIdeal.nD Cert.RefEvenMixerIdeal.τ).loc Cert.RefEvenMixerIdeal.main_arg4) = m ((c.tc : Thread Cert.RefEvenMixerIdeal.nD Cert.RefEvenMixerIdeal.τ).loc Cert.RefEvenMixerIdeal.main_arg4)
      ∧ r.2.mem ((c.tc : Thread Cert.RefEvenMixerIdeal.nD Cert.RefEvenMixerIdeal.τ).loc Cert.RefEvenMixerIdeal.main_arg5) = m ((c.tc : Thread Cert.RefEvenMixerIdeal.nD Cert.RefEvenMixerIdeal.τ).loc Cert.RefEvenMixerIdeal.main_arg5)
      ∧ r.2.mem ((c.tc : Thread Cert.RefEvenMixerIdeal.nD Cert.RefEvenMixerIdeal.τ).loc Cert.RefEvenMixerIdeal.main_arg6) = m ((c.tc : Thread Cert.RefEvenMixerIdeal.nD Cert.RefEvenMixerIdeal.τ).loc Cert.RefEvenMixerIdeal.main_arg6)
      ∧ r.2.mem ((c.tc : Thread Cert.RefEvenMixerIdeal.nD Cert.RefEvenMixerIdeal.τ).loc Cert.RefEvenMixerIdeal.main_arg7) = m ((c.tc : Thread Cert.RefEvenMixerIdeal.nD Cert.RefEvenMixerIdeal.τ).loc Cert.RefEvenMixerIdeal.main_arg7)
      ∧ r.2.mem ((c.tc : Thread Cert.RefEvenMixerIdeal.nD Cert.RefEvenMixerIdeal.τ).loc Cert.RefEvenMixerIdeal.main_arg8) = m ((c.tc : Thread Cert.RefEvenMixerIdeal.nD Cert.RefEvenMixerIdeal.τ).loc Cert.RefEvenMixerIdeal.main_arg8))
      ∧ r.2.sem = fun _ => 0)

def preserves_Ffn_FfnIdeal : Prop :=
  True

def algebraic_FfnIdeal_RefFfnIdeal [hFfnIdeal : Cert.FfnIdeal.Facts] [hRefFfnIdeal : Cert.RefFfnIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.RefFfnIdeal.nD Cert.RefFfnIdeal.τ Cert.RefFfnIdeal.sig) → Buf (Elt Ideal) ℓ) (g' : Dev Cert.RefFfnIdeal.nD → PrngReg), Pre_FfnIdeal m →
    (∀ c : Dev Cert.FfnIdeal.nD,
      m' ((c.tc : Thread Cert.RefFfnIdeal.nD Cert.RefFfnIdeal.τ).loc Cert.RefFfnIdeal.main_arg0) = m ((c.tc : Thread Cert.FfnIdeal.nD Cert.FfnIdeal.τ).loc Cert.FfnIdeal.main_arg0)
      ∧ m' ((c.tc : Thread Cert.RefFfnIdeal.nD Cert.RefFfnIdeal.τ).loc Cert.RefFfnIdeal.main_arg1) = m ((c.tc : Thread Cert.FfnIdeal.nD Cert.FfnIdeal.τ).loc Cert.FfnIdeal.main_arg1)
      ∧ m' ((c.tc : Thread Cert.RefFfnIdeal.nD Cert.RefFfnIdeal.τ).loc Cert.RefFfnIdeal.main_arg2) = m ((c.tc : Thread Cert.FfnIdeal.nD Cert.FfnIdeal.τ).loc Cert.FfnIdeal.main_arg2)
      ∧ m' ((c.tc : Thread Cert.RefFfnIdeal.nD Cert.RefFfnIdeal.τ).loc Cert.RefFfnIdeal.main_arg3) = m ((c.tc : Thread Cert.FfnIdeal.nD Cert.FfnIdeal.τ).loc Cert.FfnIdeal.main_arg3)) →
    ∃ (v0 : (c : Dev Cert.FfnIdeal.nD) → Buf (Elt Ideal) ((c.tc : Thread Cert.FfnIdeal.nD Cert.FfnIdeal.τ).loc Cert.FfnIdeal.main_v3)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v3) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3))
      ∧ θ_run (Cert.RefFfnIdeal.defs (F := Ideal)) (onTc (τ := Cert.RefFfnIdeal.τ) (Cert.RefFfnIdeal.main (F := Ideal))) ⟨m', fun _ => 0, g'⟩ (fun r => ∀ c : Dev Cert.RefFfnIdeal.nD,
          r.2.mem ((c.tc : Thread Cert.RefFfnIdeal.nD Cert.RefFfnIdeal.τ).loc Cert.RefFfnIdeal.main_v21) = v0 c
          ∧ r.2.mem ((c.tc : Thread Cert.RefFfnIdeal.nD Cert.RefFfnIdeal.τ).loc Cert.RefFfnIdeal.main_arg0) = m' ((c.tc : Thread Cert.RefFfnIdeal.nD Cert.RefFfnIdeal.τ).loc Cert.RefFfnIdeal.main_arg0)
          ∧ r.2.mem ((c.tc : Thread Cert.RefFfnIdeal.nD Cert.RefFfnIdeal.τ).loc Cert.RefFfnIdeal.main_arg1) = m' ((c.tc : Thread Cert.RefFfnIdeal.nD Cert.RefFfnIdeal.τ).loc Cert.RefFfnIdeal.main_arg1)
          ∧ r.2.mem ((c.tc : Thread Cert.RefFfnIdeal.nD Cert.RefFfnIdeal.τ).loc Cert.RefFfnIdeal.main_arg2) = m' ((c.tc : Thread Cert.RefFfnIdeal.nD Cert.RefFfnIdeal.τ).loc Cert.RefFfnIdeal.main_arg2)
          ∧ r.2.mem ((c.tc : Thread Cert.RefFfnIdeal.nD Cert.RefFfnIdeal.τ).loc Cert.RefFfnIdeal.main_arg3) = m' ((c.tc : Thread Cert.RefFfnIdeal.nD Cert.RefFfnIdeal.τ).loc Cert.RefFfnIdeal.main_arg3))

def preserves_FfnFinal_FfnFinalIdeal : Prop :=
  True

def algebraic_FfnFinalIdeal_RefFfnFinalIdeal [hFfnFinalIdeal : Cert.FfnFinalIdeal.Facts] [hRefFfnFinalIdeal : Cert.RefFfnFinalIdeal.Facts] : Prop :=
  ∀ (m : (ℓ : Loc Cert.FfnFinalIdeal.nD Cert.FfnFinalIdeal.τ Cert.FfnFinalIdeal.sig) → Buf (Elt Ideal) ℓ) (g : Dev Cert.FfnFinalIdeal.nD → PrngReg)
    (m' : (ℓ : Loc Cert.RefFfnFinalIdeal.nD Cert.RefFfnFinalIdeal.τ Cert.RefFfnFinalIdeal.sig) → Buf (Elt Ideal) ℓ) (g' : Dev Cert.RefFfnFinalIdeal.nD → PrngReg), Pre_FfnFinalIdeal m →
    (∀ c : Dev Cert.FfnFinalIdeal.nD,
      m' ((c.tc : Thread Cert.RefFfnFinalIdeal.nD Cert.RefFfnFinalIdeal.τ).loc Cert.RefFfnFinalIdeal.main_arg0) = m ((c.tc : Thread Cert.FfnFinalIdeal.nD Cert.FfnFinalIdeal.τ).loc Cert.FfnFinalIdeal.main_arg0)
      ∧ m' ((c.tc : Thread Cert.RefFfnFinalIdeal.nD Cert.RefFfnFinalIdeal.τ).loc Cert.RefFfnFinalIdeal.main_arg1) = m ((c.tc : Thread Cert.FfnFinalIdeal.nD Cert.FfnFinalIdeal.τ).loc Cert.FfnFinalIdeal.main_arg1)
      ∧ m' ((c.tc : Thread Cert.RefFfnFinalIdeal.nD Cert.RefFfnFinalIdeal.τ).loc Cert.RefFfnFinalIdeal.main_arg2) = m ((c.tc : Thread Cert.FfnFinalIdeal.nD Cert.FfnFinalIdeal.τ).loc Cert.FfnFinalIdeal.main_arg2)
      ∧ m' ((c.tc : Thread Cert.RefFfnFinalIdeal.nD Cert.RefFfnFinalIdeal.τ).loc Cert.RefFfnFinalIdeal.main_arg3) = m ((c.tc : Thread Cert.FfnFinalIdeal.nD Cert.FfnFinalIdeal.τ).loc Cert.FfnFinalIdeal.main_arg3)
      ∧ m' ((c.tc : Thread Cert.RefFfnFinalIdeal.nD Cert.RefFfnFinalIdeal.τ).loc Cert.RefFfnFinalIdeal.main_arg4) = m ((c.tc : Thread Cert.FfnFinalIdeal.nD Cert.FfnFinalIdeal.τ).loc Cert.FfnFinalIdeal.main_arg4)) →
    ∃ (v0 : (c : Dev Cert.FfnFinalIdeal.nD) → Buf (Elt Ideal) ((c.tc : Thread Cert.FfnFinalIdeal.nD Cert.FfnFinalIdeal.τ).loc Cert.FfnFinalIdeal.main_v4)),
      θ_run (Cert.FfnFinalIdeal.defs (F := Ideal)) (onTc (τ := Cert.FfnFinalIdeal.τ) (Cert.FfnFinalIdeal.main (F := Ideal))) ⟨m, fun _ => 0, g⟩ (fun r => ∀ c : Dev Cert.FfnFinalIdeal.nD,
          r.2.mem ((c.tc : Thread Cert.FfnFinalIdeal.nD Cert.FfnFinalIdeal.τ).loc Cert.FfnFinalIdeal.main_v4) = v0 c
          ∧ r.2.mem ((c.tc : Thread Cert.FfnFinalIdeal.nD Cert.FfnFinalIdeal.τ).loc Cert.FfnFinalIdeal.main_arg0) = m ((c.tc : Thread Cert.FfnFinalIdeal.nD Cert.FfnFinalIdeal.τ).loc Cert.FfnFinalIdeal.main_arg0)
          ∧ r.2.mem ((c.tc : Thread Cert.FfnFinalIdeal.nD Cert.FfnFinalIdeal.τ).loc Cert.FfnFinalIdeal.main_arg1) = m ((c.tc : Thread Cert.FfnFinalIdeal.nD Cert.FfnFinalIdeal.τ).loc Cert.FfnFinalIdeal.main_arg1)
          ∧ r.2.mem ((c.tc : Thread Cert.FfnFinalIdeal.nD Cert.FfnFinalIdeal.τ).loc Cert.FfnFinalIdeal.main_arg2) = m ((c.tc : Thread Cert.FfnFinalIdeal.nD Cert.FfnFinalIdeal.τ).loc Cert.FfnFinalIdeal.main_arg2)
          ∧ r.2.mem ((c.tc : Thread Cert.FfnFinalIdeal.nD Cert.FfnFinalIdeal.τ).loc Cert.FfnFinalIdeal.main_arg3) = m ((c.tc : Thread Cert.FfnFinalIdeal.nD Cert.FfnFinalIdeal.τ).loc Cert.FfnFinalIdeal.main_arg3)
          ∧ r.2.mem ((c.tc : Thread Cert.FfnFinalIdeal.nD Cert.FfnFinalIdeal.τ).loc Cert.FfnFinalIdeal.main_arg4) = m ((c.tc : Thread Cert.FfnFinalIdeal.nD Cert.FfnFinalIdeal.τ).loc Cert.FfnFinalIdeal.main_arg4))
      ∧ θ_run (Cert.RefFfnFinalIdeal.defs (F := Ideal)) (onTc (τ := Cert.RefFfnFinalIdeal.τ) (Cert.RefFfnFinalIdeal.main (F := Ideal))) ⟨m', fun _ => 0, g'⟩ (fun r => ∀ c : Dev Cert.RefFfnFinalIdeal.nD,
          r.2.mem ((c.tc : Thread Cert.RefFfnFinalIdeal.nD Cert.RefFfnFinalIdeal.τ).loc Cert.RefFfnFinalIdeal.main_v34) = v0 c
          ∧ r.2.mem ((c.tc : Thread Cert.RefFfnFinalIdeal.nD Cert.RefFfnFinalIdeal.τ).loc Cert.RefFfnFinalIdeal.main_arg0) = m' ((c.tc : Thread Cert.RefFfnFinalIdeal.nD Cert.RefFfnFinalIdeal.τ).loc Cert.RefFfnFinalIdeal.main_arg0)
          ∧ r.2.mem ((c.tc : Thread Cert.RefFfnFinalIdeal.nD Cert.RefFfnFinalIdeal.τ).loc Cert.RefFfnFinalIdeal.main_arg1) = m' ((c.tc : Thread Cert.RefFfnFinalIdeal.nD Cert.RefFfnFinalIdeal.τ).loc Cert.RefFfnFinalIdeal.main_arg1)
          ∧ r.2.mem ((c.tc : Thread Cert.RefFfnFinalIdeal.nD Cert.RefFfnFinalIdeal.τ).loc Cert.RefFfnFinalIdeal.main_arg2) = m' ((c.tc : Thread Cert.RefFfnFinalIdeal.nD Cert.RefFfnFinalIdeal.τ).loc Cert.RefFfnFinalIdeal.main_arg2)
          ∧ r.2.mem ((c.tc : Thread Cert.RefFfnFinalIdeal.nD Cert.RefFfnFinalIdeal.τ).loc Cert.RefFfnFinalIdeal.main_arg3) = m' ((c.tc : Thread Cert.RefFfnFinalIdeal.nD Cert.RefFfnFinalIdeal.τ).loc Cert.RefFfnFinalIdeal.main_arg3)
          ∧ r.2.mem ((c.tc : Thread Cert.RefFfnFinalIdeal.nD Cert.RefFfnFinalIdeal.τ).loc Cert.RefFfnFinalIdeal.main_arg4) = m' ((c.tc : Thread Cert.RefFfnFinalIdeal.nD Cert.RefFfnFinalIdeal.τ).loc Cert.RefFfnFinalIdeal.main_arg4))

def preserves_MemKv_MemKvIdeal : Prop :=
  True

def algebraic_MemKvIdeal_RefMemKvIdeal [hMemKvIdeal : Cert.MemKvIdeal.Facts] [hRefMemKvIdeal : Cert.RefMemKvIdeal.Facts] : Prop :=
  ∀ (m : (ℓ : Loc Cert.MemKvIdeal.nD Cert.MemKvIdeal.τ Cert.MemKvIdeal.sig) → Buf (Elt Ideal) ℓ) (g : Dev Cert.MemKvIdeal.nD → PrngReg)
    (m' : (ℓ : Loc Cert.RefMemKvIdeal.nD Cert.RefMemKvIdeal.τ Cert.RefMemKvIdeal.sig) → Buf (Elt Ideal) ℓ) (g' : Dev Cert.RefMemKvIdeal.nD → PrngReg), Pre_MemKvIdeal m →
    (∀ c : Dev Cert.MemKvIdeal.nD,
      m' ((c.tc : Thread Cert.RefMemKvIdeal.nD Cert.RefMemKvIdeal.τ).loc Cert.RefMemKvIdeal.main_arg0) = m ((c.tc : Thread Cert.MemKvIdeal.nD Cert.MemKvIdeal.τ).loc Cert.MemKvIdeal.main_arg0)
      ∧ m' ((c.tc : Thread Cert.RefMemKvIdeal.nD Cert.RefMemKvIdeal.τ).loc Cert.RefMemKvIdeal.main_arg1) = m ((c.tc : Thread Cert.MemKvIdeal.nD Cert.MemKvIdeal.τ).loc Cert.MemKvIdeal.main_arg1)
      ∧ m' ((c.tc : Thread Cert.RefMemKvIdeal.nD Cert.RefMemKvIdeal.τ).loc Cert.RefMemKvIdeal.main_arg2) = m ((c.tc : Thread Cert.MemKvIdeal.nD Cert.MemKvIdeal.τ).loc Cert.MemKvIdeal.main_arg2)) →
    ∃ (v0 : (c : Dev Cert.MemKvIdeal.nD) → Buf (Elt Ideal) ((c.tc : Thread Cert.MemKvIdeal.nD Cert.MemKvIdeal.τ).loc Cert.MemKvIdeal.main_v3)),
      θ_run (Cert.MemKvIdeal.defs (F := Ideal)) (onTc (τ := Cert.MemKvIdeal.τ) (Cert.MemKvIdeal.main (F := Ideal))) ⟨m, fun _ => 0, g⟩ (fun r => ∀ c : Dev Cert.MemKvIdeal.nD,
          r.2.mem ((c.tc : Thread Cert.MemKvIdeal.nD Cert.MemKvIdeal.τ).loc Cert.MemKvIdeal.main_v3) = v0 c
          ∧ r.2.mem ((c.tc : Thread Cert.MemKvIdeal.nD Cert.MemKvIdeal.τ).loc Cert.MemKvIdeal.main_arg0) = m ((c.tc : Thread Cert.MemKvIdeal.nD Cert.MemKvIdeal.τ).loc Cert.MemKvIdeal.main_arg0)
          ∧ r.2.mem ((c.tc : Thread Cert.MemKvIdeal.nD Cert.MemKvIdeal.τ).loc Cert.MemKvIdeal.main_arg1) = m ((c.tc : Thread Cert.MemKvIdeal.nD Cert.MemKvIdeal.τ).loc Cert.MemKvIdeal.main_arg1)
          ∧ r.2.mem ((c.tc : Thread Cert.MemKvIdeal.nD Cert.MemKvIdeal.τ).loc Cert.MemKvIdeal.main_arg2) = m ((c.tc : Thread Cert.MemKvIdeal.nD Cert.MemKvIdeal.τ).loc Cert.MemKvIdeal.main_arg2))
      ∧ θ_run (Cert.RefMemKvIdeal.defs (F := Ideal)) (onTc (τ := Cert.RefMemKvIdeal.τ) (Cert.RefMemKvIdeal.main (F := Ideal))) ⟨m', fun _ => 0, g'⟩ (fun r => ∀ c : Dev Cert.RefMemKvIdeal.nD,
          r.2.mem ((c.tc : Thread Cert.RefMemKvIdeal.nD Cert.RefMemKvIdeal.τ).loc Cert.RefMemKvIdeal.main_v15) = v0 c
          ∧ r.2.mem ((c.tc : Thread Cert.RefMemKvIdeal.nD Cert.RefMemKvIdeal.τ).loc Cert.RefMemKvIdeal.main_arg0) = m' ((c.tc : Thread Cert.RefMemKvIdeal.nD Cert.RefMemKvIdeal.τ).loc Cert.RefMemKvIdeal.main_arg0)
          ∧ r.2.mem ((c.tc : Thread Cert.RefMemKvIdeal.nD Cert.RefMemKvIdeal.τ).loc Cert.RefMemKvIdeal.main_arg1) = m' ((c.tc : Thread Cert.RefMemKvIdeal.nD Cert.RefMemKvIdeal.τ).loc Cert.RefMemKvIdeal.main_arg1)
          ∧ r.2.mem ((c.tc : Thread Cert.RefMemKvIdeal.nD Cert.RefMemKvIdeal.τ).loc Cert.RefMemKvIdeal.main_arg2) = m' ((c.tc : Thread Cert.RefMemKvIdeal.nD Cert.RefMemKvIdeal.τ).loc Cert.RefMemKvIdeal.main_arg2))

def preserves_CrossAttn_CrossAttnIdeal : Prop :=
  True

def algebraic_CrossAttnIdeal_RefCrossAttnIdeal_pre_finite_cross [hCrossAttnIdeal : Cert.CrossAttnIdeal.Facts] [hRefCrossAttnIdeal : Cert.RefCrossAttnIdeal.Facts] [hPre_finite_cross : Cert.Pre_finite_cross.Facts] : Prop :=
  ∀ (m : (ℓ : Loc Cert.CrossAttnIdeal.nD Cert.CrossAttnIdeal.τ Cert.CrossAttnIdeal.sig) → Buf (Elt Ideal) ℓ) (g : Dev Cert.CrossAttnIdeal.nD → PrngReg)
    (m' : (ℓ : Loc Cert.RefCrossAttnIdeal.nD Cert.RefCrossAttnIdeal.τ Cert.RefCrossAttnIdeal.sig) → Buf (Elt Ideal) ℓ) (g' : Dev Cert.RefCrossAttnIdeal.nD → PrngReg), Pre_CrossAttnIdeal_finite_cross m →
    (∀ c : Dev Cert.CrossAttnIdeal.nD,
      m' ((c.tc : Thread Cert.RefCrossAttnIdeal.nD Cert.RefCrossAttnIdeal.τ).loc Cert.RefCrossAttnIdeal.main_arg0) = m ((c.tc : Thread Cert.CrossAttnIdeal.nD Cert.CrossAttnIdeal.τ).loc Cert.CrossAttnIdeal.main_arg0)
      ∧ m' ((c.tc : Thread Cert.RefCrossAttnIdeal.nD Cert.RefCrossAttnIdeal.τ).loc Cert.RefCrossAttnIdeal.main_arg1) = m ((c.tc : Thread Cert.CrossAttnIdeal.nD Cert.CrossAttnIdeal.τ).loc Cert.CrossAttnIdeal.main_arg1)
      ∧ m' ((c.tc : Thread Cert.RefCrossAttnIdeal.nD Cert.RefCrossAttnIdeal.τ).loc Cert.RefCrossAttnIdeal.main_arg2) = m ((c.tc : Thread Cert.CrossAttnIdeal.nD Cert.CrossAttnIdeal.τ).loc Cert.CrossAttnIdeal.main_arg2)
      ∧ m' ((c.tc : Thread Cert.RefCrossAttnIdeal.nD Cert.RefCrossAttnIdeal.τ).loc Cert.RefCrossAttnIdeal.main_arg3) = m ((c.tc : Thread Cert.CrossAttnIdeal.nD Cert.CrossAttnIdeal.τ).loc Cert.CrossAttnIdeal.main_arg3)
      ∧ m' ((c.tc : Thread Cert.RefCrossAttnIdeal.nD Cert.RefCrossAttnIdeal.τ).loc Cert.RefCrossAttnIdeal.main_arg4) = m ((c.tc : Thread Cert.CrossAttnIdeal.nD Cert.CrossAttnIdeal.τ).loc Cert.CrossAttnIdeal.main_arg4)) →
    ∃ (v0 : (c : Dev Cert.CrossAttnIdeal.nD) → Buf (Elt Ideal) ((c.tc : Thread Cert.CrossAttnIdeal.nD Cert.CrossAttnIdeal.τ).loc Cert.CrossAttnIdeal.main_v3)),
      θ_run (Cert.CrossAttnIdeal.defs (F := Ideal)) (onTc (τ := Cert.CrossAttnIdeal.τ) (Cert.CrossAttnIdeal.main (F := Ideal))) ⟨m, fun _ => 0, g⟩ (fun r => ∀ c : Dev Cert.CrossAttnIdeal.nD,
          r.2.mem ((c.tc : Thread Cert.CrossAttnIdeal.nD Cert.CrossAttnIdeal.τ).loc Cert.CrossAttnIdeal.main_v3) = v0 c
          ∧ r.2.mem ((c.tc : Thread Cert.CrossAttnIdeal.nD Cert.CrossAttnIdeal.τ).loc Cert.CrossAttnIdeal.main_arg0) = m ((c.tc : Thread Cert.CrossAttnIdeal.nD Cert.CrossAttnIdeal.τ).loc Cert.CrossAttnIdeal.main_arg0)
          ∧ r.2.mem ((c.tc : Thread Cert.CrossAttnIdeal.nD Cert.CrossAttnIdeal.τ).loc Cert.CrossAttnIdeal.main_arg1) = m ((c.tc : Thread Cert.CrossAttnIdeal.nD Cert.CrossAttnIdeal.τ).loc Cert.CrossAttnIdeal.main_arg1)
          ∧ r.2.mem ((c.tc : Thread Cert.CrossAttnIdeal.nD Cert.CrossAttnIdeal.τ).loc Cert.CrossAttnIdeal.main_arg2) = m ((c.tc : Thread Cert.CrossAttnIdeal.nD Cert.CrossAttnIdeal.τ).loc Cert.CrossAttnIdeal.main_arg2)
          ∧ r.2.mem ((c.tc : Thread Cert.CrossAttnIdeal.nD Cert.CrossAttnIdeal.τ).loc Cert.CrossAttnIdeal.main_arg3) = m ((c.tc : Thread Cert.CrossAttnIdeal.nD Cert.CrossAttnIdeal.τ).loc Cert.CrossAttnIdeal.main_arg3)
          ∧ r.2.mem ((c.tc : Thread Cert.CrossAttnIdeal.nD Cert.CrossAttnIdeal.τ).loc Cert.CrossAttnIdeal.main_arg4) = m ((c.tc : Thread Cert.CrossAttnIdeal.nD Cert.CrossAttnIdeal.τ).loc Cert.CrossAttnIdeal.main_arg4))
      ∧ θ_run (Cert.RefCrossAttnIdeal.defs (F := Ideal)) (onTc (τ := Cert.RefCrossAttnIdeal.τ) (Cert.RefCrossAttnIdeal.main (F := Ideal))) ⟨m', fun _ => 0, g'⟩ (fun r => ∀ c : Dev Cert.RefCrossAttnIdeal.nD,
          r.2.mem ((c.tc : Thread Cert.RefCrossAttnIdeal.nD Cert.RefCrossAttnIdeal.τ).loc Cert.RefCrossAttnIdeal.main_v41) = v0 c
          ∧ r.2.mem ((c.tc : Thread Cert.RefCrossAttnIdeal.nD Cert.RefCrossAttnIdeal.τ).loc Cert.RefCrossAttnIdeal.main_arg0) = m' ((c.tc : Thread Cert.RefCrossAttnIdeal.nD Cert.RefCrossAttnIdeal.τ).loc Cert.RefCrossAttnIdeal.main_arg0)
          ∧ r.2.mem ((c.tc : Thread Cert.RefCrossAttnIdeal.nD Cert.RefCrossAttnIdeal.τ).loc Cert.RefCrossAttnIdeal.main_arg1) = m' ((c.tc : Thread Cert.RefCrossAttnIdeal.nD Cert.RefCrossAttnIdeal.τ).loc Cert.RefCrossAttnIdeal.main_arg1)
          ∧ r.2.mem ((c.tc : Thread Cert.RefCrossAttnIdeal.nD Cert.RefCrossAttnIdeal.τ).loc Cert.RefCrossAttnIdeal.main_arg2) = m' ((c.tc : Thread Cert.RefCrossAttnIdeal.nD Cert.RefCrossAttnIdeal.τ).loc Cert.RefCrossAttnIdeal.main_arg2)
          ∧ r.2.mem ((c.tc : Thread Cert.RefCrossAttnIdeal.nD Cert.RefCrossAttnIdeal.τ).loc Cert.RefCrossAttnIdeal.main_arg3) = m' ((c.tc : Thread Cert.RefCrossAttnIdeal.nD Cert.RefCrossAttnIdeal.τ).loc Cert.RefCrossAttnIdeal.main_arg3)
          ∧ r.2.mem ((c.tc : Thread Cert.RefCrossAttnIdeal.nD Cert.RefCrossAttnIdeal.τ).loc Cert.RefCrossAttnIdeal.main_arg4) = m' ((c.tc : Thread Cert.RefCrossAttnIdeal.nD Cert.RefCrossAttnIdeal.τ).loc Cert.RefCrossAttnIdeal.main_arg4))

def preserves_OddMixer_OddMixerIdeal : Prop :=
  True

def algebraic_OddMixerIdeal_RefOddMixerIdeal [hOddMixerIdeal : Cert.OddMixerIdeal.Facts] [hRefOddMixerIdeal : Cert.RefOddMixerIdeal.Facts] : Prop :=
  ∀ (m : (ℓ : Loc Cert.OddMixerIdeal.nD Cert.OddMixerIdeal.τ Cert.OddMixerIdeal.sig) → Buf (Elt Ideal) ℓ) (g : Dev Cert.OddMixerIdeal.nD → PrngReg)
    (m' : (ℓ : Loc Cert.RefOddMixerIdeal.nD Cert.RefOddMixerIdeal.τ Cert.RefOddMixerIdeal.sig) → Buf (Elt Ideal) ℓ) (g' : Dev Cert.RefOddMixerIdeal.nD → PrngReg), Pre_OddMixerIdeal m →
    (∀ c : Dev Cert.OddMixerIdeal.nD,
      m' ((c.tc : Thread Cert.RefOddMixerIdeal.nD Cert.RefOddMixerIdeal.τ).loc Cert.RefOddMixerIdeal.main_arg0) = m ((c.tc : Thread Cert.OddMixerIdeal.nD Cert.OddMixerIdeal.τ).loc Cert.OddMixerIdeal.main_arg0)
      ∧ m' ((c.tc : Thread Cert.RefOddMixerIdeal.nD Cert.RefOddMixerIdeal.τ).loc Cert.RefOddMixerIdeal.main_arg1) = m ((c.tc : Thread Cert.OddMixerIdeal.nD Cert.OddMixerIdeal.τ).loc Cert.OddMixerIdeal.main_arg1)
      ∧ m' ((c.tc : Thread Cert.RefOddMixerIdeal.nD Cert.RefOddMixerIdeal.τ).loc Cert.RefOddMixerIdeal.main_arg2) = m ((c.tc : Thread Cert.OddMixerIdeal.nD Cert.OddMixerIdeal.τ).loc Cert.OddMixerIdeal.main_arg2)
      ∧ m' ((c.tc : Thread Cert.RefOddMixerIdeal.nD Cert.RefOddMixerIdeal.τ).loc Cert.RefOddMixerIdeal.main_arg3) = m ((c.tc : Thread Cert.OddMixerIdeal.nD Cert.OddMixerIdeal.τ).loc Cert.OddMixerIdeal.main_arg3)
      ∧ m' ((c.tc : Thread Cert.RefOddMixerIdeal.nD Cert.RefOddMixerIdeal.τ).loc Cert.RefOddMixerIdeal.main_arg4) = m ((c.tc : Thread Cert.OddMixerIdeal.nD Cert.OddMixerIdeal.τ).loc Cert.OddMixerIdeal.main_arg4)) →
    ∃ (v0 : (c : Dev Cert.OddMixerIdeal.nD) → Buf (Elt Ideal) ((c.tc : Thread Cert.OddMixerIdeal.nD Cert.OddMixerIdeal.τ).loc Cert.OddMixerIdeal.main_v3)),
      θ_run (Cert.OddMixerIdeal.defs (F := Ideal)) (onTc (τ := Cert.OddMixerIdeal.τ) (Cert.OddMixerIdeal.main (F := Ideal))) ⟨m, fun _ => 0, g⟩ (fun r => ∀ c : Dev Cert.OddMixerIdeal.nD,
          r.2.mem ((c.tc : Thread Cert.OddMixerIdeal.nD Cert.OddMixerIdeal.τ).loc Cert.OddMixerIdeal.main_v3) = v0 c
          ∧ r.2.mem ((c.tc : Thread Cert.OddMixerIdeal.nD Cert.OddMixerIdeal.τ).loc Cert.OddMixerIdeal.main_arg0) = m ((c.tc : Thread Cert.OddMixerIdeal.nD Cert.OddMixerIdeal.τ).loc Cert.OddMixerIdeal.main_arg0)
          ∧ r.2.mem ((c.tc : Thread Cert.OddMixerIdeal.nD Cert.OddMixerIdeal.τ).loc Cert.OddMixerIdeal.main_arg1) = m ((c.tc : Thread Cert.OddMixerIdeal.nD Cert.OddMixerIdeal.τ).loc Cert.OddMixerIdeal.main_arg1)
          ∧ r.2.mem ((c.tc : Thread Cert.OddMixerIdeal.nD Cert.OddMixerIdeal.τ).loc Cert.OddMixerIdeal.main_arg2) = m ((c.tc : Thread Cert.OddMixerIdeal.nD Cert.OddMixerIdeal.τ).loc Cert.OddMixerIdeal.main_arg2)
          ∧ r.2.mem ((c.tc : Thread Cert.OddMixerIdeal.nD Cert.OddMixerIdeal.τ).loc Cert.OddMixerIdeal.main_arg3) = m ((c.tc : Thread Cert.OddMixerIdeal.nD Cert.OddMixerIdeal.τ).loc Cert.OddMixerIdeal.main_arg3)
          ∧ r.2.mem ((c.tc : Thread Cert.OddMixerIdeal.nD Cert.OddMixerIdeal.τ).loc Cert.OddMixerIdeal.main_arg4) = m ((c.tc : Thread Cert.OddMixerIdeal.nD Cert.OddMixerIdeal.τ).loc Cert.OddMixerIdeal.main_arg4))
      ∧ θ_run (Cert.RefOddMixerIdeal.defs (F := Ideal)) (onTc (τ := Cert.RefOddMixerIdeal.τ) (Cert.RefOddMixerIdeal.main (F := Ideal))) ⟨m', fun _ => 0, g'⟩ (fun r => ∀ c : Dev Cert.RefOddMixerIdeal.nD,
          r.2.mem ((c.tc : Thread Cert.RefOddMixerIdeal.nD Cert.RefOddMixerIdeal.τ).loc Cert.RefOddMixerIdeal.main_v45) = v0 c
          ∧ r.2.mem ((c.tc : Thread Cert.RefOddMixerIdeal.nD Cert.RefOddMixerIdeal.τ).loc Cert.RefOddMixerIdeal.main_arg0) = m' ((c.tc : Thread Cert.RefOddMixerIdeal.nD Cert.RefOddMixerIdeal.τ).loc Cert.RefOddMixerIdeal.main_arg0)
          ∧ r.2.mem ((c.tc : Thread Cert.RefOddMixerIdeal.nD Cert.RefOddMixerIdeal.τ).loc Cert.RefOddMixerIdeal.main_arg1) = m' ((c.tc : Thread Cert.RefOddMixerIdeal.nD Cert.RefOddMixerIdeal.τ).loc Cert.RefOddMixerIdeal.main_arg1)
          ∧ r.2.mem ((c.tc : Thread Cert.RefOddMixerIdeal.nD Cert.RefOddMixerIdeal.τ).loc Cert.RefOddMixerIdeal.main_arg2) = m' ((c.tc : Thread Cert.RefOddMixerIdeal.nD Cert.RefOddMixerIdeal.τ).loc Cert.RefOddMixerIdeal.main_arg2)
          ∧ r.2.mem ((c.tc : Thread Cert.RefOddMixerIdeal.nD Cert.RefOddMixerIdeal.τ).loc Cert.RefOddMixerIdeal.main_arg3) = m' ((c.tc : Thread Cert.RefOddMixerIdeal.nD Cert.RefOddMixerIdeal.τ).loc Cert.RefOddMixerIdeal.main_arg3)
          ∧ r.2.mem ((c.tc : Thread Cert.RefOddMixerIdeal.nD Cert.RefOddMixerIdeal.τ).loc Cert.RefOddMixerIdeal.main_arg4) = m' ((c.tc : Thread Cert.RefOddMixerIdeal.nD Cert.RefOddMixerIdeal.τ).loc Cert.RefOddMixerIdeal.main_arg4))

def preserves_EvenMixer_EvenMixerIdeal : Prop :=
  True

def algebraic_EvenMixerIdeal_RefEvenMixerIdeal_pre_finite_even [hEvenMixerIdeal : Cert.EvenMixerIdeal.Facts] [hRefEvenMixerIdeal : Cert.RefEvenMixerIdeal.Facts] [hPre_finite_even : Cert.Pre_finite_even.Facts] : Prop :=
  ∀ (m : (ℓ : Loc Cert.EvenMixerIdeal.nD Cert.EvenMixerIdeal.τ Cert.EvenMixerIdeal.sig) → Buf (Elt Ideal) ℓ) (g : Dev Cert.EvenMixerIdeal.nD → PrngReg)
    (m' : (ℓ : Loc Cert.RefEvenMixerIdeal.nD Cert.RefEvenMixerIdeal.τ Cert.RefEvenMixerIdeal.sig) → Buf (Elt Ideal) ℓ) (g' : Dev Cert.RefEvenMixerIdeal.nD → PrngReg), Pre_EvenMixerIdeal_finite_even m →
    (∀ c : Dev Cert.EvenMixerIdeal.nD,
      m' ((c.tc : Thread Cert.RefEvenMixerIdeal.nD Cert.RefEvenMixerIdeal.τ).loc Cert.RefEvenMixerIdeal.main_arg0) = m ((c.tc : Thread Cert.EvenMixerIdeal.nD Cert.EvenMixerIdeal.τ).loc Cert.EvenMixerIdeal.main_arg0)
      ∧ m' ((c.tc : Thread Cert.RefEvenMixerIdeal.nD Cert.RefEvenMixerIdeal.τ).loc Cert.RefEvenMixerIdeal.main_arg1) = m ((c.tc : Thread Cert.EvenMixerIdeal.nD Cert.EvenMixerIdeal.τ).loc Cert.EvenMixerIdeal.main_arg1)
      ∧ m' ((c.tc : Thread Cert.RefEvenMixerIdeal.nD Cert.RefEvenMixerIdeal.τ).loc Cert.RefEvenMixerIdeal.main_arg2) = m ((c.tc : Thread Cert.EvenMixerIdeal.nD Cert.EvenMixerIdeal.τ).loc Cert.EvenMixerIdeal.main_arg2)
      ∧ m' ((c.tc : Thread Cert.RefEvenMixerIdeal.nD Cert.RefEvenMixerIdeal.τ).loc Cert.RefEvenMixerIdeal.main_arg3) = m ((c.tc : Thread Cert.EvenMixerIdeal.nD Cert.EvenMixerIdeal.τ).loc Cert.EvenMixerIdeal.main_arg3)
      ∧ m' ((c.tc : Thread Cert.RefEvenMixerIdeal.nD Cert.RefEvenMixerIdeal.τ).loc Cert.RefEvenMixerIdeal.main_arg4) = m ((c.tc : Thread Cert.EvenMixerIdeal.nD Cert.EvenMixerIdeal.τ).loc Cert.EvenMixerIdeal.main_arg4)
      ∧ m' ((c.tc : Thread Cert.RefEvenMixerIdeal.nD Cert.RefEvenMixerIdeal.τ).loc Cert.RefEvenMixerIdeal.main_arg5) = m ((c.tc : Thread Cert.EvenMixerIdeal.nD Cert.EvenMixerIdeal.τ).loc Cert.EvenMixerIdeal.main_arg5)
      ∧ m' ((c.tc : Thread Cert.RefEvenMixerIdeal.nD Cert.RefEvenMixerIdeal.τ).loc Cert.RefEvenMixerIdeal.main_arg6) = m ((c.tc : Thread Cert.EvenMixerIdeal.nD Cert.EvenMixerIdeal.τ).loc Cert.EvenMixerIdeal.main_arg6)
      ∧ m' ((c.tc : Thread Cert.RefEvenMixerIdeal.nD Cert.RefEvenMixerIdeal.τ).loc Cert.RefEvenMixerIdeal.main_arg7) = m ((c.tc : Thread Cert.EvenMixerIdeal.nD Cert.EvenMixerIdeal.τ).loc Cert.EvenMixerIdeal.main_arg7)
      ∧ m' ((c.tc : Thread Cert.RefEvenMixerIdeal.nD Cert.RefEvenMixerIdeal.τ).loc Cert.RefEvenMixerIdeal.main_arg8) = m ((c.tc : Thread Cert.EvenMixerIdeal.nD Cert.EvenMixerIdeal.τ).loc Cert.EvenMixerIdeal.main_arg8)) →
    ∃ (v0 : (c : Dev Cert.EvenMixerIdeal.nD) → Buf (Elt Ideal) ((c.tc : Thread Cert.EvenMixerIdeal.nD Cert.EvenMixerIdeal.τ).loc Cert.EvenMixerIdeal.main_v47)),
      θ_run (Cert.EvenMixerIdeal.defs (F := Ideal)) (onTc (τ := Cert.EvenMixerIdeal.τ) (Cert.EvenMixerIdeal.main (F := Ideal))) ⟨m, fun _ => 0, g⟩ (fun r => ∀ c : Dev Cert.EvenMixerIdeal.nD,
          r.2.mem ((c.tc : Thread Cert.EvenMixerIdeal.nD Cert.EvenMixerIdeal.τ).loc Cert.EvenMixerIdeal.main_v47) = v0 c
          ∧ r.2.mem ((c.tc : Thread Cert.EvenMixerIdeal.nD Cert.EvenMixerIdeal.τ).loc Cert.EvenMixerIdeal.main_arg0) = m ((c.tc : Thread Cert.EvenMixerIdeal.nD Cert.EvenMixerIdeal.τ).loc Cert.EvenMixerIdeal.main_arg0)
          ∧ r.2.mem ((c.tc : Thread Cert.EvenMixerIdeal.nD Cert.EvenMixerIdeal.τ).loc Cert.EvenMixerIdeal.main_arg1) = m ((c.tc : Thread Cert.EvenMixerIdeal.nD Cert.EvenMixerIdeal.τ).loc Cert.EvenMixerIdeal.main_arg1)
          ∧ r.2.mem ((c.tc : Thread Cert.EvenMixerIdeal.nD Cert.EvenMixerIdeal.τ).loc Cert.EvenMixerIdeal.main_arg2) = m ((c.tc : Thread Cert.EvenMixerIdeal.nD Cert.EvenMixerIdeal.τ).loc Cert.EvenMixerIdeal.main_arg2)
          ∧ r.2.mem ((c.tc : Thread Cert.EvenMixerIdeal.nD Cert.EvenMixerIdeal.τ).loc Cert.EvenMixerIdeal.main_arg3) = m ((c.tc : Thread Cert.EvenMixerIdeal.nD Cert.EvenMixerIdeal.τ).loc Cert.EvenMixerIdeal.main_arg3)
          ∧ r.2.mem ((c.tc : Thread Cert.EvenMixerIdeal.nD Cert.EvenMixerIdeal.τ).loc Cert.EvenMixerIdeal.main_arg4) = m ((c.tc : Thread Cert.EvenMixerIdeal.nD Cert.EvenMixerIdeal.τ).loc Cert.EvenMixerIdeal.main_arg4)
          ∧ r.2.mem ((c.tc : Thread Cert.EvenMixerIdeal.nD Cert.EvenMixerIdeal.τ).loc Cert.EvenMixerIdeal.main_arg5) = m ((c.tc : Thread Cert.EvenMixerIdeal.nD Cert.EvenMixerIdeal.τ).loc Cert.EvenMixerIdeal.main_arg5)
          ∧ r.2.mem ((c.tc : Thread Cert.EvenMixerIdeal.nD Cert.EvenMixerIdeal.τ).loc Cert.EvenMixerIdeal.main_arg6) = m ((c.tc : Thread Cert.EvenMixerIdeal.nD Cert.EvenMixerIdeal.τ).loc Cert.EvenMixerIdeal.main_arg6)
          ∧ r.2.mem ((c.tc : Thread Cert.EvenMixerIdeal.nD Cert.EvenMixerIdeal.τ).loc Cert.EvenMixerIdeal.main_arg7) = m ((c.tc : Thread Cert.EvenMixerIdeal.nD Cert.EvenMixerIdeal.τ).loc Cert.EvenMixerIdeal.main_arg7)
          ∧ r.2.mem ((c.tc : Thread Cert.EvenMixerIdeal.nD Cert.EvenMixerIdeal.τ).loc Cert.EvenMixerIdeal.main_arg8) = m ((c.tc : Thread Cert.EvenMixerIdeal.nD Cert.EvenMixerIdeal.τ).loc Cert.EvenMixerIdeal.main_arg8))
      ∧ θ_run (Cert.RefEvenMixerIdeal.defs (F := Ideal)) (onTc (τ := Cert.RefEvenMixerIdeal.τ) (Cert.RefEvenMixerIdeal.main (F := Ideal))) ⟨m', fun _ => 0, g'⟩ (fun r => ∀ c : Dev Cert.RefEvenMixerIdeal.nD,
          r.2.mem ((c.tc : Thread Cert.RefEvenMixerIdeal.nD Cert.RefEvenMixerIdeal.τ).loc Cert.RefEvenMixerIdeal.main_v365) = v0 c
          ∧ r.2.mem ((c.tc : Thread Cert.RefEvenMixerIdeal.nD Cert.RefEvenMixerIdeal.τ).loc Cert.RefEvenMixerIdeal.main_arg0) = m' ((c.tc : Thread Cert.RefEvenMixerIdeal.nD Cert.RefEvenMixerIdeal.τ).loc Cert.RefEvenMixerIdeal.main_arg0)
          ∧ r.2.mem ((c.tc : Thread Cert.RefEvenMixerIdeal.nD Cert.RefEvenMixerIdeal.τ).loc Cert.RefEvenMixerIdeal.main_arg1) = m' ((c.tc : Thread Cert.RefEvenMixerIdeal.nD Cert.RefEvenMixerIdeal.τ).loc Cert.RefEvenMixerIdeal.main_arg1)
          ∧ r.2.mem ((c.tc : Thread Cert.RefEvenMixerIdeal.nD Cert.RefEvenMixerIdeal.τ).loc Cert.RefEvenMixerIdeal.main_arg2) = m' ((c.tc : Thread Cert.RefEvenMixerIdeal.nD Cert.RefEvenMixerIdeal.τ).loc Cert.RefEvenMixerIdeal.main_arg2)
          ∧ r.2.mem ((c.tc : Thread Cert.RefEvenMixerIdeal.nD Cert.RefEvenMixerIdeal.τ).loc Cert.RefEvenMixerIdeal.main_arg3) = m' ((c.tc : Thread Cert.RefEvenMixerIdeal.nD Cert.RefEvenMixerIdeal.τ).loc Cert.RefEvenMixerIdeal.main_arg3)
          ∧ r.2.mem ((c.tc : Thread Cert.RefEvenMixerIdeal.nD Cert.RefEvenMixerIdeal.τ).loc Cert.RefEvenMixerIdeal.main_arg4) = m' ((c.tc : Thread Cert.RefEvenMixerIdeal.nD Cert.RefEvenMixerIdeal.τ).loc Cert.RefEvenMixerIdeal.main_arg4)
          ∧ r.2.mem ((c.tc : Thread Cert.RefEvenMixerIdeal.nD Cert.RefEvenMixerIdeal.τ).loc Cert.RefEvenMixerIdeal.main_arg5) = m' ((c.tc : Thread Cert.RefEvenMixerIdeal.nD Cert.RefEvenMixerIdeal.τ).loc Cert.RefEvenMixerIdeal.main_arg5)
          ∧ r.2.mem ((c.tc : Thread Cert.RefEvenMixerIdeal.nD Cert.RefEvenMixerIdeal.τ).loc Cert.RefEvenMixerIdeal.main_arg6) = m' ((c.tc : Thread Cert.RefEvenMixerIdeal.nD Cert.RefEvenMixerIdeal.τ).loc Cert.RefEvenMixerIdeal.main_arg6)
          ∧ r.2.mem ((c.tc : Thread Cert.RefEvenMixerIdeal.nD Cert.RefEvenMixerIdeal.τ).loc Cert.RefEvenMixerIdeal.main_arg7) = m' ((c.tc : Thread Cert.RefEvenMixerIdeal.nD Cert.RefEvenMixerIdeal.τ).loc Cert.RefEvenMixerIdeal.main_arg7)
          ∧ r.2.mem ((c.tc : Thread Cert.RefEvenMixerIdeal.nD Cert.RefEvenMixerIdeal.τ).loc Cert.RefEvenMixerIdeal.main_arg8) = m' ((c.tc : Thread Cert.RefEvenMixerIdeal.nD Cert.RefEvenMixerIdeal.τ).loc Cert.RefEvenMixerIdeal.main_arg8))

def Claim : Prop :=
  ∃ (hFfn : Cert.Ffn.Facts) (hFfnIdeal : Cert.FfnIdeal.Facts) (hRefFfnIdeal : Cert.RefFfnIdeal.Facts) (hFfnFinal : Cert.FfnFinal.Facts) (hFfnFinalIdeal : Cert.FfnFinalIdeal.Facts) (hRefFfnFinalIdeal : Cert.RefFfnFinalIdeal.Facts) (hMemKv : Cert.MemKv.Facts) (hMemKvIdeal : Cert.MemKvIdeal.Facts) (hRefMemKvIdeal : Cert.RefMemKvIdeal.Facts) (hCrossAttn : Cert.CrossAttn.Facts) (hCrossAttnIdeal : Cert.CrossAttnIdeal.Facts) (hRefCrossAttnIdeal : Cert.RefCrossAttnIdeal.Facts) (hOddMixer : Cert.OddMixer.Facts) (hOddMixerIdeal : Cert.OddMixerIdeal.Facts) (hRefOddMixerIdeal : Cert.RefOddMixerIdeal.Facts) (hEvenMixer : Cert.EvenMixer.Facts) (hEvenMixerIdeal : Cert.EvenMixerIdeal.Facts) (hRefEvenMixerIdeal : Cert.RefEvenMixerIdeal.Facts) (hPre_finite_cross : Cert.Pre_finite_cross.Facts) (hPre_finite_even : Cert.Pre_finite_even.Facts),
    quiescent_Ffn (hFfn := hFfn)
    ∧ quiescent_FfnIdeal (hFfnIdeal := hFfnIdeal)
    ∧ quiescent_RefFfnIdeal (hRefFfnIdeal := hRefFfnIdeal)
    ∧ quiescent_FfnFinal (hFfnFinal := hFfnFinal)
    ∧ quiescent_FfnFinalIdeal (hFfnFinalIdeal := hFfnFinalIdeal)
    ∧ quiescent_RefFfnFinalIdeal (hRefFfnFinalIdeal := hRefFfnFinalIdeal)
    ∧ quiescent_MemKv (hMemKv := hMemKv)
    ∧ quiescent_MemKvIdeal (hMemKvIdeal := hMemKvIdeal)
    ∧ quiescent_RefMemKvIdeal (hRefMemKvIdeal := hRefMemKvIdeal)
    ∧ quiescent_CrossAttn (hCrossAttn := hCrossAttn)
    ∧ quiescent_CrossAttnIdeal (hCrossAttnIdeal := hCrossAttnIdeal)
    ∧ quiescent_CrossAttnIdeal_pre_finite_cross (hCrossAttnIdeal := hCrossAttnIdeal) (hPre_finite_cross := hPre_finite_cross)
    ∧ quiescent_RefCrossAttnIdeal (hRefCrossAttnIdeal := hRefCrossAttnIdeal)
    ∧ quiescent_RefCrossAttnIdeal_pre_finite_cross (hRefCrossAttnIdeal := hRefCrossAttnIdeal) (hPre_finite_cross := hPre_finite_cross)
    ∧ quiescent_OddMixer (hOddMixer := hOddMixer)
    ∧ quiescent_OddMixerIdeal (hOddMixerIdeal := hOddMixerIdeal)
    ∧ quiescent_RefOddMixerIdeal (hRefOddMixerIdeal := hRefOddMixerIdeal)
    ∧ quiescent_EvenMixer (hEvenMixer := hEvenMixer)
    ∧ quiescent_EvenMixerIdeal (hEvenMixerIdeal := hEvenMixerIdeal)
    ∧ quiescent_EvenMixerIdeal_pre_finite_even (hEvenMixerIdeal := hEvenMixerIdeal) (hPre_finite_even := hPre_finite_even)
    ∧ quiescent_RefEvenMixerIdeal (hRefEvenMixerIdeal := hRefEvenMixerIdeal)
    ∧ quiescent_RefEvenMixerIdeal_pre_finite_even (hRefEvenMixerIdeal := hRefEvenMixerIdeal) (hPre_finite_even := hPre_finite_even)
    ∧ preserves_Ffn_FfnIdeal
    ∧ algebraic_FfnIdeal_RefFfnIdeal (hFfnIdeal := hFfnIdeal) (hRefFfnIdeal := hRefFfnIdeal)
    ∧ preserves_FfnFinal_FfnFinalIdeal
    ∧ algebraic_FfnFinalIdeal_RefFfnFinalIdeal (hFfnFinalIdeal := hFfnFinalIdeal) (hRefFfnFinalIdeal := hRefFfnFinalIdeal)
    ∧ preserves_MemKv_MemKvIdeal
    ∧ algebraic_MemKvIdeal_RefMemKvIdeal (hMemKvIdeal := hMemKvIdeal) (hRefMemKvIdeal := hRefMemKvIdeal)
    ∧ preserves_CrossAttn_CrossAttnIdeal
    ∧ algebraic_CrossAttnIdeal_RefCrossAttnIdeal_pre_finite_cross (hCrossAttnIdeal := hCrossAttnIdeal) (hRefCrossAttnIdeal := hRefCrossAttnIdeal) (hPre_finite_cross := hPre_finite_cross)
    ∧ preserves_OddMixer_OddMixerIdeal
    ∧ algebraic_OddMixerIdeal_RefOddMixerIdeal (hOddMixerIdeal := hOddMixerIdeal) (hRefOddMixerIdeal := hRefOddMixerIdeal)
    ∧ preserves_EvenMixer_EvenMixerIdeal
    ∧ algebraic_EvenMixerIdeal_RefEvenMixerIdeal_pre_finite_even (hEvenMixerIdeal := hEvenMixerIdeal) (hRefEvenMixerIdeal := hRefEvenMixerIdeal) (hPre_finite_even := hPre_finite_even)
-- ==== Pre_finite_cross.lean ====
abbrev S32768x1024 : Shape := ⟨2, ![32768, 1024]⟩
abbrev S1024 : Shape := ⟨1, ![1024]⟩
abbrev S1024x1024 : Shape := ⟨2, ![1024, 1024]⟩
abbrev S1024x2048 : Shape := ⟨2, ![1024, 2048]⟩
abbrev S_ : Shape := ⟨0, ![]⟩

class Facts : Prop where
  bcast_S_S1024 : S_.BroadcastsInDim S1024 (![] : Fin 0 → Fin S1024.rank)
  bcast_S_S1024x1024 : S_.BroadcastsInDim S1024x1024 (![] : Fin 0 → Fin S1024x1024.rank)
  bcast_S_S1024x2048 : S_.BroadcastsInDim S1024x2048 (![] : Fin 0 → Fin S1024x2048.rank)

variable [Facts]

def fn {F : FTy → Type} [FloatOps F] (main_arg0 : FVec F S32768x1024 .f32) (main_arg1 : FVec F S1024 .f32) (main_arg2 : FVec F S1024x1024 .f32) (main_arg3 : FVec F S1024x2048 .bf16) (main_arg4 : FVec F S1024x1024 .f32) : IVec S1024 1 × IVec S1024x1024 1 × IVec S1024x2048 1 :=
  let main_v0 : FVec F S1024 .f32 := Host.absf main_arg1
  let main_cst : FVec F S_ .f32 := constant S_ .f32 0x7F800000#32
  let main_v1 : FVec F S1024 .f32 := broadcastInDim S1024 ![] bcast_S_S1024 main_cst
  let main_v2 : IVec S1024 1 := cmpf .olt main_v0 main_v1
  let main_v3 : FVec F S1024x1024 .f32 := Host.absf main_arg2
  let main_cst_0 : FVec F S_ .f32 := constant S_ .f32 0x7F800000#32
  let main_v4 : FVec F S1024x1024 .f32 := broadcastInDim S1024x1024 ![] bcast_S_S1024x1024 main_cst_0
  let main_v5 : IVec S1024x1024 1 := cmpf .olt main_v3 main_v4
  let main_v6 : FVec F S1024x2048 .bf16 := Host.absf main_arg3
  let main_cst_1 : FVec F S_ .bf16 := constant S_ .bf16 0x7F80#16
  let main_v7 : FVec F S1024x2048 .bf16 := broadcastInDim S1024x2048 ![] bcast_S_S1024x2048 main_cst_1
  let main_v8 : IVec S1024x2048 1 := cmpf .olt main_v6 main_v7
  (main_v2, main_v5, main_v8)
-- ==== Pre_finite_even.lean ====
abbrev S32768x1024 : Shape := ⟨2, ![32768, 1024]⟩
abbrev S1024 : Shape := ⟨1, ![1024]⟩
abbrev S1024x1792 : Shape := ⟨2, ![1024, 1792]⟩
abbrev S31x512 : Shape := ⟨2, ![31, 512]⟩
abbrev S512 : Shape := ⟨1, ![512]⟩
abbrev S8 : Shape := ⟨1, ![8]⟩
abbrev S1024x1024 : Shape := ⟨2, ![1024, 1024]⟩
abbrev S_ : Shape := ⟨0, ![]⟩

class Facts : Prop where
  bcast_S_S1024 : S_.BroadcastsInDim S1024 (![] : Fin 0 → Fin S1024.rank)
  bcast_S_S1024x1792 : S_.BroadcastsInDim S1024x1792 (![] : Fin 0 → Fin S1024x1792.rank)
  bcast_S_S8 : S_.BroadcastsInDim S8 (![] : Fin 0 → Fin S8.rank)

variable [Facts]

def fn {F : FTy → Type} [FloatOps F] (main_arg0 : FVec F S32768x1024 .f32) (main_arg1 : FVec F S1024 .f32) (main_arg2 : FVec F S1024x1792 .f32) (main_arg3 : FVec F S31x512 .f32) (main_arg4 : FVec F S512 .f32) (main_arg5 : FVec F S512 .f32) (main_arg6 : FVec F S512 .f32) (main_arg7 : FVec F S8 .f32) (main_arg8 : FVec F S1024x1024 .f32) : IVec S1024 1 × IVec S1024x1792 1 × IVec S8 1 :=
  let main_v0 : FVec F S1024 .f32 := Host.absf main_arg1
  let main_cst : FVec F S_ .f32 := constant S_ .f32 0x7F800000#32
  let main_v1 : FVec F S1024 .f32 := broadcastInDim S1024 ![] bcast_S_S1024 main_cst
  let main_v2 : IVec S1024 1 := cmpf .olt main_v0 main_v1
  let main_v3 : FVec F S1024x1792 .f32 := Host.absf main_arg2
  let main_cst_0 : FVec F S_ .f32 := constant S_ .f32 0x7F800000#32
  let main_v4 : FVec F S1024x1792 .f32 := broadcastInDim S1024x1792 ![] bcast_S_S1024x1792 main_cst_0
  let main_v5 : IVec S1024x1792 1 := cmpf .olt main_v3 main_v4
  let main_v6 : FVec F S8 .f32 := Host.absf main_arg7
  let main_cst_1 : FVec F S_ .f32 := constant S_ .f32 0x7F800000#32
  let main_v7 : FVec F S8 .f32 := broadcastInDim S8 ![] bcast_S_S8 main_cst_1
  let main_v8 : IVec S8 1 := cmpf .olt main_v6 main_v7
  (main_v2, main_v5, main_v8)
-- ==== Ffn.lean ====
abbrev S32768x1024 : Shape := ⟨2, ![32768, 1024]⟩
abbrev S1024 : Shape := ⟨1, ![1024]⟩
abbrev S1024x5632 : Shape := ⟨2, ![1024, 5632]⟩
abbrev S2816x1024 : Shape := ⟨2, ![2816, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024x512 : Shape := ⟨2, ![1024, 512]⟩
abbrev S512x512 : Shape := ⟨2, ![512, 512]⟩
abbrev S1024x256 : Shape := ⟨2, ![1024, 256]⟩
abbrev S512x256 : Shape := ⟨2, ![512, 256]⟩
abbrev S256x1024 : Shape := ⟨2, ![256, 1024]⟩

abbrev nBuf : Space → Nat
  | .hbm => 8
  | .vmem => 7
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S1024x5632, .bf16⟩
  | .hbm, ⟨5, _⟩ => ⟨S2816x1024, .bf16⟩
  | .hbm, ⟨6, _⟩ => ⟨S1x1024, .f32⟩
  | .hbm, ⟨7, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x5632, .bf16⟩
  | .local _ .vmem, ⟨4, _⟩ => ⟨S2816x1024, .bf16⟩
  | .local _ .vmem, ⟨5, _⟩ => ⟨S512x1024, .f32⟩
  | .local _ .vmem, ⟨6, _⟩ => ⟨S512x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== RefFfnIdeal.lean ====
abbrev S32768x1024 : Shape := ⟨2, ![32768, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x5632 : Shape := ⟨2, ![32768, 5632]⟩
abbrev S32768x2816 : Shape := ⟨2, ![32768, 2816]⟩

abbrev nBuf : Space → Nat
  | .hbm => 38
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S32768x1024, .f32⟩
  | .hbm, ⟨5, _⟩ => ⟨S_, .f32⟩
  | .hbm, ⟨6, _⟩ => ⟨S32768, .f32⟩
  | .hbm, ⟨7, _⟩ => ⟨S32768x1, .f32⟩
  | .hbm, ⟨8, _⟩ => ⟨S_, .f32⟩
  | .hbm, ⟨9, _⟩ => ⟨S32768x1, .f32⟩
  | .hbm, ⟨10, _⟩ => ⟨S32768x1, .f32⟩
  | .hbm, ⟨11, _⟩ => ⟨S_, .f32⟩
  | .hbm, ⟨12, _⟩ => ⟨S32768x1, .f32⟩
  | .hbm, ⟨13, _⟩ => ⟨S32768x1, .f32⟩
  | .hbm, ⟨14, _⟩ => ⟨S32768x1, .f32⟩
  | .hbm, ⟨15, _⟩ => ⟨S32768x1024, .f32⟩
  | .hbm, ⟨16, _⟩ => ⟨S32768x1024, .f32⟩
  | .hbm, ⟨17, _⟩ => ⟨S1x1024, .f32⟩
  | .hbm, ⟨18, _⟩ => ⟨S32768x1024, .f32⟩
  | .hbm, ⟨19, _⟩ => ⟨S32768x1024, .f32⟩
  | .hbm, ⟨20, _⟩ => ⟨S32768x5632, .f32⟩
  | .hbm, ⟨21, _⟩ => ⟨S32768x2816, .f32⟩
  | .hbm, ⟨22, _⟩ => ⟨S32768x2816, .f32⟩
  | .hbm, ⟨23, _⟩ => ⟨S32768x2816, .f32⟩
  | .hbm, ⟨24, _⟩ => ⟨S_, .f32⟩
  | .hbm, ⟨25, _⟩ => ⟨S32768x2816, .f32⟩
  | .hbm, ⟨26, _⟩ => ⟨S32768x2816, .f32⟩
  | .hbm, ⟨27, _⟩ => ⟨S_, .f32⟩
  | .hbm, ⟨28, _⟩ => ⟨S32768x2816, .f32⟩
  | .hbm, ⟨29, _⟩ => ⟨S32768x2816, .f32⟩
  | .hbm, ⟨30, _⟩ => ⟨S32768x2816, .f32⟩
  | .hbm, ⟨31, _⟩ => ⟨S32768x2816, .f32⟩
  | .hbm, ⟨32, _⟩ => ⟨S32768x2816, .f32⟩
  | .hbm, ⟨33, _⟩ => ⟨S32768x1024, .f32⟩
  | .hbm, ⟨34, _⟩ => ⟨S_, .f32⟩
  | .hbm, ⟨35, _⟩ => ⟨S32768x1024, .f32⟩
  | .hbm, ⟨36, _⟩ => ⟨S32768x1024, .f32⟩
  | .hbm, ⟨37, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_call0_v0 : Ref sig .tc := ⟨.hbm, 22, rfl⟩
abbrev main_call0_v1 : Ref sig .tc := ⟨.hbm, 23, rfl⟩
abbrev main_call0_cst : Ref sig .tc := ⟨.hbm, 24, rfl⟩
abbrev main_call0_v2 : Ref sig .tc := ⟨.hbm, 25, rfl⟩
abbrev main_call0_v3 : Ref sig .tc := ⟨.hbm, 26, rfl⟩
abbrev main_call0_cst_0 : Ref sig .tc := ⟨.hbm, 27, rfl⟩
abbrev main_call0_v4 : Ref sig .tc := ⟨.hbm, 28, rfl⟩
abbrev main_call0_v5 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_2 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩

abbrev nD : Nat := 1
abbrev τ : Topo := Topo.v7x

variable {F : FTy → Type} [FloatOps F]
-- ==== FfnFinal.lean ====
abbrev S32768x1024 : Shape := ⟨2, ![32768, 1024]⟩
abbrev S1024 : Shape := ⟨1, ![1024]⟩
abbrev S1024x5632 : Shape := ⟨2, ![1024, 5632]⟩
abbrev S2816x1024 : Shape := ⟨2, ![2816, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024x512 : Shape := ⟨2, ![1024, 512]⟩
abbrev S512x512 : Shape := ⟨2, ![512, 512]⟩
abbrev S1024x256 : Shape := ⟨2, ![1024, 256]⟩
abbrev S512x256 : Shape := ⟨2, ![512, 256]⟩
abbrev S256x1024 : Shape := ⟨2, ![256, 1024]⟩

abbrev nBuf : Space → Nat
  | .hbm => 10
  | .vmem => 8
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S1024, .f32⟩
  | .hbm, ⟨5, _⟩ => ⟨S1024x5632, .bf16⟩
  | .hbm, ⟨6, _⟩ => ⟨S2816x1024, .bf16⟩
  | .hbm, ⟨7, _⟩ => ⟨S1x1024, .f32⟩
  | .hbm, ⟨8, _⟩ => ⟨S1x1024, .f32⟩
  | .hbm, ⟨9, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x5632, .bf16⟩
  | .local _ .vmem, ⟨4, _⟩ => ⟨S2816x1024, .bf16⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== RefFfnFinalIdeal.lean ====
abbrev S32768x1024 : Shape := ⟨2, ![32768, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x5632 : Shape := ⟨2, ![32768, 5632]⟩
abbrev S32768x2816 : Shape := ⟨2, ![32768, 2816]⟩

abbrev nBuf : Space → Nat
  | .hbm => 55
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S1024, .f32⟩
  | .hbm, ⟨5, _⟩ => ⟨S32768x1024, .f32⟩
  | .hbm, ⟨6, _⟩ => ⟨S_, .f32⟩
  | .hbm, ⟨7, _⟩ => ⟨S32768, .f32⟩
  | .hbm, ⟨8, _⟩ => ⟨S32768x1, .f32⟩
  | .hbm, ⟨9, _⟩ => ⟨S_, .f32⟩
  | .hbm, ⟨10, _⟩ => ⟨S32768x1, .f32⟩
  | .hbm, ⟨11, _⟩ => ⟨S32768x1, .f32⟩
  | .hbm, ⟨12, _⟩ => ⟨S_, .f32⟩
  | .hbm, ⟨13, _⟩ => ⟨S32768x1, .f32⟩
  | .hbm, ⟨14, _⟩ => ⟨S32768x1, .f32⟩
  | .hbm, ⟨15, _⟩ => ⟨S32768x1, .f32⟩
  | .hbm, ⟨16, _⟩ => ⟨S32768x1024, .f32⟩
  | .hbm, ⟨17, _⟩ => ⟨S32768x1024, .f32⟩
  | .hbm, ⟨18, _⟩ => ⟨S1x1024, .f32⟩
  | .hbm, ⟨19, _⟩ => ⟨S32768x1024, .f32⟩
  | .hbm, ⟨20, _⟩ => ⟨S32768x1024, .f32⟩
  | .hbm, ⟨21, _⟩ => ⟨S32768x5632, .f32⟩
  | .hbm, ⟨22, _⟩ => ⟨S32768x2816, .f32⟩
  | .hbm, ⟨23, _⟩ => ⟨S32768x2816, .f32⟩
  | .hbm, ⟨24, _⟩ => ⟨S32768x2816, .f32⟩
  | .hbm, ⟨25, _⟩ => ⟨S_, .f32⟩
  | .hbm, ⟨26, _⟩ => ⟨S32768x2816, .f32⟩
  | .hbm, ⟨27, _⟩ => ⟨S32768x2816, .f32⟩
  | .hbm, ⟨28, _⟩ => ⟨S_, .f32⟩
  | .hbm, ⟨29, _⟩ => ⟨S32768x2816, .f32⟩
  | .hbm, ⟨30, _⟩ => ⟨S32768x2816, .f32⟩
  | .hbm, ⟨31, _⟩ => ⟨S32768x2816, .f32⟩
  | .hbm, ⟨32, _⟩ => ⟨S32768x2816, .f32⟩
  | .hbm, ⟨33, _⟩ => ⟨S32768x2816, .f32⟩
  | .hbm, ⟨34, _⟩ => ⟨S32768x1024, .f32⟩
  | .hbm, ⟨35, _⟩ => ⟨S_, .f32⟩
  | .hbm, ⟨36, _⟩ => ⟨S32768x1024, .f32⟩
  | .hbm, ⟨37, _⟩ => ⟨S32768x1024, .f32⟩
  | .hbm, ⟨38, _⟩ => ⟨S32768x1024, .f32⟩
  | .hbm, ⟨39, _⟩ => ⟨S32768x1024, .f32⟩
  | .hbm, ⟨40, _⟩ => ⟨S_, .f32⟩
  | .hbm, ⟨41, _⟩ => ⟨S32768, .f32⟩
  | .hbm, ⟨42, _⟩ => ⟨S32768x1, .f32⟩
  | .hbm, ⟨43, _⟩ => ⟨S_, .f32⟩
  | .hbm, ⟨44, _⟩ => ⟨S32768x1, .f32⟩
  | .hbm, ⟨45, _⟩ => ⟨S32768x1, .f32⟩
  | .hbm, ⟨46, _⟩ => ⟨S_, .f32⟩
  | .hbm, ⟨47, _⟩ => ⟨S32768x1, .f32⟩
  | .hbm, ⟨48, _⟩ => ⟨S32768x1, .f32⟩
  | .hbm, ⟨49, _⟩ => ⟨S32768x1, .f32⟩
  | .hbm, ⟨50, _⟩ => ⟨S32768x1024, .f32⟩
  | .hbm, ⟨51, _⟩ => ⟨S32768x1024, .f32⟩
  | .hbm, ⟨52, _⟩ => ⟨S1x1024, .f32⟩
  | .hbm, ⟨53, _⟩ => ⟨S32768x1024, .f32⟩
  | .hbm, ⟨54, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_cst_2 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_cst_3 : Ref sig .tc := ⟨.hbm, 40, rfl⟩
abbrev main_v23 : Ref sig .tc := ⟨.hbm, 41, rfl⟩
abbrev main_v24 : Ref sig .tc := ⟨.hbm, 42, rfl⟩
abbrev main_cst_4 : Ref sig .tc := ⟨.hbm, 43, rfl⟩
abbrev main_v25 : Ref sig .tc := ⟨.hbm, 44, rfl⟩
abbrev main_v26 : Ref sig .tc := ⟨.hbm, 45, rfl⟩
abbrev main_cst_5 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩

abbrev nD : Nat := 1
abbrev τ : Topo := Topo.v7x

variable {F : FTy → Type} [FloatOps F]
-- ==== MemKv.lean ====
abbrev S4x256x1024 : Shape := ⟨3, ![4, 256, 1024]⟩
abbrev S1024 : Shape := ⟨1, ![1024]⟩
abbrev S1024x2048 : Shape := ⟨2, ![1024, 2048]⟩
abbrev S1024x1024 : Shape := ⟨2, ![1024, 1024]⟩
abbrev S1x1024 : Shape := ⟨2, ![1, 1024]⟩
abbrev S256x1024 : Shape := ⟨2, ![256, 1024]⟩
abbrev S256x2048 : Shape := ⟨2, ![256, 2048]⟩
abbrev S256 : Shape := ⟨1, ![256]⟩
abbrev S256x1 : Shape := ⟨2, ![256, 1]⟩

abbrev nBuf : Space → Nat
  | .hbm => 7
  | .vmem => 6
  | .smem => 0
  | _ => 0

abbrev bufTy : (tb : Table) → Fin (tcTables nBuf tb) → BufTy
  | .hbm, ⟨0, _⟩ => ⟨S4x256x1024, .f32⟩
  | .hbm, ⟨1, _⟩ => ⟨S1024, .f32⟩
  | .hbm, ⟨2, _⟩ => ⟨S1024x2048, .f32⟩
  | .hbm, ⟨3, _⟩ => ⟨S1024x1024, .f32⟩
  | .hbm, ⟨4, _⟩ => ⟨S1024x2048, .bf16⟩
  | .hbm, ⟨5, _⟩ => ⟨S1x1024, .f32⟩
  | .hbm, ⟨6, _⟩ => ⟨S1024x2048, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x2048, .bf16⟩
  | .local _ .vmem, ⟨4, _⟩ => ⟨S256x2048, .bf16⟩
  | .local _ .vmem, ⟨5, _⟩ => ⟨S256x2048, .bf16⟩
  | _, _ => ⟨S4x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== RefMemKvIdeal.lean ====
abbrev S4x256x1024 : Shape := ⟨3, ![4, 256, 1024]⟩
abbrev S1024 : Shape := ⟨1, ![1024]⟩
abbrev S1024x2048 : Shape := ⟨2, ![1024, 2048]⟩
abbrev S_ : Shape := ⟨0, ![]⟩
abbrev S4x256 : Shape := ⟨2, ![4, 256]⟩
abbrev S4x256x1 : Shape := ⟨3, ![4, 256, 1]⟩
abbrev S1x1x1024 : Shape := ⟨3, ![1, 1, 1024]⟩
abbrev S4x256x2048 : Shape := ⟨3, ![4, 256, 2048]⟩

abbrev nBuf : Space → Nat
  | .hbm => 22
  | .vmem => 0
  | .smem => 0
  | _ => 0

abbrev bufTy : (tb : Table) → Fin (tcTables nBuf tb) → BufTy
  | .hbm, ⟨0, _⟩ => ⟨S4x256x1024, .f32⟩
  | .hbm, ⟨1, _⟩ => ⟨S1024, .f32⟩
  | .hbm, ⟨2, _⟩ => ⟨S1024x2048, .f32⟩
  | .hbm, ⟨3, _⟩ => ⟨S4x256x1024, .f32⟩
  | .hbm, ⟨4, _⟩ => ⟨S_, .f32⟩
  | .hbm, ⟨5, _⟩ => ⟨S4x256, .f32⟩
  | .hbm, ⟨6, _⟩ => ⟨S4x256x1, .f32⟩
  | .hbm, ⟨7, _⟩ => ⟨S_, .f32⟩
  | .hbm, ⟨8, _⟩ => ⟨S4x256x1, .f32⟩
  | .hbm, ⟨9, _⟩ => ⟨S4x256x1, .f32⟩
  | .hbm, ⟨10, _⟩ => ⟨S_, .f32⟩
  | .hbm, ⟨11, _⟩ => ⟨S4x256x1, .f32⟩
  | .hbm, ⟨12, _⟩ => ⟨S4x256x1, .f32⟩
  | .hbm, ⟨13, _⟩ => ⟨S4x256x1, .f32⟩
  | .hbm, ⟨14, _⟩ => ⟨S4x256x1024, .f32⟩
  | .hbm, ⟨15, _⟩ => ⟨S4x256x1024, .f32⟩
  | .hbm, ⟨16, _⟩ => ⟨S1x1x1024, .f32⟩
  | .hbm, ⟨17, _⟩ => ⟨S4x256x1024, .f32⟩
  | .hbm, ⟨18, _⟩ => ⟨S4x256x1024, .f32⟩
  | .hbm, ⟨19, _⟩ => ⟨S4x256x2048, .f32⟩
  | .hbm, ⟨20, _⟩ => ⟨S1024x2048, .f32⟩
  | .hbm, ⟨21, _⟩ => ⟨S1024x2048, .bf16⟩
  | _, _ => ⟨S4x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== CrossAttn.lean ====
abbrev S32768x1024 : Shape := ⟨2, ![32768, 1024]⟩
abbrev S1024 : Shape := ⟨1, ![1024]⟩
abbrev S1024x1024 : Shape := ⟨2, ![1024, 1024]⟩
abbrev S1024x2048 : Shape := ⟨2, ![1024, 2048]⟩
abbrev S1x1024 : Shape := ⟨2, ![1, 1024]⟩
abbrev S512x1024 : Shape := ⟨2, ![512, 1024]⟩
abbrev S256x2048 : Shape := ⟨2, ![256, 2048]⟩
abbrev S512 : Shape := ⟨1, ![512]⟩
abbrev S512x1 : Shape := ⟨2, ![512, 1]⟩
abbrev S512x256 : Shape := ⟨2, ![512, 256]⟩
abbrev S256x256 : Shape := ⟨2, ![256, 256]⟩

abbrev nBuf : Space → Nat
  | .hbm => 9
  | .vmem => 9
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x1024, .f32⟩
  | .hbm, ⟨3, _⟩ => ⟨S1024x2048, .bf16⟩
  | .hbm, ⟨4, _⟩ => ⟨S1024x1024, .f32⟩
  | .hbm, ⟨5, _⟩ => ⟨S1024x1024, .bf16⟩
  | .hbm, ⟨6, _⟩ => ⟨S1024x1024, .bf16⟩
  | .hbm, ⟨7, _⟩ => ⟨S1x1024, .f32⟩
  | .hbm, ⟨8, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x1024, .bf16⟩
  | .local _ .vmem, ⟨4, _⟩ => ⟨S256x2048, .bf16⟩
  | .local _ .vmem, ⟨5, _⟩ => ⟨S256x2048, .bf16⟩
  | .local _ .vmem, ⟨6, _⟩ => ⟨S1024x1024, .bf16⟩
  | .local _ .vmem, ⟨7, _⟩ => ⟨S512x1024, .f32⟩
  | .local _ .vmem, ⟨8, _⟩ => ⟨S512x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== RefCrossAttnIdeal.lean ====
abbrev S32768x1024 : Shape := ⟨2, ![32768, 1024]⟩
abbrev S1024 : Shape := ⟨1, ![1024]⟩
abbrev S1024x1024 : Shape := ⟨2, ![1024, 1024]⟩
abbrev S1024x2048 : Shape := ⟨2, ![1024, 2048]⟩
abbrev S4x8192x1024 : Shape := ⟨3, ![4, 8192, 1024]⟩
abbrev S4x256x2048 : Shape := ⟨3, ![4, 256, 2048]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S4x8192x4x256 : Shape := ⟨4, ![4, 8192, 4, 256]⟩
abbrev S4x256x1024 : Shape := ⟨3, ![4, 256, 1024]⟩
abbrev S4x256x4x256 : Shape := ⟨4, ![4, 256, 4, 256]⟩
abbrev S4x4x8192x256 : Shape := ⟨4, ![4, 4, 8192, 256]⟩
abbrev S4x4x8192 : Shape := ⟨3, ![4, 4, 8192]⟩
abbrev S4x4x8192x1 : Shape := ⟨4, ![4, 4, 8192, 1]⟩
abbrev S4x4x256x8192 : Shape := ⟨4, ![4, 4, 256, 8192]⟩

abbrev nBuf : Space → Nat
  | .hbm => 54
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x1024, .f32⟩
  | .hbm, ⟨3, _⟩ => ⟨S1024x2048, .bf16⟩
  | .hbm, ⟨4, _⟩ => ⟨S1024x1024, .f32⟩
  | .hbm, ⟨5, _⟩ => ⟨S4x8192x1024, .f32⟩
  | .hbm, ⟨6, _⟩ => ⟨S1024x2048, .f32⟩
  | .hbm, ⟨7, _⟩ => ⟨S4x256x2048, .f32⟩
  | .hbm, ⟨8, _⟩ => ⟨S4x8192x1024, .f32⟩
  | .hbm, ⟨9, _⟩ => ⟨S_, .f32⟩
  | .hbm, ⟨10, _⟩ => ⟨S4x8192, .f32⟩
  | .hbm, ⟨11, _⟩ => ⟨S4x8192x1, .f32⟩
  | .hbm, ⟨12, _⟩ => ⟨S_, .f32⟩
  | .hbm, ⟨13, _⟩ => ⟨S4x8192x1, .f32⟩
  | .hbm, ⟨14, _⟩ => ⟨S4x8192x1, .f32⟩
  | .hbm, ⟨15, _⟩ => ⟨S_, .f32⟩
  | .hbm, ⟨16, _⟩ => ⟨S4x8192x1, .f32⟩
  | .hbm, ⟨17, _⟩ => ⟨S4x8192x1, .f32⟩
  | .hbm, ⟨18, _⟩ => ⟨S4x8192x1, .f32⟩
  | .hbm, ⟨19, _⟩ => ⟨S4x8192x1024, .f32⟩
  | .hbm, ⟨20, _⟩ => ⟨S4x8192x1024, .f32⟩
  | .hbm, ⟨21, _⟩ => ⟨S1x1x1024, .f32⟩
  | .hbm, ⟨22, _⟩ => ⟨S4x8192x1024, .f32⟩
  | .hbm, ⟨23, _⟩ => ⟨S4x8192x1024, .f32⟩
  | .hbm, ⟨24, _⟩ => ⟨S4x8192x1024, .f32⟩
  | .hbm, ⟨25, _⟩ => ⟨S4x8192x4x256, .f32⟩
  | .hbm, ⟨26, _⟩ => ⟨S4x256x1024, .f32⟩
  | .hbm, ⟨27, _⟩ => ⟨S4x256x4x256, .f32⟩
  | .hbm, ⟨28, _⟩ => ⟨S4x256x1024, .f32⟩
  | .hbm, ⟨29, _⟩ => ⟨S4x256x4x256, .f32⟩
  | .hbm, ⟨30, _⟩ => ⟨S4x4x8192x256, .f32⟩
  | .hbm, ⟨31, _⟩ => ⟨S_, .f32⟩
  | .hbm, ⟨32, _⟩ => ⟨S4x4x8192x256, .f32⟩
  | .hbm, ⟨33, _⟩ => ⟨S4x4x8192x256, .f32⟩
  | .hbm, ⟨34, _⟩ => ⟨S_, .f32⟩
  | .hbm, ⟨35, _⟩ => ⟨S4x4x8192, .f32⟩
  | .hbm, ⟨36, _⟩ => ⟨S_, .f32⟩
  | .hbm, ⟨37, _⟩ => ⟨S4x4x8192, .f32⟩
  | .hbm, ⟨38, _⟩ => ⟨S4x4x8192, .f32⟩
  | .hbm, ⟨39, _⟩ => ⟨S4x4x8192x1, .f32⟩
  | .hbm, ⟨40, _⟩ => ⟨S4x4x8192x256, .f32⟩
  | .hbm, ⟨41, _⟩ => ⟨S4x4x8192x256, .f32⟩
  | .hbm, ⟨42, _⟩ => ⟨S4x4x8192x256, .f32⟩
  | .hbm, ⟨43, _⟩ => ⟨S_, .f32⟩
  | .hbm, ⟨44, _⟩ => ⟨S4x4x8192, .f32⟩
  | .hbm, ⟨45, _⟩ => ⟨S4x4x8192x1, .f32⟩
  | .hbm, ⟨46, _⟩ => ⟨S4x4x8192x256, .f32⟩
  | .hbm, ⟨47, _⟩ => ⟨S4x4x8192x256, .f32⟩
  | .hbm, ⟨48, _⟩ => ⟨S4x4x256x8192, .f32⟩
  | .hbm, ⟨49, _⟩ => ⟨S4x8192x4x256, .f32⟩
  | .hbm, ⟨50, _⟩ => ⟨S4x8192x1024, .f32⟩
  | .hbm, ⟨51, _⟩ => ⟨S4x8192x1024, .f32⟩
  | .hbm, ⟨52, _⟩ => ⟨S4x8192x1024, .f32⟩
  | .hbm, ⟨53, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_2 : Ref sig .tc := ⟨.hbm, 31, rfl⟩
abbrev main_v23 : Ref sig .tc := ⟨.hbm, 32, rfl⟩
abbrev main_v24 : Ref sig .tc := ⟨.hbm, 33, rfl⟩
abbrev main_cst_3 : Ref sig .tc := ⟨.hbm, 34, rfl⟩
abbrev main_v25 : Ref sig .tc := ⟨.hbm, 35, rfl⟩
abbrev main_cst_4 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_5 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩

abbrev nD : Nat := 1
abbrev τ : Topo := Topo.v7x

variable {F : FTy → Type} [FloatOps F]
-- ==== OddMixer.lean ====
abbrev S32768x1024 : Shape := ⟨2, ![32768, 1024]⟩
abbrev S1024 : Shape := ⟨1, ![1024]⟩
abbrev S1024x3072 : Shape := ⟨2, ![1024, 3072]⟩
abbrev S3x1024 : Shape := ⟨2, ![3, 1024]⟩
abbrev S1024x1024 : Shape := ⟨2, ![1024, 1024]⟩
abbrev S1x1024 : Shape := ⟨2, ![1, 1024]⟩
abbrev S512x1024 : Shape := ⟨2, ![512, 1024]⟩
abbrev S520x1024 : Shape := ⟨2, ![520, 1024]⟩
abbrev S8x1024 : Shape := ⟨2, ![8, 1024]⟩
abbrev S512 : Shape := ⟨1, ![512]⟩
abbrev S512x1 : Shape := ⟨2, ![512, 1]⟩
abbrev S512x3072 : Shape := ⟨2, ![512, 3072]⟩

abbrev nBuf : Space → Nat
  | .hbm => 9
  | .vmem => 9
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x3072, .f32⟩
  | .hbm, ⟨3, _⟩ => ⟨S3x1024, .f32⟩
  | .hbm, ⟨4, _⟩ => ⟨S1024x1024, .f32⟩
  | .hbm, ⟨5, _⟩ => ⟨S1024x3072, .bf16⟩
  | .hbm, ⟨6, _⟩ => ⟨S1024x1024, .bf16⟩
  | .hbm, ⟨7, _⟩ => ⟨S1x1024, .f32⟩
  | .hbm, ⟨8, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x3072, .bf16⟩
  | .local _ .vmem, ⟨4, _⟩ => ⟨S3x1024, .f32⟩
  | .local _ .vmem, ⟨5, _⟩ => ⟨S1024x1024, .bf16⟩
  | .local _ .vmem, ⟨6, _⟩ => ⟨S512x1024, .f32⟩
  | .local _ .vmem, ⟨7, _⟩ => ⟨S512x1024, .f32⟩
  | .local _ .vmem, ⟨8, _⟩ => ⟨S520x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S3x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== RefOddMixerIdeal.lean ====
abbrev S32768x1024 : Shape := ⟨2, ![32768, 1024]⟩
abbrev S1024 : Shape := ⟨1, ![1024]⟩
abbrev S1024x3072 : Shape := ⟨2, ![1024, 3072]⟩
abbrev S3x1024 : Shape := ⟨2, ![3, 1024]⟩
abbrev S1024x1024 : Shape := ⟨2, ![1024, 1024]⟩
abbrev S4x8192x1024 : Shape := ⟨3, ![4, 8192, 1024]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S4x8192x3072 : Shape := ⟨3, ![4, 8192, 3072]⟩
abbrev S4x8194x1024 : Shape := ⟨3, ![4, 8194, 1024]⟩
abbrev S1x1024 : Shape := ⟨2, ![1, 1024]⟩

abbrev nBuf : Space → Nat
  | .hbm => 57
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x3072, .f32⟩
  | .hbm, ⟨3, _⟩ => ⟨S3x1024, .f32⟩
  | .hbm, ⟨4, _⟩ => ⟨S1024x1024, .f32⟩
  | .hbm, ⟨5, _⟩ => ⟨S4x8192x1024, .f32⟩
  | .hbm, ⟨6, _⟩ => ⟨S4x8192x1024, .f32⟩
  | .hbm, ⟨7, _⟩ => ⟨S_, .f32⟩
  | .hbm, ⟨8, _⟩ => ⟨S4x8192, .f32⟩
  | .hbm, ⟨9, _⟩ => ⟨S4x8192x1, .f32⟩
  | .hbm, ⟨10, _⟩ => ⟨S_, .f32⟩
  | .hbm, ⟨11, _⟩ => ⟨S4x8192x1, .f32⟩
  | .hbm, ⟨12, _⟩ => ⟨S4x8192x1, .f32⟩
  | .hbm, ⟨13, _⟩ => ⟨S_, .f32⟩
  | .hbm, ⟨14, _⟩ => ⟨S4x8192x1, .f32⟩
  | .hbm, ⟨15, _⟩ => ⟨S4x8192x1, .f32⟩
  | .hbm, ⟨16, _⟩ => ⟨S4x8192x1, .f32⟩
  | .hbm, ⟨17, _⟩ => ⟨S4x8192x1024, .f32⟩
  | .hbm, ⟨18, _⟩ => ⟨S4x8192x1024, .f32⟩
  | .hbm, ⟨19, _⟩ => ⟨S1x1x1024, .f32⟩
  | .hbm, ⟨20, _⟩ => ⟨S4x8192x1024, .f32⟩
  | .hbm, ⟨21, _⟩ => ⟨S4x8192x1024, .f32⟩
  | .hbm, ⟨22, _⟩ => ⟨S4x8192x3072, .f32⟩
  | .hbm, ⟨23, _⟩ => ⟨S4x8192x1024, .f32⟩
  | .hbm, ⟨24, _⟩ => ⟨S4x8192x1024, .f32⟩
  | .hbm, ⟨25, _⟩ => ⟨S4x8192x1024, .f32⟩
  | .hbm, ⟨26, _⟩ => ⟨S4x8192x1024, .f32⟩
  | .hbm, ⟨27, _⟩ => ⟨S_, .i32⟩
  | .hbm, ⟨28, _⟩ => ⟨S_, .f32⟩
  | .hbm, ⟨29, _⟩ => ⟨S4x8194x1024, .f32⟩
  | .hbm, ⟨30, _⟩ => ⟨S1x1024, .f32⟩
  | .hbm, ⟨31, _⟩ => ⟨S1024, .f32⟩
  | .hbm, ⟨32, _⟩ => ⟨S4x8192x1024, .f32⟩
  | .hbm, ⟨33, _⟩ => ⟨S1x1x1024, .f32⟩
  | .hbm, ⟨34, _⟩ => ⟨S4x8192x1024, .f32⟩
  | .hbm, ⟨35, _⟩ => ⟨S4x8192x1024, .f32⟩
  | .hbm, ⟨36, _⟩ => ⟨S_, .f32⟩
  | .hbm, ⟨37, _⟩ => ⟨S4x8192x1024, .f32⟩
  | .hbm, ⟨38, _⟩ => ⟨S4x8192x1024, .f32⟩
  | .hbm, ⟨39, _⟩ => ⟨S1x1024, .f32⟩
  | .hbm, ⟨40, _⟩ => ⟨S1024, .f32⟩
  | .hbm, ⟨41, _⟩ => ⟨S4x8192x1024, .f32⟩
  | .hbm, ⟨42, _⟩ => ⟨S1x1x1024, .f32⟩
  | .hbm, ⟨43, _⟩ => ⟨S4x8192x1024, .f32⟩
  | .hbm, ⟨44, _⟩ => ⟨S4x8192x1024, .f32⟩
  | .hbm, ⟨45, _⟩ => ⟨S4x8192x1024, .f32⟩
  | .hbm, ⟨46, _⟩ => ⟨S1x1024, .f32⟩
  | .hbm, ⟨47, _⟩ => ⟨S1024, .f32⟩
  | .hbm, ⟨48, _⟩ => ⟨S4x8192x1024, .f32⟩
  | .hbm, ⟨49, _⟩ => ⟨S1x1x1024, .f32⟩
  | .hbm, ⟨50, _⟩ => ⟨S4x8192x1024, .f32⟩
  | .hbm, ⟨51, _⟩ => ⟨S4x8192x1024, .f32⟩
  | .hbm, ⟨52, _⟩ => ⟨S4x8192x1024, .f32⟩
  | .hbm, ⟨53, _⟩ => ⟨S4x8192x1024, .f32⟩
  | .hbm, ⟨54, _⟩ => ⟨S4x8192x1024, .f32⟩
  | .hbm, ⟨55, _⟩ => ⟨S4x8192x1024, .f32⟩
  | .hbm, ⟨56, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_c : Ref sig .tc := ⟨.hbm, 27, rfl⟩
abbrev main_call0_v0 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_2 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩

abbrev nD : Nat := 1
abbrev τ : Topo := Topo.v7x

variable {F : FTy → Type} [FloatOps F]
-- ==== EvenMixer.lean ====
abbrev S32768x1024 : Shape := ⟨2, ![32768, 1024]⟩
abbrev S1024 : Shape := ⟨1, ![1024]⟩
abbrev S1024x1792 : Shape := ⟨2, ![1024, 1792]⟩
abbrev S31x512 : Shape := ⟨2, ![31, 512]⟩
abbrev S512 : Shape := ⟨1, ![512]⟩
abbrev S8 : Shape := ⟨1, ![8]⟩
abbrev S1024x1024 : Shape := ⟨2, ![1024, 1024]⟩
abbrev S1x1024 : Shape := ⟨2, ![1, 1024]⟩
abbrev S1x512 : Shape := ⟨2, ![1, 512]⟩
abbrev S8x1 : Shape := ⟨2, ![8, 1]⟩
abbrev S8x128 : Shape := ⟨2, ![8, 128]⟩
abbrev S128 : Shape := ⟨1, ![128]⟩
abbrev S128x1 : Shape := ⟨2, ![128, 1]⟩
abbrev S256 : Shape := ⟨1, ![256]⟩
abbrev S1x256 : Shape := ⟨2, ![1, 256]⟩
abbrev S_ : Shape := ⟨0, ![]⟩
abbrev S128x256 : Shape := ⟨2, ![128, 256]⟩
abbrev S8x1x1 : Shape := ⟨3, ![8, 1, 1]⟩
abbrev S1x128x256 : Shape := ⟨3, ![1, 128, 256]⟩
abbrev S8x128x256 : Shape := ⟨3, ![8, 128, 256]⟩
abbrev S16x128x256 : Shape := ⟨3, ![16, 128, 256]⟩
abbrev S512x1024 : Shape := ⟨2, ![512, 1024]⟩
abbrev S544x512 : Shape := ⟨2, ![544, 512]⟩
abbrev S640x1024 : Shape := ⟨2, ![640, 1024]⟩
abbrev S512x512 : Shape := ⟨2, ![512, 512]⟩
abbrev S32x512 : Shape := ⟨2, ![32, 512]⟩
abbrev S128x1024 : Shape := ⟨2, ![128, 1024]⟩
abbrev S512x1 : Shape := ⟨2, ![512, 1]⟩
abbrev S512x1792 : Shape := ⟨2, ![512, 1792]⟩
abbrev S512x128 : Shape := ⟨2, ![512, 128]⟩
abbrev S64x512 : Shape := ⟨2, ![64, 512]⟩
abbrev S64 : Shape := ⟨1, ![64]⟩
abbrev S64x1 : Shape := ⟨2, ![64, 1]⟩
abbrev S128x128 : Shape := ⟨2, ![128, 128]⟩
abbrev S256x128 : Shape := ⟨2, ![256, 128]⟩
abbrev S1x1 : Shape := ⟨2, ![1, 1]⟩
abbrev S128x512 : Shape := ⟨2, ![128, 512]⟩

abbrev nBuf : Space → Nat
  | .hbm => 73
  | .vmem => 17
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x1792, .f32⟩
  | .hbm, ⟨3, _⟩ => ⟨S31x512, .f32⟩
  | .hbm, ⟨4, _⟩ => ⟨S512, .f32⟩
  | .hbm, ⟨5, _⟩ => ⟨S512, .f32⟩
  | .hbm, ⟨6, _⟩ => ⟨S512, .f32⟩
  | .hbm, ⟨7, _⟩ => ⟨S8, .f32⟩
  | .hbm, ⟨8, _⟩ => ⟨S1024x1024, .f32⟩
  | .hbm, ⟨9, _⟩ => ⟨S1024x1792, .bf16⟩
  | .hbm, ⟨10, _⟩ => ⟨S1024x1024, .bf16⟩
  | .hbm, ⟨11, _⟩ => ⟨S1x1024, .f32⟩
  | .hbm, ⟨12, _⟩ => ⟨S1x512, .f32⟩
  | .hbm, ⟨13, _⟩ => ⟨S1x512, .f32⟩
  | .hbm, ⟨14, _⟩ => ⟨S1x512, .f32⟩
  | .hbm, ⟨15, _⟩ => ⟨S8x1, .f32⟩
  | .hbm, ⟨16, _⟩ => ⟨S8x128, .f32⟩
  | .hbm, ⟨17, _⟩ => ⟨S128, .i32⟩
  | .hbm, ⟨18, _⟩ => ⟨S128x1, .i32⟩
  | .hbm, ⟨19, _⟩ => ⟨S256, .i32⟩
  | .hbm, ⟨20, _⟩ => ⟨S1x256, .i32⟩
  | .hbm, ⟨21, _⟩ => ⟨S_, .i32⟩
  | .hbm, ⟨22, _⟩ => ⟨S128x1, .i32⟩
  | .hbm, ⟨23, _⟩ => ⟨S128x1, .i32⟩
  | .hbm, ⟨24, _⟩ => ⟨S128x256, .i32⟩
  | .hbm, ⟨25, _⟩ => ⟨S128x256, .i32⟩
  | .hbm, ⟨26, _⟩ => ⟨S128x256, .i32⟩
  | .hbm, ⟨27, _⟩ => ⟨S_, .i32⟩
  | .hbm, ⟨28, _⟩ => ⟨S128x256, .i32⟩
  | .hbm, ⟨29, _⟩ => ⟨S128x256, .i1⟩
  | .hbm, ⟨30, _⟩ => ⟨S_, .i32⟩
  | .hbm, ⟨31, _⟩ => ⟨S128x256, .i32⟩
  | .hbm, ⟨32, _⟩ => ⟨S128x256, .i1⟩
  | .hbm, ⟨33, _⟩ => ⟨S128x256, .i1⟩
  | .hbm, ⟨34, _⟩ => ⟨S8, .f32⟩
  | .hbm, ⟨35, _⟩ => ⟨S_, .f32⟩
  | .hbm, ⟨36, _⟩ => ⟨S8, .f32⟩
  | .hbm, ⟨37, _⟩ => ⟨S8, .f32⟩
  | .hbm, ⟨38, _⟩ => ⟨S_, .f32⟩
  | .hbm, ⟨39, _⟩ => ⟨S8, .f32⟩
  | .hbm, ⟨40, _⟩ => ⟨S8, .f32⟩
  | .hbm, ⟨41, _⟩ => ⟨S_, .f32⟩
  | .hbm, ⟨42, _⟩ => ⟨S8, .f32⟩
  | .hbm, ⟨43, _⟩ => ⟨S8, .f32⟩
  | .hbm, ⟨44, _⟩ => ⟨S_, .f32⟩
  | .hbm, ⟨45, _⟩ => ⟨S8, .f32⟩
  | .hbm, ⟨46, _⟩ => ⟨S8, .f32⟩
  | .hbm, ⟨47, _⟩ => ⟨S8x1x1, .f32⟩
  | .hbm, ⟨48, _⟩ => ⟨S8x1x1, .f32⟩
  | .hbm, ⟨49, _⟩ => ⟨S128x256, .f32⟩
  | .hbm, ⟨50, _⟩ => ⟨S1x128x256, .f32⟩
  | .hbm, ⟨51, _⟩ => ⟨S8x128x256, .f32⟩
  | .hbm, ⟨52, _⟩ => ⟨S8x128x256, .f32⟩
  | .hbm, ⟨53, _⟩ => ⟨S8x128x256, .f32⟩
  | .hbm, ⟨54, _⟩ => ⟨S1x128x256, .i1⟩
  | .hbm, ⟨55, _⟩ => ⟨S_, .f32⟩
  | .hbm, ⟨56, _⟩ => ⟨S_, .f32⟩
  | .hbm, ⟨57, _⟩ => ⟨S8x128x256, .i1⟩
  | .hbm, ⟨58, _⟩ => ⟨S8x128x256, .f32⟩
  | .hbm, ⟨59, _⟩ => ⟨S8x128x256, .f32⟩
  | .hbm, ⟨60, _⟩ => ⟨S_, .i32⟩
  | .hbm, ⟨61, _⟩ => ⟨S1x256, .i32⟩
  | .hbm, ⟨62, _⟩ => ⟨S1x256, .i1⟩
  | .hbm, ⟨63, _⟩ => ⟨S128x256, .i1⟩
  | .hbm, ⟨64, _⟩ => ⟨S128x256, .i1⟩
  | .hbm, ⟨65, _⟩ => ⟨S1x128x256, .i1⟩
  | .hbm, ⟨66, _⟩ => ⟨S_, .f32⟩
  | .hbm, ⟨67, _⟩ => ⟨S_, .f32⟩
  | .hbm, ⟨68, _⟩ => ⟨S8x128x256, .i1⟩
  | .hbm, ⟨69, _⟩ => ⟨S8x128x256, .f32⟩
  | .hbm, ⟨70, _⟩ => ⟨S8x128x256, .f32⟩
  | .hbm, ⟨71, _⟩ => ⟨S16x128x256, .f32⟩
  | .hbm, ⟨72, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x1792, .bf16⟩
  | .local _ .vmem, ⟨4, _⟩ => ⟨S31x512, .f32⟩
  | .local _ .vmem, ⟨5, _⟩ => ⟨S1x512, .f32⟩
  | .local _ .vmem, ⟨6, _⟩ => ⟨S1x512, .f32⟩
  | .local _ .vmem, ⟨7, _⟩ => ⟨S1x512, .f32⟩
  | .local _ .vmem, ⟨8, _⟩ => ⟨S8x128, .f32⟩
  | .local _ .vmem, ⟨9, _⟩ => ⟨S16x128x256, .f32⟩
  | .local _ .vmem, ⟨10, _⟩ => ⟨S1024x1024, .bf16⟩
  | .local _ .vmem, ⟨11, _⟩ => ⟨S512x1024, .f32⟩
  | .local _ .vmem, ⟨12, _⟩ => ⟨S512x1024, .f32⟩
  | .local _ .vmem, ⟨13, _⟩ => ⟨S544x512, .f32⟩
  | .local _ .vmem, ⟨14, _⟩ => ⟨S640x1024, .bf16⟩
  | .local _ .vmem, ⟨15, _⟩ => ⟨S512x512, .bf16⟩
  | .local _ .vmem, ⟨16, _⟩ => ⟨S512x1024, .bf16⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_c : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_c_0 : Ref sig .tc := ⟨.hbm, 27, rfl⟩
abbrev main_v17 : Ref sig .tc := ⟨.hbm, 28, rfl⟩
abbrev main_v18 : Ref sig .tc := ⟨.hbm, 29, rfl⟩
abbrev main_c_1 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst : Ref sig .tc := ⟨.hbm, 35, rfl⟩
abbrev main_v23 : Ref sig .tc := ⟨.hbm, 36, rfl⟩
abbrev main_v24 : Ref sig .tc := ⟨.hbm, 37, rfl⟩
abbrev main_cst_2 : Ref sig .tc := ⟨.hbm, 38, rfl⟩
abbrev main_v25 : Ref sig .tc := ⟨.hbm, 39, rfl⟩
abbrev main_v26 : Ref sig .tc := ⟨.hbm, 40, rfl⟩
abbrev main_cst_3 : Ref sig .tc := ⟨.hbm, 41, rfl⟩
abbrev main_v27 : Ref sig .tc := ⟨.hbm, 42, rfl⟩
abbrev main_v28 : Ref sig .tc := ⟨.hbm, 43, rfl⟩
abbrev main_cst_4 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_5 : Ref sig .tc := ⟨.hbm, 55, rfl⟩
abbrev main_call0_v0 : Ref sig .tc := ⟨.hbm, 56, rfl⟩
abbrev main_call0_v1 : Ref sig .tc := ⟨.hbm, 57, rfl⟩
abbrev main_call0_v2 : Ref sig .tc := ⟨.hbm, 58, rfl⟩
abbrev main_v39 : Ref sig .tc := ⟨.hbm, 59, rfl⟩
abbrev main_c_6 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_cst_7 : Ref sig .tc := ⟨.hbm, 66, rfl⟩
abbrev main_call1_v0 : Ref sig .tc := ⟨.hbm, 67, rfl⟩
abbrev main_call1_v1 : Ref sig .tc := ⟨.hbm, 68, rfl⟩
abbrev main_call1_v2 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg10_1 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_scratch3 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem10_1 : DmaSem sig := 12

abbrev nD : Nat := 1
abbrev τ : Topo := Topo.v7x

variable {F : FTy → Type} [FloatOps F]

abbrev grid0 : Pipeline.Grid := ⟨2, ![4, 16], ![false, false]⟩

def k0_off1 (i : grid0.Coords) (c0_i32_841 : BitVec 32) : Fin 3 → Nat :=
  let arg1 : BitVec 32 := BitVec.ofNat 32 (i 1).val
  let c0_i32_835 : BitVec 32 := 0#32
  let v1564 : BitVec 1 := Scalar.cmpi .eq arg1 c0_i32_835
  let c8_i32 : BitVec 32 := 8#32
  let c0_i32_836 : BitVec 32 := 0#32
  let v1565 : BitVec 32 := Scalar.select v1564 c8_i32 c0_i32_836
  let v1568 : BitVec 32 := Scalar.addi v1565 c0_i32_841
  let v1569 : Index := Scalar.indexCast v1568
  let c0_842 : Index := 0#32
  let c0_843 : Index := 0#32
  ![v1569.toNat, 0, 0]
def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x1792 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S31x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S8x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S16x128x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== RefEvenMixerIdeal.lean ====
abbrev S32768x1024 : Shape := ⟨2, ![32768, 1024]⟩
abbrev S1024 : Shape := ⟨1, ![1024]⟩
abbrev S1024x1792 : Shape := ⟨2, ![1024, 1792]⟩
abbrev S31x512 : Shape := ⟨2, ![31, 512]⟩
abbrev S512 : Shape := ⟨1, ![512]⟩
abbrev S8 : Shape := ⟨1, ![8]⟩
abbrev S1024x1024 : Shape := ⟨2, ![1024, 1024]⟩
abbrev S4x8192x1024 : Shape := ⟨3, ![4, 8192, 1024]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S4x8192x1792 : Shape := ⟨3, ![4, 8192, 1792]⟩
abbrev S4x8192x512 : Shape := ⟨3, ![4, 8192, 512]⟩
abbrev S4x8222x512 : Shape := ⟨3, ![4, 8222, 512]⟩
abbrev S1x512 : Shape := ⟨2, ![1, 512]⟩
abbrev S1x1x512 : Shape := ⟨3, ![1, 1, 512]⟩
abbrev S4x8192x2x4x64 : Shape := ⟨5, ![4, 8192, 2, 4, 64]⟩
abbrev S4x8192x128 : Shape := ⟨3, ![4, 8192, 128]⟩
abbrev S4x8192x2x64 : Shape := ⟨4, ![4, 8192, 2, 64]⟩
abbrev S4x64x128x2x4x64 : Shape := ⟨6, ![4, 64, 128, 2, 4, 64]⟩
abbrev S4x64x128x2x64 : Shape := ⟨5, ![4, 64, 128, 2, 64]⟩
abbrev S4x65x128x2x64 : Shape := ⟨5, ![4, 65, 128, 2, 64]⟩
abbrev S4x64x256x2x64 : Shape := ⟨5, ![4, 64, 256, 2, 64]⟩
abbrev S4x64x2x256x128x4 : Shape := ⟨6, ![4, 64, 2, 256, 128, 4]⟩
abbrev S4x64x2x4x128x256 : Shape := ⟨6, ![4, 64, 2, 4, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S64 : Shape := ⟨1, ![64]⟩
abbrev S64x1 : Shape := ⟨2, ![64, 1]⟩
abbrev S64x256 : Shape := ⟨2, ![64, 256]⟩
abbrev S1x128x256 : Shape := ⟨3, ![1, 128, 256]⟩
abbrev S64x1x256 : Shape := ⟨3, ![64, 1, 256]⟩
abbrev S64x128x256 : Shape := ⟨3, ![64, 128, 256]⟩
abbrev S2x4 : Shape := ⟨2, ![2, 4]⟩
abbrev S2x4x1x1 : Shape := ⟨4, ![2, 4, 1, 1]⟩
abbrev S1x1x128x256 : Shape := ⟨4, ![1, 1, 128, 256]⟩
abbrev S2x4x128x256 : Shape := ⟨4, ![2, 4, 128, 256]⟩
abbrev S1x1x2x4x128x256 : Shape := ⟨6, ![1, 1, 2, 4, 128, 256]⟩
abbrev S1x64x1x1x128x256 : Shape := ⟨6, ![1, 64, 1, 1, 128, 256]⟩
abbrev S1x1x2x4x1x1 : Shape := ⟨6, ![1, 1, 2, 4, 1, 1]⟩
abbrev S4x64x2x4x128x1 : Shape := ⟨6, ![4, 64, 2, 4, 128, 1]⟩
abbrev S4x64x2x4x128x257 : Shape := ⟨6, ![4, 64, 2, 4, 128, 257]⟩
abbrev S4x64x2x4x128 : Shape := ⟨5, ![4, 64, 2, 4, 128]⟩
abbrev S4x64x2x64x4x128 : Shape := ⟨6, ![4, 64, 2, 64, 4, 128]⟩

abbrev nBuf : Space → Nat
  | .hbm => 418
  | .vmem => 0
  | .smem => 0
  | _ => 0

abbrev hbmTy0_0 (i : Nat) : BufTy := match i % 128 with
  | 0 => ⟨S32768x1024, .f32⟩
  | 1 => ⟨S1024, .f32⟩
  | 2 => ⟨S1024x1792, .f32⟩
  | 3 => ⟨S31x512, .f32⟩
  | 4 => ⟨S512, .f32⟩
  | 5 => ⟨S512, .f32⟩
  | 6 => ⟨S512, .f32⟩
  | 7 => ⟨S8, .f32⟩
  | 8 => ⟨S1024x1024, .f32⟩
  | 9 => ⟨S4x8192x1024, .f32⟩
  | 10 => ⟨S4x8192x1024, .f32⟩
  | 11 => ⟨S_, .f32⟩
  | 12 => ⟨S4x8192, .f32⟩
  | 13 => ⟨S4x8192x1, .f32⟩
  | 14 => ⟨S_, .f32⟩
  | 15 => ⟨S4x8192x1, .f32⟩
  | 16 => ⟨S4x8192x1, .f32⟩
  | 17 => ⟨S_, .f32⟩
  | 18 => ⟨S4x8192x1, .f32⟩
  | 19 => ⟨S4x8192x1, .f32⟩
  | 20 => ⟨S4x8192x1, .f32⟩
  | 21 => ⟨S4x8192x1024, .f32⟩
  | 22 => ⟨S4x8192x1024, .f32⟩
  | 23 => ⟨S1x1x1024, .f32⟩
  | 24 => ⟨S4x8192x1024, .f32⟩
  | 25 => ⟨S4x8192x1024, .f32⟩
  | 26 => ⟨S4x8192x1792, .f32⟩
  | 27 => ⟨S4x8192x512, .f32⟩
  | 28 => ⟨S4x8192x512, .f32⟩
  | 29 => ⟨S4x8192x512, .f32⟩
  | 30 => ⟨S4x8192x512, .f32⟩
  | 31 => ⟨S_, .f32⟩
  | 32 => ⟨S4x8192x512, .f32⟩
  | 33 => ⟨S4x8192x512, .f32⟩
  | 34 => ⟨S_, .f32⟩
  | 35 => ⟨S4x8192x512, .f32⟩
  | 36 => ⟨S4x8192x512, .f32⟩
  | 37 => ⟨S4x8192x512, .f32⟩
  | 38 => ⟨S_, .i32⟩
  | 39 => ⟨S_, .f32⟩
  | 40 => ⟨S4x8222x512, .f32⟩
  | 41 => ⟨S1x512, .f32⟩
  | 42 => ⟨S512, .f32⟩
  | 43 => ⟨S4x8192x512, .f32⟩
  | 44 => ⟨S1x1x512, .f32⟩
  | 45 => ⟨S4x8192x512, .f32⟩
  | 46 => ⟨S4x8192x512, .f32⟩
  | 47 => ⟨S_, .f32⟩
  | 48 => ⟨S4x8192x512, .f32⟩
  | 49 => ⟨S4x8192x512, .f32⟩
  | 50 => ⟨S1x512, .f32⟩
  | 51 => ⟨S512, .f32⟩
  | 52 => ⟨S4x8192x512, .f32⟩
  | 53 => ⟨S1x1x512, .f32⟩
  | 54 => ⟨S4x8192x512, .f32⟩
  | 55 => ⟨S4x8192x512, .f32⟩
  | 56 => ⟨S4x8192x512, .f32⟩
  | 57 => ⟨S1x512, .f32⟩
  | 58 => ⟨S512, .f32⟩
  | 59 => ⟨S4x8192x512, .f32⟩
  | 60 => ⟨S1x1x512, .f32⟩
  | 61 => ⟨S4x8192x512, .f32⟩
  | 62 => ⟨S4x8192x512, .f32⟩
  | 63 => ⟨S4x8192x512, .f32⟩
  | 64 => ⟨S1x512, .f32⟩
  | 65 => ⟨S512, .f32⟩
  | 66 => ⟨S4x8192x512, .f32⟩
  | 67 => ⟨S1x1x512, .f32⟩
  | 68 => ⟨S4x8192x512, .f32⟩
  | 69 => ⟨S4x8192x512, .f32⟩
  | 70 => ⟨S4x8192x512, .f32⟩
  | 71 => ⟨S1x512, .f32⟩
  | 72 => ⟨S512, .f32⟩
  | 73 => ⟨S4x8192x512, .f32⟩
  | 74 => ⟨S1x1x512, .f32⟩
  | 75 => ⟨S4x8192x512, .f32⟩
  | 76 => ⟨S4x8192x512, .f32⟩
  | 77 => ⟨S4x8192x512, .f32⟩
  | 78 => ⟨S1x512, .f32⟩
  | 79 => ⟨S512, .f32⟩
  | 80 => ⟨S4x8192x512, .f32⟩
  | 81 => ⟨S1x1x512, .f32⟩
  | 82 => ⟨S4x8192x512, .f32⟩
  | 83 => ⟨S4x8192x512, .f32⟩
  | 84 => ⟨S4x8192x512, .f32⟩
  | 85 => ⟨S1x512, .f32⟩
  | 86 => ⟨S512, .f32⟩
  | 87 => ⟨S4x8192x512, .f32⟩
  | 88 => ⟨S1x1x512, .f32⟩
  | 89 => ⟨S4x8192x512, .f32⟩
  | 90 => ⟨S4x8192x512, .f32⟩
  | 91 => ⟨S4x8192x512, .f32⟩
  | 92 => ⟨S1x512, .f32⟩
  | 93 => ⟨S512, .f32⟩
  | 94 => ⟨S4x8192x512, .f32⟩
  | 95 => ⟨S1x1x512, .f32⟩
  | 96 => ⟨S4x8192x512, .f32⟩
  | 97 => ⟨S4x8192x512, .f32⟩
  | 98 => ⟨S4x8192x512, .f32⟩
  | 99 => ⟨S1x512, .f32⟩
  | 100 => ⟨S512, .f32⟩
  | 101 => ⟨S4x8192x512, .f32⟩
  | 102 => ⟨S1x1x512, .f32⟩
  | 103 => ⟨S4x8192x512, .f32⟩
  | 104 => ⟨S4x8192x512, .f32⟩
  | 105 => ⟨S4x8192x512, .f32⟩
  | 106 => ⟨S1x512, .f32⟩
  | 107 => ⟨S512, .f32⟩
  | 108 => ⟨S4x8192x512, .f32⟩
  | 109 => ⟨S1x1x512, .f32⟩
  | 110 => ⟨S4x8192x512, .f32⟩
  | 111 => ⟨S4x8192x512, .f32⟩
  | 112 => ⟨S4x8192x512, .f32⟩
  | 113 => ⟨S1x512, .f32⟩
  | 114 => ⟨S512, .f32⟩
  | 115 => ⟨S4x8192x512, .f32⟩
  | 116 => ⟨S1x1x512, .f32⟩
  | 117 => ⟨S4x8192x512, .f32⟩
  | 118 => ⟨S4x8192x512, .f32⟩
  | 119 => ⟨S4x8192x512, .f32⟩
  | 120 => ⟨S1x512, .f32⟩
  | 121 => ⟨S512, .f32⟩
  | 122 => ⟨S4x8192x512, .f32⟩
  | 123 => ⟨S1x1x512, .f32⟩
  | 124 => ⟨S4x8192x512, .f32⟩
  | 125 => ⟨S4x8192x512, .f32⟩
  | 126 => ⟨S4x8192x512, .f32⟩
  | 127 => ⟨S1x512, .f32⟩
  | _ => ⟨S32768x1024, .f32⟩

abbrev hbmTy0_1 (i : Nat) : BufTy := match i % 128 with
  | 0 => ⟨S512, .f32⟩
  | 1 => ⟨S4x8192x512, .f32⟩
  | 2 => ⟨S1x1x512, .f32⟩
  | 3 => ⟨S4x8192x512, .f32⟩
  | 4 => ⟨S4x8192x512, .f32⟩
  | 5 => ⟨S4x8192x512, .f32⟩
  | 6 => ⟨S1x512, .f32⟩
  | 7 => ⟨S512, .f32⟩
  | 8 => ⟨S4x8192x512, .f32⟩
  | 9 => ⟨S1x1x512, .f32⟩
  | 10 => ⟨S4x8192x512, .f32⟩
  | 11 => ⟨S4x8192x512, .f32⟩
  | 12 => ⟨S4x8192x512, .f32⟩
  | 13 => ⟨S1x512, .f32⟩
  | 14 => ⟨S512, .f32⟩
  | 15 => ⟨S4x8192x512, .f32⟩
  | 16 => ⟨S1x1x512, .f32⟩
  | 17 => ⟨S4x8192x512, .f32⟩
  | 18 => ⟨S4x8192x512, .f32⟩
  | 19 => ⟨S4x8192x512, .f32⟩
  | 20 => ⟨S1x512, .f32⟩
  | 21 => ⟨S512, .f32⟩
  | 22 => ⟨S4x8192x512, .f32⟩
  | 23 => ⟨S1x1x512, .f32⟩
  | 24 => ⟨S4x8192x512, .f32⟩
  | 25 => ⟨S4x8192x512, .f32⟩
  | 26 => ⟨S4x8192x512, .f32⟩
  | 27 => ⟨S1x512, .f32⟩
  | 28 => ⟨S512, .f32⟩
  | 29 => ⟨S4x8192x512, .f32⟩
  | 30 => ⟨S1x1x512, .f32⟩
  | 31 => ⟨S4x8192x512, .f32⟩
  | 32 => ⟨S4x8192x512, .f32⟩
  | 33 => ⟨S4x8192x512, .f32⟩
  | 34 => ⟨S1x512, .f32⟩
  | 35 => ⟨S512, .f32⟩
  | 36 => ⟨S4x8192x512, .f32⟩
  | 37 => ⟨S1x1x512, .f32⟩
  | 38 => ⟨S4x8192x512, .f32⟩
  | 39 => ⟨S4x8192x512, .f32⟩
  | 40 => ⟨S4x8192x512, .f32⟩
  | 41 => ⟨S1x512, .f32⟩
  | 42 => ⟨S512, .f32⟩
  | 43 => ⟨S4x8192x512, .f32⟩
  | 44 => ⟨S1x1x512, .f32⟩
  | 45 => ⟨S4x8192x512, .f32⟩
  | 46 => ⟨S4x8192x512, .f32⟩
  | 47 => ⟨S4x8192x512, .f32⟩
  | 48 => ⟨S1x512, .f32⟩
  | 49 => ⟨S512, .f32⟩
  | 50 => ⟨S4x8192x512, .f32⟩
  | 51 => ⟨S1x1x512, .f32⟩
  | 52 => ⟨S4x8192x512, .f32⟩
  | 53 => ⟨S4x8192x512, .f32⟩
  | 54 => ⟨S4x8192x512, .f32⟩
  | 55 => ⟨S1x512, .f32⟩
  | 56 => ⟨S512, .f32⟩
  | 57 => ⟨S4x8192x512, .f32⟩
  | 58 => ⟨S1x1x512, .f32⟩
  | 59 => ⟨S4x8192x512, .f32⟩
  | 60 => ⟨S4x8192x512, .f32⟩
  | 61 => ⟨S4x8192x512, .f32⟩
  | 62 => ⟨S1x512, .f32⟩
  | 63 => ⟨S512, .f32⟩
  | 64 => ⟨S4x8192x512, .f32⟩
  | 65 => ⟨S1x1x512, .f32⟩
  | 66 => ⟨S4x8192x512, .f32⟩
  | 67 => ⟨S4x8192x512, .f32⟩
  | 68 => ⟨S4x8192x512, .f32⟩
  | 69 => ⟨S1x512, .f32⟩
  | 70 => ⟨S512, .f32⟩
  | 71 => ⟨S4x8192x512, .f32⟩
  | 72 => ⟨S1x1x512, .f32⟩
  | 73 => ⟨S4x8192x512, .f32⟩
  | 74 => ⟨S4x8192x512, .f32⟩
  | 75 => ⟨S4x8192x512, .f32⟩
  | 76 => ⟨S1x512, .f32⟩
  | 77 => ⟨S512, .f32⟩
  | 78 => ⟨S4x8192x512, .f32⟩
  | 79 => ⟨S1x1x512, .f32⟩
  | 80 => ⟨S4x8192x512, .f32⟩
  | 81 => ⟨S4x8192x512, .f32⟩
  | 82 => ⟨S4x8192x512, .f32⟩
  | 83 => ⟨S1x512, .f32⟩
  | 84 => ⟨S512, .f32⟩
  | 85 => ⟨S4x8192x512, .f32⟩
  | 86 => ⟨S1x1x512, .f32⟩
  | 87 => ⟨S4x8192x512, .f32⟩
  | 88 => ⟨S4x8192x512, .f32⟩
  | 89 => ⟨S4x8192x512, .f32⟩
  | 90 => ⟨S1x512, .f32⟩
  | 91 => ⟨S512, .f32⟩
  | 92 => ⟨S4x8192x512, .f32⟩
  | 93 => ⟨S1x1x512, .f32⟩
  | 94 => ⟨S4x8192x512, .f32⟩
  | 95 => ⟨S4x8192x512, .f32⟩
  | 96 => ⟨S4x8192x512, .f32⟩
  | 97 => ⟨S1x512, .f32⟩
  | 98 => ⟨S512, .f32⟩
  | 99 => ⟨S4x8192x512, .f32⟩
  | 100 => ⟨S1x1x512, .f32⟩
  | 101 => ⟨S4x8192x512, .f32⟩
  | 102 => ⟨S4x8192x512, .f32⟩
  | 103 => ⟨S4x8192x512, .f32⟩
  | 104 => ⟨S1x512, .f32⟩
  | 105 => ⟨S512, .f32⟩
  | 106 => ⟨S4x8192x512, .f32⟩
  | 107 => ⟨S1x1x512, .f32⟩
  | 108 => ⟨S4x8192x512, .f32⟩
  | 109 => ⟨S4x8192x512, .f32⟩
  | 110 => ⟨S4x8192x512, .f32⟩
  | 111 => ⟨S1x512, .f32⟩
  | 112 => ⟨S512, .f32⟩
  | 113 => ⟨S4x8192x512, .f32⟩
  | 114 => ⟨S1x1x512, .f32⟩
  | 115 => ⟨S4x8192x512, .f32⟩
  | 116 => ⟨S4x8192x512, .f32⟩
  | 117 => ⟨S4x8192x512, .f32⟩
  | 118 => ⟨S1x512, .f32⟩
  | 119 => ⟨S512, .f32⟩
  | 120 => ⟨S4x8192x512, .f32⟩
  | 121 => ⟨S1x1x512, .f32⟩
  | 122 => ⟨S4x8192x512, .f32⟩
  | 123 => ⟨S4x8192x512, .f32⟩
  | 124 => ⟨S4x8192x512, .f32⟩
  | 125 => ⟨S1x512, .f32⟩
  | 126 => ⟨S512, .f32⟩
  | 127 => ⟨S4x8192x512, .f32⟩
  | _ => ⟨S32768x1024, .f32⟩

abbrev hbmTy0_2 (i : Nat) : BufTy := match i % 128 with
  | 0 => ⟨S1x1x512, .f32⟩
  | 1 => ⟨S4x8192x512, .f32⟩
  | 2 => ⟨S4x8192x512, .f32⟩
  | 3 => ⟨S4x8192x512, .f32⟩
  | 4 => ⟨S1x1x512, .f32⟩
  | 5 => ⟨S4x8192x512, .f32⟩
  | 6 => ⟨S4x8192x512, .f32⟩
  | 7 => ⟨S_, .f32⟩
  | 8 => ⟨S4x8192, .f32⟩
  | 9 => ⟨S4x8192x1, .f32⟩
  | 10 => ⟨S_, .f32⟩
  | 11 => ⟨S4x8192x1, .f32⟩
  | 12 => ⟨S4x8192x1, .f32⟩
  | 13 => ⟨S4x8192x512, .f32⟩
  | 14 => ⟨S4x8192x512, .f32⟩
  | 15 => ⟨S4x8192x512, .f32⟩
  | 16 => ⟨S_, .f32⟩
  | 17 => ⟨S4x8192, .f32⟩
  | 18 => ⟨S4x8192x1, .f32⟩
  | 19 => ⟨S_, .f32⟩
  | 20 => ⟨S4x8192x1, .f32⟩
  | 21 => ⟨S4x8192x1, .f32⟩
  | 22 => ⟨S4x8192x512, .f32⟩
  | 23 => ⟨S4x8192x512, .f32⟩
  | 24 => ⟨S_, .f32⟩
  | 25 => ⟨S4x8192x1, .f32⟩
  | 26 => ⟨S4x8192x1, .f32⟩
  | 27 => ⟨S4x8192x1, .f32⟩
  | 28 => ⟨S4x8192x512, .f32⟩
  | 29 => ⟨S4x8192x512, .f32⟩
  | 30 => ⟨S1x1x512, .f32⟩
  | 31 => ⟨S4x8192x512, .f32⟩
  | 32 => ⟨S4x8192x512, .f32⟩
  | 33 => ⟨S1x1x512, .f32⟩
  | 34 => ⟨S4x8192x512, .f32⟩
  | 35 => ⟨S4x8192x512, .f32⟩
  | 36 => ⟨S4x8192x512, .f32⟩
  | 37 => ⟨S4x8192x512, .f32⟩
  | 38 => ⟨S_, .f32⟩
  | 39 => ⟨S4x8192x512, .f32⟩
  | 40 => ⟨S4x8192x512, .f32⟩
  | 41 => ⟨S_, .f32⟩
  | 42 => ⟨S4x8192x512, .f32⟩
  | 43 => ⟨S4x8192x512, .f32⟩
  | 44 => ⟨S4x8192x512, .f32⟩
  | 45 => ⟨S4x8192x512, .f32⟩
  | 46 => ⟨S4x8192x2x4x64, .f32⟩
  | 47 => ⟨S4x8192x128, .f32⟩
  | 48 => ⟨S4x8192x2x64, .f32⟩
  | 49 => ⟨S4x8192x128, .f32⟩
  | 50 => ⟨S4x8192x2x64, .f32⟩
  | 51 => ⟨S4x64x128x2x4x64, .f32⟩
  | 52 => ⟨S4x64x128x2x64, .f32⟩
  | 53 => ⟨S4x64x128x2x64, .f32⟩
  | 54 => ⟨S_, .i32⟩
  | 55 => ⟨S_, .f32⟩
  | 56 => ⟨S4x65x128x2x64, .f32⟩
  | 57 => ⟨S4x64x128x2x64, .f32⟩
  | 58 => ⟨S4x64x256x2x64, .f32⟩
  | 59 => ⟨S_, .i32⟩
  | 60 => ⟨S_, .f32⟩
  | 61 => ⟨S4x65x128x2x64, .f32⟩
  | 62 => ⟨S4x64x128x2x64, .f32⟩
  | 63 => ⟨S4x64x256x2x64, .f32⟩
  | 64 => ⟨S4x64x2x256x128x4, .f32⟩
  | 65 => ⟨S4x64x2x4x128x256, .f32⟩
  | 66 => ⟨S_, .f32⟩
  | 67 => ⟨S4x64x2x4x128x256, .f32⟩
  | 68 => ⟨S4x64x2x4x128x256, .f32⟩
  | 69 => ⟨S128, .i32⟩
  | 70 => ⟨S128x1, .i32⟩
  | 71 => ⟨S_, .i32⟩
  | 72 => ⟨S128x1, .i32⟩
  | 73 => ⟨S128x1, .i32⟩
  | 74 => ⟨S256, .i32⟩
  | 75 => ⟨S1x256, .i32⟩
  | 76 => ⟨S128x256, .i32⟩
  | 77 => ⟨S128x256, .i32⟩
  | 78 => ⟨S128x256, .i32⟩
  | 79 => ⟨S64, .i32⟩
  | 80 => ⟨S64x1, .i32⟩
  | 81 => ⟨S_, .i32⟩
  | 82 => ⟨S64x1, .i32⟩
  | 83 => ⟨S64x1, .i32⟩
  | 84 => ⟨S_, .i32⟩
  | 85 => ⟨S64x1, .i32⟩
  | 86 => ⟨S64x1, .i32⟩
  | 87 => ⟨S256, .i32⟩
  | 88 => ⟨S1x256, .i32⟩
  | 89 => ⟨S64x256, .i32⟩
  | 90 => ⟨S64x256, .i32⟩
  | 91 => ⟨S64x256, .i32⟩
  | 92 => ⟨S_, .i32⟩
  | 93 => ⟨S128x256, .i32⟩
  | 94 => ⟨S128x256, .i1⟩
  | 95 => ⟨S_, .i32⟩
  | 96 => ⟨S128x256, .i32⟩
  | 97 => ⟨S128x256, .i1⟩
  | 98 => ⟨S128x256, .i1⟩
  | 99 => ⟨S1x128x256, .i1⟩
  | 100 => ⟨S_, .i32⟩
  | 101 => ⟨S64x256, .i32⟩
  | 102 => ⟨S64x256, .i1⟩
  | 103 => ⟨S64x1x256, .i1⟩
  | 104 => ⟨S64x128x256, .i1⟩
  | 105 => ⟨S64x128x256, .i1⟩
  | 106 => ⟨S64x128x256, .i1⟩
  | 107 => ⟨S8, .f32⟩
  | 108 => ⟨S_, .f32⟩
  | 109 => ⟨S8, .f32⟩
  | 110 => ⟨S8, .f32⟩
  | 111 => ⟨S_, .f32⟩
  | 112 => ⟨S8, .f32⟩
  | 113 => ⟨S8, .f32⟩
  | 114 => ⟨S_, .f32⟩
  | 115 => ⟨S8, .f32⟩
  | 116 => ⟨S8, .f32⟩
  | 117 => ⟨S_, .f32⟩
  | 118 => ⟨S8, .f32⟩
  | 119 => ⟨S8, .f32⟩
  | 120 => ⟨S2x4, .f32⟩
  | 121 => ⟨S2x4x1x1, .f32⟩
  | 122 => ⟨S128x256, .f32⟩
  | 123 => ⟨S1x1x128x256, .f32⟩
  | 124 => ⟨S2x4x128x256, .f32⟩
  | 125 => ⟨S2x4x128x256, .f32⟩
  | 126 => ⟨S2x4x128x256, .f32⟩
  | 127 => ⟨S1x1x2x4x128x256, .f32⟩
  | _ => ⟨S32768x1024, .f32⟩

abbrev hbmTy0_3 (i : Nat) : BufTy := match i % 128 with
  | 0 => ⟨S4x64x2x4x128x256, .f32⟩
  | 1 => ⟨S4x64x2x4x128x256, .f32⟩
  | 2 => ⟨S1x64x1x1x128x256, .i1⟩
  | 3 => ⟨S_, .f32⟩
  | 4 => ⟨S_, .f32⟩
  | 5 => ⟨S4x64x2x4x128x256, .i1⟩
  | 6 => ⟨S4x64x2x4x128x256, .f32⟩
  | 7 => ⟨S4x64x2x4x128x256, .f32⟩
  | 8 => ⟨S2x4, .f32⟩
  | 9 => ⟨S1x1x2x4x1x1, .f32⟩
  | 10 => ⟨S4x64x2x4x128x1, .f32⟩
  | 11 => ⟨S4x64x2x4x128x257, .f32⟩
  | 12 => ⟨S_, .f32⟩
  | 13 => ⟨S4x64x2x4x128, .f32⟩
  | 14 => ⟨S_, .f32⟩
  | 15 => ⟨S4x64x2x4x128, .f32⟩
  | 16 => ⟨S4x64x2x4x128, .f32⟩
  | 17 => ⟨S4x64x2x4x128x1, .f32⟩
  | 18 => ⟨S4x64x2x4x128x257, .f32⟩
  | 19 => ⟨S4x64x2x4x128x257, .f32⟩
  | 20 => ⟨S4x64x2x4x128x257, .f32⟩
  | 21 => ⟨S_, .f32⟩
  | 22 => ⟨S4x64x2x4x128, .f32⟩
  | 23 => ⟨S4x64x2x4x128x1, .f32⟩
  | 24 => ⟨S4x64x2x4x128x257, .f32⟩
  | 25 => ⟨S4x64x2x4x128x257, .f32⟩
  | 26 => ⟨S4x64x2x4x128x256, .f32⟩
  | 27 => ⟨S4x64x2x64x4x128, .f32⟩
  | 28 => ⟨S4x64x128x2x4x64, .f32⟩
  | 29 => ⟨S4x8192x512, .f32⟩
  | 30 => ⟨S4x8192x1024, .f32⟩
  | 31 => ⟨S4x8192x1024, .f32⟩
  | 32 => ⟨S4x8192x1024, .f32⟩
  | 33 => ⟨S32768x1024, .f32⟩
  | _ => ⟨S32768x1024, .f32⟩

abbrev hbmTy (i : Nat) : BufTy := match i / 128 with
  | 0 => hbmTy0_0 i
  | 1 => hbmTy0_1 i
  | 2 => hbmTy0_2 i
  | 3 => hbmTy0_3 i
  | _ => ⟨S32768x1024, .f32⟩

abbrev bufTy : (tb : Table) → Fin (tcTables nBuf tb) → BufTy
  | .hbm, ⟨i, _⟩ => hbmTy i
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_cst_0 : Ref sig .tc := ⟨.hbm, 14, rfl⟩
abbrev main_v4 : Ref sig .tc := ⟨.hbm, 15, rfl⟩
abbrev main_v5 : Ref sig .tc := ⟨.hbm, 16, rfl⟩
abbrev main_cst_1 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_2 : Ref sig .tc := ⟨.hbm, 31, rfl⟩
abbrev main_v19 : Ref sig .tc := ⟨.hbm, 32, rfl⟩
abbrev main_v20 : Ref sig .tc := ⟨.hbm, 33, rfl⟩
abbrev main_cst_3 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_c : Ref sig .tc := ⟨.hbm, 38, rfl⟩
abbrev main_call0_v0 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst_4 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_v86 : Ref sig .tc := ⟨.hbm, 103, rfl⟩
abbrev main_v87 : Ref sig .tc := ⟨.hbm, 104, rfl⟩
abbrev main_v88 : Ref sig .tc := ⟨.hbm, 105, rfl⟩
abbrev main_v89 : Ref sig .tc := ⟨.hbm, 106, rfl⟩
abbrev main_v90 : Ref sig .tc := ⟨.hbm, 107, rfl⟩
abbrev main_v91 : Ref sig .tc := ⟨.hbm, 108, rfl⟩
abbrev main_v92 : Ref sig .tc := ⟨.hbm, 109, rfl⟩
abbrev main_v93 : Ref sig .tc := ⟨.hbm, 110, rfl⟩
abbrev main_v94 : Ref sig .tc := ⟨.hbm, 111, rfl⟩
abbrev main_v95 : Ref sig .tc := ⟨.hbm, 112, rfl⟩
abbrev main_v96 : Ref sig .tc := ⟨.hbm, 113, rfl⟩
abbrev main_v97 : Ref sig .tc := ⟨.hbm, 114, rfl⟩
abbrev main_v98 : Ref sig .tc := ⟨.hbm, 115, rfl⟩
abbrev main_v99 : Ref sig .tc := ⟨.hbm, 116, rfl⟩
abbrev main_v100 : Ref sig .tc := ⟨.hbm, 117, rfl⟩
abbrev main_v101 : Ref sig .tc := ⟨.hbm, 118, rfl⟩
abbrev main_v102 : Ref sig .tc := ⟨.hbm, 119, rfl⟩
abbrev main_v103 : Ref sig .tc := ⟨.hbm, 120, rfl⟩
abbrev main_v104 : Ref sig .tc := ⟨.hbm, 121, rfl⟩
abbrev main_v105 : Ref sig .tc := ⟨.hbm, 122, rfl⟩
abbrev main_v106 : Ref sig .tc := ⟨.hbm, 123, rfl⟩
abbrev main_v107 : Ref sig .tc := ⟨.hbm, 124, rfl⟩
abbrev main_v108 : Ref sig .tc := ⟨.hbm, 125, rfl⟩
abbrev main_v109 : Ref sig .tc := ⟨.hbm, 126, rfl⟩
abbrev main_v110 : Ref sig .tc := ⟨.hbm, 127, rfl⟩
abbrev main_v111 : Ref sig .tc := ⟨.hbm, 128, rfl⟩
abbrev main_v112 : Ref sig .tc := ⟨.hbm, 129, rfl⟩
abbrev main_v113 : Ref sig .tc := ⟨.hbm, 130, rfl⟩
abbrev main_v114 : Ref sig .tc := ⟨.hbm, 131, rfl⟩
abbrev main_v115 : Ref sig .tc := ⟨.hbm, 132, rfl⟩
abbrev main_v116 : Ref sig .tc := ⟨.hbm, 133, rfl⟩
abbrev main_v117 : Ref sig .tc := ⟨.hbm, 134, rfl⟩
abbrev main_v118 : Ref sig .tc := ⟨.hbm, 135, rfl⟩
abbrev main_v119 : Ref sig .tc := ⟨.hbm, 136, rfl⟩
abbrev main_v120 : Ref sig .tc := ⟨.hbm, 137, rfl⟩
abbrev main_v121 : Ref sig .tc := ⟨.hbm, 138, rfl⟩
abbrev main_v122 : Ref sig .tc := ⟨.hbm, 139, rfl⟩
abbrev main_v123 : Ref sig .tc := ⟨.hbm, 140, rfl⟩
abbrev main_v124 : Ref sig .tc := ⟨.hbm, 141, rfl⟩
abbrev main_v125 : Ref sig .tc := ⟨.hbm, 142, rfl⟩
abbrev main_v126 : Ref sig .tc := ⟨.hbm, 143, rfl⟩
abbrev main_v127 : Ref sig .tc := ⟨.hbm, 144, rfl⟩
abbrev main_v128 : Ref sig .tc := ⟨.hbm, 145, rfl⟩
abbrev main_v129 : Ref sig .tc := ⟨.hbm, 146, rfl⟩
abbrev main_v130 : Ref sig .tc := ⟨.hbm, 147, rfl⟩
abbrev main_v131 : Ref sig .tc := ⟨.hbm, 148, rfl⟩
abbrev main_v132 : Ref sig .tc := ⟨.hbm, 149, rfl⟩
abbrev main_v133 : Ref sig .tc := ⟨.hbm, 150, rfl⟩
abbrev main_v134 : Ref sig .tc := ⟨.hbm, 151, rfl⟩
abbrev main_v135 : Ref sig .tc := ⟨.hbm, 152, rfl⟩
abbrev main_v136 : Ref sig .tc := ⟨.hbm, 153, rfl⟩
abbrev main_v137 : Ref sig .tc := ⟨.hbm, 154, rfl⟩
abbrev main_v138 : Ref sig .tc := ⟨.hbm, 155, rfl⟩
abbrev main_v139 : Ref sig .tc := ⟨.hbm, 156, rfl⟩
abbrev main_v140 : Ref sig .tc := ⟨.hbm, 157, rfl⟩
abbrev main_v141 : Ref sig .tc := ⟨.hbm, 158, rfl⟩
abbrev main_v142 : Ref sig .tc := ⟨.hbm, 159, rfl⟩
abbrev main_v143 : Ref sig .tc := ⟨.hbm, 160, rfl⟩
abbrev main_v144 : Ref sig .tc := ⟨.hbm, 161, rfl⟩
abbrev main_v145 : Ref sig .tc := ⟨.hbm, 162, rfl⟩
abbrev main_v146 : Ref sig .tc := ⟨.hbm, 163, rfl⟩
abbrev main_v147 : Ref sig .tc := ⟨.hbm, 164, rfl⟩
abbrev main_v148 : Ref sig .tc := ⟨.hbm, 165, rfl⟩
abbrev main_v149 : Ref sig .tc := ⟨.hbm, 166, rfl⟩
abbrev main_v150 : Ref sig .tc := ⟨.hbm, 167, rfl⟩
abbrev main_v151 : Ref sig .tc := ⟨.hbm, 168, rfl⟩
abbrev main_v152 : Ref sig .tc := ⟨.hbm, 169, rfl⟩
abbrev main_v153 : Ref sig .tc := ⟨.hbm, 170, rfl⟩
abbrev main_v154 : Ref sig .tc := ⟨.hbm, 171, rfl⟩
abbrev main_v155 : Ref sig .tc := ⟨.hbm, 172, rfl⟩
abbrev main_v156 : Ref sig .tc := ⟨.hbm, 173, rfl⟩
abbrev main_v157 : Ref sig .tc := ⟨.hbm, 174, rfl⟩
abbrev main_v158 : Ref sig .tc := ⟨.hbm, 175, rfl⟩
abbrev main_v159 : Ref sig .tc := ⟨.hbm, 176, rfl⟩
abbrev main_v160 : Ref sig .tc := ⟨.hbm, 177, rfl⟩
abbrev main_v161 : Ref sig .tc := ⟨.hbm, 178, rfl⟩
abbrev main_v162 : Ref sig .tc := ⟨.hbm, 179, rfl⟩
abbrev main_v163 : Ref sig .tc := ⟨.hbm, 180, rfl⟩
abbrev main_v164 : Ref sig .tc := ⟨.hbm, 181, rfl⟩
abbrev main_v165 : Ref sig .tc := ⟨.hbm, 182, rfl⟩
abbrev main_v166 : Ref sig .tc := ⟨.hbm, 183, rfl⟩
abbrev main_v167 : Ref sig .tc := ⟨.hbm, 184, rfl⟩
abbrev main_v168 : Ref sig .tc := ⟨.hbm, 185, rfl⟩
abbrev main_v169 : Ref sig .tc := ⟨.hbm, 186, rfl⟩
abbrev main_v170 : Ref sig .tc := ⟨.hbm, 187, rfl⟩
abbrev main_v171 : Ref sig .tc := ⟨.hbm, 188, rfl⟩
abbrev main_v172 : Ref sig .tc := ⟨.hbm, 189, rfl⟩
abbrev main_v173 : Ref sig .tc := ⟨.hbm, 190, rfl⟩
abbrev main_v174 : Ref sig .tc := ⟨.hbm, 191, rfl⟩
abbrev main_v175 : Ref sig .tc := ⟨.hbm, 192, rfl⟩
abbrev main_v176 : Ref sig .tc := ⟨.hbm, 193, rfl⟩
abbrev main_v177 : Ref sig .tc := ⟨.hbm, 194, rfl⟩
abbrev main_v178 : Ref sig .tc := ⟨.hbm, 195, rfl⟩
abbrev main_v179 : Ref sig .tc := ⟨.hbm, 196, rfl⟩
abbrev main_v180 : Ref sig .tc := ⟨.hbm, 197, rfl⟩
abbrev main_v181 : Ref sig .tc := ⟨.hbm, 198, rfl⟩
abbrev main_v182 : Ref sig .tc := ⟨.hbm, 199, rfl⟩
abbrev main_v183 : Ref sig .tc := ⟨.hbm, 200, rfl⟩
abbrev main_v184 : Ref sig .tc := ⟨.hbm, 201, rfl⟩
abbrev main_v185 : Ref sig .tc := ⟨.hbm, 202, rfl⟩
abbrev main_v186 : Ref sig .tc := ⟨.hbm, 203, rfl⟩
abbrev main_v187 : Ref sig .tc := ⟨.hbm, 204, rfl⟩
abbrev main_v188 : Ref sig .tc := ⟨.hbm, 205, rfl⟩
abbrev main_v189 : Ref sig .tc := ⟨.hbm, 206, rfl⟩
abbrev main_v190 : Ref sig .tc := ⟨.hbm, 207, rfl⟩
abbrev main_v191 : Ref sig .tc := ⟨.hbm, 208, rfl⟩
abbrev main_v192 : Ref sig .tc := ⟨.hbm, 209, rfl⟩
abbrev main_v193 : Ref sig .tc := ⟨.hbm, 210, rfl⟩
abbrev main_v194 : Ref sig .tc := ⟨.hbm, 211, rfl⟩
abbrev main_v195 : Ref sig .tc := ⟨.hbm, 212, rfl⟩
abbrev main_v196 : Ref sig .tc := ⟨.hbm, 213, rfl⟩
abbrev main_v197 : Ref sig .tc := ⟨.hbm, 214, rfl⟩
abbrev main_v198 : Ref sig .tc := ⟨.hbm, 215, rfl⟩
abbrev main_v199 : Ref sig .tc := ⟨.hbm, 216, rfl⟩
abbrev main_v200 : Ref sig .tc := ⟨.hbm, 217, rfl⟩
abbrev main_v201 : Ref sig .tc := ⟨.hbm, 218, rfl⟩
abbrev main_v202 : Ref sig .tc := ⟨.hbm, 219, rfl⟩
abbrev main_v203 : Ref sig .tc := ⟨.hbm, 220, rfl⟩
abbrev main_v204 : Ref sig .tc := ⟨.hbm, 221, rfl⟩
abbrev main_v205 : Ref sig .tc := ⟨.hbm, 222, rfl⟩
abbrev main_v206 : Ref sig .tc := ⟨.hbm, 223, rfl⟩
abbrev main_v207 : Ref sig .tc := ⟨.hbm, 224, rfl⟩
abbrev main_v208 : Ref sig .tc := ⟨.hbm, 225, rfl⟩
abbrev main_v209 : Ref sig .tc := ⟨.hbm, 226, rfl⟩
abbrev main_v210 : Ref sig .tc := ⟨.hbm, 227, rfl⟩
abbrev main_v211 : Ref sig .tc := ⟨.hbm, 228, rfl⟩
abbrev main_v212 : Ref sig .tc := ⟨.hbm, 229, rfl⟩
abbrev main_v213 : Ref sig .tc := ⟨.hbm, 230, rfl⟩
abbrev main_v214 : Ref sig .tc := ⟨.hbm, 231, rfl⟩
abbrev main_v215 : Ref sig .tc := ⟨.hbm, 232, rfl⟩
abbrev main_v216 : Ref sig .tc := ⟨.hbm, 233, rfl⟩
abbrev main_v217 : Ref sig .tc := ⟨.hbm, 234, rfl⟩
abbrev main_v218 : Ref sig .tc := ⟨.hbm, 235, rfl⟩
abbrev main_v219 : Ref sig .tc := ⟨.hbm, 236, rfl⟩
abbrev main_v220 : Ref sig .tc := ⟨.hbm, 237, rfl⟩
abbrev main_v221 : Ref sig .tc := ⟨.hbm, 238, rfl⟩
abbrev main_v222 : Ref sig .tc := ⟨.hbm, 239, rfl⟩
abbrev main_v223 : Ref sig .tc := ⟨.hbm, 240, rfl⟩
abbrev main_v224 : Ref sig .tc := ⟨.hbm, 241, rfl⟩
abbrev main_v225 : Ref sig .tc := ⟨.hbm, 242, rfl⟩
abbrev main_v226 : Ref sig .tc := ⟨.hbm, 243, rfl⟩
abbrev main_v227 : Ref sig .tc := ⟨.hbm, 244, rfl⟩
abbrev main_v228 : Ref sig .tc := ⟨.hbm, 245, rfl⟩
abbrev main_v229 : Ref sig .tc := ⟨.hbm, 246, rfl⟩
abbrev main_v230 : Ref sig .tc := ⟨.hbm, 247, rfl⟩
abbrev main_v231 : Ref sig .tc := ⟨.hbm, 248, rfl⟩
abbrev main_v232 : Ref sig .tc := ⟨.hbm, 249, rfl⟩
abbrev main_v233 : Ref sig .tc := ⟨.hbm, 250, rfl⟩
abbrev main_v234 : Ref sig .tc := ⟨.hbm, 251, rfl⟩
abbrev main_v235 : Ref sig .tc := ⟨.hbm, 252, rfl⟩
abbrev main_v236 : Ref sig .tc := ⟨.hbm, 253, rfl⟩
abbrev main_v237 : Ref sig .tc := ⟨.hbm, 254, rfl⟩
abbrev main_v238 : Ref sig .tc := ⟨.hbm, 255, rfl⟩
abbrev main_v239 : Ref sig .tc := ⟨.hbm, 256, rfl⟩
abbrev main_v240 : Ref sig .tc := ⟨.hbm, 257, rfl⟩
abbrev main_v241 : Ref sig .tc := ⟨.hbm, 258, rfl⟩
abbrev main_v242 : Ref sig .tc := ⟨.hbm, 259, rfl⟩
abbrev main_v243 : Ref sig .tc := ⟨.hbm, 260, rfl⟩
abbrev main_v244 : Ref sig .tc := ⟨.hbm, 261, rfl⟩
abbrev main_v245 : Ref sig .tc := ⟨.hbm, 262, rfl⟩
abbrev main_cst_5 : Ref sig .tc := ⟨.hbm, 263, rfl⟩
abbrev main_v246 : Ref sig .tc := ⟨.hbm, 264, rfl⟩
abbrev main_v247 : Ref sig .tc := ⟨.hbm, 265, rfl⟩
abbrev main_cst_6 : Ref sig .tc := ⟨.hbm, 266, rfl⟩
abbrev main_v248 : Ref sig .tc := ⟨.hbm, 267, rfl⟩
abbrev main_v249 : Ref sig .tc := ⟨.hbm, 268, rfl⟩
abbrev main_v250 : Ref sig .tc := ⟨.hbm, 269, rfl⟩
abbrev main_v251 : Ref sig .tc := ⟨.hbm, 270, rfl⟩
abbrev main_v252 : Ref sig .tc := ⟨.hbm, 271, rfl⟩
abbrev main_cst_7 : Ref sig .tc := ⟨.hbm, 272, rfl⟩
abbrev main_v253 : Ref sig .tc := ⟨.hbm, 273, rfl⟩
abbrev main_v254 : Ref sig .tc := ⟨.hbm, 274, rfl⟩
abbrev main_cst_8 : Ref sig .tc := ⟨.hbm, 275, rfl⟩
abbrev main_v255 : Ref sig .tc := ⟨.hbm, 276, rfl⟩
abbrev main_v256 : Ref sig .tc := ⟨.hbm, 277, rfl⟩
abbrev main_v257 : Ref sig .tc := ⟨.hbm, 278, rfl⟩
abbrev main_v258 : Ref sig .tc := ⟨.hbm, 279, rfl⟩
abbrev main_cst_9 : Ref sig .tc := ⟨.hbm, 280, rfl⟩
abbrev main_v259 : Ref sig .tc := ⟨.hbm, 281, rfl⟩
abbrev main_v260 : Ref sig .tc := ⟨.hbm, 282, rfl⟩
abbrev main_v261 : Ref sig .tc := ⟨.hbm, 283, rfl⟩
abbrev main_v262 : Ref sig .tc := ⟨.hbm, 284, rfl⟩
abbrev main_v263 : Ref sig .tc := ⟨.hbm, 285, rfl⟩
abbrev main_v264 : Ref sig .tc := ⟨.hbm, 286, rfl⟩
abbrev main_v265 : Ref sig .tc := ⟨.hbm, 287, rfl⟩
abbrev main_v266 : Ref sig .tc := ⟨.hbm, 288, rfl⟩
abbrev main_v267 : Ref sig .tc := ⟨.hbm, 289, rfl⟩
abbrev main_v268 : Ref sig .tc := ⟨.hbm, 290, rfl⟩
abbrev main_v269 : Ref sig .tc := ⟨.hbm, 291, rfl⟩
abbrev main_call1_v0 : Ref sig .tc := ⟨.hbm, 292, rfl⟩
abbrev main_call1_v1 : Ref sig .tc := ⟨.hbm, 293, rfl⟩
abbrev main_call1_cst : Ref sig .tc := ⟨.hbm, 294, rfl⟩
abbrev main_call1_v2 : Ref sig .tc := ⟨.hbm, 295, rfl⟩
abbrev main_call1_v3 : Ref sig .tc := ⟨.hbm, 296, rfl⟩
abbrev main_call1_cst_0 : Ref sig .tc := ⟨.hbm, 297, rfl⟩
abbrev main_call1_v4 : Ref sig .tc := ⟨.hbm, 298, rfl⟩
abbrev main_call1_v5 : Ref sig .tc := ⟨.hbm, 299, rfl⟩
abbrev main_v270 : Ref sig .tc := ⟨.hbm, 300, rfl⟩
abbrev main_v271 : Ref sig .tc := ⟨.hbm, 301, rfl⟩
abbrev main_v272 : Ref sig .tc := ⟨.hbm, 302, rfl⟩
abbrev main_v273 : Ref sig .tc := ⟨.hbm, 303, rfl⟩
abbrev main_v274 : Ref sig .tc := ⟨.hbm, 304, rfl⟩
abbrev main_v275 : Ref sig .tc := ⟨.hbm, 305, rfl⟩
abbrev main_v276 : Ref sig .tc := ⟨.hbm, 306, rfl⟩
abbrev main_v277 : Ref sig .tc := ⟨.hbm, 307, rfl⟩
abbrev main_v278 : Ref sig .tc := ⟨.hbm, 308, rfl⟩
abbrev main_v279 : Ref sig .tc := ⟨.hbm, 309, rfl⟩
abbrev main_c_10 : Ref sig .tc := ⟨.hbm, 310, rfl⟩
abbrev main_call2_v0 : Ref sig .tc := ⟨.hbm, 311, rfl⟩
abbrev main_v280 : Ref sig .tc := ⟨.hbm, 312, rfl⟩
abbrev main_v281 : Ref sig .tc := ⟨.hbm, 313, rfl⟩
abbrev main_v282 : Ref sig .tc := ⟨.hbm, 314, rfl⟩
abbrev main_c_11 : Ref sig .tc := ⟨.hbm, 315, rfl⟩
abbrev main_call3_v0 : Ref sig .tc := ⟨.hbm, 316, rfl⟩
abbrev main_v283 : Ref sig .tc := ⟨.hbm, 317, rfl⟩
abbrev main_v284 : Ref sig .tc := ⟨.hbm, 318, rfl⟩
abbrev main_v285 : Ref sig .tc := ⟨.hbm, 319, rfl⟩
abbrev main_v286 : Ref sig .tc := ⟨.hbm, 320, rfl⟩
abbrev main_v287 : Ref sig .tc := ⟨.hbm, 321, rfl⟩
abbrev main_cst_12 : Ref sig .tc := ⟨.hbm, 322, rfl⟩
abbrev main_v288 : Ref sig .tc := ⟨.hbm, 323, rfl⟩
abbrev main_v289 : Ref sig .tc := ⟨.hbm, 324, rfl⟩
abbrev main_v290 : Ref sig .tc := ⟨.hbm, 325, rfl⟩
abbrev main_v291 : Ref sig .tc := ⟨.hbm, 326, rfl⟩
abbrev main_c_13 : Ref sig .tc := ⟨.hbm, 327, rfl⟩
abbrev main_v292 : Ref sig .tc := ⟨.hbm, 328, rfl⟩
abbrev main_v293 : Ref sig .tc := ⟨.hbm, 329, rfl⟩
abbrev main_v294 : Ref sig .tc := ⟨.hbm, 330, rfl⟩
abbrev main_v295 : Ref sig .tc := ⟨.hbm, 331, rfl⟩
abbrev main_v296 : Ref sig .tc := ⟨.hbm, 332, rfl⟩
abbrev main_v297 : Ref sig .tc := ⟨.hbm, 333, rfl⟩
abbrev main_v298 : Ref sig .tc := ⟨.hbm, 334, rfl⟩
abbrev main_v299 : Ref sig .tc := ⟨.hbm, 335, rfl⟩
abbrev main_v300 : Ref sig .tc := ⟨.hbm, 336, rfl⟩
abbrev main_c_14 : Ref sig .tc := ⟨.hbm, 337, rfl⟩
abbrev main_v301 : Ref sig .tc := ⟨.hbm, 338, rfl⟩
abbrev main_v302 : Ref sig .tc := ⟨.hbm, 339, rfl⟩
abbrev main_c_15 : Ref sig .tc := ⟨.hbm, 340, rfl⟩
abbrev main_v303 : Ref sig .tc := ⟨.hbm, 341, rfl⟩
abbrev main_v304 : Ref sig .tc := ⟨.hbm, 342, rfl⟩
abbrev main_v305 : Ref sig .tc := ⟨.hbm, 343, rfl⟩
abbrev main_v306 : Ref sig .tc := ⟨.hbm, 344, rfl⟩
abbrev main_v307 : Ref sig .tc := ⟨.hbm, 345, rfl⟩
abbrev main_v308 : Ref sig .tc := ⟨.hbm, 346, rfl⟩
abbrev main_v309 : Ref sig .tc := ⟨.hbm, 347, rfl⟩
abbrev main_c_16 : Ref sig .tc := ⟨.hbm, 348, rfl⟩
abbrev main_v310 : Ref sig .tc := ⟨.hbm, 349, rfl⟩
abbrev main_v311 : Ref sig .tc := ⟨.hbm, 350, rfl⟩
abbrev main_c_17 : Ref sig .tc := ⟨.hbm, 351, rfl⟩
abbrev main_v312 : Ref sig .tc := ⟨.hbm, 352, rfl⟩
abbrev main_v313 : Ref sig .tc := ⟨.hbm, 353, rfl⟩
abbrev main_v314 : Ref sig .tc := ⟨.hbm, 354, rfl⟩
abbrev main_v315 : Ref sig .tc := ⟨.hbm, 355, rfl⟩
abbrev main_c_18 : Ref sig .tc := ⟨.hbm, 356, rfl⟩
abbrev main_v316 : Ref sig .tc := ⟨.hbm, 357, rfl⟩
abbrev main_v317 : Ref sig .tc := ⟨.hbm, 358, rfl⟩
abbrev main_v318 : Ref sig .tc := ⟨.hbm, 359, rfl⟩
abbrev main_v319 : Ref sig .tc := ⟨.hbm, 360, rfl⟩
abbrev main_v320 : Ref sig .tc := ⟨.hbm, 361, rfl⟩
abbrev main_v321 : Ref sig .tc := ⟨.hbm, 362, rfl⟩
abbrev main_v322 : Ref sig .tc := ⟨.hbm, 363, rfl⟩
abbrev main_cst_19 : Ref sig .tc := ⟨.hbm, 364, rfl⟩
abbrev main_v323 : Ref sig .tc := ⟨.hbm, 365, rfl⟩
abbrev main_v324 : Ref sig .tc := ⟨.hbm, 366, rfl⟩
abbrev main_cst_20 : Ref sig .tc := ⟨.hbm, 367, rfl⟩
abbrev main_v325 : Ref sig .tc := ⟨.hbm, 368, rfl⟩
abbrev main_v326 : Ref sig .tc := ⟨.hbm, 369, rfl⟩
abbrev main_cst_21 : Ref sig .tc := ⟨.hbm, 370, rfl⟩
abbrev main_v327 : Ref sig .tc := ⟨.hbm, 371, rfl⟩
abbrev main_v328 : Ref sig .tc := ⟨.hbm, 372, rfl⟩
abbrev main_cst_22 : Ref sig .tc := ⟨.hbm, 373, rfl⟩
abbrev main_v329 : Ref sig .tc := ⟨.hbm, 374, rfl⟩
abbrev main_v330 : Ref sig .tc := ⟨.hbm, 375, rfl⟩
abbrev main_v331 : Ref sig .tc := ⟨.hbm, 376, rfl⟩
abbrev main_v332 : Ref sig .tc := ⟨.hbm, 377, rfl⟩
abbrev main_v333 : Ref sig .tc := ⟨.hbm, 378, rfl⟩
abbrev main_v334 : Ref sig .tc := ⟨.hbm, 379, rfl⟩
abbrev main_v335 : Ref sig .tc := ⟨.hbm, 380, rfl⟩
abbrev main_v336 : Ref sig .tc := ⟨.hbm, 381, rfl⟩
abbrev main_v337 : Ref sig .tc := ⟨.hbm, 382, rfl⟩
abbrev main_v338 : Ref sig .tc := ⟨.hbm, 383, rfl⟩
abbrev main_v339 : Ref sig .tc := ⟨.hbm, 384, rfl⟩
abbrev main_v340 : Ref sig .tc := ⟨.hbm, 385, rfl⟩
abbrev main_v341 : Ref sig .tc := ⟨.hbm, 386, rfl⟩
abbrev main_cst_23 : Ref sig .tc := ⟨.hbm, 387, rfl⟩
abbrev main_call4_v0 : Ref sig .tc := ⟨.hbm, 388, rfl⟩
abbrev main_call4_v1 : Ref sig .tc := ⟨.hbm, 389, rfl⟩
abbrev main_call4_v2 : Ref sig .tc := ⟨.hbm, 390, rfl⟩
abbrev main_v342 : Ref sig .tc := ⟨.hbm, 391, rfl⟩
abbrev main_v343 : Ref sig .tc := ⟨.hbm, 392, rfl⟩
abbrev main_v344 : Ref sig .tc := ⟨.hbm, 393, rfl⟩
abbrev main_v345 : Ref sig .tc := ⟨.hbm, 394, rfl⟩
abbrev main_v346 : Ref sig .tc := ⟨.hbm, 395, rfl⟩
abbrev main_cst_24 : Ref sig .tc := ⟨.hbm, 396, rfl⟩
abbrev main_v347 : Ref sig .tc := ⟨.hbm, 397, rfl⟩
abbrev main_cst_25 : Ref sig .tc := ⟨.hbm, 398, rfl⟩
abbrev main_v348 : Ref sig .tc := ⟨.hbm, 399, rfl⟩
abbrev main_v349 : Ref sig .tc := ⟨.hbm, 400, rfl⟩
abbrev main_v350 : Ref sig .tc := ⟨.hbm, 401, rfl⟩
abbrev main_v351 : Ref sig .tc := ⟨.hbm, 402, rfl⟩
abbrev main_v352 : Ref sig .tc := ⟨.hbm, 403, rfl⟩
abbrev main_v353 : Ref sig .tc := ⟨.hbm, 404, rfl⟩
abbrev main_cst_26 : Ref sig .tc := ⟨.hbm, 405, rfl⟩
abbrev main_v354 : Ref sig .tc := ⟨.hbm, 406, rfl⟩
abbrev main_v355 : Ref sig .tc := ⟨.hbm, 407, rfl⟩
abbrev main_v356 : Ref sig .tc := ⟨.hbm, 408, rfl⟩
abbrev main_v357 : Ref sig .tc := ⟨.hbm, 409, rfl⟩
abbrev main_v358 : Ref sig .tc := ⟨.hbm, 410, rfl⟩
abbrev main_v359 : Ref sig .tc := ⟨.hbm, 411, rfl⟩
abbrev main_v360 : Ref sig .tc := ⟨.hbm, 412, rfl⟩
abbrev main_v361 : Ref sig .tc := ⟨.hbm, 413, rfl⟩
abbrev main_v362 : Ref sig .tc := ⟨.hbm, 414, rfl⟩
abbrev main_v363 : Ref sig .tc := ⟨.hbm, 415, rfl⟩
abbrev main_v364 : Ref sig .tc := ⟨.hbm, 416, rfl⟩
abbrev main_v365 : Ref sig .tc := ⟨.hbm, 417, rfl⟩

abbrev nD : Nat := 1
abbrev τ : Topo := Topo.v7x

variable {F : FTy → Type} [FloatOps F]
-- ==== Proof.Spec.lean ====
module

public import Idealize.ShloMosaic.Lib.Pipeline.ValueKit
public import Idealize.ShloMosaic.Lib.Pointwise
public import Idealize.ShloMosaic.Lib.Claim

/-!
The row formulas of the layer over the extended reals, written once and used by every call: the mean-square
normalisation of a row, the gated product, and the feed-forward row.
-/

set_option maxRecDepth 16384

@[expose] public section
noncomputable section

open Idealize.ShloMosaic Idealize.ShloMosaic.TcCoe Idealize.SL.Sem

namespace Cert.Spec

/-- The row `x` over the root of its mean square (width 1024, with the layer's epsilon), times the gain `g`. -/
def rms (x g : Fin 1024 → EReal) (k : Fin 1024) : EReal :=
  x k * Ideal.rsqrt (Ideal.div (∑ l, x l * x l) (Ideal.ofBits .f32 0x44800000#32) + Ideal.ofBits .f32 0x358637BD#32) * g k

/-- The gated product: `a` times its logistic, times `b`. -/
def glu (a b : EReal) : EReal := a * Ideal.logistic a * b

/-- One row of the hidden layer at feature `f`: the row times the gate column `f`, gated, times the row times
    the value column `2816 + f`. -/
def hid (u : Fin 1024 → EReal) (w : Fin 1024 → Fin 5632 → EReal) (f : Fin 2816) : EReal :=
  glu (∑ d, u d * w d ⟨f.val, by omega⟩) (∑ d, u d * w d ⟨2816 + f.val, by omega⟩)

/-- One row of the feed-forward layer: the row plus half of the hidden row times the down projection. -/
def ffn (x g : Fin 1024 → EReal) (w : Fin 1024 → Fin 5632 → EReal) (d : Fin 2816 → Fin 1024 → EReal) (j : Fin 1024) : EReal :=
  x j + Ideal.ofBits .f32 0x3F000000#32 * ∑ f, hid (rms x g) w f * d f j

/-- Division of one by one plus `e^(-a)` is the logistic. -/
theorem div_exp (a : EReal) :
    Ideal.div 1 (1 + Ideal.exp (-a)) = Ideal.logistic a := rfl

/-- A sum over 2816 features is the sum of five chunks of 512 and one of 256, added from the left. -/
theorem sum_chunks (h : Fin 2816 → EReal) :
    ∑ f, h f = (∑ k : Fin 512, h ⟨k.val, by omega⟩) + (∑ k : Fin 512, h ⟨512 + k.val, by omega⟩)
      + (∑ k : Fin 512, h ⟨1024 + k.val, by omega⟩) + (∑ k : Fin 512, h ⟨1536 + k.val, by omega⟩)
      + (∑ k : Fin 512, h ⟨2048 + k.val, by omega⟩) + (∑ k : Fin 256, h ⟨2560 + k.val, by omega⟩) := by
  rw [show (∑ f, h f) = ∑ f : Fin (512 + 512 + 512 + 512 + 512 + 256), h (Fin.cast (by rfl) f) from rfl]
  simp only [Fin.sum_univ_add]
  rfl

end Cert.Spec

end
end
-- ==== Proof.FfnPay.lean ====
module

public import proofs.«01_k».proof.Proof.Spec
public import proofs.«01_k».proof.Proof.Gen.FfnIdeal.Value

set_option maxRecDepth 16384

@[expose] public section
noncomputable section

open Idealize.ShloMosaic Idealize.ShloMosaic.TcCoe Idealize.SL.Sem
open Idealize.ShloMosaic.Pipeline (Dat)

namespace Cert.FfnIdeal.Row
open Cert.FfnIdeal Cert.FfnIdeal.Gen Cert.Spec

/-- The normalised block at a row is the normalised row. -/
theorem norm (x0 : Vec Ideal S512x1024 .f32) (x1 : Vec Ideal S1x1024 .f32) (r : Fin 512) (k : Fin 1024) :
    k0_pay2 x0 x1 (ix2 r k) = rms (fun l => x0 (ix2 r l)) (fun l => x1 (ix2 0 l)) k := by
  pointwise [k0_pay2]
  rfl

variable (x0 : Vec Ideal S512x1024 .f32) (x1 : Vec Ideal S1x1024 .f32) (x2 : Vec Ideal S1024x5632 .bf16) (x3 : Vec Ideal S2816x1024 .bf16)

/-- What the body stores, at a row, is the feed-forward row of the block's row. -/
theorem blk (r : Fin 512) (j : Fin 1024) :
    out0_4 x0 x1 x2 x3 (ix2 r j) = ffn (fun l => x0 (ix2 r l)) (fun l => x1 (ix2 0 l)) (fun d f => x2 (ix2 d f)) (fun f j => x3 (ix2 f j)) j := by
  frame_out
  pointwise [k0_pay1, k0_pay3, k0_pay4, k0_pay5, k0_pay6, k0_pay7, k0_pay8]
  simp only [norm]
  pointwise []
  unfold ffn
  rw [sum_chunks]
  simp only [hid, glu, ← Nat.add_assoc, Nat.reduceAdd]

end Cert.FfnIdeal.Row

end
end
-- ==== Proof.FfnRef.lean ====
module

public import proofs.«01_k».proof.Proof.Spec
public import proofs.«01_k».proof.Proof.Gen.RefFfnIdeal.Read

set_option maxRecDepth 16384

@[expose] public section
noncomputable section

open Idealize.ShloMosaic Idealize.ShloMosaic.TcCoe Idealize.SL.Sem

namespace Cert.RefFfnIdeal.Row
open Cert.RefFfnIdeal Cert.RefFfnIdeal.Read Cert.Spec

/-- Stage 12 at a row is the normalised row. -/
theorem norm (x0 : (⟨S32768x1024, .f32⟩ : BufTy).Contents (Elt Ideal)) (x1 : (⟨S1024, .f32⟩ : BufTy).Contents (Elt Ideal)) (r : Fin 32768) (k : Fin 1024) :
    val_main_v12 x0 x1 (ix2 r k) = rms (fun l => x0 (ix2 r l)) (fun l => x1 (ix1 l)) k := by
  pointwise [val_main_v12, val_main_v11, val_main_v10, val_main_v9, val_main_v8, val_main_v7, val_main_v6, val_main_v5, val_main_v4, val_main_v3, val_main_v2, val_main_v1, val_main_v0, val_main_cst, val_main_cst_0, val_main_cst_1]
  rfl

/-- Stage 13 at a row is the normalised row times the first weight. -/
theorem up (x0 : (⟨S32768x1024, .f32⟩ : BufTy).Contents (Elt Ideal)) (x1 : (⟨S1024, .f32⟩ : BufTy).Contents (Elt Ideal)) (x2 : (⟨S1024x5632, .f32⟩ : BufTy).Contents (Elt Ideal)) (r : Fin 32768) (k : Fin 5632) :
    val_main_v13 x0 x1 x2 (ix2 r k) = ∑ d, rms (fun l => x0 (ix2 r l)) (fun l => x1 (ix1 l)) d * x2 (ix2 d k) := by
  pointwise [val_main_v13]
  simp only [norm]

/-- Stage 17 at a row is the hidden row. -/
theorem hidden (x0 : (⟨S32768x1024, .f32⟩ : BufTy).Contents (Elt Ideal)) (x1 : (⟨S1024, .f32⟩ : BufTy).Contents (Elt Ideal)) (x2 : (⟨S1024x5632, .f32⟩ : BufTy).Contents (Elt Ideal)) (r : Fin 32768) (k : Fin 2816) :
    val_main_v17 x0 x1 x2 (ix2 r k) = hid (rms (fun l => x0 (ix2 r l)) (fun l => x1 (ix1 l))) (fun d f => x2 (ix2 d f)) k := by
  pointwise [val_main_v17, val_main_v16, val_main_v15, val_main_call0_v5, val_main_call0_v4, val_main_call0_cst_0, val_main_call0_v3, val_main_call0_v2, val_main_call0_cst, val_main_call0_v1, val_main_call0_v0, val_main_v14]
  simp only [up, div_exp, hid, glu]

/-- The result at a row is the feed-forward row. -/
theorem out (x0 : (⟨S32768x1024, .f32⟩ : BufTy).Contents (Elt Ideal)) (x1 : (⟨S1024, .f32⟩ : BufTy).Contents (Elt Ideal)) (x2 : (⟨S1024x5632, .f32⟩ : BufTy).Contents (Elt Ideal)) (x3 : (⟨S2816x1024, .f32⟩ : BufTy).Contents (Elt Ideal)) (r : Fin 32768) (j : Fin 1024) :
    val_main_v21 x0 x1 x2 x3 (ix2 r j) = ffn (fun l => x0 (ix2 r l)) (fun l => x1 (ix1 l)) (fun d f => x2 (ix2 d f)) (fun f j => x3 (ix2 f j)) j := by
  pointwise [val_main_v21, val_main_v20, val_main_v19, val_main_cst_2, val_main_v18]
  simp only [hidden, ffn]

end Cert.RefFfnIdeal.Row

end
end
-- ==== Proof.FfnVal.lean ====
module

public import proofs.«01_k».proof.Proof.FfnPay
public import proofs.«01_k».proof.Proof.FfnRef

set_option maxRecDepth 16384

@[expose] public section
noncomputable section

open Idealize.ShloMosaic Idealize.ShloMosaic.TcCoe Idealize.SL.Sem
open Idealize.ShloMosaic.Pipeline (Dat)

namespace Cert.FfnIdeal.Row
open Cert.FfnIdeal Cert.FfnIdeal.Gen Cert.FfnIdeal.Value Cert.Spec

variable (m : (ℓ : Loc nD τ sig) → Buf (Elt Ideal) ℓ)

/-- Each window's block index at every grid point. -/
theorem idx : ∀ t : Fin cfg0.N, win0_0.index t = ![t.val, 0] ∧ win0_1.index t = ![0, 0] ∧ win0_2.index t = ![0, 0]
    ∧ win0_3.index t = ![0, 0] ∧ win0_4.index t = ![t.val, 0] :=
  (by decide +kernel : ∀ t : Fin grid0.N, _)

theorem lt_row (t : Fin cfg0.N) (r : Fin 512) : t.val * 512 + r.val < 32768 := by
  have : t.val < 64 := t.isLt
  omega

theorem read0 (c : Dev nD) (t : Fin cfg0.N) (r : Fin 512) (l : Fin 1024) :
    iblk m c 0 t (ix2 r l) = m ((c : Thread nD τ).loc main_arg0) (ix2 ⟨t.val * 512 + r.val, lt_row t r⟩ l) := by
  blk_ext [iblk, V, idx t]

theorem read1 (c : Dev nD) (t : Fin cfg0.N) (l : Fin 1024) :
    iblk m c 1 t (ix2 0 l) = m ((c : Thread nD τ).loc main_arg1) (ix1 l) := by
  blk_simp [iblk, idx t]
  entry_read
  pointwise []
  blk_ext [iblk, idx t]

theorem read2 (c : Dev nD) (t : Fin cfg0.N) (d : Fin 1024) (f : Fin 5632) :
    iblk m c 2 t (ix2 d f) = m ((c : Thread nD τ).loc main_arg2) (ix2 d f) := by
  blk_simp [iblk, idx t]
  entry_read
  pointwise []
  blk_ext [iblk, idx t]

theorem read3 (c : Dev nD) (t : Fin cfg0.N) (f : Fin 2816) (j : Fin 1024) :
    iblk m c 3 t (ix2 f j) = m ((c : Thread nD τ).loc main_arg3) (ix2 f j) := by
  blk_simp [iblk, idx t]
  entry_read
  pointwise []
  blk_ext [iblk, idx t]

/-- The body's result at a point is the reference's block there. -/
theorem point (c : Dev nD) (t : Fin cfg0.N) (r : Fin 512) (j : Fin 1024) :
    out0_4 (iblk m c 0 t) (iblk m c 1 t) (iblk m c 2 t) (iblk m c 3 t) (ix2 r j)
      = Cert.RefFfnIdeal.Read.val_main_v21 (m ((c : Thread nD τ).loc main_arg0)) (m ((c : Thread nD τ).loc main_arg1))
          (m ((c : Thread nD τ).loc main_arg2)) (m ((c : Thread nD τ).loc main_arg3)) ((win0_4.blk t).view.emb (ix2 r j)) := by
  have he : (win0_4.blk t).view.emb (ix2 r j) = ix2 ⟨t.val * 512 + r.val, lt_row t r⟩ j := by blk_ext [idx t]
  rw [blk, he]
  simp only [read0 m, read1 m, read2 m, read3 m]
  exact (Cert.RefFfnIdeal.Row.out _ _ _ _ _ _).symm

/-- The result array after the run is the reference's stage 21 of the arguments. -/
theorem final (c : Dev nD) :
    (dats m 0 c).arrAt 4 (cfgs 0).N
      = Cert.RefFfnIdeal.Read.val_main_v21 (m ((c : Thread nD τ).loc main_arg0)) (m ((c : Thread nD τ).loc main_arg1))
          (m ((c : Thread nD τ).loc main_arg2)) (m ((c : Thread nD τ).loc main_arg3)) := by
  refine (dats m 0 c).arrAt_eq_of_covers 4 _ (by decide +kernel) fun t _ y => ?_
  blk_simp
  rw [after0_4]
  obtain ⟨r, j, rfl⟩ : ∃ (r : Fin 512) (j : Fin 1024), y = ix2 r j := ⟨y 0, y 1, eq_ix2 y⟩
  exact point m c t r j

end Cert.FfnIdeal.Row

end
end
-- ==== Proof.FfnPair.lean ====
module

public import proofs.«01_k».proof.Defs
public import proofs.«01_k».proof.Proof.FfnVal
public import proofs.«01_k».proof.Proof.Gen.FfnIdeal.Frame
public import proofs.«01_k».proof.Proof.Gen.RefFfnIdeal.Run

set_option maxRecDepth 16384

@[expose] public section
noncomputable section

open Idealize.ShloMosaic Idealize.ShloMosaic.TcCoe Idealize.SL.Sem

namespace Cert.FfnIdeal.Row

/-- On the same arguments the kernel and the reference both finish, with the same result. -/
theorem algebraic : Cert.algebraic_FfnIdeal_RefFfnIdeal := by
  pair_intro
  · run_from Cert.FfnIdeal.Value.run_blocks m g
  · hlo_run
    exact (final m c).symm

end Cert.FfnIdeal.Row

end
end
-- ==== Proof.FfnFinalPay.lean ====
module

public import proofs.«01_k».proof.Proof.Spec
public import proofs.«01_k».proof.Proof.Gen.FfnFinalIdeal.Value

set_option maxRecDepth 16384

@[expose] public section
noncomputable section

open Idealize.ShloMosaic Idealize.ShloMosaic.TcCoe Idealize.SL.Sem
open Idealize.ShloMosaic.Pipeline (Dat)

namespace Cert.FfnFinalIdeal.Row
open Cert.FfnFinalIdeal Cert.FfnFinalIdeal.Gen Cert.Spec

/-- The normalised block at a row is the normalised row. -/
theorem norm (x0 : Vec Ideal S512x1024 .f32) (x1 : Vec Ideal S1x1024 .f32) (r : Fin 512) (k : Fin 1024) :
    k0_pay2 x0 x1 (ix2 r k) = rms (fun l => x0 (ix2 r l)) (fun l => x1 (ix2 0 l)) k := by
  pointwise [k0_pay2]
  rfl

variable (x0 : Vec Ideal S512x1024 .f32) (x1 : Vec Ideal S1x1024 .f32) (x2 : Vec Ideal S1024x5632 .bf16) (x3 : Vec Ideal S2816x1024 .bf16) (x4 : Vec Ideal S1x1024 .f32)

/-- The sum before the last normalisation, at a row, is the feed-forward row of the block's row. -/
theorem core (r : Fin 512) (j : Fin 1024) :
    k0_pay8 (View.ld x0 r0_0) (k0_pay11 x0 x1 x2 x3 x4) (k0_pay13 x0 x1 x2 x3 x4) (k0_pay14 x0 x1 x2 x3 x4) (k0_pay12 x0 x1 x2 x3 x4) (View.ld x2 r0_15) (View.ld x3 r0_16) (View.ld x2 r0_17) (View.ld x2 r0_18) (View.ld x3 r0_19) (ix2 r j)
      = ffn (fun l => x0 (ix2 r l)) (fun l => x1 (ix2 0 l)) (fun d f => x2 (ix2 d f)) (fun f j => x3 (ix2 f j)) j := by
  pointwise [k0_pay3, k0_pay4, k0_pay5, k0_pay6, k0_pay7, k0_pay8, k0_pay11, k0_pay12, k0_pay13, k0_pay14]
  simp only [norm]
  pointwise []
  unfold ffn
  rw [sum_chunks]
  simp only [hid, glu, ← Nat.add_assoc, Nat.reduceAdd]

/-- What the body stores, at a row, is the feed-forward row of the block's row, normalised. -/
theorem blk (r : Fin 512) (j : Fin 1024) :
    out0_5 x0 x1 x2 x3 x4 (ix2 r j) = rms (ffn (fun l => x0 (ix2 r l)) (fun l => x1 (ix2 0 l)) (fun d f => x2 (ix2 d f)) (fun f j => x3 (ix2 f j))) (fun l => x4 (ix2 0 l)) j := by
  have h := core x0 x1 x2 x3 x4
  unfold out0_5 k0_pay10
  generalize k0_pay8 (View.ld x0 r0_0) (k0_pay11 x0 x1 x2 x3 x4) (k0_pay13 x0 x1 x2 x3 x4) (k0_pay14 x0 x1 x2 x3 x4) (k0_pay12 x0 x1 x2 x3 x4) (View.ld x2 r0_15) (View.ld x3 r0_16) (View.ld x2 r0_17) (View.ld x2 r0_18) (View.ld x3 r0_19) = y at h ⊢
  frame_out
  pointwise [k0_pay1, k0_pay9]
  simp only [h]
  rfl

end Cert.FfnFinalIdeal.Row

end
end
-- ==== Proof.FfnFinalRef.lean ====
module

public import proofs.«01_k».proof.Proof.Spec
public import proofs.«01_k».proof.Proof.Gen.RefFfnFinalIdeal.Read

set_option maxRecDepth 16384

@[expose] public section
noncomputable section

open Idealize.ShloMosaic Idealize.ShloMosaic.TcCoe Idealize.SL.Sem

namespace Cert.RefFfnFinalIdeal.Row
open Cert.RefFfnFinalIdeal Cert.RefFfnFinalIdeal.Read Cert.Spec

/-- Stage 12 at a row is the normalised row. -/
theorem norm (x0 : (⟨S32768x1024, .f32⟩ : BufTy).Contents (Elt Ideal)) (x1 : (⟨S1024, .f32⟩ : BufTy).Contents (Elt Ideal)) (r : Fin 32768) (k : Fin 1024) :
    val_main_v12 x0 x1 (ix2 r k) = rms (fun l => x0 (ix2 r l)) (fun l => x1 (ix1 l)) k := by
  pointwise [val_main_v12, val_main_v11, val_main_v10, val_main_v9, val_main_v8, val_main_v7, val_main_v6, val_main_v5, val_main_v4, val_main_v3, val_main_v2, val_main_v1, val_main_v0, val_main_cst, val_main_cst_0, val_main_cst_1]
  rfl

/-- Stage 13 at a row is the normalised row times the first weight. -/
theorem up (x0 : (⟨S32768x1024, .f32⟩ : BufTy).Contents (Elt Ideal)) (x1 : (⟨S1024, .f32⟩ : BufTy).Contents (Elt Ideal)) (x2 : (⟨S1024x5632, .f32⟩ : BufTy).Contents (Elt Ideal)) (r : Fin 32768) (k : Fin 5632) :
    val_main_v13 x0 x1 x2 (ix2 r k) = ∑ d, rms (fun l => x0 (ix2 r l)) (fun l => x1 (ix1 l)) d * x2 (ix2 d k) := by
  pointwise [val_main_v13]
  simp only [norm]

/-- Stage 17 at a row is the hidden row. -/
theorem hidden (x0 : (⟨S32768x1024, .f32⟩ : BufTy).Contents (Elt Ideal)) (x1 : (⟨S1024, .f32⟩ : BufTy).Contents (Elt Ideal)) (x2 : (⟨S1024x5632, .f32⟩ : BufTy).Contents (Elt Ideal)) (r : Fin 32768) (k : Fin 2816) :
    val_main_v17 x0 x1 x2 (ix2 r k) = hid (rms (fun l => x0 (ix2 r l)) (fun l => x1 (ix1 l))) (fun d f => x2 (ix2 d f)) k := by
  pointwise [val_main_v17, val_main_v16, val_main_v15, val_main_call0_v5, val_main_call0_v4, val_main_call0_cst_0, val_main_call0_v3, val_main_call0_v2, val_main_call0_cst, val_main_call0_v1, val_main_call0_v0, val_main_v14]
  simp only [up, div_exp, hid, glu]

/-- Stage 21 at a row is the feed-forward row. -/
theorem core (x0 : (⟨S32768x1024, .f32⟩ : BufTy).Contents (Elt Ideal)) (x1 : (⟨S1024, .f32⟩ : BufTy).Contents (Elt Ideal)) (x2 : (⟨S1024x5632, .f32⟩ : BufTy).Contents (Elt Ideal)) (x3 : (⟨S2816x1024, .f32⟩ : BufTy).Contents (Elt Ideal)) (r : Fin 32768) (j : Fin 1024) :
    val_main_v21 x0 x1 x2 x3 (ix2 r j) = ffn (fun l => x0 (ix2 r l)) (fun l => x1 (ix1 l)) (fun d f => x2 (ix2 d f)) (fun f j => x3 (ix2 f j)) j := by
  pointwise [val_main_v21, val_main_v20, val_main_v19, val_main_cst_2, val_main_v18]
  simp only [hidden, ffn]

/-- The result at a row is the feed-forward row, normalised. -/
theorem out (x0 : (⟨S32768x1024, .f32⟩ : BufTy).Contents (Elt Ideal)) (x1 : (⟨S1024, .f32⟩ : BufTy).Contents (Elt Ideal)) (x2 : (⟨S1024x5632, .f32⟩ : BufTy).Contents (Elt Ideal)) (x3 : (⟨S2816x1024, .f32⟩ : BufTy).Contents (Elt Ideal)) (x4 : (⟨S1024, .f32⟩ : BufTy).Contents (Elt Ideal)) (r : Fin 32768) (j : Fin 1024) :
    val_main_v34 x0 x1 x2 x3 x4 (ix2 r j) = rms (ffn (fun l => x0 (ix2 r l)) (fun l => x1 (ix1 l)) (fun d f => x2 (ix2 d f)) (fun f j => x3 (ix2 f j))) (fun l => x4 (ix1 l)) j := by
  pointwise [val_main_v34, val_main_v33, val_main_v32, val_main_v31, val_main_v30, val_main_v29, val_main_v28, val_main_v27, val_main_v26, val_main_v25, val_main_v24, val_main_v23, val_main_v22, val_main_cst_3, val_main_cst_4, val_main_cst_5]
  simp only [core]
  rfl

end Cert.RefFfnFinalIdeal.Row

end
end
-- ==== Proof.FfnFinalVal.lean ====
module

public import proofs.«01_k».proof.Proof.FfnFinalPay
public import proofs.«01_k».proof.Proof.FfnFinalRef

set_option maxRecDepth 16384

@[expose] public section
noncomputable section

open Idealize.ShloMosaic Idealize.ShloMosaic.TcCoe Idealize.SL.Sem
open Idealize.ShloMosaic.Pipeline (Dat)

namespace Cert.FfnFinalIdeal.Row
open Cert.FfnFinalIdeal Cert.FfnFinalIdeal.Gen Cert.FfnFinalIdeal.Value Cert.Spec

variable (m : (ℓ : Loc nD τ sig) → Buf (Elt Ideal) ℓ)

/-- Each window's block index at every grid point. -/
theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![t.val, 0] :=
  (by decide +kernel : ∀ t : Fin grid0.N, _)

theorem lt_row (t : Fin cfg0.N) (r : Fin 512) : t.val * 512 + r.val < 32768 := by
  have : t.val < 64 := t.isLt
  omega

theorem read0 (c : Dev nD) (t : Fin cfg0.N) (r : Fin 512) (l : Fin 1024) :
    iblk m c 0 t (ix2 r l) = m ((c : Thread nD τ).loc main_arg0) (ix2 ⟨t.val * 512 + r.val, lt_row t r⟩ l) := by
  blk_ext [iblk, V, idx t]

theorem read1 (c : Dev nD) (t : Fin cfg0.N) (l : Fin 1024) :
    iblk m c 1 t (ix2 0 l) = m ((c : Thread nD τ).loc main_arg1) (ix1 l) := by
  blk_simp [iblk, idx t]
  entry_read
  pointwise []
  blk_ext [iblk, idx t]

theorem read2 (c : Dev nD) (t : Fin cfg0.N) (d : Fin 1024) (f : Fin 5632) :
    iblk m c 2 t (ix2 d f) = m ((c : Thread nD τ).loc main_arg2) (ix2 d f) := by
  blk_simp [iblk, idx t]
  entry_read
  pointwise []
  blk_ext [iblk, idx t]

theorem read3 (c : Dev nD) (t : Fin cfg0.N) (f : Fin 2816) (j : Fin 1024) :
    iblk m c 3 t (ix2 f j) = m ((c : Thread nD τ).loc main_arg3) (ix2 f j) := by
  blk_simp [iblk, idx t]
  entry_read
  pointwise []
  blk_ext [iblk, idx t]

theorem read4 (c : Dev nD) (t : Fin cfg0.N) (l : Fin 1024) :
    iblk m c 4 t (ix2 0 l) = m ((c : Thread nD τ).loc main_arg4) (ix1 l) := by
  blk_simp [iblk, idx t]
  entry_read
  pointwise []
  blk_ext [iblk, idx t]

/-- The body's result at a point is the reference's block there. -/
theorem point (c : Dev nD) (t : Fin cfg0.N) (r : Fin 512) (j : Fin 1024) :
    out0_5 (iblk m c 0 t) (iblk m c 1 t) (iblk m c 2 t) (iblk m c 3 t) (iblk m c 4 t) (ix2 r j)
      = Cert.RefFfnFinalIdeal.Read.val_main_v34 (m ((c : Thread nD τ).loc main_arg0)) (m ((c : Thread nD τ).loc main_arg1))
          (m ((c : Thread nD τ).loc main_arg2)) (m ((c : Thread nD τ).loc main_arg3)) (m ((c : Thread nD τ).loc main_arg4)) ((win0_5.blk t).view.emb (ix2 r j)) := by
  have he : (win0_5.blk t).view.emb (ix2 r j) = ix2 ⟨t.val * 512 + r.val, lt_row t r⟩ j := by blk_ext [idx t]
  rw [blk, he]
  simp only [read0 m, read1 m, read2 m, read3 m, read4 m]
  exact (Cert.RefFfnFinalIdeal.Row.out _ _ _ _ _ _ _).symm

/-- The result array after the run is the reference's stage 34 of the arguments. -/
theorem final (c : Dev nD) :
    (dats m 0 c).arrAt 5 (cfgs 0).N
      = Cert.RefFfnFinalIdeal.Read.val_main_v34 (m ((c : Thread nD τ).loc main_arg0)) (m ((c : Thread nD τ).loc main_arg1))
          (m ((c : Thread nD τ).loc main_arg2)) (m ((c : Thread nD τ).loc main_arg3)) (m ((c : Thread nD τ).loc main_arg4)) := by
  refine (dats m 0 c).arrAt_eq_of_covers 5 _ (by decide +kernel) fun t _ y => ?_
  blk_simp
  rw [after0_5]
  obtain ⟨r, j, rfl⟩ : ∃ (r : Fin 512) (j : Fin 1024), y = ix2 r j := ⟨y 0, y 1, eq_ix2 y⟩
  exact point m c t r j

end Cert.FfnFinalIdeal.Row

end
end
-- ==== Proof.FfnFinalPair.lean ====
module

public import proofs.«01_k».proof.Defs
public import proofs.«01_k».proof.Proof.FfnFinalVal
public import proofs.«01_k».proof.Proof.Gen.FfnFinalIdeal.Frame
public import proofs.«01_k».proof.Proof.Gen.RefFfnFinalIdeal.Run

set_option maxRecDepth 16384

@[expose] public section
noncomputable section

open Idealize.ShloMosaic Idealize.ShloMosaic.TcCoe Idealize.SL.Sem

namespace Cert.FfnFinalIdeal.Row

/-- On the same arguments the kernel and the reference both finish, with the same result. -/
theorem algebraic : Cert.algebraic_FfnFinalIdeal_RefFfnFinalIdeal := by
  pair_intro
  · run_from Cert.FfnFinalIdeal.Value.run_blocks m g
  · hlo_run
    exact (final m c).symm

end Cert.FfnFinalIdeal.Row

end
end
-- ==== Proof.MemKvRef.lean ====
module

public import proofs.«01_k».proof.Proof.Spec
public import proofs.«01_k».proof.Proof.Gen.RefMemKvIdeal.Read

set_option maxRecDepth 16384

@[expose] public section
noncomputable section

open Idealize.ShloMosaic Idealize.ShloMosaic.TcCoe Idealize.SL.Sem

namespace Cert.RefMemKvIdeal.Row
open Cert.RefMemKvIdeal Cert.RefMemKvIdeal.Read Cert.Spec

variable (x0 : (⟨S4x256x1024, .f32⟩ : BufTy).Contents (Elt Ideal)) (x1 : (⟨S1024, .f32⟩ : BufTy).Contents (Elt Ideal))
  (x2 : (⟨S1024x2048, .f32⟩ : BufTy).Contents (Elt Ideal))

/-- Stage 12 at a memory row is the normalised row. -/
theorem norm (b : Fin 4) (r : Fin 256) (k : Fin 1024) :
    val_main_v12 x0 x1 (ix3 b r k) = rms (fun l => x0 (ix3 b r l)) (fun l => x1 (ix1 l)) k := by
  pointwise [val_main_v12, val_main_v11, val_main_v10, val_main_v9, val_main_v8, val_main_v7, val_main_v6, val_main_v5, val_main_v4, val_main_v3, val_main_v2, val_main_v1, val_main_v0, val_main_cst, val_main_cst_0, val_main_cst_1]
  rfl

/-- Stage 13 at a memory row is the normalised row times the weight. -/
theorem proj (b : Fin 4) (r : Fin 256) (j : Fin 2048) :
    val_main_v13 x0 x1 x2 (ix3 b r j) = ∑ d, rms (fun l => x0 (ix3 b r l)) (fun l => x1 (ix1 l)) d * x2 (ix2 d j) := by
  pointwise [val_main_v13]
  simp only [norm]

/-- The result at row `256 b + r` is the normalised memory row times the weight. -/
theorem out (b : Fin 4) (r : Fin 256) (j : Fin 2048) :
    val_main_v15 x0 x1 x2 (ix2 ⟨b.val * 256 + r.val, by omega⟩ j) = ∑ d, rms (fun l => x0 (ix3 b r l)) (fun l => x1 (ix1 l)) d * x2 (ix2 d j) := by
  rw [← proj]
  pointwise [val_main_v15, val_main_v14]
  blk_ext []

end Cert.RefMemKvIdeal.Row

end
end
-- ==== Proof.MemKvVal.lean ====
module

public import proofs.«01_k».proof.Proof.MemKvRef
public import proofs.«01_k».proof.Proof.Gen.MemKvIdeal.Value

set_option maxRecDepth 16384

@[expose] public section
noncomputable section

open Idealize.ShloMosaic Idealize.ShloMosaic.TcCoe Idealize.SL.Sem
open Idealize.ShloMosaic.Pipeline (Dat)

namespace Cert.MemKvIdeal.Row
open Cert.MemKvIdeal Cert.MemKvIdeal.Gen Cert.MemKvIdeal.Value Cert.Spec

variable (m : (ℓ : Loc nD τ sig) → Buf (Elt Ideal) ℓ)

/-- Each window's block index at every grid point. -/
theorem idx : ∀ t : Fin cfg0.N, win0_0.index t = ![t.val, 0] ∧ win0_1.index t = ![0, 0] ∧ win0_2.index t = ![0, 0]
    ∧ win0_3.index t = ![t.val, 0] :=
  (by decide +kernel : ∀ t : Fin grid0.N, _)

/-- What the body stores, at a row, is the normalised row of the block times the weight. -/
theorem blk (x0 : Vec Ideal S256x1024 .f32) (x1 : Vec Ideal S1x1024 .f32) (x2 : Vec Ideal S1024x2048 .bf16) (r : Fin 256) (j : Fin 2048) :
    out0_3 x0 x1 x2 (ix2 r j) = ∑ d, rms (fun l => x0 (ix2 r l)) (fun l => x1 (ix2 0 l)) d * x2 (ix2 d j) := by
  frame_out
  pointwise [k0_pay1]
  rfl

theorem lt_t (t : Fin cfg0.N) : t.val < 4 := t.isLt

theorem read0 (c : Dev nD) (t : Fin cfg0.N) (r : Fin 256) (l : Fin 1024) :
    iblk m c 0 t (ix2 r l) = m ((c : Thread nD τ).loc main_arg0) (ix3 ⟨t.val, lt_t t⟩ r l) := by
  blk_simp [iblk, idx t]
  entry_read
  pointwise []
  blk_ext [iblk, idx t]

theorem read1 (c : Dev nD) (t : Fin cfg0.N) (l : Fin 1024) :
    iblk m c 1 t (ix2 0 l) = m ((c : Thread nD τ).loc main_arg1) (ix1 l) := by
  blk_simp [iblk, idx t]
  entry_read
  pointwise []
  blk_ext [iblk, idx t]

theorem read2 (c : Dev nD) (t : Fin cfg0.N) (d : Fin 1024) (f : Fin 2048) :
    iblk m c 2 t (ix2 d f) = m ((c : Thread nD τ).loc main_arg2) (ix2 d f) := by
  blk_simp [iblk, idx t]
  entry_read
  pointwise []
  blk_ext [iblk, idx t]

/-- The body's result at a point is the reference's block there. -/
theorem point (c : Dev nD) (t : Fin cfg0.N) (r : Fin 256) (j : Fin 2048) :
    out0_3 (iblk m c 0 t) (iblk m c 1 t) (iblk m c 2 t) (ix2 r j)
      = Cert.RefMemKvIdeal.Read.val_main_v15 (m ((c : Thread nD τ).loc main_arg0)) (m ((c : Thread nD τ).loc main_arg1))
          (m ((c : Thread nD τ).loc main_arg2)) ((win0_3.blk t).view.emb (ix2 r j)) := by
  have hb := lt_t t
  have he : (win0_3.blk t).view.emb (ix2 r j) = ix2 ⟨t.val * 256 + r.val, by omega⟩ j := by blk_ext [idx t]
  rw [blk, he]
  simp only [read0 m, read1 m, read2 m]
  exact (Cert.RefMemKvIdeal.Row.out _ _ _ ⟨t.val, hb⟩ _ _).symm

/-- The result array after the run is the reference's stage 15 of the arguments. -/
theorem final (c : Dev nD) :
    (dats m 0 c).arrAt 3 (cfgs 0).N
      = Cert.RefMemKvIdeal.Read.val_main_v15 (m ((c : Thread nD τ).loc main_arg0)) (m ((c : Thread nD τ).loc main_arg1))
          (m ((c : Thread nD τ).loc main_arg2)) := by
  refine (dats m 0 c).arrAt_eq_of_covers 3 _ (by decide +kernel) fun t _ y => ?_
  blk_simp
  rw [after0_3]
  obtain ⟨r, j, rfl⟩ : ∃ (r : Fin 256) (j : Fin 2048), y = ix2 r j := ⟨y 0, y 1, eq_ix2 y⟩
  exact point m c t r j

end Cert.MemKvIdeal.Row

end
end
-- ==== Proof.MemKvPair.lean ====
module

public import proofs.«01_k».proof.Defs
public import proofs.«01_k».proof.Proof.MemKvVal
public import proofs.«01_k».proof.Proof.Gen.MemKvIdeal.Frame
public import proofs.«01_k».proof.Proof.Gen.RefMemKvIdeal.Run

set_option maxRecDepth 16384

@[expose] public section
noncomputable section

open Idealize.ShloMosaic Idealize.ShloMosaic.TcCoe Idealize.SL.Sem

namespace Cert.MemKvIdeal.Row

/-- On the same arguments the kernel and the reference both finish, with the same result. -/
theorem algebraic : Cert.algebraic_MemKvIdeal_RefMemKvIdeal := by
  pair_intro
  · run_from Cert.MemKvIdeal.Value.run_blocks m g
  · hlo_run
    exact (final m c).symm

end Cert.MemKvIdeal.Row

end
end
-- ==== Proof.Softmax.lean ====
module

public import proofs.«01_k».proof.Proof.Spec

set_option maxRecDepth 16384

@[expose] public section
noncomputable section

open Idealize.ShloMosaic

namespace Cert.Spec

/-- The value is neither infinity. -/
def IsReal (x : EReal) : Prop := ∃ r : ℝ, x = (r : EReal)

theorem real_coe (r : ℝ) : IsReal (r : EReal) := ⟨r, rfl⟩

theorem real_of_ne {x : EReal} (h : x ≠ ⊤) (h' : x ≠ ⊥) : IsReal x := ⟨x.toReal, (EReal.coe_toReal h h').symm⟩

theorem IsReal.ne_top {x : EReal} (h : IsReal x) : x ≠ ⊤ := by
  obtain ⟨r, rfl⟩ := h
  exact EReal.coe_ne_top r

theorem IsReal.ne_bot {x : EReal} (h : IsReal x) : x ≠ ⊥ := by
  obtain ⟨r, rfl⟩ := h
  exact EReal.coe_ne_bot r

theorem IsReal.add {x y : EReal} (hx : IsReal x) (hy : IsReal y) : IsReal (x + y) := by
  obtain ⟨r, rfl⟩ := hx
  obtain ⟨s, rfl⟩ := hy
  exact ⟨r + s, (EReal.coe_add r s).symm⟩

theorem IsReal.sub {x y : EReal} (hx : IsReal x) (hy : IsReal y) : IsReal (x - y) := by
  obtain ⟨r, rfl⟩ := hx
  obtain ⟨s, rfl⟩ := hy
  exact ⟨r - s, (EReal.coe_sub r s).symm⟩

theorem IsReal.mul {x y : EReal} (hx : IsReal x) (hy : IsReal y) : IsReal (x * y) := by
  obtain ⟨r, rfl⟩ := hx
  obtain ⟨s, rfl⟩ := hy
  exact ⟨r * s, (EReal.coe_mul r s).symm⟩

/-- A finite sum of real values is real. -/
theorem real_sum {ι : Type} (s : Finset ι) (f : ι → EReal) (h : ∀ i ∈ s, IsReal (f i)) : IsReal (∑ i ∈ s, f i) := by
  classical
  induction s using Finset.induction_on with
  | empty => exact ⟨0, by simp⟩
  | insert a s ha ih =>
    rw [Finset.sum_insert ha]
    exact (h a (Finset.mem_insert_self a s)).add (ih fun i hi => h i (Finset.mem_insert_of_mem hi))

/-- A finite sum of values at least zero is at least zero. -/
theorem sum_nonneg {ι : Type} (s : Finset ι) (f : ι → EReal) (h : ∀ i ∈ s, 0 ≤ f i) : 0 ≤ ∑ i ∈ s, f i :=
  Finset.sum_nonneg h

/-- A factor that is a real number at least zero moves into a finite sum. -/
theorem sum_mul_real {ι : Type} (s : Finset ι) (f : ι → EReal) (a : EReal) (h0 : 0 ≤ a) (ht : a ≠ ⊤) :
    (∑ i ∈ s, f i) * a = ∑ i ∈ s, f i * a := by
  classical
  induction s using Finset.induction_on with
  | empty => simp
  | insert b s hb ih => rw [Finset.sum_insert hb, Finset.sum_insert hb, EReal.right_distrib_of_nonneg_of_ne_top h0 ht, ih]

/-- Dividing the weighted sum by the total is weighting by the divided weights. -/
theorem scale_sum {ι : Type} (s : Finset ι) (p v : ι → EReal) (l : EReal) (h0 : 0 < l) (ht : l ≠ ⊤) :
    (∑ i ∈ s, p i * v i) * Ideal.div 1 l = ∑ i ∈ s, v i * Ideal.div (p i) l := by
  have hd (x : EReal) : Ideal.div x l = x * l⁻¹ := if_neg h0.ne'
  have hp : l⁻¹ ≠ ⊤ := by
    lift l to ℝ using ⟨ht, (bot_lt_of_lt h0).ne'⟩
    rw [← EReal.coe_inv]
    exact EReal.coe_ne_top _
  rw [hd, one_mul, sum_mul_real s _ _ (EReal.inv_nonneg_of_nonneg h0.le) hp]
  refine Finset.sum_congr rfl fun i _ => ?_
  rw [hd, mul_comm (p i) (v i), mul_assoc]

theorem exp_nonneg (x : EReal) : 0 ≤ Ideal.exp x := by
  induction x with
  | bot => exact le_refl _
  | top => exact le_top
  | coe r => exact EReal.coe_nonneg.mpr (Real.exp_pos r).le

/-- Off positive infinity the exponential is real. -/
theorem exp_real {x : EReal} (h : x ≠ ⊤) : IsReal (Ideal.exp x) := by
  induction x with
  | bot => exact ⟨0, rfl⟩
  | top => exact absurd rfl h
  | coe r => exact ⟨_, rfl⟩

theorem exp_pos {x : EReal} (h : x ≠ ⊥) : 0 < Ideal.exp x := by
  induction x with
  | bot => exact absurd rfl h
  | top => exact EReal.coe_lt_top 0
  | coe r => exact EReal.coe_pos.mpr (Real.exp_pos r)

theorem ofBits_negInf : Ideal.ofBits .f32 0xFF800000#32 = ⊥ := by simp [Ideal.ofBits, Ideal.ieee]

/-- The largest of finitely many real values, at least one of them, is real. -/
theorem fold_max_real {n : Nat} (hn : 0 < n) (s : Fin n → EReal) (h : ∀ k, IsReal (s k)) :
    IsReal (Finset.univ.fold max (Ideal.ofBits .f32 0xFF800000#32) s) := by
  rw [ofBits_negInf]
  refine real_of_ne (ne_of_lt ?_) (ne_of_gt ?_)
  · exact Finset.fold_max_lt _ |>.mpr ⟨bot_lt_top, fun k _ => (h k).ne_top.lt_top⟩
  · exact Finset.lt_fold_max _ |>.mpr (Or.inr ⟨⟨0, hn⟩, Finset.mem_univ _, (h ⟨0, hn⟩).ne_bot.bot_lt⟩)

/-- The attention row as the kernel forms it: weighted values summed, then divided by the total. -/
def attn {n : Nat} (s v : Fin n → EReal) : EReal :=
  (∑ k, Ideal.exp (s k - Finset.univ.fold max (Ideal.ofBits .f32 0xFF800000#32) s) * v k)
    * Ideal.div 1 (∑ k, Ideal.exp (s k - Finset.univ.fold max (Ideal.ofBits .f32 0xFF800000#32) s))

/-- The attention row as the reference forms it: the softmax of the scores weighs the values. -/
theorem attn_eq {n : Nat} (hn : 0 < n) (s v : Fin n → EReal) (h : ∀ k, IsReal (s k)) :
    attn s v = ∑ k, v k * Ideal.div
      (Ideal.exp (s k - max (Ideal.ofBits .f32 0xFF800000#32) (Finset.univ.fold max (Ideal.ofBits .f32 0xFF800000#32) s)))
      (∑ k, Ideal.exp (s k - max (Ideal.ofBits .f32 0xFF800000#32) (Finset.univ.fold max (Ideal.ofBits .f32 0xFF800000#32) s))) := by
  have hm := fold_max_real hn s h
  have hb : max (Ideal.ofBits .f32 0xFF800000#32) (Finset.univ.fold max (Ideal.ofBits .f32 0xFF800000#32) s)
      = Finset.univ.fold max (Ideal.ofBits .f32 0xFF800000#32) s := by
    rw [ofBits_negInf]
    exact max_eq_right bot_le
  rw [hb, attn]
  generalize Finset.univ.fold max (Ideal.ofBits .f32 0xFF800000#32) s = M at hm ⊢
  have hr (k : Fin n) : IsReal (s k - M) := (h k).sub hm
  refine scale_sum _ _ _ _ ?_ (real_sum _ _ fun k _ => exp_real (hr k).ne_top).ne_top
  refine lt_of_lt_of_le (exp_pos (hr ⟨0, hn⟩).ne_bot) ?_
  exact Finset.single_le_sum (f := fun k => Ideal.exp (s k - M)) (fun k _ => exp_nonneg _) (Finset.mem_univ (⟨0, hn⟩ : Fin n))

theorem ofBits_1024 : Ideal.ofBits .f32 0x44800000#32 = ((1024 : ℝ) : EReal) := by
  simp [Ideal.ofBits, Ideal.ieee]
  rw [← EReal.coe_mul]
  norm_num

theorem ofBits_eps : ∃ e : ℝ, 0 < e ∧ Ideal.ofBits .f32 0x358637BD#32 = (e : EReal) := by
  refine ⟨_, ?_, by simp [Ideal.ofBits, Ideal.ieee]; rfl⟩
  norm_num

/-- The root mean square norm of any row by a gain of real values is real. -/
theorem rms_real (x g : Fin 1024 → EReal) (k : Fin 1024) (hg : IsReal (g k)) : IsReal (rms x g k) := by
  have h0 (l : Fin 1024) : 0 ≤ x l * x l := by
    rcases le_total 0 (x l) with h | h
    · exact mul_nonneg h h
    · rw [← neg_mul_neg]
      exact mul_nonneg (EReal.neg_nonneg.mpr h) (EReal.neg_nonneg.mpr h)
  obtain ⟨e, he, hE⟩ := ofBits_eps
  have hd (y : EReal) : Ideal.div y (Ideal.ofBits .f32 0x44800000#32) = y * (((1024 : ℝ)⁻¹ : ℝ) : EReal) := by
    rw [ofBits_1024, EReal.coe_inv]
    exact if_neg (by norm_num)
  rw [rms, hd, hE]
  by_cases hs : (∑ l, x l * x l) = ⊤
  · rw [hs, EReal.top_mul_coe_of_pos (by norm_num), EReal.top_add_coe]
    refine ⟨0, ?_⟩
    show x k * 0 * g k = _
    simp
  · have hx : IsReal (x k) := by
      have hle : x k * x k ≤ ∑ l, x l * x l :=
        Finset.single_le_sum (f := fun l => x l * x l) (fun l _ => h0 l) (Finset.mem_univ k)
      refine real_of_ne (fun h => hs ?_) (fun h => hs ?_)
      · rw [h] at hle
        exact top_le_iff.mp (by simpa using hle)
      · rw [h] at hle
        exact top_le_iff.mp (by simpa using hle)
    have hsum := sum_nonneg Finset.univ (fun l => x l * x l) fun l _ => h0 l
    refine (hx.mul ?_).mul hg
    generalize (∑ l, x l * x l) = S at hs hsum
    lift S to ℝ using ⟨hs, (lt_of_lt_of_le (EReal.bot_lt_coe 0) hsum).ne'⟩
    have hS : 0 ≤ S := EReal.coe_nonneg.mp hsum
    have hp : 0 < S * (1024 : ℝ)⁻¹ + e := by positivity
    rw [← EReal.coe_mul, ← EReal.coe_add]
    refine ⟨(Real.sqrt (S * (1024 : ℝ)⁻¹ + e))⁻¹, ?_⟩
    show (if S * (1024 : ℝ)⁻¹ + e < 0 then (⊥ : EReal) else if S * (1024 : ℝ)⁻¹ + e = 0 then ⊤ else _) = _
    rw [if_neg hp.not_gt, if_neg hp.ne']

/-- A comparison with a truth bit of one holds. -/
theorem bit_one {p : Prop} [Decidable p] (h : BitVec.ofBool (decide p) = 1#1) : p := by
  by_contra hp
  simp [hp] at h

/-- A magnitude below positive infinity is that of a real value. -/
theorem real_of_abs {x : EReal} (h : max x (-x) < ⊤) : IsReal x := by
  refine real_of_ne (fun e => ?_) (fun e => ?_) <;> simp [e] at h

theorem ofBits_inf : Ideal.ofBits .f32 0x7F800000#32 = ⊤ := by simp [Ideal.ofBits, Ideal.ieee]

theorem ofBits_inf16 : Ideal.ofBits .bf16 0x7F80#16 = ⊤ := by simp [Ideal.ofBits, Ideal.ieee]

end Cert.Spec

end
end
-- ==== Proof.CrossRef.lean ====
module

public import proofs.«01_k».proof.Proof.Softmax
public import proofs.«01_k».proof.Proof.Gen.RefCrossAttnIdeal.Read

set_option maxRecDepth 16384

@[expose] public section
noncomputable section

open Idealize.ShloMosaic Idealize.ShloMosaic.TcCoe Idealize.SL.Sem

namespace Cert.RefCrossAttnIdeal.Row
open Cert.RefCrossAttnIdeal Cert.RefCrossAttnIdeal.Read Cert.Spec

variable (x0 : (⟨S32768x1024, .f32⟩ : BufTy).Contents (Elt Ideal)) (x1 : (⟨S1024, .f32⟩ : BufTy).Contents (Elt Ideal))
  (x2 : (⟨S1024x1024, .f32⟩ : BufTy).Contents (Elt Ideal)) (x3 : (⟨S1024x2048, .bf16⟩ : BufTy).Contents (Elt Ideal))
  (x4 : (⟨S1024x1024, .f32⟩ : BufTy).Contents (Elt Ideal))

theorem row0 (b : Fin 4) (r : Fin 8192) (k : Fin 1024) :
    val_main_v0 x0 (ix3 b r k) = x0 (ix2 ⟨b.val * 8192 + r.val, by omega⟩ k) := by
  pointwise [val_main_v0]
  blk_ext []

theorem norm (b : Fin 4) (r : Fin 8192) (k : Fin 1024) :
    val_main_v15 x0 x1 (ix3 b r k) = rms (fun l => x0 (ix2 ⟨b.val * 8192 + r.val, by omega⟩ l)) (fun l => x1 (ix1 l)) k := by
  pointwise [val_main_v15, val_main_v14, val_main_v13, val_main_v12, val_main_v11, val_main_v10, val_main_v9, val_main_v8, val_main_v7, val_main_v6, val_main_v5, val_main_v4, val_main_v3, val_main_cst, val_main_cst_0, val_main_cst_1]
  simp only [row0]
  rfl

theorem query (b : Fin 4) (r : Fin 8192) (h : Fin 4) (d : Fin 256) :
    val_main_v17 x0 x1 x2 (ix4 b r h d) = ∑ l, rms (fun l => x0 (ix2 ⟨b.val * 8192 + r.val, by omega⟩ l)) (fun l => x1 (ix1 l)) l * x2 (ix2 l ⟨h.val * 256 + d.val, by omega⟩) := by
  pointwise [val_main_v17, val_main_v16]
  simp only [norm]

theorem keys (b : Fin 4) (k : Fin 256) (h : Fin 4) (d : Fin 256) :
    val_main_v19 x3 (ix4 b k h d) = x3 (ix2 ⟨b.val * 256 + k.val, by omega⟩ ⟨h.val * 256 + d.val, by omega⟩) := by
  pointwise [val_main_v19, val_main_v18, val_main_v2, val_main_v1]

theorem values (b : Fin 4) (k : Fin 256) (h : Fin 4) (d : Fin 256) :
    val_main_v21 x3 (ix4 b k h d) = x3 (ix2 ⟨b.val * 256 + k.val, by omega⟩ ⟨1024 + (h.val * 256 + d.val), by omega⟩) := by
  pointwise [val_main_v21, val_main_v20, val_main_v2, val_main_v1]

theorem score (b : Fin 4) (h : Fin 4) (r : Fin 8192) (k : Fin 256) :
    val_main_v24 x0 x1 x2 x3 (ix4 b h r k)
      = (∑ d, val_main_v17 x0 x1 x2 (ix4 b r h d) * val_main_v19 x3 (ix4 b k h d)) * Ideal.ofBits .f32 0x3D800000#32 := by
  pointwise [val_main_v24, val_main_v23, val_main_cst_2, val_main_v22]

theorem maxrow (y : (⟨S4x4x8192x256, .f32⟩ : BufTy).Contents (Elt Ideal)) (b h : Fin 4) (r : Fin 8192) :
    Host.reduce (FloatOps.maximumf (F := Ideal)) y (val_main_cst_3 (F := Ideal)) Facts₀.reducesTo_S4x4x8192x256_S4x4x8192_d3 Facts₀.h_S_ (ix3 b h r)
      = Finset.univ.fold max (Ideal.ofBits .f32 0xFF800000#32) (fun k => y (ix4 b h r k)) := by
  pointwise [val_main_cst_3]

theorem top (b : Fin 4) (h : Fin 4) (r : Fin 8192) :
    val_main_v27 x0 x1 x2 x3 (ix3 b h r)
      = max (Ideal.ofBits .f32 0xFF800000#32) (Finset.univ.fold max (Ideal.ofBits .f32 0xFF800000#32) (fun k => val_main_v24 x0 x1 x2 x3 (ix4 b h r k))) := by
  rw [val_main_v27_apply, val_main_v25, maxrow]
  pointwise [val_main_v26, val_main_cst_4]

theorem weight (b : Fin 4) (h : Fin 4) (r : Fin 8192) (k : Fin 256) :
    val_main_v31 x0 x1 x2 x3 (ix4 b h r k)
      = Ideal.exp (val_main_v24 x0 x1 x2 x3 (ix4 b h r k) - val_main_v27 x0 x1 x2 x3 (ix3 b h r)) := by
  unfold val_main_v31 val_main_v30 val_main_v29 val_main_v28
  generalize val_main_v27 x0 x1 x2 x3 = y
  generalize val_main_v24 x0 x1 x2 x3 = z
  pointwise []

theorem weights (b : Fin 4) (h : Fin 4) (r : Fin 8192) :
    val_main_v32 x0 x1 x2 x3 (ix3 b h r) = ∑ k, val_main_v31 x0 x1 x2 x3 (ix4 b h r k) := by
  unfold val_main_v32
  generalize val_main_v31 x0 x1 x2 x3 = y
  pointwise [val_main_cst_5]

theorem prob (b : Fin 4) (h : Fin 4) (r : Fin 8192) (k : Fin 256) :
    val_main_v35 x0 x1 x2 x3 (ix4 b h r k)
      = Ideal.div (val_main_v31 x0 x1 x2 x3 (ix4 b h r k)) (val_main_v32 x0 x1 x2 x3 (ix3 b h r)) := by
  unfold val_main_v35 val_main_v34 val_main_v33
  generalize val_main_v31 x0 x1 x2 x3 = y
  generalize val_main_v32 x0 x1 x2 x3 = z
  pointwise []

theorem out (b : Fin 4) (r : Fin 8192) (j : Fin 1024) :
    val_main_v41 x0 x1 x2 x3 x4 (ix2 ⟨b.val * 8192 + r.val, by omega⟩ j)
      = x0 (ix2 ⟨b.val * 8192 + r.val, by omega⟩ j)
        + ∑ x : Fin 1024, (∑ k, val_main_v21 x3 (ix4 b k ⟨x.val / 256, by omega⟩ ⟨x.val % 256, by omega⟩)
            * val_main_v35 x0 x1 x2 x3 (ix4 b ⟨x.val / 256, by omega⟩ r k)) * x4 (ix2 x j) := by
  pointwise [val_main_v41, val_main_v40, val_main_v39, val_main_v38, val_main_v37, val_main_v36]
  simp only [row0]

theorem sixteenth : ∃ e : ℝ, 0 ≤ e ∧ Ideal.ofBits .f32 0x3D800000#32 = (e : EReal) := by
  refine ⟨_, ?_, by simp [Ideal.ofBits, Ideal.ieee]; rfl⟩
  norm_num

/-- A head's row of the reference with real scores, in the kernel's order of operations. -/
theorem head (hg : ∀ i, IsReal (x1 i)) (hq : ∀ i, IsReal (x2 i)) (hk : ∀ i, IsReal (x3 i)) (b : Fin 4) (r : Fin 8192) (h : Fin 4) (e : Fin 256) :
    (∑ k, val_main_v21 x3 (ix4 b k h e) * val_main_v35 x0 x1 x2 x3 (ix4 b h r k))
      = attn (fun k : Fin 256 => ∑ d : Fin 256,
            ((∑ l, rms (fun l => x0 (ix2 ⟨b.val * 8192 + r.val, by omega⟩ l)) (fun l => x1 (ix1 l)) l * x2 (ix2 l ⟨h.val * 256 + d.val, by omega⟩))
              * Ideal.ofBits .f32 0x3D800000#32) * x3 (ix2 ⟨b.val * 256 + k.val, by omega⟩ ⟨h.val * 256 + d.val, by omega⟩))
          (fun k => x3 (ix2 ⟨b.val * 256 + k.val, by omega⟩ ⟨1024 + (h.val * 256 + e.val), by omega⟩)) := by
  obtain ⟨c, hc, hC⟩ := sixteenth
  have hs (k : Fin 256) : val_main_v24 x0 x1 x2 x3 (ix4 b h r k)
      = ∑ d : Fin 256, ((∑ l, rms (fun l => x0 (ix2 ⟨b.val * 8192 + r.val, by omega⟩ l)) (fun l => x1 (ix1 l)) l * x2 (ix2 l ⟨h.val * 256 + d.val, by omega⟩))
              * Ideal.ofBits .f32 0x3D800000#32) * x3 (ix2 ⟨b.val * 256 + k.val, by omega⟩ ⟨h.val * 256 + d.val, by omega⟩) := by
    rw [score, hC, sum_mul_real _ _ _ (EReal.coe_nonneg.mpr hc) (EReal.coe_ne_top c)]
    refine Finset.sum_congr rfl fun d _ => ?_
    rw [query, keys]
    exact mul_right_comm _ _ _
  rw [attn_eq (by omega)]
  · refine Finset.sum_congr rfl fun k _ => ?_
    rw [values, prob, weights, weight, top]
    simp only [weight, top, hs]
  · intro k
    refine real_sum _ _ fun d _ => ((real_sum _ _ fun l _ => ?_).mul ?_).mul (hk _)
    · exact (rms_real _ _ _ (hg _)).mul (hq _)
    · exact hC ▸ real_coe c

end Cert.RefCrossAttnIdeal.Row

end
end
-- ==== Proof.CrossPay.lean ====
module

public import proofs.«01_k».proof.Proof.Softmax
public import proofs.«01_k».proof.Proof.Gen.CrossAttnIdeal.Value

set_option maxRecDepth 16384

@[expose] public section
noncomputable section

open Idealize.ShloMosaic Idealize.ShloMosaic.TcCoe Idealize.SL.Sem
open Idealize.ShloMosaic.Pipeline (Dat)

namespace Cert.CrossAttnIdeal.Row
open Cert.CrossAttnIdeal Cert.CrossAttnIdeal.Gen Cert.Spec

variable (x0 : Vec Ideal S512x1024 .f32) (x1 : Vec Ideal S1x1024 .f32) (x2 : Vec Ideal S1024x1024 .bf16)

theorem query (r : Fin 512) (k : Fin 1024) :
    k0_pay2 x0 x1 x2 (ix2 r k) = (∑ d, rms (fun l => x0 (ix2 r l)) (fun l => x1 (ix2 0 l)) d * x2 (ix2 d k)) * Ideal.ofBits .f32 0x3D800000#32 := by
  pointwise [k0_pay2]
  rfl

theorem head1 (q : FVec Ideal S512x1024 .bf16) (k v : Vec Ideal S256x256 .bf16) (r : Fin 512) (e : Fin 256) :
    k0_pay7 q k v (ix2 r e)
      = attn (fun x => ∑ d : Fin 256, q (ix2 r ⟨256 + d.val, by omega⟩) * k (ix2 x d)) (fun x => v (ix2 x e)) := by
  pointwise [k0_pay7]
  rfl

theorem head2 (q : FVec Ideal S512x1024 .bf16) (k v : Vec Ideal S256x256 .bf16) (r : Fin 512) (e : Fin 256) :
    k0_pay8 q k v (ix2 r e)
      = attn (fun x => ∑ d : Fin 256, q (ix2 r ⟨512 + d.val, by omega⟩) * k (ix2 x d)) (fun x => v (ix2 x e)) := by
  pointwise [k0_pay8]
  rfl

theorem head0 (k v : Vec Ideal S256x256 .bf16) (r : Fin 512) (e : Fin 256) :
    k0_pay6 (k0_pay4 x0 x1 x2 k v) (k0_pay5 x0 x1 x2 k) (ix2 r e)
      = attn (fun x => ∑ d : Fin 256, k0_pay2 x0 x1 x2 (ix2 r ⟨d.val, by omega⟩) * k (ix2 x d)) (fun x => v (ix2 x e)) := by
  unfold k0_pay4 k0_pay5 k0_pay3
  generalize k0_pay2 x0 x1 x2 = q
  pointwise [k0_pay6]
  rfl

/-- Head 3 and the output projection: the four heads side by side times the output weights, added to the input. -/
theorem out1 (h0 h1 h2 : FVec Ideal S512x256 .bf16) (q : FVec Ideal S512x256 .bf16) (k v : Vec Ideal S256x256 .bf16)
    (w : Vec Ideal S1024x1024 .bf16) (a : Fin 1024 → EReal) (r : Fin 512) (j : Fin 1024)
    (a0 : ∀ e : Fin 256, h0 (ix2 r e) = a ⟨e.val, by omega⟩) (a1 : ∀ e : Fin 256, h1 (ix2 r e) = a ⟨256 + e.val, by omega⟩)
    (a2 : ∀ e : Fin 256, h2 (ix2 r e) = a ⟨512 + e.val, by omega⟩)
    (a3 : ∀ e : Fin 256, attn (fun x => ∑ d, q (ix2 r d) * k (ix2 x d)) (fun x => v (ix2 x e)) = a ⟨768 + e.val, by omega⟩) :
    k0_pay1 x0 h0 h1 h2 q k v w (ix2 r j) = x0 (ix2 r j) + ∑ x, a x * w (ix2 x j) := by
  pointwise [k0_pay1]
  refine congrArg (x0 (ix2 r j) + ·) (Finset.sum_congr rfl fun x _ => congrArg (· * w (ix2 x j)) ?_)
  by_cases c0 : x.val < 256
  · rw [dif_pos c0, a0]
  rw [dif_neg c0]
  by_cases c1 : x.val - 256 < 256
  · rw [dif_pos c1, a1]
    exact congrArg a (Fin.ext (by show 256 + (x.val - 256) = x.val; omega))
  rw [dif_neg c1]
  by_cases c2 : x.val - 256 - 256 < 256
  · rw [dif_pos c2, a2]
    exact congrArg a (Fin.ext (by show 512 + (x.val - 256 - 256) = x.val; omega))
  rw [dif_neg c2]
  refine (a3 ⟨x.val - 256 - 256 - 256, by omega⟩).trans (congrArg a (Fin.ext ?_))
  show 768 + (x.val - 256 - 256 - 256) = x.val
  omega

/-- One lane of the attention: lane `c` belongs to head `c / 256`. -/
def lane (x3 : Vec Ideal S256x2048 .bf16) (r : Fin 512) (c : Fin 1024) : EReal :=
  attn (fun k : Fin 256 => ∑ d : Fin 256, k0_pay2 x0 x1 x2 (ix2 r ⟨c.val / 256 * 256 + d.val, by omega⟩) * x3 (ix2 k ⟨c.val / 256 * 256 + d.val, by omega⟩))
    (fun k => x3 (ix2 k ⟨1024 + c.val, by omega⟩))

theorem lane_eq (x3 : Vec Ideal S256x2048 .bf16) (r : Fin 512) (n : Nat) (hn : n < 4) (e : Fin 256) :
    lane x0 x1 x2 x3 r ⟨n * 256 + e.val, by omega⟩
      = attn (fun k : Fin 256 => ∑ d : Fin 256, k0_pay2 x0 x1 x2 (ix2 r ⟨n * 256 + d.val, by omega⟩) * x3 (ix2 k ⟨n * 256 + d.val, by omega⟩))
          (fun k => x3 (ix2 k ⟨1024 + n * 256 + e.val, by omega⟩)) := by
  have h : (n * 256 + e.val) / 256 = n := by omega
  simp only [lane, h, Nat.add_assoc]

/-- The block the body writes. -/
theorem blk (x3 : Vec Ideal S256x2048 .bf16) (x4 : Vec Ideal S1024x1024 .bf16) (r : Fin 512) (j : Fin 1024) :
    out0_5 x0 x1 x2 x3 x4 (ix2 r j) = x0 (ix2 r j) + ∑ x, lane x0 x1 x2 x3 r x * x4 (ix2 x j) := by
  have l0 : View.ld x0 r0_0 = x0 := by frame_out
  have l1 : View.ld x1 r0_1 = x1 := by frame_out
  have l2 : View.ld x2 r0_2 = x2 := by frame_out
  have k0 (k d : Fin 256) : View.ld x3 r0_3 (ix2 k d) = x3 (ix2 k ⟨d.val, by omega⟩) := by pointwise []
  have k1 (k d : Fin 256) : View.ld x3 r0_5 (ix2 k d) = x3 (ix2 k ⟨256 + d.val, by omega⟩) := by pointwise []
  have k2 (k d : Fin 256) : View.ld x3 r0_7 (ix2 k d) = x3 (ix2 k ⟨512 + d.val, by omega⟩) := by pointwise []
  have k3 (k d : Fin 256) : View.ld x3 r0_9 (ix2 k d) = x3 (ix2 k ⟨768 + d.val, by omega⟩) := by pointwise []
  have v0 (k d : Fin 256) : View.ld x3 r0_4 (ix2 k d) = x3 (ix2 k ⟨1024 + d.val, by omega⟩) := by pointwise []
  have v1 (k d : Fin 256) : View.ld x3 r0_6 (ix2 k d) = x3 (ix2 k ⟨1280 + d.val, by omega⟩) := by pointwise []
  have v2 (k d : Fin 256) : View.ld x3 r0_8 (ix2 k d) = x3 (ix2 k ⟨1536 + d.val, by omega⟩) := by pointwise []
  have v3 (k d : Fin 256) : View.ld x3 r0_10 (ix2 k d) = x3 (ix2 k ⟨1792 + d.val, by omega⟩) := by pointwise []
  unfold out0_5
  frame_out
  unfold k0_pay10
  rw [l0, l1, l2]
  refine out1 _ _ _ _ _ _ _ _ (lane x0 x1 x2 x3 r) r j (fun e => ?_) (fun e => ?_) (fun e => ?_) (fun e => ?_)
  · rw [head0]
    simp only [k0, v0]
    have := lane_eq x0 x1 x2 x3 r 0 (by omega) e
    simp only [Nat.reduceMul, Nat.reduceAdd, Nat.zero_mul, Nat.zero_add, Nat.add_zero] at this ⊢
    exact this.symm
  · rw [head1]
    simp only [k1, v1]
    exact (lane_eq x0 x1 x2 x3 r 1 (by omega) e).symm
  · rw [head2]
    simp only [k2, v2]
    exact (lane_eq x0 x1 x2 x3 r 2 (by omega) e).symm
  · simp only [k3, v3]
    refine Eq.trans ?_ (lane_eq x0 x1 x2 x3 r 3 (by omega) e).symm
    pointwise [k0_pay9]

end Cert.CrossAttnIdeal.Row

end
end
-- ==== Proof.CrossVal.lean ====
module

public import proofs.«01_k».proof.Proof.CrossRef
public import proofs.«01_k».proof.Proof.CrossPay

set_option maxRecDepth 16384

@[expose] public section
noncomputable section

open Idealize.ShloMosaic Idealize.ShloMosaic.TcCoe Idealize.SL.Sem
open Idealize.ShloMosaic.Pipeline (Dat)

namespace Cert.CrossAttnIdeal.Row
open Cert.CrossAttnIdeal Cert.CrossAttnIdeal.Gen Cert.Spec

variable (m : (ℓ : Loc nD τ sig) → Buf (Elt Ideal) ℓ)

/-- Each window's block index at every grid point. -/
theorem idx : ∀ t : Fin cfg0.N, win0_0.index t = ![t.val, 0] ∧ win0_1.index t = ![0, 0] ∧ win0_2.index t = ![0, 0]
    ∧ win0_3.index t = ![t.val / 16, 0] ∧ win0_4.index t = ![0, 0] ∧ win0_5.index t = ![t.val, 0] :=
  (by decide +kernel : ∀ t : Fin grid0.N, _)

/-- The grid has 64 points. -/
theorem lt_grid (t : Fin cfg0.N) : t.val < 64 := t.isLt

/-- The rows a point's block covers are rows of the array. -/
theorem lt_row (t : Fin cfg0.N) (r : Fin 512) : t.val * 512 + r.val < 32768 := by
  have := lt_grid t
  omega

/-- The memory rows a point's block covers are rows of the array. -/
theorem lt_mem (t : Fin cfg0.N) (k : Fin 256) : t.val / 16 * 256 + k.val < 1024 := by
  have := lt_grid t
  omega

theorem div_mod (x : Fin 1024) : x.val / 256 * 256 + x.val % 256 = x.val := by omega

theorem read0 (c : Dev nD) (t : Fin cfg0.N) (r : Fin 512) (l : Fin 1024) :
    iblk m c 0 t (ix2 r l) = m ((c : Thread nD τ).loc main_arg0) (ix2 ⟨t.val * 512 + r.val, lt_row t r⟩ l) := by
  blk_ext [iblk, V, idx t]

theorem read1 (c : Dev nD) (t : Fin cfg0.N) (l : Fin 1024) :
    iblk m c 1 t (ix2 0 l) = m ((c : Thread nD τ).loc main_arg1) (ix1 l) := by
  blk_simp [iblk, idx t]
  entry_read
  pointwise []
  blk_ext [iblk, idx t]

theorem read2 (c : Dev nD) (t : Fin cfg0.N) (d k : Fin 1024) :
    iblk m c 2 t (ix2 d k) = m ((c : Thread nD τ).loc main_arg2) (ix2 d k) := by
  blk_simp [iblk, idx t]
  entry_read
  pointwise []
  blk_ext [iblk, idx t]

theorem read3 (c : Dev nD) (t : Fin cfg0.N) (k : Fin 256) (l : Fin 2048) :
    iblk m c 3 t (ix2 k l) = m ((c : Thread nD τ).loc main_arg3) (ix2 ⟨t.val / 16 * 256 + k.val, lt_mem t k⟩ l) := by
  blk_ext [iblk, V, idx t]

theorem read4 (c : Dev nD) (t : Fin cfg0.N) (d j : Fin 1024) :
    iblk m c 4 t (ix2 d j) = m ((c : Thread nD τ).loc main_arg4) (ix2 d j) := by
  blk_simp [iblk, idx t]
  entry_read
  pointwise []
  blk_ext [iblk, idx t]

/-- The body's result at a point is the reference's block there. -/
theorem point (c : Dev nD) (hg : ∀ i, IsReal (m ((c : Thread nD τ).loc main_arg1) i)) (hq : ∀ i, IsReal (m ((c : Thread nD τ).loc main_arg2) i))
    (hk : ∀ i, IsReal (m ((c : Thread nD τ).loc main_arg3) i)) (t : Fin cfg0.N) (r : Fin 512) (j : Fin 1024) :
    out0_5 (iblk m c 0 t) (iblk m c 1 t) (iblk m c 2 t) (iblk m c 3 t) (iblk m c 4 t) (ix2 r j)
      = Cert.RefCrossAttnIdeal.Read.val_main_v41 (m ((c : Thread nD τ).loc main_arg0)) (m ((c : Thread nD τ).loc main_arg1))
          (m ((c : Thread nD τ).loc main_arg2)) (m ((c : Thread nD τ).loc main_arg3)) (m ((c : Thread nD τ).loc main_arg4))
          ((win0_5.blk t).view.emb (ix2 r j)) := by
  have ht := lt_grid t
  have he : (win0_5.blk t).view.emb (ix2 r j)
      = ix2 ⟨(⟨t.val / 16, by omega⟩ : Fin 4).val * 8192 + (⟨t.val % 16 * 512 + r.val, by omega⟩ : Fin 8192).val, by omega⟩ j := by blk_ext [idx t]
  have hr : (⟨(⟨t.val / 16, by omega⟩ : Fin 4).val * 8192 + (⟨t.val % 16 * 512 + r.val, by omega⟩ : Fin 8192).val, by omega⟩ : Fin 32768)
      = ⟨t.val * 512 + r.val, lt_row t r⟩ := Fin.ext (by show t.val / 16 * 8192 + (t.val % 16 * 512 + r.val) = t.val * 512 + r.val; omega)
  rw [blk, he, Cert.RefCrossAttnIdeal.Row.out]
  simp only [Cert.RefCrossAttnIdeal.Row.head _ _ _ _ hg hq hk, hr, read0 m, read4 m, lane, query, read1 m, read2 m, read3 m, div_mod]

/-- The result array after the run is the reference's stage 41 of the arguments. -/
theorem final (c : Dev nD) (hg : ∀ i, IsReal (m ((c : Thread nD τ).loc main_arg1) i)) (hq : ∀ i, IsReal (m ((c : Thread nD τ).loc main_arg2) i))
    (hk : ∀ i, IsReal (m ((c : Thread nD τ).loc main_arg3) i)) :
    (dats m 0 c).arrAt 5 (cfgs 0).N
      = Cert.RefCrossAttnIdeal.Read.val_main_v41 (m ((c : Thread nD τ).loc main_arg0)) (m ((c : Thread nD τ).loc main_arg1))
          (m ((c : Thread nD τ).loc main_arg2)) (m ((c : Thread nD τ).loc main_arg3)) (m ((c : Thread nD τ).loc main_arg4)) := by
  refine (dats m 0 c).arrAt_eq_of_covers 5 _ (by decide +kernel) fun t _ y => ?_
  blk_simp
  rw [after0_5]
  obtain ⟨r, j, rfl⟩ : ∃ (r : Fin 512) (j : Fin 1024), y = ix2 r j := ⟨y 0, y 1, eq_ix2 y⟩
  exact point m c hg hq hk t r j

end Cert.CrossAttnIdeal.Row

end
end
-- ==== Proof.CrossPair.lean ====
module

public import proofs.«01_k».proof.Defs
public import proofs.«01_k».proof.Proof.CrossVal
public import proofs.«01_k».proof.Proof.Gen.CrossAttnIdeal.Frame
public import proofs.«01_k».proof.Proof.Gen.RefCrossAttnIdeal.Run
public import proofs.«01_k».proof.Proof.Gen.RefCrossAttnIdeal.Read

set_option maxRecDepth 16384

@[expose] public section
noncomputable section

open Idealize.ShloMosaic Idealize.ShloMosaic.TcCoe Idealize.SL.Sem

namespace Cert.Pre_finite_cross
open Cert.Spec

/-- The side conditions of the predicate's broadcasts. -/
instance facts : Facts where
  bcast_S_S1024 := by decide
  bcast_S_S1024x1024 := by decide
  bcast_S_S1024x2048 := by decide

variable (x0 : FVec Ideal S32768x1024 .f32) (x1 : FVec Ideal S1024 .f32) (x2 : FVec Ideal S1024x1024 .f32)
  (x3 : FVec Ideal S1024x2048 .bf16) (x4 : FVec Ideal S1024x1024 .f32)

/-- The gain is real. -/
theorem gain (h : (fn (F := Ideal) x0 x1 x2 x3 x4).1 = fun _ => 1#1) (i : S1024.Idx) : IsReal (x1 i) := by
  have := congrFun h i
  pointwise [fn] at this
  exact real_of_abs (ofBits_inf ▸ bit_one this)

/-- The query weights are real. -/
theorem weights (h : (fn (F := Ideal) x0 x1 x2 x3 x4).2.1 = fun _ => 1#1) (i : S1024x1024.Idx) : IsReal (x2 i) := by
  have := congrFun h i
  pointwise [fn] at this
  exact real_of_abs (ofBits_inf ▸ bit_one this)

/-- The keys and values are real. -/
theorem memory (h : (fn (F := Ideal) x0 x1 x2 x3 x4).2.2 = fun _ => 1#1) (i : S1024x2048.Idx) : IsReal (x3 i) := by
  have := congrFun h i
  pointwise [fn] at this
  exact real_of_abs (ofBits_inf16 ▸ bit_one this)

end Cert.Pre_finite_cross

namespace Cert.CrossAttnIdeal.Row

/-- On the same arguments, the gain, the query weights and the memory real, the kernel and the reference both
    finish, with the same result. -/
theorem algebraic : Cert.algebraic_CrossAttnIdeal_RefCrossAttnIdeal_pre_finite_cross := by
  pair_intro
  · run_from Cert.CrossAttnIdeal.Value.run_blocks m g
  · run_from Cert.RefCrossAttnIdeal.Value.run m' g'
    obtain ⟨h1, h2, h3⟩ := hpre c
    obtain ⟨e0, e1, e2, e3, e4⟩ := hagree c
    rw [Cert.RefCrossAttnIdeal.Read.val_main_v41_eq, e0, e1, e2, e3, e4]
    exact (final m c (Cert.Pre_finite_cross.gain _ _ _ _ _ h1) (Cert.Pre_finite_cross.weights _ _ _ _ _ h2)
      (Cert.Pre_finite_cross.memory _ _ _ _ _ h3)).symm

end Cert.CrossAttnIdeal.Row

end
end
-- ==== Proof.OddPay.lean ====
module

public import proofs.«01_k».proof.Proof.Spec
public import proofs.«01_k».proof.Proof.Gen.OddMixerIdeal.Value

set_option maxRecDepth 16384

@[expose] public section
noncomputable section

open Idealize.ShloMosaic Idealize.ShloMosaic.TcCoe Idealize.SL.Sem

/-! What the gated convolution's kernel computes from the blocks it loads, entry by entry. -/

namespace Cert.Spec

/-- Column `c` of the normalised row times the input projection. -/
def proj {n : ℕ} (x g : Fin 1024 → EReal) (w : Fin 1024 → Fin n → EReal) (c : Fin n) : EReal := ∑ d, rms x g d * w d c

/-- The row the convolution runs over: the second third of the projection times the last third. -/
def gat (x g : Fin 1024 → EReal) (w : Fin 1024 → Fin 3072 → EReal) (k : Fin 1024) : EReal :=
  proj x g w ⟨1024 + k.val, by omega⟩ * proj x g w ⟨2048 + k.val, by omega⟩

/-- One row of the gated convolution's result: the row plus the output projection of the first third of the projection
    times the convolved row `c`. -/
def odd (x g : Fin 1024 → EReal) (w : Fin 1024 → Fin 3072 → EReal) (c : Fin 1024 → EReal) (o : Fin 1024 → Fin 1024 → EReal) (j : Fin 1024) : EReal :=
  x j + ∑ k, proj x g w ⟨k.val, by omega⟩ * c k * o k j

end Cert.Spec

namespace Cert.OddMixerIdeal.Row
open Cert.OddMixerIdeal Cert.OddMixerIdeal.Gen Cert.Spec

variable (x0 : Vec Ideal S512x1024 .f32) (x1 : Vec Ideal S1x1024 .f32) (x2 : Vec Ideal S1024x3072 .bf16)

/-- The projection of a row of the block. -/
theorem pay4 (r : Fin 512) (c : Fin 3072) :
    k0_pay4 x0 x1 x2 (ix2 r c) = proj (fun l => x0 (ix2 r l)) (fun l => x1 (ix2 0 l)) (fun d c => x2 (ix2 d c)) c := by
  pointwise [k0_pay4]
  rfl

/-- The gated row stored for the convolution. -/
theorem pay5 (r : Fin 512) (k : Fin 1024) :
    k0_pay5 x0 x1 x2 (ix2 r k) = gat (fun l => x0 (ix2 r l)) (fun l => x1 (ix2 0 l)) (fun d c => x2 (ix2 d c)) k := by
  unfold k0_pay5
  pointwise []
  simp only [pay4]
  rfl

/-- The last tap's product. -/
theorem pay6 (w : Vec Ideal S1x1024 .f32) (c : Vec Ideal S512x1024 .f32) (r : Fin 512) (k : Fin 1024) :
    k0_pay6 w c (ix2 r k) = w (ix2 0 k) * c (ix2 r k) := by
  pointwise [k0_pay6]

/-- The stored rows are what was loaded. -/
theorem pay1 (c : Vec Ideal S8x1024 .f32) (i : Fin 8) (k : Fin 1024) : k0_pay1 c (ix2 i k) = c (ix2 i k) := by
  pointwise [k0_pay1]

/-- The rows before the first block are zero. -/
theorem pay3 (i : Fin 8) (k : Fin 1024) : k0_pay3 (F := Ideal) (ix2 i k) = 0 := by
  pointwise [k0_pay3]

/-- A row of the result from the projection and the three taps. -/
theorem pay2 (z : FVec Ideal S512x3072 .f32) (p : FVec Ideal S512x1024 .f32) (w1 : Vec Ideal S1x1024 .f32)
    (c1 : Vec Ideal S512x1024 .f32) (w0 : Vec Ideal S1x1024 .f32) (c0 : Vec Ideal S512x1024 .f32) (o : Vec Ideal S1024x1024 .bf16) (r : Fin 512) (j : Fin 1024) :
    k0_pay2 x0 z p w1 c1 w0 c0 o (ix2 r j)
      = x0 (ix2 r j) + ∑ k : Fin 1024, z (ix2 r ⟨k.val, by omega⟩) * (p (ix2 r k) + w1 (ix2 0 k) * c1 (ix2 r k) + w0 (ix2 0 k) * c0 (ix2 r k)) * o (ix2 k j) := by
  pointwise [k0_pay2]

end Cert.OddMixerIdeal.Row

end
end
-- ==== Proof.OddRef.lean ====
module

public import proofs.«01_k».proof.Proof.OddPay
public import proofs.«01_k».proof.Proof.Gen.RefOddMixerIdeal.Read

set_option maxRecDepth 16384

@[expose] public section
noncomputable section

open Idealize.ShloMosaic Idealize.ShloMosaic.TcCoe Idealize.SL.Sem

/-! What the gated convolution's reference computes, entry by entry. -/

namespace Cert.RefOddMixerIdeal.Row
open Cert.RefOddMixerIdeal Cert.RefOddMixerIdeal.Read Cert.Spec

variable (x0 : (⟨S32768x1024, .f32⟩ : BufTy).Contents (Elt Ideal)) (x1 : (⟨S1024, .f32⟩ : BufTy).Contents (Elt Ideal))
  (x2 : (⟨S1024x3072, .f32⟩ : BufTy).Contents (Elt Ideal)) (x3 : (⟨S3x1024, .f32⟩ : BufTy).Contents (Elt Ideal))
  (x4 : (⟨S1024x1024, .f32⟩ : BufTy).Contents (Elt Ideal))

/-- The rows, by batch. -/
theorem row0 (b : Fin 4) (r : Fin 8192) (k : Fin 1024) :
    val_main_v0 x0 (ix3 b r k) = x0 (ix2 ⟨b.val * 8192 + r.val, by omega⟩ k) := by
  pointwise [val_main_v0]
  blk_ext []

/-- The normalised row. -/
theorem norm (b : Fin 4) (r : Fin 8192) (k : Fin 1024) :
    val_main_v13 x0 x1 (ix3 b r k) = rms (fun l => x0 (ix2 ⟨b.val * 8192 + r.val, by omega⟩ l)) (fun l => x1 (ix1 l)) k := by
  pointwise [val_main_v13, val_main_v12, val_main_v11, val_main_v10, val_main_v9, val_main_v8, val_main_v7, val_main_v6, val_main_v5, val_main_v4, val_main_v3, val_main_v2, val_main_v1, val_main_cst, val_main_cst_0, val_main_cst_1]
  simp only [row0]
  rfl

/-- The input projection. -/
theorem input (b : Fin 4) (r : Fin 8192) (c : Fin 3072) :
    val_main_v14 x0 x1 x2 (ix3 b r c)
      = proj (fun l => x0 (ix2 ⟨b.val * 8192 + r.val, by omega⟩ l)) (fun l => x1 (ix1 l)) (fun d c => x2 (ix2 d c)) c := by
  pointwise [val_main_v14]
  simp only [norm]
  rfl

/-- The gated row. -/
theorem gated (b : Fin 4) (r : Fin 8192) (k : Fin 1024) :
    val_main_v18 x0 x1 x2 (ix3 b r k)
      = gat (fun l => x0 (ix2 ⟨b.val * 8192 + r.val, by omega⟩ l)) (fun l => x1 (ix1 l)) (fun d c => x2 (ix2 d c)) k := by
  unfold val_main_v18 val_main_v16 val_main_v17
  pointwise []
  simp only [input]
  rfl

/-- The gated rows after two zero rows. -/
theorem padded (b : Fin 4) (i : Fin 8194) (k : Fin 1024) :
    val_main_v19 x0 x1 x2 (ix3 b i k)
      = if h : 2 ≤ i.val then val_main_v18 x0 x1 x2 (ix3 b ⟨i.val - 2, by omega⟩ k) else 0 := by
  unfold val_main_v19
  generalize val_main_v18 x0 x1 x2 = y
  pointwise [val_main_call0_v0, val_main_c]
  have hz : (FloatOps.sitofp (F := Ideal) FTy.f32 0#32) = (0 : EReal) := by
    show ((((0#32 : BitVec 32).toInt : ℝ)) : EReal) = 0
    simp
  rw [hz]
  by_cases h : 2 ≤ i.val
  · rw [dif_pos h, dif_pos ⟨h, by omega⟩]
  · rw [dif_neg h, dif_neg fun h' => h h'.1]

/-- The convolved row: the three taps over the padded rows. -/
theorem conv (b : Fin 4) (r : Fin 8192) (k : Fin 1024) :
    val_main_v41 x0 x1 x2 x3 (ix3 b r k)
      = x3 (ix2 0 k) * val_main_v19 x0 x1 x2 (ix3 b ⟨r.val, by omega⟩ k) + x3 (ix2 1 k) * val_main_v19 x0 x1 x2 (ix3 b ⟨1 + r.val, by omega⟩ k)
        + x3 (ix2 2 k) * val_main_v19 x0 x1 x2 (ix3 b ⟨2 + r.val, by omega⟩ k) := by
  unfold val_main_v41 val_main_v40 val_main_v39 val_main_v38 val_main_v37 val_main_v36 val_main_v35 val_main_v34 val_main_v33 val_main_v32 val_main_v31 val_main_v30 val_main_v29 val_main_v28 val_main_v27 val_main_v26 val_main_v25 val_main_v24 val_main_v23 val_main_v22 val_main_v21 val_main_v20
  generalize val_main_v19 x0 x1 x2 = y
  pointwise [val_main_cst_2]

/-- A row of the result. -/
theorem out (b : Fin 4) (r : Fin 8192) (j : Fin 1024) :
    val_main_v45 x0 x1 x2 x3 x4 (ix2 ⟨b.val * 8192 + r.val, by omega⟩ j)
      = odd (fun l => x0 (ix2 ⟨b.val * 8192 + r.val, by omega⟩ l)) (fun l => x1 (ix1 l)) (fun d c => x2 (ix2 d c))
          (fun k => val_main_v41 x0 x1 x2 x3 (ix3 b r k)) (fun k j => x4 (ix2 k j)) j := by
  have hs : val_main_v45 x0 x1 x2 x3 x4 (ix2 ⟨b.val * 8192 + r.val, by omega⟩ j) = val_main_v44 x0 x1 x2 x3 x4 (ix3 b r j) := by
    unfold val_main_v45
    generalize val_main_v44 x0 x1 x2 x3 x4 = y
    pointwise []
    blk_ext []
  rw [hs]
  unfold val_main_v44 val_main_v43 val_main_v42 val_main_v15
  generalize val_main_v41 x0 x1 x2 x3 = y
  pointwise []
  simp only [input, row0]
  rfl

end Cert.RefOddMixerIdeal.Row

end
end
-- ==== Proof.Buf.lean ====
module

public import proofs.«01_k».proof.Proof.Spec
public import Idealize.ShloMosaic.Lib.Pipeline.ValueKit
public import Idealize.ShloMosaic.Lib.WritesUnit
public import Idealize.ShloMosaic.Lib.Pipeline.ReadBack

set_option maxRecDepth 16384

@[expose] public section
noncomputable section

open Idealize.ShloMosaic Idealize.ShloMosaic.TcCoe Idealize.SL.Sem

/-! Stores into a rank two buffer read back at an index: under the last store its payload, elsewhere what was stored before. -/

namespace Cert.Buf

variable {Val : EltTy → Type} [∀ e, Nonempty (Val e)] {e : EltTy} {n0 n1 a b h w : ℕ}

/-- An index under the last store reads that store's payload. -/
theorem canon_hit (inb : ∀ d, (![a, b] : Fin 2 → ℕ) d + (![h, w] : Fin 2 → ℕ) d ≤ (⟨2, ![n0, n1]⟩ : Shape).size d)
    (P : (⟨2, ![h, w]⟩ : Shape).Idx → Val e) (L : List (View.Piece Val (⟨2, ![n0, n1]⟩ : Shape) e))
    (i : Fin n0) (j : Fin n1) (x : Fin h) (y : Fin w) (hi : i.val = a + x.val) (hj : j.val = b + y.val) :
    View.canon ((⟨Rect.unit (s := ⟨2, ![n0, n1]⟩) ![a, b] ![h, w] inb, P⟩ : View.Piece Val _ e) :: L) (ix2 i j) = P (ix2 x y) := by
  have hy : (Rect.unit (s := ⟨2, ![n0, n1]⟩) ![a, b] ![h, w] inb).emb (ix2 x y) = ix2 i j := by
    refine Rect.emb_eq_of_coords _ _ _ (Fin.forall_fin_two.mpr ⟨?_, ?_⟩)
    · show i.val = a + 1 * x.val
      omega
    · show j.val = b + 1 * y.val
      omega
  rw [← hy]
  exact View.canon_cons_emb _ _ _ _

/-- An index off a box is not in it. -/
theorem not_mem (inb : ∀ d, (![a, b] : Fin 2 → ℕ) d + (![h, w] : Fin 2 → ℕ) d ≤ (⟨2, ![n0, n1]⟩ : Shape).size d)
    (i : Fin n0) (j : Fin n1) (ho : i.val < a ∨ a + h ≤ i.val ∨ j.val < b ∨ b + w ≤ j.val) :
    ix2 i j ∉ (Rect.unit (s := ⟨2, ![n0, n1]⟩) ![a, b] ![h, w] inb).set := by
  rw [Rect.mem_set_unit]
  intro hall
  have h0 : a ≤ i.val ∧ i.val < a + h := hall 0
  have h1 : b ≤ j.val ∧ j.val < b + w := hall 1
  omega

/-- An index off the last store reads what was stored before. -/
theorem canon_miss (inb : ∀ d, (![a, b] : Fin 2 → ℕ) d + (![h, w] : Fin 2 → ℕ) d ≤ (⟨2, ![n0, n1]⟩ : Shape).size d)
    (P : (⟨2, ![h, w]⟩ : Shape).Idx → Val e) (L : List (View.Piece Val (⟨2, ![n0, n1]⟩ : Shape) e))
    (i : Fin n0) (j : Fin n1) (ho : i.val < a ∨ a + h ≤ i.val ∨ j.val < b ∨ b + w ≤ j.val) :
    View.canon ((⟨Rect.unit (s := ⟨2, ![n0, n1]⟩) ![a, b] ![h, w] inb, P⟩ : View.Piece Val _ e) :: L) (ix2 i j) = View.canon L (ix2 i j) :=
  View.canon_cons_of_not_mem _ _ (not_mem inb i j ho)

/-- A load of a box after stores reads them at the box's index. -/
theorem readCov_at {sig : RefSig} {κ : Kind} {sp : Space} (v : View sig κ sp (⟨2, ![n0, n1]⟩ : Shape) e)
    (L : List (View.Piece Val (⟨2, ![n0, n1]⟩ : Shape) e))
    (inb : ∀ d, (![a, b] : Fin 2 → ℕ) d + (![h, w] : Fin 2 → ℕ) d ≤ (⟨2, ![n0, n1]⟩ : Shape).size d) (x : Fin h) (y : Fin w)
    (i : Fin n0) (j : Fin n1) (hi : i.val = a + x.val) (hj : j.val = b + y.val) :
    v.readCov L (Rect.unit (s := ⟨2, ![n0, n1]⟩) ![a, b] ![h, w] inb).toLoadRect (ix2 x y) = View.canon L (ix2 i j) := by
  have hy : (Rect.unit (s := ⟨2, ![n0, n1]⟩) ![a, b] ![h, w] inb).emb (ix2 x y) = ix2 i j := by
    refine Rect.emb_eq_of_coords _ _ _ (Fin.forall_fin_two.mpr ⟨?_, ?_⟩)
    · show i.val = a + 1 * x.val
      omega
    · show j.val = b + 1 * y.val
      omega
  rw [View.readCov_eq_canon', ← hy]
  rfl

/-- A load of a box reads the contents at the box's index. -/
theorem ld_at (X : (⟨2, ![n0, n1]⟩ : Shape).Idx → Val e)
    (inb : ∀ d, (![a, b] : Fin 2 → ℕ) d + (![h, w] : Fin 2 → ℕ) d ≤ (⟨2, ![n0, n1]⟩ : Shape).size d) (x : Fin h) (y : Fin w)
    (i : Fin n0) (j : Fin n1) (hi : i.val = a + x.val) (hj : j.val = b + y.val) :
    View.ld X (Rect.unit (s := ⟨2, ![n0, n1]⟩) ![a, b] ![h, w] inb) (ix2 x y) = X (ix2 i j) := by
  have hy : (Rect.unit (s := ⟨2, ![n0, n1]⟩) ![a, b] ![h, w] inb).emb (ix2 x y) = ix2 i j := by
    refine Rect.emb_eq_of_coords _ _ _ (Fin.forall_fin_two.mpr ⟨?_, ?_⟩)
    · show i.val = a + 1 * x.val
      omega
    · show j.val = b + 1 * y.val
      omega
  rw [← hy]
  rfl

variable {sig : RefSig} {κ : Kind} {sp : Space} (v : View sig κ sp (⟨2, ![n0, n1]⟩ : Shape) e) (f : v.ty.Contents Val)

omit [∀ e, Nonempty (Val e)] in
/-- Of stores over some contents, an index under the last one reads its payload. -/
theorem read_hit (inb : ∀ d, (![a, b] : Fin 2 → ℕ) d + (![h, w] : Fin 2 → ℕ) d ≤ (⟨2, ![n0, n1]⟩ : Shape).size d)
    (P : (⟨2, ![h, w]⟩ : Shape).Idx → Val e) (L : List (View.Piece Val (⟨2, ![n0, n1]⟩ : Shape) e))
    (i : Fin n0) (j : Fin n1) (x : Fin h) (y : Fin w) (hi : i.val = a + x.val) (hj : j.val = b + y.val) :
    v.read Val (v.writes Val f ((⟨Rect.unit (s := ⟨2, ![n0, n1]⟩) ![a, b] ![h, w] inb, P⟩ : View.Piece Val _ e) :: L)) (ix2 i j) = P (ix2 x y) :=
  View.read_writes_cons_hit_of_coords v f _ _ _ _ _ (Fin.forall_fin_two.mpr ⟨by show i.val = a + 1 * x.val; omega, by show j.val = b + 1 * y.val; omega⟩)

omit [∀ e, Nonempty (Val e)] in
/-- Of stores over some contents, an index off the last one reads what was there before. -/
theorem read_miss (inb : ∀ d, (![a, b] : Fin 2 → ℕ) d + (![h, w] : Fin 2 → ℕ) d ≤ (⟨2, ![n0, n1]⟩ : Shape).size d)
    (P : (⟨2, ![h, w]⟩ : Shape).Idx → Val e) (L : List (View.Piece Val (⟨2, ![n0, n1]⟩ : Shape) e))
    (i : Fin n0) (j : Fin n1) (ho : i.val < a ∨ a + h ≤ i.val ∨ j.val < b ∨ b + w ≤ j.val) :
    v.read Val (v.writes Val f ((⟨Rect.unit (s := ⟨2, ![n0, n1]⟩) ![a, b] ![h, w] inb, P⟩ : View.Piece Val _ e) :: L)) (ix2 i j)
      = v.read Val (v.writes Val f L) (ix2 i j) :=
  View.read_writes_cons_miss v f _ _ _ (not_mem inb i j ho)

end Cert.Buf

end
end
-- ==== Proof.OddVal.lean ====
module

public import proofs.«01_k».proof.Proof.OddRef
public import proofs.«01_k».proof.Proof.OddPay
public import proofs.«01_k».proof.Proof.Buf

set_option maxRecDepth 16384

@[expose] public section
noncomputable section

open Idealize.ShloMosaic Idealize.ShloMosaic.TcCoe Idealize.SL.Sem
open Idealize.ShloMosaic.Pipeline (Dat)

/-! The gated convolution's kernel at each grid point, its carried rows, and its final array. -/

namespace Cert.OddMixerIdeal.Row
open Cert.OddMixerIdeal Cert.OddMixerIdeal.Gen Cert.Spec

variable (m : (ℓ : Loc nD τ sig) → Buf (Elt Ideal) ℓ)

/-- Each window's block index at every grid point. -/
theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![t.val, 0] :=
  (by decide +kernel : ∀ t : Fin grid0.N, _)

/-- The grid has 64 points. -/
theorem lt_grid (t : Fin cfg0.N) : t.val < 64 := t.isLt

/-- The rows a point's block covers are rows of the array. -/
theorem lt_row (t : Fin cfg0.N) (r : Fin 512) : t.val * 512 + r.val < 32768 := by
  have := lt_grid t
  omega

/-- A point's first block holds its rows of the input. -/
theorem read0 (c : Dev nD) (t : Fin cfg0.N) (r : Fin 512) (l : Fin 1024) :
    iblk m c 0 t (ix2 r l) = m ((c : Thread nD τ).loc main_arg0) (ix2 ⟨t.val * 512 + r.val, lt_row t r⟩ l) := by
  blk_ext [iblk, V, idx t]

/-- Its second block is the gain. -/
theorem read1 (c : Dev nD) (t : Fin cfg0.N) (l : Fin 1024) :
    iblk m c 1 t (ix2 0 l) = m ((c : Thread nD τ).loc main_arg1) (ix1 l) := by
  blk_simp [iblk, idx t]
  entry_read
  pointwise []
  blk_ext [iblk, idx t]

/-- Its third block is the input projection. -/
theorem read2 (c : Dev nD) (t : Fin cfg0.N) (d : Fin 1024) (k : Fin 3072) :
    iblk m c 2 t (ix2 d k) = m ((c : Thread nD τ).loc main_arg2) (ix2 d k) := by
  blk_simp [iblk, idx t]
  entry_read
  pointwise []
  blk_ext [iblk, idx t]

/-- Its fourth block is the taps. -/
theorem read3 (c : Dev nD) (t : Fin cfg0.N) (a : Fin 3) (l : Fin 1024) :
    iblk m c 3 t (ix2 a l) = m ((c : Thread nD τ).loc main_arg3) (ix2 a l) := by
  blk_ext [iblk, V, idx t]

/-- Its fifth block is the output projection. -/
theorem read4 (c : Dev nD) (t : Fin cfg0.N) (d j : Fin 1024) :
    iblk m c 4 t (ix2 d j) = m ((c : Thread nD τ).loc main_arg4) (ix2 d j) := by
  blk_simp [iblk, idx t]
  entry_read
  pointwise []
  blk_ext [iblk, idx t]

/-- The gated row `n` of the whole input. -/
def row (c : Dev nD) (n : Fin 32768) (k : Fin 1024) : EReal :=
  gat (fun l => m ((c : Thread nD τ).loc main_arg0) (ix2 n l)) (fun l => m ((c : Thread nD τ).loc main_arg1) (ix1 l))
    (fun d k => m ((c : Thread nD τ).loc main_arg2) (ix2 d k)) k

/-- A point stores its block's gated rows. -/
theorem stored (c : Dev nD) (t : Fin cfg0.N) (r : Fin 512) (k : Fin 1024) :
    k0_pay5 (iblk m c 0 t) (iblk m c 1 t) (iblk m c 2 t) (ix2 r k) = row m c ⟨t.val * 512 + r.val, lt_row t r⟩ k := by
  rw [pay5]
  simp only [read0 m, read1 m, read2 m]
  rfl

/-- After a point the first eight rows of the scratch are the last eight gated rows of its block. -/
theorem carried (c : Dev nD) (t : Fin cfg0.N) (i : Fin 8) (k : Fin 1024) :
    (outsAt0 m c t.val t.isLt).2 (ix2 ⟨i.val, by omega⟩ k) = row m c ⟨t.val * 512 + (504 + i.val), by have := lt_grid t; omega⟩ k := by
  have hi := i.isLt
  by_cases h : t.val % 16 = 0
  · rw [outsAt0_A m c t h]
    frame_out
    refine (Cert.Buf.canon_hit _ _ _ _ _ i k (by show i.val = 0 + i.val; omega) (by omega)).trans ?_
    rw [pay1]
    refine (Cert.Buf.readCov_at _ _ _ _ _ ⟨512 + i.val, by omega⟩ k rfl (by omega)).trans ?_
    refine (Cert.Buf.canon_hit _ _ _ _ _ ⟨504 + i.val, by omega⟩ k (by show 512 + i.val = 8 + (504 + i.val); omega) (by omega)).trans ?_
    exact stored m c t _ _
  · rw [outsAt0_B m c t h]
    frame_out
    refine (Cert.Buf.canon_hit _ _ _ _ _ i k (by show i.val = 0 + i.val; omega) (by omega)).trans ?_
    rw [pay1]
    refine (Cert.Buf.readCov_at _ _ _ _ _ ⟨512 + i.val, by omega⟩ k rfl (by omega)).trans ?_
    refine (Cert.Buf.canon_hit _ _ _ _ _ ⟨504 + i.val, by omega⟩ k (by show 512 + i.val = 8 + (504 + i.val); omega) (by omega)).trans ?_
    exact stored m c t _ _

/-- The rows the taps of a point run over: the gated rows of its batch, two zero rows first. -/
def tap (c : Dev nD) (t : Fin cfg0.N) (a : Fin 3) (r : Fin 512) (k : Fin 1024) : EReal :=
  Cert.RefOddMixerIdeal.Read.val_main_v19 (m ((c : Thread nD τ).loc main_arg0)) (m ((c : Thread nD τ).loc main_arg1))
    (m ((c : Thread nD τ).loc main_arg2)) (ix3 ⟨t.val / 16, by have := lt_grid t; omega⟩ ⟨a.val + (t.val % 16 * 512 + r.val), by omega⟩ k)

/-- A tap's row is zero before the batch's first row. -/
theorem tap_zero (c : Dev nD) (t : Fin cfg0.N) (a : Fin 3) (r : Fin 512) (k : Fin 1024) (h : a.val + (t.val % 16 * 512 + r.val) < 2) :
    tap m c t a r k = 0 := by
  rw [tap, Cert.RefOddMixerIdeal.Row.padded, dif_neg (by show ¬ 2 ≤ a.val + (t.val % 16 * 512 + r.val); omega)]

/-- From there on it is a gated row. -/
theorem tap_row (c : Dev nD) (t : Fin cfg0.N) (a : Fin 3) (r : Fin 512) (k : Fin 1024) (n : Fin 32768)
    (h : 2 ≤ a.val + (t.val % 16 * 512 + r.val)) (hn : n.val + 2 = t.val * 512 + r.val + a.val) : row m c n k = tap m c t a r k := by
  rw [tap, Cert.RefOddMixerIdeal.Row.padded, dif_pos h, Cert.RefOddMixerIdeal.Row.gated]
  have he : n = ⟨(⟨t.val / 16, by have := lt_grid t; omega⟩ : Fin 4).val * 8192
      + (⟨a.val + (t.val % 16 * 512 + r.val) - 2, by omega⟩ : Fin 8192).val, by have := lt_grid t; show t.val / 16 * 8192 + (a.val + (t.val % 16 * 512 + r.val) - 2) < 32768; omega⟩ :=
    Fin.ext (by show n.val = t.val / 16 * 8192 + (a.val + (t.val % 16 * 512 + r.val) - 2); omega)
  exact congrArg (fun n => row m c n k) he

/-- The weight of a tap. -/
def wt (c : Dev nD) (a : Fin 3) (k : Fin 1024) : EReal := m ((c : Thread nD τ).loc main_arg3) (ix2 a k)

/-- The result at a row from the three taps' rows. -/
theorem value (c : Dev nD) (t : Fin cfg0.N) (c2 c1 c0 : Vec Ideal S512x1024 .f32) (r : Fin 512) (j : Fin 1024)
    (h2 : ∀ k, c2 (ix2 r k) = tap m c t 2 r k) (h1 : ∀ k, c1 (ix2 r k) = tap m c t 1 r k) (h0 : ∀ k, c0 (ix2 r k) = tap m c t 0 r k) :
    k0_pay2 (iblk m c 0 t) (k0_pay4 (iblk m c 0 t) (iblk m c 1 t) (iblk m c 2 t))
        (k0_pay6 (View.ld (iblk m c 3 t) (Rect.unit (s := S3x1024) ![2, 0] S1x1024.size inb_S3x1024_S1x1024_2_0)) c2)
        (View.ld (iblk m c 3 t) (Rect.unit (s := S3x1024) ![1, 0] S1x1024.size inb_S3x1024_S1x1024_1_0)) c1
        (View.ld (iblk m c 3 t) (Rect.unit (s := S3x1024) ![0, 0] S1x1024.size inb_S3x1024_S1x1024_0_0)) c0 (iblk m c 4 t) (ix2 r j)
      = Cert.RefOddMixerIdeal.Read.val_main_v45 (m ((c : Thread nD τ).loc main_arg0)) (m ((c : Thread nD τ).loc main_arg1))
          (m ((c : Thread nD τ).loc main_arg2)) (m ((c : Thread nD τ).loc main_arg3)) (m ((c : Thread nD τ).loc main_arg4))
          (ix2 ⟨t.val * 512 + r.val, lt_row t r⟩ j) := by
  have ht := lt_grid t
  have hr : (⟨t.val * 512 + r.val, lt_row t r⟩ : Fin 32768)
      = ⟨(⟨t.val / 16, by omega⟩ : Fin 4).val * 8192 + (⟨t.val % 16 * 512 + r.val, by omega⟩ : Fin 8192).val, by omega⟩ :=
    Fin.ext (by show t.val * 512 + r.val = t.val / 16 * 8192 + (t.val % 16 * 512 + r.val); omega)
  have w2 : ∀ k : Fin 1024, View.ld (iblk m c 3 t) (Rect.unit (s := S3x1024) ![2, 0] S1x1024.size inb_S3x1024_S1x1024_2_0) (ix2 0 k) = wt m c 2 k :=
    fun k => (Cert.Buf.ld_at _ _ _ _ 2 k rfl (by omega)).trans (read3 m c t 2 k)
  have w1 : ∀ k : Fin 1024, View.ld (iblk m c 3 t) (Rect.unit (s := S3x1024) ![1, 0] S1x1024.size inb_S3x1024_S1x1024_1_0) (ix2 0 k) = wt m c 1 k :=
    fun k => (Cert.Buf.ld_at _ _ _ _ 1 k rfl (by omega)).trans (read3 m c t 1 k)
  have w0 : ∀ k : Fin 1024, View.ld (iblk m c 3 t) (Rect.unit (s := S3x1024) ![0, 0] S1x1024.size inb_S3x1024_S1x1024_0_0) (ix2 0 k) = wt m c 0 k :=
    fun k => (Cert.Buf.ld_at _ _ _ _ 0 k rfl (by omega)).trans (read3 m c t 0 k)
  have hc : ∀ k : Fin 1024, Cert.RefOddMixerIdeal.Read.val_main_v41 (m ((c : Thread nD τ).loc main_arg0)) (m ((c : Thread nD τ).loc main_arg1))
          (m ((c : Thread nD τ).loc main_arg2)) (m ((c : Thread nD τ).loc main_arg3)) (ix3 (⟨t.val / 16, by omega⟩ : Fin 4) (⟨t.val % 16 * 512 + r.val, by omega⟩ : Fin 8192) k)
        = wt m c 2 k * tap m c t 2 r k + wt m c 1 k * tap m c t 1 r k
          + wt m c 0 k * tap m c t 0 r k := by
    intro k
    rw [Cert.RefOddMixerIdeal.Row.conv]
    have h0 : (⟨t.val % 16 * 512 + r.val, by omega⟩ : Fin 8194) = ⟨(0 : Fin 3).val + (t.val % 16 * 512 + r.val), by show 0 + (t.val % 16 * 512 + r.val) < 8194; omega⟩ :=
      Fin.ext (by show t.val % 16 * 512 + r.val = 0 + (t.val % 16 * 512 + r.val); omega)
    rw [h0]
    show wt m c 0 k * tap m c t 0 r k + wt m c 1 k * tap m c t 1 r k + wt m c 2 k * tap m c t 2 r k = _
    rw [add_comm _ (wt m c 2 k * tap m c t 2 r k), add_comm (wt m c 0 k * _), ← add_assoc]
  rw [hr, Cert.RefOddMixerIdeal.Row.out, pay2]
  simp only [pay6, pay4, w0, w1, w2, h0, h1, h2, hc, read0 m, read1 m, read2 m, read4 m, hr, odd]

/-- The body's result at a point is the reference's block there. -/
theorem point (c : Dev nD) (t : Fin cfg0.N) (r : Fin 512) (j : Fin 1024) :
    (outsAt0 m c t.val t.isLt).1 (ix2 r j)
      = Cert.RefOddMixerIdeal.Read.val_main_v45 (m ((c : Thread nD τ).loc main_arg0)) (m ((c : Thread nD τ).loc main_arg1))
          (m ((c : Thread nD τ).loc main_arg2)) (m ((c : Thread nD τ).loc main_arg3)) (m ((c : Thread nD τ).loc main_arg4))
          (ix2 ⟨t.val * 512 + r.val, lt_row t r⟩ j) := by
  have ht := lt_grid t
  have hr := r.isLt
  have hin : ∀ (a : Fin 3) (k : Fin 1024) (h : 8 ≤ 6 + a.val + r.val), k0_pay5 (iblk m c 0 t) (iblk m c 1 t) (iblk m c 2 t) (ix2 ⟨6 + a.val + r.val - 8, by omega⟩ k) = tap m c t a r k :=
    fun a k h => (stored m c t _ k).trans (tap_row m c t a r k _ (by omega) (by show t.val * 512 + (6 + a.val + r.val - 8) + 2 = _; omega))
  by_cases h : t.val % 16 = 0
  · rw [outsAt0_A m c t h]
    frame_out
    refine value m c t _ _ _ r j (fun k => ?_) (fun k => ?_) (fun k => ?_)
    · refine (Cert.Buf.readCov_at _ _ _ _ _ ⟨8 + r.val, by omega⟩ k rfl (by omega)).trans ?_
      exact (Cert.Buf.canon_hit _ _ _ _ _ ⟨6 + 2 + r.val - 8, by omega⟩ k (by show 8 + r.val = 8 + (6 + 2 + r.val - 8); omega) (by omega)).trans (hin 2 k (by show 8 ≤ 6 + 2 + r.val; omega))
    · refine (Cert.Buf.readCov_at _ _ _ _ _ ⟨7 + r.val, by omega⟩ k rfl (by omega)).trans ?_
      by_cases ho : 8 ≤ 7 + r.val
      · exact (Cert.Buf.canon_hit _ _ _ _ _ ⟨6 + 1 + r.val - 8, by omega⟩ k (by show 7 + r.val = 8 + (6 + 1 + r.val - 8); omega) (by omega)).trans (hin 1 k (by show 8 ≤ 6 + 1 + r.val; omega))
      · refine (Cert.Buf.canon_miss _ _ _ _ _ (by show 7 + r.val < 8 ∨ _; omega)).trans ?_
        refine (Cert.Buf.canon_hit _ _ _ _ _ ⟨7 + r.val, by omega⟩ k (by show 7 + r.val = 0 + (7 + r.val); omega) (by omega)).trans ?_
        exact (pay3 _ _).trans (tap_zero m c t 1 r k (by show 1 + (t.val % 16 * 512 + r.val) < 2; omega)).symm
    · refine (Cert.Buf.readCov_at _ _ _ _ _ ⟨6 + r.val, by omega⟩ k rfl (by omega)).trans ?_
      by_cases ho : 8 ≤ 6 + r.val
      · exact (Cert.Buf.canon_hit _ _ _ _ _ ⟨6 + 0 + r.val - 8, by omega⟩ k (by show 6 + r.val = 8 + (6 + 0 + r.val - 8); omega) (by omega)).trans (hin 0 k (by show 8 ≤ 6 + 0 + r.val; omega))
      · refine (Cert.Buf.canon_miss _ _ _ _ _ (by show 6 + r.val < 8 ∨ _; omega)).trans ?_
        refine (Cert.Buf.canon_hit _ _ _ _ _ ⟨6 + r.val, by omega⟩ k (by show 6 + r.val = 0 + (6 + r.val); omega) (by omega)).trans ?_
        exact (pay3 _ _).trans (tap_zero m c t 0 r k (by show 0 + (t.val % 16 * 512 + r.val) < 2; omega)).symm
  · rw [outsAt0_B m c t h]
    frame_out
    refine value m c t _ _ _ r j (fun k => ?_) (fun k => ?_) (fun k => ?_)
    · refine (Cert.Buf.readCov_at _ _ _ _ _ ⟨8 + r.val, by omega⟩ k rfl (by omega)).trans ?_
      exact (Cert.Buf.canon_hit _ _ _ _ _ ⟨6 + 2 + r.val - 8, by omega⟩ k (by show 8 + r.val = 8 + (6 + 2 + r.val - 8); omega) (by omega)).trans (hin 2 k (by show 8 ≤ 6 + 2 + r.val; omega))
    · refine (Cert.Buf.ld_at _ _ _ _ ⟨7 + r.val, by omega⟩ k rfl (by omega)).trans ?_
      by_cases ho : 8 ≤ 7 + r.val
      · exact (Cert.Buf.read_hit _ _ _ _ _ _ _ ⟨6 + 1 + r.val - 8, by omega⟩ k (by show 7 + r.val = 8 + (6 + 1 + r.val - 8); omega) (by omega)).trans (hin 1 k (by show 8 ≤ 6 + 1 + r.val; omega))
      · refine (Cert.Buf.read_miss _ _ _ _ _ _ _ (by show 7 + r.val < 8 ∨ _; omega)).trans ?_
        rw [View.writes_nil, read_unread_whole]
        refine (carried m c ⟨t.val - 1, by omega⟩ ⟨7 + r.val, by omega⟩ k).trans ?_
        exact tap_row m c t 1 r k _ (by show 2 ≤ 1 + (t.val % 16 * 512 + r.val); omega) (by show (t.val - 1) * 512 + (504 + (7 + r.val)) + 2 = t.val * 512 + r.val + 1; omega)
    · refine (Cert.Buf.ld_at _ _ _ _ ⟨6 + r.val, by omega⟩ k rfl (by omega)).trans ?_
      by_cases ho : 8 ≤ 6 + r.val
      · exact (Cert.Buf.read_hit _ _ _ _ _ _ _ ⟨6 + 0 + r.val - 8, by omega⟩ k (by show 6 + r.val = 8 + (6 + 0 + r.val - 8); omega) (by omega)).trans (hin 0 k (by show 8 ≤ 6 + 0 + r.val; omega))
      · refine (Cert.Buf.read_miss _ _ _ _ _ _ _ (by show 6 + r.val < 8 ∨ _; omega)).trans ?_
        rw [View.writes_nil, read_unread_whole]
        refine (carried m c ⟨t.val - 1, by omega⟩ ⟨6 + r.val, by omega⟩ k).trans ?_
        exact tap_row m c t 0 r k _ (by show 2 ≤ 0 + (t.val % 16 * 512 + r.val); omega) (by show (t.val - 1) * 512 + (504 + (6 + r.val)) + 2 = t.val * 512 + r.val + 0; omega)

/-- The result array after the run is the reference's stage 45 of the arguments. -/
theorem final (c : Dev nD) :
    (dats m 0 c).arrAt 5 (cfgs 0).N
      = Cert.RefOddMixerIdeal.Read.val_main_v45 (m ((c : Thread nD τ).loc main_arg0)) (m ((c : Thread nD τ).loc main_arg1))
          (m ((c : Thread nD τ).loc main_arg2)) (m ((c : Thread nD τ).loc main_arg3)) (m ((c : Thread nD τ).loc main_arg4)) := by
  refine (dats m 0 c).arrAt_eq_of_covers 5 _ (by decide +kernel) fun t _ y => ?_
  blk_simp
  rw [after0_5]
  obtain ⟨r, j, rfl⟩ : ∃ (r : Fin 512) (j : Fin 1024), y = ix2 r j := ⟨y 0, y 1, eq_ix2 y⟩
  have he : (win0_5.blk t).view.emb (ix2 r j) = ix2 ⟨t.val * 512 + r.val, lt_row t r⟩ j := by blk_ext [idx t]
  exact (point m c t r j).trans (by rw [← he])

end Cert.OddMixerIdeal.Row

end
end
-- ==== Proof.OddPair.lean ====
module

public import proofs.«01_k».proof.Defs
public import proofs.«01_k».proof.Proof.OddVal
public import proofs.«01_k».proof.Proof.Gen.OddMixerIdeal.Frame
public import proofs.«01_k».proof.Proof.Gen.RefOddMixerIdeal.Run

set_option maxRecDepth 16384

@[expose] public section
noncomputable section

open Idealize.ShloMosaic Idealize.ShloMosaic.TcCoe Idealize.SL.Sem

namespace Cert.OddMixerIdeal.Row

/-- On the same arguments the kernel and the reference both finish, with the same result. -/
theorem algebraic : Cert.algebraic_OddMixerIdeal_RefOddMixerIdeal := by
  pair_intro
  · run_from Cert.OddMixerIdeal.Value.run_blocks m g
  · run_from Cert.RefOddMixerIdeal.Value.run m' g'
    obtain ⟨e0, e1, e2, e3, e4⟩ := hagree c
    rw [Cert.RefOddMixerIdeal.Read.val_main_v45_eq, e0, e1, e2, e3, e4]
    exact (final m c).symm

end Cert.OddMixerIdeal.Row

end
end
-- ==== Proof.EvenMix.lean ====
module

public import proofs.«01_k».proof.Proof.Gen.EvenMixerIdeal.Value
public import proofs.«01_k».proof.Proof.Buf

set_option maxRecDepth 16384

@[expose] public section
noncomputable section

open Idealize.ShloMosaic Idealize.ShloMosaic.TcCoe Idealize.SL.Sem
open Idealize.ShloMosaic.Pipeline (Dat)

/-! The even layer's mixed rows as one array. -/

namespace Cert.EvenMixerIdeal.Row
open Cert.EvenMixerIdeal Cert.EvenMixerIdeal.Gen

/-- Eight blocks of convolved rows in the left half and sixteen tiles in the right half are one array. -/
theorem mixed (A B : Fin 512 → Fin 512 → EReal) (P0 P1 P2 P3 P4 P5 P6 P7 : Vec Ideal S64x512 .bf16) (T00 T01 T02 T03 T10 T11 T12 T13 T20 T21 T22 T23 T30 T31 T32 T33 : Vec Ideal S128x128 .bf16)
    (hP0 : ∀ (x : Fin 64) (r k : Fin 512), r.val = 0 + x.val → P0 (ix2 x k) = A r k)
    (hP1 : ∀ (x : Fin 64) (r k : Fin 512), r.val = 64 + x.val → P1 (ix2 x k) = A r k)
    (hP2 : ∀ (x : Fin 64) (r k : Fin 512), r.val = 128 + x.val → P2 (ix2 x k) = A r k)
    (hP3 : ∀ (x : Fin 64) (r k : Fin 512), r.val = 192 + x.val → P3 (ix2 x k) = A r k)
    (hP4 : ∀ (x : Fin 64) (r k : Fin 512), r.val = 256 + x.val → P4 (ix2 x k) = A r k)
    (hP5 : ∀ (x : Fin 64) (r k : Fin 512), r.val = 320 + x.val → P5 (ix2 x k) = A r k)
    (hP6 : ∀ (x : Fin 64) (r k : Fin 512), r.val = 384 + x.val → P6 (ix2 x k) = A r k)
    (hP7 : ∀ (x : Fin 64) (r k : Fin 512), r.val = 448 + x.val → P7 (ix2 x k) = A r k)
    (hT00 : ∀ (i e : Fin 128) (r k : Fin 512), r.val = 0 + i.val → k.val = 0 + e.val → T00 (ix2 i e) = B r k)
    (hT01 : ∀ (i e : Fin 128) (r k : Fin 512), r.val = 0 + i.val → k.val = 128 + e.val → T01 (ix2 i e) = B r k)
    (hT02 : ∀ (i e : Fin 128) (r k : Fin 512), r.val = 0 + i.val → k.val = 256 + e.val → T02 (ix2 i e) = B r k)
    (hT03 : ∀ (i e : Fin 128) (r k : Fin 512), r.val = 0 + i.val → k.val = 384 + e.val → T03 (ix2 i e) = B r k)
    (hT10 : ∀ (i e : Fin 128) (r k : Fin 512), r.val = 128 + i.val → k.val = 0 + e.val → T10 (ix2 i e) = B r k)
    (hT11 : ∀ (i e : Fin 128) (r k : Fin 512), r.val = 128 + i.val → k.val = 128 + e.val → T11 (ix2 i e) = B r k)
    (hT12 : ∀ (i e : Fin 128) (r k : Fin 512), r.val = 128 + i.val → k.val = 256 + e.val → T12 (ix2 i e) = B r k)
    (hT13 : ∀ (i e : Fin 128) (r k : Fin 512), r.val = 128 + i.val → k.val = 384 + e.val → T13 (ix2 i e) = B r k)
    (hT20 : ∀ (i e : Fin 128) (r k : Fin 512), r.val = 256 + i.val → k.val = 0 + e.val → T20 (ix2 i e) = B r k)
    (hT21 : ∀ (i e : Fin 128) (r k : Fin 512), r.val = 256 + i.val → k.val = 128 + e.val → T21 (ix2 i e) = B r k)
    (hT22 : ∀ (i e : Fin 128) (r k : Fin 512), r.val = 256 + i.val → k.val = 256 + e.val → T22 (ix2 i e) = B r k)
    (hT23 : ∀ (i e : Fin 128) (r k : Fin 512), r.val = 256 + i.val → k.val = 384 + e.val → T23 (ix2 i e) = B r k)
    (hT30 : ∀ (i e : Fin 128) (r k : Fin 512), r.val = 384 + i.val → k.val = 0 + e.val → T30 (ix2 i e) = B r k)
    (hT31 : ∀ (i e : Fin 128) (r k : Fin 512), r.val = 384 + i.val → k.val = 128 + e.val → T31 (ix2 i e) = B r k)
    (hT32 : ∀ (i e : Fin 128) (r k : Fin 512), r.val = 384 + i.val → k.val = 256 + e.val → T32 (ix2 i e) = B r k)
    (hT33 : ∀ (i e : Fin 128) (r k : Fin 512), r.val = 384 + i.val → k.val = 384 + e.val → T33 (ix2 i e) = B r k)
    (inb : ∀ d, (![0, 0] : Fin 2 → ℕ) d + S512x1024.size d ≤ S512x1024.size d) (r : Fin 512) (k : Fin 1024) :
    (View.whole cc0_scratch3).readCov (Val := Elt Ideal) [(⟨Rect.unit (s := S512x1024) ![384, 896] S128x128.size inb_S512x1024_S128x128_384_896, T33⟩ : View.Piece (Elt Ideal) S512x1024 .bf16), (⟨Rect.unit (s := S512x1024) ![384, 768] S128x128.size inb_S512x1024_S128x128_384_768, T32⟩ : View.Piece (Elt Ideal) S512x1024 .bf16), (⟨Rect.unit (s := S512x1024) ![384, 640] S128x128.size inb_S512x1024_S128x128_384_640, T31⟩ : View.Piece (Elt Ideal) S512x1024 .bf16), (⟨Rect.unit (s := S512x1024) ![384, 512] S128x128.size inb_S512x1024_S128x128_384_512, T30⟩ : View.Piece (Elt Ideal) S512x1024 .bf16), (⟨Rect.unit (s := S512x1024) ![256, 896] S128x128.size inb_S512x1024_S128x128_256_896, T23⟩ : View.Piece (Elt Ideal) S512x1024 .bf16), (⟨Rect.unit (s := S512x1024) ![256, 768] S128x128.size inb_S512x1024_S128x128_256_768, T22⟩ : View.Piece (Elt Ideal) S512x1024 .bf16), (⟨Rect.unit (s := S512x1024) ![256, 640] S128x128.size inb_S512x1024_S128x128_256_640, T21⟩ : View.Piece (Elt Ideal) S512x1024 .bf16), (⟨Rect.unit (s := S512x1024) ![256, 512] S128x128.size inb_S512x1024_S128x128_256_512, T20⟩ : View.Piece (Elt Ideal) S512x1024 .bf16), (⟨Rect.unit (s := S512x1024) ![128, 896] S128x128.size inb_S512x1024_S128x128_128_896, T13⟩ : View.Piece (Elt Ideal) S512x1024 .bf16), (⟨Rect.unit (s := S512x1024) ![128, 768] S128x128.size inb_S512x1024_S128x128_128_768, T12⟩ : View.Piece (Elt Ideal) S512x1024 .bf16), (⟨Rect.unit (s := S512x1024) ![128, 640] S128x128.size inb_S512x1024_S128x128_128_640, T11⟩ : View.Piece (Elt Ideal) S512x1024 .bf16), (⟨Rect.unit (s := S512x1024) ![128, 512] S128x128.size inb_S512x1024_S128x128_128_512, T10⟩ : View.Piece (Elt Ideal) S512x1024 .bf16), (⟨Rect.unit (s := S512x1024) ![0, 896] S128x128.size inb_S512x1024_S128x128_0_896, T03⟩ : View.Piece (Elt Ideal) S512x1024 .bf16), (⟨Rect.unit (s := S512x1024) ![0, 768] S128x128.size inb_S512x1024_S128x128_0_768, T02⟩ : View.Piece (Elt Ideal) S512x1024 .bf16), (⟨Rect.unit (s := S512x1024) ![0, 640] S128x128.size inb_S512x1024_S128x128_0_640, T01⟩ : View.Piece (Elt Ideal) S512x1024 .bf16), (⟨Rect.unit (s := S512x1024) ![0, 512] S128x128.size inb_S512x1024_S128x128_0_512, T00⟩ : View.Piece (Elt Ideal) S512x1024 .bf16), (⟨Rect.unit (s := S512x1024) ![448, 0] S64x512.size inb_S512x1024_S64x512_448_0, P7⟩ : View.Piece (Elt Ideal) S512x1024 .bf16), (⟨Rect.unit (s := S512x1024) ![384, 0] S64x512.size inb_S512x1024_S64x512_384_0, P6⟩ : View.Piece (Elt Ideal) S512x1024 .bf16), (⟨Rect.unit (s := S512x1024) ![320, 0] S64x512.size inb_S512x1024_S64x512_320_0, P5⟩ : View.Piece (Elt Ideal) S512x1024 .bf16), (⟨Rect.unit (s := S512x1024) ![256, 0] S64x512.size inb_S512x1024_S64x512_256_0, P4⟩ : View.Piece (Elt Ideal) S512x1024 .bf16), (⟨Rect.unit (s := S512x1024) ![192, 0] S64x512.size inb_S512x1024_S64x512_192_0, P3⟩ : View.Piece (Elt Ideal) S512x1024 .bf16), (⟨Rect.unit (s := S512x1024) ![128, 0] S64x512.size inb_S512x1024_S64x512_128_0, P2⟩ : View.Piece (Elt Ideal) S512x1024 .bf16), (⟨Rect.unit (s := S512x1024) ![64, 0] S64x512.size inb_S512x1024_S64x512_64_0, P1⟩ : View.Piece (Elt Ideal) S512x1024 .bf16), (⟨Rect.unit (s := S512x1024) ![0, 0] S64x512.size inb_S512x1024_S64x512_0_0, P0⟩ : View.Piece (Elt Ideal) S512x1024 .bf16)]
      (Rect.unit (s := S512x1024) ![0, 0] S512x1024.size inb).toLoadRect (ix2 r k)
      = if h : k.val < 512 then A r ⟨k.val, h⟩ else B r ⟨k.val - 512, by omega⟩ := by
  refine (Cert.Buf.readCov_at _ _ _ _ _ r k (by omega) (by omega)).trans ?_
  by_cases h : k.val < 512
  · rw [dif_pos h]
    have hr := r.isLt
    have hq : (0 ≤ r.val ∧ r.val < 64) ∨ (64 ≤ r.val ∧ r.val < 128) ∨ (128 ≤ r.val ∧ r.val < 192) ∨ (192 ≤ r.val ∧ r.val < 256) ∨ (256 ≤ r.val ∧ r.val < 320) ∨ (320 ≤ r.val ∧ r.val < 384) ∨ (384 ≤ r.val ∧ r.val < 448) ∨ (448 ≤ r.val ∧ r.val < 512) := by omega
    rcases hq with hq | hq | hq | hq | hq | hq | hq | hq
    · refine (Cert.Buf.canon_miss _ _ _ _ _ (by show r.val < 384 ∨ 384 + 128 ≤ r.val ∨ k.val < 896 ∨ 896 + 128 ≤ k.val; omega)).trans ?_
      refine (Cert.Buf.canon_miss _ _ _ _ _ (by show r.val < 384 ∨ 384 + 128 ≤ r.val ∨ k.val < 768 ∨ 768 + 128 ≤ k.val; omega)).trans ?_
      refine (Cert.Buf.canon_miss _ _ _ _ _ (by show r.val < 384 ∨ 384 + 128 ≤ r.val ∨ k.val < 640 ∨ 640 + 128 ≤ k.val; omega)).trans ?_
      refine (Cert.Buf.canon_miss _ _ _ _ _ (by show r.val < 384 ∨ 384 + 128 ≤ r.val ∨ k.val < 512 ∨ 512 + 128 ≤ k.val; omega)).trans ?_
      refine (Cert.Buf.canon_miss _ _ _ _ _ (by show r.val < 256 ∨ 256 + 128 ≤ r.val ∨ k.val < 896 ∨ 896 + 128 ≤ k.val; omega)).trans ?_
      refine (Cert.Buf.canon_miss _ _ _ _ _ (by show r.val < 256 ∨ 256 + 128 ≤ r.val ∨ k.val < 768 ∨ 768 + 128 ≤ k.val; omega)).trans ?_
      refine (Cert.Buf.canon_miss _ _ _ _ _ (by show r.val < 256 ∨ 256 + 128 ≤ r.val ∨ k.val < 640 ∨ 640 + 128 ≤ k.val; omega)).trans ?_
      refine (Cert.Buf.canon_miss _ _ _ _ _ (by show r.val < 256 ∨ 256 + 128 ≤ r.val ∨ k.val < 512 ∨ 512 + 128 ≤ k.val; omega)).trans ?_
      refine (Cert.Buf.canon_miss _ _ _ _ _ (by show r.val < 128 ∨ 128 + 128 ≤ r.val ∨ k.val < 896 ∨ 896 + 128 ≤ k.val; omega)).trans ?_
      refine (Cert.Buf.canon_miss _ _ _ _ _ (by show r.val < 128 ∨ 128 + 128 ≤ r.val ∨ k.val < 768 ∨ 768 + 128 ≤ k.val; omega)).trans ?_
      refine (Cert.Buf.canon_miss _ _ _ _ _ (by show r.val < 128 ∨ 128 + 128 ≤ r.val ∨ k.val < 640 ∨ 640 + 128 ≤ k.val; omega)).trans ?_
      refine (Cert.Buf.canon_miss _ _ _ _ _ (by show r.val < 128 ∨ 128 + 128 ≤ r.val ∨ k.val < 512 ∨ 512 + 128 ≤ k.val; omega)).trans ?_
      refine (Cert.Buf.canon_miss _ _ _ _ _ (by show r.val < 0 ∨ 0 + 128 ≤ r.val ∨ k.val < 896 ∨ 896 + 128 ≤ k.val; omega)).trans ?_
      refine (Cert.Buf.canon_miss _ _ _ _ _ (by show r.val < 0 ∨ 0 + 128 ≤ r.val ∨ k.val < 768 ∨ 768 + 128 ≤ k.val; omega)).trans ?_
      refine (Cert.Buf.canon_miss _ _ _ _ _ (by show r.val < 0 ∨ 0 + 128 ≤ r.val ∨ k.val < 640 ∨ 640 + 128 ≤ k.val; omega)).trans ?_
      refine (Cert.Buf.canon_miss _ _ _ _ _ (by show r.val < 0 ∨ 0 + 128 ≤ r.val ∨ k.val < 512 ∨ 512 + 128 ≤ k.val; omega)).trans ?_
      refine (Cert.Buf.canon_miss _ _ _ _ _ (by show r.val < 448 ∨ 448 + 64 ≤ r.val ∨ k.val < 0 ∨ 0 + 512 ≤ k.val; omega)).trans ?_
      refine (Cert.Buf.canon_miss _ _ _ _ _ (by show r.val < 384 ∨ 384 + 64 ≤ r.val ∨ k.val < 0 ∨ 0 + 512 ≤ k.val; omega)).trans ?_
      refine (Cert.Buf.canon_miss _ _ _ _ _ (by show r.val < 320 ∨ 320 + 64 ≤ r.val ∨ k.val < 0 ∨ 0 + 512 ≤ k.val; omega)).trans ?_
      refine (Cert.Buf.canon_miss _ _ _ _ _ (by show r.val < 256 ∨ 256 + 64 ≤ r.val ∨ k.val < 0 ∨ 0 + 512 ≤ k.val; omega)).trans ?_
      refine (Cert.Buf.canon_miss _ _ _ _ _ (by show r.val < 192 ∨ 192 + 64 ≤ r.val ∨ k.val < 0 ∨ 0 + 512 ≤ k.val; omega)).trans ?_
      refine (Cert.Buf.canon_miss _ _ _ _ _ (by show r.val < 128 ∨ 128 + 64 ≤ r.val ∨ k.val < 0 ∨ 0 + 512 ≤ k.val; omega)).trans ?_
      refine (Cert.Buf.canon_miss _ _ _ _ _ (by show r.val < 64 ∨ 64 + 64 ≤ r.val ∨ k.val < 0 ∨ 0 + 512 ≤ k.val; omega)).trans ?_
      refine (Cert.Buf.canon_hit _ _ _ _ _ ⟨r.val - 0, by omega⟩ ⟨k.val, h⟩ (by show r.val = 0 + (r.val - 0); omega) (by show k.val = 0 + k.val; omega)).trans ?_
      exact hP0 _ _ _ (by show r.val = 0 + (r.val - 0); omega)
    · refine (Cert.Buf.canon_miss _ _ _ _ _ (by show r.val < 384 ∨ 384 + 128 ≤ r.val ∨ k.val < 896 ∨ 896 + 128 ≤ k.val; omega)).trans ?_
      refine (Cert.Buf.canon_miss _ _ _ _ _ (by show r.val < 384 ∨ 384 + 128 ≤ r.val ∨ k.val < 768 ∨ 768 + 128 ≤ k.val; omega)).trans ?_
      refine (Cert.Buf.canon_miss _ _ _ _ _ (by show r.val < 384 ∨ 384 + 128 ≤ r.val ∨ k.val < 640 ∨ 640 + 128 ≤ k.val; omega)).trans ?_
      refine (Cert.Buf.canon_miss _ _ _ _ _ (by show r.val < 384 ∨ 384 + 128 ≤ r.val ∨ k.val < 512 ∨ 512 + 128 ≤ k.val; omega)).trans ?_
      refine (Cert.Buf.canon_miss _ _ _ _ _ (by show r.val < 256 ∨ 256 + 128 ≤ r.val ∨ k.val < 896 ∨ 896 + 128 ≤ k.val; omega)).trans ?_
      refine (Cert.Buf.canon_miss _ _ _ _ _ (by show r.val < 256 ∨ 256 + 128 ≤ r.val ∨ k.val < 768 ∨ 768 + 128 ≤ k.val; omega)).trans ?_
      refine (Cert.Buf.canon_miss _ _ _ _ _ (by show r.val < 256 ∨ 256 + 128 ≤ r.val ∨ k.val < 640 ∨ 640 + 128 ≤ k.val; omega)).trans ?_
      refine (Cert.Buf.canon_miss _ _ _ _ _ (by show r.val < 256 ∨ 256 + 128 ≤ r.val ∨ k.val < 512 ∨ 512 + 128 ≤ k.val; omega)).trans ?_
      refine (Cert.Buf.canon_miss _ _ _ _ _ (by show r.val < 128 ∨ 128 + 128 ≤ r.val ∨ k.val < 896 ∨ 896 + 128 ≤ k.val; omega)).trans ?_
      refine (Cert.Buf.canon_miss _ _ _ _ _ (by show r.val < 128 ∨ 128 + 128 ≤ r.val ∨ k.val < 768 ∨ 768 + 128 ≤ k.val; omega)).trans ?_
      refine (Cert.Buf.canon_miss _ _ _ _ _ (by show r.val < 128 ∨ 128 + 128 ≤ r.val ∨ k.val < 640 ∨ 640 + 128 ≤ k.val; omega)).trans ?_
      refine (Cert.Buf.canon_miss _ _ _ _ _ (by show r.val < 128 ∨ 128 + 128 ≤ r.val ∨ k.val < 512 ∨ 512 + 128 ≤ k.val; omega)).trans ?_
      refine (Cert.Buf.canon_miss _ _ _ _ _ (by show r.val < 0 ∨ 0 + 128 ≤ r.val ∨ k.val < 896 ∨ 896 + 128 ≤ k.val; omega)).trans ?_
      refine (Cert.Buf.canon_miss _ _ _ _ _ (by show r.val < 0 ∨ 0 + 128 ≤ r.val ∨ k.val < 768 ∨ 768 + 128 ≤ k.val; omega)).trans ?_
      refine (Cert.Buf.canon_miss _ _ _ _ _ (by show r.val < 0 ∨ 0 + 128 ≤ r.val ∨ k.val < 640 ∨ 640 + 128 ≤ k.val; omega)).trans ?_
      refine (Cert.Buf.canon_miss _ _ _ _ _ (by show r.val < 0 ∨ 0 + 128 ≤ r.val ∨ k.val < 512 ∨ 512 + 128 ≤ k.val; omega)).trans ?_
      refine (Cert.Buf.canon_miss _ _ _ _ _ (by show r.val < 448 ∨ 448 + 64 ≤ r.val ∨ k.val < 0 ∨ 0 + 512 ≤ k.val; omega)).trans ?_
      refine (Cert.Buf.canon_miss _ _ _ _ _ (by show r.val < 384 ∨ 384 + 64 ≤ r.val ∨ k.val < 0 ∨ 0 + 512 ≤ k.val; omega)).trans ?_
      refine (Cert.Buf.canon_miss _ _ _ _ _ (by show r.val < 320 ∨ 320 + 64 ≤ r.val ∨ k.val < 0 ∨ 0 + 512 ≤ k.val; omega)).trans ?_
      refine (Cert.Buf.canon_miss _ _ _ _ _ (by show r.val < 256 ∨ 256 + 64 ≤ r.val ∨ k.val < 0 ∨ 0 + 512 ≤ k.val; omega)).trans ?_
      refine (Cert.Buf.canon_miss _ _ _ _ _ (by show r.val < 192 ∨ 192 + 64 ≤ r.val ∨ k.val < 0 ∨ 0 + 512 ≤ k.val; omega)).trans ?_
      refine (Cert.Buf.canon_miss _ _ _ _ _ (by show r.val < 128 ∨ 128 + 64 ≤ r.val ∨ k.val < 0 ∨ 0 + 512 ≤ k.val; omega)).trans ?_
      refine (Cert.Buf.canon_hit _ _ _ _ _ ⟨r.val - 64, by omega⟩ ⟨k.val, h⟩ (by show r.val = 64 + (r.val - 64); omega) (by show k.val = 0 + k.val; omega)).trans ?_
      exact hP1 _ _ _ (by show r.val = 64 + (r.val - 64); omega)
    · refine (Cert.Buf.canon_miss _ _ _ _ _ (by show r.val < 384 ∨ 384 + 128 ≤ r.val ∨ k.val < 896 ∨ 896 + 128 ≤ k.val; omega)).trans ?_
      refine (Cert.Buf.canon_miss _ _ _ _ _ (by show r.val < 384 ∨ 384 + 128 ≤ r.val ∨ k.val < 768 ∨ 768 + 128 ≤ k.val; omega)).trans ?_
      refine (Cert.Buf.canon_miss _ _ _ _ _ (by show r.val < 384 ∨ 384 + 128 ≤ r.val ∨ k.val < 640 ∨ 640 + 128 ≤ k.val; omega)).trans ?_
      refine (Cert.Buf.canon_miss _ _ _ _ _ (by show r.val < 384 ∨ 384 + 128 ≤ r.val ∨ k.val < 512 ∨ 512 + 128 ≤ k.val; omega)).trans ?_
      refine (Cert.Buf.canon_miss _ _ _ _ _ (by show r.val < 256 ∨ 256 + 128 ≤ r.val ∨ k.val < 896 ∨ 896 + 128 ≤ k.val; omega)).trans ?_
      refine (Cert.Buf.canon_miss _ _ _ _ _ (by show r.val < 256 ∨ 256 + 128 ≤ r.val ∨ k.val < 768 ∨ 768 + 128 ≤ k.val; omega)).trans ?_
      refine (Cert.Buf.canon_miss _ _ _ _ _ (by show r.val < 256 ∨ 256 + 128 ≤ r.val ∨ k.val < 640 ∨ 640 + 128 ≤ k.val; omega)).trans ?_
      refine (Cert.Buf.canon_miss _ _ _ _ _ (by show r.val < 256 ∨ 256 + 128 ≤ r.val ∨ k.val < 512 ∨ 512 + 128 ≤ k.val; omega)).trans ?_
      refine (Cert.Buf.canon_miss _ _ _ _ _ (by show r.val < 128 ∨ 128 + 128 ≤ r.val ∨ k.val < 896 ∨ 896 + 128 ≤ k.val; omega)).trans ?_
      refine (Cert.Buf.canon_miss _ _ _ _ _ (by show r.val < 128 ∨ 128 + 128 ≤ r.val ∨ k.val < 768 ∨ 768 + 128 ≤ k.val; omega)).trans ?_
      refine (Cert.Buf.canon_miss _ _ _ _ _ (by show r.val < 128 ∨ 128 + 128 ≤ r.val ∨ k.val < 640 ∨ 640 + 128 ≤ k.val; omega)).trans ?_
      refine (Cert.Buf.canon_miss _ _ _ _ _ (by show r.val < 128 ∨ 128 + 128 ≤ r.val ∨ k.val < 512 ∨ 512 + 128 ≤ k.val; omega)).trans ?_
      refine (Cert.Buf.canon_miss _ _ _ _ _ (by show r.val < 0 ∨ 0 + 128 ≤ r.val ∨ k.val < 896 ∨ 896 + 128 ≤ k.val; omega)).trans ?_
      refine (Cert.Buf.canon_miss _ _ _ _ _ (by show r.val < 0 ∨ 0 + 128 ≤ r.val ∨ k.val < 768 ∨ 768 + 128 ≤ k.val; omega)).trans ?_
      refine (Cert.Buf.canon_miss _ _ _ _ _ (by show r.val < 0 ∨ 0 + 128 ≤ r.val ∨ k.val < 640 ∨ 640 + 128 ≤ k.val; omega)).trans ?_
      refine (Cert.Buf.canon_miss _ _ _ _ _ (by show r.val < 0 ∨ 0 + 128 ≤ r.val ∨ k.val < 512 ∨ 512 + 128 ≤ k.val; omega)).trans ?_
      refine (Cert.Buf.canon_miss _ _ _ _ _ (by show r.val < 448 ∨ 448 + 64 ≤ r.val ∨ k.val < 0 ∨ 0 + 512 ≤ k.val; omega)).trans ?_
      refine (Cert.Buf.canon_miss _ _ _ _ _ (by show r.val < 384 ∨ 384 + 64 ≤ r.val ∨ k.val < 0 ∨ 0 + 512 ≤ k.val; omega)).trans ?_
      refine (Cert.Buf.canon_miss _ _ _ _ _ (by show r.val < 320 ∨ 320 + 64 ≤ r.val ∨ k.val < 0 ∨ 0 + 512 ≤ k.val; omega)).trans ?_
      refine (Cert.Buf.canon_miss _ _ _ _ _ (by show r.val < 256 ∨ 256 + 64 ≤ r.val ∨ k.val < 0 ∨ 0 + 512 ≤ k.val; omega)).trans ?_
      refine (Cert.Buf.canon_miss _ _ _ _ _ (by show r.val < 192 ∨ 192 + 64 ≤ r.val ∨ k.val < 0 ∨ 0 + 512 ≤ k.val; omega)).trans ?_
      refine (Cert.Buf.canon_hit _ _ _ _ _ ⟨r.val - 128, by omega⟩ ⟨k.val, h⟩ (by show r.val = 128 + (r.val - 128); omega) (by show k.val = 0 + k.val; omega)).trans ?_
      exact hP2 _ _ _ (by show r.val = 128 + (r.val - 128); omega)
    · refine (Cert.Buf.canon_miss _ _ _ _ _ (by show r.val < 384 ∨ 384 + 128 ≤ r.val ∨ k.val < 896 ∨ 896 + 128 ≤ k.val; omega)).trans ?_
      refine (Cert.Buf.canon_miss _ _ _ _ _ (by show r.val < 384 ∨ 384 + 128 ≤ r.val ∨ k.val < 768 ∨ 768 + 128 ≤ k.val; omega)).trans ?_
      refine (Cert.Buf.canon_miss _ _ _ _ _ (by show r.val < 384 ∨ 384 + 128 ≤ r.val ∨ k.val < 640 ∨ 640 + 128 ≤ k.val; omega)).trans ?_
      refine (Cert.Buf.canon_miss _ _ _ _ _ (by show r.val < 384 ∨ 384 + 128 ≤ r.val ∨ k.val < 512 ∨ 512 + 128 ≤ k.val; omega)).trans ?_
      refine (Cert.Buf.canon_miss _ _ _ _ _ (by show r.val < 256 ∨ 256 + 128 ≤ r.val ∨ k.val < 896 ∨ 896 + 128 ≤ k.val; omega)).trans ?_
      refine (Cert.Buf.canon_miss _ _ _ _ _ (by show r.val < 256 ∨ 256 + 128 ≤ r.val ∨ k.val < 768 ∨ 768 + 128 ≤ k.val; omega)).trans ?_
      refine (Cert.Buf.canon_miss _ _ _ _ _ (by show r.val < 256 ∨ 256 + 128 ≤ r.val ∨ k.val < 640 ∨ 640 + 128 ≤ k.val; omega)).trans ?_
      refine (Cert.Buf.canon_miss _ _ _ _ _ (by show r.val < 256 ∨ 256 + 128 ≤ r.val ∨ k.val < 512 ∨ 512 + 128 ≤ k.val; omega)).trans ?_
      refine (Cert.Buf.canon_miss _ _ _ _ _ (by show r.val < 128 ∨ 128 + 128 ≤ r.val ∨ k.val < 896 ∨ 896 + 128 ≤ k.val; omega)).trans ?_
      refine (Cert.Buf.canon_miss _ _ _ _ _ (by show r.val < 128 ∨ 128 + 128 ≤ r.val ∨ k.val < 768 ∨ 768 + 128 ≤ k.val; omega)).trans ?_
      refine (Cert.Buf.canon_miss _ _ _ _ _ (by show r.val < 128 ∨ 128 + 128 ≤ r.val ∨ k.val < 640 ∨ 640 + 128 ≤ k.val; omega)).trans ?_
      refine (Cert.Buf.canon_miss _ _ _ _ _ (by show r.val < 128 ∨ 128 + 128 ≤ r.val ∨ k.val < 512 ∨ 512 + 128 ≤ k.val; omega)).trans ?_
      refine (Cert.Buf.canon_miss _ _ _ _ _ (by show r.val < 0 ∨ 0 + 128 ≤ r.val ∨ k.val < 896 ∨ 896 + 128 ≤ k.val; omega)).trans ?_
      refine (Cert.Buf.canon_miss _ _ _ _ _ (by show r.val < 0 ∨ 0 + 128 ≤ r.val ∨ k.val < 768 ∨ 768 + 128 ≤ k.val; omega)).trans ?_
      refine (Cert.Buf.canon_miss _ _ _ _ _ (by show r.val < 0 ∨ 0 + 128 ≤ r.val ∨ k.val < 640 ∨ 640 + 128 ≤ k.val; omega)).trans ?_
      refine (Cert.Buf.canon_miss _ _ _ _ _ (by show r.val < 0 ∨ 0 + 128 ≤ r.val ∨ k.val < 512 ∨ 512 + 128 ≤ k.val; omega)).trans ?_
      refine (Cert.Buf.canon_miss _ _ _ _ _ (by show r.val < 448 ∨ 448 + 64 ≤ r.val ∨ k.val < 0 ∨ 0 + 512 ≤ k.val; omega)).trans ?_
      refine (Cert.Buf.canon_miss _ _ _ _ _ (by show r.val < 384 ∨ 384 + 64 ≤ r.val ∨ k.val < 0 ∨ 0 + 512 ≤ k.val; omega)).trans ?_
      refine (Cert.Buf.canon_miss _ _ _ _ _ (by show r.val < 320 ∨ 320 + 64 ≤ r.val ∨ k.val < 0 ∨ 0 + 512 ≤ k.val; omega)).trans ?_
      refine (Cert.Buf.canon_miss _ _ _ _ _ (by show r.val < 256 ∨ 256 + 64 ≤ r.val ∨ k.val < 0 ∨ 0 + 512 ≤ k.val; omega)).trans ?_
      refine (Cert.Buf.canon_hit _ _ _ _ _ ⟨r.val - 192, by omega⟩ ⟨k.val, h⟩ (by show r.val = 192 + (r.val - 192); omega) (by show k.val = 0 + k.val; omega)).trans ?_
      exact hP3 _ _ _ (by show r.val = 192 + (r.val - 192); omega)
    · refine (Cert.Buf.canon_miss _ _ _ _ _ (by show r.val < 384 ∨ 384 + 128 ≤ r.val ∨ k.val < 896 ∨ 896 + 128 ≤ k.val; omega)).trans ?_
      refine (Cert.Buf.canon_miss _ _ _ _ _ (by show r.val < 384 ∨ 384 + 128 ≤ r.val ∨ k.val < 768 ∨ 768 + 128 ≤ k.val; omega)).trans ?_
      refine (Cert.Buf.canon_miss _ _ _ _ _ (by show r.val < 384 ∨ 384 + 128 ≤ r.val ∨ k.val < 640 ∨ 640 + 128 ≤ k.val; omega)).trans ?_
      refine (Cert.Buf.canon_miss _ _ _ _ _ (by show r.val < 384 ∨ 384 + 128 ≤ r.val ∨ k.val < 512 ∨ 512 + 128 ≤ k.val; omega)).trans ?_
      refine (Cert.Buf.canon_miss _ _ _ _ _ (by show r.val < 256 ∨ 256 + 128 ≤ r.val ∨ k.val < 896 ∨ 896 + 128 ≤ k.val; omega)).trans ?_
      refine (Cert.Buf.canon_miss _ _ _ _ _ (by show r.val < 256 ∨ 256 + 128 ≤ r.val ∨ k.val < 768 ∨ 768 + 128 ≤ k.val; omega)).trans ?_
      refine (Cert.Buf.canon_miss _ _ _ _ _ (by show r.val < 256 ∨ 256 + 128 ≤ r.val ∨ k.val < 640 ∨ 640 + 128 ≤ k.val; omega)).trans ?_
      refine (Cert.Buf.canon_miss _ _ _ _ _ (by show r.val < 256 ∨ 256 + 128 ≤ r.val ∨ k.val < 512 ∨ 512 + 128 ≤ k.val; omega)).trans ?_
      refine (Cert.Buf.canon_miss _ _ _ _ _ (by show r.val < 128 ∨ 128 + 128 ≤ r.val ∨ k.val < 896 ∨ 896 + 128 ≤ k.val; omega)).trans ?_
      refine (Cert.Buf.canon_miss _ _ _ _ _ (by show r.val < 128 ∨ 128 + 128 ≤ r.val ∨ k.val < 768 ∨ 768 + 128 ≤ k.val; omega)).trans ?_
      refine (Cert.Buf.canon_miss _ _ _ _ _ (by show r.val < 128 ∨ 128 + 128 ≤ r.val ∨ k.val < 640 ∨ 640 + 128 ≤ k.val; omega)).trans ?_
      refine (Cert.Buf.canon_miss _ _ _ _ _ (by show r.val < 128 ∨ 128 + 128 ≤ r.val ∨ k.val < 512 ∨ 512 + 128 ≤ k.val; omega)).trans ?_
      refine (Cert.Buf.canon_miss _ _ _ _ _ (by show r.val < 0 ∨ 0 + 128 ≤ r.val ∨ k.val < 896 ∨ 896 + 128 ≤ k.val; omega)).trans ?_
      refine (Cert.Buf.canon_miss _ _ _ _ _ (by show r.val < 0 ∨ 0 + 128 ≤ r.val ∨ k.val < 768 ∨ 768 + 128 ≤ k.val; omega)).trans ?_
      refine (Cert.Buf.canon_miss _ _ _ _ _ (by show r.val < 0 ∨ 0 + 128 ≤ r.val ∨ k.val < 640 ∨ 640 + 128 ≤ k.val; omega)).trans ?_
      refine (Cert.Buf.canon_miss _ _ _ _ _ (by show r.val < 0 ∨ 0 + 128 ≤ r.val ∨ k.val < 512 ∨ 512 + 128 ≤ k.val; omega)).trans ?_
      refine (Cert.Buf.canon_miss _ _ _ _ _ (by show r.val < 448 ∨ 448 + 64 ≤ r.val ∨ k.val < 0 ∨ 0 + 512 ≤ k.val; omega)).trans ?_
      refine (Cert.Buf.canon_miss _ _ _ _ _ (by show r.val < 384 ∨ 384 + 64 ≤ r.val ∨ k.val < 0 ∨ 0 + 512 ≤ k.val; omega)).trans ?_
      refine (Cert.Buf.canon_miss _ _ _ _ _ (by show r.val < 320 ∨ 320 + 64 ≤ r.val ∨ k.val < 0 ∨ 0 + 512 ≤ k.val; omega)).trans ?_
      refine (Cert.Buf.canon_hit _ _ _ _ _ ⟨r.val - 256, by omega⟩ ⟨k.val, h⟩ (by show r.val = 256 + (r.val - 256); omega) (by show k.val = 0 + k.val; omega)).trans ?_
      exact hP4 _ _ _ (by show r.val = 256 + (r.val - 256); omega)
    · refine (Cert.Buf.canon_miss _ _ _ _ _ (by show r.val < 384 ∨ 384 + 128 ≤ r.val ∨ k.val < 896 ∨ 896 + 128 ≤ k.val; omega)).trans ?_
      refine (Cert.Buf.canon_miss _ _ _ _ _ (by show r.val < 384 ∨ 384 + 128 ≤ r.val ∨ k.val < 768 ∨ 768 + 128 ≤ k.val; omega)).trans ?_
      refine (Cert.Buf.canon_miss _ _ _ _ _ (by show r.val < 384 ∨ 384 + 128 ≤ r.val ∨ k.val < 640 ∨ 640 + 128 ≤ k.val; omega)).trans ?_
      refine (Cert.Buf.canon_miss _ _ _ _ _ (by show r.val < 384 ∨ 384 + 128 ≤ r.val ∨ k.val < 512 ∨ 512 + 128 ≤ k.val; omega)).trans ?_
      refine (Cert.Buf.canon_miss _ _ _ _ _ (by show r.val < 256 ∨ 256 + 128 ≤ r.val ∨ k.val < 896 ∨ 896 + 128 ≤ k.val; omega)).trans ?_
      refine (Cert.Buf.canon_miss _ _ _ _ _ (by show r.val < 256 ∨ 256 + 128 ≤ r.val ∨ k.val < 768 ∨ 768 + 128 ≤ k.val; omega)).trans ?_
      refine (Cert.Buf.canon_miss _ _ _ _ _ (by show r.val < 256 ∨ 256 + 128 ≤ r.val ∨ k.val < 640 ∨ 640 + 128 ≤ k.val; omega)).trans ?_
      refine (Cert.Buf.canon_miss _ _ _ _ _ (by show r.val < 256 ∨ 256 + 128 ≤ r.val ∨ k.val < 512 ∨ 512 + 128 ≤ k.val; omega)).trans ?_
      refine (Cert.Buf.canon_miss _ _ _ _ _ (by show r.val < 128 ∨ 128 + 128 ≤ r.val ∨ k.val < 896 ∨ 896 + 128 ≤ k.val; omega)).trans ?_
      refine (Cert.Buf.canon_miss _ _ _ _ _ (by show r.val < 128 ∨ 128 + 128 ≤ r.val ∨ k.val < 768 ∨ 768 + 128 ≤ k.val; omega)).trans ?_
      refine (Cert.Buf.canon_miss _ _ _ _ _ (by show r.val < 128 ∨ 128 + 128 ≤ r.val ∨ k.val < 640 ∨ 640 + 128 ≤ k.val; omega)).trans ?_
      refine (Cert.Buf.canon_miss _ _ _ _ _ (by show r.val < 128 ∨ 128 + 128 ≤ r.val ∨ k.val < 512 ∨ 512 + 128 ≤ k.val; omega)).trans ?_
      refine (Cert.Buf.canon_miss _ _ _ _ _ (by show r.val < 0 ∨ 0 + 128 ≤ r.val ∨ k.val < 896 ∨ 896 + 128 ≤ k.val; omega)).trans ?_
      refine (Cert.Buf.canon_miss _ _ _ _ _ (by show r.val < 0 ∨ 0 + 128 ≤ r.val ∨ k.val < 768 ∨ 768 + 128 ≤ k.val; omega)).trans ?_
      refine (Cert.Buf.canon_miss _ _ _ _ _ (by show r.val < 0 ∨ 0 + 128 ≤ r.val ∨ k.val < 640 ∨ 640 + 128 ≤ k.val; omega)).trans ?_
      refine (Cert.Buf.canon_miss _ _ _ _ _ (by show r.val < 0 ∨ 0 + 128 ≤ r.val ∨ k.val < 512 ∨ 512 + 128 ≤ k.val; omega)).trans ?_
      refine (Cert.Buf.canon_miss _ _ _ _ _ (by show r.val < 448 ∨ 448 + 64 ≤ r.val ∨ k.val < 0 ∨ 0 + 512 ≤ k.val; omega)).trans ?_
      refine (Cert.Buf.canon_miss _ _ _ _ _ (by show r.val < 384 ∨ 384 + 64 ≤ r.val ∨ k.val < 0 ∨ 0 + 512 ≤ k.val; omega)).trans ?_
      refine (Cert.Buf.canon_hit _ _ _ _ _ ⟨r.val - 320, by omega⟩ ⟨k.val, h⟩ (by show r.val = 320 + (r.val - 320); omega) (by show k.val = 0 + k.val; omega)).trans ?_
      exact hP5 _ _ _ (by show r.val = 320 + (r.val - 320); omega)
    · refine (Cert.Buf.canon_miss _ _ _ _ _ (by show r.val < 384 ∨ 384 + 128 ≤ r.val ∨ k.val < 896 ∨ 896 + 128 ≤ k.val; omega)).trans ?_
      refine (Cert.Buf.canon_miss _ _ _ _ _ (by show r.val < 384 ∨ 384 + 128 ≤ r.val ∨ k.val < 768 ∨ 768 + 128 ≤ k.val; omega)).trans ?_
      refine (Cert.Buf.canon_miss _ _ _ _ _ (by show r.val < 384 ∨ 384 + 128 ≤ r.val ∨ k.val < 640 ∨ 640 + 128 ≤ k.val; omega)).trans ?_
      refine (Cert.Buf.canon_miss _ _ _ _ _ (by show r.val < 384 ∨ 384 + 128 ≤ r.val ∨ k.val < 512 ∨ 512 + 128 ≤ k.val; omega)).trans ?_
      refine (Cert.Buf.canon_miss _ _ _ _ _ (by show r.val < 256 ∨ 256 + 128 ≤ r.val ∨ k.val < 896 ∨ 896 + 128 ≤ k.val; omega)).trans ?_
      refine (Cert.Buf.canon_miss _ _ _ _ _ (by show r.val < 256 ∨ 256 + 128 ≤ r.val ∨ k.val < 768 ∨ 768 + 128 ≤ k.val; omega)).trans ?_
      refine (Cert.Buf.canon_miss _ _ _ _ _ (by show r.val < 256 ∨ 256 + 128 ≤ r.val ∨ k.val < 640 ∨ 640 + 128 ≤ k.val; omega)).trans ?_
      refine (Cert.Buf.canon_miss _ _ _ _ _ (by show r.val < 256 ∨ 256 + 128 ≤ r.val ∨ k.val < 512 ∨ 512 + 128 ≤ k.val; omega)).trans ?_
      refine (Cert.Buf.canon_miss _ _ _ _ _ (by show r.val < 128 ∨ 128 + 128 ≤ r.val ∨ k.val < 896 ∨ 896 + 128 ≤ k.val; omega)).trans ?_
      refine (Cert.Buf.canon_miss _ _ _ _ _ (by show r.val < 128 ∨ 128 + 128 ≤ r.val ∨ k.val < 768 ∨ 768 + 128 ≤ k.val; omega)).trans ?_
      refine (Cert.Buf.canon_miss _ _ _ _ _ (by show r.val < 128 ∨ 128 + 128 ≤ r.val ∨ k.val < 640 ∨ 640 + 128 ≤ k.val; omega)).trans ?_
      refine (Cert.Buf.canon_miss _ _ _ _ _ (by show r.val < 128 ∨ 128 + 128 ≤ r.val ∨ k.val < 512 ∨ 512 + 128 ≤ k.val; omega)).trans ?_
      refine (Cert.Buf.canon_miss _ _ _ _ _ (by show r.val < 0 ∨ 0 + 128 ≤ r.val ∨ k.val < 896 ∨ 896 + 128 ≤ k.val; omega)).trans ?_
      refine (Cert.Buf.canon_miss _ _ _ _ _ (by show r.val < 0 ∨ 0 + 128 ≤ r.val ∨ k.val < 768 ∨ 768 + 128 ≤ k.val; omega)).trans ?_
      refine (Cert.Buf.canon_miss _ _ _ _ _ (by show r.val < 0 ∨ 0 + 128 ≤ r.val ∨ k.val < 640 ∨ 640 + 128 ≤ k.val; omega)).trans ?_
      refine (Cert.Buf.canon_miss _ _ _ _ _ (by show r.val < 0 ∨ 0 + 128 ≤ r.val ∨ k.val < 512 ∨ 512 + 128 ≤ k.val; omega)).trans ?_
      refine (Cert.Buf.canon_miss _ _ _ _ _ (by show r.val < 448 ∨ 448 + 64 ≤ r.val ∨ k.val < 0 ∨ 0 + 512 ≤ k.val; omega)).trans ?_
      refine (Cert.Buf.canon_hit _ _ _ _ _ ⟨r.val - 384, by omega⟩ ⟨k.val, h⟩ (by show r.val = 384 + (r.val - 384); omega) (by show k.val = 0 + k.val; omega)).trans ?_
      exact hP6 _ _ _ (by show r.val = 384 + (r.val - 384); omega)
    · refine (Cert.Buf.canon_miss _ _ _ _ _ (by show r.val < 384 ∨ 384 + 128 ≤ r.val ∨ k.val < 896 ∨ 896 + 128 ≤ k.val; omega)).trans ?_
      refine (Cert.Buf.canon_miss _ _ _ _ _ (by show r.val < 384 ∨ 384 + 128 ≤ r.val ∨ k.val < 768 ∨ 768 + 128 ≤ k.val; omega)).trans ?_
      refine (Cert.Buf.canon_miss _ _ _ _ _ (by show r.val < 384 ∨ 384 + 128 ≤ r.val ∨ k.val < 640 ∨ 640 + 128 ≤ k.val; omega)).trans ?_
      refine (Cert.Buf.canon_miss _ _ _ _ _ (by show r.val < 384 ∨ 384 + 128 ≤ r.val ∨ k.val < 512 ∨ 512 + 128 ≤ k.val; omega)).trans ?_
      refine (Cert.Buf.canon_miss _ _ _ _ _ (by show r.val < 256 ∨ 256 + 128 ≤ r.val ∨ k.val < 896 ∨ 896 + 128 ≤ k.val; omega)).trans ?_
      refine (Cert.Buf.canon_miss _ _ _ _ _ (by show r.val < 256 ∨ 256 + 128 ≤ r.val ∨ k.val < 768 ∨ 768 + 128 ≤ k.val; omega)).trans ?_
      refine (Cert.Buf.canon_miss _ _ _ _ _ (by show r.val < 256 ∨ 256 + 128 ≤ r.val ∨ k.val < 640 ∨ 640 + 128 ≤ k.val; omega)).trans ?_
      refine (Cert.Buf.canon_miss _ _ _ _ _ (by show r.val < 256 ∨ 256 + 128 ≤ r.val ∨ k.val < 512 ∨ 512 + 128 ≤ k.val; omega)).trans ?_
      refine (Cert.Buf.canon_miss _ _ _ _ _ (by show r.val < 128 ∨ 128 + 128 ≤ r.val ∨ k.val < 896 ∨ 896 + 128 ≤ k.val; omega)).trans ?_
      refine (Cert.Buf.canon_miss _ _ _ _ _ (by show r.val < 128 ∨ 128 + 128 ≤ r.val ∨ k.val < 768 ∨ 768 + 128 ≤ k.val; omega)).trans ?_
      refine (Cert.Buf.canon_miss _ _ _ _ _ (by show r.val < 128 ∨ 128 + 128 ≤ r.val ∨ k.val < 640 ∨ 640 + 128 ≤ k.val; omega)).trans ?_
      refine (Cert.Buf.canon_miss _ _ _ _ _ (by show r.val < 128 ∨ 128 + 128 ≤ r.val ∨ k.val < 512 ∨ 512 + 128 ≤ k.val; omega)).trans ?_
      refine (Cert.Buf.canon_miss _ _ _ _ _ (by show r.val < 0 ∨ 0 + 128 ≤ r.val ∨ k.val < 896 ∨ 896 + 128 ≤ k.val; omega)).trans ?_
      refine (Cert.Buf.canon_miss _ _ _ _ _ (by show r.val < 0 ∨ 0 + 128 ≤ r.val ∨ k.val < 768 ∨ 768 + 128 ≤ k.val; omega)).trans ?_
      refine (Cert.Buf.canon_miss _ _ _ _ _ (by show r.val < 0 ∨ 0 + 128 ≤ r.val ∨ k.val < 640 ∨ 640 + 128 ≤ k.val; omega)).trans ?_
      refine (Cert.Buf.canon_miss _ _ _ _ _ (by show r.val < 0 ∨ 0 + 128 ≤ r.val ∨ k.val < 512 ∨ 512 + 128 ≤ k.val; omega)).trans ?_
      refine (Cert.Buf.canon_hit _ _ _ _ _ ⟨r.val - 448, by omega⟩ ⟨k.val, h⟩ (by show r.val = 448 + (r.val - 448); omega) (by show k.val = 0 + k.val; omega)).trans ?_
      exact hP7 _ _ _ (by show r.val = 448 + (r.val - 448); omega)
  · rw [dif_neg h]
    have hr := r.isLt
    have hk := k.isLt
    have hq : (0 ≤ r.val ∧ r.val < 128) ∨ (128 ≤ r.val ∧ r.val < 256) ∨ (256 ≤ r.val ∧ r.val < 384) ∨ (384 ≤ r.val ∧ r.val < 512) := by omega
    have hp : (512 ≤ k.val ∧ k.val < 640) ∨ (640 ≤ k.val ∧ k.val < 768) ∨ (768 ≤ k.val ∧ k.val < 896) ∨ (896 ≤ k.val ∧ k.val < 1024) := by omega
    rcases hq with hq | hq | hq | hq
    · rcases hp with hp | hp | hp | hp
      · refine (Cert.Buf.canon_miss _ _ _ _ _ (by show r.val < 384 ∨ 384 + 128 ≤ r.val ∨ k.val < 896 ∨ 896 + 128 ≤ k.val; omega)).trans ?_
        refine (Cert.Buf.canon_miss _ _ _ _ _ (by show r.val < 384 ∨ 384 + 128 ≤ r.val ∨ k.val < 768 ∨ 768 + 128 ≤ k.val; omega)).trans ?_
        refine (Cert.Buf.canon_miss _ _ _ _ _ (by show r.val < 384 ∨ 384 + 128 ≤ r.val ∨ k.val < 640 ∨ 640 + 128 ≤ k.val; omega)).trans ?_
        refine (Cert.Buf.canon_miss _ _ _ _ _ (by show r.val < 384 ∨ 384 + 128 ≤ r.val ∨ k.val < 512 ∨ 512 + 128 ≤ k.val; omega)).trans ?_
        refine (Cert.Buf.canon_miss _ _ _ _ _ (by show r.val < 256 ∨ 256 + 128 ≤ r.val ∨ k.val < 896 ∨ 896 + 128 ≤ k.val; omega)).trans ?_
        refine (Cert.Buf.canon_miss _ _ _ _ _ (by show r.val < 256 ∨ 256 + 128 ≤ r.val ∨ k.val < 768 ∨ 768 + 128 ≤ k.val; omega)).trans ?_
        refine (Cert.Buf.canon_miss _ _ _ _ _ (by show r.val < 256 ∨ 256 + 128 ≤ r.val ∨ k.val < 640 ∨ 640 + 128 ≤ k.val; omega)).trans ?_
        refine (Cert.Buf.canon_miss _ _ _ _ _ (by show r.val < 256 ∨ 256 + 128 ≤ r.val ∨ k.val < 512 ∨ 512 + 128 ≤ k.val; omega)).trans ?_
        refine (Cert.Buf.canon_miss _ _ _ _ _ (by show r.val < 128 ∨ 128 + 128 ≤ r.val ∨ k.val < 896 ∨ 896 + 128 ≤ k.val; omega)).trans ?_
        refine (Cert.Buf.canon_miss _ _ _ _ _ (by show r.val < 128 ∨ 128 + 128 ≤ r.val ∨ k.val < 768 ∨ 768 + 128 ≤ k.val; omega)).trans ?_
        refine (Cert.Buf.canon_miss _ _ _ _ _ (by show r.val < 128 ∨ 128 + 128 ≤ r.val ∨ k.val < 640 ∨ 640 + 128 ≤ k.val; omega)).trans ?_
        refine (Cert.Buf.canon_miss _ _ _ _ _ (by show r.val < 128 ∨ 128 + 128 ≤ r.val ∨ k.val < 512 ∨ 512 + 128 ≤ k.val; omega)).trans ?_
        refine (Cert.Buf.canon_miss _ _ _ _ _ (by show r.val < 0 ∨ 0 + 128 ≤ r.val ∨ k.val < 896 ∨ 896 + 128 ≤ k.val; omega)).trans ?_
        refine (Cert.Buf.canon_miss _ _ _ _ _ (by show r.val < 0 ∨ 0 + 128 ≤ r.val ∨ k.val < 768 ∨ 768 + 128 ≤ k.val; omega)).trans ?_
        refine (Cert.Buf.canon_miss _ _ _ _ _ (by show r.val < 0 ∨ 0 + 128 ≤ r.val ∨ k.val < 640 ∨ 640 + 128 ≤ k.val; omega)).trans ?_
        refine (Cert.Buf.canon_hit _ _ _ _ _ ⟨r.val - 0, by omega⟩ ⟨k.val - 512, by omega⟩ (by show r.val = 0 + (r.val - 0); omega) (by show k.val = 512 + (k.val - 512); omega)).trans ?_
        exact hT00 _ _ _ _ (by show r.val = 0 + (r.val - 0); omega) (by show k.val - 512 = 0 + (k.val - 512); omega)
      · refine (Cert.Buf.canon_miss _ _ _ _ _ (by show r.val < 384 ∨ 384 + 128 ≤ r.val ∨ k.val < 896 ∨ 896 + 128 ≤ k.val; omega)).trans ?_
        refine (Cert.Buf.canon_miss _ _ _ _ _ (by show r.val < 384 ∨ 384 + 128 ≤ r.val ∨ k.val < 768 ∨ 768 + 128 ≤ k.val; omega)).trans ?_
        refine (Cert.Buf.canon_miss _ _ _ _ _ (by show r.val < 384 ∨ 384 + 128 ≤ r.val ∨ k.val < 640 ∨ 640 + 128 ≤ k.val; omega)).trans ?_
        refine (Cert.Buf.canon_miss _ _ _ _ _ (by show r.val < 384 ∨ 384 + 128 ≤ r.val ∨ k.val < 512 ∨ 512 + 128 ≤ k.val; omega)).trans ?_
        refine (Cert.Buf.canon_miss _ _ _ _ _ (by show r.val < 256 ∨ 256 + 128 ≤ r.val ∨ k.val < 896 ∨ 896 + 128 ≤ k.val; omega)).trans ?_
        refine (Cert.Buf.canon_miss _ _ _ _ _ (by show r.val < 256 ∨ 256 + 128 ≤ r.val ∨ k.val < 768 ∨ 768 + 128 ≤ k.val; omega)).trans ?_
        refine (Cert.Buf.canon_miss _ _ _ _ _ (by show r.val < 256 ∨ 256 + 128 ≤ r.val ∨ k.val < 640 ∨ 640 + 128 ≤ k.val; omega)).trans ?_
        refine (Cert.Buf.canon_miss _ _ _ _ _ (by show r.val < 256 ∨ 256 + 128 ≤ r.val ∨ k.val < 512 ∨ 512 + 128 ≤ k.val; omega)).trans ?_
        refine (Cert.Buf.canon_miss _ _ _ _ _ (by show r.val < 128 ∨ 128 + 128 ≤ r.val ∨ k.val < 896 ∨ 896 + 128 ≤ k.val; omega)).trans ?_
        refine (Cert.Buf.canon_miss _ _ _ _ _ (by show r.val < 128 ∨ 128 + 128 ≤ r.val ∨ k.val < 768 ∨ 768 + 128 ≤ k.val; omega)).trans ?_
        refine (Cert.Buf.canon_miss _ _ _ _ _ (by show r.val < 128 ∨ 128 + 128 ≤ r.val ∨ k.val < 640 ∨ 640 + 128 ≤ k.val; omega)).trans ?_
        refine (Cert.Buf.canon_miss _ _ _ _ _ (by show r.val < 128 ∨ 128 + 128 ≤ r.val ∨ k.val < 512 ∨ 512 + 128 ≤ k.val; omega)).trans ?_
        refine (Cert.Buf.canon_miss _ _ _ _ _ (by show r.val < 0 ∨ 0 + 128 ≤ r.val ∨ k.val < 896 ∨ 896 + 128 ≤ k.val; omega)).trans ?_
        refine (Cert.Buf.canon_miss _ _ _ _ _ (by show r.val < 0 ∨ 0 + 128 ≤ r.val ∨ k.val < 768 ∨ 768 + 128 ≤ k.val; omega)).trans ?_
        refine (Cert.Buf.canon_hit _ _ _ _ _ ⟨r.val - 0, by omega⟩ ⟨k.val - 640, by omega⟩ (by show r.val = 0 + (r.val - 0); omega) (by show k.val = 640 + (k.val - 640); omega)).trans ?_
        exact hT01 _ _ _ _ (by show r.val = 0 + (r.val - 0); omega) (by show k.val - 512 = 128 + (k.val - 640); omega)
      · refine (Cert.Buf.canon_miss _ _ _ _ _ (by show r.val < 384 ∨ 384 + 128 ≤ r.val ∨ k.val < 896 ∨ 896 + 128 ≤ k.val; omega)).trans ?_
        refine (Cert.Buf.canon_miss _ _ _ _ _ (by show r.val < 384 ∨ 384 + 128 ≤ r.val ∨ k.val < 768 ∨ 768 + 128 ≤ k.val; omega)).trans ?_
        refine (Cert.Buf.canon_miss _ _ _ _ _ (by show r.val < 384 ∨ 384 + 128 ≤ r.val ∨ k.val < 640 ∨ 640 + 128 ≤ k.val; omega)).trans ?_
        refine (Cert.Buf.canon_miss _ _ _ _ _ (by show r.val < 384 ∨ 384 + 128 ≤ r.val ∨ k.val < 512 ∨ 512 + 128 ≤ k.val; omega)).trans ?_
        refine (Cert.Buf.canon_miss _ _ _ _ _ (by show r.val < 256 ∨ 256 + 128 ≤ r.val ∨ k.val < 896 ∨ 896 + 128 ≤ k.val; omega)).trans ?_
        refine (Cert.Buf.canon_miss _ _ _ _ _ (by show r.val < 256 ∨ 256 + 128 ≤ r.val ∨ k.val < 768 ∨ 768 + 128 ≤ k.val; omega)).trans ?_
        refine (Cert.Buf.canon_miss _ _ _ _ _ (by show r.val < 256 ∨ 256 + 128 ≤ r.val ∨ k.val < 640 ∨ 640 + 128 ≤ k.val; omega)).trans ?_
        refine (Cert.Buf.canon_miss _ _ _ _ _ (by show r.val < 256 ∨ 256 + 128 ≤ r.val ∨ k.val < 512 ∨ 512 + 128 ≤ k.val; omega)).trans ?_
        refine (Cert.Buf.canon_miss _ _ _ _ _ (by show r.val < 128 ∨ 128 + 128 ≤ r.val ∨ k.val < 896 ∨ 896 + 128 ≤ k.val; omega)).trans ?_
        refine (Cert.Buf.canon_miss _ _ _ _ _ (by show r.val < 128 ∨ 128 + 128 ≤ r.val ∨ k.val < 768 ∨ 768 + 128 ≤ k.val; omega)).trans ?_
        refine (Cert.Buf.canon_miss _ _ _ _ _ (by show r.val < 128 ∨ 128 + 128 ≤ r.val ∨ k.val < 640 ∨ 640 + 128 ≤ k.val; omega)).trans ?_
        refine (Cert.Buf.canon_miss _ _ _ _ _ (by show r.val < 128 ∨ 128 + 128 ≤ r.val ∨ k.val < 512 ∨ 512 + 128 ≤ k.val; omega)).trans ?_
        refine (Cert.Buf.canon_miss _ _ _ _ _ (by show r.val < 0 ∨ 0 + 128 ≤ r.val ∨ k.val < 896 ∨ 896 + 128 ≤ k.val; omega)).trans ?_
        refine (Cert.Buf.canon_hit _ _ _ _ _ ⟨r.val - 0, by omega⟩ ⟨k.val - 768, by omega⟩ (by show r.val = 0 + (r.val - 0); omega) (by show k.val = 768 + (k.val - 768); omega)).trans ?_
        exact hT02 _ _ _ _ (by show r.val = 0 + (r.val - 0); omega) (by show k.val - 512 = 256 + (k.val - 768); omega)
      · refine (Cert.Buf.canon_miss _ _ _ _ _ (by show r.val < 384 ∨ 384 + 128 ≤ r.val ∨ k.val < 896 ∨ 896 + 128 ≤ k.val; omega)).trans ?_
        refine (Cert.Buf.canon_miss _ _ _ _ _ (by show r.val < 384 ∨ 384 + 128 ≤ r.val ∨ k.val < 768 ∨ 768 + 128 ≤ k.val; omega)).trans ?_
        refine (Cert.Buf.canon_miss _ _ _ _ _ (by show r.val < 384 ∨ 384 + 128 ≤ r.val ∨ k.val < 640 ∨ 640 + 128 ≤ k.val; omega)).trans ?_
        refine (Cert.Buf.canon_miss _ _ _ _ _ (by show r.val < 384 ∨ 384 + 128 ≤ r.val ∨ k.val < 512 ∨ 512 + 128 ≤ k.val; omega)).trans ?_
        refine (Cert.Buf.canon_miss _ _ _ _ _ (by show r.val < 256 ∨ 256 + 128 ≤ r.val ∨ k.val < 896 ∨ 896 + 128 ≤ k.val; omega)).trans ?_
        refine (Cert.Buf.canon_miss _ _ _ _ _ (by show r.val < 256 ∨ 256 + 128 ≤ r.val ∨ k.val < 768 ∨ 768 + 128 ≤ k.val; omega)).trans ?_
        refine (Cert.Buf.canon_miss _ _ _ _ _ (by show r.val < 256 ∨ 256 + 128 ≤ r.val ∨ k.val < 640 ∨ 640 + 128 ≤ k.val; omega)).trans ?_
        refine (Cert.Buf.canon_miss _ _ _ _ _ (by show r.val < 256 ∨ 256 + 128 ≤ r.val ∨ k.val < 512 ∨ 512 + 128 ≤ k.val; omega)).trans ?_
        refine (Cert.Buf.canon_miss _ _ _ _ _ (by show r.val < 128 ∨ 128 + 128 ≤ r.val ∨ k.val < 896 ∨ 896 + 128 ≤ k.val; omega)).trans ?_
        refine (Cert.Buf.canon_miss _ _ _ _ _ (by show r.val < 128 ∨ 128 + 128 ≤ r.val ∨ k.val < 768 ∨ 768 + 128 ≤ k.val; omega)).trans ?_
        refine (Cert.Buf.canon_miss _ _ _ _ _ (by show r.val < 128 ∨ 128 + 128 ≤ r.val ∨ k.val < 640 ∨ 640 + 128 ≤ k.val; omega)).trans ?_
        refine (Cert.Buf.canon_miss _ _ _ _ _ (by show r.val < 128 ∨ 128 + 128 ≤ r.val ∨ k.val < 512 ∨ 512 + 128 ≤ k.val; omega)).trans ?_
        refine (Cert.Buf.canon_hit _ _ _ _ _ ⟨r.val - 0, by omega⟩ ⟨k.val - 896, by omega⟩ (by show r.val = 0 + (r.val - 0); omega) (by show k.val = 896 + (k.val - 896); omega)).trans ?_
        exact hT03 _ _ _ _ (by show r.val = 0 + (r.val - 0); omega) (by show k.val - 512 = 384 + (k.val - 896); omega)
    · rcases hp with hp | hp | hp | hp
      · refine (Cert.Buf.canon_miss _ _ _ _ _ (by show r.val < 384 ∨ 384 + 128 ≤ r.val ∨ k.val < 896 ∨ 896 + 128 ≤ k.val; omega)).trans ?_
        refine (Cert.Buf.canon_miss _ _ _ _ _ (by show r.val < 384 ∨ 384 + 128 ≤ r.val ∨ k.val < 768 ∨ 768 + 128 ≤ k.val; omega)).trans ?_
        refine (Cert.Buf.canon_miss _ _ _ _ _ (by show r.val < 384 ∨ 384 + 128 ≤ r.val ∨ k.val < 640 ∨ 640 + 128 ≤ k.val; omega)).trans ?_
        refine (Cert.Buf.canon_miss _ _ _ _ _ (by show r.val < 384 ∨ 384 + 128 ≤ r.val ∨ k.val < 512 ∨ 512 + 128 ≤ k.val; omega)).trans ?_
        refine (Cert.Buf.canon_miss _ _ _ _ _ (by show r.val < 256 ∨ 256 + 128 ≤ r.val ∨ k.val < 896 ∨ 896 + 128 ≤ k.val; omega)).trans ?_
        refine (Cert.Buf.canon_miss _ _ _ _ _ (by show r.val < 256 ∨ 256 + 128 ≤ r.val ∨ k.val < 768 ∨ 768 + 128 ≤ k.val; omega)).trans ?_
        refine (Cert.Buf.canon_miss _ _ _ _ _ (by show r.val < 256 ∨ 256 + 128 ≤ r.val ∨ k.val < 640 ∨ 640 + 128 ≤ k.val; omega)).trans ?_
        refine (Cert.Buf.canon_miss _ _ _ _ _ (by show r.val < 256 ∨ 256 + 128 ≤ r.val ∨ k.val < 512 ∨ 512 + 128 ≤ k.val; omega)).trans ?_
        refine (Cert.Buf.canon_miss _ _ _ _ _ (by show r.val < 128 ∨ 128 + 128 ≤ r.val ∨ k.val < 896 ∨ 896 + 128 ≤ k.val; omega)).trans ?_
        refine (Cert.Buf.canon_miss _ _ _ _ _ (by show r.val < 128 ∨ 128 + 128 ≤ r.val ∨ k.val < 768 ∨ 768 + 128 ≤ k.val; omega)).trans ?_
        refine (Cert.Buf.canon_miss _ _ _ _ _ (by show r.val < 128 ∨ 128 + 128 ≤ r.val ∨ k.val < 640 ∨ 640 + 128 ≤ k.val; omega)).trans ?_
        refine (Cert.Buf.canon_hit _ _ _ _ _ ⟨r.val - 128, by omega⟩ ⟨k.val - 512, by omega⟩ (by show r.val = 128 + (r.val - 128); omega) (by show k.val = 512 + (k.val - 512); omega)).trans ?_
        exact hT10 _ _ _ _ (by show r.val = 128 + (r.val - 128); omega) (by show k.val - 512 = 0 + (k.val - 512); omega)
      · refine (Cert.Buf.canon_miss _ _ _ _ _ (by show r.val < 384 ∨ 384 + 128 ≤ r.val ∨ k.val < 896 ∨ 896 + 128 ≤ k.val; omega)).trans ?_
        refine (Cert.Buf.canon_miss _ _ _ _ _ (by show r.val < 384 ∨ 384 + 128 ≤ r.val ∨ k.val < 768 ∨ 768 + 128 ≤ k.val; omega)).trans ?_
        refine (Cert.Buf.canon_miss _ _ _ _ _ (by show r.val < 384 ∨ 384 + 128 ≤ r.val ∨ k.val < 640 ∨ 640 + 128 ≤ k.val; omega)).trans ?_
        refine (Cert.Buf.canon_miss _ _ _ _ _ (by show r.val < 384 ∨ 384 + 128 ≤ r.val ∨ k.val < 512 ∨ 512 + 128 ≤ k.val; omega)).trans ?_
        refine (Cert.Buf.canon_miss _ _ _ _ _ (by show r.val < 256 ∨ 256 + 128 ≤ r.val ∨ k.val < 896 ∨ 896 + 128 ≤ k.val; omega)).trans ?_
        refine (Cert.Buf.canon_miss _ _ _ _ _ (by show r.val < 256 ∨ 256 + 128 ≤ r.val ∨ k.val < 768 ∨ 768 + 128 ≤ k.val; omega)).trans ?_
        refine (Cert.Buf.canon_miss _ _ _ _ _ (by show r.val < 256 ∨ 256 + 128 ≤ r.val ∨ k.val < 640 ∨ 640 + 128 ≤ k.val; omega)).trans ?_
        refine (Cert.Buf.canon_miss _ _ _ _ _ (by show r.val < 256 ∨ 256 + 128 ≤ r.val ∨ k.val < 512 ∨ 512 + 128 ≤ k.val; omega)).trans ?_
        refine (Cert.Buf.canon_miss _ _ _ _ _ (by show r.val < 128 ∨ 128 + 128 ≤ r.val ∨ k.val < 896 ∨ 896 + 128 ≤ k.val; omega)).trans ?_
        refine (Cert.Buf.canon_miss _ _ _ _ _ (by show r.val < 128 ∨ 128 + 128 ≤ r.val ∨ k.val < 768 ∨ 768 + 128 ≤ k.val; omega)).trans ?_
        refine (Cert.Buf.canon_hit _ _ _ _ _ ⟨r.val - 128, by omega⟩ ⟨k.val - 640, by omega⟩ (by show r.val = 128 + (r.val - 128); omega) (by show k.val = 640 + (k.val - 640); omega)).trans ?_
        exact hT11 _ _ _ _ (by show r.val = 128 + (r.val - 128); omega) (by show k.val - 512 = 128 + (k.val - 640); omega)
      · refine (Cert.Buf.canon_miss _ _ _ _ _ (by show r.val < 384 ∨ 384 + 128 ≤ r.val ∨ k.val < 896 ∨ 896 + 128 ≤ k.val; omega)).trans ?_
        refine (Cert.Buf.canon_miss _ _ _ _ _ (by show r.val < 384 ∨ 384 + 128 ≤ r.val ∨ k.val < 768 ∨ 768 + 128 ≤ k.val; omega)).trans ?_
        refine (Cert.Buf.canon_miss _ _ _ _ _ (by show r.val < 384 ∨ 384 + 128 ≤ r.val ∨ k.val < 640 ∨ 640 + 128 ≤ k.val; omega)).trans ?_
        refine (Cert.Buf.canon_miss _ _ _ _ _ (by show r.val < 384 ∨ 384 + 128 ≤ r.val ∨ k.val < 512 ∨ 512 + 128 ≤ k.val; omega)).trans ?_
        refine (Cert.Buf.canon_miss _ _ _ _ _ (by show r.val < 256 ∨ 256 + 128 ≤ r.val ∨ k.val < 896 ∨ 896 + 128 ≤ k.val; omega)).trans ?_
        refine (Cert.Buf.canon_miss _ _ _ _ _ (by show r.val < 256 ∨ 256 + 128 ≤ r.val ∨ k.val < 768 ∨ 768 + 128 ≤ k.val; omega)).trans ?_
        refine (Cert.Buf.canon_miss _ _ _ _ _ (by show r.val < 256 ∨ 256 + 128 ≤ r.val ∨ k.val < 640 ∨ 640 + 128 ≤ k.val; omega)).trans ?_
        refine (Cert.Buf.canon_miss _ _ _ _ _ (by show r.val < 256 ∨ 256 + 128 ≤ r.val ∨ k.val < 512 ∨ 512 + 128 ≤ k.val; omega)).trans ?_
        refine (Cert.Buf.canon_miss _ _ _ _ _ (by show r.val < 128 ∨ 128 + 128 ≤ r.val ∨ k.val < 896 ∨ 896 + 128 ≤ k.val; omega)).trans ?_
        refine (Cert.Buf.canon_hit _ _ _ _ _ ⟨r.val - 128, by omega⟩ ⟨k.val - 768, by omega⟩ (by show r.val = 128 + (r.val - 128); omega) (by show k.val = 768 + (k.val - 768); omega)).trans ?_
        exact hT12 _ _ _ _ (by show r.val = 128 + (r.val - 128); omega) (by show k.val - 512 = 256 + (k.val - 768); omega)
      · refine (Cert.Buf.canon_miss _ _ _ _ _ (by show r.val < 384 ∨ 384 + 128 ≤ r.val ∨ k.val < 896 ∨ 896 + 128 ≤ k.val; omega)).trans ?_
        refine (Cert.Buf.canon_miss _ _ _ _ _ (by show r.val < 384 ∨ 384 + 128 ≤ r.val ∨ k.val < 768 ∨ 768 + 128 ≤ k.val; omega)).trans ?_
        refine (Cert.Buf.canon_miss _ _ _ _ _ (by show r.val < 384 ∨ 384 + 128 ≤ r.val ∨ k.val < 640 ∨ 640 + 128 ≤ k.val; omega)).trans ?_
        refine (Cert.Buf.canon_miss _ _ _ _ _ (by show r.val < 384 ∨ 384 + 128 ≤ r.val ∨ k.val < 512 ∨ 512 + 128 ≤ k.val; omega)).trans ?_
        refine (Cert.Buf.canon_miss _ _ _ _ _ (by show r.val < 256 ∨ 256 + 128 ≤ r.val ∨ k.val < 896 ∨ 896 + 128 ≤ k.val; omega)).trans ?_
        refine (Cert.Buf.canon_miss _ _ _ _ _ (by show r.val < 256 ∨ 256 + 128 ≤ r.val ∨ k.val < 768 ∨ 768 + 128 ≤ k.val; omega)).trans ?_
        refine (Cert.Buf.canon_miss _ _ _ _ _ (by show r.val < 256 ∨ 256 + 128 ≤ r.val ∨ k.val < 640 ∨ 640 + 128 ≤ k.val; omega)).trans ?_
        refine (Cert.Buf.canon_miss _ _ _ _ _ (by show r.val < 256 ∨ 256 + 128 ≤ r.val ∨ k.val < 512 ∨ 512 + 128 ≤ k.val; omega)).trans ?_
        refine (Cert.Buf.canon_hit _ _ _ _ _ ⟨r.val - 128, by omega⟩ ⟨k.val - 896, by omega⟩ (by show r.val = 128 + (r.val - 128); omega) (by show k.val = 896 + (k.val - 896); omega)).trans ?_
        exact hT13 _ _ _ _ (by show r.val = 128 + (r.val - 128); omega) (by show k.val - 512 = 384 + (k.val - 896); omega)
    · rcases hp with hp | hp | hp | hp
      · refine (Cert.Buf.canon_miss _ _ _ _ _ (by show r.val < 384 ∨ 384 + 128 ≤ r.val ∨ k.val < 896 ∨ 896 + 128 ≤ k.val; omega)).trans ?_
        refine (Cert.Buf.canon_miss _ _ _ _ _ (by show r.val < 384 ∨ 384 + 128 ≤ r.val ∨ k.val < 768 ∨ 768 + 128 ≤ k.val; omega)).trans ?_
        refine (Cert.Buf.canon_miss _ _ _ _ _ (by show r.val < 384 ∨ 384 + 128 ≤ r.val ∨ k.val < 640 ∨ 640 + 128 ≤ k.val; omega)).trans ?_
        refine (Cert.Buf.canon_miss _ _ _ _ _ (by show r.val < 384 ∨ 384 + 128 ≤ r.val ∨ k.val < 512 ∨ 512 + 128 ≤ k.val; omega)).trans ?_
        refine (Cert.Buf.canon_miss _ _ _ _ _ (by show r.val < 256 ∨ 256 + 128 ≤ r.val ∨ k.val < 896 ∨ 896 + 128 ≤ k.val; omega)).trans ?_
        refine (Cert.Buf.canon_miss _ _ _ _ _ (by show r.val < 256 ∨ 256 + 128 ≤ r.val ∨ k.val < 768 ∨ 768 + 128 ≤ k.val; omega)).trans ?_
        refine (Cert.Buf.canon_miss _ _ _ _ _ (by show r.val < 256 ∨ 256 + 128 ≤ r.val ∨ k.val < 640 ∨ 640 + 128 ≤ k.val; omega)).trans ?_
        refine (Cert.Buf.canon_hit _ _ _ _ _ ⟨r.val - 256, by omega⟩ ⟨k.val - 512, by omega⟩ (by show r.val = 256 + (r.val - 256); omega) (by show k.val = 512 + (k.val - 512); omega)).trans ?_
        exact hT20 _ _ _ _ (by show r.val = 256 + (r.val - 256); omega) (by show k.val - 512 = 0 + (k.val - 512); omega)
      · refine (Cert.Buf.canon_miss _ _ _ _ _ (by show r.val < 384 ∨ 384 + 128 ≤ r.val ∨ k.val < 896 ∨ 896 + 128 ≤ k.val; omega)).trans ?_
        refine (Cert.Buf.canon_miss _ _ _ _ _ (by show r.val < 384 ∨ 384 + 128 ≤ r.val ∨ k.val < 768 ∨ 768 + 128 ≤ k.val; omega)).trans ?_
        refine (Cert.Buf.canon_miss _ _ _ _ _ (by show r.val < 384 ∨ 384 + 128 ≤ r.val ∨ k.val < 640 ∨ 640 + 128 ≤ k.val; omega)).trans ?_
        refine (Cert.Buf.canon_miss _ _ _ _ _ (by show r.val < 384 ∨ 384 + 128 ≤ r.val ∨ k.val < 512 ∨ 512 + 128 ≤ k.val; omega)).trans ?_
        refine (Cert.Buf.canon_miss _ _ _ _ _ (by show r.val < 256 ∨ 256 + 128 ≤ r.val ∨ k.val < 896 ∨ 896 + 128 ≤ k.val; omega)).trans ?_
        refine (Cert.Buf.canon_miss _ _ _ _ _ (by show r.val < 256 ∨ 256 + 128 ≤ r.val ∨ k.val < 768 ∨ 768 + 128 ≤ k.val; omega)).trans ?_
        refine (Cert.Buf.canon_hit _ _ _ _ _ ⟨r.val - 256, by omega⟩ ⟨k.val - 640, by omega⟩ (by show r.val = 256 + (r.val - 256); omega) (by show k.val = 640 + (k.val - 640); omega)).trans ?_
        exact hT21 _ _ _ _ (by show r.val = 256 + (r.val - 256); omega) (by show k.val - 512 = 128 + (k.val - 640); omega)
      · refine (Cert.Buf.canon_miss _ _ _ _ _ (by show r.val < 384 ∨ 384 + 128 ≤ r.val ∨ k.val < 896 ∨ 896 + 128 ≤ k.val; omega)).trans ?_
        refine (Cert.Buf.canon_miss _ _ _ _ _ (by show r.val < 384 ∨ 384 + 128 ≤ r.val ∨ k.val < 768 ∨ 768 + 128 ≤ k.val; omega)).trans ?_
        refine (Cert.Buf.canon_miss _ _ _ _ _ (by show r.val < 384 ∨ 384 + 128 ≤ r.val ∨ k.val < 640 ∨ 640 + 128 ≤ k.val; omega)).trans ?_
        refine (Cert.Buf.canon_miss _ _ _ _ _ (by show r.val < 384 ∨ 384 + 128 ≤ r.val ∨ k.val < 512 ∨ 512 + 128 ≤ k.val; omega)).trans ?_
        refine (Cert.Buf.canon_miss _ _ _ _ _ (by show r.val < 256 ∨ 256 + 128 ≤ r.val ∨ k.val < 896 ∨ 896 + 128 ≤ k.val; omega)).trans ?_
        refine (Cert.Buf.canon_hit _ _ _ _ _ ⟨r.val - 256, by omega⟩ ⟨k.val - 768, by omega⟩ (by show r.val = 256 + (r.val - 256); omega) (by show k.val = 768 + (k.val - 768); omega)).trans ?_
        exact hT22 _ _ _ _ (by show r.val = 256 + (r.val - 256); omega) (by show k.val - 512 = 256 + (k.val - 768); omega)
      · refine (Cert.Buf.canon_miss _ _ _ _ _ (by show r.val < 384 ∨ 384 + 128 ≤ r.val ∨ k.val < 896 ∨ 896 + 128 ≤ k.val; omega)).trans ?_
        refine (Cert.Buf.canon_miss _ _ _ _ _ (by show r.val < 384 ∨ 384 + 128 ≤ r.val ∨ k.val < 768 ∨ 768 + 128 ≤ k.val; omega)).trans ?_
        refine (Cert.Buf.canon_miss _ _ _ _ _ (by show r.val < 384 ∨ 384 + 128 ≤ r.val ∨ k.val < 640 ∨ 640 + 128 ≤ k.val; omega)).trans ?_
        refine (Cert.Buf.canon_miss _ _ _ _ _ (by show r.val < 384 ∨ 384 + 128 ≤ r.val ∨ k.val < 512 ∨ 512 + 128 ≤ k.val; omega)).trans ?_
        refine (Cert.Buf.canon_hit _ _ _ _ _ ⟨r.val - 256, by omega⟩ ⟨k.val - 896, by omega⟩ (by show r.val = 256 + (r.val - 256); omega) (by show k.val = 896 + (k.val - 896); omega)).trans ?_
        exact hT23 _ _ _ _ (by show r.val = 256 + (r.val - 256); omega) (by show k.val - 512 = 384 + (k.val - 896); omega)
    · rcases hp with hp | hp | hp | hp
      · refine (Cert.Buf.canon_miss _ _ _ _ _ (by show r.val < 384 ∨ 384 + 128 ≤ r.val ∨ k.val < 896 ∨ 896 + 128 ≤ k.val; omega)).trans ?_
        refine (Cert.Buf.canon_miss _ _ _ _ _ (by show r.val < 384 ∨ 384 + 128 ≤ r.val ∨ k.val < 768 ∨ 768 + 128 ≤ k.val; omega)).trans ?_
        refine (Cert.Buf.canon_miss _ _ _ _ _ (by show r.val < 384 ∨ 384 + 128 ≤ r.val ∨ k.val < 640 ∨ 640 + 128 ≤ k.val; omega)).trans ?_
        refine (Cert.Buf.canon_hit _ _ _ _ _ ⟨r.val - 384, by omega⟩ ⟨k.val - 512, by omega⟩ (by show r.val = 384 + (r.val - 384); omega) (by show k.val = 512 + (k.val - 512); omega)).trans ?_
        exact hT30 _ _ _ _ (by show r.val = 384 + (r.val - 384); omega) (by show k.val - 512 = 0 + (k.val - 512); omega)
      · refine (Cert.Buf.canon_miss _ _ _ _ _ (by show r.val < 384 ∨ 384 + 128 ≤ r.val ∨ k.val < 896 ∨ 896 + 128 ≤ k.val; omega)).trans ?_
        refine (Cert.Buf.canon_miss _ _ _ _ _ (by show r.val < 384 ∨ 384 + 128 ≤ r.val ∨ k.val < 768 ∨ 768 + 128 ≤ k.val; omega)).trans ?_
        refine (Cert.Buf.canon_hit _ _ _ _ _ ⟨r.val - 384, by omega⟩ ⟨k.val - 640, by omega⟩ (by show r.val = 384 + (r.val - 384); omega) (by show k.val = 640 + (k.val - 640); omega)).trans ?_
        exact hT31 _ _ _ _ (by show r.val = 384 + (r.val - 384); omega) (by show k.val - 512 = 128 + (k.val - 640); omega)
      · refine (Cert.Buf.canon_miss _ _ _ _ _ (by show r.val < 384 ∨ 384 + 128 ≤ r.val ∨ k.val < 896 ∨ 896 + 128 ≤ k.val; omega)).trans ?_
        refine (Cert.Buf.canon_hit _ _ _ _ _ ⟨r.val - 384, by omega⟩ ⟨k.val - 768, by omega⟩ (by show r.val = 384 + (r.val - 384); omega) (by show k.val = 768 + (k.val - 768); omega)).trans ?_
        exact hT32 _ _ _ _ (by show r.val = 384 + (r.val - 384); omega) (by show k.val - 512 = 256 + (k.val - 768); omega)
      · refine (Cert.Buf.canon_hit _ _ _ _ _ ⟨r.val - 384, by omega⟩ ⟨k.val - 896, by omega⟩ (by show r.val = 384 + (r.val - 384); omega) (by show k.val = 896 + (k.val - 896); omega)).trans ?_
        exact hT33 _ _ _ _ (by show r.val = 384 + (r.val - 384); omega) (by show k.val - 512 = 384 + (k.val - 896); omega)

end Cert.EvenMixerIdeal.Row

end
end
-- ==== Proof.EvenTile.lean ====
module

public import proofs.«01_k».proof.Proof.Spec
public import proofs.«01_k».proof.Proof.Gen.EvenMixerIdeal.Value

set_option maxRecDepth 65536

@[expose] public section
noncomputable section

open Idealize.ShloMosaic Idealize.ShloMosaic.TcCoe Idealize.SL.Sem

/-! The values the body stores into its row buffer, each in one common form: a chunk of 64 rows of the convolution, or a
tile of 128 rows of two attention heads. -/

namespace Cert.EvenMixerIdeal.Row
open Cert.EvenMixerIdeal Cert.EvenMixerIdeal.Gen

/-- A running sum of the convolution plus one tap's product. -/
def tapped (a : FVec Ideal S64x512 .f32) (w : Vec Ideal S1x512 .f32) (c : Vec Ideal S64x512 .f32) : FVec Ideal S64x512 .f32 :=
  addf a (mulf (broadcastTo S64x512 w broadcasts_S1x512_S64x512) c)

/-- The convolution's sum starts from its bias. -/
def begun (b : Vec Ideal S1x512 .f32) : FVec Ideal S64x512 .f32 :=
  broadcastTo S64x512 (shapeCast S1x512 (k0_pay27 b) shapeCasts_S1x512_S1x512) broadcasts_S1x512_S64x512

/-- The rows less their mean. -/
def centred (a : FVec Ideal S64x512 .f32) : FVec Ideal S64x512 .f32 :=
  subf a (broadcastTo S64x512 (divf (shapeCast S64x1 (multiReduction .add [1] S64 a 0x00000000#32 reduces_S64x512_S64 (.inl rfl) rfl) shapeCasts_S64_S64x1)
    (broadcast S64x1 (Scalar.ofBits .f32 0x44000000#32))) broadcasts_S64x1_S64x512)

/-- Centred rows by the root of their variance, by the gain, plus the offset. -/
def normed (x : FVec Ideal S64x512 .f32) (g o : Vec Ideal S1x512 .f32) : FVec Ideal S64x512 .f32 :=
  addf (mulf (mulf x (broadcastTo S64x512 (rsqrt (addf (divf (shapeCast S64x1 (multiReduction .add [1] S64 (mulf x x) 0x00000000#32 reduces_S64x512_S64 (.inl rfl) rfl) shapeCasts_S64_S64x1)
    (broadcast S64x1 (Scalar.ofBits .f32 0x44000000#32))) (broadcast S64x1 (Scalar.ofBits .f32 0x3727C5AC#32)))) broadcasts_S64x1_S64x512))
    (broadcastTo S64x512 (k0_pay28 g) broadcasts_S1x512_S64x512)) (broadcastTo S64x512 (k0_pay29 o) broadcasts_S1x512_S64x512)

/-- Rows times their logistic. -/
def gated (y : FVec Ideal S64x512 .f32) : FVec Ideal S64x512 .bf16 :=
  shapeCast S64x512 (truncf .bf16 (mulf y (logistic y)) bitsLt_bf16_f32) shapeCasts_S64x512_S64x512

/-- Two heads' weights side by side. -/
def weights (p0 p1 : FVec Ideal S128x256 .bf16) : FVec Ideal S128x512 .bf16 :=
  concatenate S128x512 1 [⟨S128x256, p0⟩, ⟨S128x256, p1⟩] concatenates_S128x256_S128x256_S128x512_d1

/-- Two heads' values one under the other. -/
def values (v0 v1 : FVec Ideal S256x128 .bf16) : FVec Ideal S512x128 .bf16 :=
  concatenate S512x128 0 [⟨S256x128, v0⟩, ⟨S256x128, v1⟩] concatenates_S256x128_S256x128_S512x128_d0

/-- A tile of two heads from its queries, keys, biases, sinks and values. -/
def tile (q : Vec Ideal S128x128 .bf16) (k0 : Vec Ideal S256x128 .bf16) (b0 : Vec Ideal S1x128x256 .f32) (s0 : Vec Ideal S1x1 .f32)
    (k1 : Vec Ideal S256x128 .bf16) (b1 : Vec Ideal S1x128x256 .f32) (s1 : Vec Ideal S1x1 .f32) (v0 v1 : Vec Ideal S256x128 .bf16) : FVec Ideal S128x128 .bf16 :=
  k0_pay1 k0_pay84
    (matmul dot_S128x512_S512x128_S128x128_1_0_0_1_n_n none
      (weights (k0_pay89 q k0 b0 s0) (k0_pay89 q k1 b1 s1))
      (values v0 v1)
      (constant S128x128 .f32 0x00000000#32))
    (broadcastTo S128x128 (shapeCast S128x1 (k0_pay90 q k0 b0 s0) shapeCasts_S128x1_S128x1) broadcasts_S128x1_S128x128)
    (broadcastTo S128x128 (shapeCast S128x1 (k0_pay90 q k1 b1 s1) shapeCasts_S128x1_S128x1) broadcasts_S128x1_S128x128)

/-- The chunk at row 0 is the convolution's gated norm. -/
theorem chunk0 (b g o w0 w1 w2 w3 w4 w5 w6 w7 w8 w9 w10 w11 w12 w13 w14 w15 w16 w17 w18 w19 w20 w21 w22 w23 w24 w25 w26 w27 w28 w29 w30 : Vec Ideal S1x512 .f32) (c0 c1 c2 c3 c4 c5 c6 c7 c8 c9 c10 c11 c12 c13 c14 c15 c16 c17 c18 c19 c20 c21 c22 c23 c24 c25 c26 c27 c28 c29 c30 : Vec Ideal S64x512 .f32) :
    k0_pay35 (k0_pay28 g) (k0_pay29 o) (k0_pay34 (k0_pay33 (k0_pay32 (k0_pay31 (k0_pay30 b w0 c0 w1 c1) w2 c2 w3 c3 w4 c4 w5 c5 w6 c6 w7 c7) w8 c8 w9 c9 w10 c10 w11 c11 w12 c12 w13 c13 w14 c14) w15 c15 w16 c16 w17 c17 w18 c18 w19 c19 w20 c20 w21 c21) w22 c22 w23 c23 w24 c24 w25 c25 w26 c26 w27 c27) w28 c28 w29 c29 w30 c30
      = gated (normed (centred (tapped (tapped (tapped (tapped (tapped (tapped (tapped (tapped (tapped (tapped (tapped (tapped (tapped (tapped (tapped (tapped (tapped (tapped (tapped (tapped (tapped (tapped (tapped (tapped (tapped (tapped (tapped (tapped (tapped (tapped (tapped (begun b) w0 c0) w1 c1) w2 c2) w3 c3) w4 c4) w5 c5) w6 c6) w7 c7) w8 c8) w9 c9) w10 c10) w11 c11) w12 c12) w13 c13) w14 c14) w15 c15) w16 c16) w17 c17) w18 c18) w19 c19) w20 c20) w21 c21) w22 c22) w23 c23) w24 c24) w25 c25) w26 c26) w27 c27) w28 c28) w29 c29) w30 c30)) g o) := rfl

/-- The chunk at row 64 is the convolution's gated norm. -/
theorem chunk1 (b g o w0 w1 w2 w3 w4 w5 w6 w7 w8 w9 w10 w11 w12 w13 w14 w15 w16 w17 w18 w19 w20 w21 w22 w23 w24 w25 w26 w27 w28 w29 w30 : Vec Ideal S1x512 .f32) (c0 c1 c2 c3 c4 c5 c6 c7 c8 c9 c10 c11 c12 c13 c14 c15 c16 c17 c18 c19 c20 c21 c22 c23 c24 c25 c26 c27 c28 c29 c30 : Vec Ideal S64x512 .f32) :
    k0_pay43 (k0_pay41 (k0_pay28 g) (k0_pay40 (k0_pay39 (k0_pay38 (k0_pay37 (k0_pay36 (k0_pay27 b)) w0 c0 w1 c1 w2 c2 w3 c3 w4 c4 w5 c5 w6 c6) w7 c7 w8 c8 w9 c9 w10 c10 w11 c11 w12 c12) w13 c13 w14 c14 w15 c15 w16 c16 w17 c17 w18 c18 w19 c19) w20 c20 w21 c21 w22 c22 w23 c23 w24 c24 w25 c25 w26 c26) w27 c27 w28 c28 w29 c29 w30 c30) (k0_pay42 (k0_pay29 o))
      = gated (normed (centred (tapped (tapped (tapped (tapped (tapped (tapped (tapped (tapped (tapped (tapped (tapped (tapped (tapped (tapped (tapped (tapped (tapped (tapped (tapped (tapped (tapped (tapped (tapped (tapped (tapped (tapped (tapped (tapped (tapped (tapped (tapped (begun b) w0 c0) w1 c1) w2 c2) w3 c3) w4 c4) w5 c5) w6 c6) w7 c7) w8 c8) w9 c9) w10 c10) w11 c11) w12 c12) w13 c13) w14 c14) w15 c15) w16 c16) w17 c17) w18 c18) w19 c19) w20 c20) w21 c21) w22 c22) w23 c23) w24 c24) w25 c25) w26 c26) w27 c27) w28 c28) w29 c29) w30 c30)) g o) := rfl

/-- The chunk at row 128 is the convolution's gated norm. -/
theorem chunk2 (b g o w0 w1 w2 w3 w4 w5 w6 w7 w8 w9 w10 w11 w12 w13 w14 w15 w16 w17 w18 w19 w20 w21 w22 w23 w24 w25 w26 w27 w28 w29 w30 : Vec Ideal S1x512 .f32) (c0 c1 c2 c3 c4 c5 c6 c7 c8 c9 c10 c11 c12 c13 c14 c15 c16 c17 c18 c19 c20 c21 c22 c23 c24 c25 c26 c27 c28 c29 c30 : Vec Ideal S64x512 .f32) :
    k0_pay50 (k0_pay28 g) (k0_pay29 o) (k0_pay48 (k0_pay47 (k0_pay46 (k0_pay45 (k0_pay44 (k0_pay27 b) w0 c0 w1 c1 w2 c2 w3 c3 w4 c4) w5 c5 w6 c6 w7 c7 w8 c8 w9 c9 w10 c10 w11 c11) w12 c12 w13 c13 w14 c14 w15 c15 w16 c16 w17 c17) w18 c18 w19 c19 w20 c20 w21 c21 w22 c22 w23 c23 w24 c24) w25 c25 w26 c26 w27 c27 w28 c28 w29 c29 w30 c30) (k0_pay49 (k0_pay47 (k0_pay46 (k0_pay45 (k0_pay44 (k0_pay27 b) w0 c0 w1 c1 w2 c2 w3 c3 w4 c4) w5 c5 w6 c6 w7 c7 w8 c8 w9 c9 w10 c10 w11 c11) w12 c12 w13 c13 w14 c14 w15 c15 w16 c16 w17 c17) w18 c18 w19 c19 w20 c20 w21 c21 w22 c22 w23 c23 w24 c24) w25 c25 w26 c26 w27 c27 w28 c28 w29 c29 w30 c30)
      = gated (normed (centred (tapped (tapped (tapped (tapped (tapped (tapped (tapped (tapped (tapped (tapped (tapped (tapped (tapped (tapped (tapped (tapped (tapped (tapped (tapped (tapped (tapped (tapped (tapped (tapped (tapped (tapped (tapped (tapped (tapped (tapped (tapped (begun b) w0 c0) w1 c1) w2 c2) w3 c3) w4 c4) w5 c5) w6 c6) w7 c7) w8 c8) w9 c9) w10 c10) w11 c11) w12 c12) w13 c13) w14 c14) w15 c15) w16 c16) w17 c17) w18 c18) w19 c19) w20 c20) w21 c21) w22 c22) w23 c23) w24 c24) w25 c25) w26 c26) w27 c27) w28 c28) w29 c29) w30 c30)) g o) := rfl

/-- The chunk at row 192 is the convolution's gated norm. -/
theorem chunk3 (b g o w0 w1 w2 w3 w4 w5 w6 w7 w8 w9 w10 w11 w12 w13 w14 w15 w16 w17 w18 w19 w20 w21 w22 w23 w24 w25 w26 w27 w28 w29 w30 : Vec Ideal S1x512 .f32) (c0 c1 c2 c3 c4 c5 c6 c7 c8 c9 c10 c11 c12 c13 c14 c15 c16 c17 c18 c19 c20 c21 c22 c23 c24 c25 c26 c27 c28 c29 c30 : Vec Ideal S64x512 .f32) :
    k0_pay56 (k0_pay28 g) (k0_pay29 o) (k0_pay55 (k0_pay54 (k0_pay53 (k0_pay52 (k0_pay51 (k0_pay27 b) w0 c0 w1 c1 w2 c2) w3 c3 w4 c4 w5 c5 w6 c6 w7 c7 w8 c8 w9 c9) w10 c10 w11 c11 w12 c12 w13 c13 w14 c14 w15 c15 w16 c16) w17 c17 w18 c18 w19 c19 w20 c20 w21 c21 w22 c22) w23 c23 w24 c24 w25 c25 w26 c26 w27 c27 w28 c28 w29 c29) w30 c30
      = gated (normed (centred (tapped (tapped (tapped (tapped (tapped (tapped (tapped (tapped (tapped (tapped (tapped (tapped (tapped (tapped (tapped (tapped (tapped (tapped (tapped (tapped (tapped (tapped (tapped (tapped (tapped (tapped (tapped (tapped (tapped (tapped (tapped (begun b) w0 c0) w1 c1) w2 c2) w3 c3) w4 c4) w5 c5) w6 c6) w7 c7) w8 c8) w9 c9) w10 c10) w11 c11) w12 c12) w13 c13) w14 c14) w15 c15) w16 c16) w17 c17) w18 c18) w19 c19) w20 c20) w21 c21) w22 c22) w23 c23) w24 c24) w25 c25) w26 c26) w27 c27) w28 c28) w29 c29) w30 c30)) g o) := rfl

/-- The chunk at row 256 is the convolution's gated norm. -/
theorem chunk4 (b g o w0 w1 w2 w3 w4 w5 w6 w7 w8 w9 w10 w11 w12 w13 w14 w15 w16 w17 w18 w19 w20 w21 w22 w23 w24 w25 w26 w27 w28 w29 w30 : Vec Ideal S1x512 .f32) (c0 c1 c2 c3 c4 c5 c6 c7 c8 c9 c10 c11 c12 c13 c14 c15 c16 c17 c18 c19 c20 c21 c22 c23 c24 c25 c26 c27 c28 c29 c30 : Vec Ideal S64x512 .f32) :
    k0_pay62 (k0_pay28 g) (k0_pay29 o) (k0_pay61 (k0_pay60 (k0_pay59 (k0_pay58 (k0_pay57 (k0_pay27 b) w0 c0 w1 c1) w2 c2 w3 c3 w4 c4 w5 c5 w6 c6 w7 c7) w8 c8 w9 c9 w10 c10 w11 c11 w12 c12 w13 c13 w14 c14) w15 c15 w16 c16 w17 c17 w18 c18 w19 c19 w20 c20 w21 c21) w22 c22 w23 c23 w24 c24 w25 c25 w26 c26 w27 c27) w28 c28 w29 c29 w30 c30
      = gated (normed (centred (tapped (tapped (tapped (tapped (tapped (tapped (tapped (tapped (tapped (tapped (tapped (tapped (tapped (tapped (tapped (tapped (tapped (tapped (tapped (tapped (tapped (tapped (tapped (tapped (tapped (tapped (tapped (tapped (tapped (tapped (tapped (begun b) w0 c0) w1 c1) w2 c2) w3 c3) w4 c4) w5 c5) w6 c6) w7 c7) w8 c8) w9 c9) w10 c10) w11 c11) w12 c12) w13 c13) w14 c14) w15 c15) w16 c16) w17 c17) w18 c18) w19 c19) w20 c20) w21 c21) w22 c22) w23 c23) w24 c24) w25 c25) w26 c26) w27 c27) w28 c28) w29 c29) w30 c30)) g o) := rfl

/-- The chunk at row 320 is the convolution's gated norm. -/
theorem chunk5 (b g o w0 w1 w2 w3 w4 w5 w6 w7 w8 w9 w10 w11 w12 w13 w14 w15 w16 w17 w18 w19 w20 w21 w22 w23 w24 w25 w26 w27 w28 w29 w30 : Vec Ideal S1x512 .f32) (c0 c1 c2 c3 c4 c5 c6 c7 c8 c9 c10 c11 c12 c13 c14 c15 c16 c17 c18 c19 c20 c21 c22 c23 c24 c25 c26 c27 c28 c29 c30 : Vec Ideal S64x512 .f32) :
    k0_pay70 (k0_pay68 (k0_pay28 g) (k0_pay67 (k0_pay66 (k0_pay65 (k0_pay64 (k0_pay63 (k0_pay27 b)) w0 c0 w1 c1 w2 c2 w3 c3 w4 c4 w5 c5 w6 c6) w7 c7 w8 c8 w9 c9 w10 c10 w11 c11 w12 c12) w13 c13 w14 c14 w15 c15 w16 c16 w17 c17 w18 c18 w19 c19) w20 c20 w21 c21 w22 c22 w23 c23 w24 c24 w25 c25 w26 c26) w27 c27 w28 c28 w29 c29 w30 c30) (k0_pay69 (k0_pay29 o))
      = gated (normed (centred (tapped (tapped (tapped (tapped (tapped (tapped (tapped (tapped (tapped (tapped (tapped (tapped (tapped (tapped (tapped (tapped (tapped (tapped (tapped (tapped (tapped (tapped (tapped (tapped (tapped (tapped (tapped (tapped (tapped (tapped (tapped (begun b) w0 c0) w1 c1) w2 c2) w3 c3) w4 c4) w5 c5) w6 c6) w7 c7) w8 c8) w9 c9) w10 c10) w11 c11) w12 c12) w13 c13) w14 c14) w15 c15) w16 c16) w17 c17) w18 c18) w19 c19) w20 c20) w21 c21) w22 c22) w23 c23) w24 c24) w25 c25) w26 c26) w27 c27) w28 c28) w29 c29) w30 c30)) g o) := rfl

/-- The chunk at row 384 is the convolution's gated norm. -/
theorem chunk6 (b g o w0 w1 w2 w3 w4 w5 w6 w7 w8 w9 w10 w11 w12 w13 w14 w15 w16 w17 w18 w19 w20 w21 w22 w23 w24 w25 w26 w27 w28 w29 w30 : Vec Ideal S1x512 .f32) (c0 c1 c2 c3 c4 c5 c6 c7 c8 c9 c10 c11 c12 c13 c14 c15 c16 c17 c18 c19 c20 c21 c22 c23 c24 c25 c26 c27 c28 c29 c30 : Vec Ideal S64x512 .f32) :
    k0_pay77 (k0_pay28 g) (k0_pay29 o) (k0_pay75 (k0_pay74 (k0_pay73 (k0_pay72 (k0_pay71 (k0_pay27 b) w0 c0 w1 c1 w2 c2 w3 c3 w4 c4) w5 c5 w6 c6 w7 c7 w8 c8 w9 c9 w10 c10 w11 c11) w12 c12 w13 c13 w14 c14 w15 c15 w16 c16 w17 c17) w18 c18 w19 c19 w20 c20 w21 c21 w22 c22 w23 c23 w24 c24) w25 c25 w26 c26 w27 c27 w28 c28 w29 c29 w30 c30) (k0_pay76 (k0_pay74 (k0_pay73 (k0_pay72 (k0_pay71 (k0_pay27 b) w0 c0 w1 c1 w2 c2 w3 c3 w4 c4) w5 c5 w6 c6 w7 c7 w8 c8 w9 c9 w10 c10 w11 c11) w12 c12 w13 c13 w14 c14 w15 c15 w16 c16 w17 c17) w18 c18 w19 c19 w20 c20 w21 c21 w22 c22 w23 c23 w24 c24) w25 c25 w26 c26 w27 c27 w28 c28 w29 c29 w30 c30)
      = gated (normed (centred (tapped (tapped (tapped (tapped (tapped (tapped (tapped (tapped (tapped (tapped (tapped (tapped (tapped (tapped (tapped (tapped (tapped (tapped (tapped (tapped (tapped (tapped (tapped (tapped (tapped (tapped (tapped (tapped (tapped (tapped (tapped (begun b) w0 c0) w1 c1) w2 c2) w3 c3) w4 c4) w5 c5) w6 c6) w7 c7) w8 c8) w9 c9) w10 c10) w11 c11) w12 c12) w13 c13) w14 c14) w15 c15) w16 c16) w17 c17) w18 c18) w19 c19) w20 c20) w21 c21) w22 c22) w23 c23) w24 c24) w25 c25) w26 c26) w27 c27) w28 c28) w29 c29) w30 c30)) g o) := rfl

/-- The chunk at row 448 is the convolution's gated norm. -/
theorem chunk7 (b g o w0 w1 w2 w3 w4 w5 w6 w7 w8 w9 w10 w11 w12 w13 w14 w15 w16 w17 w18 w19 w20 w21 w22 w23 w24 w25 w26 w27 w28 w29 w30 : Vec Ideal S1x512 .f32) (c0 c1 c2 c3 c4 c5 c6 c7 c8 c9 c10 c11 c12 c13 c14 c15 c16 c17 c18 c19 c20 c21 c22 c23 c24 c25 c26 c27 c28 c29 c30 : Vec Ideal S64x512 .f32) :
    k0_pay83 (k0_pay28 g) (k0_pay29 o) (k0_pay82 (k0_pay81 (k0_pay80 (k0_pay79 (k0_pay78 (k0_pay27 b) w0 c0 w1 c1 w2 c2) w3 c3 w4 c4 w5 c5 w6 c6 w7 c7 w8 c8 w9 c9) w10 c10 w11 c11 w12 c12 w13 c13 w14 c14 w15 c15 w16 c16) w17 c17 w18 c18 w19 c19 w20 c20 w21 c21 w22 c22) w23 c23 w24 c24 w25 c25 w26 c26 w27 c27 w28 c28 w29 c29) w30 c30
      = gated (normed (centred (tapped (tapped (tapped (tapped (tapped (tapped (tapped (tapped (tapped (tapped (tapped (tapped (tapped (tapped (tapped (tapped (tapped (tapped (tapped (tapped (tapped (tapped (tapped (tapped (tapped (tapped (tapped (tapped (tapped (tapped (tapped (begun b) w0 c0) w1 c1) w2 c2) w3 c3) w4 c4) w5 c5) w6 c6) w7 c7) w8 c8) w9 c9) w10 c10) w11 c11) w12 c12) w13 c13) w14 c14) w15 c15) w16 c16) w17 c17) w18 c18) w19 c19) w20 c20) w21 c21) w22 c22) w23 c23) w24 c24) w25 c25) w26 c26) w27 c27) w28 c28) w29 c29) w30 c30)) g o) := rfl

/-- The tile at row 0 of heads 0 and 1. -/
theorem tile00 (q : Vec Ideal S128x128 .bf16) (k0 : Vec Ideal S256x128 .bf16) (b0 : Vec Ideal S1x128x256 .f32) (s0 : Vec Ideal S1x1 .f32)
    (k1 : Vec Ideal S256x128 .bf16) (b1 : Vec Ideal S1x128x256 .f32) (s1 : Vec Ideal S1x1 .f32) (v0 v1 : Vec Ideal S256x128 .bf16) :
    k0_pay96 k0_pay84 (k0_pay89 q k0 b0 s0) (k0_pay90 q k0 b0 s0) (k0_pay94 q k1 b1 s1) (k0_pay95 q k1 b1 s1) v0 v1 = tile q k0 b0 s0 k1 b1 s1 v0 v1 := rfl

/-- The tile at row 0 of heads 2 and 3. -/
theorem tile01 (q : Vec Ideal S128x128 .bf16) (k0 : Vec Ideal S256x128 .bf16) (b0 : Vec Ideal S1x128x256 .f32) (s0 : Vec Ideal S1x1 .f32)
    (k1 : Vec Ideal S256x128 .bf16) (b1 : Vec Ideal S1x128x256 .f32) (s1 : Vec Ideal S1x1 .f32) (v0 v1 : Vec Ideal S256x128 .bf16) :
    k0_pay104 (k0_pay103 k0_pay84 q (k0_pay100 q k0 b0 s0) (k0_pay101 q k0 b0 s0) (k0_pay102 q k0 b0 s0) k1 b1 s1 v0 v1) = tile q k0 b0 s0 k1 b1 s1 v0 v1 := rfl

/-- The tile at row 0 of heads 4 and 5. -/
theorem tile02 (q : Vec Ideal S128x128 .bf16) (k0 : Vec Ideal S256x128 .bf16) (b0 : Vec Ideal S1x128x256 .f32) (s0 : Vec Ideal S1x1 .f32)
    (k1 : Vec Ideal S256x128 .bf16) (b1 : Vec Ideal S1x128x256 .f32) (s1 : Vec Ideal S1x1 .f32) (v0 v1 : Vec Ideal S256x128 .bf16) :
    k0_pay112 k0_pay84 (k0_pay109 q k0 b0 s0) (k0_pay110 q k0 b0 s0) (k0_pay111 q k1 b1) s1 v0 v1 = tile q k0 b0 s0 k1 b1 s1 v0 v1 := rfl

/-- The tile at row 0 of heads 6 and 7. -/
theorem tile03 (q : Vec Ideal S128x128 .bf16) (k0 : Vec Ideal S256x128 .bf16) (b0 : Vec Ideal S1x128x256 .f32) (s0 : Vec Ideal S1x1 .f32)
    (k1 : Vec Ideal S256x128 .bf16) (b1 : Vec Ideal S1x128x256 .f32) (s1 : Vec Ideal S1x1 .f32) (v0 v1 : Vec Ideal S256x128 .bf16) :
    k0_pay125 k0_pay84 (k0_pay117 (k0_pay113 q k0 b0) s0) (k0_pay118 (k0_pay113 q k0 b0) s0) (k0_pay123 q k1 b1 s1) (k0_pay124 q k1 b1 s1) v0 v1 = tile q k0 b0 s0 k1 b1 s1 v0 v1 := rfl

/-- The tile at row 128 of heads 0 and 1. -/
theorem tile10 (q : Vec Ideal S128x128 .bf16) (k0 : Vec Ideal S256x128 .bf16) (b0 : Vec Ideal S1x128x256 .f32) (s0 : Vec Ideal S1x1 .f32)
    (k1 : Vec Ideal S256x128 .bf16) (b1 : Vec Ideal S1x128x256 .f32) (s1 : Vec Ideal S1x1 .f32) (v0 v1 : Vec Ideal S256x128 .bf16) :
    k0_pay132 k0_pay84 q (k0_pay130 q k0 b0 s0) (k0_pay131 q k0 b0 s0) k1 b1 s1 v0 v1 = tile q k0 b0 s0 k1 b1 s1 v0 v1 := rfl

/-- The tile at row 128 of heads 2 and 3. -/
theorem tile11 (q : Vec Ideal S128x128 .bf16) (k0 : Vec Ideal S256x128 .bf16) (b0 : Vec Ideal S1x128x256 .f32) (s0 : Vec Ideal S1x1 .f32)
    (k1 : Vec Ideal S256x128 .bf16) (b1 : Vec Ideal S1x128x256 .f32) (s1 : Vec Ideal S1x1 .f32) (v0 v1 : Vec Ideal S256x128 .bf16) :
    k0_pay145 k0_pay84 (k0_pay137 q k0 b0 s0) (k0_pay138 q k0 b0 s0) (k0_pay142 q k1 b1 s1) (k0_pay143 q k1 b1 s1) (k0_pay144 q k1 b1 s1) v0 v1 = tile q k0 b0 s0 k1 b1 s1 v0 v1 := rfl

/-- The tile at row 128 of heads 4 and 5. -/
theorem tile12 (q : Vec Ideal S128x128 .bf16) (k0 : Vec Ideal S256x128 .bf16) (b0 : Vec Ideal S1x128x256 .f32) (s0 : Vec Ideal S1x1 .f32)
    (k1 : Vec Ideal S256x128 .bf16) (b1 : Vec Ideal S1x128x256 .f32) (s1 : Vec Ideal S1x1 .f32) (v0 v1 : Vec Ideal S256x128 .bf16) :
    k0_pay153 (k0_pay152 k0_pay84 q (k0_pay149 q k0 b0 s0) (k0_pay150 q k0 b0 s0) (k0_pay151 q k0 b0 s0) k1 b1 s1 v0 v1) = tile q k0 b0 s0 k1 b1 s1 v0 v1 := rfl

/-- The tile at row 128 of heads 6 and 7. -/
theorem tile13 (q : Vec Ideal S128x128 .bf16) (k0 : Vec Ideal S256x128 .bf16) (b0 : Vec Ideal S1x128x256 .f32) (s0 : Vec Ideal S1x1 .f32)
    (k1 : Vec Ideal S256x128 .bf16) (b1 : Vec Ideal S1x128x256 .f32) (s1 : Vec Ideal S1x1 .f32) (v0 v1 : Vec Ideal S256x128 .bf16) :
    k0_pay163 k0_pay84 (k0_pay158 q k0 b0 s0) (k0_pay159 q k0 b0 s0) (k0_pay160 q k1 b1) (k0_pay161 s1) (k0_pay162 q k1 b1 s1) v0 v1 = tile q k0 b0 s0 k1 b1 s1 v0 v1 := rfl

/-- The tile at row 256 of heads 0 and 1. -/
theorem tile20 (q : Vec Ideal S128x128 .bf16) (k0 : Vec Ideal S256x128 .bf16) (b0 : Vec Ideal S1x128x256 .f32) (s0 : Vec Ideal S1x1 .f32)
    (k1 : Vec Ideal S256x128 .bf16) (b1 : Vec Ideal S1x128x256 .f32) (s1 : Vec Ideal S1x1 .f32) (v0 v1 : Vec Ideal S256x128 .bf16) :
    k0_pay175 k0_pay84 (k0_pay172 q k1 b1 s1) (k0_pay173 q (k0_pay164 q k0 b0) (k0_pay166 q k0 b0 s0) k1 b1 s1 v0 v1) (k0_pay174 (k0_pay164 q k0 b0) (k0_pay165 s0) (k0_pay166 q k0 b0 s0)) = tile q k0 b0 s0 k1 b1 s1 v0 v1 := rfl

/-- The tile at row 256 of heads 2 and 3. -/
theorem tile21 (q : Vec Ideal S128x128 .bf16) (k0 : Vec Ideal S256x128 .bf16) (b0 : Vec Ideal S1x128x256 .f32) (s0 : Vec Ideal S1x1 .f32)
    (k1 : Vec Ideal S256x128 .bf16) (b1 : Vec Ideal S1x128x256 .f32) (s1 : Vec Ideal S1x1 .f32) (v0 v1 : Vec Ideal S256x128 .bf16) :
    k0_pay183 k0_pay84 (k0_pay180 q k0 b0 s0) (k0_pay181 q k0 b0 s0) (k0_pay182 q k1 b1) s1 v0 v1 = tile q k0 b0 s0 k1 b1 s1 v0 v1 := rfl

/-- The tile at row 256 of heads 4 and 5. -/
theorem tile22 (q : Vec Ideal S128x128 .bf16) (k0 : Vec Ideal S256x128 .bf16) (b0 : Vec Ideal S1x128x256 .f32) (s0 : Vec Ideal S1x1 .f32)
    (k1 : Vec Ideal S256x128 .bf16) (b1 : Vec Ideal S1x128x256 .f32) (s1 : Vec Ideal S1x1 .f32) (v0 v1 : Vec Ideal S256x128 .bf16) :
    k0_pay196 k0_pay84 (k0_pay188 (k0_pay184 q k0 b0) s0) (k0_pay189 (k0_pay184 q k0 b0) s0) (k0_pay194 q k1 b1 s1) (k0_pay195 q k1 b1 s1) v0 v1 = tile q k0 b0 s0 k1 b1 s1 v0 v1 := rfl

/-- The tile at row 256 of heads 6 and 7. -/
theorem tile23 (q : Vec Ideal S128x128 .bf16) (k0 : Vec Ideal S256x128 .bf16) (b0 : Vec Ideal S1x128x256 .f32) (s0 : Vec Ideal S1x1 .f32)
    (k1 : Vec Ideal S256x128 .bf16) (b1 : Vec Ideal S1x128x256 .f32) (s1 : Vec Ideal S1x1 .f32) (v0 v1 : Vec Ideal S256x128 .bf16) :
    k0_pay203 k0_pay84 q (k0_pay201 q k0 b0 s0) (k0_pay202 q k0 b0 s0) k1 b1 s1 v0 v1 = tile q k0 b0 s0 k1 b1 s1 v0 v1 := rfl

/-- The tile at row 384 of heads 0 and 1. -/
theorem tile30 (q : Vec Ideal S128x128 .bf16) (k0 : Vec Ideal S256x128 .bf16) (b0 : Vec Ideal S1x128x256 .f32) (s0 : Vec Ideal S1x1 .f32)
    (k1 : Vec Ideal S256x128 .bf16) (b1 : Vec Ideal S1x128x256 .f32) (s1 : Vec Ideal S1x1 .f32) (v0 v1 : Vec Ideal S256x128 .bf16) :
    k0_pay215 k0_pay84 (k0_pay208 q k0 b0 s0) (k0_pay209 q k0 b0 s0) (k0_pay213 q k1 b1 s1) (k0_pay214 q k1 b1 s1) v0 v1 = tile q k0 b0 s0 k1 b1 s1 v0 v1 := rfl

/-- The tile at row 384 of heads 2 and 3. -/
theorem tile31 (q : Vec Ideal S128x128 .bf16) (k0 : Vec Ideal S256x128 .bf16) (b0 : Vec Ideal S1x128x256 .f32) (s0 : Vec Ideal S1x1 .f32)
    (k1 : Vec Ideal S256x128 .bf16) (b1 : Vec Ideal S1x128x256 .f32) (s1 : Vec Ideal S1x1 .f32) (v0 v1 : Vec Ideal S256x128 .bf16) :
    k0_pay221 k0_pay84 q (k0_pay219 q k0 b0 s0) (k0_pay220 q k0 b0 s0) k1 b1 s1 v0 v1 = tile q k0 b0 s0 k1 b1 s1 v0 v1 := rfl

/-- The tile at row 384 of heads 4 and 5. -/
theorem tile32 (q : Vec Ideal S128x128 .bf16) (k0 : Vec Ideal S256x128 .bf16) (b0 : Vec Ideal S1x128x256 .f32) (s0 : Vec Ideal S1x1 .f32)
    (k1 : Vec Ideal S256x128 .bf16) (b1 : Vec Ideal S1x128x256 .f32) (s1 : Vec Ideal S1x1 .f32) (v0 v1 : Vec Ideal S256x128 .bf16) :
    k0_pay232 k0_pay84 (k0_pay226 q k0 b0 s0) (k0_pay227 q k0 b0 s0) (k0_pay229 s1) (k0_pay230 q k1 b1 s1) (k0_pay231 q k1 b1 s1) v0 v1 = tile q k0 b0 s0 k1 b1 s1 v0 v1 := rfl

/-- The tile at row 384 of heads 6 and 7. -/
theorem tile33 (q : Vec Ideal S128x128 .bf16) (k0 : Vec Ideal S256x128 .bf16) (b0 : Vec Ideal S1x128x256 .f32) (s0 : Vec Ideal S1x1 .f32)
    (k1 : Vec Ideal S256x128 .bf16) (b1 : Vec Ideal S1x128x256 .f32) (s1 : Vec Ideal S1x1 .f32) (v0 v1 : Vec Ideal S256x128 .bf16) :
    k0_pay1 k0_pay84 (k0_pay242 q (k0_pay236 q k0 b0 s0) k1 b1 s1 v0 v1) (k0_pay243 (k0_pay234 s0) (k0_pay235 q k0 b0 s0) (k0_pay236 q k0 b0 s0)) (k0_pay244 q k1 b1 s1) = tile q k0 b0 s0 k1 b1 s1 v0 v1 := rfl

end Cert.EvenMixerIdeal.Row

end
end
-- ==== Proof.EvenPay.lean ====
module

public import proofs.«01_k».proof.Proof.OddPay
public import proofs.«01_k».proof.Proof.Softmax
public import proofs.«01_k».proof.Proof.EvenTile

set_option maxRecDepth 16384

@[expose] public section
noncomputable section

open Idealize.ShloMosaic Idealize.ShloMosaic.TcCoe Idealize.SL.Sem

/-! What the even layer's mixer computes from the blocks it loads, entry by entry. -/

namespace Cert.Spec

/-- A row less its mean. -/
def cen (a : Fin 512 → EReal) (f : Fin 512) : EReal := a f - Ideal.div (∑ l, a l) (Ideal.ofBits .f32 0x44000000#32)

/-- A centred row by the root of its variance, by the gain, plus the offset. -/
def layer (x g o : Fin 512 → EReal) (f : Fin 512) : EReal :=
  x f * Ideal.rsqrt (Ideal.div (∑ l, x l * x l) (Ideal.ofBits .f32 0x44000000#32) + Ideal.ofBits .f32 0x3727C5AC#32) * g f + o f

/-- The largest of the scores and the sink. -/
def peak (s : Fin 256 → EReal) (k : EReal) : EReal := max (Finset.univ.fold max (Ideal.ofBits .f32 0xFF800000#32) s) k

/-- One over the total weight of the scores and the sink. -/
def share (s : Fin 256 → EReal) (k : EReal) : EReal :=
  Ideal.div 1 ((∑ x, Ideal.exp (s x - peak s k)) + Ideal.exp (k - peak s k))

end Cert.Spec

namespace Cert.EvenMixerIdeal.Row
open Cert.EvenMixerIdeal Cert.EvenMixerIdeal.Gen Cert.Spec

variable (x0 : Vec Ideal S512x1024 .f32) (x1 : Vec Ideal S1x1024 .f32) (x2 : Vec Ideal S1024x1792 .bf16)

/-- The projection of a row of the block. -/
theorem pay7 (r : Fin 512) (c : Fin 1792) :
    k0_pay7 x0 x1 x2 (ix2 r c) = proj (fun l => x0 (ix2 r l)) (fun l => x1 (ix2 0 l)) (fun d c => x2 (ix2 d c)) c := by
  pointwise [k0_pay7]
  rfl

/-- The gated row stored for the convolution. -/
theorem pay8 (r : Fin 512) (k : Fin 512) :
    k0_pay8 x0 x1 x2 (ix2 r k) = k0_pay7 x0 x1 x2 (ix2 r ⟨k.val, by omega⟩) * Ideal.logistic (k0_pay7 x0 x1 x2 (ix2 r ⟨512 + k.val, by omega⟩)) := by
  unfold k0_pay8
  generalize k0_pay7 x0 x1 x2 = z
  pointwise []

/-- The scaled queries. -/
theorem pay9 (r : Fin 512) (k : Fin 512) :
    k0_pay9 x0 x1 x2 (ix2 r k) = k0_pay7 x0 x1 x2 (ix2 r ⟨1024 + k.val, by omega⟩) * Ideal.ofBits .f32 0x3E000000#32 := by
  unfold k0_pay9
  generalize k0_pay7 x0 x1 x2 = z
  pointwise []

/-- The stored rows are what was loaded. -/
theorem pay2 (c : Vec Ideal S32x512 .f32) (i : Fin 32) (k : Fin 512) : k0_pay2 c (ix2 i k) = c (ix2 i k) := by
  pointwise [k0_pay2]

/-- So are the stored keys and values. -/
theorem pay3 (c : Vec Ideal S128x1024 .bf16) (i : Fin 128) (k : Fin 1024) : k0_pay3 c (ix2 i k) = c (ix2 i k) := by
  pointwise [k0_pay3]

/-- The rows before the first block are zero. -/
theorem pay5 (i : Fin 32) (k : Fin 512) : k0_pay5 (F := Ideal) (ix2 i k) = 0 := by
  pointwise [k0_pay5]

/-- So are its keys and values. -/
theorem pay6 (i : Fin 128) (k : Fin 1024) : k0_pay6 (F := Ideal) (ix2 i k) = 0 := by
  pointwise [k0_pay6]

/-- The block's result: the rows plus the stored rows times the output projection. -/
theorem pay4 (y : Vec Ideal S512x1024 .bf16) (w : Vec Ideal S1024x1024 .bf16) (r : Fin 512) (j : Fin 1024) :
    k0_pay4 x0 y w (ix2 r j) = x0 (ix2 r j) + ∑ x, y (ix2 r x) * w (ix2 x j) := by
  pointwise [k0_pay4]

/-- One tap's product added. -/
theorem tapped_at (a : FVec Ideal S64x512 .f32) (w : Vec Ideal S1x512 .f32) (c : Vec Ideal S64x512 .f32) (r : Fin 64) (f : Fin 512) :
    tapped a w c (ix2 r f) = a (ix2 r f) + w (ix2 0 f) * c (ix2 r f) := by
  pointwise [tapped]

/-- The bias the sum starts from. -/
theorem begun_at (b : Vec Ideal S1x512 .f32) (r : Fin 64) (f : Fin 512) : begun b (ix2 r f) = b (ix2 0 f) := by
  pointwise [begun, k0_pay27]

/-- A centred entry. -/
theorem centred_at (a : FVec Ideal S64x512 .f32) (r : Fin 64) (f : Fin 512) : centred a (ix2 r f) = cen (fun l => a (ix2 r l)) f := by
  pointwise [centred]
  rfl

/-- A normed entry. -/
theorem normed_at (a : FVec Ideal S64x512 .f32) (g o : Vec Ideal S1x512 .f32) (r : Fin 64) (f : Fin 512) :
    normed a g o (ix2 r f) = layer (fun l => a (ix2 r l)) (fun l => g (ix2 0 l)) (fun l => o (ix2 0 l)) f := by
  pointwise [normed, k0_pay28, k0_pay29]
  rfl

/-- A gated entry. -/
theorem gated_at (y : FVec Ideal S64x512 .f32) (r : Fin 64) (f : Fin 512) : gated y (ix2 r f) = y (ix2 r f) * Ideal.logistic (y (ix2 r f)) := by
  pointwise [gated]

/-- A choice by lane below 64. -/
theorem low (e : Fin 128) (a b : EReal) :
    Scalar.select (IntOp.cmpi .slt (BitVec.ofNat 32 e.val) 64#32) a b = if e.val < 64 then a else b := by
  have h : ∀ e : Fin 128, IntOp.cmpi .slt (BitVec.ofNat 32 e.val) 64#32 = if e.val < 64 then 1#1 else 0#1 := by decide +kernel
  rw [h]
  by_cases he : e.val < 64
  · rw [if_pos he, if_pos he]
    rfl
  · rw [if_neg he, if_neg he]
    rfl

/-- The key rows of head 0 in the low lanes. -/
theorem part0 (z : FVec Ideal S512x1792 .f32) (r : Fin 512) (e : Fin 128) :
    k0_pay13 z (iota .tc S512x128 32 [1] iota_S512x128_d1_w32) 64#32 (ix2 r e)
      = if e.val < 64 then z (ix2 r ⟨1536 + e.val, by omega⟩) else 0 := by
  unfold k0_pay13 k0_pay11 k0_pay10
  pointwise []
  exact low e _ _

/-- The key rows of head 0 in the high lanes. -/
theorem part1 (z : FVec Ideal S512x1792 .f32) (r : Fin 512) (e : Fin 128) :
    k0_pay14 z (iota .tc S512x128 32 [1] iota_S512x128_d1_w32) 64#32 (ix2 r e)
      = if e.val < 64 then 0 else z (ix2 r ⟨1536 + (e.val + 128 - 64) % 128, by omega⟩) := by
  unfold k0_pay14 k0_pay12 k0_pay11 k0_pay10
  pointwise []
  exact low e _ _

/-- The key rows of head 1 in the low lanes. -/
theorem part2 (z : FVec Ideal S512x1792 .f32) (r : Fin 512) (e : Fin 128) :
    k0_pay15 z (iota .tc S512x128 32 [1] iota_S512x128_d1_w32) 64#32 (ix2 r e)
      = if e.val < 64 then z (ix2 r ⟨1536 + (e.val + 128 - 64) % 128, by omega⟩) else 0 := by
  unfold k0_pay15 k0_pay12 k0_pay11 k0_pay10
  pointwise []
  exact low e _ _

/-- The key rows of head 1 in the high lanes. -/
theorem part3 (z : FVec Ideal S512x1792 .f32) (r : Fin 512) (e : Fin 128) :
    k0_pay16 z (iota .tc S512x128 32 [1] iota_S512x128_d1_w32) 64#32 (ix2 r e)
      = if e.val < 64 then 0 else z (ix2 r ⟨1536 + e.val, by omega⟩) := by
  unfold k0_pay16 k0_pay11 k0_pay10
  pointwise []
  exact low e _ _

/-- The value rows of head 0 in the low lanes. -/
theorem part4 (z : FVec Ideal S512x1792 .f32) (r : Fin 512) (e : Fin 128) :
    k0_pay23 (k0_pay19 z (iota .tc S512x128 32 [1] iota_S512x128_d1_w32) 64#32) (ix2 r e)
      = if e.val < 64 then z (ix2 r ⟨1664 + e.val, by omega⟩) else 0 := by
  unfold k0_pay23 k0_pay19 k0_pay17 k0_pay10
  pointwise []
  exact low e _ _

/-- The value rows of head 0 in the high lanes. -/
theorem part5 (z : FVec Ideal S512x1792 .f32) (r : Fin 512) (e : Fin 128) :
    k0_pay24 (k0_pay20 z (iota .tc S512x128 32 [1] iota_S512x128_d1_w32) 64#32) (ix2 r e)
      = if e.val < 64 then 0 else z (ix2 r ⟨1664 + (e.val + 128 - 64) % 128, by omega⟩) := by
  unfold k0_pay24 k0_pay20 k0_pay18 k0_pay17 k0_pay10
  pointwise []
  exact low e _ _

/-- The value rows of head 1 in the low lanes. -/
theorem part6 (z : FVec Ideal S512x1792 .f32) (r : Fin 512) (e : Fin 128) :
    k0_pay25 (k0_pay21 z (iota .tc S512x128 32 [1] iota_S512x128_d1_w32) 64#32) (ix2 r e)
      = if e.val < 64 then z (ix2 r ⟨1664 + (e.val + 128 - 64) % 128, by omega⟩) else 0 := by
  unfold k0_pay25 k0_pay21 k0_pay18 k0_pay17 k0_pay10
  pointwise []
  exact low e _ _

/-- The value rows of head 1 in the high lanes. -/
theorem part7 (z : FVec Ideal S512x1792 .f32) (r : Fin 512) (e : Fin 128) :
    k0_pay26 (k0_pay22 z (iota .tc S512x128 32 [1] iota_S512x128_d1_w32) 64#32) (ix2 r e)
      = if e.val < 64 then 0 else z (ix2 r ⟨1664 + e.val, by omega⟩) := by
  unfold k0_pay26 k0_pay22 k0_pay17 k0_pay10
  pointwise []
  exact low e _ _

/-- A weight of a head's scores. -/
theorem weight_at (q : Vec Ideal S128x128 .bf16) (k : Vec Ideal S256x128 .bf16) (b : Vec Ideal S1x128x256 .f32) (s : Vec Ideal S1x1 .f32)
    (i : Fin 128) (x : Fin 256) :
    k0_pay89 q k b s (ix2 i x)
      = Ideal.exp (((∑ e, q (ix2 i e) * k (ix2 x e)) + b (ix3 0 i x))
          - peak (fun x => (∑ e, q (ix2 i e) * k (ix2 x e)) + b (ix3 0 i x)) (s (ix2 0 0))) := by
  pointwise [k0_pay89, k0_pay88, k0_pay87, k0_pay86, k0_pay85]
  rfl

/-- One over a head's total weight. -/
theorem share_at (q : Vec Ideal S128x128 .bf16) (k : Vec Ideal S256x128 .bf16) (b : Vec Ideal S1x128x256 .f32) (s : Vec Ideal S1x1 .f32)
    (i : Fin 128) :
    k0_pay90 q k b s (ix2 i 0) = share (fun x => (∑ e, q (ix2 i e) * k (ix2 x e)) + b (ix3 0 i x)) (s (ix2 0 0)) := by
  pointwise [k0_pay90, k0_pay88, k0_pay87, k0_pay86, k0_pay85]
  rfl

/-- Two heads' weights side by side. -/
theorem weights_at (p0 p1 : FVec Ideal S128x256 .bf16) (i : Fin 128) (x : Fin 512) :
    weights p0 p1 (ix2 i x) = if h : x.val < 256 then p0 (ix2 i ⟨x.val, h⟩) else p1 (ix2 i ⟨x.val - 256, by omega⟩) := by
  pointwise [weights]

/-- Two heads' values one under the other. -/
theorem values_at (v0 v1 : FVec Ideal S256x128 .bf16) (x : Fin 512) (e : Fin 128) :
    values v0 v1 (ix2 x e) = if h : x.val < 256 then v0 (ix2 ⟨x.val, h⟩ e) else v1 (ix2 ⟨x.val - 256, by omega⟩ e) := by
  pointwise [values]

/-- A tile's entry. -/
theorem tile_at (q : Vec Ideal S128x128 .bf16) (k0 : Vec Ideal S256x128 .bf16) (b0 : Vec Ideal S1x128x256 .f32) (s0 : Vec Ideal S1x1 .f32)
    (k1 : Vec Ideal S256x128 .bf16) (b1 : Vec Ideal S1x128x256 .f32) (s1 : Vec Ideal S1x1 .f32) (v0 v1 : Vec Ideal S256x128 .bf16) (i e : Fin 128) :
    tile q k0 b0 s0 k1 b1 s1 v0 v1 (ix2 i e)
      = (∑ x : Fin 512, weights (k0_pay89 q k0 b0 s0) (k0_pay89 q k1 b1 s1) (ix2 i x) * values v0 v1 (ix2 x e))
          * (if e.val < 64 then k0_pay90 q k0 b0 s0 (ix2 i 0) else k0_pay90 q k1 b1 s1 (ix2 i 0)) := by
  unfold tile
  generalize weights (k0_pay89 q k0 b0 s0) (k0_pay89 q k1 b1 s1) = w
  generalize values v0 v1 = v
  generalize k0_pay90 q k0 b0 s0 = l0
  generalize k0_pay90 q k1 b1 s1 = l1
  pointwise [k0_pay1, k0_pay84]
  rw [low]

end Cert.EvenMixerIdeal.Row

end
end
-- ==== Proof.EvenRef.lean ====
module

public import proofs.«01_k».proof.Proof.EvenPay
public import proofs.«01_k».proof.Proof.Gen.RefEvenMixerIdeal.Read

set_option maxRecDepth 16384

@[expose] public section
noncomputable section

open Idealize.ShloMosaic Idealize.ShloMosaic.TcCoe Idealize.SL.Sem

/-! What the even layer's reference computes up to the end of its convolution, entry by entry. -/

namespace Cert.RefEvenMixerIdeal.Row
open Cert.RefEvenMixerIdeal Cert.RefEvenMixerIdeal.Read Cert.Spec

variable (x0 : (⟨S32768x1024, .f32⟩ : BufTy).Contents (Elt Ideal)) (x1 : (⟨S1024, .f32⟩ : BufTy).Contents (Elt Ideal))
  (x2 : (⟨S1024x1792, .f32⟩ : BufTy).Contents (Elt Ideal)) (x3 : (⟨S31x512, .f32⟩ : BufTy).Contents (Elt Ideal))
  (x4 x5 x6 : (⟨S512, .f32⟩ : BufTy).Contents (Elt Ideal)) (x7 : (⟨S8, .f32⟩ : BufTy).Contents (Elt Ideal))
  (x8 : (⟨S1024x1024, .f32⟩ : BufTy).Contents (Elt Ideal))

/-- The rows, by batch. -/
theorem row0 (b : Fin 4) (r : Fin 8192) (k : Fin 1024) :
    val_main_v0 x0 (ix3 b r k) = x0 (ix2 ⟨b.val * 8192 + r.val, by omega⟩ k) := by
  pointwise [val_main_v0]
  blk_ext []

/-- The normalised row. -/
theorem norm (b : Fin 4) (r : Fin 8192) (k : Fin 1024) :
    val_main_v13 x0 x1 (ix3 b r k) = rms (fun l => x0 (ix2 ⟨b.val * 8192 + r.val, by omega⟩ l)) (fun l => x1 (ix1 l)) k := by
  pointwise [val_main_v13, val_main_v12, val_main_v11, val_main_v10, val_main_v9, val_main_v8, val_main_v7, val_main_v6, val_main_v5, val_main_v4, val_main_v3, val_main_v2, val_main_v1, val_main_cst, val_main_cst_0, val_main_cst_1]
  simp only [row0]
  rfl

/-- A column of row `n` of the input, normalised and projected. -/
def zed (n : Fin 32768) (c : Fin 1792) : EReal :=
  proj (fun l => x0 (ix2 n l)) (fun l => x1 (ix1 l)) (fun d c => x2 (ix2 d c)) c

/-- The input projection. -/
theorem input (b : Fin 4) (r : Fin 8192) (c : Fin 1792) :
    val_main_v14 x0 x1 x2 (ix3 b r c) = zed x0 x1 x2 ⟨b.val * 8192 + r.val, by omega⟩ c := by
  pointwise [val_main_v14]
  simp only [norm]
  rfl

/-- The row the convolution runs over. -/
theorem gate (b : Fin 4) (r : Fin 8192) (k : Fin 512) :
    val_main_v23 x0 x1 x2 (ix3 b r k)
      = zed x0 x1 x2 ⟨b.val * 8192 + r.val, by omega⟩ ⟨k.val, by omega⟩
        * Ideal.logistic (zed x0 x1 x2 ⟨b.val * 8192 + r.val, by omega⟩ ⟨512 + k.val, by omega⟩) := by
  unfold val_main_v23 val_main_v22 val_main_v21 val_main_v20 val_main_v19 val_main_v18 val_main_v17 val_main_v16 val_main_v15
  pointwise [val_main_cst_2, val_main_cst_3]
  simp only [input]
  rfl

/-- Those rows after thirty zero rows. -/
theorem padded (b : Fin 4) (i : Fin 8222) (k : Fin 512) :
    val_main_v24 x0 x1 x2 (ix3 b i k)
      = if h : 30 ≤ i.val then val_main_v23 x0 x1 x2 (ix3 b ⟨i.val - 30, by omega⟩ k) else 0 := by
  unfold val_main_v24
  generalize val_main_v23 x0 x1 x2 = y
  pointwise [val_main_call0_v0, val_main_c]
  have hz : (FloatOps.sitofp (F := Ideal) FTy.f32 0#32) = (0 : EReal) := by
    show ((((0#32 : BitVec 32).toInt : ℝ)) : EReal) = 0
    simp
  rw [hz]
  by_cases h : 30 ≤ i.val
  · rw [dif_pos h, dif_pos ⟨h, by omega⟩]
  · rw [dif_neg h, dif_neg fun h' => h h'.1]

/-- The convolved row: the taps over the padded rows. -/
theorem conv (b : Fin 4) (r : Fin 8192) (k : Fin 512) :
    val_main_v242 x0 x1 x2 x3 (ix3 b r k)
      = x3 (ix2 0 k) * val_main_v24 x0 x1 x2 (ix3 b ⟨r.val, by omega⟩ k)
        + x3 (ix2 1 k) * val_main_v24 x0 x1 x2 (ix3 b ⟨1 + r.val, by omega⟩ k)
        + x3 (ix2 2 k) * val_main_v24 x0 x1 x2 (ix3 b ⟨2 + r.val, by omega⟩ k)
        + x3 (ix2 3 k) * val_main_v24 x0 x1 x2 (ix3 b ⟨3 + r.val, by omega⟩ k)
        + x3 (ix2 4 k) * val_main_v24 x0 x1 x2 (ix3 b ⟨4 + r.val, by omega⟩ k)
        + x3 (ix2 5 k) * val_main_v24 x0 x1 x2 (ix3 b ⟨5 + r.val, by omega⟩ k)
        + x3 (ix2 6 k) * val_main_v24 x0 x1 x2 (ix3 b ⟨6 + r.val, by omega⟩ k)
        + x3 (ix2 7 k) * val_main_v24 x0 x1 x2 (ix3 b ⟨7 + r.val, by omega⟩ k)
        + x3 (ix2 8 k) * val_main_v24 x0 x1 x2 (ix3 b ⟨8 + r.val, by omega⟩ k)
        + x3 (ix2 9 k) * val_main_v24 x0 x1 x2 (ix3 b ⟨9 + r.val, by omega⟩ k)
        + x3 (ix2 10 k) * val_main_v24 x0 x1 x2 (ix3 b ⟨10 + r.val, by omega⟩ k)
        + x3 (ix2 11 k) * val_main_v24 x0 x1 x2 (ix3 b ⟨11 + r.val, by omega⟩ k)
        + x3 (ix2 12 k) * val_main_v24 x0 x1 x2 (ix3 b ⟨12 + r.val, by omega⟩ k)
        + x3 (ix2 13 k) * val_main_v24 x0 x1 x2 (ix3 b ⟨13 + r.val, by omega⟩ k)
        + x3 (ix2 14 k) * val_main_v24 x0 x1 x2 (ix3 b ⟨14 + r.val, by omega⟩ k)
        + x3 (ix2 15 k) * val_main_v24 x0 x1 x2 (ix3 b ⟨15 + r.val, by omega⟩ k)
        + x3 (ix2 16 k) * val_main_v24 x0 x1 x2 (ix3 b ⟨16 + r.val, by omega⟩ k)
        + x3 (ix2 17 k) * val_main_v24 x0 x1 x2 (ix3 b ⟨17 + r.val, by omega⟩ k)
        + x3 (ix2 18 k) * val_main_v24 x0 x1 x2 (ix3 b ⟨18 + r.val, by omega⟩ k)
        + x3 (ix2 19 k) * val_main_v24 x0 x1 x2 (ix3 b ⟨19 + r.val, by omega⟩ k)
        + x3 (ix2 20 k) * val_main_v24 x0 x1 x2 (ix3 b ⟨20 + r.val, by omega⟩ k)
        + x3 (ix2 21 k) * val_main_v24 x0 x1 x2 (ix3 b ⟨21 + r.val, by omega⟩ k)
        + x3 (ix2 22 k) * val_main_v24 x0 x1 x2 (ix3 b ⟨22 + r.val, by omega⟩ k)
        + x3 (ix2 23 k) * val_main_v24 x0 x1 x2 (ix3 b ⟨23 + r.val, by omega⟩ k)
        + x3 (ix2 24 k) * val_main_v24 x0 x1 x2 (ix3 b ⟨24 + r.val, by omega⟩ k)
        + x3 (ix2 25 k) * val_main_v24 x0 x1 x2 (ix3 b ⟨25 + r.val, by omega⟩ k)
        + x3 (ix2 26 k) * val_main_v24 x0 x1 x2 (ix3 b ⟨26 + r.val, by omega⟩ k)
        + x3 (ix2 27 k) * val_main_v24 x0 x1 x2 (ix3 b ⟨27 + r.val, by omega⟩ k)
        + x3 (ix2 28 k) * val_main_v24 x0 x1 x2 (ix3 b ⟨28 + r.val, by omega⟩ k)
        + x3 (ix2 29 k) * val_main_v24 x0 x1 x2 (ix3 b ⟨29 + r.val, by omega⟩ k)
        + x3 (ix2 30 k) * val_main_v24 x0 x1 x2 (ix3 b ⟨30 + r.val, by omega⟩ k) := by
  unfold val_main_v242 val_main_v241 val_main_v240 val_main_v239 val_main_v238 val_main_v237 val_main_v236 val_main_v235 val_main_v234 val_main_v233 val_main_v232 val_main_v231 val_main_v230 val_main_v229 val_main_v228 val_main_v227 val_main_v226 val_main_v225 val_main_v224 val_main_v223 val_main_v222 val_main_v221 val_main_v220 val_main_v219 val_main_v218 val_main_v217 val_main_v216 val_main_v215 val_main_v214 val_main_v213 val_main_v212 val_main_v211 val_main_v210 val_main_v209 val_main_v208 val_main_v207 val_main_v206 val_main_v205 val_main_v204 val_main_v203 val_main_v202 val_main_v201 val_main_v200 val_main_v199 val_main_v198 val_main_v197 val_main_v196 val_main_v195 val_main_v194 val_main_v193 val_main_v192 val_main_v191 val_main_v190 val_main_v189 val_main_v188 val_main_v187 val_main_v186 val_main_v185 val_main_v184 val_main_v183 val_main_v182 val_main_v181 val_main_v180 val_main_v179 val_main_v178 val_main_v177 val_main_v176 val_main_v175 val_main_v174 val_main_v173 val_main_v172 val_main_v171 val_main_v170 val_main_v169 val_main_v168 val_main_v167 val_main_v166 val_main_v165 val_main_v164 val_main_v163 val_main_v162 val_main_v161 val_main_v160 val_main_v159 val_main_v158 val_main_v157 val_main_v156 val_main_v155 val_main_v154 val_main_v153 val_main_v152 val_main_v151 val_main_v150 val_main_v149 val_main_v148 val_main_v147 val_main_v146 val_main_v145 val_main_v144 val_main_v143 val_main_v142 val_main_v141 val_main_v140 val_main_v139 val_main_v138 val_main_v137 val_main_v136 val_main_v135 val_main_v134 val_main_v133 val_main_v132 val_main_v131 val_main_v130 val_main_v129 val_main_v128 val_main_v127 val_main_v126 val_main_v125 val_main_v124 val_main_v123 val_main_v122 val_main_v121 val_main_v120 val_main_v119 val_main_v118 val_main_v117 val_main_v116 val_main_v115 val_main_v114 val_main_v113 val_main_v112 val_main_v111 val_main_v110 val_main_v109 val_main_v108 val_main_v107 val_main_v106 val_main_v105 val_main_v104 val_main_v103 val_main_v102 val_main_v101 val_main_v100 val_main_v99 val_main_v98 val_main_v97 val_main_v96 val_main_v95 val_main_v94 val_main_v93 val_main_v92 val_main_v91 val_main_v90 val_main_v89 val_main_v88 val_main_v87 val_main_v86 val_main_v85 val_main_v84 val_main_v83 val_main_v82 val_main_v81 val_main_v80 val_main_v79 val_main_v78 val_main_v77 val_main_v76 val_main_v75 val_main_v74 val_main_v73 val_main_v72 val_main_v71 val_main_v70 val_main_v69 val_main_v68 val_main_v67 val_main_v66 val_main_v65 val_main_v64 val_main_v63 val_main_v62 val_main_v61 val_main_v60 val_main_v59 val_main_v58 val_main_v57 val_main_v56 val_main_v55 val_main_v54 val_main_v53 val_main_v52 val_main_v51 val_main_v50 val_main_v49 val_main_v48 val_main_v47 val_main_v46 val_main_v45 val_main_v44 val_main_v43 val_main_v42 val_main_v41 val_main_v40 val_main_v39 val_main_v38 val_main_v37 val_main_v36 val_main_v35 val_main_v34 val_main_v33 val_main_v32 val_main_v31 val_main_v30 val_main_v29 val_main_v28 val_main_v27 val_main_v26 val_main_v25
  generalize val_main_v24 x0 x1 x2 = y
  pointwise [val_main_cst_4]

/-- The convolution with its bias, normed and gated. -/
theorem branch (b : Fin 4) (r : Fin 8192) (k : Fin 512) :
    val_main_v270 x0 x1 x2 x3 x4 x5 x6 (ix3 b r k)
      = layer (cen fun l => val_main_v242 x0 x1 x2 x3 (ix3 b r l) + x4 (ix1 l)) (fun l => x5 (ix1 l)) (fun l => x6 (ix1 l)) k
        * Ideal.logistic (layer (cen fun l => val_main_v242 x0 x1 x2 x3 (ix3 b r l) + x4 (ix1 l)) (fun l => x5 (ix1 l)) (fun l => x6 (ix1 l)) k) := by
  have hn : val_main_v269 x0 x1 x2 x3 x4 x5 x6 (ix3 b r k)
      = layer (cen fun l => val_main_v242 x0 x1 x2 x3 (ix3 b r l) + x4 (ix1 l)) (fun l => x5 (ix1 l)) (fun l => x6 (ix1 l)) k := by
    unfold val_main_v269 val_main_v268 val_main_v267 val_main_v266 val_main_v265 val_main_v264 val_main_v263 val_main_v262 val_main_v261 val_main_v260 val_main_v259 val_main_v258 val_main_v257 val_main_v256 val_main_v255 val_main_v254 val_main_v253 val_main_v252 val_main_v251 val_main_v250 val_main_v249 val_main_v248 val_main_v247 val_main_v246 val_main_v245 val_main_v244 val_main_v243
    generalize val_main_v242 x0 x1 x2 x3 = y
    pointwise [val_main_cst_5, val_main_cst_6, val_main_cst_7, val_main_cst_8, val_main_cst_9]
    rfl
  rw [← hn]
  unfold val_main_v270 val_main_call1_v5 val_main_call1_v4 val_main_call1_v3 val_main_call1_v2 val_main_call1_v1 val_main_call1_v0
  generalize val_main_v269 x0 x1 x2 x3 x4 x5 x6 = y
  pointwise [val_main_call1_cst, val_main_call1_cst_0]
  rfl

end Cert.RefEvenMixerIdeal.Row

end
end
-- ==== Proof.EvenSoft.lean ====
module

public import proofs.«01_k».proof.Proof.EvenPay

set_option maxRecDepth 16384

@[expose] public section
noncomputable section

open Idealize.ShloMosaic

/-! A softmax over 256 scores and a sink, in the kernel's order and in the reference's, and reductions along the last of six axes. -/

namespace Cert.Spec

/-- The attention row as the kernel forms it: weighted values summed, then divided by the total weight with the sink's. -/
def attend (s v : Fin 256 → EReal) (k : EReal) : EReal := (∑ x, Ideal.exp (s x - peak s k) * v x) * share s k

/-- The largest of 257 values is that of the first 256 against the last. -/
theorem fold_last (b : EReal) (f : Fin 257 → EReal) :
    Finset.univ.fold max b f = max (Finset.univ.fold max b fun x : Fin 256 => f x.castSucc) (f (Fin.last 256)) := by
  rw [Fin.univ_castSuccEmb, Finset.fold_cons, Finset.fold_map, max_comm]
  rfl

/-- The attention row as the reference forms it, the sink a last score without a value. -/
theorem attend_eq (s v : Fin 256 → EReal) (k : EReal) (hs : ∀ x, s x ≠ ⊤) (hk : IsReal k) (f : Fin 257 → EReal)
    (hf : ∀ x : Fin 256, f x.castSucc = s x) (hl : f (Fin.last 256) = k) :
    ∑ x : Fin 256, v x * Ideal.div
        (Ideal.exp (f x.castSucc - max (Ideal.ofBits .f32 0xFF800000#32) (Finset.univ.fold max (Ideal.ofBits .f32 0xFF800000#32) f)))
        (∑ y, Ideal.exp (f y - max (Ideal.ofBits .f32 0xFF800000#32) (Finset.univ.fold max (Ideal.ofBits .f32 0xFF800000#32) f)))
      = attend s v k := by
  have hm : max (Ideal.ofBits .f32 0xFF800000#32) (Finset.univ.fold max (Ideal.ofBits .f32 0xFF800000#32) f) = peak s k := by
    rw [fold_last, hl, peak]
    simp only [hf]
    exact max_eq_right (by rw [ofBits_negInf]; exact bot_le)
  have hp : IsReal (peak s k) := by
    refine real_of_ne (ne_of_lt ?_) (ne_of_gt ?_)
    · refine max_lt ?_ hk.ne_top.lt_top
      rw [ofBits_negInf]
      exact (Finset.fold_max_lt _).mpr ⟨bot_lt_top, fun x _ => (hs x).lt_top⟩
    · exact lt_of_lt_of_le hk.ne_bot.bot_lt (le_max_right _ _)
  have hr (x : Fin 256) : s x - peak s k ≠ ⊤ := by
    obtain ⟨p, hp⟩ := hp
    rw [hp]
    have h := hs x
    induction hx : s x with
    | bot => simp
    | top => exact absurd hx h
    | coe r => rw [← EReal.coe_sub]; exact EReal.coe_ne_top _
  rw [hm, Fin.sum_univ_castSucc (n := 256) fun y => Ideal.exp (f y - peak s k)]
  simp only [hf, hl]
  rw [attend, share]
  have hn : 0 ≤ ∑ x, Ideal.exp (s x - peak s k) := sum_nonneg _ _ fun x _ => exp_nonneg _
  have hd := hk.sub hp
  refine (scale_sum _ _ _ _ ?_ ?_).symm
  · exact lt_of_lt_of_le (exp_pos hd.ne_bot) (le_add_of_nonneg_left hn)
  · exact ((real_sum _ _ fun x _ => exp_real (hr x)).add (exp_real hd.ne_top)).ne_top

/-- A choice by the bit of a conjunction is a choice by the conjunction. -/
theorem pick (p q : Prop) [Decidable p] [Decidable q] (a b : EReal) :
    Scalar.select (IntOp.andi (BitVec.ofBool (decide p)) (BitVec.ofBool (decide q))) a b = if p ∧ q then a else b := by
  have h : IntOp.andi (BitVec.ofBool (decide p)) (BitVec.ofBool (decide q)) = BitVec.ofBool (decide (p ∧ q)) := by
    by_cases h1 : p <;> by_cases h2 : q <;> simp [h1, h2, IntOp.andi]
  rw [h]
  exact WordCmp.select_decide _ _ _

variable {n0 n1 n2 n3 n4 n5 : ℕ}

/-- The indices that drop to one of five axes are those with its coordinates and any last one. -/
theorem drop_last (h : (⟨6, ![n0, n1, n2, n3, n4, n5]⟩ : Shape).ReducesTo [5] ⟨5, ![n0, n1, n2, n3, n4]⟩)
    (a : Fin n0) (b : Fin n1) (c : Fin n2) (d : Fin n3) (e : Fin n4) (i : (⟨6, ![n0, n1, n2, n3, n4, n5]⟩ : Shape).Idx) :
    h.drop i = ix5 a b c d e ↔ ∃ k : Fin n5, ix6 a b c d e k = i := by
  constructor
  · intro hi
    refine ⟨i 5, funext fun x => Fin.ext ?_⟩
    match x with
    | ⟨0, _⟩ => exact (congrArg Fin.val (congrFun hi 0)).symm
    | ⟨1, _⟩ => exact (congrArg Fin.val (congrFun hi 1)).symm
    | ⟨2, _⟩ => exact (congrArg Fin.val (congrFun hi 2)).symm
    | ⟨3, _⟩ => exact (congrArg Fin.val (congrFun hi 3)).symm
    | ⟨4, _⟩ => exact (congrArg Fin.val (congrFun hi 4)).symm
    | ⟨5, _⟩ => rfl
  · rintro ⟨k, rfl⟩
    refine funext fun x => Fin.ext ?_
    match x with
    | ⟨0, _⟩ => rfl
    | ⟨1, _⟩ => rfl
    | ⟨2, _⟩ => rfl
    | ⟨3, _⟩ => rfl
    | ⟨4, _⟩ => rfl

/-- A sum along the last of six axes. -/
theorem sum_six (h : (⟨6, ![n0, n1, n2, n3, n4, n5]⟩ : Shape).ReducesTo [5] ⟨5, ![n0, n1, n2, n3, n4]⟩)
    (y : (⟨6, ![n0, n1, n2, n3, n4, n5]⟩ : Shape).Idx → EReal) (z : EReal)
    (a : Fin n0) (b : Fin n1) (c : Fin n2) (d : Fin n3) (e : Fin n4) :
    Ideal.hostReduceAdd h y z (ix5 a b c d e) = z + ∑ k, y (ix6 a b c d e k) :=
  congrArg (z + ·) (Finset.sum_filter_eq_sum_of_fiber _ (fun k : Fin n5 => ix6 a b c d e k) (fun _ _ w => congrFun w 5) (drop_last h a b c d e) y)

/-- A largest value along the last of six axes. -/
theorem fold_six (h : (⟨6, ![n0, n1, n2, n3, n4, n5]⟩ : Shape).ReducesTo [5] ⟨5, ![n0, n1, n2, n3, n4]⟩)
    (y : (⟨6, ![n0, n1, n2, n3, n4, n5]⟩ : Shape).Idx → EReal) (z : EReal)
    (a : Fin n0) (b : Fin n1) (c : Fin n2) (d : Fin n3) (e : Fin n4) :
    (Finset.univ.filter (fun i => h.drop i = ix5 a b c d e)).fold max z y = Finset.univ.fold max z fun k => y (ix6 a b c d e k) :=
  Finset.fold_filter_eq_fold_of_fiber max _ (fun k : Fin n5 => ix6 a b c d e k) (fun _ _ w => congrFun w 5) (drop_last h a b c d e) z y

/-- A reduction by the maximum along the last of six axes. -/
theorem reduce_six {u : Shape} (h : (⟨6, ![n0, n1, n2, n3, n4, n5]⟩ : Shape).ReducesTo [5] ⟨5, ![n0, n1, n2, n3, n4]⟩)
    (y : FVec Ideal (⟨6, ![n0, n1, n2, n3, n4, n5]⟩ : Shape) .f32) (z : FVec Ideal u .f32) (hu : 0 < u.numel)
    (a : Fin n0) (b : Fin n1) (c : Fin n2) (d : Fin n3) (e : Fin n4) :
    Host.reduce (FloatOps.maximumf (F := Ideal) (φ := .f32)) y z h hu (ix5 a b c d e)
      = Finset.univ.fold max (z (Shape.Idx.first hu)) fun k => y (ix6 a b c d e k) := by
  rw [Host.reduce_eq_fold]
  exact fold_six h y _ a b c d e

end Cert.Spec

end
end
-- ==== Proof.EvenMask.lean ====
module

public import proofs.«01_k».proof.Proof.Spec

set_option maxRecDepth 16384

@[expose] public section
noncomputable section
open Idealize.ShloMosaic Idealize.ShloMosaic.TcCoe Idealize.SL.Sem

/-! The window mask of the attention, as an order of positions. -/

namespace Cert.Spec

/-- A key is in reach of a query exactly when it is within the 128 rows up to it. -/
theorem near : ∀ (i : Fin 128) (x : Fin 256),
    IntOp.andi
          (IntOp.cmpi CmpIPredicate.sge (IntOp.subi (IntOp.addi (BitVec.ofNat 32 ↑i) 128#32) (BitVec.ofNat 32 ↑x)) 0#32)
          (IntOp.cmpi CmpIPredicate.slt (IntOp.subi (IntOp.addi (BitVec.ofNat 32 ↑i) 128#32) (BitVec.ofNat 32 ↑x))
            128#32) = BitVec.ofBool (decide (i.val < x.val ∧ x.val ≤ i.val + 128)) := by
  decide +kernel

/-- A key is of the batch exactly when it is not before its first row. -/
theorem late : ∀ (n : Fin 64) (x : Fin 256),
      (IntOp.cmpi CmpIPredicate.sge
          (IntOp.addi (IntOp.subi (IntOp.muli (BitVec.ofNat 32 ↑n) 128#32) 128#32) (BitVec.ofNat 32 ↑x)) 0#32)
     = BitVec.ofBool (decide (128 ≤ n.val * 128 + x.val)) := by
  decide +kernel

end Cert.Spec
end
end
-- ==== Proof.EvenRefAtt.lean ====
module

public import proofs.«01_k».proof.Proof.EvenRef
public import proofs.«01_k».proof.Proof.EvenSoft
public import proofs.«01_k».proof.Proof.EvenMask

set_option maxRecDepth 16384

@[expose] public section
noncomputable section

open Idealize.ShloMosaic Idealize.ShloMosaic.TcCoe Idealize.SL.Sem

/-! What the even layer's reference computes for its windowed attention, entry by entry. -/

namespace Cert.RefEvenMixerIdeal.Row
open Cert.RefEvenMixerIdeal Cert.RefEvenMixerIdeal.Read Cert.Spec

variable (x0 : (⟨S32768x1024, .f32⟩ : BufTy).Contents (Elt Ideal)) (x1 : (⟨S1024, .f32⟩ : BufTy).Contents (Elt Ideal))
  (x2 : (⟨S1024x1792, .f32⟩ : BufTy).Contents (Elt Ideal)) (x3 : (⟨S31x512, .f32⟩ : BufTy).Contents (Elt Ideal))
  (x4 x5 x6 : (⟨S512, .f32⟩ : BufTy).Contents (Elt Ideal)) (x7 : (⟨S8, .f32⟩ : BufTy).Contents (Elt Ideal))
  (x8 : (⟨S1024x1024, .f32⟩ : BufTy).Contents (Elt Ideal))

/-- The queries, by block and head. -/
theorem query (b : Fin 4) (n : Fin 64) (i : Fin 128) (h : Fin 2) (g : Fin 4) (d : Fin 64) :
    val_main_v277 x0 x1 x2 (ix6 b n i h g d)
      = zed x0 x1 x2 ⟨b.val * 8192 + (n.val * 128 + i.val), by omega⟩ ⟨1024 + (h.val * 256 + g.val * 64 + d.val), by omega⟩ := by
  unfold val_main_v277 val_main_v272 val_main_v271
  have hi := input x0 x1 x2
  generalize val_main_v14 x0 x1 x2 = y at hi
  pointwise [hi]

/-- The keys, by block and head. -/
theorem keys (b : Fin 4) (n : Fin 64) (i : Fin 128) (h : Fin 2) (d : Fin 64) :
    val_main_v278 x0 x1 x2 (ix5 b n i h d)
      = zed x0 x1 x2 ⟨b.val * 8192 + (n.val * 128 + i.val), by omega⟩ ⟨1536 + (h.val * 64 + d.val), by omega⟩ := by
  unfold val_main_v278 val_main_v274 val_main_v273
  have hi := input x0 x1 x2
  generalize val_main_v14 x0 x1 x2 = y at hi
  pointwise [hi]

/-- The values, by block and head. -/
theorem vals (b : Fin 4) (n : Fin 64) (i : Fin 128) (h : Fin 2) (d : Fin 64) :
    val_main_v279 x0 x1 x2 (ix5 b n i h d)
      = zed x0 x1 x2 ⟨b.val * 8192 + (n.val * 128 + i.val), by omega⟩ ⟨1664 + (h.val * 64 + d.val), by omega⟩ := by
  unfold val_main_v279 val_main_v276 val_main_v275
  have hi := input x0 x1 x2
  generalize val_main_v14 x0 x1 x2 = y at hi
  pointwise [hi]

/-- A column of the window's rows: zero before the first row of the batch. -/
def win (b : Fin 4) (n : Fin 64) (x : Fin 256) (c : Fin 1792) : EReal :=
  if h : 128 ≤ n.val * 128 + x.val then zed x0 x1 x2 ⟨b.val * 8192 + (n.val * 128 + x.val - 128), by omega⟩ c else 0

/-- The two pieces of a window are one run of rows. -/
theorem win_eq (z : EReal) (hz : z = 0) (b : Fin 4) (n : Fin 64) (x : Fin 256) (c : Fin 1792) :
    (if h : x.val < 128 then
      if h' : (1 ≤ n.val ∧ n.val - 1 < 64) ∧ x.val < 128 then
        zed x0 x1 x2 ⟨b.val * 8192 + ((n.val - 1) * 128 + x.val), by omega⟩ c
      else z
    else zed x0 x1 x2 ⟨b.val * 8192 + (n.val * 128 + (x.val - 128)), by omega⟩ c) = win x0 x1 x2 b n x c := by
  rw [win]
  by_cases h : x.val < 128
  · rw [dif_pos h]
    by_cases h' : 1 ≤ n.val
    · rw [dif_pos ⟨⟨h', by omega⟩, h⟩, dif_pos (by omega)]
      exact congrArg (fun n => zed x0 x1 x2 n c) (Fin.ext (by show b.val * 8192 + ((n.val - 1) * 128 + x.val) = b.val * 8192 + (n.val * 128 + x.val - 128); omega))
    · rw [dif_neg (fun q => h' q.1.1), dif_neg (by omega), hz]
  · rw [dif_neg h, dif_pos (by omega)]
    exact congrArg (fun n => zed x0 x1 x2 n c) (Fin.ext (by show b.val * 8192 + (n.val * 128 + (x.val - 128)) = b.val * 8192 + (n.val * 128 + x.val - 128); omega))

/-- The pad value is zero. -/
theorem pad_zero : (FloatOps.sitofp (F := Ideal) FTy.f32 0#32) = (0 : EReal) := by
  show ((((0#32 : BitVec 32).toInt : ℝ)) : EReal) = 0
  simp

/-- The keys a block sees. -/
theorem seen (b : Fin 4) (n : Fin 64) (x : Fin 256) (h : Fin 2) (d : Fin 64) :
    val_main_v282 x0 x1 x2 (ix5 b n x h d) = win x0 x1 x2 b n x ⟨1536 + (h.val * 64 + d.val), by omega⟩ := by
  unfold val_main_v282 val_main_v281 val_main_v280
  have hk := keys x0 x1 x2
  generalize val_main_v278 x0 x1 x2 = y at hk
  pointwise [hk, val_main_call2_v0, val_main_c_10]
  exact win_eq x0 x1 x2 _ pad_zero b n x _

/-- The values a block sees. -/
theorem kept (b : Fin 4) (n : Fin 64) (x : Fin 256) (h : Fin 2) (d : Fin 64) :
    val_main_v285 x0 x1 x2 (ix5 b n x h d) = win x0 x1 x2 b n x ⟨1664 + (h.val * 64 + d.val), by omega⟩ := by
  unfold val_main_v285 val_main_v284 val_main_v283
  have hk := vals x0 x1 x2
  generalize val_main_v279 x0 x1 x2 = y at hk
  pointwise [hk, val_main_call3_v0, val_main_c_11]
  exact win_eq x0 x1 x2 _ pad_zero b n x _

/-- The scaled scores. -/
theorem score (b : Fin 4) (n : Fin 64) (h : Fin 2) (g : Fin 4) (i : Fin 128) (x : Fin 256) :
    val_main_v289 x0 x1 x2 (ix6 b n h g i x)
      = (∑ d : Fin 64, win x0 x1 x2 b n x ⟨1536 + (h.val * 64 + d.val), by omega⟩
          * zed x0 x1 x2 ⟨b.val * 8192 + (n.val * 128 + i.val), by omega⟩ ⟨1024 + (h.val * 256 + g.val * 64 + d.val), by omega⟩)
        * Ideal.ofBits .f32 0x3E000000#32 := by
  unfold val_main_v289 val_main_v288 val_main_v287 val_main_v286
  have hk := seen x0 x1 x2
  have hq := query x0 x1 x2
  generalize val_main_v282 x0 x1 x2 = y at hk
  generalize val_main_v277 x0 x1 x2 = z at hq
  pointwise [hk, hq, val_main_cst_12]

/-- How much a head's slope takes off a score at a distance. -/
def tilt (h : ℕ) (i : Fin 128) (x : Fin 256) : EReal :=
  Ideal.pow (Ideal.ofBits FTy.f32 0x40000000#32)
      (Ideal.div (Ideal.ofBits FTy.f32 0xC1000000#32 * (1 + FloatOps.sitofp (F := Ideal) FTy.f32 (BitVec.ofNat 32 h)))
        (Ideal.ofBits FTy.f32 0x41000000#32))
    * FloatOps.sitofp (F := Ideal) FTy.f32 (IntOp.subi (IntOp.addi (BitVec.ofNat 32 i.val) 128#32) (BitVec.ofNat 32 x.val))

/-- The masked scores. -/
theorem masked (b : Fin 4) (n : Fin 64) (h : Fin 2) (g : Fin 4) (i : Fin 128) (x : Fin 256) :
    val_main_v342 x0 x1 x2 (ix6 b n h g i x)
      = if (i.val < x.val ∧ x.val ≤ i.val + 128) ∧ 128 ≤ n.val * 128 + x.val then
          val_main_v289 x0 x1 x2 (ix6 b n h g i x) - tilt (h.val * 4 + g.val) i x
        else ⊥ := by
  unfold val_main_v342 val_main_v340
  generalize val_main_v289 x0 x1 x2 = y
  pointwise [val_main_call4_v2, val_main_call4_v1, val_main_call4_v0, val_main_cst_23, val_main_v341, val_main_v339, val_main_v338, val_main_v337, val_main_v336, val_main_v335, val_main_v334, val_main_v333, val_main_v332, val_main_v331, val_main_v330, val_main_v329, val_main_v328, val_main_v327, val_main_v326, val_main_v325, val_main_v324, val_main_v323, val_main_v322, val_main_v321, val_main_v320, val_main_v319, val_main_v318, val_main_v317, val_main_v316, val_main_v315, val_main_v314, val_main_v313, val_main_v312, val_main_v311, val_main_v310, val_main_v309, val_main_v308, val_main_v307, val_main_v306, val_main_v305, val_main_v304, val_main_v303, val_main_v302, val_main_v301, val_main_v300, val_main_v299, val_main_v298, val_main_v297, val_main_v296, val_main_v295, val_main_v294, val_main_v293, val_main_v292, val_main_v291, val_main_v290, val_main_cst_19, val_main_cst_20, val_main_cst_21, val_main_cst_22, val_main_c_13, val_main_c_14, val_main_c_15, val_main_c_16, val_main_c_17, val_main_c_18]
  rw [near i x, late n x]
  refine (pick _ _ _ _).trans (if_congr Iff.rfl ?_ ?_)
  · rw [tilt]
  · exact ofBits_negInf

/-- The scores with the sink after them. -/
theorem sunk (b : Fin 4) (n : Fin 64) (h : Fin 2) (g : Fin 4) (i : Fin 128) (x : Fin 257) :
    val_main_v346 x0 x1 x2 x7 (ix6 b n h g i x)
      = if hx : x.val < 256 then val_main_v342 x0 x1 x2 (ix6 b n h g i ⟨x.val, hx⟩) else x7 (ix1 ⟨h.val * 4 + g.val, by omega⟩) := by
  unfold val_main_v346
  generalize val_main_v342 x0 x1 x2 = y
  pointwise [val_main_v345, val_main_v344, val_main_v343]

/-- The reference's maximum is a fold along the last axis. -/
theorem topped (y : FVec Ideal S4x64x2x4x128x257 .f32) (b : Fin 4) (n : Fin 64) (h : Fin 2) (g : Fin 4) (i : Fin 128)
    (hh : S4x64x2x4x128x257.ReducesTo [5] S4x64x2x4x128) (hu : 0 < S_.numel) :
    Host.reduce (FloatOps.maximumf (F := Ideal) (φ := .f32)) y (val_main_cst_24 (F := Ideal)) hh hu (ix5 b n h g i)
      = Finset.univ.fold max (val_main_cst_24 (F := Ideal) (Shape.Idx.first hu)) fun x => y (ix6 b n h g i x) :=
  reduce_six hh y _ hu b n h g i

/-- The largest of the scores and the sink, from negative infinity. -/
theorem largest (b : Fin 4) (n : Fin 64) (h : Fin 2) (g : Fin 4) (i : Fin 128) :
    val_main_v347 x0 x1 x2 x7 (ix5 b n h g i)
      = Finset.univ.fold max (Ideal.ofBits .f32 0xFF800000#32) fun x => val_main_v346 x0 x1 x2 x7 (ix6 b n h g i x) := by
  unfold val_main_v347
  generalize val_main_v346 x0 x1 x2 x7 = y
  rw [topped]
  rfl

/-- The value the maximum starts from. -/
theorem floor (b : Fin 4) (n : Fin 64) (h : Fin 2) (g : Fin 4) (i : Fin 128) :
    val_main_v348 (F := Ideal) (ix5 b n h g i) = Ideal.ofBits .f32 0xFF800000#32 :=
  (val_main_v348_apply (F := Ideal) _).trans rfl

/-- The largest value is taken against that one once more. -/
theorem higher (b : Fin 4) (n : Fin 64) (h : Fin 2) (g : Fin 4) (i : Fin 128) :
    val_main_v349 x0 x1 x2 x7 (ix5 b n h g i)
      = max (val_main_v348 (F := Ideal) (ix5 b n h g i) : EReal) (val_main_v347 x0 x1 x2 x7 (ix5 b n h g i)) :=
  val_main_v349_apply (F := Ideal) x0 x1 x2 x7 (ix5 b n h g i)

/-- The largest of the scores and the sink. -/
theorem highest (b : Fin 4) (n : Fin 64) (h : Fin 2) (g : Fin 4) (i : Fin 128) :
    val_main_v349 x0 x1 x2 x7 (ix5 b n h g i)
      = (max (Ideal.ofBits .f32 0xFF800000#32)
          (Finset.univ.fold max (Ideal.ofBits .f32 0xFF800000#32) fun x => val_main_v346 x0 x1 x2 x7 (ix6 b n h g i x)) : EReal) :=
  (higher x0 x1 x2 x7 b n h g i).trans (congrArg₂ max (floor b n h g i) (largest x0 x1 x2 x7 b n h g i))

/-- A weight before the division. -/
theorem raised (b : Fin 4) (n : Fin 64) (h : Fin 2) (g : Fin 4) (i : Fin 128) (x : Fin 257) :
    val_main_v353 x0 x1 x2 x7 (ix6 b n h g i x)
      = Ideal.exp (val_main_v346 x0 x1 x2 x7 (ix6 b n h g i x) - val_main_v349 x0 x1 x2 x7 (ix5 b n h g i)) := by
  unfold val_main_v353 val_main_v352 val_main_v351 val_main_v350
  generalize val_main_v346 x0 x1 x2 x7 = y
  generalize val_main_v349 x0 x1 x2 x7 = z
  pointwise []

/-- The total of the weights. -/
theorem total (b : Fin 4) (n : Fin 64) (h : Fin 2) (g : Fin 4) (i : Fin 128) :
    val_main_v354 x0 x1 x2 x7 (ix5 b n h g i) = ∑ x, val_main_v353 x0 x1 x2 x7 (ix6 b n h g i x) := by
  unfold val_main_v354
  generalize val_main_v353 x0 x1 x2 x7 = y
  pointwise [val_main_cst_26]
  exact (sum_six _ y _ b n h g i).trans (zero_add _)

/-- The weights of the scores alone. -/
theorem chance (b : Fin 4) (n : Fin 64) (h : Fin 2) (g : Fin 4) (i : Fin 128) (x : Fin 256) :
    val_main_v358 x0 x1 x2 x7 (ix6 b n h g i x)
      = Ideal.div (val_main_v353 x0 x1 x2 x7 (ix6 b n h g i x.castSucc)) (val_main_v354 x0 x1 x2 x7 (ix5 b n h g i)) := by
  unfold val_main_v358 val_main_v357 val_main_v356 val_main_v355
  generalize val_main_v353 x0 x1 x2 x7 = y
  generalize val_main_v354 x0 x1 x2 x7 = z
  pointwise []
  rfl

/-- The weighted values. -/
theorem weighed (b : Fin 4) (n : Fin 64) (h : Fin 2) (g : Fin 4) (i : Fin 128) (d : Fin 64) :
    val_main_v359 x0 x1 x2 x7 (ix6 b n h d g i)
      = ∑ x : Fin 256, win x0 x1 x2 b n x ⟨1664 + (h.val * 64 + d.val), by omega⟩ * val_main_v358 x0 x1 x2 x7 (ix6 b n h g i x) := by
  unfold val_main_v359
  have hk := kept x0 x1 x2
  generalize val_main_v285 x0 x1 x2 = y at hk
  generalize val_main_v358 x0 x1 x2 x7 = z
  pointwise [hk]

/-- The heads' rows beside one another. -/
theorem heads (b : Fin 4) (r : Fin 8192) (c : Fin 512) :
    val_main_v361 x0 x1 x2 x7 (ix3 b r c)
      = val_main_v359 x0 x1 x2 x7 (ix6 b ⟨r.val / 128, by omega⟩ ⟨c.val / 256, by omega⟩ ⟨c.val % 64, by omega⟩ ⟨c.val / 64 % 4, by omega⟩ ⟨r.val % 128, by omega⟩) := by
  unfold val_main_v361 val_main_v360
  generalize val_main_v359 x0 x1 x2 x7 = y
  pointwise []

/-- The convolved rows and the attended ones side by side. -/
theorem joined (b : Fin 4) (r : Fin 8192) (c : Fin 1024) :
    val_main_v362 x0 x1 x2 x3 x4 x5 x6 x7 (ix3 b r c)
      = if h : c.val < 512 then val_main_v270 x0 x1 x2 x3 x4 x5 x6 (ix3 b r ⟨c.val, h⟩) else val_main_v361 x0 x1 x2 x7 (ix3 b r ⟨c.val - 512, by omega⟩) := by
  unfold val_main_v362
  generalize val_main_v270 x0 x1 x2 x3 x4 x5 x6 = y
  generalize val_main_v361 x0 x1 x2 x7 = z
  pointwise []

/-- The result row. -/
theorem out (b : Fin 4) (r : Fin 8192) (j : Fin 1024) :
    val_main_v365 x0 x1 x2 x3 x4 x5 x6 x7 x8 (ix2 ⟨b.val * 8192 + r.val, by omega⟩ j)
      = x0 (ix2 ⟨b.val * 8192 + r.val, by omega⟩ j) + ∑ c, val_main_v362 x0 x1 x2 x3 x4 x5 x6 x7 (ix3 b r c) * x8 (ix2 c j) := by
  unfold val_main_v365 val_main_v364 val_main_v363
  generalize val_main_v362 x0 x1 x2 x3 x4 x5 x6 x7 = y
  have hr := row0 x0
  generalize val_main_v0 x0 = z at hr
  pointwise [hr]

end Cert.RefEvenMixerIdeal.Row

end
end
-- ==== Proof.EvenHead.lean ====
module

public import proofs.«01_k».proof.Proof.EvenRefAtt

set_option maxRecDepth 16384

@[expose] public section
noncomputable section

open Idealize.ShloMosaic Idealize.ShloMosaic.TcCoe Idealize.SL.Sem

/-! A head's row of the even layer's reference with real scores, in the kernel's order of operations. -/

namespace Cert.RefEvenMixerIdeal.Row
open Cert.RefEvenMixerIdeal Cert.RefEvenMixerIdeal.Read Cert.Spec

variable (x0 : (⟨S32768x1024, .f32⟩ : BufTy).Contents (Elt Ideal)) (x1 : (⟨S1024, .f32⟩ : BufTy).Contents (Elt Ideal))
  (x2 : (⟨S1024x1792, .f32⟩ : BufTy).Contents (Elt Ideal)) (x3 : (⟨S31x512, .f32⟩ : BufTy).Contents (Elt Ideal))
  (x4 x5 x6 : (⟨S512, .f32⟩ : BufTy).Contents (Elt Ideal)) (x7 : (⟨S8, .f32⟩ : BufTy).Contents (Elt Ideal))
  (x8 : (⟨S1024x1024, .f32⟩ : BufTy).Contents (Elt Ideal))

/-- The scale of the scores is a real number at least zero. -/
theorem eighth : ∃ e : ℝ, 0 ≤ e ∧ Ideal.ofBits .f32 0x3E000000#32 = (e : EReal) := by
  refine ⟨_, ?_, by simp [Ideal.ofBits, Ideal.ieee]; rfl⟩
  norm_num

/-- The slopes' terms are real. -/
theorem tilt_real (h : ℕ) (i : Fin 128) (x : Fin 256) : IsReal (tilt h i x) := by
  have h2 : IsReal (Ideal.ofBits .f32 0x40000000#32) := ⟨_, by simp [Ideal.ofBits, Ideal.ieee]; rfl⟩
  have h8 : IsReal (Ideal.ofBits .f32 0xC1000000#32) := ⟨_, by simp [Ideal.ofBits, Ideal.ieee]; rfl⟩
  have hd : ∃ e : ℝ, e ≠ 0 ∧ Ideal.ofBits .f32 0x41000000#32 = (e : EReal) := by
    refine ⟨_, ?_, by simp [Ideal.ofBits, Ideal.ieee]; rfl⟩
    norm_num
  have hi (w : BitVec 32) : IsReal (FloatOps.sitofp (F := Ideal) FTy.f32 w) := ⟨((w.toInt : ℝ)), rfl⟩
  rw [tilt]
  refine IsReal.mul ?_ (hi _)
  obtain ⟨d, hd0, hd⟩ := hd
  have hn := h8.mul ((real_coe 1).add (hi (BitVec.ofNat 32 h)))
  obtain ⟨a, ha⟩ := h2
  obtain ⟨n, hn⟩ := hn
  have hn' : Ideal.ofBits .f32 0xC1000000#32 * (1 + FloatOps.sitofp (F := Ideal) FTy.f32 (BitVec.ofNat 32 h)) = (n : EReal) := hn
  rw [hn', ha, hd]
  have hq : Ideal.div (n : EReal) (d : EReal) = ((n * d⁻¹ : ℝ) : EReal) := by
    rw [EReal.coe_mul, EReal.coe_inv]
    exact if_neg (by simpa using hd0)
  rw [hq]
  exact ⟨_, rfl⟩

/-- What a score gets beside its product: the slope's term in the window, negative infinity off it. -/
def bend (n h : ℕ) (i : Fin 128) (x : Fin 256) : EReal :=
  if (i.val < x.val ∧ x.val ≤ i.val + 128) ∧ 128 ≤ n * 128 + x.val then - tilt h i x else ⊥

/-- A head's scores as the kernel forms them. -/
def cand (b : Fin 4) (n : Fin 64) (h : Fin 2) (g : Fin 4) (i : Fin 128) (x : Fin 256) : EReal :=
  (∑ d : Fin 64, (zed x0 x1 x2 ⟨b.val * 8192 + (n.val * 128 + i.val), by omega⟩ ⟨1024 + (h.val * 256 + g.val * 64 + d.val), by omega⟩
      * Ideal.ofBits .f32 0x3E000000#32) * win x0 x1 x2 b n x ⟨1536 + (h.val * 64 + d.val), by omega⟩)
    + bend n.val (h.val * 4 + g.val) i x

/-- The reference's masked scores are those. -/
theorem masked_eq (b : Fin 4) (n : Fin 64) (h : Fin 2) (g : Fin 4) (i : Fin 128) (x : Fin 256) :
    val_main_v342 x0 x1 x2 (ix6 b n h g i x) = cand x0 x1 x2 b n h g i x := by
  obtain ⟨c, hc, hC⟩ := eighth
  rw [masked, cand, bend]
  by_cases hs : (i.val < x.val ∧ x.val ≤ i.val + 128) ∧ 128 ≤ n.val * 128 + x.val
  · rw [if_pos hs, if_pos hs, score, sub_eq_add_neg, hC, sum_mul_real _ _ _ (EReal.coe_nonneg.mpr hc) (EReal.coe_ne_top c)]
    refine congrArg (· + _) (Finset.sum_congr rfl fun d _ => ?_)
    rw [mul_comm (win x0 x1 x2 b n x _), mul_right_comm]
  · rw [if_neg hs, if_neg hs, EReal.add_bot]

/-- The projected rows are real for a real gain and real weights. -/
theorem zed_real (hg : ∀ i, IsReal (x1 i)) (hw : ∀ i, IsReal (x2 i)) (n : Fin 32768) (c : Fin 1792) : IsReal (zed x0 x1 x2 n c) := by
  rw [zed, proj]
  exact real_sum _ _ fun l _ => (rms_real _ _ l (hg (ix1 l))).mul (hw (ix2 l c))

/-- So are the windows' rows. -/
theorem win_real (hg : ∀ i, IsReal (x1 i)) (hw : ∀ i, IsReal (x2 i)) (b : Fin 4) (n : Fin 64) (x : Fin 256) (c : Fin 1792) :
    IsReal (win x0 x1 x2 b n x c) := by
  rw [win]
  by_cases h : 128 ≤ n.val * 128 + x.val
  · rw [dif_pos h]
    exact zed_real x0 x1 x2 hg hw _ c
  · rw [dif_neg h]
    exact real_coe 0

/-- The scores are below positive infinity. -/
theorem cand_ne (hg : ∀ i, IsReal (x1 i)) (hw : ∀ i, IsReal (x2 i)) (b : Fin 4) (n : Fin 64) (h : Fin 2) (g : Fin 4) (i : Fin 128) (x : Fin 256) :
    cand x0 x1 x2 b n h g i x ≠ ⊤ := by
  obtain ⟨c, hc, hC⟩ := eighth
  have hr : IsReal (∑ d : Fin 64, (zed x0 x1 x2 ⟨b.val * 8192 + (n.val * 128 + i.val), by omega⟩ ⟨1024 + (h.val * 256 + g.val * 64 + d.val), by omega⟩
      * Ideal.ofBits .f32 0x3E000000#32) * win x0 x1 x2 b n x ⟨1536 + (h.val * 64 + d.val), by omega⟩) :=
    real_sum _ _ fun d _ => ((zed_real x0 x1 x2 hg hw _ _).mul (hC ▸ real_coe c)).mul (win_real x0 x1 x2 hg hw _ _ _ _)
  rw [cand, bend]
  by_cases hs : (i.val < x.val ∧ x.val ≤ i.val + 128) ∧ 128 ≤ n.val * 128 + x.val
  · rw [if_pos hs]
    obtain ⟨t, ht⟩ := tilt_real (h.val * 4 + g.val) i x
    rw [ht, ← EReal.coe_neg]
    exact (hr.add (real_coe _)).ne_top
  · rw [if_neg hs, EReal.add_bot]
    exact bot_ne_top

/-- A head's row of the reference is the kernel's attention of its scores and values. -/
theorem attended (hg : ∀ i, IsReal (x1 i)) (hw : ∀ i, IsReal (x2 i)) (hk : ∀ i, IsReal (x7 i))
    (b : Fin 4) (n : Fin 64) (h : Fin 2) (g : Fin 4) (i : Fin 128) (d : Fin 64) :
    val_main_v359 x0 x1 x2 x7 (ix6 b n h d g i)
      = attend (cand x0 x1 x2 b n h g i) (fun x => win x0 x1 x2 b n x ⟨1664 + (h.val * 64 + d.val), by omega⟩)
          (x7 (ix1 ⟨h.val * 4 + g.val, by omega⟩)) := by
  rw [weighed]
  refine Eq.trans ?_ (attend_eq _ _ _ (cand_ne x0 x1 x2 hg hw b n h g i) (hk _)
    (fun x => val_main_v346 x0 x1 x2 x7 (ix6 b n h g i x)) (fun x => ?_) ?_)
  · refine Finset.sum_congr rfl fun x _ => ?_
    rw [chance, total]
    simp only [raised, highest]
  · show val_main_v346 x0 x1 x2 x7 (ix6 b n h g i x.castSucc) = _
    rw [sunk, dif_pos (show (x.castSucc : Fin 257).val < 256 from x.isLt)]
    exact masked_eq x0 x1 x2 b n h g i x
  · show val_main_v346 x0 x1 x2 x7 (ix6 b n h g i (Fin.last 256)) = _
    rw [sunk, dif_neg (show ¬ (Fin.last 256).val < 256 by simp)]

end Cert.RefEvenMixerIdeal.Row

end
end
-- ==== Proof.EvenRead.lean ====
module

public import proofs.«01_k».proof.Proof.EvenHead
public import proofs.«01_k».proof.Proof.Buf
public import proofs.«01_k».proof.Proof.Gen.EvenMixerIdeal.Value

set_option maxRecDepth 16384

@[expose] public section
noncomputable section

open Idealize.ShloMosaic Idealize.ShloMosaic.TcCoe Idealize.SL.Sem
open Idealize.ShloMosaic.Pipeline (Dat)

/-! The blocks the even layer's kernel reads at each grid point, and the rows its scratch holds. -/

namespace Cert.EvenMixerIdeal.Row
open Cert.EvenMixerIdeal Cert.EvenMixerIdeal.Gen Cert.Spec
open Cert.RefEvenMixerIdeal.Row (tilt)

variable (m : (ℓ : Loc nD τ sig) → Buf (Elt Ideal) ℓ)

/-- Each window's block index at every grid point. -/
theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![0, 0] ∧ win0_6.index t = ![0, 0]
    ∧ win0_7.index t = ![0, 0] ∧ win0_8.index t = ![0, 0, 0] ∧ win0_9.index t = ![0, 0] ∧ win0_10.index t = ![t.val, 0] :=
  (by decide +kernel : ∀ t : Fin grid0.N, _)

/-- A row of the first block's table is of the batch exactly when it is past the first 128. -/
theorem own : ∀ x : Fin 256, IntOp.cmpi CmpIPredicate.sge (BitVec.ofNat 32 ↑x) 128#32 = BitVec.ofBool (decide (128 ≤ x.val)) := by
  decide +kernel

/-- The host's row of the gain. -/
theorem entry2 (c : Dev nD) (l : Fin 1024) : V m c main_v2 (ix2 0 l) = m ((c : Thread nD τ).loc main_arg1) (ix1 l) := by
  show StableHlo.after (List.flatten [hostOps0, hostOps0_1, hostOps0_2, hostOps0_3, hostOps0_4]) (fun b => m (c, b)) main_v2 (ix2 0 l) = _
  simp only [hostOps0, hostOps0_1, hostOps0_2, hostOps0_3, hostOps0_4, List.flatten_cons, List.flatten_nil, List.append_nil, List.cons_append, List.nil_append]
  entry_read
  pointwise []

/-- The host's row of the taps' bias. -/
theorem entry3 (c : Dev nD) (l : Fin 512) : V m c main_v3 (ix2 0 l) = m ((c : Thread nD τ).loc main_arg4) (ix1 l) := by
  show StableHlo.after (List.flatten [hostOps0, hostOps0_1, hostOps0_2, hostOps0_3, hostOps0_4]) (fun b => m (c, b)) main_v3 (ix2 0 l) = _
  simp only [hostOps0, hostOps0_1, hostOps0_2, hostOps0_3, hostOps0_4, List.flatten_cons, List.flatten_nil, List.append_nil, List.cons_append, List.nil_append]
  entry_read
  pointwise []

/-- The host's row of the norm's gain. -/
theorem entry4 (c : Dev nD) (l : Fin 512) : V m c main_v4 (ix2 0 l) = m ((c : Thread nD τ).loc main_arg5) (ix1 l) := by
  show StableHlo.after (List.flatten [hostOps0, hostOps0_1, hostOps0_2, hostOps0_3, hostOps0_4]) (fun b => m (c, b)) main_v4 (ix2 0 l) = _
  simp only [hostOps0, hostOps0_1, hostOps0_2, hostOps0_3, hostOps0_4, List.flatten_cons, List.flatten_nil, List.append_nil, List.cons_append, List.nil_append]
  entry_read
  pointwise []

/-- The host's row of the norm's offset. -/
theorem entry5 (c : Dev nD) (l : Fin 512) : V m c main_v5 (ix2 0 l) = m ((c : Thread nD τ).loc main_arg6) (ix1 l) := by
  show StableHlo.after (List.flatten [hostOps0, hostOps0_1, hostOps0_2, hostOps0_3, hostOps0_4]) (fun b => m (c, b)) main_v5 (ix2 0 l) = _
  simp only [hostOps0, hostOps0_1, hostOps0_2, hostOps0_3, hostOps0_4, List.flatten_cons, List.flatten_nil, List.append_nil, List.cons_append, List.nil_append]
  entry_read
  pointwise []

/-- The host's sinks, each along a row. -/
theorem entry7 (c : Dev nD) (h : Fin 8) (l : Fin 128) : V m c main_v7 (ix2 h l) = m ((c : Thread nD τ).loc main_arg7) (ix1 h) := by
  show StableHlo.after (List.flatten [hostOps0, hostOps0_1, hostOps0_2, hostOps0_3, hostOps0_4]) (fun b => m (c, b)) main_v7 (ix2 h l) = _
  simp only [hostOps0, hostOps0_1, hostOps0_2, hostOps0_3, hostOps0_4, List.flatten_cons, List.flatten_nil, List.append_nil, List.cons_append, List.nil_append]
  entry_read
  pointwise []

set_option maxHeartbeats 4000000 in
/-- The table of a block that is not a batch's first: a head's slope times the distance, negative infinity out of reach. -/
theorem entry8 (c : Dev nD) (h : Fin 8) (i : Fin 128) (x : Fin 256) :
    V m c main_v46 (ix3 ⟨h.val, by omega⟩ i x) = (if i.val < x.val ∧ x.val ≤ i.val + 128 then -tilt h.val i x else ⊥ : EReal) := by
  show StableHlo.after (List.flatten [hostOps0, hostOps0_1, hostOps0_2, hostOps0_3, hostOps0_4]) (fun b => m (c, b)) main_v46 (ix3 ⟨h.val, by omega⟩ i x) = _
  simp only [hostOps0, hostOps0_1, hostOps0_2, hostOps0_3, hostOps0_4, List.flatten_cons, List.flatten_nil, List.append_nil, List.cons_append, List.nil_append]
  entry_read
  simp -implicitDefEqProofs only [StableHlo.TRef.toBuf, StableHlo.TRef.ofBuf, cast_cast, cast_eq]
  pointwise []
  rw [near, WordCmp.select_decide, EReal.neg_mul, ofBits_negInf]
  rfl

set_option maxHeartbeats 4000000 in
/-- The table of a batch's first block: the same, with the keys before the batch out of reach. -/
theorem entry9 (c : Dev nD) (h : Fin 8) (i : Fin 128) (x : Fin 256) :
    V m c main_v46 (ix3 ⟨8 + h.val, by omega⟩ i x) = (if (i.val < x.val ∧ x.val ≤ i.val + 128) ∧ 128 ≤ x.val then -tilt h.val i x else ⊥ : EReal) := by
  show StableHlo.after (List.flatten [hostOps0, hostOps0_1, hostOps0_2, hostOps0_3, hostOps0_4]) (fun b => m (c, b)) main_v46 (ix3 ⟨8 + h.val, by omega⟩ i x) = _
  simp only [hostOps0, hostOps0_1, hostOps0_2, hostOps0_3, hostOps0_4, List.flatten_cons, List.flatten_nil, List.append_nil, List.cons_append, List.nil_append]
  entry_read
  simp -implicitDefEqProofs only [StableHlo.TRef.toBuf, StableHlo.TRef.ofBuf, cast_cast, cast_eq]
  pointwise []
  rw [near, own, pick, EReal.neg_mul, ofBits_negInf]
  rfl

/-- The grid has 64 points. -/
theorem lt_grid (t : Fin cfg0.N) : t.val < 64 := t.isLt

/-- The rows a point's block covers are rows of the array. -/
theorem lt_row (t : Fin cfg0.N) (r : Fin 512) : t.val * 512 + r.val < 32768 := by
  have := lt_grid t
  omega

/-- A point's first block holds its rows of the input. -/
theorem read0 (c : Dev nD) (t : Fin cfg0.N) (r : Fin 512) (l : Fin 1024) :
    iblk m c 0 t (ix2 r l) = m ((c : Thread nD τ).loc main_arg0) (ix2 ⟨t.val * 512 + r.val, lt_row t r⟩ l) := by
  blk_ext [iblk, V, idx t]

/-- Its second block is the gain. -/
theorem read1 (c : Dev nD) (t : Fin cfg0.N) (l : Fin 1024) :
    iblk m c 1 t (ix2 0 l) = m ((c : Thread nD τ).loc main_arg1) (ix1 l) := by
  refine Eq.trans ?_ (entry2 m c l)
  exact congrArg (V m c main_v2) (by blk_ext [idx t] : (win0_1.blk t).view.emb (ix2 0 l) = ix2 0 l)

/-- Its third block is the input projection. -/
theorem read2 (c : Dev nD) (t : Fin cfg0.N) (d : Fin 1024) (k : Fin 1792) :
    iblk m c 2 t (ix2 d k) = m ((c : Thread nD τ).loc main_arg2) (ix2 d k) := by
  blk_simp [iblk, idx t]
  entry_read
  pointwise []
  blk_ext [iblk, idx t]

/-- Its fourth block is the taps. -/
theorem read3 (c : Dev nD) (t : Fin cfg0.N) (a : Fin 31) (l : Fin 512) :
    iblk m c 3 t (ix2 a l) = m ((c : Thread nD τ).loc main_arg3) (ix2 a l) := by
  blk_ext [iblk, V, idx t]

/-- Its fifth block is the taps' bias. -/
theorem read4 (c : Dev nD) (t : Fin cfg0.N) (l : Fin 512) :
    iblk m c 4 t (ix2 0 l) = m ((c : Thread nD τ).loc main_arg4) (ix1 l) := by
  refine Eq.trans ?_ (entry3 m c l)
  exact congrArg (V m c main_v3) (by blk_ext [idx t] : (win0_4.blk t).view.emb (ix2 0 l) = ix2 0 l)

/-- Its sixth block is the norm's gain. -/
theorem read5 (c : Dev nD) (t : Fin cfg0.N) (l : Fin 512) :
    iblk m c 5 t (ix2 0 l) = m ((c : Thread nD τ).loc main_arg5) (ix1 l) := by
  refine Eq.trans ?_ (entry4 m c l)
  exact congrArg (V m c main_v4) (by blk_ext [idx t] : (win0_5.blk t).view.emb (ix2 0 l) = ix2 0 l)

/-- Its seventh block is the norm's offset. -/
theorem read6 (c : Dev nD) (t : Fin cfg0.N) (l : Fin 512) :
    iblk m c 6 t (ix2 0 l) = m ((c : Thread nD τ).loc main_arg6) (ix1 l) := by
  refine Eq.trans ?_ (entry5 m c l)
  exact congrArg (V m c main_v5) (by blk_ext [idx t] : (win0_6.blk t).view.emb (ix2 0 l) = ix2 0 l)

/-- Its eighth block is the sinks, each along a row. -/
theorem read7 (c : Dev nD) (t : Fin cfg0.N) (h : Fin 8) (l : Fin 128) :
    iblk m c 7 t (ix2 h l) = m ((c : Thread nD τ).loc main_arg7) (ix1 h) := by
  refine Eq.trans ?_ (entry7 m c h l)
  exact congrArg (V m c main_v7) (by blk_ext [idx t] : (win0_7.blk t).view.emb (ix2 h l) = ix2 h l)

/-- Its tenth block is the output projection. -/
theorem read9 (c : Dev nD) (t : Fin cfg0.N) (d j : Fin 1024) :
    iblk m c 9 t (ix2 d j) = m ((c : Thread nD τ).loc main_arg8) (ix2 d j) := by
  blk_simp [iblk, idx t]
  entry_read
  pointwise []
  blk_ext [iblk, idx t]

/-- Its ninth block is the two tables of slopes and masks. -/
theorem read8 (c : Dev nD) (t : Fin cfg0.N) (h : Fin 16) (i : Fin 128) (x : Fin 256) :
    iblk m c 8 t (ix3 h i x) = V m c main_v46 (ix3 h i x) :=
  congrArg (V m c main_v46) (by blk_ext [idx t] : (win0_8.blk t).view.emb (ix3 h i x) = ix3 h i x)

end Cert.EvenMixerIdeal.Row

end
end
-- ==== Proof.EvenScr.lean ====
module

public import proofs.«01_k».proof.Proof.EvenRead

set_option maxRecDepth 16384

@[expose] public section
noncomputable section

open Idealize.ShloMosaic Idealize.ShloMosaic.TcCoe Idealize.SL.Sem
open Idealize.ShloMosaic.Pipeline (Dat)

/-! The rows the even layer's scratch holds, and what its loads read from them. -/

namespace Cert.EvenMixerIdeal.Row
open Cert.EvenMixerIdeal Cert.EvenMixerIdeal.Gen Cert.Spec
open Cert.RefEvenMixerIdeal.Row (tilt)

variable (m : (ℓ : Loc nD τ sig) → Buf (Elt Ideal) ℓ)

/-- A column of row `n` of the whole input, normalised and projected. -/
def zrow (c : Dev nD) (n : Fin 32768) (k : Fin 1792) : EReal :=
  Cert.RefEvenMixerIdeal.Row.zed (m ((c : Thread nD τ).loc main_arg0)) (m ((c : Thread nD τ).loc main_arg1)) (m ((c : Thread nD τ).loc main_arg2)) n k

/-- A point projects its block's rows. -/
theorem zrow_at (c : Dev nD) (t : Fin cfg0.N) (r : Fin 512) (k : Fin 1792) :
    k0_pay7 (iblk m c 0 t) (iblk m c 1 t) (iblk m c 2 t) (ix2 r k) = zrow m c ⟨t.val * 512 + r.val, lt_row t r⟩ k := by
  rw [pay7]
  simp only [read0 m, read1 m, read2 m]
  rfl

/-- The gated row `n` of the whole input. -/
def grow (c : Dev nD) (n : Fin 32768) (k : Fin 512) : EReal :=
  zrow m c n ⟨k.val, by omega⟩ * Ideal.logistic (zrow m c n ⟨512 + k.val, by omega⟩)

/-- A point stores its block's gated rows. -/
theorem grow_at (c : Dev nD) (t : Fin cfg0.N) (r : Fin 512) (k : Fin 512) :
    k0_pay8 (iblk m c 0 t) (iblk m c 1 t) (iblk m c 2 t) (ix2 r k) = grow m c ⟨t.val * 512 + r.val, lt_row t r⟩ k := by
  rw [pay8, zrow_at, zrow_at]
  rfl

/-- The convolution's scratch at a point: the last thirty-two gated rows before its block, then its block's. -/
def cb (c : Dev nD) (t : Fin cfg0.N) (i : Fin 544) (k : Fin 512) : EReal :=
  if h : 32 ≤ t.val % 16 * 512 + i.val then grow m c ⟨t.val * 512 + i.val - 32, by have := lt_grid t; omega⟩ k else 0

/-- Before the batch's first row it is zero. -/
theorem cb_zero (c : Dev nD) (t : Fin cfg0.N) (i : Fin 544) (k : Fin 512) (h : t.val % 16 * 512 + i.val < 32) : cb m c t i k = 0 := by
  rw [cb, dif_neg (by omega)]

/-- From there on it is a gated row. -/
theorem cb_row (c : Dev nD) (t : Fin cfg0.N) (i : Fin 544) (k : Fin 512) (n : Fin 32768) (h : 32 ≤ t.val % 16 * 512 + i.val)
    (hn : n.val + 32 = t.val * 512 + i.val) : grow m c n k = cb m c t i k := by
  rw [cb, dif_pos h]
  have he : n = ⟨t.val * 512 + i.val - 32, by have := lt_grid t; omega⟩ := Fin.ext (by show n.val = t.val * 512 + i.val - 32; omega)
  exact congrArg (fun n => grow m c n k) he

/-- The rows a tap runs over at a point. -/
def tap (c : Dev nD) (t : Fin cfg0.N) (a : Fin 31) (r : Fin 512) (k : Fin 512) : EReal :=
  Cert.RefEvenMixerIdeal.Read.val_main_v24 (m ((c : Thread nD τ).loc main_arg0)) (m ((c : Thread nD τ).loc main_arg1))
    (m ((c : Thread nD τ).loc main_arg2)) (ix3 ⟨t.val / 16, by have := lt_grid t; omega⟩ ⟨a.val + (t.val % 16 * 512 + r.val), by omega⟩ k)

/-- They are the scratch's. -/
theorem cb_tap (c : Dev nD) (t : Fin cfg0.N) (i : Fin 544) (a : Fin 31) (r : Fin 512) (k : Fin 512) (h : i.val = 2 + a.val + r.val) :
    cb m c t i k = tap m c t a r k := by
  rw [tap, Cert.RefEvenMixerIdeal.Row.padded]
  by_cases h0 : 30 ≤ a.val + (t.val % 16 * 512 + r.val)
  · rw [dif_pos h0, Cert.RefEvenMixerIdeal.Row.gate]
    exact (cb_row m c t i k ⟨t.val / 16 * 8192 + (a.val + (t.val % 16 * 512 + r.val) - 30), by have := lt_grid t; omega⟩ (by omega)
      (by show t.val / 16 * 8192 + (a.val + (t.val % 16 * 512 + r.val) - 30) + 32 = _; omega)).symm
  · rw [dif_neg h0]
    exact cb_zero m c t i k (by omega)

/-- A point's last rows are the next point's first. -/
theorem cb_step (c : Dev nD) (t s : Fin cfg0.N) (i : Fin 32) (k : Fin 512) (hs : s.val + 1 = t.val) (h : t.val % 16 ≠ 0) :
    cb m c s ⟨512 + i.val, by omega⟩ k = cb m c t ⟨i.val, by omega⟩ k := by
  rw [cb, dif_pos (by show 32 ≤ s.val % 16 * 512 + (512 + i.val); omega)]
  exact cb_row m c t _ k _ (by show 32 ≤ t.val % 16 * 512 + i.val; omega)
    (by show s.val * 512 + (512 + i.val) - 32 + 32 = t.val * 512 + i.val; omega)

/-- The column of the projection a lane of the keys' and values' scratch is read from. -/
def kcol (j : Fin 1024) : Fin 1792 := ⟨1536 + 128 * (j.val / 512) + 64 * (j.val / 128 % 4 / 2) + j.val % 64, by omega⟩

/-- The keys' and values' scratch at a point: the 128 rows before its block, then its block's, each head's in the low lanes
and again in the high lanes. -/
def kv (c : Dev nD) (t : Fin cfg0.N) (i : Fin 640) (j : Fin 1024) : EReal :=
  if h : 128 ≤ t.val % 16 * 512 + i.val ∧ (j.val % 128 < 64 ∧ j.val / 128 % 2 = 0 ∨ 64 ≤ j.val % 128 ∧ j.val / 128 % 2 = 1) then
    zrow m c ⟨t.val * 512 + i.val - 128, by have := lt_grid t; omega⟩ (kcol j) else 0

/-- Its other lanes are zero, and so are its rows before the batch's first. -/
theorem kv_zero (c : Dev nD) (t : Fin cfg0.N) (i : Fin 640) (j : Fin 1024)
    (h : t.val % 16 * 512 + i.val < 128 ∨ j.val % 128 < 64 ∧ j.val / 128 % 2 = 1 ∨ 64 ≤ j.val % 128 ∧ j.val / 128 % 2 = 0) : kv m c t i j = 0 := by
  rw [kv, dif_neg (by omega)]

/-- The rest is the projected rows. -/
theorem kv_row (c : Dev nD) (t : Fin cfg0.N) (i : Fin 640) (j : Fin 1024) (n : Fin 32768) (k : Fin 1792) (h : 128 ≤ t.val % 16 * 512 + i.val)
    (hn : n.val + 128 = t.val * 512 + i.val) (hk : k.val = 1536 + 128 * (j.val / 512) + 64 * (j.val / 128 % 4 / 2) + j.val % 64)
    (hj : j.val % 128 < 64 ∧ j.val / 128 % 2 = 0 ∨ 64 ≤ j.val % 128 ∧ j.val / 128 % 2 = 1) : zrow m c n k = kv m c t i j := by
  rw [kv, dif_pos ⟨h, hj⟩]
  have he : n = ⟨t.val * 512 + i.val - 128, by have := lt_grid t; omega⟩ := Fin.ext (by show n.val = t.val * 512 + i.val - 128; omega)
  have hc : k = kcol j := Fin.ext hk
  exact congrArg₂ (fun n k => zrow m c n k) he hc

/-- A point's last rows are the next point's first. -/
theorem kv_step (c : Dev nD) (t s : Fin cfg0.N) (i : Fin 128) (j : Fin 1024) (hs : s.val + 1 = t.val) (h : t.val % 16 ≠ 0) :
    kv m c s ⟨512 + i.val, by omega⟩ j = kv m c t ⟨i.val, by omega⟩ j := by
  by_cases hj : j.val % 128 < 64 ∧ j.val / 128 % 2 = 0 ∨ 64 ≤ j.val % 128 ∧ j.val / 128 % 2 = 1
  · rw [kv, dif_pos ⟨by show 128 ≤ s.val % 16 * 512 + (512 + i.val); omega, hj⟩]
    exact kv_row m c t _ j _ _ (by show 128 ≤ t.val % 16 * 512 + i.val; omega)
      (by show s.val * 512 + (512 + i.val) - 128 + 128 = t.val * 512 + i.val; omega) rfl hj
  · rw [kv_zero m c s _ j (by omega), kv_zero m c t _ j (by omega)]

/-- A point's stored lanes 0 to 127. -/
theorem lanes0 (c : Dev nD) (t : Fin cfg0.N) (r : Fin 512) (e : Fin 128) :
    k0_pay13 (k0_pay7 (iblk m c 0 t) (iblk m c 1 t) (iblk m c 2 t)) (iota .tc S512x128 32 [1] iota_S512x128_d1_w32) 64#32 (ix2 r e) = kv m c t ⟨128 + r.val, by omega⟩ ⟨0 + e.val, by omega⟩ := by
  rw [part0]
  by_cases he : e.val < 64
  · rw [if_pos he]
    rw [zrow_at]
    exact kv_row m c t _ _ _ _ (by show 128 ≤ t.val % 16 * 512 + (128 + r.val); omega) (by show t.val * 512 + r.val + 128 = t.val * 512 + (128 + r.val); omega)
      (by show 1536 + e.val = 1536 + 128 * ((0 + e.val) / 512) + 64 * ((0 + e.val) / 128 % 4 / 2) + (0 + e.val) % 64; omega)
      (by show (0 + e.val) % 128 < 64 ∧ (0 + e.val) / 128 % 2 = 0 ∨ 64 ≤ (0 + e.val) % 128 ∧ (0 + e.val) / 128 % 2 = 1; omega)
  · rw [if_neg he]
    exact (kv_zero m c t _ _ (by show _ ∨ (0 + e.val) % 128 < 64 ∧ (0 + e.val) / 128 % 2 = 1 ∨ 64 ≤ (0 + e.val) % 128 ∧ (0 + e.val) / 128 % 2 = 0; omega)).symm

/-- A point's stored lanes 128 to 255. -/
theorem lanes1 (c : Dev nD) (t : Fin cfg0.N) (r : Fin 512) (e : Fin 128) :
    k0_pay14 (k0_pay7 (iblk m c 0 t) (iblk m c 1 t) (iblk m c 2 t)) (iota .tc S512x128 32 [1] iota_S512x128_d1_w32) 64#32 (ix2 r e) = kv m c t ⟨128 + r.val, by omega⟩ ⟨128 + e.val, by omega⟩ := by
  rw [part1]
  by_cases he : e.val < 64
  · rw [if_pos he]
    exact (kv_zero m c t _ _ (by show _ ∨ (128 + e.val) % 128 < 64 ∧ (128 + e.val) / 128 % 2 = 1 ∨ 64 ≤ (128 + e.val) % 128 ∧ (128 + e.val) / 128 % 2 = 0; omega)).symm
  · rw [if_neg he]
    rw [zrow_at]
    exact kv_row m c t _ _ _ _ (by show 128 ≤ t.val % 16 * 512 + (128 + r.val); omega) (by show t.val * 512 + r.val + 128 = t.val * 512 + (128 + r.val); omega)
      (by show 1536 + (e.val + 128 - 64) % 128 = 1536 + 128 * ((128 + e.val) / 512) + 64 * ((128 + e.val) / 128 % 4 / 2) + (128 + e.val) % 64; omega)
      (by show (128 + e.val) % 128 < 64 ∧ (128 + e.val) / 128 % 2 = 0 ∨ 64 ≤ (128 + e.val) % 128 ∧ (128 + e.val) / 128 % 2 = 1; omega)

/-- A point's stored lanes 256 to 383. -/
theorem lanes2 (c : Dev nD) (t : Fin cfg0.N) (r : Fin 512) (e : Fin 128) :
    k0_pay15 (k0_pay7 (iblk m c 0 t) (iblk m c 1 t) (iblk m c 2 t)) (iota .tc S512x128 32 [1] iota_S512x128_d1_w32) 64#32 (ix2 r e) = kv m c t ⟨128 + r.val, by omega⟩ ⟨256 + e.val, by omega⟩ := by
  rw [part2]
  by_cases he : e.val < 64
  · rw [if_pos he]
    rw [zrow_at]
    exact kv_row m c t _ _ _ _ (by show 128 ≤ t.val % 16 * 512 + (128 + r.val); omega) (by show t.val * 512 + r.val + 128 = t.val * 512 + (128 + r.val); omega)
      (by show 1536 + (e.val + 128 - 64) % 128 = 1536 + 128 * ((256 + e.val) / 512) + 64 * ((256 + e.val) / 128 % 4 / 2) + (256 + e.val) % 64; omega)
      (by show (256 + e.val) % 128 < 64 ∧ (256 + e.val) / 128 % 2 = 0 ∨ 64 ≤ (256 + e.val) % 128 ∧ (256 + e.val) / 128 % 2 = 1; omega)
  · rw [if_neg he]
    exact (kv_zero m c t _ _ (by show _ ∨ (256 + e.val) % 128 < 64 ∧ (256 + e.val) / 128 % 2 = 1 ∨ 64 ≤ (256 + e.val) % 128 ∧ (256 + e.val) / 128 % 2 = 0; omega)).symm

/-- A point's stored lanes 384 to 511. -/
theorem lanes3 (c : Dev nD) (t : Fin cfg0.N) (r : Fin 512) (e : Fin 128) :
    k0_pay16 (k0_pay7 (iblk m c 0 t) (iblk m c 1 t) (iblk m c 2 t)) (iota .tc S512x128 32 [1] iota_S512x128_d1_w32) 64#32 (ix2 r e) = kv m c t ⟨128 + r.val, by omega⟩ ⟨384 + e.val, by omega⟩ := by
  rw [part3]
  by_cases he : e.val < 64
  · rw [if_pos he]
    exact (kv_zero m c t _ _ (by show _ ∨ (384 + e.val) % 128 < 64 ∧ (384 + e.val) / 128 % 2 = 1 ∨ 64 ≤ (384 + e.val) % 128 ∧ (384 + e.val) / 128 % 2 = 0; omega)).symm
  · rw [if_neg he]
    rw [zrow_at]
    exact kv_row m c t _ _ _ _ (by show 128 ≤ t.val % 16 * 512 + (128 + r.val); omega) (by show t.val * 512 + r.val + 128 = t.val * 512 + (128 + r.val); omega)
      (by show 1536 + e.val = 1536 + 128 * ((384 + e.val) / 512) + 64 * ((384 + e.val) / 128 % 4 / 2) + (384 + e.val) % 64; omega)
      (by show (384 + e.val) % 128 < 64 ∧ (384 + e.val) / 128 % 2 = 0 ∨ 64 ≤ (384 + e.val) % 128 ∧ (384 + e.val) / 128 % 2 = 1; omega)

/-- A point's stored lanes 512 to 639. -/
theorem lanes4 (c : Dev nD) (t : Fin cfg0.N) (r : Fin 512) (e : Fin 128) :
    k0_pay23 (k0_pay19 (k0_pay7 (iblk m c 0 t) (iblk m c 1 t) (iblk m c 2 t)) (iota .tc S512x128 32 [1] iota_S512x128_d1_w32) 64#32) (ix2 r e) = kv m c t ⟨128 + r.val, by omega⟩ ⟨512 + e.val, by omega⟩ := by
  rw [part4]
  by_cases he : e.val < 64
  · rw [if_pos he]
    rw [zrow_at]
    exact kv_row m c t _ _ _ _ (by show 128 ≤ t.val % 16 * 512 + (128 + r.val); omega) (by show t.val * 512 + r.val + 128 = t.val * 512 + (128 + r.val); omega)
      (by show 1664 + e.val = 1536 + 128 * ((512 + e.val) / 512) + 64 * ((512 + e.val) / 128 % 4 / 2) + (512 + e.val) % 64; omega)
      (by show (512 + e.val) % 128 < 64 ∧ (512 + e.val) / 128 % 2 = 0 ∨ 64 ≤ (512 + e.val) % 128 ∧ (512 + e.val) / 128 % 2 = 1; omega)
  · rw [if_neg he]
    exact (kv_zero m c t _ _ (by show _ ∨ (512 + e.val) % 128 < 64 ∧ (512 + e.val) / 128 % 2 = 1 ∨ 64 ≤ (512 + e.val) % 128 ∧ (512 + e.val) / 128 % 2 = 0; omega)).symm

/-- A point's stored lanes 640 to 767. -/
theorem lanes5 (c : Dev nD) (t : Fin cfg0.N) (r : Fin 512) (e : Fin 128) :
    k0_pay24 (k0_pay20 (k0_pay7 (iblk m c 0 t) (iblk m c 1 t) (iblk m c 2 t)) (iota .tc S512x128 32 [1] iota_S512x128_d1_w32) 64#32) (ix2 r e) = kv m c t ⟨128 + r.val, by omega⟩ ⟨640 + e.val, by omega⟩ := by
  rw [part5]
  by_cases he : e.val < 64
  · rw [if_pos he]
    exact (kv_zero m c t _ _ (by show _ ∨ (640 + e.val) % 128 < 64 ∧ (640 + e.val) / 128 % 2 = 1 ∨ 64 ≤ (640 + e.val) % 128 ∧ (640 + e.val) / 128 % 2 = 0; omega)).symm
  · rw [if_neg he]
    rw [zrow_at]
    exact kv_row m c t _ _ _ _ (by show 128 ≤ t.val % 16 * 512 + (128 + r.val); omega) (by show t.val * 512 + r.val + 128 = t.val * 512 + (128 + r.val); omega)
      (by show 1664 + (e.val + 128 - 64) % 128 = 1536 + 128 * ((640 + e.val) / 512) + 64 * ((640 + e.val) / 128 % 4 / 2) + (640 + e.val) % 64; omega)
      (by show (640 + e.val) % 128 < 64 ∧ (640 + e.val) / 128 % 2 = 0 ∨ 64 ≤ (640 + e.val) % 128 ∧ (640 + e.val) / 128 % 2 = 1; omega)

/-- A point's stored lanes 768 to 895. -/
theorem lanes6 (c : Dev nD) (t : Fin cfg0.N) (r : Fin 512) (e : Fin 128) :
    k0_pay25 (k0_pay21 (k0_pay7 (iblk m c 0 t) (iblk m c 1 t) (iblk m c 2 t)) (iota .tc S512x128 32 [1] iota_S512x128_d1_w32) 64#32) (ix2 r e) = kv m c t ⟨128 + r.val, by omega⟩ ⟨768 + e.val, by omega⟩ := by
  rw [part6]
  by_cases he : e.val < 64
  · rw [if_pos he]
    rw [zrow_at]
    exact kv_row m c t _ _ _ _ (by show 128 ≤ t.val % 16 * 512 + (128 + r.val); omega) (by show t.val * 512 + r.val + 128 = t.val * 512 + (128 + r.val); omega)
      (by show 1664 + (e.val + 128 - 64) % 128 = 1536 + 128 * ((768 + e.val) / 512) + 64 * ((768 + e.val) / 128 % 4 / 2) + (768 + e.val) % 64; omega)
      (by show (768 + e.val) % 128 < 64 ∧ (768 + e.val) / 128 % 2 = 0 ∨ 64 ≤ (768 + e.val) % 128 ∧ (768 + e.val) / 128 % 2 = 1; omega)
  · rw [if_neg he]
    exact (kv_zero m c t _ _ (by show _ ∨ (768 + e.val) % 128 < 64 ∧ (768 + e.val) / 128 % 2 = 1 ∨ 64 ≤ (768 + e.val) % 128 ∧ (768 + e.val) / 128 % 2 = 0; omega)).symm

/-- A point's stored lanes 896 to 1023. -/
theorem lanes7 (c : Dev nD) (t : Fin cfg0.N) (r : Fin 512) (e : Fin 128) :
    k0_pay26 (k0_pay22 (k0_pay7 (iblk m c 0 t) (iblk m c 1 t) (iblk m c 2 t)) (iota .tc S512x128 32 [1] iota_S512x128_d1_w32) 64#32) (ix2 r e) = kv m c t ⟨128 + r.val, by omega⟩ ⟨896 + e.val, by omega⟩ := by
  rw [part7]
  by_cases he : e.val < 64
  · rw [if_pos he]
    exact (kv_zero m c t _ _ (by show _ ∨ (896 + e.val) % 128 < 64 ∧ (896 + e.val) / 128 % 2 = 1 ∨ 64 ≤ (896 + e.val) % 128 ∧ (896 + e.val) / 128 % 2 = 0; omega)).symm
  · rw [if_neg he]
    rw [zrow_at]
    exact kv_row m c t _ _ _ _ (by show 128 ≤ t.val % 16 * 512 + (128 + r.val); omega) (by show t.val * 512 + r.val + 128 = t.val * 512 + (128 + r.val); omega)
      (by show 1664 + e.val = 1536 + 128 * ((896 + e.val) / 512) + 64 * ((896 + e.val) / 128 % 4 / 2) + (896 + e.val) % 64; omega)
      (by show (896 + e.val) % 128 < 64 ∧ (896 + e.val) / 128 % 2 = 0 ∨ 64 ≤ (896 + e.val) % 128 ∧ (896 + e.val) / 128 % 2 = 1; omega)

/-- The keys' and values' rows of a point's own block after its stores. -/
theorem kv_hit (c : Dev nD) (t : Fin cfg0.N) (L : List (View.Piece (Elt Ideal) S640x1024 .bf16)) (i : Fin 640) (j : Fin 1024) (hi : 128 ≤ i.val) :
    View.canon ((⟨Rect.unit (s := S640x1024) ![128, 896] S512x128.size inb_S640x1024_S512x128_128_896, k0_pay26 (k0_pay22 (k0_pay7 (iblk m c 0 t) (iblk m c 1 t) (iblk m c 2 t)) (iota .tc S512x128 32 [1] iota_S512x128_d1_w32) 64#32)⟩ : View.Piece (Elt Ideal) S640x1024 .bf16) :: (⟨Rect.unit (s := S640x1024) ![128, 768] S512x128.size inb_S640x1024_S512x128_128_768, k0_pay25 (k0_pay21 (k0_pay7 (iblk m c 0 t) (iblk m c 1 t) (iblk m c 2 t)) (iota .tc S512x128 32 [1] iota_S512x128_d1_w32) 64#32)⟩ : View.Piece (Elt Ideal) S640x1024 .bf16) :: (⟨Rect.unit (s := S640x1024) ![128, 640] S512x128.size inb_S640x1024_S512x128_128_640, k0_pay24 (k0_pay20 (k0_pay7 (iblk m c 0 t) (iblk m c 1 t) (iblk m c 2 t)) (iota .tc S512x128 32 [1] iota_S512x128_d1_w32) 64#32)⟩ : View.Piece (Elt Ideal) S640x1024 .bf16) :: (⟨Rect.unit (s := S640x1024) ![128, 512] S512x128.size inb_S640x1024_S512x128_128_512, k0_pay23 (k0_pay19 (k0_pay7 (iblk m c 0 t) (iblk m c 1 t) (iblk m c 2 t)) (iota .tc S512x128 32 [1] iota_S512x128_d1_w32) 64#32)⟩ : View.Piece (Elt Ideal) S640x1024 .bf16) :: (⟨Rect.unit (s := S640x1024) ![128, 384] S512x128.size inb_S640x1024_S512x128_128_384, k0_pay16 (k0_pay7 (iblk m c 0 t) (iblk m c 1 t) (iblk m c 2 t)) (iota .tc S512x128 32 [1] iota_S512x128_d1_w32) 64#32⟩ : View.Piece (Elt Ideal) S640x1024 .bf16) :: (⟨Rect.unit (s := S640x1024) ![128, 256] S512x128.size inb_S640x1024_S512x128_128_256, k0_pay15 (k0_pay7 (iblk m c 0 t) (iblk m c 1 t) (iblk m c 2 t)) (iota .tc S512x128 32 [1] iota_S512x128_d1_w32) 64#32⟩ : View.Piece (Elt Ideal) S640x1024 .bf16) :: (⟨Rect.unit (s := S640x1024) ![128, 128] S512x128.size inb_S640x1024_S512x128_128_128, k0_pay14 (k0_pay7 (iblk m c 0 t) (iblk m c 1 t) (iblk m c 2 t)) (iota .tc S512x128 32 [1] iota_S512x128_d1_w32) 64#32⟩ : View.Piece (Elt Ideal) S640x1024 .bf16) :: (⟨Rect.unit (s := S640x1024) ![128, 0] S512x128.size inb_S640x1024_S512x128_128_0, k0_pay13 (k0_pay7 (iblk m c 0 t) (iblk m c 1 t) (iblk m c 2 t)) (iota .tc S512x128 32 [1] iota_S512x128_d1_w32) 64#32⟩ : View.Piece (Elt Ideal) S640x1024 .bf16) :: L) (ix2 i j) = kv m c t i j := by
  obtain h | h | h | h | h | h | h | h : j.val / 128 = 0 ∨ j.val / 128 = 1 ∨ j.val / 128 = 2 ∨ j.val / 128 = 3 ∨ j.val / 128 = 4 ∨ j.val / 128 = 5 ∨ j.val / 128 = 6 ∨ j.val / 128 = 7 := by omega
  · have h0 : 0 ≤ j.val ∧ j.val < 128 := by omega
    refine (Cert.Buf.canon_miss _ _ _ _ _ (by show i.val < 128 ∨ 128 + 512 ≤ i.val ∨ j.val < 896 ∨ 896 + 128 ≤ j.val; omega)).trans ?_
    refine (Cert.Buf.canon_miss _ _ _ _ _ (by show i.val < 128 ∨ 128 + 512 ≤ i.val ∨ j.val < 768 ∨ 768 + 128 ≤ j.val; omega)).trans ?_
    refine (Cert.Buf.canon_miss _ _ _ _ _ (by show i.val < 128 ∨ 128 + 512 ≤ i.val ∨ j.val < 640 ∨ 640 + 128 ≤ j.val; omega)).trans ?_
    refine (Cert.Buf.canon_miss _ _ _ _ _ (by show i.val < 128 ∨ 128 + 512 ≤ i.val ∨ j.val < 512 ∨ 512 + 128 ≤ j.val; omega)).trans ?_
    refine (Cert.Buf.canon_miss _ _ _ _ _ (by show i.val < 128 ∨ 128 + 512 ≤ i.val ∨ j.val < 384 ∨ 384 + 128 ≤ j.val; omega)).trans ?_
    refine (Cert.Buf.canon_miss _ _ _ _ _ (by show i.val < 128 ∨ 128 + 512 ≤ i.val ∨ j.val < 256 ∨ 256 + 128 ≤ j.val; omega)).trans ?_
    refine (Cert.Buf.canon_miss _ _ _ _ _ (by show i.val < 128 ∨ 128 + 512 ≤ i.val ∨ j.val < 128 ∨ 128 + 128 ≤ j.val; omega)).trans ?_
    refine (Cert.Buf.canon_hit _ _ _ _ _ ⟨i.val - 128, by omega⟩ ⟨j.val - 0, by omega⟩ (by show i.val = 128 + (i.val - 128); omega) (by show j.val = 0 + (j.val - 0); omega)).trans ?_
    refine (lanes0 m c t _ _).trans ?_
    exact congrArg₂ (kv m c t) (Fin.ext (by show 128 + (i.val - 128) = i.val; omega)) (Fin.ext (by show 0 + (j.val - 0) = j.val; omega))
  · have h0 : 128 ≤ j.val ∧ j.val < 256 := by omega
    refine (Cert.Buf.canon_miss _ _ _ _ _ (by show i.val < 128 ∨ 128 + 512 ≤ i.val ∨ j.val < 896 ∨ 896 + 128 ≤ j.val; omega)).trans ?_
    refine (Cert.Buf.canon_miss _ _ _ _ _ (by show i.val < 128 ∨ 128 + 512 ≤ i.val ∨ j.val < 768 ∨ 768 + 128 ≤ j.val; omega)).trans ?_
    refine (Cert.Buf.canon_miss _ _ _ _ _ (by show i.val < 128 ∨ 128 + 512 ≤ i.val ∨ j.val < 640 ∨ 640 + 128 ≤ j.val; omega)).trans ?_
    refine (Cert.Buf.canon_miss _ _ _ _ _ (by show i.val < 128 ∨ 128 + 512 ≤ i.val ∨ j.val < 512 ∨ 512 + 128 ≤ j.val; omega)).trans ?_
    refine (Cert.Buf.canon_miss _ _ _ _ _ (by show i.val < 128 ∨ 128 + 512 ≤ i.val ∨ j.val < 384 ∨ 384 + 128 ≤ j.val; omega)).trans ?_
    refine (Cert.Buf.canon_miss _ _ _ _ _ (by show i.val < 128 ∨ 128 + 512 ≤ i.val ∨ j.val < 256 ∨ 256 + 128 ≤ j.val; omega)).trans ?_
    refine (Cert.Buf.canon_hit _ _ _ _ _ ⟨i.val - 128, by omega⟩ ⟨j.val - 128, by omega⟩ (by show i.val = 128 + (i.val - 128); omega) (by show j.val = 128 + (j.val - 128); omega)).trans ?_
    refine (lanes1 m c t _ _).trans ?_
    exact congrArg₂ (kv m c t) (Fin.ext (by show 128 + (i.val - 128) = i.val; omega)) (Fin.ext (by show 128 + (j.val - 128) = j.val; omega))
  · have h0 : 256 ≤ j.val ∧ j.val < 384 := by omega
    refine (Cert.Buf.canon_miss _ _ _ _ _ (by show i.val < 128 ∨ 128 + 512 ≤ i.val ∨ j.val < 896 ∨ 896 + 128 ≤ j.val; omega)).trans ?_
    refine (Cert.Buf.canon_miss _ _ _ _ _ (by show i.val < 128 ∨ 128 + 512 ≤ i.val ∨ j.val < 768 ∨ 768 + 128 ≤ j.val; omega)).trans ?_
    refine (Cert.Buf.canon_miss _ _ _ _ _ (by show i.val < 128 ∨ 128 + 512 ≤ i.val ∨ j.val < 640 ∨ 640 + 128 ≤ j.val; omega)).trans ?_
    refine (Cert.Buf.canon_miss _ _ _ _ _ (by show i.val < 128 ∨ 128 + 512 ≤ i.val ∨ j.val < 512 ∨ 512 + 128 ≤ j.val; omega)).trans ?_
    refine (Cert.Buf.canon_miss _ _ _ _ _ (by show i.val < 128 ∨ 128 + 512 ≤ i.val ∨ j.val < 384 ∨ 384 + 128 ≤ j.val; omega)).trans ?_
    refine (Cert.Buf.canon_hit _ _ _ _ _ ⟨i.val - 128, by omega⟩ ⟨j.val - 256, by omega⟩ (by show i.val = 128 + (i.val - 128); omega) (by show j.val = 256 + (j.val - 256); omega)).trans ?_
    refine (lanes2 m c t _ _).trans ?_
    exact congrArg₂ (kv m c t) (Fin.ext (by show 128 + (i.val - 128) = i.val; omega)) (Fin.ext (by show 256 + (j.val - 256) = j.val; omega))
  · have h0 : 384 ≤ j.val ∧ j.val < 512 := by omega
    refine (Cert.Buf.canon_miss _ _ _ _ _ (by show i.val < 128 ∨ 128 + 512 ≤ i.val ∨ j.val < 896 ∨ 896 + 128 ≤ j.val; omega)).trans ?_
    refine (Cert.Buf.canon_miss _ _ _ _ _ (by show i.val < 128 ∨ 128 + 512 ≤ i.val ∨ j.val < 768 ∨ 768 + 128 ≤ j.val; omega)).trans ?_
    refine (Cert.Buf.canon_miss _ _ _ _ _ (by show i.val < 128 ∨ 128 + 512 ≤ i.val ∨ j.val < 640 ∨ 640 + 128 ≤ j.val; omega)).trans ?_
    refine (Cert.Buf.canon_miss _ _ _ _ _ (by show i.val < 128 ∨ 128 + 512 ≤ i.val ∨ j.val < 512 ∨ 512 + 128 ≤ j.val; omega)).trans ?_
    refine (Cert.Buf.canon_hit _ _ _ _ _ ⟨i.val - 128, by omega⟩ ⟨j.val - 384, by omega⟩ (by show i.val = 128 + (i.val - 128); omega) (by show j.val = 384 + (j.val - 384); omega)).trans ?_
    refine (lanes3 m c t _ _).trans ?_
    exact congrArg₂ (kv m c t) (Fin.ext (by show 128 + (i.val - 128) = i.val; omega)) (Fin.ext (by show 384 + (j.val - 384) = j.val; omega))
  · have h0 : 512 ≤ j.val ∧ j.val < 640 := by omega
    refine (Cert.Buf.canon_miss _ _ _ _ _ (by show i.val < 128 ∨ 128 + 512 ≤ i.val ∨ j.val < 896 ∨ 896 + 128 ≤ j.val; omega)).trans ?_
    refine (Cert.Buf.canon_miss _ _ _ _ _ (by show i.val < 128 ∨ 128 + 512 ≤ i.val ∨ j.val < 768 ∨ 768 + 128 ≤ j.val; omega)).trans ?_
    refine (Cert.Buf.canon_miss _ _ _ _ _ (by show i.val < 128 ∨ 128 + 512 ≤ i.val ∨ j.val < 640 ∨ 640 + 128 ≤ j.val; omega)).trans ?_
    refine (Cert.Buf.canon_hit _ _ _ _ _ ⟨i.val - 128, by omega⟩ ⟨j.val - 512, by omega⟩ (by show i.val = 128 + (i.val - 128); omega) (by show j.val = 512 + (j.val - 512); omega)).trans ?_
    refine (lanes4 m c t _ _).trans ?_
    exact congrArg₂ (kv m c t) (Fin.ext (by show 128 + (i.val - 128) = i.val; omega)) (Fin.ext (by show 512 + (j.val - 512) = j.val; omega))
  · have h0 : 640 ≤ j.val ∧ j.val < 768 := by omega
    refine (Cert.Buf.canon_miss _ _ _ _ _ (by show i.val < 128 ∨ 128 + 512 ≤ i.val ∨ j.val < 896 ∨ 896 + 128 ≤ j.val; omega)).trans ?_
    refine (Cert.Buf.canon_miss _ _ _ _ _ (by show i.val < 128 ∨ 128 + 512 ≤ i.val ∨ j.val < 768 ∨ 768 + 128 ≤ j.val; omega)).trans ?_
    refine (Cert.Buf.canon_hit _ _ _ _ _ ⟨i.val - 128, by omega⟩ ⟨j.val - 640, by omega⟩ (by show i.val = 128 + (i.val - 128); omega) (by show j.val = 640 + (j.val - 640); omega)).trans ?_
    refine (lanes5 m c t _ _).trans ?_
    exact congrArg₂ (kv m c t) (Fin.ext (by show 128 + (i.val - 128) = i.val; omega)) (Fin.ext (by show 640 + (j.val - 640) = j.val; omega))
  · have h0 : 768 ≤ j.val ∧ j.val < 896 := by omega
    refine (Cert.Buf.canon_miss _ _ _ _ _ (by show i.val < 128 ∨ 128 + 512 ≤ i.val ∨ j.val < 896 ∨ 896 + 128 ≤ j.val; omega)).trans ?_
    refine (Cert.Buf.canon_hit _ _ _ _ _ ⟨i.val - 128, by omega⟩ ⟨j.val - 768, by omega⟩ (by show i.val = 128 + (i.val - 128); omega) (by show j.val = 768 + (j.val - 768); omega)).trans ?_
    refine (lanes6 m c t _ _).trans ?_
    exact congrArg₂ (kv m c t) (Fin.ext (by show 128 + (i.val - 128) = i.val; omega)) (Fin.ext (by show 768 + (j.val - 768) = j.val; omega))
  · have h0 : 896 ≤ j.val ∧ j.val < 1024 := by omega
    refine (Cert.Buf.canon_hit _ _ _ _ _ ⟨i.val - 128, by omega⟩ ⟨j.val - 896, by omega⟩ (by show i.val = 128 + (i.val - 128); omega) (by show j.val = 896 + (j.val - 896); omega)).trans ?_
    refine (lanes7 m c t _ _).trans ?_
    exact congrArg₂ (kv m c t) (Fin.ext (by show 128 + (i.val - 128) = i.val; omega)) (Fin.ext (by show 896 + (j.val - 896) = j.val; omega))

/-- Of the stores over some contents, too. -/
theorem kv_read_hit (c : Dev nD) (t : Fin cfg0.N) (f : (View.whole (sig := sig) cc0_scratch1).ty.Contents (Elt Ideal)) (i : Fin 640) (j : Fin 1024) (hi : 128 ≤ i.val) :
    (View.whole cc0_scratch1).read (Elt Ideal) ((View.whole cc0_scratch1).writes (Elt Ideal) f ((⟨Rect.unit (s := S640x1024) ![128, 896] S512x128.size inb_S640x1024_S512x128_128_896, k0_pay26 (k0_pay22 (k0_pay7 (iblk m c 0 t) (iblk m c 1 t) (iblk m c 2 t)) (iota .tc S512x128 32 [1] iota_S512x128_d1_w32) 64#32)⟩ : View.Piece (Elt Ideal) S640x1024 .bf16) :: (⟨Rect.unit (s := S640x1024) ![128, 768] S512x128.size inb_S640x1024_S512x128_128_768, k0_pay25 (k0_pay21 (k0_pay7 (iblk m c 0 t) (iblk m c 1 t) (iblk m c 2 t)) (iota .tc S512x128 32 [1] iota_S512x128_d1_w32) 64#32)⟩ : View.Piece (Elt Ideal) S640x1024 .bf16) :: (⟨Rect.unit (s := S640x1024) ![128, 640] S512x128.size inb_S640x1024_S512x128_128_640, k0_pay24 (k0_pay20 (k0_pay7 (iblk m c 0 t) (iblk m c 1 t) (iblk m c 2 t)) (iota .tc S512x128 32 [1] iota_S512x128_d1_w32) 64#32)⟩ : View.Piece (Elt Ideal) S640x1024 .bf16) :: (⟨Rect.unit (s := S640x1024) ![128, 512] S512x128.size inb_S640x1024_S512x128_128_512, k0_pay23 (k0_pay19 (k0_pay7 (iblk m c 0 t) (iblk m c 1 t) (iblk m c 2 t)) (iota .tc S512x128 32 [1] iota_S512x128_d1_w32) 64#32)⟩ : View.Piece (Elt Ideal) S640x1024 .bf16) :: (⟨Rect.unit (s := S640x1024) ![128, 384] S512x128.size inb_S640x1024_S512x128_128_384, k0_pay16 (k0_pay7 (iblk m c 0 t) (iblk m c 1 t) (iblk m c 2 t)) (iota .tc S512x128 32 [1] iota_S512x128_d1_w32) 64#32⟩ : View.Piece (Elt Ideal) S640x1024 .bf16) :: (⟨Rect.unit (s := S640x1024) ![128, 256] S512x128.size inb_S640x1024_S512x128_128_256, k0_pay15 (k0_pay7 (iblk m c 0 t) (iblk m c 1 t) (iblk m c 2 t)) (iota .tc S512x128 32 [1] iota_S512x128_d1_w32) 64#32⟩ : View.Piece (Elt Ideal) S640x1024 .bf16) :: (⟨Rect.unit (s := S640x1024) ![128, 128] S512x128.size inb_S640x1024_S512x128_128_128, k0_pay14 (k0_pay7 (iblk m c 0 t) (iblk m c 1 t) (iblk m c 2 t)) (iota .tc S512x128 32 [1] iota_S512x128_d1_w32) 64#32⟩ : View.Piece (Elt Ideal) S640x1024 .bf16) :: (⟨Rect.unit (s := S640x1024) ![128, 0] S512x128.size inb_S640x1024_S512x128_128_0, k0_pay13 (k0_pay7 (iblk m c 0 t) (iblk m c 1 t) (iblk m c 2 t)) (iota .tc S512x128 32 [1] iota_S512x128_d1_w32) 64#32⟩ : View.Piece (Elt Ideal) S640x1024 .bf16) :: [])) (ix2 i j) = kv m c t i j := by
  obtain h | h | h | h | h | h | h | h : j.val / 128 = 0 ∨ j.val / 128 = 1 ∨ j.val / 128 = 2 ∨ j.val / 128 = 3 ∨ j.val / 128 = 4 ∨ j.val / 128 = 5 ∨ j.val / 128 = 6 ∨ j.val / 128 = 7 := by omega
  · have h0 : 0 ≤ j.val ∧ j.val < 128 := by omega
    refine (Cert.Buf.read_miss _ _ _ _ _ _ _ (by show i.val < 128 ∨ 128 + 512 ≤ i.val ∨ j.val < 896 ∨ 896 + 128 ≤ j.val; omega)).trans ?_
    refine (Cert.Buf.read_miss _ _ _ _ _ _ _ (by show i.val < 128 ∨ 128 + 512 ≤ i.val ∨ j.val < 768 ∨ 768 + 128 ≤ j.val; omega)).trans ?_
    refine (Cert.Buf.read_miss _ _ _ _ _ _ _ (by show i.val < 128 ∨ 128 + 512 ≤ i.val ∨ j.val < 640 ∨ 640 + 128 ≤ j.val; omega)).trans ?_
    refine (Cert.Buf.read_miss _ _ _ _ _ _ _ (by show i.val < 128 ∨ 128 + 512 ≤ i.val ∨ j.val < 512 ∨ 512 + 128 ≤ j.val; omega)).trans ?_
    refine (Cert.Buf.read_miss _ _ _ _ _ _ _ (by show i.val < 128 ∨ 128 + 512 ≤ i.val ∨ j.val < 384 ∨ 384 + 128 ≤ j.val; omega)).trans ?_
    refine (Cert.Buf.read_miss _ _ _ _ _ _ _ (by show i.val < 128 ∨ 128 + 512 ≤ i.val ∨ j.val < 256 ∨ 256 + 128 ≤ j.val; omega)).trans ?_
    refine (Cert.Buf.read_miss _ _ _ _ _ _ _ (by show i.val < 128 ∨ 128 + 512 ≤ i.val ∨ j.val < 128 ∨ 128 + 128 ≤ j.val; omega)).trans ?_
    refine (Cert.Buf.read_hit _ _ _ _ _ _ _ ⟨i.val - 128, by omega⟩ ⟨j.val - 0, by omega⟩ (by show i.val = 128 + (i.val - 128); omega) (by show j.val = 0 + (j.val - 0); omega)).trans ?_
    refine (lanes0 m c t _ _).trans ?_
    exact congrArg₂ (kv m c t) (Fin.ext (by show 128 + (i.val - 128) = i.val; omega)) (Fin.ext (by show 0 + (j.val - 0) = j.val; omega))
  · have h0 : 128 ≤ j.val ∧ j.val < 256 := by omega
    refine (Cert.Buf.read_miss _ _ _ _ _ _ _ (by show i.val < 128 ∨ 128 + 512 ≤ i.val ∨ j.val < 896 ∨ 896 + 128 ≤ j.val; omega)).trans ?_
    refine (Cert.Buf.read_miss _ _ _ _ _ _ _ (by show i.val < 128 ∨ 128 + 512 ≤ i.val ∨ j.val < 768 ∨ 768 + 128 ≤ j.val; omega)).trans ?_
    refine (Cert.Buf.read_miss _ _ _ _ _ _ _ (by show i.val < 128 ∨ 128 + 512 ≤ i.val ∨ j.val < 640 ∨ 640 + 128 ≤ j.val; omega)).trans ?_
    refine (Cert.Buf.read_miss _ _ _ _ _ _ _ (by show i.val < 128 ∨ 128 + 512 ≤ i.val ∨ j.val < 512 ∨ 512 + 128 ≤ j.val; omega)).trans ?_
    refine (Cert.Buf.read_miss _ _ _ _ _ _ _ (by show i.val < 128 ∨ 128 + 512 ≤ i.val ∨ j.val < 384 ∨ 384 + 128 ≤ j.val; omega)).trans ?_
    refine (Cert.Buf.read_miss _ _ _ _ _ _ _ (by show i.val < 128 ∨ 128 + 512 ≤ i.val ∨ j.val < 256 ∨ 256 + 128 ≤ j.val; omega)).trans ?_
    refine (Cert.Buf.read_hit _ _ _ _ _ _ _ ⟨i.val - 128, by omega⟩ ⟨j.val - 128, by omega⟩ (by show i.val = 128 + (i.val - 128); omega) (by show j.val = 128 + (j.val - 128); omega)).trans ?_
    refine (lanes1 m c t _ _).trans ?_
    exact congrArg₂ (kv m c t) (Fin.ext (by show 128 + (i.val - 128) = i.val; omega)) (Fin.ext (by show 128 + (j.val - 128) = j.val; omega))
  · have h0 : 256 ≤ j.val ∧ j.val < 384 := by omega
    refine (Cert.Buf.read_miss _ _ _ _ _ _ _ (by show i.val < 128 ∨ 128 + 512 ≤ i.val ∨ j.val < 896 ∨ 896 + 128 ≤ j.val; omega)).trans ?_
    refine (Cert.Buf.read_miss _ _ _ _ _ _ _ (by show i.val < 128 ∨ 128 + 512 ≤ i.val ∨ j.val < 768 ∨ 768 + 128 ≤ j.val; omega)).trans ?_
    refine (Cert.Buf.read_miss _ _ _ _ _ _ _ (by show i.val < 128 ∨ 128 + 512 ≤ i.val ∨ j.val < 640 ∨ 640 + 128 ≤ j.val; omega)).trans ?_
    refine (Cert.Buf.read_miss _ _ _ _ _ _ _ (by show i.val < 128 ∨ 128 + 512 ≤ i.val ∨ j.val < 512 ∨ 512 + 128 ≤ j.val; omega)).trans ?_
    refine (Cert.Buf.read_miss _ _ _ _ _ _ _ (by show i.val < 128 ∨ 128 + 512 ≤ i.val ∨ j.val < 384 ∨ 384 + 128 ≤ j.val; omega)).trans ?_
    refine (Cert.Buf.read_hit _ _ _ _ _ _ _ ⟨i.val - 128, by omega⟩ ⟨j.val - 256, by omega⟩ (by show i.val = 128 + (i.val - 128); omega) (by show j.val = 256 + (j.val - 256); omega)).trans ?_
    refine (lanes2 m c t _ _).trans ?_
    exact congrArg₂ (kv m c t) (Fin.ext (by show 128 + (i.val - 128) = i.val; omega)) (Fin.ext (by show 256 + (j.val - 256) = j.val; omega))
  · have h0 : 384 ≤ j.val ∧ j.val < 512 := by omega
    refine (Cert.Buf.read_miss _ _ _ _ _ _ _ (by show i.val < 128 ∨ 128 + 512 ≤ i.val ∨ j.val < 896 ∨ 896 + 128 ≤ j.val; omega)).trans ?_
    refine (Cert.Buf.read_miss _ _ _ _ _ _ _ (by show i.val < 128 ∨ 128 + 512 ≤ i.val ∨ j.val < 768 ∨ 768 + 128 ≤ j.val; omega)).trans ?_
    refine (Cert.Buf.read_miss _ _ _ _ _ _ _ (by show i.val < 128 ∨ 128 + 512 ≤ i.val ∨ j.val < 640 ∨ 640 + 128 ≤ j.val; omega)).trans ?_
    refine (Cert.Buf.read_miss _ _ _ _ _ _ _ (by show i.val < 128 ∨ 128 + 512 ≤ i.val ∨ j.val < 512 ∨ 512 + 128 ≤ j.val; omega)).trans ?_
    refine (Cert.Buf.read_hit _ _ _ _ _ _ _ ⟨i.val - 128, by omega⟩ ⟨j.val - 384, by omega⟩ (by show i.val = 128 + (i.val - 128); omega) (by show j.val = 384 + (j.val - 384); omega)).trans ?_
    refine (lanes3 m c t _ _).trans ?_
    exact congrArg₂ (kv m c t) (Fin.ext (by show 128 + (i.val - 128) = i.val; omega)) (Fin.ext (by show 384 + (j.val - 384) = j.val; omega))
  · have h0 : 512 ≤ j.val ∧ j.val < 640 := by omega
    refine (Cert.Buf.read_miss _ _ _ _ _ _ _ (by show i.val < 128 ∨ 128 + 512 ≤ i.val ∨ j.val < 896 ∨ 896 + 128 ≤ j.val; omega)).trans ?_
    refine (Cert.Buf.read_miss _ _ _ _ _ _ _ (by show i.val < 128 ∨ 128 + 512 ≤ i.val ∨ j.val < 768 ∨ 768 + 128 ≤ j.val; omega)).trans ?_
    refine (Cert.Buf.read_miss _ _ _ _ _ _ _ (by show i.val < 128 ∨ 128 + 512 ≤ i.val ∨ j.val < 640 ∨ 640 + 128 ≤ j.val; omega)).trans ?_
    refine (Cert.Buf.read_hit _ _ _ _ _ _ _ ⟨i.val - 128, by omega⟩ ⟨j.val - 512, by omega⟩ (by show i.val = 128 + (i.val - 128); omega) (by show j.val = 512 + (j.val - 512); omega)).trans ?_
    refine (lanes4 m c t _ _).trans ?_
    exact congrArg₂ (kv m c t) (Fin.ext (by show 128 + (i.val - 128) = i.val; omega)) (Fin.ext (by show 512 + (j.val - 512) = j.val; omega))
  · have h0 : 640 ≤ j.val ∧ j.val < 768 := by omega
    refine (Cert.Buf.read_miss _ _ _ _ _ _ _ (by show i.val < 128 ∨ 128 + 512 ≤ i.val ∨ j.val < 896 ∨ 896 + 128 ≤ j.val; omega)).trans ?_
    refine (Cert.Buf.read_miss _ _ _ _ _ _ _ (by show i.val < 128 ∨ 128 + 512 ≤ i.val ∨ j.val < 768 ∨ 768 + 128 ≤ j.val; omega)).trans ?_
    refine (Cert.Buf.read_hit _ _ _ _ _ _ _ ⟨i.val - 128, by omega⟩ ⟨j.val - 640, by omega⟩ (by show i.val = 128 + (i.val - 128); omega) (by show j.val = 640 + (j.val - 640); omega)).trans ?_
    refine (lanes5 m c t _ _).trans ?_
    exact congrArg₂ (kv m c t) (Fin.ext (by show 128 + (i.val - 128) = i.val; omega)) (Fin.ext (by show 640 + (j.val - 640) = j.val; omega))
  · have h0 : 768 ≤ j.val ∧ j.val < 896 := by omega
    refine (Cert.Buf.read_miss _ _ _ _ _ _ _ (by show i.val < 128 ∨ 128 + 512 ≤ i.val ∨ j.val < 896 ∨ 896 + 128 ≤ j.val; omega)).trans ?_
    refine (Cert.Buf.read_hit _ _ _ _ _ _ _ ⟨i.val - 128, by omega⟩ ⟨j.val - 768, by omega⟩ (by show i.val = 128 + (i.val - 128); omega) (by show j.val = 768 + (j.val - 768); omega)).trans ?_
    refine (lanes6 m c t _ _).trans ?_
    exact congrArg₂ (kv m c t) (Fin.ext (by show 128 + (i.val - 128) = i.val; omega)) (Fin.ext (by show 768 + (j.val - 768) = j.val; omega))
  · have h0 : 896 ≤ j.val ∧ j.val < 1024 := by omega
    refine (Cert.Buf.read_hit _ _ _ _ _ _ _ ⟨i.val - 128, by omega⟩ ⟨j.val - 896, by omega⟩ (by show i.val = 128 + (i.val - 128); omega) (by show j.val = 896 + (j.val - 896); omega)).trans ?_
    refine (lanes7 m c t _ _).trans ?_
    exact congrArg₂ (kv m c t) (Fin.ext (by show 128 + (i.val - 128) = i.val; omega)) (Fin.ext (by show 896 + (j.val - 896) = j.val; omega))

/-- A row before the block keeps what was stored there before. -/
theorem kv_miss (c : Dev nD) (t : Fin cfg0.N) (L : List (View.Piece (Elt Ideal) S640x1024 .bf16)) (i : Fin 640) (j : Fin 1024) (hi : i.val < 128) :
    View.canon ((⟨Rect.unit (s := S640x1024) ![128, 896] S512x128.size inb_S640x1024_S512x128_128_896, k0_pay26 (k0_pay22 (k0_pay7 (iblk m c 0 t) (iblk m c 1 t) (iblk m c 2 t)) (iota .tc S512x128 32 [1] iota_S512x128_d1_w32) 64#32)⟩ : View.Piece (Elt Ideal) S640x1024 .bf16) :: (⟨Rect.unit (s := S640x1024) ![128, 768] S512x128.size inb_S640x1024_S512x128_128_768, k0_pay25 (k0_pay21 (k0_pay7 (iblk m c 0 t) (iblk m c 1 t) (iblk m c 2 t)) (iota .tc S512x128 32 [1] iota_S512x128_d1_w32) 64#32)⟩ : View.Piece (Elt Ideal) S640x1024 .bf16) :: (⟨Rect.unit (s := S640x1024) ![128, 640] S512x128.size inb_S640x1024_S512x128_128_640, k0_pay24 (k0_pay20 (k0_pay7 (iblk m c 0 t) (iblk m c 1 t) (iblk m c 2 t)) (iota .tc S512x128 32 [1] iota_S512x128_d1_w32) 64#32)⟩ : View.Piece (Elt Ideal) S640x1024 .bf16) :: (⟨Rect.unit (s := S640x1024) ![128, 512] S512x128.size inb_S640x1024_S512x128_128_512, k0_pay23 (k0_pay19 (k0_pay7 (iblk m c 0 t) (iblk m c 1 t) (iblk m c 2 t)) (iota .tc S512x128 32 [1] iota_S512x128_d1_w32) 64#32)⟩ : View.Piece (Elt Ideal) S640x1024 .bf16) :: (⟨Rect.unit (s := S640x1024) ![128, 384] S512x128.size inb_S640x1024_S512x128_128_384, k0_pay16 (k0_pay7 (iblk m c 0 t) (iblk m c 1 t) (iblk m c 2 t)) (iota .tc S512x128 32 [1] iota_S512x128_d1_w32) 64#32⟩ : View.Piece (Elt Ideal) S640x1024 .bf16) :: (⟨Rect.unit (s := S640x1024) ![128, 256] S512x128.size inb_S640x1024_S512x128_128_256, k0_pay15 (k0_pay7 (iblk m c 0 t) (iblk m c 1 t) (iblk m c 2 t)) (iota .tc S512x128 32 [1] iota_S512x128_d1_w32) 64#32⟩ : View.Piece (Elt Ideal) S640x1024 .bf16) :: (⟨Rect.unit (s := S640x1024) ![128, 128] S512x128.size inb_S640x1024_S512x128_128_128, k0_pay14 (k0_pay7 (iblk m c 0 t) (iblk m c 1 t) (iblk m c 2 t)) (iota .tc S512x128 32 [1] iota_S512x128_d1_w32) 64#32⟩ : View.Piece (Elt Ideal) S640x1024 .bf16) :: (⟨Rect.unit (s := S640x1024) ![128, 0] S512x128.size inb_S640x1024_S512x128_128_0, k0_pay13 (k0_pay7 (iblk m c 0 t) (iblk m c 1 t) (iblk m c 2 t)) (iota .tc S512x128 32 [1] iota_S512x128_d1_w32) 64#32⟩ : View.Piece (Elt Ideal) S640x1024 .bf16) :: L) (ix2 i j) = View.canon L (ix2 i j) := by
  refine (Cert.Buf.canon_miss _ _ _ _ _ (by show i.val < 128 ∨ _; omega)).trans ?_
  refine (Cert.Buf.canon_miss _ _ _ _ _ (by show i.val < 128 ∨ _; omega)).trans ?_
  refine (Cert.Buf.canon_miss _ _ _ _ _ (by show i.val < 128 ∨ _; omega)).trans ?_
  refine (Cert.Buf.canon_miss _ _ _ _ _ (by show i.val < 128 ∨ _; omega)).trans ?_
  refine (Cert.Buf.canon_miss _ _ _ _ _ (by show i.val < 128 ∨ _; omega)).trans ?_
  refine (Cert.Buf.canon_miss _ _ _ _ _ (by show i.val < 128 ∨ _; omega)).trans ?_
  refine (Cert.Buf.canon_miss _ _ _ _ _ (by show i.val < 128 ∨ _; omega)).trans ?_
  refine (Cert.Buf.canon_miss _ _ _ _ _ (by show i.val < 128 ∨ _; omega)).trans ?_
  rfl

/-- Over some contents, what they hold. -/
theorem kv_read_miss (c : Dev nD) (t : Fin cfg0.N) (f : (View.whole (sig := sig) cc0_scratch1).ty.Contents (Elt Ideal)) (i : Fin 640) (j : Fin 1024) (hi : i.val < 128) :
    (View.whole cc0_scratch1).read (Elt Ideal) ((View.whole cc0_scratch1).writes (Elt Ideal) f ((⟨Rect.unit (s := S640x1024) ![128, 896] S512x128.size inb_S640x1024_S512x128_128_896, k0_pay26 (k0_pay22 (k0_pay7 (iblk m c 0 t) (iblk m c 1 t) (iblk m c 2 t)) (iota .tc S512x128 32 [1] iota_S512x128_d1_w32) 64#32)⟩ : View.Piece (Elt Ideal) S640x1024 .bf16) :: (⟨Rect.unit (s := S640x1024) ![128, 768] S512x128.size inb_S640x1024_S512x128_128_768, k0_pay25 (k0_pay21 (k0_pay7 (iblk m c 0 t) (iblk m c 1 t) (iblk m c 2 t)) (iota .tc S512x128 32 [1] iota_S512x128_d1_w32) 64#32)⟩ : View.Piece (Elt Ideal) S640x1024 .bf16) :: (⟨Rect.unit (s := S640x1024) ![128, 640] S512x128.size inb_S640x1024_S512x128_128_640, k0_pay24 (k0_pay20 (k0_pay7 (iblk m c 0 t) (iblk m c 1 t) (iblk m c 2 t)) (iota .tc S512x128 32 [1] iota_S512x128_d1_w32) 64#32)⟩ : View.Piece (Elt Ideal) S640x1024 .bf16) :: (⟨Rect.unit (s := S640x1024) ![128, 512] S512x128.size inb_S640x1024_S512x128_128_512, k0_pay23 (k0_pay19 (k0_pay7 (iblk m c 0 t) (iblk m c 1 t) (iblk m c 2 t)) (iota .tc S512x128 32 [1] iota_S512x128_d1_w32) 64#32)⟩ : View.Piece (Elt Ideal) S640x1024 .bf16) :: (⟨Rect.unit (s := S640x1024) ![128, 384] S512x128.size inb_S640x1024_S512x128_128_384, k0_pay16 (k0_pay7 (iblk m c 0 t) (iblk m c 1 t) (iblk m c 2 t)) (iota .tc S512x128 32 [1] iota_S512x128_d1_w32) 64#32⟩ : View.Piece (Elt Ideal) S640x1024 .bf16) :: (⟨Rect.unit (s := S640x1024) ![128, 256] S512x128.size inb_S640x1024_S512x128_128_256, k0_pay15 (k0_pay7 (iblk m c 0 t) (iblk m c 1 t) (iblk m c 2 t)) (iota .tc S512x128 32 [1] iota_S512x128_d1_w32) 64#32⟩ : View.Piece (Elt Ideal) S640x1024 .bf16) :: (⟨Rect.unit (s := S640x1024) ![128, 128] S512x128.size inb_S640x1024_S512x128_128_128, k0_pay14 (k0_pay7 (iblk m c 0 t) (iblk m c 1 t) (iblk m c 2 t)) (iota .tc S512x128 32 [1] iota_S512x128_d1_w32) 64#32⟩ : View.Piece (Elt Ideal) S640x1024 .bf16) :: (⟨Rect.unit (s := S640x1024) ![128, 0] S512x128.size inb_S640x1024_S512x128_128_0, k0_pay13 (k0_pay7 (iblk m c 0 t) (iblk m c 1 t) (iblk m c 2 t)) (iota .tc S512x128 32 [1] iota_S512x128_d1_w32) 64#32⟩ : View.Piece (Elt Ideal) S640x1024 .bf16) :: [])) (ix2 i j)
      = (View.whole cc0_scratch1).read (Elt Ideal) f (ix2 i j) := by
  refine (Cert.Buf.read_miss _ _ _ _ _ _ _ (by show i.val < 128 ∨ _; omega)).trans ?_
  refine (Cert.Buf.read_miss _ _ _ _ _ _ _ (by show i.val < 128 ∨ _; omega)).trans ?_
  refine (Cert.Buf.read_miss _ _ _ _ _ _ _ (by show i.val < 128 ∨ _; omega)).trans ?_
  refine (Cert.Buf.read_miss _ _ _ _ _ _ _ (by show i.val < 128 ∨ _; omega)).trans ?_
  refine (Cert.Buf.read_miss _ _ _ _ _ _ _ (by show i.val < 128 ∨ _; omega)).trans ?_
  refine (Cert.Buf.read_miss _ _ _ _ _ _ _ (by show i.val < 128 ∨ _; omega)).trans ?_
  refine (Cert.Buf.read_miss _ _ _ _ _ _ _ (by show i.val < 128 ∨ _; omega)).trans ?_
  refine (Cert.Buf.read_miss _ _ _ _ _ _ _ (by show i.val < 128 ∨ _; omega)).trans ?_
  rw [View.writes_nil]

/-- A load of rows of a point's own block. -/
theorem kvHi (c : Dev nD) (t : Fin cfg0.N) (L : List (View.Piece (Elt Ideal) S640x1024 .bf16)) (a b : ℕ)
    (inb : ∀ d, (![a, b] : Fin 2 → ℕ) d + S256x128.size d ≤ S640x1024.size d) (x : Fin 256) (e : Fin 128)
    (ha : 128 ≤ a) (hx : a + x.val < 640) (he : b + e.val < 1024) :
    (View.whole cc0_scratch1).readCov (Val := Elt Ideal) ((⟨Rect.unit (s := S640x1024) ![128, 896] S512x128.size inb_S640x1024_S512x128_128_896, k0_pay26 (k0_pay22 (k0_pay7 (iblk m c 0 t) (iblk m c 1 t) (iblk m c 2 t)) (iota .tc S512x128 32 [1] iota_S512x128_d1_w32) 64#32)⟩ : View.Piece (Elt Ideal) S640x1024 .bf16) :: (⟨Rect.unit (s := S640x1024) ![128, 768] S512x128.size inb_S640x1024_S512x128_128_768, k0_pay25 (k0_pay21 (k0_pay7 (iblk m c 0 t) (iblk m c 1 t) (iblk m c 2 t)) (iota .tc S512x128 32 [1] iota_S512x128_d1_w32) 64#32)⟩ : View.Piece (Elt Ideal) S640x1024 .bf16) :: (⟨Rect.unit (s := S640x1024) ![128, 640] S512x128.size inb_S640x1024_S512x128_128_640, k0_pay24 (k0_pay20 (k0_pay7 (iblk m c 0 t) (iblk m c 1 t) (iblk m c 2 t)) (iota .tc S512x128 32 [1] iota_S512x128_d1_w32) 64#32)⟩ : View.Piece (Elt Ideal) S640x1024 .bf16) :: (⟨Rect.unit (s := S640x1024) ![128, 512] S512x128.size inb_S640x1024_S512x128_128_512, k0_pay23 (k0_pay19 (k0_pay7 (iblk m c 0 t) (iblk m c 1 t) (iblk m c 2 t)) (iota .tc S512x128 32 [1] iota_S512x128_d1_w32) 64#32)⟩ : View.Piece (Elt Ideal) S640x1024 .bf16) :: (⟨Rect.unit (s := S640x1024) ![128, 384] S512x128.size inb_S640x1024_S512x128_128_384, k0_pay16 (k0_pay7 (iblk m c 0 t) (iblk m c 1 t) (iblk m c 2 t)) (iota .tc S512x128 32 [1] iota_S512x128_d1_w32) 64#32⟩ : View.Piece (Elt Ideal) S640x1024 .bf16) :: (⟨Rect.unit (s := S640x1024) ![128, 256] S512x128.size inb_S640x1024_S512x128_128_256, k0_pay15 (k0_pay7 (iblk m c 0 t) (iblk m c 1 t) (iblk m c 2 t)) (iota .tc S512x128 32 [1] iota_S512x128_d1_w32) 64#32⟩ : View.Piece (Elt Ideal) S640x1024 .bf16) :: (⟨Rect.unit (s := S640x1024) ![128, 128] S512x128.size inb_S640x1024_S512x128_128_128, k0_pay14 (k0_pay7 (iblk m c 0 t) (iblk m c 1 t) (iblk m c 2 t)) (iota .tc S512x128 32 [1] iota_S512x128_d1_w32) 64#32⟩ : View.Piece (Elt Ideal) S640x1024 .bf16) :: (⟨Rect.unit (s := S640x1024) ![128, 0] S512x128.size inb_S640x1024_S512x128_128_0, k0_pay13 (k0_pay7 (iblk m c 0 t) (iblk m c 1 t) (iblk m c 2 t)) (iota .tc S512x128 32 [1] iota_S512x128_d1_w32) 64#32⟩ : View.Piece (Elt Ideal) S640x1024 .bf16) :: L)
      (Rect.unit (s := S640x1024) ![a, b] S256x128.size inb).toLoadRect (ix2 x e) = kv m c t ⟨a + x.val, hx⟩ ⟨b + e.val, he⟩ :=
  (Cert.Buf.readCov_at _ _ _ _ _ ⟨a + x.val, hx⟩ ⟨b + e.val, he⟩ rfl rfl).trans (kv_hit m c t L _ _ (by show 128 ≤ a + x.val; omega))

/-- A load over the first rows at a batch's first point. -/
theorem kvLoA (c : Dev nD) (t : Fin cfg0.N) (ht : t.val % 16 = 0) (b : ℕ)
    (inb : ∀ d, (![0, b] : Fin 2 → ℕ) d + S256x128.size d ≤ S640x1024.size d) (x : Fin 256) (e : Fin 128) (he : b + e.val < 1024) :
    (View.whole cc0_scratch1).readCov (Val := Elt Ideal) ((⟨Rect.unit (s := S640x1024) ![128, 896] S512x128.size inb_S640x1024_S512x128_128_896, k0_pay26 (k0_pay22 (k0_pay7 (iblk m c 0 t) (iblk m c 1 t) (iblk m c 2 t)) (iota .tc S512x128 32 [1] iota_S512x128_d1_w32) 64#32)⟩ : View.Piece (Elt Ideal) S640x1024 .bf16) :: (⟨Rect.unit (s := S640x1024) ![128, 768] S512x128.size inb_S640x1024_S512x128_128_768, k0_pay25 (k0_pay21 (k0_pay7 (iblk m c 0 t) (iblk m c 1 t) (iblk m c 2 t)) (iota .tc S512x128 32 [1] iota_S512x128_d1_w32) 64#32)⟩ : View.Piece (Elt Ideal) S640x1024 .bf16) :: (⟨Rect.unit (s := S640x1024) ![128, 640] S512x128.size inb_S640x1024_S512x128_128_640, k0_pay24 (k0_pay20 (k0_pay7 (iblk m c 0 t) (iblk m c 1 t) (iblk m c 2 t)) (iota .tc S512x128 32 [1] iota_S512x128_d1_w32) 64#32)⟩ : View.Piece (Elt Ideal) S640x1024 .bf16) :: (⟨Rect.unit (s := S640x1024) ![128, 512] S512x128.size inb_S640x1024_S512x128_128_512, k0_pay23 (k0_pay19 (k0_pay7 (iblk m c 0 t) (iblk m c 1 t) (iblk m c 2 t)) (iota .tc S512x128 32 [1] iota_S512x128_d1_w32) 64#32)⟩ : View.Piece (Elt Ideal) S640x1024 .bf16) :: (⟨Rect.unit (s := S640x1024) ![128, 384] S512x128.size inb_S640x1024_S512x128_128_384, k0_pay16 (k0_pay7 (iblk m c 0 t) (iblk m c 1 t) (iblk m c 2 t)) (iota .tc S512x128 32 [1] iota_S512x128_d1_w32) 64#32⟩ : View.Piece (Elt Ideal) S640x1024 .bf16) :: (⟨Rect.unit (s := S640x1024) ![128, 256] S512x128.size inb_S640x1024_S512x128_128_256, k0_pay15 (k0_pay7 (iblk m c 0 t) (iblk m c 1 t) (iblk m c 2 t)) (iota .tc S512x128 32 [1] iota_S512x128_d1_w32) 64#32⟩ : View.Piece (Elt Ideal) S640x1024 .bf16) :: (⟨Rect.unit (s := S640x1024) ![128, 128] S512x128.size inb_S640x1024_S512x128_128_128, k0_pay14 (k0_pay7 (iblk m c 0 t) (iblk m c 1 t) (iblk m c 2 t)) (iota .tc S512x128 32 [1] iota_S512x128_d1_w32) 64#32⟩ : View.Piece (Elt Ideal) S640x1024 .bf16) :: (⟨Rect.unit (s := S640x1024) ![128, 0] S512x128.size inb_S640x1024_S512x128_128_0, k0_pay13 (k0_pay7 (iblk m c 0 t) (iblk m c 1 t) (iblk m c 2 t)) (iota .tc S512x128 32 [1] iota_S512x128_d1_w32) 64#32⟩ : View.Piece (Elt Ideal) S640x1024 .bf16) ::
        (⟨Rect.unit (s := S640x1024) ![0, 0] S128x1024.size inb_S640x1024_S128x1024_0_0, k0_pay6 (F := Ideal)⟩ : View.Piece (Elt Ideal) S640x1024 .bf16) :: [])
      (Rect.unit (s := S640x1024) ![0, b] S256x128.size inb).toLoadRect (ix2 x e) = kv m c t ⟨0 + x.val, by omega⟩ ⟨b + e.val, he⟩ := by
  refine (Cert.Buf.readCov_at _ _ _ _ _ ⟨0 + x.val, by omega⟩ ⟨b + e.val, he⟩ rfl rfl).trans ?_
  by_cases hx : 128 ≤ x.val
  · exact kv_hit m c t _ _ _ (by show 128 ≤ 0 + x.val; omega)
  · refine (kv_miss m c t _ _ _ (by show 0 + x.val < 128; omega)).trans ?_
    refine (Cert.Buf.canon_hit _ _ _ _ _ ⟨x.val, by omega⟩ ⟨b + e.val, he⟩ (by show 0 + x.val = 0 + x.val; omega) (by show b + e.val = 0 + (b + e.val); omega)).trans ?_
    exact (pay6 _ _).trans (kv_zero m c t _ _ (.inl (by show t.val % 16 * 512 + (0 + x.val) < 128; omega))).symm

/-- A load over the first rows at another point. -/
theorem kvLoB (c : Dev nD) (t : Fin cfg0.N) (f : (View.whole (sig := sig) cc0_scratch1).ty.Contents (Elt Ideal))
    (hf : ∀ (i : Fin 128) (j : Fin 1024), (View.whole cc0_scratch1).read (Elt Ideal) f (ix2 (⟨i.val, by omega⟩ : Fin 640) j) = kv m c t ⟨i.val, by omega⟩ j) (b : ℕ)
    (inb : ∀ d, (![0, b] : Fin 2 → ℕ) d + S256x128.size d ≤ S640x1024.size d) (x : Fin 256) (e : Fin 128) (he : b + e.val < 1024) :
    View.ld ((View.whole cc0_scratch1).read (Elt Ideal) ((View.whole cc0_scratch1).writes (Elt Ideal) f ((⟨Rect.unit (s := S640x1024) ![128, 896] S512x128.size inb_S640x1024_S512x128_128_896, k0_pay26 (k0_pay22 (k0_pay7 (iblk m c 0 t) (iblk m c 1 t) (iblk m c 2 t)) (iota .tc S512x128 32 [1] iota_S512x128_d1_w32) 64#32)⟩ : View.Piece (Elt Ideal) S640x1024 .bf16) :: (⟨Rect.unit (s := S640x1024) ![128, 768] S512x128.size inb_S640x1024_S512x128_128_768, k0_pay25 (k0_pay21 (k0_pay7 (iblk m c 0 t) (iblk m c 1 t) (iblk m c 2 t)) (iota .tc S512x128 32 [1] iota_S512x128_d1_w32) 64#32)⟩ : View.Piece (Elt Ideal) S640x1024 .bf16) :: (⟨Rect.unit (s := S640x1024) ![128, 640] S512x128.size inb_S640x1024_S512x128_128_640, k0_pay24 (k0_pay20 (k0_pay7 (iblk m c 0 t) (iblk m c 1 t) (iblk m c 2 t)) (iota .tc S512x128 32 [1] iota_S512x128_d1_w32) 64#32)⟩ : View.Piece (Elt Ideal) S640x1024 .bf16) :: (⟨Rect.unit (s := S640x1024) ![128, 512] S512x128.size inb_S640x1024_S512x128_128_512, k0_pay23 (k0_pay19 (k0_pay7 (iblk m c 0 t) (iblk m c 1 t) (iblk m c 2 t)) (iota .tc S512x128 32 [1] iota_S512x128_d1_w32) 64#32)⟩ : View.Piece (Elt Ideal) S640x1024 .bf16) :: (⟨Rect.unit (s := S640x1024) ![128, 384] S512x128.size inb_S640x1024_S512x128_128_384, k0_pay16 (k0_pay7 (iblk m c 0 t) (iblk m c 1 t) (iblk m c 2 t)) (iota .tc S512x128 32 [1] iota_S512x128_d1_w32) 64#32⟩ : View.Piece (Elt Ideal) S640x1024 .bf16) :: (⟨Rect.unit (s := S640x1024) ![128, 256] S512x128.size inb_S640x1024_S512x128_128_256, k0_pay15 (k0_pay7 (iblk m c 0 t) (iblk m c 1 t) (iblk m c 2 t)) (iota .tc S512x128 32 [1] iota_S512x128_d1_w32) 64#32⟩ : View.Piece (Elt Ideal) S640x1024 .bf16) :: (⟨Rect.unit (s := S640x1024) ![128, 128] S512x128.size inb_S640x1024_S512x128_128_128, k0_pay14 (k0_pay7 (iblk m c 0 t) (iblk m c 1 t) (iblk m c 2 t)) (iota .tc S512x128 32 [1] iota_S512x128_d1_w32) 64#32⟩ : View.Piece (Elt Ideal) S640x1024 .bf16) :: (⟨Rect.unit (s := S640x1024) ![128, 0] S512x128.size inb_S640x1024_S512x128_128_0, k0_pay13 (k0_pay7 (iblk m c 0 t) (iblk m c 1 t) (iblk m c 2 t)) (iota .tc S512x128 32 [1] iota_S512x128_d1_w32) 64#32⟩ : View.Piece (Elt Ideal) S640x1024 .bf16) :: [])))
      (Rect.unit (s := S640x1024) ![0, b] S256x128.size inb) (ix2 x e) = kv m c t ⟨0 + x.val, by omega⟩ ⟨b + e.val, he⟩ := by
  refine (Cert.Buf.ld_at _ _ _ _ ⟨0 + x.val, by omega⟩ ⟨b + e.val, he⟩ rfl rfl).trans ?_
  by_cases hx : 128 ≤ x.val
  · exact kv_read_hit m c t _ _ _ (by show 128 ≤ 0 + x.val; omega)
  · refine (kv_read_miss m c t _ _ _ (by show 0 + x.val < 128; omega)).trans ?_
    have h0 : (⟨0 + x.val, by omega⟩ : Fin 640) = ⟨(⟨x.val, by omega⟩ : Fin 128).val, by omega⟩ := Fin.ext (by show 0 + x.val = x.val; omega)
    rw [h0]
    exact hf ⟨x.val, by omega⟩ _

/-- The gated rows of a point's own block after its store. -/
theorem cb_hit (c : Dev nD) (t : Fin cfg0.N) (L : List (View.Piece (Elt Ideal) S544x512 .f32)) (i : Fin 544) (k : Fin 512) (hi : 32 ≤ i.val) :
    View.canon ((⟨Rect.unit (s := S544x512) ![32, 0] S512x512.size inb_S544x512_S512x512_32_0, k0_pay8 (iblk m c 0 t) (iblk m c 1 t) (iblk m c 2 t)⟩ : View.Piece (Elt Ideal) S544x512 .f32) :: L) (ix2 i k) = cb m c t i k := by
  refine (Cert.Buf.canon_hit _ _ _ _ _ ⟨i.val - 32, by omega⟩ k (by show i.val = 32 + (i.val - 32); omega) (by omega)).trans ?_
  exact (grow_at m c t _ _).trans (cb_row m c t i k _ (by omega) (by show t.val * 512 + (i.val - 32) + 32 = t.val * 512 + i.val; omega))

/-- A load of gated rows of a point's own block. -/
theorem cbHi (c : Dev nD) (t : Fin cfg0.N) (L : List (View.Piece (Elt Ideal) S544x512 .f32)) (s : ℕ)
    (inb : ∀ d, (![s, 0] : Fin 2 → ℕ) d + S64x512.size d ≤ S544x512.size d) (x : Fin 64) (k : Fin 512)
    (hs : 32 ≤ s) (hx : s + x.val < 544) :
    (View.whole cc0_scratch0).readCov (Val := Elt Ideal) ((⟨Rect.unit (s := S544x512) ![32, 0] S512x512.size inb_S544x512_S512x512_32_0, k0_pay8 (iblk m c 0 t) (iblk m c 1 t) (iblk m c 2 t)⟩ : View.Piece (Elt Ideal) S544x512 .f32) :: L)
      (Rect.unit (s := S544x512) ![s, 0] S64x512.size inb).toLoadRect (ix2 x k) = cb m c t ⟨s + x.val, hx⟩ k :=
  (Cert.Buf.readCov_at _ _ _ _ _ ⟨s + x.val, hx⟩ k rfl (by omega)).trans (cb_hit m c t L _ _ (by show 32 ≤ s + x.val; omega))

/-- A load over the first gated rows at a batch's first point. -/
theorem cbLoA (c : Dev nD) (t : Fin cfg0.N) (ht : t.val % 16 = 0) (s : ℕ)
    (inb : ∀ d, (![s, 0] : Fin 2 → ℕ) d + S64x512.size d ≤ S544x512.size d) (x : Fin 64) (k : Fin 512) (hx : s + x.val < 544) :
    (View.whole cc0_scratch0).readCov (Val := Elt Ideal) ((⟨Rect.unit (s := S544x512) ![32, 0] S512x512.size inb_S544x512_S512x512_32_0, k0_pay8 (iblk m c 0 t) (iblk m c 1 t) (iblk m c 2 t)⟩ : View.Piece (Elt Ideal) S544x512 .f32) ::
        (⟨Rect.unit (s := S544x512) ![0, 0] S32x512.size inb_S544x512_S32x512_0_0, k0_pay5 (F := Ideal)⟩ : View.Piece (Elt Ideal) S544x512 .f32) :: [])
      (Rect.unit (s := S544x512) ![s, 0] S64x512.size inb).toLoadRect (ix2 x k) = cb m c t ⟨s + x.val, hx⟩ k := by
  refine (Cert.Buf.readCov_at _ _ _ _ _ ⟨s + x.val, hx⟩ k rfl (by omega)).trans ?_
  by_cases h : 32 ≤ s + x.val
  · exact cb_hit m c t _ _ _ h
  · refine (Cert.Buf.canon_miss _ _ _ _ _ (by show s + x.val < 32 ∨ _; omega)).trans ?_
    refine (Cert.Buf.canon_hit _ _ _ _ _ ⟨s + x.val, by omega⟩ k (by show s + x.val = 0 + (s + x.val); omega) (by omega)).trans ?_
    exact (pay5 _ _).trans (cb_zero m c t _ _ (by show t.val % 16 * 512 + (s + x.val) < 32; omega)).symm

/-- A load over the first gated rows at another point. -/
theorem cbLoB (c : Dev nD) (t : Fin cfg0.N) (f : (View.whole (sig := sig) cc0_scratch0).ty.Contents (Elt Ideal))
    (hf : ∀ (i : Fin 32) (k : Fin 512), (View.whole cc0_scratch0).read (Elt Ideal) f (ix2 (⟨i.val, by omega⟩ : Fin 544) k) = cb m c t ⟨i.val, by omega⟩ k) (s : ℕ)
    (inb : ∀ d, (![s, 0] : Fin 2 → ℕ) d + S64x512.size d ≤ S544x512.size d) (x : Fin 64) (k : Fin 512) (hx : s + x.val < 544) :
    View.ld ((View.whole cc0_scratch0).read (Elt Ideal) ((View.whole cc0_scratch0).writes (Elt Ideal) f ((⟨Rect.unit (s := S544x512) ![32, 0] S512x512.size inb_S544x512_S512x512_32_0, k0_pay8 (iblk m c 0 t) (iblk m c 1 t) (iblk m c 2 t)⟩ : View.Piece (Elt Ideal) S544x512 .f32) :: [])))
      (Rect.unit (s := S544x512) ![s, 0] S64x512.size inb) (ix2 x k) = cb m c t ⟨s + x.val, hx⟩ k := by
  refine (Cert.Buf.ld_at _ _ _ _ ⟨s + x.val, hx⟩ k rfl (by omega)).trans ?_
  by_cases h : 32 ≤ s + x.val
  · refine (Cert.Buf.read_hit _ _ _ _ _ _ _ ⟨s + x.val - 32, by omega⟩ k (by show s + x.val = 32 + (s + x.val - 32); omega) (by omega)).trans ?_
    exact (grow_at m c t _ _).trans (cb_row m c t _ k _ (by show 32 ≤ t.val % 16 * 512 + (s + x.val); omega) (by show t.val * 512 + (s + x.val - 32) + 32 = t.val * 512 + (s + x.val); omega))
  · refine (Cert.Buf.read_miss _ _ _ _ _ _ _ (by show s + x.val < 32 ∨ _; omega)).trans ?_
    rw [View.writes_nil]
    exact hf ⟨s + x.val, by omega⟩ k

/-- A load of the scaled queries. -/
theorem qAt (c : Dev nD) (t : Fin cfg0.N) (L : List (View.Piece (Elt Ideal) S512x512 .bf16)) (a b : ℕ)
    (inb : ∀ d, (![a, b] : Fin 2 → ℕ) d + S128x128.size d ≤ S512x512.size d) (i e : Fin 128) (ha : a + i.val < 512) (hb : b + e.val < 512) :
    (View.whole cc0_scratch2).readCov (Val := Elt Ideal)
      ((⟨Rect.unit (s := S512x512) ![0, 0] S512x512.size inb_S512x512_S512x512_0_0, k0_pay9 (iblk m c 0 t) (iblk m c 1 t) (iblk m c 2 t)⟩ : View.Piece (Elt Ideal) S512x512 .bf16) :: L)
      (Rect.unit (s := S512x512) ![a, b] S128x128.size inb).toLoadRect (ix2 i e)
      = zrow m c ⟨t.val * 512 + (a + i.val), lt_row t ⟨a + i.val, ha⟩⟩ ⟨1024 + (b + e.val), by omega⟩ * Ideal.ofBits .f32 0x3E000000#32 := by
  refine (Cert.Buf.readCov_at _ _ _ _ _ ⟨a + i.val, ha⟩ ⟨b + e.val, hb⟩ rfl rfl).trans ?_
  refine (Cert.Buf.canon_hit _ _ _ _ _ ⟨a + i.val, ha⟩ ⟨b + e.val, hb⟩ (by show a + i.val = 0 + (a + i.val); omega) (by show b + e.val = 0 + (b + e.val); omega)).trans ?_
  rw [pay9, zrow_at]

/-- A tap's weights. -/
theorem wAt (c : Dev nD) (t : Fin cfg0.N) (a : ℕ) (inb : ∀ d, (![a, 0] : Fin 2 → ℕ) d + S1x512.size d ≤ S31x512.size d) (k : Fin 512) (ha : a < 31) :
    View.ld (iblk m c 3 t) (Rect.unit (s := S31x512) ![a, 0] S1x512.size inb) (ix2 0 k) = m ((c : Thread nD τ).loc main_arg3) (ix2 ⟨a, ha⟩ k) :=
  (Cert.Buf.ld_at _ _ _ _ ⟨a, ha⟩ k rfl (by omega)).trans (read3 m c t ⟨a, ha⟩ k)

/-- A head's sink. -/
theorem sAt (c : Dev nD) (t : Fin cfg0.N) (h : ℕ) (inb : ∀ d, (![h, 0] : Fin 2 → ℕ) d + S1x1.size d ≤ S8x128.size d) (hh : h < 8) :
    View.ld (iblk m c 7 t) (Rect.unit (s := S8x128) ![h, 0] S1x1.size inb) (ix2 0 0) = m ((c : Thread nD τ).loc main_arg7) (ix1 ⟨h, hh⟩) :=
  (Cert.Buf.ld_at _ _ _ _ ⟨h, hh⟩ 0 rfl rfl).trans (read7 m c t ⟨h, hh⟩ 0)

/-- A row of the tables. -/
theorem bAt (c : Dev nD) (t : Fin cfg0.N) (o : Fin 3 → ℕ) (inb : ∀ d, o d + S1x128x256.size d ≤ S16x128x256.size d) (h : Fin 16) (ho : o = ![h.val, 0, 0])
    (i : Fin 128) (x : Fin 256) :
    View.ld (iblk m c 8 t) (Rect.unit (s := S16x128x256) o S1x128x256.size inb) (ix3 0 i x) = V m c main_v46 (ix3 h i x) := by
  refine Eq.trans ?_ (read8 m c t h i x)
  refine congrArg (iblk m c 8 t) (Rect.emb_eq_of_coords _ _ _ ?_)
  intro d
  subst ho
  fin_cases d
  · show h.val = h.val + 1 * 0
    omega
  · show i.val = 0 + 1 * i.val
    omega
  · show x.val = 0 + 1 * x.val
    omega

/-- The table a point's first block of rows reads. -/
theorem off1 : ∀ (t : Fin grid0.N) (h : Fin 8), k0_off1 (grid0.coords t) (BitVec.ofNat 32 h.val) = ![if t.val % 16 = 0 then 8 + h.val else h.val, 0, 0] := by
  decide +kernel

end Cert.EvenMixerIdeal.Row

end
end
-- ==== Proof.EvenConv.lean ====
module

public import proofs.«01_k».proof.Proof.EvenScr
public import proofs.«01_k».proof.Proof.EvenPay

set_option maxRecDepth 16384

@[expose] public section
noncomputable section

open Idealize.ShloMosaic Idealize.ShloMosaic.TcCoe Idealize.SL.Sem
open Idealize.ShloMosaic.Pipeline (Dat)

/-! The even layer's convolved rows and attended tiles against the reference's. -/

namespace Cert.EvenMixerIdeal.Row
open Cert.EvenMixerIdeal Cert.EvenMixerIdeal.Gen Cert.Spec
open Cert.RefEvenMixerIdeal.Row (tilt bend cand win attended heads)

variable (m : (ℓ : Loc nD τ sig) → Buf (Elt Ideal) ℓ)

/-- A tap's weight. -/
def wt (c : Dev nD) (a : Fin 31) (k : Fin 512) : EReal := m ((c : Thread nD τ).loc main_arg3) (ix2 a k)

/-- A bias before thirty-one terms last to first is the terms first to last before the bias. -/
theorem reorder (b t0 t1 t2 t3 t4 t5 t6 t7 t8 t9 t10 t11 t12 t13 t14 t15 t16 t17 t18 t19 t20 t21 t22 t23 t24 t25 t26 t27 t28 t29 t30 : EReal) :
    b + t30 + t29 + t28 + t27 + t26 + t25 + t24 + t23 + t22 + t21 + t20 + t19 + t18 + t17 + t16 + t15 + t14 + t13 + t12 + t11 + t10 + t9 + t8 + t7 + t6 + t5 + t4 + t3 + t2 + t1 + t0
      = t0 + t1 + t2 + t3 + t4 + t5 + t6 + t7 + t8 + t9 + t10 + t11 + t12 + t13 + t14 + t15 + t16 + t17 + t18 + t19 + t20 + t21 + t22 + t23 + t24 + t25 + t26 + t27 + t28 + t29 + t30 + b := by
  ac_rfl

/-- The reference's convolved row. -/
def crow (c : Dev nD) (t : Fin cfg0.N) (r : Fin 512) (k : Fin 512) : EReal :=
  Cert.RefEvenMixerIdeal.Read.val_main_v242 (m ((c : Thread nD τ).loc main_arg0)) (m ((c : Thread nD τ).loc main_arg1)) (m ((c : Thread nD τ).loc main_arg2)) (m ((c : Thread nD τ).loc main_arg3)) (ix3 (⟨t.val / 16, by have := lt_grid t; omega⟩ : Fin 4) (⟨t.val % 16 * 512 + r.val, by omega⟩ : Fin 8192) k)

/-- The convolution's bias. -/
def shift (c : Dev nD) (k : Fin 512) : EReal := m ((c : Thread nD τ).loc main_arg4) (ix1 k)

/-- The reference's convolved row is the taps over the scratch's rows. -/
theorem convolved (c : Dev nD) (t : Fin cfg0.N) (r : Fin 512) (k : Fin 512) :
    crow m c t r k
      = wt m c 0 k * tap m c t 0 r k
        + wt m c 1 k * tap m c t 1 r k
        + wt m c 2 k * tap m c t 2 r k
        + wt m c 3 k * tap m c t 3 r k
        + wt m c 4 k * tap m c t 4 r k
        + wt m c 5 k * tap m c t 5 r k
        + wt m c 6 k * tap m c t 6 r k
        + wt m c 7 k * tap m c t 7 r k
        + wt m c 8 k * tap m c t 8 r k
        + wt m c 9 k * tap m c t 9 r k
        + wt m c 10 k * tap m c t 10 r k
        + wt m c 11 k * tap m c t 11 r k
        + wt m c 12 k * tap m c t 12 r k
        + wt m c 13 k * tap m c t 13 r k
        + wt m c 14 k * tap m c t 14 r k
        + wt m c 15 k * tap m c t 15 r k
        + wt m c 16 k * tap m c t 16 r k
        + wt m c 17 k * tap m c t 17 r k
        + wt m c 18 k * tap m c t 18 r k
        + wt m c 19 k * tap m c t 19 r k
        + wt m c 20 k * tap m c t 20 r k
        + wt m c 21 k * tap m c t 21 r k
        + wt m c 22 k * tap m c t 22 r k
        + wt m c 23 k * tap m c t 23 r k
        + wt m c 24 k * tap m c t 24 r k
        + wt m c 25 k * tap m c t 25 r k
        + wt m c 26 k * tap m c t 26 r k
        + wt m c 27 k * tap m c t 27 r k
        + wt m c 28 k * tap m c t 28 r k
        + wt m c 29 k * tap m c t 29 r k
        + wt m c 30 k * tap m c t 30 r k := by
  rw [crow, Cert.RefEvenMixerIdeal.Row.conv]
  have h0 : (⟨t.val % 16 * 512 + r.val, by omega⟩ : Fin 8222) = ⟨(0 : Fin 31).val + (t.val % 16 * 512 + r.val), by show 0 + (t.val % 16 * 512 + r.val) < 8222; omega⟩ :=
    Fin.ext (by show t.val % 16 * 512 + r.val = 0 + (t.val % 16 * 512 + r.val); omega)
  rw [h0]
  rfl

/-- Adding a tap to a row whose value is known. -/
theorem tap_step (a : Vec Ideal S64x512 .f32) (w : Vec Ideal S1x512 .f32) (c : Vec Ideal S64x512 .f32) (x : Fin 64) (k : Fin 512) (f p q : EReal)
    (ha : a (ix2 x k) = f) (hw : w (ix2 0 k) = p) (hc : c (ix2 x k) = q) : tapped a w c (ix2 x k) = f + p * q := by
  rw [tapped_at, ha, hw, hc]

/-- The first row of the sum is the bias. -/
theorem tap_start (b : Vec Ideal S1x512 .f32) (x : Fin 64) (k : Fin 512) (f : EReal) (hb : b (ix2 0 k) = f) : begun b (ix2 x k) = f := by
  rw [begun_at, hb]

/-- A row of convolved rows, normed and gated, is the reference's. -/
theorem rowed (c : Dev nD) (t : Fin cfg0.N) (r : Fin 512) (x : Fin 64) (g o : Vec Ideal S1x512 .f32) (a : Vec Ideal S64x512 .f32)
    (hg : ∀ k, g (ix2 0 k) = m ((c : Thread nD τ).loc main_arg5) (ix1 k)) (ho : ∀ k, o (ix2 0 k) = m ((c : Thread nD τ).loc main_arg6) (ix1 k))
    (hs : ∀ l, a (ix2 x l) = crow m c t r l + shift m c l) (k : Fin 512) :
    gated (normed (centred a) g o) (ix2 x k)
      = Cert.RefEvenMixerIdeal.Read.val_main_v270 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (ix3 (⟨t.val / 16, by have := lt_grid t; omega⟩ : Fin 4) (⟨t.val % 16 * 512 + r.val, by omega⟩ : Fin 8192) k) := by
  rw [Cert.RefEvenMixerIdeal.Row.branch, gated_at]
  have hn : normed (centred a) g o (ix2 x k)
      = layer (cen fun l => Cert.RefEvenMixerIdeal.Read.val_main_v242 (m ((c : Thread nD τ).loc main_arg0)) (m ((c : Thread nD τ).loc main_arg1)) (m ((c : Thread nD τ).loc main_arg2)) (m ((c : Thread nD τ).loc main_arg3)) (ix3 (⟨t.val / 16, by have := lt_grid t; omega⟩ : Fin 4) (⟨t.val % 16 * 512 + r.val, by omega⟩ : Fin 8192) l)
          + m ((c : Thread nD τ).loc main_arg4) (ix1 l)) (fun l => m ((c : Thread nD τ).loc main_arg5) (ix1 l)) (fun l => m ((c : Thread nD τ).loc main_arg6) (ix1 l)) k := by
    rw [normed_at]
    simp only [centred_at, hs, hg, ho]
    rfl
  rw [hn]

/-- The sum of the taps over the scratch's rows is the reference's convolved row and the bias. -/
theorem summed (c : Dev nD) (t : Fin cfg0.N) (r : Fin 512) (x : Fin 64) (b w0 w1 w2 w3 w4 w5 w6 w7 w8 w9 w10 w11 w12 w13 w14 w15 w16 w17 w18 w19 w20 w21 w22 w23 w24 w25 w26 w27 w28 w29 w30 : Vec Ideal S1x512 .f32) (c0 c1 c2 c3 c4 c5 c6 c7 c8 c9 c10 c11 c12 c13 c14 c15 c16 c17 c18 c19 c20 c21 c22 c23 c24 c25 c26 c27 c28 c29 c30 : Vec Ideal S64x512 .f32)
    (hb : ∀ k, b (ix2 0 k) = shift m c k)
    (hw0 : ∀ k, w0 (ix2 0 k) = wt m c 30 k)
    (hw1 : ∀ k, w1 (ix2 0 k) = wt m c 29 k)
    (hw2 : ∀ k, w2 (ix2 0 k) = wt m c 28 k)
    (hw3 : ∀ k, w3 (ix2 0 k) = wt m c 27 k)
    (hw4 : ∀ k, w4 (ix2 0 k) = wt m c 26 k)
    (hw5 : ∀ k, w5 (ix2 0 k) = wt m c 25 k)
    (hw6 : ∀ k, w6 (ix2 0 k) = wt m c 24 k)
    (hw7 : ∀ k, w7 (ix2 0 k) = wt m c 23 k)
    (hw8 : ∀ k, w8 (ix2 0 k) = wt m c 22 k)
    (hw9 : ∀ k, w9 (ix2 0 k) = wt m c 21 k)
    (hw10 : ∀ k, w10 (ix2 0 k) = wt m c 20 k)
    (hw11 : ∀ k, w11 (ix2 0 k) = wt m c 19 k)
    (hw12 : ∀ k, w12 (ix2 0 k) = wt m c 18 k)
    (hw13 : ∀ k, w13 (ix2 0 k) = wt m c 17 k)
    (hw14 : ∀ k, w14 (ix2 0 k) = wt m c 16 k)
    (hw15 : ∀ k, w15 (ix2 0 k) = wt m c 15 k)
    (hw16 : ∀ k, w16 (ix2 0 k) = wt m c 14 k)
    (hw17 : ∀ k, w17 (ix2 0 k) = wt m c 13 k)
    (hw18 : ∀ k, w18 (ix2 0 k) = wt m c 12 k)
    (hw19 : ∀ k, w19 (ix2 0 k) = wt m c 11 k)
    (hw20 : ∀ k, w20 (ix2 0 k) = wt m c 10 k)
    (hw21 : ∀ k, w21 (ix2 0 k) = wt m c 9 k)
    (hw22 : ∀ k, w22 (ix2 0 k) = wt m c 8 k)
    (hw23 : ∀ k, w23 (ix2 0 k) = wt m c 7 k)
    (hw24 : ∀ k, w24 (ix2 0 k) = wt m c 6 k)
    (hw25 : ∀ k, w25 (ix2 0 k) = wt m c 5 k)
    (hw26 : ∀ k, w26 (ix2 0 k) = wt m c 4 k)
    (hw27 : ∀ k, w27 (ix2 0 k) = wt m c 3 k)
    (hw28 : ∀ k, w28 (ix2 0 k) = wt m c 2 k)
    (hw29 : ∀ k, w29 (ix2 0 k) = wt m c 1 k)
    (hw30 : ∀ k, w30 (ix2 0 k) = wt m c 0 k)
    (hc0 : ∀ k, c0 (ix2 x k) = tap m c t 30 r k)
    (hc1 : ∀ k, c1 (ix2 x k) = tap m c t 29 r k)
    (hc2 : ∀ k, c2 (ix2 x k) = tap m c t 28 r k)
    (hc3 : ∀ k, c3 (ix2 x k) = tap m c t 27 r k)
    (hc4 : ∀ k, c4 (ix2 x k) = tap m c t 26 r k)
    (hc5 : ∀ k, c5 (ix2 x k) = tap m c t 25 r k)
    (hc6 : ∀ k, c6 (ix2 x k) = tap m c t 24 r k)
    (hc7 : ∀ k, c7 (ix2 x k) = tap m c t 23 r k)
    (hc8 : ∀ k, c8 (ix2 x k) = tap m c t 22 r k)
    (hc9 : ∀ k, c9 (ix2 x k) = tap m c t 21 r k)
    (hc10 : ∀ k, c10 (ix2 x k) = tap m c t 20 r k)
    (hc11 : ∀ k, c11 (ix2 x k) = tap m c t 19 r k)
    (hc12 : ∀ k, c12 (ix2 x k) = tap m c t 18 r k)
    (hc13 : ∀ k, c13 (ix2 x k) = tap m c t 17 r k)
    (hc14 : ∀ k, c14 (ix2 x k) = tap m c t 16 r k)
    (hc15 : ∀ k, c15 (ix2 x k) = tap m c t 15 r k)
    (hc16 : ∀ k, c16 (ix2 x k) = tap m c t 14 r k)
    (hc17 : ∀ k, c17 (ix2 x k) = tap m c t 13 r k)
    (hc18 : ∀ k, c18 (ix2 x k) = tap m c t 12 r k)
    (hc19 : ∀ k, c19 (ix2 x k) = tap m c t 11 r k)
    (hc20 : ∀ k, c20 (ix2 x k) = tap m c t 10 r k)
    (hc21 : ∀ k, c21 (ix2 x k) = tap m c t 9 r k)
    (hc22 : ∀ k, c22 (ix2 x k) = tap m c t 8 r k)
    (hc23 : ∀ k, c23 (ix2 x k) = tap m c t 7 r k)
    (hc24 : ∀ k, c24 (ix2 x k) = tap m c t 6 r k)
    (hc25 : ∀ k, c25 (ix2 x k) = tap m c t 5 r k)
    (hc26 : ∀ k, c26 (ix2 x k) = tap m c t 4 r k)
    (hc27 : ∀ k, c27 (ix2 x k) = tap m c t 3 r k)
    (hc28 : ∀ k, c28 (ix2 x k) = tap m c t 2 r k)
    (hc29 : ∀ k, c29 (ix2 x k) = tap m c t 1 r k)
    (hc30 : ∀ k, c30 (ix2 x k) = tap m c t 0 r k) (k : Fin 512) :
    (tapped (tapped (tapped (tapped (tapped (tapped (tapped (tapped (tapped (tapped (tapped (tapped (tapped (tapped (tapped (tapped (tapped (tapped (tapped (tapped (tapped (tapped (tapped (tapped (tapped (tapped (tapped (tapped (tapped (tapped (tapped (begun b) w0 c0) w1 c1) w2 c2) w3 c3) w4 c4) w5 c5) w6 c6) w7 c7) w8 c8) w9 c9) w10 c10) w11 c11) w12 c12) w13 c13) w14 c14) w15 c15) w16 c16) w17 c17) w18 c18) w19 c19) w20 c20) w21 c21) w22 c22) w23 c23) w24 c24) w25 c25) w26 c26) w27 c27) w28 c28) w29 c29) w30 c30) (ix2 x k) = crow m c t r k + shift m c k := by
  rw [convolved]
  refine Eq.trans (tap_step _ w30 c30 x k _ _ _ (tap_step _ w29 c29 x k _ _ _ (tap_step _ w28 c28 x k _ _ _ (tap_step _ w27 c27 x k _ _ _ (tap_step _ w26 c26 x k _ _ _ (tap_step _ w25 c25 x k _ _ _ (tap_step _ w24 c24 x k _ _ _ (tap_step _ w23 c23 x k _ _ _ (tap_step _ w22 c22 x k _ _ _ (tap_step _ w21 c21 x k _ _ _ (tap_step _ w20 c20 x k _ _ _ (tap_step _ w19 c19 x k _ _ _ (tap_step _ w18 c18 x k _ _ _ (tap_step _ w17 c17 x k _ _ _ (tap_step _ w16 c16 x k _ _ _ (tap_step _ w15 c15 x k _ _ _ (tap_step _ w14 c14 x k _ _ _ (tap_step _ w13 c13 x k _ _ _ (tap_step _ w12 c12 x k _ _ _ (tap_step _ w11 c11 x k _ _ _ (tap_step _ w10 c10 x k _ _ _ (tap_step _ w9 c9 x k _ _ _ (tap_step _ w8 c8 x k _ _ _ (tap_step _ w7 c7 x k _ _ _ (tap_step _ w6 c6 x k _ _ _ (tap_step _ w5 c5 x k _ _ _ (tap_step _ w4 c4 x k _ _ _ (tap_step _ w3 c3 x k _ _ _ (tap_step _ w2 c2 x k _ _ _ (tap_step _ w1 c1 x k _ _ _ (tap_step _ w0 c0 x k _ _ _ (tap_start b x k _ (hb k)) (hw0 k) (hc0 k)) (hw1 k) (hc1 k)) (hw2 k) (hc2 k)) (hw3 k) (hc3 k)) (hw4 k) (hc4 k)) (hw5 k) (hc5 k)) (hw6 k) (hc6 k)) (hw7 k) (hc7 k)) (hw8 k) (hc8 k)) (hw9 k) (hc9 k)) (hw10 k) (hc10 k)) (hw11 k) (hc11 k)) (hw12 k) (hc12 k)) (hw13 k) (hc13 k)) (hw14 k) (hc14 k)) (hw15 k) (hc15 k)) (hw16 k) (hc16 k)) (hw17 k) (hc17 k)) (hw18 k) (hc18 k)) (hw19 k) (hc19 k)) (hw20 k) (hc20 k)) (hw21 k) (hc21 k)) (hw22 k) (hc22 k)) (hw23 k) (hc23 k)) (hw24 k) (hc24 k)) (hw25 k) (hc25 k)) (hw26 k) (hc26 k)) (hw27 k) (hc27 k)) (hw28 k) (hc28 k)) (hw29 k) (hc29 k)) (hw30 k) (hc30 k)) ?_
  exact reorder (shift m c k) (wt m c 0 k * tap m c t 0 r k) (wt m c 1 k * tap m c t 1 r k) (wt m c 2 k * tap m c t 2 r k) (wt m c 3 k * tap m c t 3 r k) (wt m c 4 k * tap m c t 4 r k) (wt m c 5 k * tap m c t 5 r k) (wt m c 6 k * tap m c t 6 r k) (wt m c 7 k * tap m c t 7 r k) (wt m c 8 k * tap m c t 8 r k) (wt m c 9 k * tap m c t 9 r k) (wt m c 10 k * tap m c t 10 r k) (wt m c 11 k * tap m c t 11 r k) (wt m c 12 k * tap m c t 12 r k) (wt m c 13 k * tap m c t 13 r k) (wt m c 14 k * tap m c t 14 r k) (wt m c 15 k * tap m c t 15 r k) (wt m c 16 k * tap m c t 16 r k) (wt m c 17 k * tap m c t 17 r k) (wt m c 18 k * tap m c t 18 r k) (wt m c 19 k * tap m c t 19 r k) (wt m c 20 k * tap m c t 20 r k) (wt m c 21 k * tap m c t 21 r k) (wt m c 22 k * tap m c t 22 r k) (wt m c 23 k * tap m c t 23 r k) (wt m c 24 k * tap m c t 24 r k) (wt m c 25 k * tap m c t 25 r k) (wt m c 26 k * tap m c t 26 r k) (wt m c 27 k * tap m c t 27 r k) (wt m c 28 k * tap m c t 28 r k) (wt m c 29 k * tap m c t 29 r k) (wt m c 30 k * tap m c t 30 r k)

end Cert.EvenMixerIdeal.Row

end
end
-- ==== Proof.EvenAtt.lean ====
module

public import proofs.«01_k».proof.Proof.EvenScr
public import proofs.«01_k».proof.Proof.EvenPay

set_option maxRecDepth 16384

@[expose] public section
noncomputable section

open Idealize.ShloMosaic Idealize.ShloMosaic.TcCoe Idealize.SL.Sem
open Idealize.ShloMosaic.Pipeline (Dat)

/-! The even layer's attended tiles against the reference's. -/

namespace Cert.EvenMixerIdeal.Row
open Cert.EvenMixerIdeal Cert.EvenMixerIdeal.Gen Cert.Spec
open Cert.RefEvenMixerIdeal.Row (tilt bend cand win attended heads)

variable (m : (ℓ : Loc nD τ sig) → Buf (Elt Ideal) ℓ)

/-- A sum over 128 lanes is one over the low lanes and one over the high lanes. -/
theorem lanes (f : Fin 128 → EReal) : ∑ d, f d = (∑ d : Fin 64, f ⟨d.val, by omega⟩) + ∑ d : Fin 64, f ⟨64 + d.val, by omega⟩ :=
  Fin.sum_univ_add (a := 64) (b := 64) f

/-- A sum over two heads' rows is one over each. -/
theorem pairs (f : Fin 512 → EReal) : ∑ x, f x = (∑ x : Fin 256, f ⟨x.val, by omega⟩) + ∑ x : Fin 256, f ⟨256 + x.val, by omega⟩ :=
  Fin.sum_univ_add (a := 256) (b := 256) f

/-- A projected entry at equal indices. -/
theorem zrow_congr (c : Dev nD) (n n' : Fin 32768) (k k' : Fin 1792) (hn : n.val = n'.val) (hk : k.val = k'.val) : zrow m c n k = zrow m c n' k' :=
  congrArg₂ (zrow m c) (Fin.ext hn) (Fin.ext hk)

/-- The keys' and values' scratch holds the window's rows. -/
theorem kv_win (c : Dev nD) (t : Fin cfg0.N) (i : Fin 640) (j : Fin 1024) (n : Fin 64) (x : Fin 256) (k : Fin 1792)
    (hn : n.val * 128 + x.val = t.val % 16 * 512 + i.val) (hk : k.val = 1536 + 128 * (j.val / 512) + 64 * (j.val / 128 % 4 / 2) + j.val % 64)
    (hj : j.val % 128 < 64 ∧ j.val / 128 % 2 = 0 ∨ 64 ≤ j.val % 128 ∧ j.val / 128 % 2 = 1) :
    kv m c t i j = win (m ((c : Thread nD τ).loc main_arg0)) (m ((c : Thread nD τ).loc main_arg1)) (m ((c : Thread nD τ).loc main_arg2))
      ⟨t.val / 16, by have := lt_grid t; omega⟩ n x k := by
  rw [win]
  by_cases h : 128 ≤ n.val * 128 + x.val
  · rw [dif_pos h]
    exact (kv_row m c t i j _ k (by omega) (by show t.val / 16 * 8192 + (n.val * 128 + x.val - 128) + 128 = t.val * 512 + i.val; omega) hk hj).symm
  · rw [dif_neg h]
    exact kv_zero m c t i j (.inl (by omega))

/-- A weight for given scores. -/
theorem weight_of (q : Vec Ideal S128x128 .bf16) (k : Vec Ideal S256x128 .bf16) (b : Vec Ideal S1x128x256 .f32) (s : Vec Ideal S1x1 .f32)
    (i : Fin 128) (f : Fin 256 → EReal) (u : EReal) (hf : ∀ x, (∑ e, q (ix2 i e) * k (ix2 x e)) + b (ix3 0 i x) = f x) (hu : s (ix2 0 0) = u) (x : Fin 256) :
    k0_pay89 q k b s (ix2 i x) = Ideal.exp (f x - peak f u) := by
  rw [weight_at]
  simp only [hf, hu]

/-- One over the total weight for given scores. -/
theorem share_of (q : Vec Ideal S128x128 .bf16) (k : Vec Ideal S256x128 .bf16) (b : Vec Ideal S1x128x256 .f32) (s : Vec Ideal S1x1 .f32)
    (i : Fin 128) (f : Fin 256 → EReal) (u : EReal) (hf : ∀ x, (∑ e, q (ix2 i e) * k (ix2 x e)) + b (ix3 0 i x) = f x) (hu : s (ix2 0 0) = u) :
    k0_pay90 q k b s (ix2 i 0) = share f u := by
  rw [share_at]
  simp only [hf, hu]

/-- A tile from its two heads' scores, values and sinks: each head's attention in its own lanes. -/
theorem tile_of (q : Vec Ideal S128x128 .bf16) (k0 : Vec Ideal S256x128 .bf16) (b0 : Vec Ideal S1x128x256 .f32) (s0 : Vec Ideal S1x1 .f32)
    (k1 : Vec Ideal S256x128 .bf16) (b1 : Vec Ideal S1x128x256 .f32) (s1 : Vec Ideal S1x1 .f32) (v0 v1 : Vec Ideal S256x128 .bf16) (i e : Fin 128)
    (f0 f1 w : Fin 256 → EReal) (u0 u1 : EReal)
    (hf0 : ∀ x, (∑ e, q (ix2 i e) * k0 (ix2 x e)) + b0 (ix3 0 i x) = f0 x) (hu0 : s0 (ix2 0 0) = u0)
    (hf1 : ∀ x, (∑ e, q (ix2 i e) * k1 (ix2 x e)) + b1 (ix3 0 i x) = f1 x) (hu1 : s1 (ix2 0 0) = u1)
    (h0 : ∀ x, v0 (ix2 x e) = if e.val < 64 then w x else 0) (h1 : ∀ x, v1 (ix2 x e) = if e.val < 64 then 0 else w x) :
    tile q k0 b0 s0 k1 b1 s1 v0 v1 (ix2 i e) = if e.val < 64 then attend f0 w u0 else attend f1 w u1 := by
  rw [tile_at, pairs]
  have ha : ∀ x : Fin 256, weights (k0_pay89 q k0 b0 s0) (k0_pay89 q k1 b1 s1) (ix2 i ⟨x.val, by omega⟩) * values v0 v1 (ix2 ⟨x.val, by omega⟩ e)
      = Ideal.exp (f0 x - peak f0 u0) * v0 (ix2 x e) := by
    intro x
    rw [weights_at, values_at, dif_pos x.isLt, dif_pos x.isLt, weight_of q k0 b0 s0 i f0 u0 hf0 hu0]
  have hb : ∀ x : Fin 256, weights (k0_pay89 q k0 b0 s0) (k0_pay89 q k1 b1 s1) (ix2 i ⟨256 + x.val, by omega⟩) * values v0 v1 (ix2 ⟨256 + x.val, by omega⟩ e)
      = Ideal.exp (f1 x - peak f1 u1) * v1 (ix2 x e) := by
    intro x
    rw [weights_at, values_at, dif_neg (by show ¬ 256 + x.val < 256; omega), dif_neg (by show ¬ 256 + x.val < 256; omega)]
    have hx : (⟨256 + x.val - 256, by omega⟩ : Fin 256) = x := Fin.ext (by show 256 + x.val - 256 = x.val; omega)
    exact congrArg₂ (fun a b : EReal => a * b) ((congrArg (fun x => k0_pay89 q k1 b1 s1 (ix2 i x)) hx).trans (weight_of q k1 b1 s1 i f1 u1 hf1 hu1 x)) (congrArg (fun x => v1 (ix2 x e)) hx)
  rw [Finset.sum_congr rfl fun x _ => ha x, Finset.sum_congr rfl fun x _ => hb x, share_of q k0 b0 s0 i f0 u0 hf0 hu0, share_of q k1 b1 s1 i f1 u1 hf1 hu1]
  by_cases he : e.val < 64
  · simp only [h0, h1, if_pos he, mul_zero, Finset.sum_const_zero, add_zero]
    rfl
  · simp only [h0, h1, if_neg he, mul_zero, Finset.sum_const_zero, zero_add]
    rfl

/-- A tile of attended heads is the reference's. -/
theorem tiled (c : Dev nD) (t : Fin cfg0.N)
    (hg : ∀ i, IsReal (m ((c : Thread nD τ).loc main_arg1) i)) (hw : ∀ i, IsReal (m ((c : Thread nD τ).loc main_arg2) i))
    (hk : ∀ i, IsReal (m ((c : Thread nD τ).loc main_arg7) i))
    (blk pr a p u0 u1 w0 w1 h0 h1 : ℕ) (hblk : blk < 4) (hpr : pr < 4) (ha : a = 128 * blk) (hp : p = 128 * pr)
    (hu0 : u0 = 128 * (2 * (pr / 2))) (hu1 : u1 = 128 * (2 * (pr / 2) + 1)) (hw0 : w0 = 128 * (4 + 2 * (pr / 2))) (hw1 : w1 = 128 * (5 + 2 * (pr / 2)))
    (hh0 : h0 = 2 * pr) (hh1 : h1 = 2 * pr + 1)
    (q : Vec Ideal S128x128 .bf16) (k0 : Vec Ideal S256x128 .bf16) (b0 : Vec Ideal S1x128x256 .f32) (s0 : Vec Ideal S1x1 .f32)
    (k1 : Vec Ideal S256x128 .bf16) (b1 : Vec Ideal S1x128x256 .f32) (s1 : Vec Ideal S1x1 .f32) (v0 v1 : Vec Ideal S256x128 .bf16) (i e : Fin 128)
    (hQ : ∀ d : Fin 128, q (ix2 i d) = zrow m c ⟨t.val * 512 + (a + i.val), by have := lt_grid t; omega⟩ ⟨1024 + (p + d.val), by omega⟩ * Ideal.ofBits .f32 0x3E000000#32)
    (hK0 : ∀ (x : Fin 256) (d : Fin 128), k0 (ix2 x d) = kv m c t ⟨a + x.val, by omega⟩ ⟨u0 + d.val, by omega⟩)
    (hK1 : ∀ (x : Fin 256) (d : Fin 128), k1 (ix2 x d) = kv m c t ⟨a + x.val, by omega⟩ ⟨u1 + d.val, by omega⟩)
    (hV0 : ∀ (x : Fin 256) (d : Fin 128), v0 (ix2 x d) = kv m c t ⟨a + x.val, by omega⟩ ⟨w0 + d.val, by omega⟩)
    (hV1 : ∀ (x : Fin 256) (d : Fin 128), v1 (ix2 x d) = kv m c t ⟨a + x.val, by omega⟩ ⟨w1 + d.val, by omega⟩)
    (hB0 : ∀ x : Fin 256, b0 (ix3 0 i x) = bend (t.val % 16 * 4 + blk) h0 i x) (hB1 : ∀ x : Fin 256, b1 (ix3 0 i x) = bend (t.val % 16 * 4 + blk) h1 i x)
    (hS0 : s0 (ix2 0 0) = m ((c : Thread nD τ).loc main_arg7) (ix1 ⟨h0, by omega⟩)) (hS1 : s1 (ix2 0 0) = m ((c : Thread nD τ).loc main_arg7) (ix1 ⟨h1, by omega⟩)) :
    tile q k0 b0 s0 k1 b1 s1 v0 v1 (ix2 i e)
      = Cert.RefEvenMixerIdeal.Read.val_main_v361 (m ((c : Thread nD τ).loc main_arg0)) (m ((c : Thread nD τ).loc main_arg1)) (m ((c : Thread nD τ).loc main_arg2)) (m ((c : Thread nD τ).loc main_arg7))
          (ix3 (⟨t.val / 16, by have := lt_grid t; omega⟩ : Fin 4) (⟨t.val % 16 * 512 + (a + i.val), by omega⟩ : Fin 8192) (⟨p + e.val, by omega⟩ : Fin 512)) := by
  have ht := lt_grid t
  have hscore : ∀ (k : Vec Ideal S256x128 .bf16) (b : Vec Ideal S1x128x256 .f32) (u h z : ℕ) (hz : z < 2) (hu : u = 128 * (2 * (pr / 2) + z)) (hh : h = 2 * pr + z)
      (hK : ∀ (x : Fin 256) (d : Fin 128), k (ix2 x d) = kv m c t ⟨a + x.val, by omega⟩ ⟨u + d.val, by omega⟩)
      (hB : ∀ x : Fin 256, b (ix3 0 i x) = bend (t.val % 16 * 4 + blk) h i x) (x : Fin 256),
      (∑ e, q (ix2 i e) * k (ix2 x e)) + b (ix3 0 i x)
        = cand (m ((c : Thread nD τ).loc main_arg0)) (m ((c : Thread nD τ).loc main_arg1)) (m ((c : Thread nD τ).loc main_arg2))
            ⟨t.val / 16, by omega⟩ ⟨t.val % 16 * 4 + blk, by omega⟩ ⟨pr / 2, by omega⟩ ⟨2 * (pr % 2) + z, by omega⟩ i x := by
    intro k b u h z hz hu hh hK hB x
    rw [cand]
    refine congrArg₂ (fun a b : EReal => a + b) ?_ ((hB x).trans (congrArg (fun h => bend (t.val % 16 * 4 + blk) h i x) (by show h = pr / 2 * 4 + (2 * (pr % 2) + z); omega)))
    rw [lanes]
    have hz' : z = 0 ∨ z = 1 := by omega
    rcases hz' with hz0 | hz1
    · have hzero : ∀ d : Fin 64, q (ix2 i ⟨64 + d.val, by omega⟩) * k (ix2 x ⟨64 + d.val, by omega⟩) = 0 := by
        intro d
        rw [hK, kv_zero m c t _ _ (by show _ ∨ (u + (64 + d.val)) % 128 < 64 ∧ (u + (64 + d.val)) / 128 % 2 = 1 ∨ 64 ≤ (u + (64 + d.val)) % 128 ∧ (u + (64 + d.val)) / 128 % 2 = 0; omega), mul_zero]
      rw [Finset.sum_eq_zero (s := Finset.univ) (f := fun d : Fin 64 => q (ix2 i ⟨64 + d.val, by omega⟩) * k (ix2 x ⟨64 + d.val, by omega⟩)) fun d _ => hzero d, add_zero]
      refine Finset.sum_congr rfl fun d _ => congrArg₂ (fun a b : EReal => a * b) ((hQ _).trans (congrArg (fun a : EReal => a * Ideal.ofBits .f32 0x3E000000#32) ?_)) ((hK _ _).trans ?_)
      · exact zrow_congr m c _ _ _ _ (by show t.val * 512 + (a + i.val) = t.val / 16 * 8192 + ((t.val % 16 * 4 + blk) * 128 + i.val); omega)
          (by show 1024 + (p + d.val) = 1024 + (pr / 2 * 256 + (2 * (pr % 2) + z) * 64 + d.val); omega)
      · exact kv_win m c t _ _ ⟨t.val % 16 * 4 + blk, by omega⟩ x ⟨1536 + (pr / 2 * 64 + d.val), by omega⟩ (by show (t.val % 16 * 4 + blk) * 128 + x.val = t.val % 16 * 512 + (a + x.val); omega)
          (by show 1536 + (pr / 2 * 64 + d.val) = 1536 + 128 * ((u + d.val) / 512) + 64 * ((u + d.val) / 128 % 4 / 2) + (u + d.val) % 64; omega)
          (by show (u + d.val) % 128 < 64 ∧ (u + d.val) / 128 % 2 = 0 ∨ 64 ≤ (u + d.val) % 128 ∧ (u + d.val) / 128 % 2 = 1; omega)
    · have hzero : ∀ d : Fin 64, q (ix2 i ⟨d.val, by omega⟩) * k (ix2 x ⟨d.val, by omega⟩) = 0 := by
        intro d
        rw [hK, kv_zero m c t _ _ (by show _ ∨ (u + d.val) % 128 < 64 ∧ (u + d.val) / 128 % 2 = 1 ∨ 64 ≤ (u + d.val) % 128 ∧ (u + d.val) / 128 % 2 = 0; omega), mul_zero]
      rw [Finset.sum_eq_zero (s := Finset.univ) (f := fun d : Fin 64 => q (ix2 i ⟨d.val, by omega⟩) * k (ix2 x ⟨d.val, by omega⟩)) fun d _ => hzero d, zero_add]
      refine Finset.sum_congr rfl fun d _ => congrArg₂ (fun a b : EReal => a * b) ((hQ _).trans (congrArg (fun a : EReal => a * Ideal.ofBits .f32 0x3E000000#32) ?_)) ((hK _ _).trans ?_)
      · exact zrow_congr m c _ _ _ _ (by show t.val * 512 + (a + i.val) = t.val / 16 * 8192 + ((t.val % 16 * 4 + blk) * 128 + i.val); omega)
          (by show 1024 + (p + (64 + d.val)) = 1024 + (pr / 2 * 256 + (2 * (pr % 2) + z) * 64 + d.val); omega)
      · exact kv_win m c t _ _ ⟨t.val % 16 * 4 + blk, by omega⟩ x ⟨1536 + (pr / 2 * 64 + d.val), by omega⟩ (by show (t.val % 16 * 4 + blk) * 128 + x.val = t.val % 16 * 512 + (a + x.val); omega)
          (by show 1536 + (pr / 2 * 64 + d.val) = 1536 + 128 * ((u + (64 + d.val)) / 512) + 64 * ((u + (64 + d.val)) / 128 % 4 / 2) + (u + (64 + d.val)) % 64; omega)
          (by show (u + (64 + d.val)) % 128 < 64 ∧ (u + (64 + d.val)) / 128 % 2 = 0 ∨ 64 ≤ (u + (64 + d.val)) % 128 ∧ (u + (64 + d.val)) / 128 % 2 = 1; omega)
  have hval0 : ∀ x : Fin 256, v0 (ix2 x e) = if e.val < 64 then
      win (m ((c : Thread nD τ).loc main_arg0)) (m ((c : Thread nD τ).loc main_arg1)) (m ((c : Thread nD τ).loc main_arg2))
        ⟨t.val / 16, by omega⟩ ⟨t.val % 16 * 4 + blk, by omega⟩ x ⟨1664 + (pr / 2 * 64 + e.val % 64), by omega⟩ else 0 := by
    intro x
    rw [hV0]
    by_cases he : e.val < 64
    · rw [if_pos he]
      exact kv_win m c t _ _ ⟨t.val % 16 * 4 + blk, by omega⟩ x _ (by show (t.val % 16 * 4 + blk) * 128 + x.val = t.val % 16 * 512 + (a + x.val); omega)
        (by show 1664 + (pr / 2 * 64 + e.val % 64) = 1536 + 128 * ((w0 + e.val) / 512) + 64 * ((w0 + e.val) / 128 % 4 / 2) + (w0 + e.val) % 64; omega)
        (by show (w0 + e.val) % 128 < 64 ∧ (w0 + e.val) / 128 % 2 = 0 ∨ 64 ≤ (w0 + e.val) % 128 ∧ (w0 + e.val) / 128 % 2 = 1; omega)
    · rw [if_neg he]
      exact kv_zero m c t _ _ (by show _ ∨ (w0 + e.val) % 128 < 64 ∧ (w0 + e.val) / 128 % 2 = 1 ∨ 64 ≤ (w0 + e.val) % 128 ∧ (w0 + e.val) / 128 % 2 = 0; omega)
  have hval1 : ∀ x : Fin 256, v1 (ix2 x e) = if e.val < 64 then 0 else
      win (m ((c : Thread nD τ).loc main_arg0)) (m ((c : Thread nD τ).loc main_arg1)) (m ((c : Thread nD τ).loc main_arg2))
        ⟨t.val / 16, by omega⟩ ⟨t.val % 16 * 4 + blk, by omega⟩ x ⟨1664 + (pr / 2 * 64 + e.val % 64), by omega⟩ := by
    intro x
    rw [hV1]
    by_cases he : e.val < 64
    · rw [if_pos he]
      exact kv_zero m c t _ _ (by show _ ∨ (w1 + e.val) % 128 < 64 ∧ (w1 + e.val) / 128 % 2 = 1 ∨ 64 ≤ (w1 + e.val) % 128 ∧ (w1 + e.val) / 128 % 2 = 0; omega)
    · rw [if_neg he]
      exact kv_win m c t _ _ ⟨t.val % 16 * 4 + blk, by omega⟩ x _ (by show (t.val % 16 * 4 + blk) * 128 + x.val = t.val % 16 * 512 + (a + x.val); omega)
        (by show 1664 + (pr / 2 * 64 + e.val % 64) = 1536 + 128 * ((w1 + e.val) / 512) + 64 * ((w1 + e.val) / 128 % 4 / 2) + (w1 + e.val) % 64; omega)
        (by show (w1 + e.val) % 128 < 64 ∧ (w1 + e.val) / 128 % 2 = 0 ∨ 64 ≤ (w1 + e.val) % 128 ∧ (w1 + e.val) / 128 % 2 = 1; omega)
  refine (tile_of q k0 b0 s0 k1 b1 s1 v0 v1 i e _ _ _ _ _ (hscore k0 b0 u0 h0 0 (by omega) (by omega) (by omega) hK0 hB0) hS0
    (hscore k1 b1 u1 h1 1 (by omega) (by omega) (by omega) hK1 hB1) hS1 hval0 hval1).trans ?_
  have e1 : (⟨(t.val % 16 * 512 + (a + i.val)) / 128, by omega⟩ : Fin 64) = ⟨t.val % 16 * 4 + blk, by omega⟩ := Fin.ext (by show (t.val % 16 * 512 + (a + i.val)) / 128 = t.val % 16 * 4 + blk; omega)
  have e2 : (⟨(p + e.val) / 256, by omega⟩ : Fin 2) = ⟨pr / 2, by omega⟩ := Fin.ext (by show (p + e.val) / 256 = pr / 2; omega)
  have e3 : (⟨(p + e.val) % 64, by omega⟩ : Fin 64) = ⟨e.val % 64, by omega⟩ := Fin.ext (by show (p + e.val) % 64 = e.val % 64; omega)
  have e5 : (⟨(t.val % 16 * 512 + (a + i.val)) % 128, by omega⟩ : Fin 128) = i := Fin.ext (by show (t.val % 16 * 512 + (a + i.val)) % 128 = i.val; omega)
  rw [heads, e1, e2, e3, e5]
  by_cases he : e.val < 64
  · have e4 : (⟨(p + e.val) / 64 % 4, by omega⟩ : Fin 4) = ⟨2 * (pr % 2) + 0, by omega⟩ := Fin.ext (by show (p + e.val) / 64 % 4 = 2 * (pr % 2) + 0; omega)
    rw [if_pos he, e4, attended _ _ _ _ hg hw hk]
    exact congrArg (fun h => attend _ _ (m ((c : Thread nD τ).loc main_arg7) (ix1 h))) (Fin.ext (by show h0 = pr / 2 * 4 + (2 * (pr % 2) + 0); omega))
  · have e4 : (⟨(p + e.val) / 64 % 4, by omega⟩ : Fin 4) = ⟨2 * (pr % 2) + 1, by omega⟩ := Fin.ext (by show (p + e.val) / 64 % 4 = 2 * (pr % 2) + 1; omega)
    rw [if_neg he, e4, attended _ _ _ _ hg hw hk]
    exact congrArg (fun h => attend _ _ (m ((c : Thread nD τ).loc main_arg7) (ix1 h))) (Fin.ext (by show h1 = pr / 2 * 4 + (2 * (pr % 2) + 1); omega))

/-- After a point the convolution's scratch starts with the last gated rows of its block. -/
theorem cb_carried (c : Dev nD) (t : Fin cfg0.N) (i : Fin 32) (k : Fin 512) :
    (outsAt0 m c t.val t.isLt).2.1 (ix2 ⟨i.val, by omega⟩ k) = cb m c t ⟨512 + i.val, by omega⟩ k := by
  by_cases h : t.val % 16 = 0
  · rw [outsAt0_A m c t h]
    frame_out
    refine (Cert.Buf.canon_hit _ _ _ _ _ i k (by show i.val = 0 + i.val; omega) (by omega)).trans ?_
    rw [pay2]
    refine (Cert.Buf.readCov_at _ _ _ _ _ ⟨512 + i.val, by omega⟩ k rfl (by omega)).trans ?_
    exact cb_hit m c t _ _ _ (by show 32 ≤ 512 + i.val; omega)
  · rw [outsAt0_B m c t h]
    frame_out
    refine (Cert.Buf.canon_hit _ _ _ _ _ i k (by show i.val = 0 + i.val; omega) (by omega)).trans ?_
    rw [pay2]
    refine (Cert.Buf.readCov_at _ _ _ _ _ ⟨512 + i.val, by omega⟩ k rfl (by omega)).trans ?_
    exact cb_hit m c t _ _ _ (by show 32 ≤ 512 + i.val; omega)

/-- After a point the keys' and values' scratch starts with the last rows of its block. -/
theorem kv_carried (c : Dev nD) (t : Fin cfg0.N) (i : Fin 128) (j : Fin 1024) :
    (outsAt0 m c t.val t.isLt).2.2 (ix2 ⟨i.val, by omega⟩ j) = kv m c t ⟨512 + i.val, by omega⟩ j := by
  by_cases h : t.val % 16 = 0
  · rw [outsAt0_A m c t h]
    frame_out
    refine (Cert.Buf.canon_hit _ _ _ _ _ i j (by show i.val = 0 + i.val; omega) (by omega)).trans ?_
    rw [pay3]
    refine (Cert.Buf.readCov_at _ _ _ _ _ ⟨512 + i.val, by omega⟩ j rfl (by omega)).trans ?_
    exact kv_hit m c t _ _ _ (by show 128 ≤ 512 + i.val; omega)
  · rw [outsAt0_B m c t h]
    frame_out
    refine (Cert.Buf.canon_hit _ _ _ _ _ i j (by show i.val = 0 + i.val; omega) (by omega)).trans ?_
    rw [pay3]
    refine (Cert.Buf.readCov_at _ _ _ _ _ ⟨512 + i.val, by omega⟩ j rfl (by omega)).trans ?_
    exact kv_hit m c t _ _ _ (by show 128 ≤ 512 + i.val; omega)

end Cert.EvenMixerIdeal.Row

end
end
-- ==== Proof.EvenVal.lean ====
module

public import proofs.«01_k».proof.Proof.EvenMix
public import proofs.«01_k».proof.Proof.EvenConv
public import proofs.«01_k».proof.Proof.EvenAtt
public import proofs.«01_k».proof.Proof.EvenTile

set_option maxRecDepth 16384

@[expose] public section
noncomputable section

open Idealize.ShloMosaic Idealize.ShloMosaic.TcCoe Idealize.SL.Sem
open Idealize.ShloMosaic.Pipeline (Dat)

/-! The even layer's blocks and result array. -/

namespace Cert.EvenMixerIdeal.Row
open Cert.EvenMixerIdeal Cert.EvenMixerIdeal.Gen Cert.Spec
open Cert.RefEvenMixerIdeal.Row (tilt bend cand win attended heads)

variable (m : (ℓ : Loc nD τ sig) → Buf (Elt Ideal) ℓ)

/-- Past a batch's first group every row of the window counts. -/
theorem bent (c : Dev nD) (n : ℕ) (h : Fin 8) (i : Fin 128) (x : Fin 256) (hn : 1 ≤ n) :
    V m c main_v46 (ix3 ⟨h.val, by omega⟩ i x) = bend n h.val i x := by
  refine (entry8 m c h i x).trans ?_
  rw [bend]
  have he : ((i.val < x.val ∧ x.val ≤ i.val + 128) ∧ 128 ≤ n * 128 + x.val) ↔ (i.val < x.val ∧ x.val ≤ i.val + 128) := ⟨fun h => h.1, fun h => ⟨h, by omega⟩⟩
  simp only [he]

/-- In a batch's first group only the second half of the window counts. -/
theorem bent_first (c : Dev nD) (n : ℕ) (h : Fin 8) (i : Fin 128) (x : Fin 256) (hn : n = 0) :
    V m c main_v46 (ix3 ⟨8 + h.val, by omega⟩ i x) = bend n h.val i x := by
  refine (entry9 m c h i x).trans ?_
  rw [bend]
  have he : ((i.val < x.val ∧ x.val ≤ i.val + 128) ∧ 128 ≤ n * 128 + x.val) ↔ ((i.val < x.val ∧ x.val ≤ i.val + 128) ∧ 128 ≤ x.val) := ⟨fun h => ⟨h.1, by omega⟩, fun h => ⟨h.1, by omega⟩⟩
  simp only [he]

/-- The reference's convolved and gated rows at a point. -/
def left (c : Dev nD) (t : Fin cfg0.N) (r k : Fin 512) : EReal :=
  Cert.RefEvenMixerIdeal.Read.val_main_v270 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (ix3 (⟨t.val / 16, by have := lt_grid t; omega⟩ : Fin 4) (⟨t.val % 16 * 512 + r.val, by omega⟩ : Fin 8192) k)

/-- The reference's attended rows at a point. -/
def right (c : Dev nD) (t : Fin cfg0.N) (r k : Fin 512) : EReal :=
  Cert.RefEvenMixerIdeal.Read.val_main_v361 (m ((c : Thread nD τ).loc main_arg0)) (m ((c : Thread nD τ).loc main_arg1)) (m ((c : Thread nD τ).loc main_arg2)) (m ((c : Thread nD τ).loc main_arg7)) (ix3 (⟨t.val / 16, by have := lt_grid t; omega⟩ : Fin 4) (⟨t.val % 16 * 512 + r.val, by omega⟩ : Fin 8192) k)

/-- The attended rows at equal indices. -/
theorem right_at (c : Dev nD) (t : Fin cfg0.N) (r k : Fin 512) (n : Fin 8192) (l : Fin 512) (hn : n.val = t.val % 16 * 512 + r.val) (hl : l.val = k.val) :
    Cert.RefEvenMixerIdeal.Read.val_main_v361 (m ((c : Thread nD τ).loc main_arg0)) (m ((c : Thread nD τ).loc main_arg1)) (m ((c : Thread nD τ).loc main_arg2)) (m ((c : Thread nD τ).loc main_arg7)) (ix3 (⟨t.val / 16, by have := lt_grid t; omega⟩ : Fin 4) n l) = right m c t r k := by
  rw [right]
  exact congrArg₂ (fun n l => Cert.RefEvenMixerIdeal.Read.val_main_v361 (m ((c : Thread nD τ).loc main_arg0)) (m ((c : Thread nD τ).loc main_arg1)) (m ((c : Thread nD τ).loc main_arg2)) (m ((c : Thread nD τ).loc main_arg7)) (ix3 (⟨t.val / 16, by have := lt_grid t; omega⟩ : Fin 4) n l)) (Fin.ext hn) (Fin.ext hl)

/-- An entry of a block of the result: the input and the mixed rows' product with the last weights. -/
def whole (c : Dev nD) (t : Fin cfg0.N) (r : Fin 512) (j : Fin 1024) : EReal :=
  (show EReal from (m ((c : Thread nD τ).loc main_arg0)) (ix2 ⟨t.val * 512 + r.val, lt_row t r⟩ j)) + ∑ y : Fin 1024, (if h : y.val < 512 then left m c t r ⟨y.val, h⟩ else right m c t r ⟨y.val - 512, by omega⟩) * (show EReal from (m ((c : Thread nD τ).loc main_arg8)) (ix2 y j))

set_option maxHeartbeats 8000000 in
/-- A batch's first block of the result: the input and the mixed rows' product with the last weights. -/
theorem pointA (c : Dev nD) (t : Fin cfg0.N) (h : t.val % 16 = 0) (hg : ∀ i, IsReal (m ((c : Thread nD τ).loc main_arg1) i)) (hw : ∀ i, IsReal (m ((c : Thread nD τ).loc main_arg2) i))
    (hs : ∀ i, IsReal (m ((c : Thread nD τ).loc main_arg7) i)) (r : Fin 512) (j : Fin 1024) :
    (outsAt0 m c t.val t.isLt).1 (ix2 r j) = whole m c t r j := by
  have ht := lt_grid t
  rw [outsAt0_A m c t h]
  frame_out
  refine (pay4 _ _ _ _ _).trans ?_
  refine congrArg₂ (fun a b : EReal => a + b) (read0 m c t r j) (Finset.sum_congr rfl fun y _ => congrArg₂ (fun a b : EReal => a * b) ?_ (read9 m c t y j))
  refine mixed (left m c t) (right m c t) _ _ _ _ _ _ _ _ _ _ _ _ _ _ _ _ _ _ _ _ _ _ _ _ ?_ ?_ ?_ ?_ ?_ ?_ ?_ ?_ ?_ ?_ ?_ ?_ ?_ ?_ ?_ ?_ ?_ ?_ ?_ ?_ ?_ ?_ ?_ ?_ _ r y
  · intro x r k hr
    refine (congrFun (chunk0 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _) (ix2 x k)).trans ?_
    refine rowed m c t r x _ _ _ (fun k => read5 m c t k) (fun k => read6 m c t k) (fun l => ?_) k
    refine summed m c t r x _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (fun k => read4 m c t k) ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ l
    · exact fun k => wAt m c t 30 _ k (by omega)
    · exact fun k => wAt m c t 29 _ k (by omega)
    · exact fun k => wAt m c t 28 _ k (by omega)
    · exact fun k => wAt m c t 27 _ k (by omega)
    · exact fun k => wAt m c t 26 _ k (by omega)
    · exact fun k => wAt m c t 25 _ k (by omega)
    · exact fun k => wAt m c t 24 _ k (by omega)
    · exact fun k => wAt m c t 23 _ k (by omega)
    · exact fun k => wAt m c t 22 _ k (by omega)
    · exact fun k => wAt m c t 21 _ k (by omega)
    · exact fun k => wAt m c t 20 _ k (by omega)
    · exact fun k => wAt m c t 19 _ k (by omega)
    · exact fun k => wAt m c t 18 _ k (by omega)
    · exact fun k => wAt m c t 17 _ k (by omega)
    · exact fun k => wAt m c t 16 _ k (by omega)
    · exact fun k => wAt m c t 15 _ k (by omega)
    · exact fun k => wAt m c t 14 _ k (by omega)
    · exact fun k => wAt m c t 13 _ k (by omega)
    · exact fun k => wAt m c t 12 _ k (by omega)
    · exact fun k => wAt m c t 11 _ k (by omega)
    · exact fun k => wAt m c t 10 _ k (by omega)
    · exact fun k => wAt m c t 9 _ k (by omega)
    · exact fun k => wAt m c t 8 _ k (by omega)
    · exact fun k => wAt m c t 7 _ k (by omega)
    · exact fun k => wAt m c t 6 _ k (by omega)
    · exact fun k => wAt m c t 5 _ k (by omega)
    · exact fun k => wAt m c t 4 _ k (by omega)
    · exact fun k => wAt m c t 3 _ k (by omega)
    · exact fun k => wAt m c t 2 _ k (by omega)
    · exact fun k => wAt m c t 1 _ k (by omega)
    · exact fun k => wAt m c t 0 _ k (by omega)
    · exact fun k => (cbHi m c t _ 32 _ x k (by omega) (by omega)).trans (cb_tap m c t _ 30 r k (by show 32 + x.val = 2 + 30 + r.val; omega))
    · exact fun k => (cbLoA m c t h 31 _ x k (by omega)).trans (cb_tap m c t _ 29 r k (by show 31 + x.val = 2 + 29 + r.val; omega))
    · exact fun k => (cbLoA m c t h 30 _ x k (by omega)).trans (cb_tap m c t _ 28 r k (by show 30 + x.val = 2 + 28 + r.val; omega))
    · exact fun k => (cbLoA m c t h 29 _ x k (by omega)).trans (cb_tap m c t _ 27 r k (by show 29 + x.val = 2 + 27 + r.val; omega))
    · exact fun k => (cbLoA m c t h 28 _ x k (by omega)).trans (cb_tap m c t _ 26 r k (by show 28 + x.val = 2 + 26 + r.val; omega))
    · exact fun k => (cbLoA m c t h 27 _ x k (by omega)).trans (cb_tap m c t _ 25 r k (by show 27 + x.val = 2 + 25 + r.val; omega))
    · exact fun k => (cbLoA m c t h 26 _ x k (by omega)).trans (cb_tap m c t _ 24 r k (by show 26 + x.val = 2 + 24 + r.val; omega))
    · exact fun k => (cbLoA m c t h 25 _ x k (by omega)).trans (cb_tap m c t _ 23 r k (by show 25 + x.val = 2 + 23 + r.val; omega))
    · exact fun k => (cbLoA m c t h 24 _ x k (by omega)).trans (cb_tap m c t _ 22 r k (by show 24 + x.val = 2 + 22 + r.val; omega))
    · exact fun k => (cbLoA m c t h 23 _ x k (by omega)).trans (cb_tap m c t _ 21 r k (by show 23 + x.val = 2 + 21 + r.val; omega))
    · exact fun k => (cbLoA m c t h 22 _ x k (by omega)).trans (cb_tap m c t _ 20 r k (by show 22 + x.val = 2 + 20 + r.val; omega))
    · exact fun k => (cbLoA m c t h 21 _ x k (by omega)).trans (cb_tap m c t _ 19 r k (by show 21 + x.val = 2 + 19 + r.val; omega))
    · exact fun k => (cbLoA m c t h 20 _ x k (by omega)).trans (cb_tap m c t _ 18 r k (by show 20 + x.val = 2 + 18 + r.val; omega))
    · exact fun k => (cbLoA m c t h 19 _ x k (by omega)).trans (cb_tap m c t _ 17 r k (by show 19 + x.val = 2 + 17 + r.val; omega))
    · exact fun k => (cbLoA m c t h 18 _ x k (by omega)).trans (cb_tap m c t _ 16 r k (by show 18 + x.val = 2 + 16 + r.val; omega))
    · exact fun k => (cbLoA m c t h 17 _ x k (by omega)).trans (cb_tap m c t _ 15 r k (by show 17 + x.val = 2 + 15 + r.val; omega))
    · exact fun k => (cbLoA m c t h 16 _ x k (by omega)).trans (cb_tap m c t _ 14 r k (by show 16 + x.val = 2 + 14 + r.val; omega))
    · exact fun k => (cbLoA m c t h 15 _ x k (by omega)).trans (cb_tap m c t _ 13 r k (by show 15 + x.val = 2 + 13 + r.val; omega))
    · exact fun k => (cbLoA m c t h 14 _ x k (by omega)).trans (cb_tap m c t _ 12 r k (by show 14 + x.val = 2 + 12 + r.val; omega))
    · exact fun k => (cbLoA m c t h 13 _ x k (by omega)).trans (cb_tap m c t _ 11 r k (by show 13 + x.val = 2 + 11 + r.val; omega))
    · exact fun k => (cbLoA m c t h 12 _ x k (by omega)).trans (cb_tap m c t _ 10 r k (by show 12 + x.val = 2 + 10 + r.val; omega))
    · exact fun k => (cbLoA m c t h 11 _ x k (by omega)).trans (cb_tap m c t _ 9 r k (by show 11 + x.val = 2 + 9 + r.val; omega))
    · exact fun k => (cbLoA m c t h 10 _ x k (by omega)).trans (cb_tap m c t _ 8 r k (by show 10 + x.val = 2 + 8 + r.val; omega))
    · exact fun k => (cbLoA m c t h 9 _ x k (by omega)).trans (cb_tap m c t _ 7 r k (by show 9 + x.val = 2 + 7 + r.val; omega))
    · exact fun k => (cbLoA m c t h 8 _ x k (by omega)).trans (cb_tap m c t _ 6 r k (by show 8 + x.val = 2 + 6 + r.val; omega))
    · exact fun k => (cbLoA m c t h 7 _ x k (by omega)).trans (cb_tap m c t _ 5 r k (by show 7 + x.val = 2 + 5 + r.val; omega))
    · exact fun k => (cbLoA m c t h 6 _ x k (by omega)).trans (cb_tap m c t _ 4 r k (by show 6 + x.val = 2 + 4 + r.val; omega))
    · exact fun k => (cbLoA m c t h 5 _ x k (by omega)).trans (cb_tap m c t _ 3 r k (by show 5 + x.val = 2 + 3 + r.val; omega))
    · exact fun k => (cbLoA m c t h 4 _ x k (by omega)).trans (cb_tap m c t _ 2 r k (by show 4 + x.val = 2 + 2 + r.val; omega))
    · exact fun k => (cbLoA m c t h 3 _ x k (by omega)).trans (cb_tap m c t _ 1 r k (by show 3 + x.val = 2 + 1 + r.val; omega))
    · exact fun k => (cbLoA m c t h 2 _ x k (by omega)).trans (cb_tap m c t _ 0 r k (by show 2 + x.val = 2 + 0 + r.val; omega))
  · intro x r k hr
    refine (congrFun (chunk1 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _) (ix2 x k)).trans ?_
    refine rowed m c t r x _ _ _ (fun k => read5 m c t k) (fun k => read6 m c t k) (fun l => ?_) k
    refine summed m c t r x _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (fun k => read4 m c t k) ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ l
    · exact fun k => wAt m c t 30 _ k (by omega)
    · exact fun k => wAt m c t 29 _ k (by omega)
    · exact fun k => wAt m c t 28 _ k (by omega)
    · exact fun k => wAt m c t 27 _ k (by omega)
    · exact fun k => wAt m c t 26 _ k (by omega)
    · exact fun k => wAt m c t 25 _ k (by omega)
    · exact fun k => wAt m c t 24 _ k (by omega)
    · exact fun k => wAt m c t 23 _ k (by omega)
    · exact fun k => wAt m c t 22 _ k (by omega)
    · exact fun k => wAt m c t 21 _ k (by omega)
    · exact fun k => wAt m c t 20 _ k (by omega)
    · exact fun k => wAt m c t 19 _ k (by omega)
    · exact fun k => wAt m c t 18 _ k (by omega)
    · exact fun k => wAt m c t 17 _ k (by omega)
    · exact fun k => wAt m c t 16 _ k (by omega)
    · exact fun k => wAt m c t 15 _ k (by omega)
    · exact fun k => wAt m c t 14 _ k (by omega)
    · exact fun k => wAt m c t 13 _ k (by omega)
    · exact fun k => wAt m c t 12 _ k (by omega)
    · exact fun k => wAt m c t 11 _ k (by omega)
    · exact fun k => wAt m c t 10 _ k (by omega)
    · exact fun k => wAt m c t 9 _ k (by omega)
    · exact fun k => wAt m c t 8 _ k (by omega)
    · exact fun k => wAt m c t 7 _ k (by omega)
    · exact fun k => wAt m c t 6 _ k (by omega)
    · exact fun k => wAt m c t 5 _ k (by omega)
    · exact fun k => wAt m c t 4 _ k (by omega)
    · exact fun k => wAt m c t 3 _ k (by omega)
    · exact fun k => wAt m c t 2 _ k (by omega)
    · exact fun k => wAt m c t 1 _ k (by omega)
    · exact fun k => wAt m c t 0 _ k (by omega)
    · exact fun k => (cbHi m c t _ 96 _ x k (by omega) (by omega)).trans (cb_tap m c t _ 30 r k (by show 96 + x.val = 2 + 30 + r.val; omega))
    · exact fun k => (cbHi m c t _ 95 _ x k (by omega) (by omega)).trans (cb_tap m c t _ 29 r k (by show 95 + x.val = 2 + 29 + r.val; omega))
    · exact fun k => (cbHi m c t _ 94 _ x k (by omega) (by omega)).trans (cb_tap m c t _ 28 r k (by show 94 + x.val = 2 + 28 + r.val; omega))
    · exact fun k => (cbHi m c t _ 93 _ x k (by omega) (by omega)).trans (cb_tap m c t _ 27 r k (by show 93 + x.val = 2 + 27 + r.val; omega))
    · exact fun k => (cbHi m c t _ 92 _ x k (by omega) (by omega)).trans (cb_tap m c t _ 26 r k (by show 92 + x.val = 2 + 26 + r.val; omega))
    · exact fun k => (cbHi m c t _ 91 _ x k (by omega) (by omega)).trans (cb_tap m c t _ 25 r k (by show 91 + x.val = 2 + 25 + r.val; omega))
    · exact fun k => (cbHi m c t _ 90 _ x k (by omega) (by omega)).trans (cb_tap m c t _ 24 r k (by show 90 + x.val = 2 + 24 + r.val; omega))
    · exact fun k => (cbHi m c t _ 89 _ x k (by omega) (by omega)).trans (cb_tap m c t _ 23 r k (by show 89 + x.val = 2 + 23 + r.val; omega))
    · exact fun k => (cbHi m c t _ 88 _ x k (by omega) (by omega)).trans (cb_tap m c t _ 22 r k (by show 88 + x.val = 2 + 22 + r.val; omega))
    · exact fun k => (cbHi m c t _ 87 _ x k (by omega) (by omega)).trans (cb_tap m c t _ 21 r k (by show 87 + x.val = 2 + 21 + r.val; omega))
    · exact fun k => (cbHi m c t _ 86 _ x k (by omega) (by omega)).trans (cb_tap m c t _ 20 r k (by show 86 + x.val = 2 + 20 + r.val; omega))
    · exact fun k => (cbHi m c t _ 85 _ x k (by omega) (by omega)).trans (cb_tap m c t _ 19 r k (by show 85 + x.val = 2 + 19 + r.val; omega))
    · exact fun k => (cbHi m c t _ 84 _ x k (by omega) (by omega)).trans (cb_tap m c t _ 18 r k (by show 84 + x.val = 2 + 18 + r.val; omega))
    · exact fun k => (cbHi m c t _ 83 _ x k (by omega) (by omega)).trans (cb_tap m c t _ 17 r k (by show 83 + x.val = 2 + 17 + r.val; omega))
    · exact fun k => (cbHi m c t _ 82 _ x k (by omega) (by omega)).trans (cb_tap m c t _ 16 r k (by show 82 + x.val = 2 + 16 + r.val; omega))
    · exact fun k => (cbHi m c t _ 81 _ x k (by omega) (by omega)).trans (cb_tap m c t _ 15 r k (by show 81 + x.val = 2 + 15 + r.val; omega))
    · exact fun k => (cbHi m c t _ 80 _ x k (by omega) (by omega)).trans (cb_tap m c t _ 14 r k (by show 80 + x.val = 2 + 14 + r.val; omega))
    · exact fun k => (cbHi m c t _ 79 _ x k (by omega) (by omega)).trans (cb_tap m c t _ 13 r k (by show 79 + x.val = 2 + 13 + r.val; omega))
    · exact fun k => (cbHi m c t _ 78 _ x k (by omega) (by omega)).trans (cb_tap m c t _ 12 r k (by show 78 + x.val = 2 + 12 + r.val; omega))
    · exact fun k => (cbHi m c t _ 77 _ x k (by omega) (by omega)).trans (cb_tap m c t _ 11 r k (by show 77 + x.val = 2 + 11 + r.val; omega))
    · exact fun k => (cbHi m c t _ 76 _ x k (by omega) (by omega)).trans (cb_tap m c t _ 10 r k (by show 76 + x.val = 2 + 10 + r.val; omega))
    · exact fun k => (cbHi m c t _ 75 _ x k (by omega) (by omega)).trans (cb_tap m c t _ 9 r k (by show 75 + x.val = 2 + 9 + r.val; omega))
    · exact fun k => (cbHi m c t _ 74 _ x k (by omega) (by omega)).trans (cb_tap m c t _ 8 r k (by show 74 + x.val = 2 + 8 + r.val; omega))
    · exact fun k => (cbHi m c t _ 73 _ x k (by omega) (by omega)).trans (cb_tap m c t _ 7 r k (by show 73 + x.val = 2 + 7 + r.val; omega))
    · exact fun k => (cbHi m c t _ 72 _ x k (by omega) (by omega)).trans (cb_tap m c t _ 6 r k (by show 72 + x.val = 2 + 6 + r.val; omega))
    · exact fun k => (cbHi m c t _ 71 _ x k (by omega) (by omega)).trans (cb_tap m c t _ 5 r k (by show 71 + x.val = 2 + 5 + r.val; omega))
    · exact fun k => (cbHi m c t _ 70 _ x k (by omega) (by omega)).trans (cb_tap m c t _ 4 r k (by show 70 + x.val = 2 + 4 + r.val; omega))
    · exact fun k => (cbHi m c t _ 69 _ x k (by omega) (by omega)).trans (cb_tap m c t _ 3 r k (by show 69 + x.val = 2 + 3 + r.val; omega))
    · exact fun k => (cbHi m c t _ 68 _ x k (by omega) (by omega)).trans (cb_tap m c t _ 2 r k (by show 68 + x.val = 2 + 2 + r.val; omega))
    · exact fun k => (cbHi m c t _ 67 _ x k (by omega) (by omega)).trans (cb_tap m c t _ 1 r k (by show 67 + x.val = 2 + 1 + r.val; omega))
    · exact fun k => (cbHi m c t _ 66 _ x k (by omega) (by omega)).trans (cb_tap m c t _ 0 r k (by show 66 + x.val = 2 + 0 + r.val; omega))
  · intro x r k hr
    refine (congrFun (chunk2 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _) (ix2 x k)).trans ?_
    refine rowed m c t r x _ _ _ (fun k => read5 m c t k) (fun k => read6 m c t k) (fun l => ?_) k
    refine summed m c t r x _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (fun k => read4 m c t k) ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ l
    · exact fun k => wAt m c t 30 _ k (by omega)
    · exact fun k => wAt m c t 29 _ k (by omega)
    · exact fun k => wAt m c t 28 _ k (by omega)
    · exact fun k => wAt m c t 27 _ k (by omega)
    · exact fun k => wAt m c t 26 _ k (by omega)
    · exact fun k => wAt m c t 25 _ k (by omega)
    · exact fun k => wAt m c t 24 _ k (by omega)
    · exact fun k => wAt m c t 23 _ k (by omega)
    · exact fun k => wAt m c t 22 _ k (by omega)
    · exact fun k => wAt m c t 21 _ k (by omega)
    · exact fun k => wAt m c t 20 _ k (by omega)
    · exact fun k => wAt m c t 19 _ k (by omega)
    · exact fun k => wAt m c t 18 _ k (by omega)
    · exact fun k => wAt m c t 17 _ k (by omega)
    · exact fun k => wAt m c t 16 _ k (by omega)
    · exact fun k => wAt m c t 15 _ k (by omega)
    · exact fun k => wAt m c t 14 _ k (by omega)
    · exact fun k => wAt m c t 13 _ k (by omega)
    · exact fun k => wAt m c t 12 _ k (by omega)
    · exact fun k => wAt m c t 11 _ k (by omega)
    · exact fun k => wAt m c t 10 _ k (by omega)
    · exact fun k => wAt m c t 9 _ k (by omega)
    · exact fun k => wAt m c t 8 _ k (by omega)
    · exact fun k => wAt m c t 7 _ k (by omega)
    · exact fun k => wAt m c t 6 _ k (by omega)
    · exact fun k => wAt m c t 5 _ k (by omega)
    · exact fun k => wAt m c t 4 _ k (by omega)
    · exact fun k => wAt m c t 3 _ k (by omega)
    · exact fun k => wAt m c t 2 _ k (by omega)
    · exact fun k => wAt m c t 1 _ k (by omega)
    · exact fun k => wAt m c t 0 _ k (by omega)
    · exact fun k => (cbHi m c t _ 160 _ x k (by omega) (by omega)).trans (cb_tap m c t _ 30 r k (by show 160 + x.val = 2 + 30 + r.val; omega))
    · exact fun k => (cbHi m c t _ 159 _ x k (by omega) (by omega)).trans (cb_tap m c t _ 29 r k (by show 159 + x.val = 2 + 29 + r.val; omega))
    · exact fun k => (cbHi m c t _ 158 _ x k (by omega) (by omega)).trans (cb_tap m c t _ 28 r k (by show 158 + x.val = 2 + 28 + r.val; omega))
    · exact fun k => (cbHi m c t _ 157 _ x k (by omega) (by omega)).trans (cb_tap m c t _ 27 r k (by show 157 + x.val = 2 + 27 + r.val; omega))
    · exact fun k => (cbHi m c t _ 156 _ x k (by omega) (by omega)).trans (cb_tap m c t _ 26 r k (by show 156 + x.val = 2 + 26 + r.val; omega))
    · exact fun k => (cbHi m c t _ 155 _ x k (by omega) (by omega)).trans (cb_tap m c t _ 25 r k (by show 155 + x.val = 2 + 25 + r.val; omega))
    · exact fun k => (cbHi m c t _ 154 _ x k (by omega) (by omega)).trans (cb_tap m c t _ 24 r k (by show 154 + x.val = 2 + 24 + r.val; omega))
    · exact fun k => (cbHi m c t _ 153 _ x k (by omega) (by omega)).trans (cb_tap m c t _ 23 r k (by show 153 + x.val = 2 + 23 + r.val; omega))
    · exact fun k => (cbHi m c t _ 152 _ x k (by omega) (by omega)).trans (cb_tap m c t _ 22 r k (by show 152 + x.val = 2 + 22 + r.val; omega))
    · exact fun k => (cbHi m c t _ 151 _ x k (by omega) (by omega)).trans (cb_tap m c t _ 21 r k (by show 151 + x.val = 2 + 21 + r.val; omega))
    · exact fun k => (cbHi m c t _ 150 _ x k (by omega) (by omega)).trans (cb_tap m c t _ 20 r k (by show 150 + x.val = 2 + 20 + r.val; omega))
    · exact fun k => (cbHi m c t _ 149 _ x k (by omega) (by omega)).trans (cb_tap m c t _ 19 r k (by show 149 + x.val = 2 + 19 + r.val; omega))
    · exact fun k => (cbHi m c t _ 148 _ x k (by omega) (by omega)).trans (cb_tap m c t _ 18 r k (by show 148 + x.val = 2 + 18 + r.val; omega))
    · exact fun k => (cbHi m c t _ 147 _ x k (by omega) (by omega)).trans (cb_tap m c t _ 17 r k (by show 147 + x.val = 2 + 17 + r.val; omega))
    · exact fun k => (cbHi m c t _ 146 _ x k (by omega) (by omega)).trans (cb_tap m c t _ 16 r k (by show 146 + x.val = 2 + 16 + r.val; omega))
    · exact fun k => (cbHi m c t _ 145 _ x k (by omega) (by omega)).trans (cb_tap m c t _ 15 r k (by show 145 + x.val = 2 + 15 + r.val; omega))
    · exact fun k => (cbHi m c t _ 144 _ x k (by omega) (by omega)).trans (cb_tap m c t _ 14 r k (by show 144 + x.val = 2 + 14 + r.val; omega))
    · exact fun k => (cbHi m c t _ 143 _ x k (by omega) (by omega)).trans (cb_tap m c t _ 13 r k (by show 143 + x.val = 2 + 13 + r.val; omega))
    · exact fun k => (cbHi m c t _ 142 _ x k (by omega) (by omega)).trans (cb_tap m c t _ 12 r k (by show 142 + x.val = 2 + 12 + r.val; omega))
    · exact fun k => (cbHi m c t _ 141 _ x k (by omega) (by omega)).trans (cb_tap m c t _ 11 r k (by show 141 + x.val = 2 + 11 + r.val; omega))
    · exact fun k => (cbHi m c t _ 140 _ x k (by omega) (by omega)).trans (cb_tap m c t _ 10 r k (by show 140 + x.val = 2 + 10 + r.val; omega))
    · exact fun k => (cbHi m c t _ 139 _ x k (by omega) (by omega)).trans (cb_tap m c t _ 9 r k (by show 139 + x.val = 2 + 9 + r.val; omega))
    · exact fun k => (cbHi m c t _ 138 _ x k (by omega) (by omega)).trans (cb_tap m c t _ 8 r k (by show 138 + x.val = 2 + 8 + r.val; omega))
    · exact fun k => (cbHi m c t _ 137 _ x k (by omega) (by omega)).trans (cb_tap m c t _ 7 r k (by show 137 + x.val = 2 + 7 + r.val; omega))
    · exact fun k => (cbHi m c t _ 136 _ x k (by omega) (by omega)).trans (cb_tap m c t _ 6 r k (by show 136 + x.val = 2 + 6 + r.val; omega))
    · exact fun k => (cbHi m c t _ 135 _ x k (by omega) (by omega)).trans (cb_tap m c t _ 5 r k (by show 135 + x.val = 2 + 5 + r.val; omega))
    · exact fun k => (cbHi m c t _ 134 _ x k (by omega) (by omega)).trans (cb_tap m c t _ 4 r k (by show 134 + x.val = 2 + 4 + r.val; omega))
    · exact fun k => (cbHi m c t _ 133 _ x k (by omega) (by omega)).trans (cb_tap m c t _ 3 r k (by show 133 + x.val = 2 + 3 + r.val; omega))
    · exact fun k => (cbHi m c t _ 132 _ x k (by omega) (by omega)).trans (cb_tap m c t _ 2 r k (by show 132 + x.val = 2 + 2 + r.val; omega))
    · exact fun k => (cbHi m c t _ 131 _ x k (by omega) (by omega)).trans (cb_tap m c t _ 1 r k (by show 131 + x.val = 2 + 1 + r.val; omega))
    · exact fun k => (cbHi m c t _ 130 _ x k (by omega) (by omega)).trans (cb_tap m c t _ 0 r k (by show 130 + x.val = 2 + 0 + r.val; omega))
  · intro x r k hr
    refine (congrFun (chunk3 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _) (ix2 x k)).trans ?_
    refine rowed m c t r x _ _ _ (fun k => read5 m c t k) (fun k => read6 m c t k) (fun l => ?_) k
    refine summed m c t r x _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (fun k => read4 m c t k) ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ l
    · exact fun k => wAt m c t 30 _ k (by omega)
    · exact fun k => wAt m c t 29 _ k (by omega)
    · exact fun k => wAt m c t 28 _ k (by omega)
    · exact fun k => wAt m c t 27 _ k (by omega)
    · exact fun k => wAt m c t 26 _ k (by omega)
    · exact fun k => wAt m c t 25 _ k (by omega)
    · exact fun k => wAt m c t 24 _ k (by omega)
    · exact fun k => wAt m c t 23 _ k (by omega)
    · exact fun k => wAt m c t 22 _ k (by omega)
    · exact fun k => wAt m c t 21 _ k (by omega)
    · exact fun k => wAt m c t 20 _ k (by omega)
    · exact fun k => wAt m c t 19 _ k (by omega)
    · exact fun k => wAt m c t 18 _ k (by omega)
    · exact fun k => wAt m c t 17 _ k (by omega)
    · exact fun k => wAt m c t 16 _ k (by omega)
    · exact fun k => wAt m c t 15 _ k (by omega)
    · exact fun k => wAt m c t 14 _ k (by omega)
    · exact fun k => wAt m c t 13 _ k (by omega)
    · exact fun k => wAt m c t 12 _ k (by omega)
    · exact fun k => wAt m c t 11 _ k (by omega)
    · exact fun k => wAt m c t 10 _ k (by omega)
    · exact fun k => wAt m c t 9 _ k (by omega)
    · exact fun k => wAt m c t 8 _ k (by omega)
    · exact fun k => wAt m c t 7 _ k (by omega)
    · exact fun k => wAt m c t 6 _ k (by omega)
    · exact fun k => wAt m c t 5 _ k (by omega)
    · exact fun k => wAt m c t 4 _ k (by omega)
    · exact fun k => wAt m c t 3 _ k (by omega)
    · exact fun k => wAt m c t 2 _ k (by omega)
    · exact fun k => wAt m c t 1 _ k (by omega)
    · exact fun k => wAt m c t 0 _ k (by omega)
    · exact fun k => (cbHi m c t _ 224 _ x k (by omega) (by omega)).trans (cb_tap m c t _ 30 r k (by show 224 + x.val = 2 + 30 + r.val; omega))
    · exact fun k => (cbHi m c t _ 223 _ x k (by omega) (by omega)).trans (cb_tap m c t _ 29 r k (by show 223 + x.val = 2 + 29 + r.val; omega))
    · exact fun k => (cbHi m c t _ 222 _ x k (by omega) (by omega)).trans (cb_tap m c t _ 28 r k (by show 222 + x.val = 2 + 28 + r.val; omega))
    · exact fun k => (cbHi m c t _ 221 _ x k (by omega) (by omega)).trans (cb_tap m c t _ 27 r k (by show 221 + x.val = 2 + 27 + r.val; omega))
    · exact fun k => (cbHi m c t _ 220 _ x k (by omega) (by omega)).trans (cb_tap m c t _ 26 r k (by show 220 + x.val = 2 + 26 + r.val; omega))
    · exact fun k => (cbHi m c t _ 219 _ x k (by omega) (by omega)).trans (cb_tap m c t _ 25 r k (by show 219 + x.val = 2 + 25 + r.val; omega))
    · exact fun k => (cbHi m c t _ 218 _ x k (by omega) (by omega)).trans (cb_tap m c t _ 24 r k (by show 218 + x.val = 2 + 24 + r.val; omega))
    · exact fun k => (cbHi m c t _ 217 _ x k (by omega) (by omega)).trans (cb_tap m c t _ 23 r k (by show 217 + x.val = 2 + 23 + r.val; omega))
    · exact fun k => (cbHi m c t _ 216 _ x k (by omega) (by omega)).trans (cb_tap m c t _ 22 r k (by show 216 + x.val = 2 + 22 + r.val; omega))
    · exact fun k => (cbHi m c t _ 215 _ x k (by omega) (by omega)).trans (cb_tap m c t _ 21 r k (by show 215 + x.val = 2 + 21 + r.val; omega))
    · exact fun k => (cbHi m c t _ 214 _ x k (by omega) (by omega)).trans (cb_tap m c t _ 20 r k (by show 214 + x.val = 2 + 20 + r.val; omega))
    · exact fun k => (cbHi m c t _ 213 _ x k (by omega) (by omega)).trans (cb_tap m c t _ 19 r k (by show 213 + x.val = 2 + 19 + r.val; omega))
    · exact fun k => (cbHi m c t _ 212 _ x k (by omega) (by omega)).trans (cb_tap m c t _ 18 r k (by show 212 + x.val = 2 + 18 + r.val; omega))
    · exact fun k => (cbHi m c t _ 211 _ x k (by omega) (by omega)).trans (cb_tap m c t _ 17 r k (by show 211 + x.val = 2 + 17 + r.val; omega))
    · exact fun k => (cbHi m c t _ 210 _ x k (by omega) (by omega)).trans (cb_tap m c t _ 16 r k (by show 210 + x.val = 2 + 16 + r.val; omega))
    · exact fun k => (cbHi m c t _ 209 _ x k (by omega) (by omega)).trans (cb_tap m c t _ 15 r k (by show 209 + x.val = 2 + 15 + r.val; omega))
    · exact fun k => (cbHi m c t _ 208 _ x k (by omega) (by omega)).trans (cb_tap m c t _ 14 r k (by show 208 + x.val = 2 + 14 + r.val; omega))
    · exact fun k => (cbHi m c t _ 207 _ x k (by omega) (by omega)).trans (cb_tap m c t _ 13 r k (by show 207 + x.val = 2 + 13 + r.val; omega))
    · exact fun k => (cbHi m c t _ 206 _ x k (by omega) (by omega)).trans (cb_tap m c t _ 12 r k (by show 206 + x.val = 2 + 12 + r.val; omega))
    · exact fun k => (cbHi m c t _ 205 _ x k (by omega) (by omega)).trans (cb_tap m c t _ 11 r k (by show 205 + x.val = 2 + 11 + r.val; omega))
    · exact fun k => (cbHi m c t _ 204 _ x k (by omega) (by omega)).trans (cb_tap m c t _ 10 r k (by show 204 + x.val = 2 + 10 + r.val; omega))
    · exact fun k => (cbHi m c t _ 203 _ x k (by omega) (by omega)).trans (cb_tap m c t _ 9 r k (by show 203 + x.val = 2 + 9 + r.val; omega))
    · exact fun k => (cbHi m c t _ 202 _ x k (by omega) (by omega)).trans (cb_tap m c t _ 8 r k (by show 202 + x.val = 2 + 8 + r.val; omega))
    · exact fun k => (cbHi m c t _ 201 _ x k (by omega) (by omega)).trans (cb_tap m c t _ 7 r k (by show 201 + x.val = 2 + 7 + r.val; omega))
    · exact fun k => (cbHi m c t _ 200 _ x k (by omega) (by omega)).trans (cb_tap m c t _ 6 r k (by show 200 + x.val = 2 + 6 + r.val; omega))
    · exact fun k => (cbHi m c t _ 199 _ x k (by omega) (by omega)).trans (cb_tap m c t _ 5 r k (by show 199 + x.val = 2 + 5 + r.val; omega))
    · exact fun k => (cbHi m c t _ 198 _ x k (by omega) (by omega)).trans (cb_tap m c t _ 4 r k (by show 198 + x.val = 2 + 4 + r.val; omega))
    · exact fun k => (cbHi m c t _ 197 _ x k (by omega) (by omega)).trans (cb_tap m c t _ 3 r k (by show 197 + x.val = 2 + 3 + r.val; omega))
    · exact fun k => (cbHi m c t _ 196 _ x k (by omega) (by omega)).trans (cb_tap m c t _ 2 r k (by show 196 + x.val = 2 + 2 + r.val; omega))
    · exact fun k => (cbHi m c t _ 195 _ x k (by omega) (by omega)).trans (cb_tap m c t _ 1 r k (by show 195 + x.val = 2 + 1 + r.val; omega))
    · exact fun k => (cbHi m c t _ 194 _ x k (by omega) (by omega)).trans (cb_tap m c t _ 0 r k (by show 194 + x.val = 2 + 0 + r.val; omega))
  · intro x r k hr
    refine (congrFun (chunk4 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _) (ix2 x k)).trans ?_
    refine rowed m c t r x _ _ _ (fun k => read5 m c t k) (fun k => read6 m c t k) (fun l => ?_) k
    refine summed m c t r x _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (fun k => read4 m c t k) ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ l
    · exact fun k => wAt m c t 30 _ k (by omega)
    · exact fun k => wAt m c t 29 _ k (by omega)
    · exact fun k => wAt m c t 28 _ k (by omega)
    · exact fun k => wAt m c t 27 _ k (by omega)
    · exact fun k => wAt m c t 26 _ k (by omega)
    · exact fun k => wAt m c t 25 _ k (by omega)
    · exact fun k => wAt m c t 24 _ k (by omega)
    · exact fun k => wAt m c t 23 _ k (by omega)
    · exact fun k => wAt m c t 22 _ k (by omega)
    · exact fun k => wAt m c t 21 _ k (by omega)
    · exact fun k => wAt m c t 20 _ k (by omega)
    · exact fun k => wAt m c t 19 _ k (by omega)
    · exact fun k => wAt m c t 18 _ k (by omega)
    · exact fun k => wAt m c t 17 _ k (by omega)
    · exact fun k => wAt m c t 16 _ k (by omega)
    · exact fun k => wAt m c t 15 _ k (by omega)
    · exact fun k => wAt m c t 14 _ k (by omega)
    · exact fun k => wAt m c t 13 _ k (by omega)
    · exact fun k => wAt m c t 12 _ k (by omega)
    · exact fun k => wAt m c t 11 _ k (by omega)
    · exact fun k => wAt m c t 10 _ k (by omega)
    · exact fun k => wAt m c t 9 _ k (by omega)
    · exact fun k => wAt m c t 8 _ k (by omega)
    · exact fun k => wAt m c t 7 _ k (by omega)
    · exact fun k => wAt m c t 6 _ k (by omega)
    · exact fun k => wAt m c t 5 _ k (by omega)
    · exact fun k => wAt m c t 4 _ k (by omega)
    · exact fun k => wAt m c t 3 _ k (by omega)
    · exact fun k => wAt m c t 2 _ k (by omega)
    · exact fun k => wAt m c t 1 _ k (by omega)
    · exact fun k => wAt m c t 0 _ k (by omega)
    · exact fun k => (cbHi m c t _ 288 _ x k (by omega) (by omega)).trans (cb_tap m c t _ 30 r k (by show 288 + x.val = 2 + 30 + r.val; omega))
    · exact fun k => (cbHi m c t _ 287 _ x k (by omega) (by omega)).trans (cb_tap m c t _ 29 r k (by show 287 + x.val = 2 + 29 + r.val; omega))
    · exact fun k => (cbHi m c t _ 286 _ x k (by omega) (by omega)).trans (cb_tap m c t _ 28 r k (by show 286 + x.val = 2 + 28 + r.val; omega))
    · exact fun k => (cbHi m c t _ 285 _ x k (by omega) (by omega)).trans (cb_tap m c t _ 27 r k (by show 285 + x.val = 2 + 27 + r.val; omega))
    · exact fun k => (cbHi m c t _ 284 _ x k (by omega) (by omega)).trans (cb_tap m c t _ 26 r k (by show 284 + x.val = 2 + 26 + r.val; omega))
    · exact fun k => (cbHi m c t _ 283 _ x k (by omega) (by omega)).trans (cb_tap m c t _ 25 r k (by show 283 + x.val = 2 + 25 + r.val; omega))
    · exact fun k => (cbHi m c t _ 282 _ x k (by omega) (by omega)).trans (cb_tap m c t _ 24 r k (by show 282 + x.val = 2 + 24 + r.val; omega))
    · exact fun k => (cbHi m c t _ 281 _ x k (by omega) (by omega)).trans (cb_tap m c t _ 23 r k (by show 281 + x.val = 2 + 23 + r.val; omega))
    · exact fun k => (cbHi m c t _ 280 _ x k (by omega) (by omega)).trans (cb_tap m c t _ 22 r k (by show 280 + x.val = 2 + 22 + r.val; omega))
    · exact fun k => (cbHi m c t _ 279 _ x k (by omega) (by omega)).trans (cb_tap m c t _ 21 r k (by show 279 + x.val = 2 + 21 + r.val; omega))
    · exact fun k => (cbHi m c t _ 278 _ x k (by omega) (by omega)).trans (cb_tap m c t _ 20 r k (by show 278 + x.val = 2 + 20 + r.val; omega))
    · exact fun k => (cbHi m c t _ 277 _ x k (by omega) (by omega)).trans (cb_tap m c t _ 19 r k (by show 277 + x.val = 2 + 19 + r.val; omega))
    · exact fun k => (cbHi m c t _ 276 _ x k (by omega) (by omega)).trans (cb_tap m c t _ 18 r k (by show 276 + x.val = 2 + 18 + r.val; omega))
    · exact fun k => (cbHi m c t _ 275 _ x k (by omega) (by omega)).trans (cb_tap m c t _ 17 r k (by show 275 + x.val = 2 + 17 + r.val; omega))
    · exact fun k => (cbHi m c t _ 274 _ x k (by omega) (by omega)).trans (cb_tap m c t _ 16 r k (by show 274 + x.val = 2 + 16 + r.val; omega))
    · exact fun k => (cbHi m c t _ 273 _ x k (by omega) (by omega)).trans (cb_tap m c t _ 15 r k (by show 273 + x.val = 2 + 15 + r.val; omega))
    · exact fun k => (cbHi m c t _ 272 _ x k (by omega) (by omega)).trans (cb_tap m c t _ 14 r k (by show 272 + x.val = 2 + 14 + r.val; omega))
    · exact fun k => (cbHi m c t _ 271 _ x k (by omega) (by omega)).trans (cb_tap m c t _ 13 r k (by show 271 + x.val = 2 + 13 + r.val; omega))
    · exact fun k => (cbHi m c t _ 270 _ x k (by omega) (by omega)).trans (cb_tap m c t _ 12 r k (by show 270 + x.val = 2 + 12 + r.val; omega))
    · exact fun k => (cbHi m c t _ 269 _ x k (by omega) (by omega)).trans (cb_tap m c t _ 11 r k (by show 269 + x.val = 2 + 11 + r.val; omega))
    · exact fun k => (cbHi m c t _ 268 _ x k (by omega) (by omega)).trans (cb_tap m c t _ 10 r k (by show 268 + x.val = 2 + 10 + r.val; omega))
    · exact fun k => (cbHi m c t _ 267 _ x k (by omega) (by omega)).trans (cb_tap m c t _ 9 r k (by show 267 + x.val = 2 + 9 + r.val; omega))
    · exact fun k => (cbHi m c t _ 266 _ x k (by omega) (by omega)).trans (cb_tap m c t _ 8 r k (by show 266 + x.val = 2 + 8 + r.val; omega))
    · exact fun k => (cbHi m c t _ 265 _ x k (by omega) (by omega)).trans (cb_tap m c t _ 7 r k (by show 265 + x.val = 2 + 7 + r.val; omega))
    · exact fun k => (cbHi m c t _ 264 _ x k (by omega) (by omega)).trans (cb_tap m c t _ 6 r k (by show 264 + x.val = 2 + 6 + r.val; omega))
    · exact fun k => (cbHi m c t _ 263 _ x k (by omega) (by omega)).trans (cb_tap m c t _ 5 r k (by show 263 + x.val = 2 + 5 + r.val; omega))
    · exact fun k => (cbHi m c t _ 262 _ x k (by omega) (by omega)).trans (cb_tap m c t _ 4 r k (by show 262 + x.val = 2 + 4 + r.val; omega))
    · exact fun k => (cbHi m c t _ 261 _ x k (by omega) (by omega)).trans (cb_tap m c t _ 3 r k (by show 261 + x.val = 2 + 3 + r.val; omega))
    · exact fun k => (cbHi m c t _ 260 _ x k (by omega) (by omega)).trans (cb_tap m c t _ 2 r k (by show 260 + x.val = 2 + 2 + r.val; omega))
    · exact fun k => (cbHi m c t _ 259 _ x k (by omega) (by omega)).trans (cb_tap m c t _ 1 r k (by show 259 + x.val = 2 + 1 + r.val; omega))
    · exact fun k => (cbHi m c t _ 258 _ x k (by omega) (by omega)).trans (cb_tap m c t _ 0 r k (by show 258 + x.val = 2 + 0 + r.val; omega))
  · intro x r k hr
    refine (congrFun (chunk5 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _) (ix2 x k)).trans ?_
    refine rowed m c t r x _ _ _ (fun k => read5 m c t k) (fun k => read6 m c t k) (fun l => ?_) k
    refine summed m c t r x _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (fun k => read4 m c t k) ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ l
    · exact fun k => wAt m c t 30 _ k (by omega)
    · exact fun k => wAt m c t 29 _ k (by omega)
    · exact fun k => wAt m c t 28 _ k (by omega)
    · exact fun k => wAt m c t 27 _ k (by omega)
    · exact fun k => wAt m c t 26 _ k (by omega)
    · exact fun k => wAt m c t 25 _ k (by omega)
    · exact fun k => wAt m c t 24 _ k (by omega)
    · exact fun k => wAt m c t 23 _ k (by omega)
    · exact fun k => wAt m c t 22 _ k (by omega)
    · exact fun k => wAt m c t 21 _ k (by omega)
    · exact fun k => wAt m c t 20 _ k (by omega)
    · exact fun k => wAt m c t 19 _ k (by omega)
    · exact fun k => wAt m c t 18 _ k (by omega)
    · exact fun k => wAt m c t 17 _ k (by omega)
    · exact fun k => wAt m c t 16 _ k (by omega)
    · exact fun k => wAt m c t 15 _ k (by omega)
    · exact fun k => wAt m c t 14 _ k (by omega)
    · exact fun k => wAt m c t 13 _ k (by omega)
    · exact fun k => wAt m c t 12 _ k (by omega)
    · exact fun k => wAt m c t 11 _ k (by omega)
    · exact fun k => wAt m c t 10 _ k (by omega)
    · exact fun k => wAt m c t 9 _ k (by omega)
    · exact fun k => wAt m c t 8 _ k (by omega)
    · exact fun k => wAt m c t 7 _ k (by omega)
    · exact fun k => wAt m c t 6 _ k (by omega)
    · exact fun k => wAt m c t 5 _ k (by omega)
    · exact fun k => wAt m c t 4 _ k (by omega)
    · exact fun k => wAt m c t 3 _ k (by omega)
    · exact fun k => wAt m c t 2 _ k (by omega)
    · exact fun k => wAt m c t 1 _ k (by omega)
    · exact fun k => wAt m c t 0 _ k (by omega)
    · exact fun k => (cbHi m c t _ 352 _ x k (by omega) (by omega)).trans (cb_tap m c t _ 30 r k (by show 352 + x.val = 2 + 30 + r.val; omega))
    · exact fun k => (cbHi m c t _ 351 _ x k (by omega) (by omega)).trans (cb_tap m c t _ 29 r k (by show 351 + x.val = 2 + 29 + r.val; omega))
    · exact fun k => (cbHi m c t _ 350 _ x k (by omega) (by omega)).trans (cb_tap m c t _ 28 r k (by show 350 + x.val = 2 + 28 + r.val; omega))
    · exact fun k => (cbHi m c t _ 349 _ x k (by omega) (by omega)).trans (cb_tap m c t _ 27 r k (by show 349 + x.val = 2 + 27 + r.val; omega))
    · exact fun k => (cbHi m c t _ 348 _ x k (by omega) (by omega)).trans (cb_tap m c t _ 26 r k (by show 348 + x.val = 2 + 26 + r.val; omega))
    · exact fun k => (cbHi m c t _ 347 _ x k (by omega) (by omega)).trans (cb_tap m c t _ 25 r k (by show 347 + x.val = 2 + 25 + r.val; omega))
    · exact fun k => (cbHi m c t _ 346 _ x k (by omega) (by omega)).trans (cb_tap m c t _ 24 r k (by show 346 + x.val = 2 + 24 + r.val; omega))
    · exact fun k => (cbHi m c t _ 345 _ x k (by omega) (by omega)).trans (cb_tap m c t _ 23 r k (by show 345 + x.val = 2 + 23 + r.val; omega))
    · exact fun k => (cbHi m c t _ 344 _ x k (by omega) (by omega)).trans (cb_tap m c t _ 22 r k (by show 344 + x.val = 2 + 22 + r.val; omega))
    · exact fun k => (cbHi m c t _ 343 _ x k (by omega) (by omega)).trans (cb_tap m c t _ 21 r k (by show 343 + x.val = 2 + 21 + r.val; omega))
    · exact fun k => (cbHi m c t _ 342 _ x k (by omega) (by omega)).trans (cb_tap m c t _ 20 r k (by show 342 + x.val = 2 + 20 + r.val; omega))
    · exact fun k => (cbHi m c t _ 341 _ x k (by omega) (by omega)).trans (cb_tap m c t _ 19 r k (by show 341 + x.val = 2 + 19 + r.val; omega))
    · exact fun k => (cbHi m c t _ 340 _ x k (by omega) (by omega)).trans (cb_tap m c t _ 18 r k (by show 340 + x.val = 2 + 18 + r.val; omega))
    · exact fun k => (cbHi m c t _ 339 _ x k (by omega) (by omega)).trans (cb_tap m c t _ 17 r k (by show 339 + x.val = 2 + 17 + r.val; omega))
    · exact fun k => (cbHi m c t _ 338 _ x k (by omega) (by omega)).trans (cb_tap m c t _ 16 r k (by show 338 + x.val = 2 + 16 + r.val; omega))
    · exact fun k => (cbHi m c t _ 337 _ x k (by omega) (by omega)).trans (cb_tap m c t _ 15 r k (by show 337 + x.val = 2 + 15 + r.val; omega))
    · exact fun k => (cbHi m c t _ 336 _ x k (by omega) (by omega)).trans (cb_tap m c t _ 14 r k (by show 336 + x.val = 2 + 14 + r.val; omega))
    · exact fun k => (cbHi m c t _ 335 _ x k (by omega) (by omega)).trans (cb_tap m c t _ 13 r k (by show 335 + x.val = 2 + 13 + r.val; omega))
    · exact fun k => (cbHi m c t _ 334 _ x k (by omega) (by omega)).trans (cb_tap m c t _ 12 r k (by show 334 + x.val = 2 + 12 + r.val; omega))
    · exact fun k => (cbHi m c t _ 333 _ x k (by omega) (by omega)).trans (cb_tap m c t _ 11 r k (by show 333 + x.val = 2 + 11 + r.val; omega))
    · exact fun k => (cbHi m c t _ 332 _ x k (by omega) (by omega)).trans (cb_tap m c t _ 10 r k (by show 332 + x.val = 2 + 10 + r.val; omega))
    · exact fun k => (cbHi m c t _ 331 _ x k (by omega) (by omega)).trans (cb_tap m c t _ 9 r k (by show 331 + x.val = 2 + 9 + r.val; omega))
    · exact fun k => (cbHi m c t _ 330 _ x k (by omega) (by omega)).trans (cb_tap m c t _ 8 r k (by show 330 + x.val = 2 + 8 + r.val; omega))
    · exact fun k => (cbHi m c t _ 329 _ x k (by omega) (by omega)).trans (cb_tap m c t _ 7 r k (by show 329 + x.val = 2 + 7 + r.val; omega))
    · exact fun k => (cbHi m c t _ 328 _ x k (by omega) (by omega)).trans (cb_tap m c t _ 6 r k (by show 328 + x.val = 2 + 6 + r.val; omega))
    · exact fun k => (cbHi m c t _ 327 _ x k (by omega) (by omega)).trans (cb_tap m c t _ 5 r k (by show 327 + x.val = 2 + 5 + r.val; omega))
    · exact fun k => (cbHi m c t _ 326 _ x k (by omega) (by omega)).trans (cb_tap m c t _ 4 r k (by show 326 + x.val = 2 + 4 + r.val; omega))
    · exact fun k => (cbHi m c t _ 325 _ x k (by omega) (by omega)).trans (cb_tap m c t _ 3 r k (by show 325 + x.val = 2 + 3 + r.val; omega))
    · exact fun k => (cbHi m c t _ 324 _ x k (by omega) (by omega)).trans (cb_tap m c t _ 2 r k (by show 324 + x.val = 2 + 2 + r.val; omega))
    · exact fun k => (cbHi m c t _ 323 _ x k (by omega) (by omega)).trans (cb_tap m c t _ 1 r k (by show 323 + x.val = 2 + 1 + r.val; omega))
    · exact fun k => (cbHi m c t _ 322 _ x k (by omega) (by omega)).trans (cb_tap m c t _ 0 r k (by show 322 + x.val = 2 + 0 + r.val; omega))
  · intro x r k hr
    refine (congrFun (chunk6 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _) (ix2 x k)).trans ?_
    refine rowed m c t r x _ _ _ (fun k => read5 m c t k) (fun k => read6 m c t k) (fun l => ?_) k
    refine summed m c t r x _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (fun k => read4 m c t k) ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ l
    · exact fun k => wAt m c t 30 _ k (by omega)
    · exact fun k => wAt m c t 29 _ k (by omega)
    · exact fun k => wAt m c t 28 _ k (by omega)
    · exact fun k => wAt m c t 27 _ k (by omega)
    · exact fun k => wAt m c t 26 _ k (by omega)
    · exact fun k => wAt m c t 25 _ k (by omega)
    · exact fun k => wAt m c t 24 _ k (by omega)
    · exact fun k => wAt m c t 23 _ k (by omega)
    · exact fun k => wAt m c t 22 _ k (by omega)
    · exact fun k => wAt m c t 21 _ k (by omega)
    · exact fun k => wAt m c t 20 _ k (by omega)
    · exact fun k => wAt m c t 19 _ k (by omega)
    · exact fun k => wAt m c t 18 _ k (by omega)
    · exact fun k => wAt m c t 17 _ k (by omega)
    · exact fun k => wAt m c t 16 _ k (by omega)
    · exact fun k => wAt m c t 15 _ k (by omega)
    · exact fun k => wAt m c t 14 _ k (by omega)
    · exact fun k => wAt m c t 13 _ k (by omega)
    · exact fun k => wAt m c t 12 _ k (by omega)
    · exact fun k => wAt m c t 11 _ k (by omega)
    · exact fun k => wAt m c t 10 _ k (by omega)
    · exact fun k => wAt m c t 9 _ k (by omega)
    · exact fun k => wAt m c t 8 _ k (by omega)
    · exact fun k => wAt m c t 7 _ k (by omega)
    · exact fun k => wAt m c t 6 _ k (by omega)
    · exact fun k => wAt m c t 5 _ k (by omega)
    · exact fun k => wAt m c t 4 _ k (by omega)
    · exact fun k => wAt m c t 3 _ k (by omega)
    · exact fun k => wAt m c t 2 _ k (by omega)
    · exact fun k => wAt m c t 1 _ k (by omega)
    · exact fun k => wAt m c t 0 _ k (by omega)
    · exact fun k => (cbHi m c t _ 416 _ x k (by omega) (by omega)).trans (cb_tap m c t _ 30 r k (by show 416 + x.val = 2 + 30 + r.val; omega))
    · exact fun k => (cbHi m c t _ 415 _ x k (by omega) (by omega)).trans (cb_tap m c t _ 29 r k (by show 415 + x.val = 2 + 29 + r.val; omega))
    · exact fun k => (cbHi m c t _ 414 _ x k (by omega) (by omega)).trans (cb_tap m c t _ 28 r k (by show 414 + x.val = 2 + 28 + r.val; omega))
    · exact fun k => (cbHi m c t _ 413 _ x k (by omega) (by omega)).trans (cb_tap m c t _ 27 r k (by show 413 + x.val = 2 + 27 + r.val; omega))
    · exact fun k => (cbHi m c t _ 412 _ x k (by omega) (by omega)).trans (cb_tap m c t _ 26 r k (by show 412 + x.val = 2 + 26 + r.val; omega))
    · exact fun k => (cbHi m c t _ 411 _ x k (by omega) (by omega)).trans (cb_tap m c t _ 25 r k (by show 411 + x.val = 2 + 25 + r.val; omega))
    · exact fun k => (cbHi m c t _ 410 _ x k (by omega) (by omega)).trans (cb_tap m c t _ 24 r k (by show 410 + x.val = 2 + 24 + r.val; omega))
    · exact fun k => (cbHi m c t _ 409 _ x k (by omega) (by omega)).trans (cb_tap m c t _ 23 r k (by show 409 + x.val = 2 + 23 + r.val; omega))
    · exact fun k => (cbHi m c t _ 408 _ x k (by omega) (by omega)).trans (cb_tap m c t _ 22 r k (by show 408 + x.val = 2 + 22 + r.val; omega))
    · exact fun k => (cbHi m c t _ 407 _ x k (by omega) (by omega)).trans (cb_tap m c t _ 21 r k (by show 407 + x.val = 2 + 21 + r.val; omega))
    · exact fun k => (cbHi m c t _ 406 _ x k (by omega) (by omega)).trans (cb_tap m c t _ 20 r k (by show 406 + x.val = 2 + 20 + r.val; omega))
    · exact fun k => (cbHi m c t _ 405 _ x k (by omega) (by omega)).trans (cb_tap m c t _ 19 r k (by show 405 + x.val = 2 + 19 + r.val; omega))
    · exact fun k => (cbHi m c t _ 404 _ x k (by omega) (by omega)).trans (cb_tap m c t _ 18 r k (by show 404 + x.val = 2 + 18 + r.val; omega))
    · exact fun k => (cbHi m c t _ 403 _ x k (by omega) (by omega)).trans (cb_tap m c t _ 17 r k (by show 403 + x.val = 2 + 17 + r.val; omega))
    · exact fun k => (cbHi m c t _ 402 _ x k (by omega) (by omega)).trans (cb_tap m c t _ 16 r k (by show 402 + x.val = 2 + 16 + r.val; omega))
    · exact fun k => (cbHi m c t _ 401 _ x k (by omega) (by omega)).trans (cb_tap m c t _ 15 r k (by show 401 + x.val = 2 + 15 + r.val; omega))
    · exact fun k => (cbHi m c t _ 400 _ x k (by omega) (by omega)).trans (cb_tap m c t _ 14 r k (by show 400 + x.val = 2 + 14 + r.val; omega))
    · exact fun k => (cbHi m c t _ 399 _ x k (by omega) (by omega)).trans (cb_tap m c t _ 13 r k (by show 399 + x.val = 2 + 13 + r.val; omega))
    · exact fun k => (cbHi m c t _ 398 _ x k (by omega) (by omega)).trans (cb_tap m c t _ 12 r k (by show 398 + x.val = 2 + 12 + r.val; omega))
    · exact fun k => (cbHi m c t _ 397 _ x k (by omega) (by omega)).trans (cb_tap m c t _ 11 r k (by show 397 + x.val = 2 + 11 + r.val; omega))
    · exact fun k => (cbHi m c t _ 396 _ x k (by omega) (by omega)).trans (cb_tap m c t _ 10 r k (by show 396 + x.val = 2 + 10 + r.val; omega))
    · exact fun k => (cbHi m c t _ 395 _ x k (by omega) (by omega)).trans (cb_tap m c t _ 9 r k (by show 395 + x.val = 2 + 9 + r.val; omega))
    · exact fun k => (cbHi m c t _ 394 _ x k (by omega) (by omega)).trans (cb_tap m c t _ 8 r k (by show 394 + x.val = 2 + 8 + r.val; omega))
    · exact fun k => (cbHi m c t _ 393 _ x k (by omega) (by omega)).trans (cb_tap m c t _ 7 r k (by show 393 + x.val = 2 + 7 + r.val; omega))
    · exact fun k => (cbHi m c t _ 392 _ x k (by omega) (by omega)).trans (cb_tap m c t _ 6 r k (by show 392 + x.val = 2 + 6 + r.val; omega))
    · exact fun k => (cbHi m c t _ 391 _ x k (by omega) (by omega)).trans (cb_tap m c t _ 5 r k (by show 391 + x.val = 2 + 5 + r.val; omega))
    · exact fun k => (cbHi m c t _ 390 _ x k (by omega) (by omega)).trans (cb_tap m c t _ 4 r k (by show 390 + x.val = 2 + 4 + r.val; omega))
    · exact fun k => (cbHi m c t _ 389 _ x k (by omega) (by omega)).trans (cb_tap m c t _ 3 r k (by show 389 + x.val = 2 + 3 + r.val; omega))
    · exact fun k => (cbHi m c t _ 388 _ x k (by omega) (by omega)).trans (cb_tap m c t _ 2 r k (by show 388 + x.val = 2 + 2 + r.val; omega))
    · exact fun k => (cbHi m c t _ 387 _ x k (by omega) (by omega)).trans (cb_tap m c t _ 1 r k (by show 387 + x.val = 2 + 1 + r.val; omega))
    · exact fun k => (cbHi m c t _ 386 _ x k (by omega) (by omega)).trans (cb_tap m c t _ 0 r k (by show 386 + x.val = 2 + 0 + r.val; omega))
  · intro x r k hr
    refine (congrFun (chunk7 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _) (ix2 x k)).trans ?_
    refine rowed m c t r x _ _ _ (fun k => read5 m c t k) (fun k => read6 m c t k) (fun l => ?_) k
    refine summed m c t r x _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (fun k => read4 m c t k) ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ l
    · exact fun k => wAt m c t 30 _ k (by omega)
    · exact fun k => wAt m c t 29 _ k (by omega)
    · exact fun k => wAt m c t 28 _ k (by omega)
    · exact fun k => wAt m c t 27 _ k (by omega)
    · exact fun k => wAt m c t 26 _ k (by omega)
    · exact fun k => wAt m c t 25 _ k (by omega)
    · exact fun k => wAt m c t 24 _ k (by omega)
    · exact fun k => wAt m c t 23 _ k (by omega)
    · exact fun k => wAt m c t 22 _ k (by omega)
    · exact fun k => wAt m c t 21 _ k (by omega)
    · exact fun k => wAt m c t 20 _ k (by omega)
    · exact fun k => wAt m c t 19 _ k (by omega)
    · exact fun k => wAt m c t 18 _ k (by omega)
    · exact fun k => wAt m c t 17 _ k (by omega)
    · exact fun k => wAt m c t 16 _ k (by omega)
    · exact fun k => wAt m c t 15 _ k (by omega)
    · exact fun k => wAt m c t 14 _ k (by omega)
    · exact fun k => wAt m c t 13 _ k (by omega)
    · exact fun k => wAt m c t 12 _ k (by omega)
    · exact fun k => wAt m c t 11 _ k (by omega)
    · exact fun k => wAt m c t 10 _ k (by omega)
    · exact fun k => wAt m c t 9 _ k (by omega)
    · exact fun k => wAt m c t 8 _ k (by omega)
    · exact fun k => wAt m c t 7 _ k (by omega)
    · exact fun k => wAt m c t 6 _ k (by omega)
    · exact fun k => wAt m c t 5 _ k (by omega)
    · exact fun k => wAt m c t 4 _ k (by omega)
    · exact fun k => wAt m c t 3 _ k (by omega)
    · exact fun k => wAt m c t 2 _ k (by omega)
    · exact fun k => wAt m c t 1 _ k (by omega)
    · exact fun k => wAt m c t 0 _ k (by omega)
    · exact fun k => (cbHi m c t _ 480 _ x k (by omega) (by omega)).trans (cb_tap m c t _ 30 r k (by show 480 + x.val = 2 + 30 + r.val; omega))
    · exact fun k => (cbHi m c t _ 479 _ x k (by omega) (by omega)).trans (cb_tap m c t _ 29 r k (by show 479 + x.val = 2 + 29 + r.val; omega))
    · exact fun k => (cbHi m c t _ 478 _ x k (by omega) (by omega)).trans (cb_tap m c t _ 28 r k (by show 478 + x.val = 2 + 28 + r.val; omega))
    · exact fun k => (cbHi m c t _ 477 _ x k (by omega) (by omega)).trans (cb_tap m c t _ 27 r k (by show 477 + x.val = 2 + 27 + r.val; omega))
    · exact fun k => (cbHi m c t _ 476 _ x k (by omega) (by omega)).trans (cb_tap m c t _ 26 r k (by show 476 + x.val = 2 + 26 + r.val; omega))
    · exact fun k => (cbHi m c t _ 475 _ x k (by omega) (by omega)).trans (cb_tap m c t _ 25 r k (by show 475 + x.val = 2 + 25 + r.val; omega))
    · exact fun k => (cbHi m c t _ 474 _ x k (by omega) (by omega)).trans (cb_tap m c t _ 24 r k (by show 474 + x.val = 2 + 24 + r.val; omega))
    · exact fun k => (cbHi m c t _ 473 _ x k (by omega) (by omega)).trans (cb_tap m c t _ 23 r k (by show 473 + x.val = 2 + 23 + r.val; omega))
    · exact fun k => (cbHi m c t _ 472 _ x k (by omega) (by omega)).trans (cb_tap m c t _ 22 r k (by show 472 + x.val = 2 + 22 + r.val; omega))
    · exact fun k => (cbHi m c t _ 471 _ x k (by omega) (by omega)).trans (cb_tap m c t _ 21 r k (by show 471 + x.val = 2 + 21 + r.val; omega))
    · exact fun k => (cbHi m c t _ 470 _ x k (by omega) (by omega)).trans (cb_tap m c t _ 20 r k (by show 470 + x.val = 2 + 20 + r.val; omega))
    · exact fun k => (cbHi m c t _ 469 _ x k (by omega) (by omega)).trans (cb_tap m c t _ 19 r k (by show 469 + x.val = 2 + 19 + r.val; omega))
    · exact fun k => (cbHi m c t _ 468 _ x k (by omega) (by omega)).trans (cb_tap m c t _ 18 r k (by show 468 + x.val = 2 + 18 + r.val; omega))
    · exact fun k => (cbHi m c t _ 467 _ x k (by omega) (by omega)).trans (cb_tap m c t _ 17 r k (by show 467 + x.val = 2 + 17 + r.val; omega))
    · exact fun k => (cbHi m c t _ 466 _ x k (by omega) (by omega)).trans (cb_tap m c t _ 16 r k (by show 466 + x.val = 2 + 16 + r.val; omega))
    · exact fun k => (cbHi m c t _ 465 _ x k (by omega) (by omega)).trans (cb_tap m c t _ 15 r k (by show 465 + x.val = 2 + 15 + r.val; omega))
    · exact fun k => (cbHi m c t _ 464 _ x k (by omega) (by omega)).trans (cb_tap m c t _ 14 r k (by show 464 + x.val = 2 + 14 + r.val; omega))
    · exact fun k => (cbHi m c t _ 463 _ x k (by omega) (by omega)).trans (cb_tap m c t _ 13 r k (by show 463 + x.val = 2 + 13 + r.val; omega))
    · exact fun k => (cbHi m c t _ 462 _ x k (by omega) (by omega)).trans (cb_tap m c t _ 12 r k (by show 462 + x.val = 2 + 12 + r.val; omega))
    · exact fun k => (cbHi m c t _ 461 _ x k (by omega) (by omega)).trans (cb_tap m c t _ 11 r k (by show 461 + x.val = 2 + 11 + r.val; omega))
    · exact fun k => (cbHi m c t _ 460 _ x k (by omega) (by omega)).trans (cb_tap m c t _ 10 r k (by show 460 + x.val = 2 + 10 + r.val; omega))
    · exact fun k => (cbHi m c t _ 459 _ x k (by omega) (by omega)).trans (cb_tap m c t _ 9 r k (by show 459 + x.val = 2 + 9 + r.val; omega))
    · exact fun k => (cbHi m c t _ 458 _ x k (by omega) (by omega)).trans (cb_tap m c t _ 8 r k (by show 458 + x.val = 2 + 8 + r.val; omega))
    · exact fun k => (cbHi m c t _ 457 _ x k (by omega) (by omega)).trans (cb_tap m c t _ 7 r k (by show 457 + x.val = 2 + 7 + r.val; omega))
    · exact fun k => (cbHi m c t _ 456 _ x k (by omega) (by omega)).trans (cb_tap m c t _ 6 r k (by show 456 + x.val = 2 + 6 + r.val; omega))
    · exact fun k => (cbHi m c t _ 455 _ x k (by omega) (by omega)).trans (cb_tap m c t _ 5 r k (by show 455 + x.val = 2 + 5 + r.val; omega))
    · exact fun k => (cbHi m c t _ 454 _ x k (by omega) (by omega)).trans (cb_tap m c t _ 4 r k (by show 454 + x.val = 2 + 4 + r.val; omega))
    · exact fun k => (cbHi m c t _ 453 _ x k (by omega) (by omega)).trans (cb_tap m c t _ 3 r k (by show 453 + x.val = 2 + 3 + r.val; omega))
    · exact fun k => (cbHi m c t _ 452 _ x k (by omega) (by omega)).trans (cb_tap m c t _ 2 r k (by show 452 + x.val = 2 + 2 + r.val; omega))
    · exact fun k => (cbHi m c t _ 451 _ x k (by omega) (by omega)).trans (cb_tap m c t _ 1 r k (by show 451 + x.val = 2 + 1 + r.val; omega))
    · exact fun k => (cbHi m c t _ 450 _ x k (by omega) (by omega)).trans (cb_tap m c t _ 0 r k (by show 450 + x.val = 2 + 0 + r.val; omega))
  · intro i e r k hr hk
    refine (congrFun (tile00 _ _ _ _ _ _ _ _ _) (ix2 i e)).trans ?_
    refine (tiled m c t hg hw hs 0 0 0 0 0 128 512 640 0 1 (by omega) (by omega) rfl rfl rfl rfl rfl rfl rfl rfl _ _ _ _ _ _ _ _ _ i e ?_ ?_ ?_ ?_ ?_ ?_ ?_ ?_ ?_).trans
      (right_at m c t r k _ _ (by show t.val % 16 * 512 + (0 + i.val) = t.val % 16 * 512 + r.val; omega) (by show 0 + e.val = k.val; omega))
    · exact fun d => qAt m c t _ 0 0 _ i d (by omega) (by omega)
    · exact fun x d => kvLoA m c t h 0 _ x d (by omega)
    · exact fun x d => kvLoA m c t h 128 _ x d (by omega)
    · exact fun x d => kvLoA m c t h 512 _ x d (by omega)
    · exact fun x d => kvLoA m c t h 640 _ x d (by omega)
    · exact fun x => (bAt m c t _ _ ⟨8 + 0, by omega⟩ ((off1 t ⟨0, by omega⟩).trans (by rw [if_pos h])) i x).trans (bent_first m c _ ⟨0, by omega⟩ i x (by omega))
    · exact fun x => (bAt m c t _ _ ⟨8 + 1, by omega⟩ ((off1 t ⟨1, by omega⟩).trans (by rw [if_pos h])) i x).trans (bent_first m c _ ⟨1, by omega⟩ i x (by omega))
    · exact sAt m c t 0 _ (by omega)
    · exact sAt m c t 1 _ (by omega)
  · intro i e r k hr hk
    refine (congrFun (tile01 _ _ _ _ _ _ _ _ _) (ix2 i e)).trans ?_
    refine (tiled m c t hg hw hs 0 1 0 128 0 128 512 640 2 3 (by omega) (by omega) rfl rfl rfl rfl rfl rfl rfl rfl _ _ _ _ _ _ _ _ _ i e ?_ ?_ ?_ ?_ ?_ ?_ ?_ ?_ ?_).trans
      (right_at m c t r k _ _ (by show t.val % 16 * 512 + (0 + i.val) = t.val % 16 * 512 + r.val; omega) (by show 128 + e.val = k.val; omega))
    · exact fun d => qAt m c t _ 0 128 _ i d (by omega) (by omega)
    · exact fun x d => kvLoA m c t h 0 _ x d (by omega)
    · exact fun x d => kvLoA m c t h 128 _ x d (by omega)
    · exact fun x d => kvLoA m c t h 512 _ x d (by omega)
    · exact fun x d => kvLoA m c t h 640 _ x d (by omega)
    · exact fun x => (bAt m c t _ _ ⟨8 + 2, by omega⟩ ((off1 t ⟨2, by omega⟩).trans (by rw [if_pos h])) i x).trans (bent_first m c _ ⟨2, by omega⟩ i x (by omega))
    · exact fun x => (bAt m c t _ _ ⟨8 + 3, by omega⟩ ((off1 t ⟨3, by omega⟩).trans (by rw [if_pos h])) i x).trans (bent_first m c _ ⟨3, by omega⟩ i x (by omega))
    · exact sAt m c t 2 _ (by omega)
    · exact sAt m c t 3 _ (by omega)
  · intro i e r k hr hk
    refine (congrFun (tile02 _ _ _ _ _ _ _ _ _) (ix2 i e)).trans ?_
    refine (tiled m c t hg hw hs 0 2 0 256 256 384 768 896 4 5 (by omega) (by omega) rfl rfl rfl rfl rfl rfl rfl rfl _ _ _ _ _ _ _ _ _ i e ?_ ?_ ?_ ?_ ?_ ?_ ?_ ?_ ?_).trans
      (right_at m c t r k _ _ (by show t.val % 16 * 512 + (0 + i.val) = t.val % 16 * 512 + r.val; omega) (by show 256 + e.val = k.val; omega))
    · exact fun d => qAt m c t _ 0 256 _ i d (by omega) (by omega)
    · exact fun x d => kvLoA m c t h 256 _ x d (by omega)
    · exact fun x d => kvLoA m c t h 384 _ x d (by omega)
    · exact fun x d => kvLoA m c t h 768 _ x d (by omega)
    · exact fun x d => kvLoA m c t h 896 _ x d (by omega)
    · exact fun x => (bAt m c t _ _ ⟨8 + 4, by omega⟩ ((off1 t ⟨4, by omega⟩).trans (by rw [if_pos h])) i x).trans (bent_first m c _ ⟨4, by omega⟩ i x (by omega))
    · exact fun x => (bAt m c t _ _ ⟨8 + 5, by omega⟩ ((off1 t ⟨5, by omega⟩).trans (by rw [if_pos h])) i x).trans (bent_first m c _ ⟨5, by omega⟩ i x (by omega))
    · exact sAt m c t 4 _ (by omega)
    · exact sAt m c t 5 _ (by omega)
  · intro i e r k hr hk
    refine (congrFun (tile03 _ _ _ _ _ _ _ _ _) (ix2 i e)).trans ?_
    refine (tiled m c t hg hw hs 0 3 0 384 256 384 768 896 6 7 (by omega) (by omega) rfl rfl rfl rfl rfl rfl rfl rfl _ _ _ _ _ _ _ _ _ i e ?_ ?_ ?_ ?_ ?_ ?_ ?_ ?_ ?_).trans
      (right_at m c t r k _ _ (by show t.val % 16 * 512 + (0 + i.val) = t.val % 16 * 512 + r.val; omega) (by show 384 + e.val = k.val; omega))
    · exact fun d => qAt m c t _ 0 384 _ i d (by omega) (by omega)
    · exact fun x d => kvLoA m c t h 256 _ x d (by omega)
    · exact fun x d => kvLoA m c t h 384 _ x d (by omega)
    · exact fun x d => kvLoA m c t h 768 _ x d (by omega)
    · exact fun x d => kvLoA m c t h 896 _ x d (by omega)
    · exact fun x => (bAt m c t _ _ ⟨8 + 6, by omega⟩ ((off1 t ⟨6, by omega⟩).trans (by rw [if_pos h])) i x).trans (bent_first m c _ ⟨6, by omega⟩ i x (by omega))
    · exact fun x => (bAt m c t _ _ ⟨8 + 7, by omega⟩ ((off1 t ⟨7, by omega⟩).trans (by rw [if_pos h])) i x).trans (bent_first m c _ ⟨7, by omega⟩ i x (by omega))
    · exact sAt m c t 6 _ (by omega)
    · exact sAt m c t 7 _ (by omega)
  · intro i e r k hr hk
    refine (congrFun (tile10 _ _ _ _ _ _ _ _ _) (ix2 i e)).trans ?_
    refine (tiled m c t hg hw hs 1 0 128 0 0 128 512 640 0 1 (by omega) (by omega) rfl rfl rfl rfl rfl rfl rfl rfl _ _ _ _ _ _ _ _ _ i e ?_ ?_ ?_ ?_ ?_ ?_ ?_ ?_ ?_).trans
      (right_at m c t r k _ _ (by show t.val % 16 * 512 + (128 + i.val) = t.val % 16 * 512 + r.val; omega) (by show 0 + e.val = k.val; omega))
    · exact fun d => qAt m c t _ 128 0 _ i d (by omega) (by omega)
    · exact fun x d => kvHi m c t _ 128 0 _ x d (by omega) (by omega) (by omega)
    · exact fun x d => kvHi m c t _ 128 128 _ x d (by omega) (by omega) (by omega)
    · exact fun x d => kvHi m c t _ 128 512 _ x d (by omega) (by omega) (by omega)
    · exact fun x d => kvHi m c t _ 128 640 _ x d (by omega) (by omega) (by omega)
    · exact fun x => (bAt m c t _ _ ⟨0, by omega⟩ rfl i x).trans (bent m c _ ⟨0, by omega⟩ i x (by omega))
    · exact fun x => (bAt m c t _ _ ⟨1, by omega⟩ rfl i x).trans (bent m c _ ⟨1, by omega⟩ i x (by omega))
    · exact sAt m c t 0 _ (by omega)
    · exact sAt m c t 1 _ (by omega)
  · intro i e r k hr hk
    refine (congrFun (tile11 _ _ _ _ _ _ _ _ _) (ix2 i e)).trans ?_
    refine (tiled m c t hg hw hs 1 1 128 128 0 128 512 640 2 3 (by omega) (by omega) rfl rfl rfl rfl rfl rfl rfl rfl _ _ _ _ _ _ _ _ _ i e ?_ ?_ ?_ ?_ ?_ ?_ ?_ ?_ ?_).trans
      (right_at m c t r k _ _ (by show t.val % 16 * 512 + (128 + i.val) = t.val % 16 * 512 + r.val; omega) (by show 128 + e.val = k.val; omega))
    · exact fun d => qAt m c t _ 128 128 _ i d (by omega) (by omega)
    · exact fun x d => kvHi m c t _ 128 0 _ x d (by omega) (by omega) (by omega)
    · exact fun x d => kvHi m c t _ 128 128 _ x d (by omega) (by omega) (by omega)
    · exact fun x d => kvHi m c t _ 128 512 _ x d (by omega) (by omega) (by omega)
    · exact fun x d => kvHi m c t _ 128 640 _ x d (by omega) (by omega) (by omega)
    · exact fun x => (bAt m c t _ _ ⟨2, by omega⟩ rfl i x).trans (bent m c _ ⟨2, by omega⟩ i x (by omega))
    · exact fun x => (bAt m c t _ _ ⟨3, by omega⟩ rfl i x).trans (bent m c _ ⟨3, by omega⟩ i x (by omega))
    · exact sAt m c t 2 _ (by omega)
    · exact sAt m c t 3 _ (by omega)
  · intro i e r k hr hk
    refine (congrFun (tile12 _ _ _ _ _ _ _ _ _) (ix2 i e)).trans ?_
    refine (tiled m c t hg hw hs 1 2 128 256 256 384 768 896 4 5 (by omega) (by omega) rfl rfl rfl rfl rfl rfl rfl rfl _ _ _ _ _ _ _ _ _ i e ?_ ?_ ?_ ?_ ?_ ?_ ?_ ?_ ?_).trans
      (right_at m c t r k _ _ (by show t.val % 16 * 512 + (128 + i.val) = t.val % 16 * 512 + r.val; omega) (by show 256 + e.val = k.val; omega))
    · exact fun d => qAt m c t _ 128 256 _ i d (by omega) (by omega)
    · exact fun x d => kvHi m c t _ 128 256 _ x d (by omega) (by omega) (by omega)
    · exact fun x d => kvHi m c t _ 128 384 _ x d (by omega) (by omega) (by omega)
    · exact fun x d => kvHi m c t _ 128 768 _ x d (by omega) (by omega) (by omega)
    · exact fun x d => kvHi m c t _ 128 896 _ x d (by omega) (by omega) (by omega)
    · exact fun x => (bAt m c t _ _ ⟨4, by omega⟩ rfl i x).trans (bent m c _ ⟨4, by omega⟩ i x (by omega))
    · exact fun x => (bAt m c t _ _ ⟨5, by omega⟩ rfl i x).trans (bent m c _ ⟨5, by omega⟩ i x (by omega))
    · exact sAt m c t 4 _ (by omega)
    · exact sAt m c t 5 _ (by omega)
  · intro i e r k hr hk
    refine (congrFun (tile13 _ _ _ _ _ _ _ _ _) (ix2 i e)).trans ?_
    refine (tiled m c t hg hw hs 1 3 128 384 256 384 768 896 6 7 (by omega) (by omega) rfl rfl rfl rfl rfl rfl rfl rfl _ _ _ _ _ _ _ _ _ i e ?_ ?_ ?_ ?_ ?_ ?_ ?_ ?_ ?_).trans
      (right_at m c t r k _ _ (by show t.val % 16 * 512 + (128 + i.val) = t.val % 16 * 512 + r.val; omega) (by show 384 + e.val = k.val; omega))
    · exact fun d => qAt m c t _ 128 384 _ i d (by omega) (by omega)
    · exact fun x d => kvHi m c t _ 128 256 _ x d (by omega) (by omega) (by omega)
    · exact fun x d => kvHi m c t _ 128 384 _ x d (by omega) (by omega) (by omega)
    · exact fun x d => kvHi m c t _ 128 768 _ x d (by omega) (by omega) (by omega)
    · exact fun x d => kvHi m c t _ 128 896 _ x d (by omega) (by omega) (by omega)
    · exact fun x => (bAt m c t _ _ ⟨6, by omega⟩ rfl i x).trans (bent m c _ ⟨6, by omega⟩ i x (by omega))
    · exact fun x => (bAt m c t _ _ ⟨7, by omega⟩ rfl i x).trans (bent m c _ ⟨7, by omega⟩ i x (by omega))
    · exact sAt m c t 6 _ (by omega)
    · exact sAt m c t 7 _ (by omega)
  · intro i e r k hr hk
    refine (congrFun (tile20 _ _ _ _ _ _ _ _ _) (ix2 i e)).trans ?_
    refine (tiled m c t hg hw hs 2 0 256 0 0 128 512 640 0 1 (by omega) (by omega) rfl rfl rfl rfl rfl rfl rfl rfl _ _ _ _ _ _ _ _ _ i e ?_ ?_ ?_ ?_ ?_ ?_ ?_ ?_ ?_).trans
      (right_at m c t r k _ _ (by show t.val % 16 * 512 + (256 + i.val) = t.val % 16 * 512 + r.val; omega) (by show 0 + e.val = k.val; omega))
    · exact fun d => qAt m c t _ 256 0 _ i d (by omega) (by omega)
    · exact fun x d => kvHi m c t _ 256 0 _ x d (by omega) (by omega) (by omega)
    · exact fun x d => kvHi m c t _ 256 128 _ x d (by omega) (by omega) (by omega)
    · exact fun x d => kvHi m c t _ 256 512 _ x d (by omega) (by omega) (by omega)
    · exact fun x d => kvHi m c t _ 256 640 _ x d (by omega) (by omega) (by omega)
    · exact fun x => (bAt m c t _ _ ⟨0, by omega⟩ rfl i x).trans (bent m c _ ⟨0, by omega⟩ i x (by omega))
    · exact fun x => (bAt m c t _ _ ⟨1, by omega⟩ rfl i x).trans (bent m c _ ⟨1, by omega⟩ i x (by omega))
    · exact sAt m c t 0 _ (by omega)
    · exact sAt m c t 1 _ (by omega)
  · intro i e r k hr hk
    refine (congrFun (tile21 _ _ _ _ _ _ _ _ _) (ix2 i e)).trans ?_
    refine (tiled m c t hg hw hs 2 1 256 128 0 128 512 640 2 3 (by omega) (by omega) rfl rfl rfl rfl rfl rfl rfl rfl _ _ _ _ _ _ _ _ _ i e ?_ ?_ ?_ ?_ ?_ ?_ ?_ ?_ ?_).trans
      (right_at m c t r k _ _ (by show t.val % 16 * 512 + (256 + i.val) = t.val % 16 * 512 + r.val; omega) (by show 128 + e.val = k.val; omega))
    · exact fun d => qAt m c t _ 256 128 _ i d (by omega) (by omega)
    · exact fun x d => kvHi m c t _ 256 0 _ x d (by omega) (by omega) (by omega)
    · exact fun x d => kvHi m c t _ 256 128 _ x d (by omega) (by omega) (by omega)
    · exact fun x d => kvHi m c t _ 256 512 _ x d (by omega) (by omega) (by omega)
    · exact fun x d => kvHi m c t _ 256 640 _ x d (by omega) (by omega) (by omega)
    · exact fun x => (bAt m c t _ _ ⟨2, by omega⟩ rfl i x).trans (bent m c _ ⟨2, by omega⟩ i x (by omega))
    · exact fun x => (bAt m c t _ _ ⟨3, by omega⟩ rfl i x).trans (bent m c _ ⟨3, by omega⟩ i x (by omega))
    · exact sAt m c t 2 _ (by omega)
    · exact sAt m c t 3 _ (by omega)
  · intro i e r k hr hk
    refine (congrFun (tile22 _ _ _ _ _ _ _ _ _) (ix2 i e)).trans ?_
    refine (tiled m c t hg hw hs 2 2 256 256 256 384 768 896 4 5 (by omega) (by omega) rfl rfl rfl rfl rfl rfl rfl rfl _ _ _ _ _ _ _ _ _ i e ?_ ?_ ?_ ?_ ?_ ?_ ?_ ?_ ?_).trans
      (right_at m c t r k _ _ (by show t.val % 16 * 512 + (256 + i.val) = t.val % 16 * 512 + r.val; omega) (by show 256 + e.val = k.val; omega))
    · exact fun d => qAt m c t _ 256 256 _ i d (by omega) (by omega)
    · exact fun x d => kvHi m c t _ 256 256 _ x d (by omega) (by omega) (by omega)
    · exact fun x d => kvHi m c t _ 256 384 _ x d (by omega) (by omega) (by omega)
    · exact fun x d => kvHi m c t _ 256 768 _ x d (by omega) (by omega) (by omega)
    · exact fun x d => kvHi m c t _ 256 896 _ x d (by omega) (by omega) (by omega)
    · exact fun x => (bAt m c t _ _ ⟨4, by omega⟩ rfl i x).trans (bent m c _ ⟨4, by omega⟩ i x (by omega))
    · exact fun x => (bAt m c t _ _ ⟨5, by omega⟩ rfl i x).trans (bent m c _ ⟨5, by omega⟩ i x (by omega))
    · exact sAt m c t 4 _ (by omega)
    · exact sAt m c t 5 _ (by omega)
  · intro i e r k hr hk
    refine (congrFun (tile23 _ _ _ _ _ _ _ _ _) (ix2 i e)).trans ?_
    refine (tiled m c t hg hw hs 2 3 256 384 256 384 768 896 6 7 (by omega) (by omega) rfl rfl rfl rfl rfl rfl rfl rfl _ _ _ _ _ _ _ _ _ i e ?_ ?_ ?_ ?_ ?_ ?_ ?_ ?_ ?_).trans
      (right_at m c t r k _ _ (by show t.val % 16 * 512 + (256 + i.val) = t.val % 16 * 512 + r.val; omega) (by show 384 + e.val = k.val; omega))
    · exact fun d => qAt m c t _ 256 384 _ i d (by omega) (by omega)
    · exact fun x d => kvHi m c t _ 256 256 _ x d (by omega) (by omega) (by omega)
    · exact fun x d => kvHi m c t _ 256 384 _ x d (by omega) (by omega) (by omega)
    · exact fun x d => kvHi m c t _ 256 768 _ x d (by omega) (by omega) (by omega)
    · exact fun x d => kvHi m c t _ 256 896 _ x d (by omega) (by omega) (by omega)
    · exact fun x => (bAt m c t _ _ ⟨6, by omega⟩ rfl i x).trans (bent m c _ ⟨6, by omega⟩ i x (by omega))
    · exact fun x => (bAt m c t _ _ ⟨7, by omega⟩ rfl i x).trans (bent m c _ ⟨7, by omega⟩ i x (by omega))
    · exact sAt m c t 6 _ (by omega)
    · exact sAt m c t 7 _ (by omega)
  · intro i e r k hr hk
    refine (congrFun (tile30 _ _ _ _ _ _ _ _ _) (ix2 i e)).trans ?_
    refine (tiled m c t hg hw hs 3 0 384 0 0 128 512 640 0 1 (by omega) (by omega) rfl rfl rfl rfl rfl rfl rfl rfl _ _ _ _ _ _ _ _ _ i e ?_ ?_ ?_ ?_ ?_ ?_ ?_ ?_ ?_).trans
      (right_at m c t r k _ _ (by show t.val % 16 * 512 + (384 + i.val) = t.val % 16 * 512 + r.val; omega) (by show 0 + e.val = k.val; omega))
    · exact fun d => qAt m c t _ 384 0 _ i d (by omega) (by omega)
    · exact fun x d => kvHi m c t _ 384 0 _ x d (by omega) (by omega) (by omega)
    · exact fun x d => kvHi m c t _ 384 128 _ x d (by omega) (by omega) (by omega)
    · exact fun x d => kvHi m c t _ 384 512 _ x d (by omega) (by omega) (by omega)
    · exact fun x d => kvHi m c t _ 384 640 _ x d (by omega) (by omega) (by omega)
    · exact fun x => (bAt m c t _ _ ⟨0, by omega⟩ rfl i x).trans (bent m c _ ⟨0, by omega⟩ i x (by omega))
    · exact fun x => (bAt m c t _ _ ⟨1, by omega⟩ rfl i x).trans (bent m c _ ⟨1, by omega⟩ i x (by omega))
    · exact sAt m c t 0 _ (by omega)
    · exact sAt m c t 1 _ (by omega)
  · intro i e r k hr hk
    refine (congrFun (tile31 _ _ _ _ _ _ _ _ _) (ix2 i e)).trans ?_
    refine (tiled m c t hg hw hs 3 1 384 128 0 128 512 640 2 3 (by omega) (by omega) rfl rfl rfl rfl rfl rfl rfl rfl _ _ _ _ _ _ _ _ _ i e ?_ ?_ ?_ ?_ ?_ ?_ ?_ ?_ ?_).trans
      (right_at m c t r k _ _ (by show t.val % 16 * 512 + (384 + i.val) = t.val % 16 * 512 + r.val; omega) (by show 128 + e.val = k.val; omega))
    · exact fun d => qAt m c t _ 384 128 _ i d (by omega) (by omega)
    · exact fun x d => kvHi m c t _ 384 0 _ x d (by omega) (by omega) (by omega)
    · exact fun x d => kvHi m c t _ 384 128 _ x d (by omega) (by omega) (by omega)
    · exact fun x d => kvHi m c t _ 384 512 _ x d (by omega) (by omega) (by omega)
    · exact fun x d => kvHi m c t _ 384 640 _ x d (by omega) (by omega) (by omega)
    · exact fun x => (bAt m c t _ _ ⟨2, by omega⟩ rfl i x).trans (bent m c _ ⟨2, by omega⟩ i x (by omega))
    · exact fun x => (bAt m c t _ _ ⟨3, by omega⟩ rfl i x).trans (bent m c _ ⟨3, by omega⟩ i x (by omega))
    · exact sAt m c t 2 _ (by omega)
    · exact sAt m c t 3 _ (by omega)
  · intro i e r k hr hk
    refine (congrFun (tile32 _ _ _ _ _ _ _ _ _) (ix2 i e)).trans ?_
    refine (tiled m c t hg hw hs 3 2 384 256 256 384 768 896 4 5 (by omega) (by omega) rfl rfl rfl rfl rfl rfl rfl rfl _ _ _ _ _ _ _ _ _ i e ?_ ?_ ?_ ?_ ?_ ?_ ?_ ?_ ?_).trans
      (right_at m c t r k _ _ (by show t.val % 16 * 512 + (384 + i.val) = t.val % 16 * 512 + r.val; omega) (by show 256 + e.val = k.val; omega))
    · exact fun d => qAt m c t _ 384 256 _ i d (by omega) (by omega)
    · exact fun x d => kvHi m c t _ 384 256 _ x d (by omega) (by omega) (by omega)
    · exact fun x d => kvHi m c t _ 384 384 _ x d (by omega) (by omega) (by omega)
    · exact fun x d => kvHi m c t _ 384 768 _ x d (by omega) (by omega) (by omega)
    · exact fun x d => kvHi m c t _ 384 896 _ x d (by omega) (by omega) (by omega)
    · exact fun x => (bAt m c t _ _ ⟨4, by omega⟩ rfl i x).trans (bent m c _ ⟨4, by omega⟩ i x (by omega))
    · exact fun x => (bAt m c t _ _ ⟨5, by omega⟩ rfl i x).trans (bent m c _ ⟨5, by omega⟩ i x (by omega))
    · exact sAt m c t 4 _ (by omega)
    · exact sAt m c t 5 _ (by omega)
  · intro i e r k hr hk
    refine (congrFun (tile33 _ _ _ _ _ _ _ _ _) (ix2 i e)).trans ?_
    refine (tiled m c t hg hw hs 3 3 384 384 256 384 768 896 6 7 (by omega) (by omega) rfl rfl rfl rfl rfl rfl rfl rfl _ _ _ _ _ _ _ _ _ i e ?_ ?_ ?_ ?_ ?_ ?_ ?_ ?_ ?_).trans
      (right_at m c t r k _ _ (by show t.val % 16 * 512 + (384 + i.val) = t.val % 16 * 512 + r.val; omega) (by show 384 + e.val = k.val; omega))
    · exact fun d => qAt m c t _ 384 384 _ i d (by omega) (by omega)
    · exact fun x d => kvHi m c t _ 384 256 _ x d (by omega) (by omega) (by omega)
    · exact fun x d => kvHi m c t _ 384 384 _ x d (by omega) (by omega) (by omega)
    · exact fun x d => kvHi m c t _ 384 768 _ x d (by omega) (by omega) (by omega)
    · exact fun x d => kvHi m c t _ 384 896 _ x d (by omega) (by omega) (by omega)
    · exact fun x => (bAt m c t _ _ ⟨6, by omega⟩ rfl i x).trans (bent m c _ ⟨6, by omega⟩ i x (by omega))
    · exact fun x => (bAt m c t _ _ ⟨7, by omega⟩ rfl i x).trans (bent m c _ ⟨7, by omega⟩ i x (by omega))
    · exact sAt m c t 6 _ (by omega)
    · exact sAt m c t 7 _ (by omega)

end Cert.EvenMixerIdeal.Row

end
end
-- ==== Proof.EvenFin.lean ====
module

public import proofs.«01_k».proof.Proof.EvenVal

set_option maxRecDepth 16384

@[expose] public section
noncomputable section

open Idealize.ShloMosaic Idealize.ShloMosaic.TcCoe Idealize.SL.Sem
open Idealize.ShloMosaic.Pipeline (Dat)

/-! The even layer's other blocks and its result array. -/

namespace Cert.EvenMixerIdeal.Row
open Cert.EvenMixerIdeal Cert.EvenMixerIdeal.Gen Cert.Spec
open Cert.RefEvenMixerIdeal.Row (tilt bend cand win attended heads)

variable (m : (ℓ : Loc nD τ sig) → Buf (Elt Ideal) ℓ)

set_option maxHeartbeats 8000000 in
/-- Another block of the result: the input and the mixed rows' product with the last weights. -/
theorem pointB (c : Dev nD) (t : Fin cfg0.N) (h : ¬ t.val % 16 = 0) (hg : ∀ i, IsReal (m ((c : Thread nD τ).loc main_arg1) i)) (hw : ∀ i, IsReal (m ((c : Thread nD τ).loc main_arg2) i))
    (hs : ∀ i, IsReal (m ((c : Thread nD τ).loc main_arg7) i)) (r : Fin 512) (j : Fin 1024) :
    (outsAt0 m c t.val t.isLt).1 (ix2 r j) = whole m c t r j := by
  have ht := lt_grid t
  have hcb : ∀ (i : Fin 32) (k : Fin 512), (outsAt0 m c (t.val - 1) (by omega)).2.1 (ix2 ⟨i.val, by omega⟩ k) = cb m c t ⟨i.val, by omega⟩ k :=
    fun i k => (cb_carried m c ⟨t.val - 1, by omega⟩ i k).trans (cb_step m c t ⟨t.val - 1, by omega⟩ i k (by show t.val - 1 + 1 = t.val; omega) h)
  have hkv : ∀ (i : Fin 128) (j : Fin 1024), (outsAt0 m c (t.val - 1) (by omega)).2.2 (ix2 ⟨i.val, by omega⟩ j) = kv m c t ⟨i.val, by omega⟩ j :=
    fun i j => (kv_carried m c ⟨t.val - 1, by omega⟩ i j).trans (kv_step m c t ⟨t.val - 1, by omega⟩ i j (by show t.val - 1 + 1 = t.val; omega) h)
  rw [outsAt0_B m c t h]
  frame_out
  refine (pay4 _ _ _ _ _).trans ?_
  refine congrArg₂ (fun a b : EReal => a + b) (read0 m c t r j) (Finset.sum_congr rfl fun y _ => congrArg₂ (fun a b : EReal => a * b) ?_ (read9 m c t y j))
  refine mixed (left m c t) (right m c t) _ _ _ _ _ _ _ _ _ _ _ _ _ _ _ _ _ _ _ _ _ _ _ _ ?_ ?_ ?_ ?_ ?_ ?_ ?_ ?_ ?_ ?_ ?_ ?_ ?_ ?_ ?_ ?_ ?_ ?_ ?_ ?_ ?_ ?_ ?_ ?_ _ r y
  · intro x r k hr
    refine (congrFun (chunk0 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _) (ix2 x k)).trans ?_
    refine rowed m c t r x _ _ _ (fun k => read5 m c t k) (fun k => read6 m c t k) (fun l => ?_) k
    refine summed m c t r x _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (fun k => read4 m c t k) ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ l
    · exact fun k => wAt m c t 30 _ k (by omega)
    · exact fun k => wAt m c t 29 _ k (by omega)
    · exact fun k => wAt m c t 28 _ k (by omega)
    · exact fun k => wAt m c t 27 _ k (by omega)
    · exact fun k => wAt m c t 26 _ k (by omega)
    · exact fun k => wAt m c t 25 _ k (by omega)
    · exact fun k => wAt m c t 24 _ k (by omega)
    · exact fun k => wAt m c t 23 _ k (by omega)
    · exact fun k => wAt m c t 22 _ k (by omega)
    · exact fun k => wAt m c t 21 _ k (by omega)
    · exact fun k => wAt m c t 20 _ k (by omega)
    · exact fun k => wAt m c t 19 _ k (by omega)
    · exact fun k => wAt m c t 18 _ k (by omega)
    · exact fun k => wAt m c t 17 _ k (by omega)
    · exact fun k => wAt m c t 16 _ k (by omega)
    · exact fun k => wAt m c t 15 _ k (by omega)
    · exact fun k => wAt m c t 14 _ k (by omega)
    · exact fun k => wAt m c t 13 _ k (by omega)
    · exact fun k => wAt m c t 12 _ k (by omega)
    · exact fun k => wAt m c t 11 _ k (by omega)
    · exact fun k => wAt m c t 10 _ k (by omega)
    · exact fun k => wAt m c t 9 _ k (by omega)
    · exact fun k => wAt m c t 8 _ k (by omega)
    · exact fun k => wAt m c t 7 _ k (by omega)
    · exact fun k => wAt m c t 6 _ k (by omega)
    · exact fun k => wAt m c t 5 _ k (by omega)
    · exact fun k => wAt m c t 4 _ k (by omega)
    · exact fun k => wAt m c t 3 _ k (by omega)
    · exact fun k => wAt m c t 2 _ k (by omega)
    · exact fun k => wAt m c t 1 _ k (by omega)
    · exact fun k => wAt m c t 0 _ k (by omega)
    · exact fun k => (cbHi m c t _ 32 _ x k (by omega) (by omega)).trans (cb_tap m c t _ 30 r k (by show 32 + x.val = 2 + 30 + r.val; omega))
    · exact fun k => (cbLoB m c t _ (fun i k => (congrFun (read_unread_whole _ _ _) _).trans (hcb i k)) 31 _ x k (by omega)).trans (cb_tap m c t _ 29 r k (by show 31 + x.val = 2 + 29 + r.val; omega))
    · exact fun k => (cbLoB m c t _ (fun i k => (congrFun (read_unread_whole _ _ _) _).trans (hcb i k)) 30 _ x k (by omega)).trans (cb_tap m c t _ 28 r k (by show 30 + x.val = 2 + 28 + r.val; omega))
    · exact fun k => (cbLoB m c t _ (fun i k => (congrFun (read_unread_whole _ _ _) _).trans (hcb i k)) 29 _ x k (by omega)).trans (cb_tap m c t _ 27 r k (by show 29 + x.val = 2 + 27 + r.val; omega))
    · exact fun k => (cbLoB m c t _ (fun i k => (congrFun (read_unread_whole _ _ _) _).trans (hcb i k)) 28 _ x k (by omega)).trans (cb_tap m c t _ 26 r k (by show 28 + x.val = 2 + 26 + r.val; omega))
    · exact fun k => (cbLoB m c t _ (fun i k => (congrFun (read_unread_whole _ _ _) _).trans (hcb i k)) 27 _ x k (by omega)).trans (cb_tap m c t _ 25 r k (by show 27 + x.val = 2 + 25 + r.val; omega))
    · exact fun k => (cbLoB m c t _ (fun i k => (congrFun (read_unread_whole _ _ _) _).trans (hcb i k)) 26 _ x k (by omega)).trans (cb_tap m c t _ 24 r k (by show 26 + x.val = 2 + 24 + r.val; omega))
    · exact fun k => (cbLoB m c t _ (fun i k => (congrFun (read_unread_whole _ _ _) _).trans (hcb i k)) 25 _ x k (by omega)).trans (cb_tap m c t _ 23 r k (by show 25 + x.val = 2 + 23 + r.val; omega))
    · exact fun k => (cbLoB m c t _ (fun i k => (congrFun (read_unread_whole _ _ _) _).trans (hcb i k)) 24 _ x k (by omega)).trans (cb_tap m c t _ 22 r k (by show 24 + x.val = 2 + 22 + r.val; omega))
    · exact fun k => (cbLoB m c t _ (fun i k => (congrFun (read_unread_whole _ _ _) _).trans (hcb i k)) 23 _ x k (by omega)).trans (cb_tap m c t _ 21 r k (by show 23 + x.val = 2 + 21 + r.val; omega))
    · exact fun k => (cbLoB m c t _ (fun i k => (congrFun (read_unread_whole _ _ _) _).trans (hcb i k)) 22 _ x k (by omega)).trans (cb_tap m c t _ 20 r k (by show 22 + x.val = 2 + 20 + r.val; omega))
    · exact fun k => (cbLoB m c t _ (fun i k => (congrFun (read_unread_whole _ _ _) _).trans (hcb i k)) 21 _ x k (by omega)).trans (cb_tap m c t _ 19 r k (by show 21 + x.val = 2 + 19 + r.val; omega))
    · exact fun k => (cbLoB m c t _ (fun i k => (congrFun (read_unread_whole _ _ _) _).trans (hcb i k)) 20 _ x k (by omega)).trans (cb_tap m c t _ 18 r k (by show 20 + x.val = 2 + 18 + r.val; omega))
    · exact fun k => (cbLoB m c t _ (fun i k => (congrFun (read_unread_whole _ _ _) _).trans (hcb i k)) 19 _ x k (by omega)).trans (cb_tap m c t _ 17 r k (by show 19 + x.val = 2 + 17 + r.val; omega))
    · exact fun k => (cbLoB m c t _ (fun i k => (congrFun (read_unread_whole _ _ _) _).trans (hcb i k)) 18 _ x k (by omega)).trans (cb_tap m c t _ 16 r k (by show 18 + x.val = 2 + 16 + r.val; omega))
    · exact fun k => (cbLoB m c t _ (fun i k => (congrFun (read_unread_whole _ _ _) _).trans (hcb i k)) 17 _ x k (by omega)).trans (cb_tap m c t _ 15 r k (by show 17 + x.val = 2 + 15 + r.val; omega))
    · exact fun k => (cbLoB m c t _ (fun i k => (congrFun (read_unread_whole _ _ _) _).trans (hcb i k)) 16 _ x k (by omega)).trans (cb_tap m c t _ 14 r k (by show 16 + x.val = 2 + 14 + r.val; omega))
    · exact fun k => (cbLoB m c t _ (fun i k => (congrFun (read_unread_whole _ _ _) _).trans (hcb i k)) 15 _ x k (by omega)).trans (cb_tap m c t _ 13 r k (by show 15 + x.val = 2 + 13 + r.val; omega))
    · exact fun k => (cbLoB m c t _ (fun i k => (congrFun (read_unread_whole _ _ _) _).trans (hcb i k)) 14 _ x k (by omega)).trans (cb_tap m c t _ 12 r k (by show 14 + x.val = 2 + 12 + r.val; omega))
    · exact fun k => (cbLoB m c t _ (fun i k => (congrFun (read_unread_whole _ _ _) _).trans (hcb i k)) 13 _ x k (by omega)).trans (cb_tap m c t _ 11 r k (by show 13 + x.val = 2 + 11 + r.val; omega))
    · exact fun k => (cbLoB m c t _ (fun i k => (congrFun (read_unread_whole _ _ _) _).trans (hcb i k)) 12 _ x k (by omega)).trans (cb_tap m c t _ 10 r k (by show 12 + x.val = 2 + 10 + r.val; omega))
    · exact fun k => (cbLoB m c t _ (fun i k => (congrFun (read_unread_whole _ _ _) _).trans (hcb i k)) 11 _ x k (by omega)).trans (cb_tap m c t _ 9 r k (by show 11 + x.val = 2 + 9 + r.val; omega))
    · exact fun k => (cbLoB m c t _ (fun i k => (congrFun (read_unread_whole _ _ _) _).trans (hcb i k)) 10 _ x k (by omega)).trans (cb_tap m c t _ 8 r k (by show 10 + x.val = 2 + 8 + r.val; omega))
    · exact fun k => (cbLoB m c t _ (fun i k => (congrFun (read_unread_whole _ _ _) _).trans (hcb i k)) 9 _ x k (by omega)).trans (cb_tap m c t _ 7 r k (by show 9 + x.val = 2 + 7 + r.val; omega))
    · exact fun k => (cbLoB m c t _ (fun i k => (congrFun (read_unread_whole _ _ _) _).trans (hcb i k)) 8 _ x k (by omega)).trans (cb_tap m c t _ 6 r k (by show 8 + x.val = 2 + 6 + r.val; omega))
    · exact fun k => (cbLoB m c t _ (fun i k => (congrFun (read_unread_whole _ _ _) _).trans (hcb i k)) 7 _ x k (by omega)).trans (cb_tap m c t _ 5 r k (by show 7 + x.val = 2 + 5 + r.val; omega))
    · exact fun k => (cbLoB m c t _ (fun i k => (congrFun (read_unread_whole _ _ _) _).trans (hcb i k)) 6 _ x k (by omega)).trans (cb_tap m c t _ 4 r k (by show 6 + x.val = 2 + 4 + r.val; omega))
    · exact fun k => (cbLoB m c t _ (fun i k => (congrFun (read_unread_whole _ _ _) _).trans (hcb i k)) 5 _ x k (by omega)).trans (cb_tap m c t _ 3 r k (by show 5 + x.val = 2 + 3 + r.val; omega))
    · exact fun k => (cbLoB m c t _ (fun i k => (congrFun (read_unread_whole _ _ _) _).trans (hcb i k)) 4 _ x k (by omega)).trans (cb_tap m c t _ 2 r k (by show 4 + x.val = 2 + 2 + r.val; omega))
    · exact fun k => (cbLoB m c t _ (fun i k => (congrFun (read_unread_whole _ _ _) _).trans (hcb i k)) 3 _ x k (by omega)).trans (cb_tap m c t _ 1 r k (by show 3 + x.val = 2 + 1 + r.val; omega))
    · exact fun k => (cbLoB m c t _ (fun i k => (congrFun (read_unread_whole _ _ _) _).trans (hcb i k)) 2 _ x k (by omega)).trans (cb_tap m c t _ 0 r k (by show 2 + x.val = 2 + 0 + r.val; omega))
  · intro x r k hr
    refine (congrFun (chunk1 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _) (ix2 x k)).trans ?_
    refine rowed m c t r x _ _ _ (fun k => read5 m c t k) (fun k => read6 m c t k) (fun l => ?_) k
    refine summed m c t r x _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (fun k => read4 m c t k) ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ l
    · exact fun k => wAt m c t 30 _ k (by omega)
    · exact fun k => wAt m c t 29 _ k (by omega)
    · exact fun k => wAt m c t 28 _ k (by omega)
    · exact fun k => wAt m c t 27 _ k (by omega)
    · exact fun k => wAt m c t 26 _ k (by omega)
    · exact fun k => wAt m c t 25 _ k (by omega)
    · exact fun k => wAt m c t 24 _ k (by omega)
    · exact fun k => wAt m c t 23 _ k (by omega)
    · exact fun k => wAt m c t 22 _ k (by omega)
    · exact fun k => wAt m c t 21 _ k (by omega)
    · exact fun k => wAt m c t 20 _ k (by omega)
    · exact fun k => wAt m c t 19 _ k (by omega)
    · exact fun k => wAt m c t 18 _ k (by omega)
    · exact fun k => wAt m c t 17 _ k (by omega)
    · exact fun k => wAt m c t 16 _ k (by omega)
    · exact fun k => wAt m c t 15 _ k (by omega)
    · exact fun k => wAt m c t 14 _ k (by omega)
    · exact fun k => wAt m c t 13 _ k (by omega)
    · exact fun k => wAt m c t 12 _ k (by omega)
    · exact fun k => wAt m c t 11 _ k (by omega)
    · exact fun k => wAt m c t 10 _ k (by omega)
    · exact fun k => wAt m c t 9 _ k (by omega)
    · exact fun k => wAt m c t 8 _ k (by omega)
    · exact fun k => wAt m c t 7 _ k (by omega)
    · exact fun k => wAt m c t 6 _ k (by omega)
    · exact fun k => wAt m c t 5 _ k (by omega)
    · exact fun k => wAt m c t 4 _ k (by omega)
    · exact fun k => wAt m c t 3 _ k (by omega)
    · exact fun k => wAt m c t 2 _ k (by omega)
    · exact fun k => wAt m c t 1 _ k (by omega)
    · exact fun k => wAt m c t 0 _ k (by omega)
    · exact fun k => (cbHi m c t _ 96 _ x k (by omega) (by omega)).trans (cb_tap m c t _ 30 r k (by show 96 + x.val = 2 + 30 + r.val; omega))
    · exact fun k => (cbHi m c t _ 95 _ x k (by omega) (by omega)).trans (cb_tap m c t _ 29 r k (by show 95 + x.val = 2 + 29 + r.val; omega))
    · exact fun k => (cbHi m c t _ 94 _ x k (by omega) (by omega)).trans (cb_tap m c t _ 28 r k (by show 94 + x.val = 2 + 28 + r.val; omega))
    · exact fun k => (cbHi m c t _ 93 _ x k (by omega) (by omega)).trans (cb_tap m c t _ 27 r k (by show 93 + x.val = 2 + 27 + r.val; omega))
    · exact fun k => (cbHi m c t _ 92 _ x k (by omega) (by omega)).trans (cb_tap m c t _ 26 r k (by show 92 + x.val = 2 + 26 + r.val; omega))
    · exact fun k => (cbHi m c t _ 91 _ x k (by omega) (by omega)).trans (cb_tap m c t _ 25 r k (by show 91 + x.val = 2 + 25 + r.val; omega))
    · exact fun k => (cbHi m c t _ 90 _ x k (by omega) (by omega)).trans (cb_tap m c t _ 24 r k (by show 90 + x.val = 2 + 24 + r.val; omega))
    · exact fun k => (cbHi m c t _ 89 _ x k (by omega) (by omega)).trans (cb_tap m c t _ 23 r k (by show 89 + x.val = 2 + 23 + r.val; omega))
    · exact fun k => (cbHi m c t _ 88 _ x k (by omega) (by omega)).trans (cb_tap m c t _ 22 r k (by show 88 + x.val = 2 + 22 + r.val; omega))
    · exact fun k => (cbHi m c t _ 87 _ x k (by omega) (by omega)).trans (cb_tap m c t _ 21 r k (by show 87 + x.val = 2 + 21 + r.val; omega))
    · exact fun k => (cbHi m c t _ 86 _ x k (by omega) (by omega)).trans (cb_tap m c t _ 20 r k (by show 86 + x.val = 2 + 20 + r.val; omega))
    · exact fun k => (cbHi m c t _ 85 _ x k (by omega) (by omega)).trans (cb_tap m c t _ 19 r k (by show 85 + x.val = 2 + 19 + r.val; omega))
    · exact fun k => (cbHi m c t _ 84 _ x k (by omega) (by omega)).trans (cb_tap m c t _ 18 r k (by show 84 + x.val = 2 + 18 + r.val; omega))
    · exact fun k => (cbHi m c t _ 83 _ x k (by omega) (by omega)).trans (cb_tap m c t _ 17 r k (by show 83 + x.val = 2 + 17 + r.val; omega))
    · exact fun k => (cbHi m c t _ 82 _ x k (by omega) (by omega)).trans (cb_tap m c t _ 16 r k (by show 82 + x.val = 2 + 16 + r.val; omega))
    · exact fun k => (cbHi m c t _ 81 _ x k (by omega) (by omega)).trans (cb_tap m c t _ 15 r k (by show 81 + x.val = 2 + 15 + r.val; omega))
    · exact fun k => (cbHi m c t _ 80 _ x k (by omega) (by omega)).trans (cb_tap m c t _ 14 r k (by show 80 + x.val = 2 + 14 + r.val; omega))
    · exact fun k => (cbHi m c t _ 79 _ x k (by omega) (by omega)).trans (cb_tap m c t _ 13 r k (by show 79 + x.val = 2 + 13 + r.val; omega))
    · exact fun k => (cbHi m c t _ 78 _ x k (by omega) (by omega)).trans (cb_tap m c t _ 12 r k (by show 78 + x.val = 2 + 12 + r.val; omega))
    · exact fun k => (cbHi m c t _ 77 _ x k (by omega) (by omega)).trans (cb_tap m c t _ 11 r k (by show 77 + x.val = 2 + 11 + r.val; omega))
    · exact fun k => (cbHi m c t _ 76 _ x k (by omega) (by omega)).trans (cb_tap m c t _ 10 r k (by show 76 + x.val = 2 + 10 + r.val; omega))
    · exact fun k => (cbHi m c t _ 75 _ x k (by omega) (by omega)).trans (cb_tap m c t _ 9 r k (by show 75 + x.val = 2 + 9 + r.val; omega))
    · exact fun k => (cbHi m c t _ 74 _ x k (by omega) (by omega)).trans (cb_tap m c t _ 8 r k (by show 74 + x.val = 2 + 8 + r.val; omega))
    · exact fun k => (cbHi m c t _ 73 _ x k (by omega) (by omega)).trans (cb_tap m c t _ 7 r k (by show 73 + x.val = 2 + 7 + r.val; omega))
    · exact fun k => (cbHi m c t _ 72 _ x k (by omega) (by omega)).trans (cb_tap m c t _ 6 r k (by show 72 + x.val = 2 + 6 + r.val; omega))
    · exact fun k => (cbHi m c t _ 71 _ x k (by omega) (by omega)).trans (cb_tap m c t _ 5 r k (by show 71 + x.val = 2 + 5 + r.val; omega))
    · exact fun k => (cbHi m c t _ 70 _ x k (by omega) (by omega)).trans (cb_tap m c t _ 4 r k (by show 70 + x.val = 2 + 4 + r.val; omega))
    · exact fun k => (cbHi m c t _ 69 _ x k (by omega) (by omega)).trans (cb_tap m c t _ 3 r k (by show 69 + x.val = 2 + 3 + r.val; omega))
    · exact fun k => (cbHi m c t _ 68 _ x k (by omega) (by omega)).trans (cb_tap m c t _ 2 r k (by show 68 + x.val = 2 + 2 + r.val; omega))
    · exact fun k => (cbHi m c t _ 67 _ x k (by omega) (by omega)).trans (cb_tap m c t _ 1 r k (by show 67 + x.val = 2 + 1 + r.val; omega))
    · exact fun k => (cbHi m c t _ 66 _ x k (by omega) (by omega)).trans (cb_tap m c t _ 0 r k (by show 66 + x.val = 2 + 0 + r.val; omega))
  · intro x r k hr
    refine (congrFun (chunk2 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _) (ix2 x k)).trans ?_
    refine rowed m c t r x _ _ _ (fun k => read5 m c t k) (fun k => read6 m c t k) (fun l => ?_) k
    refine summed m c t r x _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (fun k => read4 m c t k) ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ l
    · exact fun k => wAt m c t 30 _ k (by omega)
    · exact fun k => wAt m c t 29 _ k (by omega)
    · exact fun k => wAt m c t 28 _ k (by omega)
    · exact fun k => wAt m c t 27 _ k (by omega)
    · exact fun k => wAt m c t 26 _ k (by omega)
    · exact fun k => wAt m c t 25 _ k (by omega)
    · exact fun k => wAt m c t 24 _ k (by omega)
    · exact fun k => wAt m c t 23 _ k (by omega)
    · exact fun k => wAt m c t 22 _ k (by omega)
    · exact fun k => wAt m c t 21 _ k (by omega)
    · exact fun k => wAt m c t 20 _ k (by omega)
    · exact fun k => wAt m c t 19 _ k (by omega)
    · exact fun k => wAt m c t 18 _ k (by omega)
    · exact fun k => wAt m c t 17 _ k (by omega)
    · exact fun k => wAt m c t 16 _ k (by omega)
    · exact fun k => wAt m c t 15 _ k (by omega)
    · exact fun k => wAt m c t 14 _ k (by omega)
    · exact fun k => wAt m c t 13 _ k (by omega)
    · exact fun k => wAt m c t 12 _ k (by omega)
    · exact fun k => wAt m c t 11 _ k (by omega)
    · exact fun k => wAt m c t 10 _ k (by omega)
    · exact fun k => wAt m c t 9 _ k (by omega)
    · exact fun k => wAt m c t 8 _ k (by omega)
    · exact fun k => wAt m c t 7 _ k (by omega)
    · exact fun k => wAt m c t 6 _ k (by omega)
    · exact fun k => wAt m c t 5 _ k (by omega)
    · exact fun k => wAt m c t 4 _ k (by omega)
    · exact fun k => wAt m c t 3 _ k (by omega)
    · exact fun k => wAt m c t 2 _ k (by omega)
    · exact fun k => wAt m c t 1 _ k (by omega)
    · exact fun k => wAt m c t 0 _ k (by omega)
    · exact fun k => (cbHi m c t _ 160 _ x k (by omega) (by omega)).trans (cb_tap m c t _ 30 r k (by show 160 + x.val = 2 + 30 + r.val; omega))
    · exact fun k => (cbHi m c t _ 159 _ x k (by omega) (by omega)).trans (cb_tap m c t _ 29 r k (by show 159 + x.val = 2 + 29 + r.val; omega))
    · exact fun k => (cbHi m c t _ 158 _ x k (by omega) (by omega)).trans (cb_tap m c t _ 28 r k (by show 158 + x.val = 2 + 28 + r.val; omega))
    · exact fun k => (cbHi m c t _ 157 _ x k (by omega) (by omega)).trans (cb_tap m c t _ 27 r k (by show 157 + x.val = 2 + 27 + r.val; omega))
    · exact fun k => (cbHi m c t _ 156 _ x k (by omega) (by omega)).trans (cb_tap m c t _ 26 r k (by show 156 + x.val = 2 + 26 + r.val; omega))
    · exact fun k => (cbHi m c t _ 155 _ x k (by omega) (by omega)).trans (cb_tap m c t _ 25 r k (by show 155 + x.val = 2 + 25 + r.val; omega))
    · exact fun k => (cbHi m c t _ 154 _ x k (by omega) (by omega)).trans (cb_tap m c t _ 24 r k (by show 154 + x.val = 2 + 24 + r.val; omega))
    · exact fun k => (cbHi m c t _ 153 _ x k (by omega) (by omega)).trans (cb_tap m c t _ 23 r k (by show 153 + x.val = 2 + 23 + r.val; omega))
    · exact fun k => (cbHi m c t _ 152 _ x k (by omega) (by omega)).trans (cb_tap m c t _ 22 r k (by show 152 + x.val = 2 + 22 + r.val; omega))
    · exact fun k => (cbHi m c t _ 151 _ x k (by omega) (by omega)).trans (cb_tap m c t _ 21 r k (by show 151 + x.val = 2 + 21 + r.val; omega))
    · exact fun k => (cbHi m c t _ 150 _ x k (by omega) (by omega)).trans (cb_tap m c t _ 20 r k (by show 150 + x.val = 2 + 20 + r.val; omega))
    · exact fun k => (cbHi m c t _ 149 _ x k (by omega) (by omega)).trans (cb_tap m c t _ 19 r k (by show 149 + x.val = 2 + 19 + r.val; omega))
    · exact fun k => (cbHi m c t _ 148 _ x k (by omega) (by omega)).trans (cb_tap m c t _ 18 r k (by show 148 + x.val = 2 + 18 + r.val; omega))
    · exact fun k => (cbHi m c t _ 147 _ x k (by omega) (by omega)).trans (cb_tap m c t _ 17 r k (by show 147 + x.val = 2 + 17 + r.val; omega))
    · exact fun k => (cbHi m c t _ 146 _ x k (by omega) (by omega)).trans (cb_tap m c t _ 16 r k (by show 146 + x.val = 2 + 16 + r.val; omega))
    · exact fun k => (cbHi m c t _ 145 _ x k (by omega) (by omega)).trans (cb_tap m c t _ 15 r k (by show 145 + x.val = 2 + 15 + r.val; omega))
    · exact fun k => (cbHi m c t _ 144 _ x k (by omega) (by omega)).trans (cb_tap m c t _ 14 r k (by show 144 + x.val = 2 + 14 + r.val; omega))
    · exact fun k => (cbHi m c t _ 143 _ x k (by omega) (by omega)).trans (cb_tap m c t _ 13 r k (by show 143 + x.val = 2 + 13 + r.val; omega))
    · exact fun k => (cbHi m c t _ 142 _ x k (by omega) (by omega)).trans (cb_tap m c t _ 12 r k (by show 142 + x.val = 2 + 12 + r.val; omega))
    · exact fun k => (cbHi m c t _ 141 _ x k (by omega) (by omega)).trans (cb_tap m c t _ 11 r k (by show 141 + x.val = 2 + 11 + r.val; omega))
    · exact fun k => (cbHi m c t _ 140 _ x k (by omega) (by omega)).trans (cb_tap m c t _ 10 r k (by show 140 + x.val = 2 + 10 + r.val; omega))
    · exact fun k => (cbHi m c t _ 139 _ x k (by omega) (by omega)).trans (cb_tap m c t _ 9 r k (by show 139 + x.val = 2 + 9 + r.val; omega))
    · exact fun k => (cbHi m c t _ 138 _ x k (by omega) (by omega)).trans (cb_tap m c t _ 8 r k (by show 138 + x.val = 2 + 8 + r.val; omega))
    · exact fun k => (cbHi m c t _ 137 _ x k (by omega) (by omega)).trans (cb_tap m c t _ 7 r k (by show 137 + x.val = 2 + 7 + r.val; omega))
    · exact fun k => (cbHi m c t _ 136 _ x k (by omega) (by omega)).trans (cb_tap m c t _ 6 r k (by show 136 + x.val = 2 + 6 + r.val; omega))
    · exact fun k => (cbHi m c t _ 135 _ x k (by omega) (by omega)).trans (cb_tap m c t _ 5 r k (by show 135 + x.val = 2 + 5 + r.val; omega))
    · exact fun k => (cbHi m c t _ 134 _ x k (by omega) (by omega)).trans (cb_tap m c t _ 4 r k (by show 134 + x.val = 2 + 4 + r.val; omega))
    · exact fun k => (cbHi m c t _ 133 _ x k (by omega) (by omega)).trans (cb_tap m c t _ 3 r k (by show 133 + x.val = 2 + 3 + r.val; omega))
    · exact fun k => (cbHi m c t _ 132 _ x k (by omega) (by omega)).trans (cb_tap m c t _ 2 r k (by show 132 + x.val = 2 + 2 + r.val; omega))
    · exact fun k => (cbHi m c t _ 131 _ x k (by omega) (by omega)).trans (cb_tap m c t _ 1 r k (by show 131 + x.val = 2 + 1 + r.val; omega))
    · exact fun k => (cbHi m c t _ 130 _ x k (by omega) (by omega)).trans (cb_tap m c t _ 0 r k (by show 130 + x.val = 2 + 0 + r.val; omega))
  · intro x r k hr
    refine (congrFun (chunk3 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _) (ix2 x k)).trans ?_
    refine rowed m c t r x _ _ _ (fun k => read5 m c t k) (fun k => read6 m c t k) (fun l => ?_) k
    refine summed m c t r x _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (fun k => read4 m c t k) ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ l
    · exact fun k => wAt m c t 30 _ k (by omega)
    · exact fun k => wAt m c t 29 _ k (by omega)
    · exact fun k => wAt m c t 28 _ k (by omega)
    · exact fun k => wAt m c t 27 _ k (by omega)
    · exact fun k => wAt m c t 26 _ k (by omega)
    · exact fun k => wAt m c t 25 _ k (by omega)
    · exact fun k => wAt m c t 24 _ k (by omega)
    · exact fun k => wAt m c t 23 _ k (by omega)
    · exact fun k => wAt m c t 22 _ k (by omega)
    · exact fun k => wAt m c t 21 _ k (by omega)
    · exact fun k => wAt m c t 20 _ k (by omega)
    · exact fun k => wAt m c t 19 _ k (by omega)
    · exact fun k => wAt m c t 18 _ k (by omega)
    · exact fun k => wAt m c t 17 _ k (by omega)
    · exact fun k => wAt m c t 16 _ k (by omega)
    · exact fun k => wAt m c t 15 _ k (by omega)
    · exact fun k => wAt m c t 14 _ k (by omega)
    · exact fun k => wAt m c t 13 _ k (by omega)
    · exact fun k => wAt m c t 12 _ k (by omega)
    · exact fun k => wAt m c t 11 _ k (by omega)
    · exact fun k => wAt m c t 10 _ k (by omega)
    · exact fun k => wAt m c t 9 _ k (by omega)
    · exact fun k => wAt m c t 8 _ k (by omega)
    · exact fun k => wAt m c t 7 _ k (by omega)
    · exact fun k => wAt m c t 6 _ k (by omega)
    · exact fun k => wAt m c t 5 _ k (by omega)
    · exact fun k => wAt m c t 4 _ k (by omega)
    · exact fun k => wAt m c t 3 _ k (by omega)
    · exact fun k => wAt m c t 2 _ k (by omega)
    · exact fun k => wAt m c t 1 _ k (by omega)
    · exact fun k => wAt m c t 0 _ k (by omega)
    · exact fun k => (cbHi m c t _ 224 _ x k (by omega) (by omega)).trans (cb_tap m c t _ 30 r k (by show 224 + x.val = 2 + 30 + r.val; omega))
    · exact fun k => (cbHi m c t _ 223 _ x k (by omega) (by omega)).trans (cb_tap m c t _ 29 r k (by show 223 + x.val = 2 + 29 + r.val; omega))
    · exact fun k => (cbHi m c t _ 222 _ x k (by omega) (by omega)).trans (cb_tap m c t _ 28 r k (by show 222 + x.val = 2 + 28 + r.val; omega))
    · exact fun k => (cbHi m c t _ 221 _ x k (by omega) (by omega)).trans (cb_tap m c t _ 27 r k (by show 221 + x.val = 2 + 27 + r.val; omega))
    · exact fun k => (cbHi m c t _ 220 _ x k (by omega) (by omega)).trans (cb_tap m c t _ 26 r k (by show 220 + x.val = 2 + 26 + r.val; omega))
    · exact fun k => (cbHi m c t _ 219 _ x k (by omega) (by omega)).trans (cb_tap m c t _ 25 r k (by show 219 + x.val = 2 + 25 + r.val; omega))
    · exact fun k => (cbHi m c t _ 218 _ x k (by omega) (by omega)).trans (cb_tap m c t _ 24 r k (by show 218 + x.val = 2 + 24 + r.val; omega))
    · exact fun k => (cbHi m c t _ 217 _ x k (by omega) (by omega)).trans (cb_tap m c t _ 23 r k (by show 217 + x.val = 2 + 23 + r.val; omega))
    · exact fun k => (cbHi m c t _ 216 _ x k (by omega) (by omega)).trans (cb_tap m c t _ 22 r k (by show 216 + x.val = 2 + 22 + r.val; omega))
    · exact fun k => (cbHi m c t _ 215 _ x k (by omega) (by omega)).trans (cb_tap m c t _ 21 r k (by show 215 + x.val = 2 + 21 + r.val; omega))
    · exact fun k => (cbHi m c t _ 214 _ x k (by omega) (by omega)).trans (cb_tap m c t _ 20 r k (by show 214 + x.val = 2 + 20 + r.val; omega))
    · exact fun k => (cbHi m c t _ 213 _ x k (by omega) (by omega)).trans (cb_tap m c t _ 19 r k (by show 213 + x.val = 2 + 19 + r.val; omega))
    · exact fun k => (cbHi m c t _ 212 _ x k (by omega) (by omega)).trans (cb_tap m c t _ 18 r k (by show 212 + x.val = 2 + 18 + r.val; omega))
    · exact fun k => (cbHi m c t _ 211 _ x k (by omega) (by omega)).trans (cb_tap m c t _ 17 r k (by show 211 + x.val = 2 + 17 + r.val; omega))
    · exact fun k => (cbHi m c t _ 210 _ x k (by omega) (by omega)).trans (cb_tap m c t _ 16 r k (by show 210 + x.val = 2 + 16 + r.val; omega))
    · exact fun k => (cbHi m c t _ 209 _ x k (by omega) (by omega)).trans (cb_tap m c t _ 15 r k (by show 209 + x.val = 2 + 15 + r.val; omega))
    · exact fun k => (cbHi m c t _ 208 _ x k (by omega) (by omega)).trans (cb_tap m c t _ 14 r k (by show 208 + x.val = 2 + 14 + r.val; omega))
    · exact fun k => (cbHi m c t _ 207 _ x k (by omega) (by omega)).trans (cb_tap m c t _ 13 r k (by show 207 + x.val = 2 + 13 + r.val; omega))
    · exact fun k => (cbHi m c t _ 206 _ x k (by omega) (by omega)).trans (cb_tap m c t _ 12 r k (by show 206 + x.val = 2 + 12 + r.val; omega))
    · exact fun k => (cbHi m c t _ 205 _ x k (by omega) (by omega)).trans (cb_tap m c t _ 11 r k (by show 205 + x.val = 2 + 11 + r.val; omega))
    · exact fun k => (cbHi m c t _ 204 _ x k (by omega) (by omega)).trans (cb_tap m c t _ 10 r k (by show 204 + x.val = 2 + 10 + r.val; omega))
    · exact fun k => (cbHi m c t _ 203 _ x k (by omega) (by omega)).trans (cb_tap m c t _ 9 r k (by show 203 + x.val = 2 + 9 + r.val; omega))
    · exact fun k => (cbHi m c t _ 202 _ x k (by omega) (by omega)).trans (cb_tap m c t _ 8 r k (by show 202 + x.val = 2 + 8 + r.val; omega))
    · exact fun k => (cbHi m c t _ 201 _ x k (by omega) (by omega)).trans (cb_tap m c t _ 7 r k (by show 201 + x.val = 2 + 7 + r.val; omega))
    · exact fun k => (cbHi m c t _ 200 _ x k (by omega) (by omega)).trans (cb_tap m c t _ 6 r k (by show 200 + x.val = 2 + 6 + r.val; omega))
    · exact fun k => (cbHi m c t _ 199 _ x k (by omega) (by omega)).trans (cb_tap m c t _ 5 r k (by show 199 + x.val = 2 + 5 + r.val; omega))
    · exact fun k => (cbHi m c t _ 198 _ x k (by omega) (by omega)).trans (cb_tap m c t _ 4 r k (by show 198 + x.val = 2 + 4 + r.val; omega))
    · exact fun k => (cbHi m c t _ 197 _ x k (by omega) (by omega)).trans (cb_tap m c t _ 3 r k (by show 197 + x.val = 2 + 3 + r.val; omega))
    · exact fun k => (cbHi m c t _ 196 _ x k (by omega) (by omega)).trans (cb_tap m c t _ 2 r k (by show 196 + x.val = 2 + 2 + r.val; omega))
    · exact fun k => (cbHi m c t _ 195 _ x k (by omega) (by omega)).trans (cb_tap m c t _ 1 r k (by show 195 + x.val = 2 + 1 + r.val; omega))
    · exact fun k => (cbHi m c t _ 194 _ x k (by omega) (by omega)).trans (cb_tap m c t _ 0 r k (by show 194 + x.val = 2 + 0 + r.val; omega))
  · intro x r k hr
    refine (congrFun (chunk4 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _) (ix2 x k)).trans ?_
    refine rowed m c t r x _ _ _ (fun k => read5 m c t k) (fun k => read6 m c t k) (fun l => ?_) k
    refine summed m c t r x _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (fun k => read4 m c t k) ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ l
    · exact fun k => wAt m c t 30 _ k (by omega)
    · exact fun k => wAt m c t 29 _ k (by omega)
    · exact fun k => wAt m c t 28 _ k (by omega)
    · exact fun k => wAt m c t 27 _ k (by omega)
    · exact fun k => wAt m c t 26 _ k (by omega)
    · exact fun k => wAt m c t 25 _ k (by omega)
    · exact fun k => wAt m c t 24 _ k (by omega)
    · exact fun k => wAt m c t 23 _ k (by omega)
    · exact fun k => wAt m c t 22 _ k (by omega)
    · exact fun k => wAt m c t 21 _ k (by omega)
    · exact fun k => wAt m c t 20 _ k (by omega)
    · exact fun k => wAt m c t 19 _ k (by omega)
    · exact fun k => wAt m c t 18 _ k (by omega)
    · exact fun k => wAt m c t 17 _ k (by omega)
    · exact fun k => wAt m c t 16 _ k (by omega)
    · exact fun k => wAt m c t 15 _ k (by omega)
    · exact fun k => wAt m c t 14 _ k (by omega)
    · exact fun k => wAt m c t 13 _ k (by omega)
    · exact fun k => wAt m c t 12 _ k (by omega)
    · exact fun k => wAt m c t 11 _ k (by omega)
    · exact fun k => wAt m c t 10 _ k (by omega)
    · exact fun k => wAt m c t 9 _ k (by omega)
    · exact fun k => wAt m c t 8 _ k (by omega)
    · exact fun k => wAt m c t 7 _ k (by omega)
    · exact fun k => wAt m c t 6 _ k (by omega)
    · exact fun k => wAt m c t 5 _ k (by omega)
    · exact fun k => wAt m c t 4 _ k (by omega)
    · exact fun k => wAt m c t 3 _ k (by omega)
    · exact fun k => wAt m c t 2 _ k (by omega)
    · exact fun k => wAt m c t 1 _ k (by omega)
    · exact fun k => wAt m c t 0 _ k (by omega)
    · exact fun k => (cbHi m c t _ 288 _ x k (by omega) (by omega)).trans (cb_tap m c t _ 30 r k (by show 288 + x.val = 2 + 30 + r.val; omega))
    · exact fun k => (cbHi m c t _ 287 _ x k (by omega) (by omega)).trans (cb_tap m c t _ 29 r k (by show 287 + x.val = 2 + 29 + r.val; omega))
    · exact fun k => (cbHi m c t _ 286 _ x k (by omega) (by omega)).trans (cb_tap m c t _ 28 r k (by show 286 + x.val = 2 + 28 + r.val; omega))
    · exact fun k => (cbHi m c t _ 285 _ x k (by omega) (by omega)).trans (cb_tap m c t _ 27 r k (by show 285 + x.val = 2 + 27 + r.val; omega))
    · exact fun k => (cbHi m c t _ 284 _ x k (by omega) (by omega)).trans (cb_tap m c t _ 26 r k (by show 284 + x.val = 2 + 26 + r.val; omega))
    · exact fun k => (cbHi m c t _ 283 _ x k (by omega) (by omega)).trans (cb_tap m c t _ 25 r k (by show 283 + x.val = 2 + 25 + r.val; omega))
    · exact fun k => (cbHi m c t _ 282 _ x k (by omega) (by omega)).trans (cb_tap m c t _ 24 r k (by show 282 + x.val = 2 + 24 + r.val; omega))
    · exact fun k => (cbHi m c t _ 281 _ x k (by omega) (by omega)).trans (cb_tap m c t _ 23 r k (by show 281 + x.val = 2 + 23 + r.val; omega))
    · exact fun k => (cbHi m c t _ 280 _ x k (by omega) (by omega)).trans (cb_tap m c t _ 22 r k (by show 280 + x.val = 2 + 22 + r.val; omega))
    · exact fun k => (cbHi m c t _ 279 _ x k (by omega) (by omega)).trans (cb_tap m c t _ 21 r k (by show 279 + x.val = 2 + 21 + r.val; omega))
    · exact fun k => (cbHi m c t _ 278 _ x k (by omega) (by omega)).trans (cb_tap m c t _ 20 r k (by show 278 + x.val = 2 + 20 + r.val; omega))
    · exact fun k => (cbHi m c t _ 277 _ x k (by omega) (by omega)).trans (cb_tap m c t _ 19 r k (by show 277 + x.val = 2 + 19 + r.val; omega))
    · exact fun k => (cbHi m c t _ 276 _ x k (by omega) (by omega)).trans (cb_tap m c t _ 18 r k (by show 276 + x.val = 2 + 18 + r.val; omega))
    · exact fun k => (cbHi m c t _ 275 _ x k (by omega) (by omega)).trans (cb_tap m c t _ 17 r k (by show 275 + x.val = 2 + 17 + r.val; omega))
    · exact fun k => (cbHi m c t _ 274 _ x k (by omega) (by omega)).trans (cb_tap m c t _ 16 r k (by show 274 + x.val = 2 + 16 + r.val; omega))
    · exact fun k => (cbHi m c t _ 273 _ x k (by omega) (by omega)).trans (cb_tap m c t _ 15 r k (by show 273 + x.val = 2 + 15 + r.val; omega))
    · exact fun k => (cbHi m c t _ 272 _ x k (by omega) (by omega)).trans (cb_tap m c t _ 14 r k (by show 272 + x.val = 2 + 14 + r.val; omega))
    · exact fun k => (cbHi m c t _ 271 _ x k (by omega) (by omega)).trans (cb_tap m c t _ 13 r k (by show 271 + x.val = 2 + 13 + r.val; omega))
    · exact fun k => (cbHi m c t _ 270 _ x k (by omega) (by omega)).trans (cb_tap m c t _ 12 r k (by show 270 + x.val = 2 + 12 + r.val; omega))
    · exact fun k => (cbHi m c t _ 269 _ x k (by omega) (by omega)).trans (cb_tap m c t _ 11 r k (by show 269 + x.val = 2 + 11 + r.val; omega))
    · exact fun k => (cbHi m c t _ 268 _ x k (by omega) (by omega)).trans (cb_tap m c t _ 10 r k (by show 268 + x.val = 2 + 10 + r.val; omega))
    · exact fun k => (cbHi m c t _ 267 _ x k (by omega) (by omega)).trans (cb_tap m c t _ 9 r k (by show 267 + x.val = 2 + 9 + r.val; omega))
    · exact fun k => (cbHi m c t _ 266 _ x k (by omega) (by omega)).trans (cb_tap m c t _ 8 r k (by show 266 + x.val = 2 + 8 + r.val; omega))
    · exact fun k => (cbHi m c t _ 265 _ x k (by omega) (by omega)).trans (cb_tap m c t _ 7 r k (by show 265 + x.val = 2 + 7 + r.val; omega))
    · exact fun k => (cbHi m c t _ 264 _ x k (by omega) (by omega)).trans (cb_tap m c t _ 6 r k (by show 264 + x.val = 2 + 6 + r.val; omega))
    · exact fun k => (cbHi m c t _ 263 _ x k (by omega) (by omega)).trans (cb_tap m c t _ 5 r k (by show 263 + x.val = 2 + 5 + r.val; omega))
    · exact fun k => (cbHi m c t _ 262 _ x k (by omega) (by omega)).trans (cb_tap m c t _ 4 r k (by show 262 + x.val = 2 + 4 + r.val; omega))
    · exact fun k => (cbHi m c t _ 261 _ x k (by omega) (by omega)).trans (cb_tap m c t _ 3 r k (by show 261 + x.val = 2 + 3 + r.val; omega))
    · exact fun k => (cbHi m c t _ 260 _ x k (by omega) (by omega)).trans (cb_tap m c t _ 2 r k (by show 260 + x.val = 2 + 2 + r.val; omega))
    · exact fun k => (cbHi m c t _ 259 _ x k (by omega) (by omega)).trans (cb_tap m c t _ 1 r k (by show 259 + x.val = 2 + 1 + r.val; omega))
    · exact fun k => (cbHi m c t _ 258 _ x k (by omega) (by omega)).trans (cb_tap m c t _ 0 r k (by show 258 + x.val = 2 + 0 + r.val; omega))
  · intro x r k hr
    refine (congrFun (chunk5 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _) (ix2 x k)).trans ?_
    refine rowed m c t r x _ _ _ (fun k => read5 m c t k) (fun k => read6 m c t k) (fun l => ?_) k
    refine summed m c t r x _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (fun k => read4 m c t k) ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ l
    · exact fun k => wAt m c t 30 _ k (by omega)
    · exact fun k => wAt m c t 29 _ k (by omega)
    · exact fun k => wAt m c t 28 _ k (by omega)
    · exact fun k => wAt m c t 27 _ k (by omega)
    · exact fun k => wAt m c t 26 _ k (by omega)
    · exact fun k => wAt m c t 25 _ k (by omega)
    · exact fun k => wAt m c t 24 _ k (by omega)
    · exact fun k => wAt m c t 23 _ k (by omega)
    · exact fun k => wAt m c t 22 _ k (by omega)
    · exact fun k => wAt m c t 21 _ k (by omega)
    · exact fun k => wAt m c t 20 _ k (by omega)
    · exact fun k => wAt m c t 19 _ k (by omega)
    · exact fun k => wAt m c t 18 _ k (by omega)
    · exact fun k => wAt m c t 17 _ k (by omega)
    · exact fun k => wAt m c t 16 _ k (by omega)
    · exact fun k => wAt m c t 15 _ k (by omega)
    · exact fun k => wAt m c t 14 _ k (by omega)
    · exact fun k => wAt m c t 13 _ k (by omega)
    · exact fun k => wAt m c t 12 _ k (by omega)
    · exact fun k => wAt m c t 11 _ k (by omega)
    · exact fun k => wAt m c t 10 _ k (by omega)
    · exact fun k => wAt m c t 9 _ k (by omega)
    · exact fun k => wAt m c t 8 _ k (by omega)
    · exact fun k => wAt m c t 7 _ k (by omega)
    · exact fun k => wAt m c t 6 _ k (by omega)
    · exact fun k => wAt m c t 5 _ k (by omega)
    · exact fun k => wAt m c t 4 _ k (by omega)
    · exact fun k => wAt m c t 3 _ k (by omega)
    · exact fun k => wAt m c t 2 _ k (by omega)
    · exact fun k => wAt m c t 1 _ k (by omega)
    · exact fun k => wAt m c t 0 _ k (by omega)
    · exact fun k => (cbHi m c t _ 352 _ x k (by omega) (by omega)).trans (cb_tap m c t _ 30 r k (by show 352 + x.val = 2 + 30 + r.val; omega))
    · exact fun k => (cbHi m c t _ 351 _ x k (by omega) (by omega)).trans (cb_tap m c t _ 29 r k (by show 351 + x.val = 2 + 29 + r.val; omega))
    · exact fun k => (cbHi m c t _ 350 _ x k (by omega) (by omega)).trans (cb_tap m c t _ 28 r k (by show 350 + x.val = 2 + 28 + r.val; omega))
    · exact fun k => (cbHi m c t _ 349 _ x k (by omega) (by omega)).trans (cb_tap m c t _ 27 r k (by show 349 + x.val = 2 + 27 + r.val; omega))
    · exact fun k => (cbHi m c t _ 348 _ x k (by omega) (by omega)).trans (cb_tap m c t _ 26 r k (by show 348 + x.val = 2 + 26 + r.val; omega))
    · exact fun k => (cbHi m c t _ 347 _ x k (by omega) (by omega)).trans (cb_tap m c t _ 25 r k (by show 347 + x.val = 2 + 25 + r.val; omega))
    · exact fun k => (cbHi m c t _ 346 _ x k (by omega) (by omega)).trans (cb_tap m c t _ 24 r k (by show 346 + x.val = 2 + 24 + r.val; omega))
    · exact fun k => (cbHi m c t _ 345 _ x k (by omega) (by omega)).trans (cb_tap m c t _ 23 r k (by show 345 + x.val = 2 + 23 + r.val; omega))
    · exact fun k => (cbHi m c t _ 344 _ x k (by omega) (by omega)).trans (cb_tap m c t _ 22 r k (by show 344 + x.val = 2 + 22 + r.val; omega))
    · exact fun k => (cbHi m c t _ 343 _ x k (by omega) (by omega)).trans (cb_tap m c t _ 21 r k (by show 343 + x.val = 2 + 21 + r.val; omega))
    · exact fun k => (cbHi m c t _ 342 _ x k (by omega) (by omega)).trans (cb_tap m c t _ 20 r k (by show 342 + x.val = 2 + 20 + r.val; omega))
    · exact fun k => (cbHi m c t _ 341 _ x k (by omega) (by omega)).trans (cb_tap m c t _ 19 r k (by show 341 + x.val = 2 + 19 + r.val; omega))
    · exact fun k => (cbHi m c t _ 340 _ x k (by omega) (by omega)).trans (cb_tap m c t _ 18 r k (by show 340 + x.val = 2 + 18 + r.val; omega))
    · exact fun k => (cbHi m c t _ 339 _ x k (by omega) (by omega)).trans (cb_tap m c t _ 17 r k (by show 339 + x.val = 2 + 17 + r.val; omega))
    · exact fun k => (cbHi m c t _ 338 _ x k (by omega) (by omega)).trans (cb_tap m c t _ 16 r k (by show 338 + x.val = 2 + 16 + r.val; omega))
    · exact fun k => (cbHi m c t _ 337 _ x k (by omega) (by omega)).trans (cb_tap m c t _ 15 r k (by show 337 + x.val = 2 + 15 + r.val; omega))
    · exact fun k => (cbHi m c t _ 336 _ x k (by omega) (by omega)).trans (cb_tap m c t _ 14 r k (by show 336 + x.val = 2 + 14 + r.val; omega))
    · exact fun k => (cbHi m c t _ 335 _ x k (by omega) (by omega)).trans (cb_tap m c t _ 13 r k (by show 335 + x.val = 2 + 13 + r.val; omega))
    · exact fun k => (cbHi m c t _ 334 _ x k (by omega) (by omega)).trans (cb_tap m c t _ 12 r k (by show 334 + x.val = 2 + 12 + r.val; omega))
    · exact fun k => (cbHi m c t _ 333 _ x k (by omega) (by omega)).trans (cb_tap m c t _ 11 r k (by show 333 + x.val = 2 + 11 + r.val; omega))
    · exact fun k => (cbHi m c t _ 332 _ x k (by omega) (by omega)).trans (cb_tap m c t _ 10 r k (by show 332 + x.val = 2 + 10 + r.val; omega))
    · exact fun k => (cbHi m c t _ 331 _ x k (by omega) (by omega)).trans (cb_tap m c t _ 9 r k (by show 331 + x.val = 2 + 9 + r.val; omega))
    · exact fun k => (cbHi m c t _ 330 _ x k (by omega) (by omega)).trans (cb_tap m c t _ 8 r k (by show 330 + x.val = 2 + 8 + r.val; omega))
    · exact fun k => (cbHi m c t _ 329 _ x k (by omega) (by omega)).trans (cb_tap m c t _ 7 r k (by show 329 + x.val = 2 + 7 + r.val; omega))
    · exact fun k => (cbHi m c t _ 328 _ x k (by omega) (by omega)).trans (cb_tap m c t _ 6 r k (by show 328 + x.val = 2 + 6 + r.val; omega))
    · exact fun k => (cbHi m c t _ 327 _ x k (by omega) (by omega)).trans (cb_tap m c t _ 5 r k (by show 327 + x.val = 2 + 5 + r.val; omega))
    · exact fun k => (cbHi m c t _ 326 _ x k (by omega) (by omega)).trans (cb_tap m c t _ 4 r k (by show 326 + x.val = 2 + 4 + r.val; omega))
    · exact fun k => (cbHi m c t _ 325 _ x k (by omega) (by omega)).trans (cb_tap m c t _ 3 r k (by show 325 + x.val = 2 + 3 + r.val; omega))
    · exact fun k => (cbHi m c t _ 324 _ x k (by omega) (by omega)).trans (cb_tap m c t _ 2 r k (by show 324 + x.val = 2 + 2 + r.val; omega))
    · exact fun k => (cbHi m c t _ 323 _ x k (by omega) (by omega)).trans (cb_tap m c t _ 1 r k (by show 323 + x.val = 2 + 1 + r.val; omega))
    · exact fun k => (cbHi m c t _ 322 _ x k (by omega) (by omega)).trans (cb_tap m c t _ 0 r k (by show 322 + x.val = 2 + 0 + r.val; omega))
  · intro x r k hr
    refine (congrFun (chunk6 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _) (ix2 x k)).trans ?_
    refine rowed m c t r x _ _ _ (fun k => read5 m c t k) (fun k => read6 m c t k) (fun l => ?_) k
    refine summed m c t r x _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (fun k => read4 m c t k) ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ l
    · exact fun k => wAt m c t 30 _ k (by omega)
    · exact fun k => wAt m c t 29 _ k (by omega)
    · exact fun k => wAt m c t 28 _ k (by omega)
    · exact fun k => wAt m c t 27 _ k (by omega)
    · exact fun k => wAt m c t 26 _ k (by omega)
    · exact fun k => wAt m c t 25 _ k (by omega)
    · exact fun k => wAt m c t 24 _ k (by omega)
    · exact fun k => wAt m c t 23 _ k (by omega)
    · exact fun k => wAt m c t 22 _ k (by omega)
    · exact fun k => wAt m c t 21 _ k (by omega)
    · exact fun k => wAt m c t 20 _ k (by omega)
    · exact fun k => wAt m c t 19 _ k (by omega)
    · exact fun k => wAt m c t 18 _ k (by omega)
    · exact fun k => wAt m c t 17 _ k (by omega)
    · exact fun k => wAt m c t 16 _ k (by omega)
    · exact fun k => wAt m c t 15 _ k (by omega)
    · exact fun k => wAt m c t 14 _ k (by omega)
    · exact fun k => wAt m c t 13 _ k (by omega)
    · exact fun k => wAt m c t 12 _ k (by omega)
    · exact fun k => wAt m c t 11 _ k (by omega)
    · exact fun k => wAt m c t 10 _ k (by omega)
    · exact fun k => wAt m c t 9 _ k (by omega)
    · exact fun k => wAt m c t 8 _ k (by omega)
    · exact fun k => wAt m c t 7 _ k (by omega)
    · exact fun k => wAt m c t 6 _ k (by omega)
    · exact fun k => wAt m c t 5 _ k (by omega)
    · exact fun k => wAt m c t 4 _ k (by omega)
    · exact fun k => wAt m c t 3 _ k (by omega)
    · exact fun k => wAt m c t 2 _ k (by omega)
    · exact fun k => wAt m c t 1 _ k (by omega)
    · exact fun k => wAt m c t 0 _ k (by omega)
    · exact fun k => (cbHi m c t _ 416 _ x k (by omega) (by omega)).trans (cb_tap m c t _ 30 r k (by show 416 + x.val = 2 + 30 + r.val; omega))
    · exact fun k => (cbHi m c t _ 415 _ x k (by omega) (by omega)).trans (cb_tap m c t _ 29 r k (by show 415 + x.val = 2 + 29 + r.val; omega))
    · exact fun k => (cbHi m c t _ 414 _ x k (by omega) (by omega)).trans (cb_tap m c t _ 28 r k (by show 414 + x.val = 2 + 28 + r.val; omega))
    · exact fun k => (cbHi m c t _ 413 _ x k (by omega) (by omega)).trans (cb_tap m c t _ 27 r k (by show 413 + x.val = 2 + 27 + r.val; omega))
    · exact fun k => (cbHi m c t _ 412 _ x k (by omega) (by omega)).trans (cb_tap m c t _ 26 r k (by show 412 + x.val = 2 + 26 + r.val; omega))
    · exact fun k => (cbHi m c t _ 411 _ x k (by omega) (by omega)).trans (cb_tap m c t _ 25 r k (by show 411 + x.val = 2 + 25 + r.val; omega))
    · exact fun k => (cbHi m c t _ 410 _ x k (by omega) (by omega)).trans (cb_tap m c t _ 24 r k (by show 410 + x.val = 2 + 24 + r.val; omega))
    · exact fun k => (cbHi m c t _ 409 _ x k (by omega) (by omega)).trans (cb_tap m c t _ 23 r k (by show 409 + x.val = 2 + 23 + r.val; omega))
    · exact fun k => (cbHi m c t _ 408 _ x k (by omega) (by omega)).trans (cb_tap m c t _ 22 r k (by show 408 + x.val = 2 + 22 + r.val; omega))
    · exact fun k => (cbHi m c t _ 407 _ x k (by omega) (by omega)).trans (cb_tap m c t _ 21 r k (by show 407 + x.val = 2 + 21 + r.val; omega))
    · exact fun k => (cbHi m c t _ 406 _ x k (by omega) (by omega)).trans (cb_tap m c t _ 20 r k (by show 406 + x.val = 2 + 20 + r.val; omega))
    · exact fun k => (cbHi m c t _ 405 _ x k (by omega) (by omega)).trans (cb_tap m c t _ 19 r k (by show 405 + x.val = 2 + 19 + r.val; omega))
    · exact fun k => (cbHi m c t _ 404 _ x k (by omega) (by omega)).trans (cb_tap m c t _ 18 r k (by show 404 + x.val = 2 + 18 + r.val; omega))
    · exact fun k => (cbHi m c t _ 403 _ x k (by omega) (by omega)).trans (cb_tap m c t _ 17 r k (by show 403 + x.val = 2 + 17 + r.val; omega))
    · exact fun k => (cbHi m c t _ 402 _ x k (by omega) (by omega)).trans (cb_tap m c t _ 16 r k (by show 402 + x.val = 2 + 16 + r.val; omega))
    · exact fun k => (cbHi m c t _ 401 _ x k (by omega) (by omega)).trans (cb_tap m c t _ 15 r k (by show 401 + x.val = 2 + 15 + r.val; omega))
    · exact fun k => (cbHi m c t _ 400 _ x k (by omega) (by omega)).trans (cb_tap m c t _ 14 r k (by show 400 + x.val = 2 + 14 + r.val; omega))
    · exact fun k => (cbHi m c t _ 399 _ x k (by omega) (by omega)).trans (cb_tap m c t _ 13 r k (by show 399 + x.val = 2 + 13 + r.val; omega))
    · exact fun k => (cbHi m c t _ 398 _ x k (by omega) (by omega)).trans (cb_tap m c t _ 12 r k (by show 398 + x.val = 2 + 12 + r.val; omega))
    · exact fun k => (cbHi m c t _ 397 _ x k (by omega) (by omega)).trans (cb_tap m c t _ 11 r k (by show 397 + x.val = 2 + 11 + r.val; omega))
    · exact fun k => (cbHi m c t _ 396 _ x k (by omega) (by omega)).trans (cb_tap m c t _ 10 r k (by show 396 + x.val = 2 + 10 + r.val; omega))
    · exact fun k => (cbHi m c t _ 395 _ x k (by omega) (by omega)).trans (cb_tap m c t _ 9 r k (by show 395 + x.val = 2 + 9 + r.val; omega))
    · exact fun k => (cbHi m c t _ 394 _ x k (by omega) (by omega)).trans (cb_tap m c t _ 8 r k (by show 394 + x.val = 2 + 8 + r.val; omega))
    · exact fun k => (cbHi m c t _ 393 _ x k (by omega) (by omega)).trans (cb_tap m c t _ 7 r k (by show 393 + x.val = 2 + 7 + r.val; omega))
    · exact fun k => (cbHi m c t _ 392 _ x k (by omega) (by omega)).trans (cb_tap m c t _ 6 r k (by show 392 + x.val = 2 + 6 + r.val; omega))
    · exact fun k => (cbHi m c t _ 391 _ x k (by omega) (by omega)).trans (cb_tap m c t _ 5 r k (by show 391 + x.val = 2 + 5 + r.val; omega))
    · exact fun k => (cbHi m c t _ 390 _ x k (by omega) (by omega)).trans (cb_tap m c t _ 4 r k (by show 390 + x.val = 2 + 4 + r.val; omega))
    · exact fun k => (cbHi m c t _ 389 _ x k (by omega) (by omega)).trans (cb_tap m c t _ 3 r k (by show 389 + x.val = 2 + 3 + r.val; omega))
    · exact fun k => (cbHi m c t _ 388 _ x k (by omega) (by omega)).trans (cb_tap m c t _ 2 r k (by show 388 + x.val = 2 + 2 + r.val; omega))
    · exact fun k => (cbHi m c t _ 387 _ x k (by omega) (by omega)).trans (cb_tap m c t _ 1 r k (by show 387 + x.val = 2 + 1 + r.val; omega))
    · exact fun k => (cbHi m c t _ 386 _ x k (by omega) (by omega)).trans (cb_tap m c t _ 0 r k (by show 386 + x.val = 2 + 0 + r.val; omega))
  · intro x r k hr
    refine (congrFun (chunk7 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _) (ix2 x k)).trans ?_
    refine rowed m c t r x _ _ _ (fun k => read5 m c t k) (fun k => read6 m c t k) (fun l => ?_) k
    refine summed m c t r x _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (fun k => read4 m c t k) ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ l
    · exact fun k => wAt m c t 30 _ k (by omega)
    · exact fun k => wAt m c t 29 _ k (by omega)
    · exact fun k => wAt m c t 28 _ k (by omega)
    · exact fun k => wAt m c t 27 _ k (by omega)
    · exact fun k => wAt m c t 26 _ k (by omega)
    · exact fun k => wAt m c t 25 _ k (by omega)
    · exact fun k => wAt m c t 24 _ k (by omega)
    · exact fun k => wAt m c t 23 _ k (by omega)
    · exact fun k => wAt m c t 22 _ k (by omega)
    · exact fun k => wAt m c t 21 _ k (by omega)
    · exact fun k => wAt m c t 20 _ k (by omega)
    · exact fun k => wAt m c t 19 _ k (by omega)
    · exact fun k => wAt m c t 18 _ k (by omega)
    · exact fun k => wAt m c t 17 _ k (by omega)
    · exact fun k => wAt m c t 16 _ k (by omega)
    · exact fun k => wAt m c t 15 _ k (by omega)
    · exact fun k => wAt m c t 14 _ k (by omega)
    · exact fun k => wAt m c t 13 _ k (by omega)
    · exact fun k => wAt m c t 12 _ k (by omega)
    · exact fun k => wAt m c t 11 _ k (by omega)
    · exact fun k => wAt m c t 10 _ k (by omega)
    · exact fun k => wAt m c t 9 _ k (by omega)
    · exact fun k => wAt m c t 8 _ k (by omega)
    · exact fun k => wAt m c t 7 _ k (by omega)
    · exact fun k => wAt m c t 6 _ k (by omega)
    · exact fun k => wAt m c t 5 _ k (by omega)
    · exact fun k => wAt m c t 4 _ k (by omega)
    · exact fun k => wAt m c t 3 _ k (by omega)
    · exact fun k => wAt m c t 2 _ k (by omega)
    · exact fun k => wAt m c t 1 _ k (by omega)
    · exact fun k => wAt m c t 0 _ k (by omega)
    · exact fun k => (cbHi m c t _ 480 _ x k (by omega) (by omega)).trans (cb_tap m c t _ 30 r k (by show 480 + x.val = 2 + 30 + r.val; omega))
    · exact fun k => (cbHi m c t _ 479 _ x k (by omega) (by omega)).trans (cb_tap m c t _ 29 r k (by show 479 + x.val = 2 + 29 + r.val; omega))
    · exact fun k => (cbHi m c t _ 478 _ x k (by omega) (by omega)).trans (cb_tap m c t _ 28 r k (by show 478 + x.val = 2 + 28 + r.val; omega))
    · exact fun k => (cbHi m c t _ 477 _ x k (by omega) (by omega)).trans (cb_tap m c t _ 27 r k (by show 477 + x.val = 2 + 27 + r.val; omega))
    · exact fun k => (cbHi m c t _ 476 _ x k (by omega) (by omega)).trans (cb_tap m c t _ 26 r k (by show 476 + x.val = 2 + 26 + r.val; omega))
    · exact fun k => (cbHi m c t _ 475 _ x k (by omega) (by omega)).trans (cb_tap m c t _ 25 r k (by show 475 + x.val = 2 + 25 + r.val; omega))
    · exact fun k => (cbHi m c t _ 474 _ x k (by omega) (by omega)).trans (cb_tap m c t _ 24 r k (by show 474 + x.val = 2 + 24 + r.val; omega))
    · exact fun k => (cbHi m c t _ 473 _ x k (by omega) (by omega)).trans (cb_tap m c t _ 23 r k (by show 473 + x.val = 2 + 23 + r.val; omega))
    · exact fun k => (cbHi m c t _ 472 _ x k (by omega) (by omega)).trans (cb_tap m c t _ 22 r k (by show 472 + x.val = 2 + 22 + r.val; omega))
    · exact fun k => (cbHi m c t _ 471 _ x k (by omega) (by omega)).trans (cb_tap m c t _ 21 r k (by show 471 + x.val = 2 + 21 + r.val; omega))
    · exact fun k => (cbHi m c t _ 470 _ x k (by omega) (by omega)).trans (cb_tap m c t _ 20 r k (by show 470 + x.val = 2 + 20 + r.val; omega))
    · exact fun k => (cbHi m c t _ 469 _ x k (by omega) (by omega)).trans (cb_tap m c t _ 19 r k (by show 469 + x.val = 2 + 19 + r.val; omega))
    · exact fun k => (cbHi m c t _ 468 _ x k (by omega) (by omega)).trans (cb_tap m c t _ 18 r k (by show 468 + x.val = 2 + 18 + r.val; omega))
    · exact fun k => (cbHi m c t _ 467 _ x k (by omega) (by omega)).trans (cb_tap m c t _ 17 r k (by show 467 + x.val = 2 + 17 + r.val; omega))
    · exact fun k => (cbHi m c t _ 466 _ x k (by omega) (by omega)).trans (cb_tap m c t _ 16 r k (by show 466 + x.val = 2 + 16 + r.val; omega))
    · exact fun k => (cbHi m c t _ 465 _ x k (by omega) (by omega)).trans (cb_tap m c t _ 15 r k (by show 465 + x.val = 2 + 15 + r.val; omega))
    · exact fun k => (cbHi m c t _ 464 _ x k (by omega) (by omega)).trans (cb_tap m c t _ 14 r k (by show 464 + x.val = 2 + 14 + r.val; omega))
    · exact fun k => (cbHi m c t _ 463 _ x k (by omega) (by omega)).trans (cb_tap m c t _ 13 r k (by show 463 + x.val = 2 + 13 + r.val; omega))
    · exact fun k => (cbHi m c t _ 462 _ x k (by omega) (by omega)).trans (cb_tap m c t _ 12 r k (by show 462 + x.val = 2 + 12 + r.val; omega))
    · exact fun k => (cbHi m c t _ 461 _ x k (by omega) (by omega)).trans (cb_tap m c t _ 11 r k (by show 461 + x.val = 2 + 11 + r.val; omega))
    · exact fun k => (cbHi m c t _ 460 _ x k (by omega) (by omega)).trans (cb_tap m c t _ 10 r k (by show 460 + x.val = 2 + 10 + r.val; omega))
    · exact fun k => (cbHi m c t _ 459 _ x k (by omega) (by omega)).trans (cb_tap m c t _ 9 r k (by show 459 + x.val = 2 + 9 + r.val; omega))
    · exact fun k => (cbHi m c t _ 458 _ x k (by omega) (by omega)).trans (cb_tap m c t _ 8 r k (by show 458 + x.val = 2 + 8 + r.val; omega))
    · exact fun k => (cbHi m c t _ 457 _ x k (by omega) (by omega)).trans (cb_tap m c t _ 7 r k (by show 457 + x.val = 2 + 7 + r.val; omega))
    · exact fun k => (cbHi m c t _ 456 _ x k (by omega) (by omega)).trans (cb_tap m c t _ 6 r k (by show 456 + x.val = 2 + 6 + r.val; omega))
    · exact fun k => (cbHi m c t _ 455 _ x k (by omega) (by omega)).trans (cb_tap m c t _ 5 r k (by show 455 + x.val = 2 + 5 + r.val; omega))
    · exact fun k => (cbHi m c t _ 454 _ x k (by omega) (by omega)).trans (cb_tap m c t _ 4 r k (by show 454 + x.val = 2 + 4 + r.val; omega))
    · exact fun k => (cbHi m c t _ 453 _ x k (by omega) (by omega)).trans (cb_tap m c t _ 3 r k (by show 453 + x.val = 2 + 3 + r.val; omega))
    · exact fun k => (cbHi m c t _ 452 _ x k (by omega) (by omega)).trans (cb_tap m c t _ 2 r k (by show 452 + x.val = 2 + 2 + r.val; omega))
    · exact fun k => (cbHi m c t _ 451 _ x k (by omega) (by omega)).trans (cb_tap m c t _ 1 r k (by show 451 + x.val = 2 + 1 + r.val; omega))
    · exact fun k => (cbHi m c t _ 450 _ x k (by omega) (by omega)).trans (cb_tap m c t _ 0 r k (by show 450 + x.val = 2 + 0 + r.val; omega))
  · intro i e r k hr hk
    refine (congrFun (tile00 _ _ _ _ _ _ _ _ _) (ix2 i e)).trans ?_
    refine (tiled m c t hg hw hs 0 0 0 0 0 128 512 640 0 1 (by omega) (by omega) rfl rfl rfl rfl rfl rfl rfl rfl _ _ _ _ _ _ _ _ _ i e ?_ ?_ ?_ ?_ ?_ ?_ ?_ ?_ ?_).trans
      (right_at m c t r k _ _ (by show t.val % 16 * 512 + (0 + i.val) = t.val % 16 * 512 + r.val; omega) (by show 0 + e.val = k.val; omega))
    · exact fun d => qAt m c t _ 0 0 _ i d (by omega) (by omega)
    · exact fun x d => kvLoB m c t _ (fun i j => (congrFun (read_unread_whole _ _ _) _).trans (hkv i j)) 0 _ x d (by omega)
    · exact fun x d => kvLoB m c t _ (fun i j => (congrFun (read_unread_whole _ _ _) _).trans (hkv i j)) 128 _ x d (by omega)
    · exact fun x d => kvLoB m c t _ (fun i j => (congrFun (read_unread_whole _ _ _) _).trans (hkv i j)) 512 _ x d (by omega)
    · exact fun x d => kvLoB m c t _ (fun i j => (congrFun (read_unread_whole _ _ _) _).trans (hkv i j)) 640 _ x d (by omega)
    · exact fun x => (bAt m c t _ _ ⟨0, by omega⟩ ((off1 t ⟨0, by omega⟩).trans (by rw [if_neg h])) i x).trans (bent m c _ ⟨0, by omega⟩ i x (by omega))
    · exact fun x => (bAt m c t _ _ ⟨1, by omega⟩ ((off1 t ⟨1, by omega⟩).trans (by rw [if_neg h])) i x).trans (bent m c _ ⟨1, by omega⟩ i x (by omega))
    · exact sAt m c t 0 _ (by omega)
    · exact sAt m c t 1 _ (by omega)
  · intro i e r k hr hk
    refine (congrFun (tile01 _ _ _ _ _ _ _ _ _) (ix2 i e)).trans ?_
    refine (tiled m c t hg hw hs 0 1 0 128 0 128 512 640 2 3 (by omega) (by omega) rfl rfl rfl rfl rfl rfl rfl rfl _ _ _ _ _ _ _ _ _ i e ?_ ?_ ?_ ?_ ?_ ?_ ?_ ?_ ?_).trans
      (right_at m c t r k _ _ (by show t.val % 16 * 512 + (0 + i.val) = t.val % 16 * 512 + r.val; omega) (by show 128 + e.val = k.val; omega))
    · exact fun d => qAt m c t _ 0 128 _ i d (by omega) (by omega)
    · exact fun x d => kvLoB m c t _ (fun i j => (congrFun (read_unread_whole _ _ _) _).trans (hkv i j)) 0 _ x d (by omega)
    · exact fun x d => kvLoB m c t _ (fun i j => (congrFun (read_unread_whole _ _ _) _).trans (hkv i j)) 128 _ x d (by omega)
    · exact fun x d => kvLoB m c t _ (fun i j => (congrFun (read_unread_whole _ _ _) _).trans (hkv i j)) 512 _ x d (by omega)
    · exact fun x d => kvLoB m c t _ (fun i j => (congrFun (read_unread_whole _ _ _) _).trans (hkv i j)) 640 _ x d (by omega)
    · exact fun x => (bAt m c t _ _ ⟨2, by omega⟩ ((off1 t ⟨2, by omega⟩).trans (by rw [if_neg h])) i x).trans (bent m c _ ⟨2, by omega⟩ i x (by omega))
    · exact fun x => (bAt m c t _ _ ⟨3, by omega⟩ ((off1 t ⟨3, by omega⟩).trans (by rw [if_neg h])) i x).trans (bent m c _ ⟨3, by omega⟩ i x (by omega))
    · exact sAt m c t 2 _ (by omega)
    · exact sAt m c t 3 _ (by omega)
  · intro i e r k hr hk
    refine (congrFun (tile02 _ _ _ _ _ _ _ _ _) (ix2 i e)).trans ?_
    refine (tiled m c t hg hw hs 0 2 0 256 256 384 768 896 4 5 (by omega) (by omega) rfl rfl rfl rfl rfl rfl rfl rfl _ _ _ _ _ _ _ _ _ i e ?_ ?_ ?_ ?_ ?_ ?_ ?_ ?_ ?_).trans
      (right_at m c t r k _ _ (by show t.val % 16 * 512 + (0 + i.val) = t.val % 16 * 512 + r.val; omega) (by show 256 + e.val = k.val; omega))
    · exact fun d => qAt m c t _ 0 256 _ i d (by omega) (by omega)
    · exact fun x d => kvLoB m c t _ (fun i j => (congrFun (read_unread_whole _ _ _) _).trans (hkv i j)) 256 _ x d (by omega)
    · exact fun x d => kvLoB m c t _ (fun i j => (congrFun (read_unread_whole _ _ _) _).trans (hkv i j)) 384 _ x d (by omega)
    · exact fun x d => kvLoB m c t _ (fun i j => (congrFun (read_unread_whole _ _ _) _).trans (hkv i j)) 768 _ x d (by omega)
    · exact fun x d => kvLoB m c t _ (fun i j => (congrFun (read_unread_whole _ _ _) _).trans (hkv i j)) 896 _ x d (by omega)
    · exact fun x => (bAt m c t _ _ ⟨4, by omega⟩ ((off1 t ⟨4, by omega⟩).trans (by rw [if_neg h])) i x).trans (bent m c _ ⟨4, by omega⟩ i x (by omega))
    · exact fun x => (bAt m c t _ _ ⟨5, by omega⟩ ((off1 t ⟨5, by omega⟩).trans (by rw [if_neg h])) i x).trans (bent m c _ ⟨5, by omega⟩ i x (by omega))
    · exact sAt m c t 4 _ (by omega)
    · exact sAt m c t 5 _ (by omega)
  · intro i e r k hr hk
    refine (congrFun (tile03 _ _ _ _ _ _ _ _ _) (ix2 i e)).trans ?_
    refine (tiled m c t hg hw hs 0 3 0 384 256 384 768 896 6 7 (by omega) (by omega) rfl rfl rfl rfl rfl rfl rfl rfl _ _ _ _ _ _ _ _ _ i e ?_ ?_ ?_ ?_ ?_ ?_ ?_ ?_ ?_).trans
      (right_at m c t r k _ _ (by show t.val % 16 * 512 + (0 + i.val) = t.val % 16 * 512 + r.val; omega) (by show 384 + e.val = k.val; omega))
    · exact fun d => qAt m c t _ 0 384 _ i d (by omega) (by omega)
    · exact fun x d => kvLoB m c t _ (fun i j => (congrFun (read_unread_whole _ _ _) _).trans (hkv i j)) 256 _ x d (by omega)
    · exact fun x d => kvLoB m c t _ (fun i j => (congrFun (read_unread_whole _ _ _) _).trans (hkv i j)) 384 _ x d (by omega)
    · exact fun x d => kvLoB m c t _ (fun i j => (congrFun (read_unread_whole _ _ _) _).trans (hkv i j)) 768 _ x d (by omega)
    · exact fun x d => kvLoB m c t _ (fun i j => (congrFun (read_unread_whole _ _ _) _).trans (hkv i j)) 896 _ x d (by omega)
    · exact fun x => (bAt m c t _ _ ⟨6, by omega⟩ ((off1 t ⟨6, by omega⟩).trans (by rw [if_neg h])) i x).trans (bent m c _ ⟨6, by omega⟩ i x (by omega))
    · exact fun x => (bAt m c t _ _ ⟨7, by omega⟩ ((off1 t ⟨7, by omega⟩).trans (by rw [if_neg h])) i x).trans (bent m c _ ⟨7, by omega⟩ i x (by omega))
    · exact sAt m c t 6 _ (by omega)
    · exact sAt m c t 7 _ (by omega)
  · intro i e r k hr hk
    refine (congrFun (tile10 _ _ _ _ _ _ _ _ _) (ix2 i e)).trans ?_
    refine (tiled m c t hg hw hs 1 0 128 0 0 128 512 640 0 1 (by omega) (by omega) rfl rfl rfl rfl rfl rfl rfl rfl _ _ _ _ _ _ _ _ _ i e ?_ ?_ ?_ ?_ ?_ ?_ ?_ ?_ ?_).trans
      (right_at m c t r k _ _ (by show t.val % 16 * 512 + (128 + i.val) = t.val % 16 * 512 + r.val; omega) (by show 0 + e.val = k.val; omega))
    · exact fun d => qAt m c t _ 128 0 _ i d (by omega) (by omega)
    · exact fun x d => kvHi m c t _ 128 0 _ x d (by omega) (by omega) (by omega)
    · exact fun x d => kvHi m c t _ 128 128 _ x d (by omega) (by omega) (by omega)
    · exact fun x d => kvHi m c t _ 128 512 _ x d (by omega) (by omega) (by omega)
    · exact fun x d => kvHi m c t _ 128 640 _ x d (by omega) (by omega) (by omega)
    · exact fun x => (bAt m c t _ _ ⟨0, by omega⟩ rfl i x).trans (bent m c _ ⟨0, by omega⟩ i x (by omega))
    · exact fun x => (bAt m c t _ _ ⟨1, by omega⟩ rfl i x).trans (bent m c _ ⟨1, by omega⟩ i x (by omega))
    · exact sAt m c t 0 _ (by omega)
    · exact sAt m c t 1 _ (by omega)
  · intro i e r k hr hk
    refine (congrFun (tile11 _ _ _ _ _ _ _ _ _) (ix2 i e)).trans ?_
    refine (tiled m c t hg hw hs 1 1 128 128 0 128 512 640 2 3 (by omega) (by omega) rfl rfl rfl rfl rfl rfl rfl rfl _ _ _ _ _ _ _ _ _ i e ?_ ?_ ?_ ?_ ?_ ?_ ?_ ?_ ?_).trans
      (right_at m c t r k _ _ (by show t.val % 16 * 512 + (128 + i.val) = t.val % 16 * 512 + r.val; omega) (by show 128 + e.val = k.val; omega))
    · exact fun d => qAt m c t _ 128 128 _ i d (by omega) (by omega)
    · exact fun x d => kvHi m c t _ 128 0 _ x d (by omega) (by omega) (by omega)
    · exact fun x d => kvHi m c t _ 128 128 _ x d (by omega) (by omega) (by omega)
    · exact fun x d => kvHi m c t _ 128 512 _ x d (by omega) (by omega) (by omega)
    · exact fun x d => kvHi m c t _ 128 640 _ x d (by omega) (by omega) (by omega)
    · exact fun x => (bAt m c t _ _ ⟨2, by omega⟩ rfl i x).trans (bent m c _ ⟨2, by omega⟩ i x (by omega))
    · exact fun x => (bAt m c t _ _ ⟨3, by omega⟩ rfl i x).trans (bent m c _ ⟨3, by omega⟩ i x (by omega))
    · exact sAt m c t 2 _ (by omega)
    · exact sAt m c t 3 _ (by omega)
  · intro i e r k hr hk
    refine (congrFun (tile12 _ _ _ _ _ _ _ _ _) (ix2 i e)).trans ?_
    refine (tiled m c t hg hw hs 1 2 128 256 256 384 768 896 4 5 (by omega) (by omega) rfl rfl rfl rfl rfl rfl rfl rfl _ _ _ _ _ _ _ _ _ i e ?_ ?_ ?_ ?_ ?_ ?_ ?_ ?_ ?_).trans
      (right_at m c t r k _ _ (by show t.val % 16 * 512 + (128 + i.val) = t.val % 16 * 512 + r.val; omega) (by show 256 + e.val = k.val; omega))
    · exact fun d => qAt m c t _ 128 256 _ i d (by omega) (by omega)
    · exact fun x d => kvHi m c t _ 128 256 _ x d (by omega) (by omega) (by omega)
    · exact fun x d => kvHi m c t _ 128 384 _ x d (by omega) (by omega) (by omega)
    · exact fun x d => kvHi m c t _ 128 768 _ x d (by omega) (by omega) (by omega)
    · exact fun x d => kvHi m c t _ 128 896 _ x d (by omega) (by omega) (by omega)
    · exact fun x => (bAt m c t _ _ ⟨4, by omega⟩ rfl i x).trans (bent m c _ ⟨4, by omega⟩ i x (by omega))
    · exact fun x => (bAt m c t _ _ ⟨5, by omega⟩ rfl i x).trans (bent m c _ ⟨5, by omega⟩ i x (by omega))
    · exact sAt m c t 4 _ (by omega)
    · exact sAt m c t 5 _ (by omega)
  · intro i e r k hr hk
    refine (congrFun (tile13 _ _ _ _ _ _ _ _ _) (ix2 i e)).trans ?_
    refine (tiled m c t hg hw hs 1 3 128 384 256 384 768 896 6 7 (by omega) (by omega) rfl rfl rfl rfl rfl rfl rfl rfl _ _ _ _ _ _ _ _ _ i e ?_ ?_ ?_ ?_ ?_ ?_ ?_ ?_ ?_).trans
      (right_at m c t r k _ _ (by show t.val % 16 * 512 + (128 + i.val) = t.val % 16 * 512 + r.val; omega) (by show 384 + e.val = k.val; omega))
    · exact fun d => qAt m c t _ 128 384 _ i d (by omega) (by omega)
    · exact fun x d => kvHi m c t _ 128 256 _ x d (by omega) (by omega) (by omega)
    · exact fun x d => kvHi m c t _ 128 384 _ x d (by omega) (by omega) (by omega)
    · exact fun x d => kvHi m c t _ 128 768 _ x d (by omega) (by omega) (by omega)
    · exact fun x d => kvHi m c t _ 128 896 _ x d (by omega) (by omega) (by omega)
    · exact fun x => (bAt m c t _ _ ⟨6, by omega⟩ rfl i x).trans (bent m c _ ⟨6, by omega⟩ i x (by omega))
    · exact fun x => (bAt m c t _ _ ⟨7, by omega⟩ rfl i x).trans (bent m c _ ⟨7, by omega⟩ i x (by omega))
    · exact sAt m c t 6 _ (by omega)
    · exact sAt m c t 7 _ (by omega)
  · intro i e r k hr hk
    refine (congrFun (tile20 _ _ _ _ _ _ _ _ _) (ix2 i e)).trans ?_
    refine (tiled m c t hg hw hs 2 0 256 0 0 128 512 640 0 1 (by omega) (by omega) rfl rfl rfl rfl rfl rfl rfl rfl _ _ _ _ _ _ _ _ _ i e ?_ ?_ ?_ ?_ ?_ ?_ ?_ ?_ ?_).trans
      (right_at m c t r k _ _ (by show t.val % 16 * 512 + (256 + i.val) = t.val % 16 * 512 + r.val; omega) (by show 0 + e.val = k.val; omega))
    · exact fun d => qAt m c t _ 256 0 _ i d (by omega) (by omega)
    · exact fun x d => kvHi m c t _ 256 0 _ x d (by omega) (by omega) (by omega)
    · exact fun x d => kvHi m c t _ 256 128 _ x d (by omega) (by omega) (by omega)
    · exact fun x d => kvHi m c t _ 256 512 _ x d (by omega) (by omega) (by omega)
    · exact fun x d => kvHi m c t _ 256 640 _ x d (by omega) (by omega) (by omega)
    · exact fun x => (bAt m c t _ _ ⟨0, by omega⟩ rfl i x).trans (bent m c _ ⟨0, by omega⟩ i x (by omega))
    · exact fun x => (bAt m c t _ _ ⟨1, by omega⟩ rfl i x).trans (bent m c _ ⟨1, by omega⟩ i x (by omega))
    · exact sAt m c t 0 _ (by omega)
    · exact sAt m c t 1 _ (by omega)
  · intro i e r k hr hk
    refine (congrFun (tile21 _ _ _ _ _ _ _ _ _) (ix2 i e)).trans ?_
    refine (tiled m c t hg hw hs 2 1 256 128 0 128 512 640 2 3 (by omega) (by omega) rfl rfl rfl rfl rfl rfl rfl rfl _ _ _ _ _ _ _ _ _ i e ?_ ?_ ?_ ?_ ?_ ?_ ?_ ?_ ?_).trans
      (right_at m c t r k _ _ (by show t.val % 16 * 512 + (256 + i.val) = t.val % 16 * 512 + r.val; omega) (by show 128 + e.val = k.val; omega))
    · exact fun d => qAt m c t _ 256 128 _ i d (by omega) (by omega)
    · exact fun x d => kvHi m c t _ 256 0 _ x d (by omega) (by omega) (by omega)
    · exact fun x d => kvHi m c t _ 256 128 _ x d (by omega) (by omega) (by omega)
    · exact fun x d => kvHi m c t _ 256 512 _ x d (by omega) (by omega) (by omega)
    · exact fun x d => kvHi m c t _ 256 640 _ x d (by omega) (by omega) (by omega)
    · exact fun x => (bAt m c t _ _ ⟨2, by omega⟩ rfl i x).trans (bent m c _ ⟨2, by omega⟩ i x (by omega))
    · exact fun x => (bAt m c t _ _ ⟨3, by omega⟩ rfl i x).trans (bent m c _ ⟨3, by omega⟩ i x (by omega))
    · exact sAt m c t 2 _ (by omega)
    · exact sAt m c t 3 _ (by omega)
  · intro i e r k hr hk
    refine (congrFun (tile22 _ _ _ _ _ _ _ _ _) (ix2 i e)).trans ?_
    refine (tiled m c t hg hw hs 2 2 256 256 256 384 768 896 4 5 (by omega) (by omega) rfl rfl rfl rfl rfl rfl rfl rfl _ _ _ _ _ _ _ _ _ i e ?_ ?_ ?_ ?_ ?_ ?_ ?_ ?_ ?_).trans
      (right_at m c t r k _ _ (by show t.val % 16 * 512 + (256 + i.val) = t.val % 16 * 512 + r.val; omega) (by show 256 + e.val = k.val; omega))
    · exact fun d => qAt m c t _ 256 256 _ i d (by omega) (by omega)
    · exact fun x d => kvHi m c t _ 256 256 _ x d (by omega) (by omega) (by omega)
    · exact fun x d => kvHi m c t _ 256 384 _ x d (by omega) (by omega) (by omega)
    · exact fun x d => kvHi m c t _ 256 768 _ x d (by omega) (by omega) (by omega)
    · exact fun x d => kvHi m c t _ 256 896 _ x d (by omega) (by omega) (by omega)
    · exact fun x => (bAt m c t _ _ ⟨4, by omega⟩ rfl i x).trans (bent m c _ ⟨4, by omega⟩ i x (by omega))
    · exact fun x => (bAt m c t _ _ ⟨5, by omega⟩ rfl i x).trans (bent m c _ ⟨5, by omega⟩ i x (by omega))
    · exact sAt m c t 4 _ (by omega)
    · exact sAt m c t 5 _ (by omega)
  · intro i e r k hr hk
    refine (congrFun (tile23 _ _ _ _ _ _ _ _ _) (ix2 i e)).trans ?_
    refine (tiled m c t hg hw hs 2 3 256 384 256 384 768 896 6 7 (by omega) (by omega) rfl rfl rfl rfl rfl rfl rfl rfl _ _ _ _ _ _ _ _ _ i e ?_ ?_ ?_ ?_ ?_ ?_ ?_ ?_ ?_).trans
      (right_at m c t r k _ _ (by show t.val % 16 * 512 + (256 + i.val) = t.val % 16 * 512 + r.val; omega) (by show 384 + e.val = k.val; omega))
    · exact fun d => qAt m c t _ 256 384 _ i d (by omega) (by omega)
    · exact fun x d => kvHi m c t _ 256 256 _ x d (by omega) (by omega) (by omega)
    · exact fun x d => kvHi m c t _ 256 384 _ x d (by omega) (by omega) (by omega)
    · exact fun x d => kvHi m c t _ 256 768 _ x d (by omega) (by omega) (by omega)
    · exact fun x d => kvHi m c t _ 256 896 _ x d (by omega) (by omega) (by omega)
    · exact fun x => (bAt m c t _ _ ⟨6, by omega⟩ rfl i x).trans (bent m c _ ⟨6, by omega⟩ i x (by omega))
    · exact fun x => (bAt m c t _ _ ⟨7, by omega⟩ rfl i x).trans (bent m c _ ⟨7, by omega⟩ i x (by omega))
    · exact sAt m c t 6 _ (by omega)
    · exact sAt m c t 7 _ (by omega)
  · intro i e r k hr hk
    refine (congrFun (tile30 _ _ _ _ _ _ _ _ _) (ix2 i e)).trans ?_
    refine (tiled m c t hg hw hs 3 0 384 0 0 128 512 640 0 1 (by omega) (by omega) rfl rfl rfl rfl rfl rfl rfl rfl _ _ _ _ _ _ _ _ _ i e ?_ ?_ ?_ ?_ ?_ ?_ ?_ ?_ ?_).trans
      (right_at m c t r k _ _ (by show t.val % 16 * 512 + (384 + i.val) = t.val % 16 * 512 + r.val; omega) (by show 0 + e.val = k.val; omega))
    · exact fun d => qAt m c t _ 384 0 _ i d (by omega) (by omega)
    · exact fun x d => kvHi m c t _ 384 0 _ x d (by omega) (by omega) (by omega)
    · exact fun x d => kvHi m c t _ 384 128 _ x d (by omega) (by omega) (by omega)
    · exact fun x d => kvHi m c t _ 384 512 _ x d (by omega) (by omega) (by omega)
    · exact fun x d => kvHi m c t _ 384 640 _ x d (by omega) (by omega) (by omega)
    · exact fun x => (bAt m c t _ _ ⟨0, by omega⟩ rfl i x).trans (bent m c _ ⟨0, by omega⟩ i x (by omega))
    · exact fun x => (bAt m c t _ _ ⟨1, by omega⟩ rfl i x).trans (bent m c _ ⟨1, by omega⟩ i x (by omega))
    · exact sAt m c t 0 _ (by omega)
    · exact sAt m c t 1 _ (by omega)
  · intro i e r k hr hk
    refine (congrFun (tile31 _ _ _ _ _ _ _ _ _) (ix2 i e)).trans ?_
    refine (tiled m c t hg hw hs 3 1 384 128 0 128 512 640 2 3 (by omega) (by omega) rfl rfl rfl rfl rfl rfl rfl rfl _ _ _ _ _ _ _ _ _ i e ?_ ?_ ?_ ?_ ?_ ?_ ?_ ?_ ?_).trans
      (right_at m c t r k _ _ (by show t.val % 16 * 512 + (384 + i.val) = t.val % 16 * 512 + r.val; omega) (by show 128 + e.val = k.val; omega))
    · exact fun d => qAt m c t _ 384 128 _ i d (by omega) (by omega)
    · exact fun x d => kvHi m c t _ 384 0 _ x d (by omega) (by omega) (by omega)
    · exact fun x d => kvHi m c t _ 384 128 _ x d (by omega) (by omega) (by omega)
    · exact fun x d => kvHi m c t _ 384 512 _ x d (by omega) (by omega) (by omega)
    · exact fun x d => kvHi m c t _ 384 640 _ x d (by omega) (by omega) (by omega)
    · exact fun x => (bAt m c t _ _ ⟨2, by omega⟩ rfl i x).trans (bent m c _ ⟨2, by omega⟩ i x (by omega))
    · exact fun x => (bAt m c t _ _ ⟨3, by omega⟩ rfl i x).trans (bent m c _ ⟨3, by omega⟩ i x (by omega))
    · exact sAt m c t 2 _ (by omega)
    · exact sAt m c t 3 _ (by omega)
  · intro i e r k hr hk
    refine (congrFun (tile32 _ _ _ _ _ _ _ _ _) (ix2 i e)).trans ?_
    refine (tiled m c t hg hw hs 3 2 384 256 256 384 768 896 4 5 (by omega) (by omega) rfl rfl rfl rfl rfl rfl rfl rfl _ _ _ _ _ _ _ _ _ i e ?_ ?_ ?_ ?_ ?_ ?_ ?_ ?_ ?_).trans
      (right_at m c t r k _ _ (by show t.val % 16 * 512 + (384 + i.val) = t.val % 16 * 512 + r.val; omega) (by show 256 + e.val = k.val; omega))
    · exact fun d => qAt m c t _ 384 256 _ i d (by omega) (by omega)
    · exact fun x d => kvHi m c t _ 384 256 _ x d (by omega) (by omega) (by omega)
    · exact fun x d => kvHi m c t _ 384 384 _ x d (by omega) (by omega) (by omega)
    · exact fun x d => kvHi m c t _ 384 768 _ x d (by omega) (by omega) (by omega)
    · exact fun x d => kvHi m c t _ 384 896 _ x d (by omega) (by omega) (by omega)
    · exact fun x => (bAt m c t _ _ ⟨4, by omega⟩ rfl i x).trans (bent m c _ ⟨4, by omega⟩ i x (by omega))
    · exact fun x => (bAt m c t _ _ ⟨5, by omega⟩ rfl i x).trans (bent m c _ ⟨5, by omega⟩ i x (by omega))
    · exact sAt m c t 4 _ (by omega)
    · exact sAt m c t 5 _ (by omega)
  · intro i e r k hr hk
    refine (congrFun (tile33 _ _ _ _ _ _ _ _ _) (ix2 i e)).trans ?_
    refine (tiled m c t hg hw hs 3 3 384 384 256 384 768 896 6 7 (by omega) (by omega) rfl rfl rfl rfl rfl rfl rfl rfl _ _ _ _ _ _ _ _ _ i e ?_ ?_ ?_ ?_ ?_ ?_ ?_ ?_ ?_).trans
      (right_at m c t r k _ _ (by show t.val % 16 * 512 + (384 + i.val) = t.val % 16 * 512 + r.val; omega) (by show 384 + e.val = k.val; omega))
    · exact fun d => qAt m c t _ 384 384 _ i d (by omega) (by omega)
    · exact fun x d => kvHi m c t _ 384 256 _ x d (by omega) (by omega) (by omega)
    · exact fun x d => kvHi m c t _ 384 384 _ x d (by omega) (by omega) (by omega)
    · exact fun x d => kvHi m c t _ 384 768 _ x d (by omega) (by omega) (by omega)
    · exact fun x d => kvHi m c t _ 384 896 _ x d (by omega) (by omega) (by omega)
    · exact fun x => (bAt m c t _ _ ⟨6, by omega⟩ rfl i x).trans (bent m c _ ⟨6, by omega⟩ i x (by omega))
    · exact fun x => (bAt m c t _ _ ⟨7, by omega⟩ rfl i x).trans (bent m c _ ⟨7, by omega⟩ i x (by omega))
    · exact sAt m c t 6 _ (by omega)
    · exact sAt m c t 7 _ (by omega)

/-- A block of the result is the reference's. -/
theorem point (c : Dev nD) (t : Fin cfg0.N) (hg : ∀ i, IsReal (m ((c : Thread nD τ).loc main_arg1) i)) (hw : ∀ i, IsReal (m ((c : Thread nD τ).loc main_arg2) i))
    (hs : ∀ i, IsReal (m ((c : Thread nD τ).loc main_arg7) i)) (r : Fin 512) (j : Fin 1024) :
    (outsAt0 m c t.val t.isLt).1 (ix2 r j)
      = Cert.RefEvenMixerIdeal.Read.val_main_v365 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (ix2 ⟨t.val * 512 + r.val, lt_row t r⟩ j) := by
  have ht := lt_grid t
  have hp : (outsAt0 m c t.val t.isLt).1 (ix2 r j) = whole m c t r j := by
    by_cases h : t.val % 16 = 0
    · exact pointA m c t h hg hw hs r j
    · exact pointB m c t h hg hw hs r j
  refine hp.trans ?_
  rw [whole]
  have he : (⟨t.val * 512 + r.val, lt_row t r⟩ : Fin 32768) = ⟨(⟨t.val / 16, by omega⟩ : Fin 4).val * 8192 + (⟨t.val % 16 * 512 + r.val, by omega⟩ : Fin 8192).val, by show t.val / 16 * 8192 + (t.val % 16 * 512 + r.val) < 32768; omega⟩ :=
    Fin.ext (by show t.val * 512 + r.val = t.val / 16 * 8192 + (t.val % 16 * 512 + r.val); omega)
  rw [he, Cert.RefEvenMixerIdeal.Row.out]
  refine congrArg₂ (fun a b : EReal => a + b) rfl (Finset.sum_congr rfl fun y _ => congrArg₂ (fun a b : EReal => a * b) ?_ rfl)
  rw [Cert.RefEvenMixerIdeal.Row.joined]
  rfl

/-- The result array after the run is the reference's stage 365 of the arguments. -/
theorem final (c : Dev nD) (hg : ∀ i, IsReal (m ((c : Thread nD τ).loc main_arg1) i)) (hw : ∀ i, IsReal (m ((c : Thread nD τ).loc main_arg2) i))
    (hs : ∀ i, IsReal (m ((c : Thread nD τ).loc main_arg7) i)) :
    (dats m 0 c).arrAt 10 (cfgs 0).N
      = Cert.RefEvenMixerIdeal.Read.val_main_v365 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (dats m 0 c).arrAt_eq_of_covers 10 _ (by decide +kernel) fun t _ y => ?_
  blk_simp
  rw [after0_10]
  obtain ⟨r, j, rfl⟩ : ∃ (r : Fin 512) (j : Fin 1024), y = ix2 r j := ⟨y 0, y 1, eq_ix2 y⟩
  have he : (win0_10.blk t).view.emb (ix2 r j) = ix2 ⟨t.val * 512 + r.val, lt_row t r⟩ j := by blk_ext [idx t]
  exact (point m c t hg hw hs r j).trans (by rw [← he])

end Cert.EvenMixerIdeal.Row

end
end
-- ==== Proof.EvenPair.lean ====
module

public import proofs.«01_k».proof.Defs
public import proofs.«01_k».proof.Proof.EvenFin
public import proofs.«01_k».proof.Proof.Gen.EvenMixerIdeal.Frame
public import proofs.«01_k».proof.Proof.Gen.RefEvenMixerIdeal.Run
public import proofs.«01_k».proof.Proof.Gen.RefEvenMixerIdeal.Read

set_option maxRecDepth 16384

@[expose] public section
noncomputable section

open Idealize.ShloMosaic Idealize.ShloMosaic.TcCoe Idealize.SL.Sem

namespace Cert.Pre_finite_even
open Cert.Spec

/-- The side conditions of the predicate's broadcasts. -/
instance facts : Facts where
  bcast_S_S1024 := by decide
  bcast_S_S1024x1792 := by decide
  bcast_S_S8 := by decide

variable (x0 : FVec Ideal S32768x1024 .f32) (x1 : FVec Ideal S1024 .f32) (x2 : FVec Ideal S1024x1792 .f32)
  (x3 : FVec Ideal S31x512 .f32) (x4 x5 x6 : FVec Ideal S512 .f32) (x7 : FVec Ideal S8 .f32) (x8 : FVec Ideal S1024x1024 .f32)

/-- The gain is real. -/
theorem gain (h : (fn (F := Ideal) x0 x1 x2 x3 x4 x5 x6 x7 x8).1 = fun _ => 1#1) (i : S1024.Idx) : IsReal (x1 i) := by
  have := congrFun h i
  pointwise [fn] at this
  exact real_of_abs (ofBits_inf ▸ bit_one this)

/-- The projection's weights are real. -/
theorem weights (h : (fn (F := Ideal) x0 x1 x2 x3 x4 x5 x6 x7 x8).2.1 = fun _ => 1#1) (i : S1024x1792.Idx) : IsReal (x2 i) := by
  have := congrFun h i
  pointwise [fn] at this
  exact real_of_abs (ofBits_inf ▸ bit_one this)

/-- The sinks are real. -/
theorem sinks (h : (fn (F := Ideal) x0 x1 x2 x3 x4 x5 x6 x7 x8).2.2 = fun _ => 1#1) (i : S8.Idx) : IsReal (x7 i) := by
  have := congrFun h i
  pointwise [fn] at this
  exact real_of_abs (ofBits_inf ▸ bit_one this)

end Cert.Pre_finite_even

namespace Cert.EvenMixerIdeal.Row

/-- On the same arguments, the gain, the projection's weights and the sinks real, the kernel and the reference both
    finish, with the same result. -/
theorem algebraic : Cert.algebraic_EvenMixerIdeal_RefEvenMixerIdeal_pre_finite_even := by
  pair_intro
  · run_from Cert.EvenMixerIdeal.Value.run_blocks m g
  · run_from Cert.RefEvenMixerIdeal.Value.run m' g'
    obtain ⟨h1, h2, h3⟩ := hpre c
    obtain ⟨e0, e1, e2, e3, e4, e5, e6, e7, e8⟩ := hagree c
    rw [← e8]
    refine (Cert.RefEvenMixerIdeal.Read.val_main_v365_eq (F := Ideal) (StableHlo.launchContents m' c)).trans ?_
    refine Eq.trans (b := Cert.RefEvenMixerIdeal.Read.val_main_v365 (F := Ideal) (m' ((c.tc : Thread Cert.RefEvenMixerIdeal.nD Cert.RefEvenMixerIdeal.τ).loc Cert.RefEvenMixerIdeal.main_arg0)) (m' ((c.tc : Thread Cert.RefEvenMixerIdeal.nD Cert.RefEvenMixerIdeal.τ).loc Cert.RefEvenMixerIdeal.main_arg1)) (m' ((c.tc : Thread Cert.RefEvenMixerIdeal.nD Cert.RefEvenMixerIdeal.τ).loc Cert.RefEvenMixerIdeal.main_arg2)) (m' ((c.tc : Thread Cert.RefEvenMixerIdeal.nD Cert.RefEvenMixerIdeal.τ).loc Cert.RefEvenMixerIdeal.main_arg3)) (m' ((c.tc : Thread Cert.RefEvenMixerIdeal.nD Cert.RefEvenMixerIdeal.τ).loc Cert.RefEvenMixerIdeal.main_arg4)) (m' ((c.tc : Thread Cert.RefEvenMixerIdeal.nD Cert.RefEvenMixerIdeal.τ).loc Cert.RefEvenMixerIdeal.main_arg5)) (m' ((c.tc : Thread Cert.RefEvenMixerIdeal.nD Cert.RefEvenMixerIdeal.τ).loc Cert.RefEvenMixerIdeal.main_arg6)) (m' ((c.tc : Thread Cert.RefEvenMixerIdeal.nD Cert.RefEvenMixerIdeal.τ).loc Cert.RefEvenMixerIdeal.main_arg7)) (m' ((c.tc : Thread Cert.RefEvenMixerIdeal.nD Cert.RefEvenMixerIdeal.τ).loc Cert.RefEvenMixerIdeal.main_arg8))) rfl ?_
    rw [e0, e1, e2, e3, e4, e5, e6, e7, e8]
    exact (final m c (Cert.Pre_finite_even.gain _ _ _ _ _ _ _ _ _ h1) (Cert.Pre_finite_even.weights _ _ _ _ _ _ _ _ _ h2)
      (Cert.Pre_finite_even.sinks _ _ _ _ _ _ _ _ _ h3)).symm

end Cert.EvenMixerIdeal.Row

end
end
-- ==== Proof.lean ====
module

public import proofs.«01_k».proof.Defs
public import proofs.«01_k».proof.Proof.Gen.Ffn.Frame
public import proofs.«01_k».proof.Proof.Gen.FfnIdeal.Frame
public import proofs.«01_k».proof.Proof.Gen.RefFfnIdeal.Run
public import proofs.«01_k».proof.Proof.Gen.FfnFinal.Frame
public import proofs.«01_k».proof.Proof.Gen.FfnFinalIdeal.Frame
public import proofs.«01_k».proof.Proof.Gen.RefFfnFinalIdeal.Run
public import proofs.«01_k».proof.Proof.Gen.MemKv.Frame
public import proofs.«01_k».proof.Proof.Gen.MemKvIdeal.Frame
public import proofs.«01_k».proof.Proof.Gen.RefMemKvIdeal.Run
public import proofs.«01_k».proof.Proof.Gen.CrossAttn.Frame
public import proofs.«01_k».proof.Proof.Gen.CrossAttnIdeal.Frame
public import proofs.«01_k».proof.Proof.Gen.RefCrossAttnIdeal.Run
public import proofs.«01_k».proof.Proof.Gen.OddMixer.Frame
public import proofs.«01_k».proof.Proof.Gen.OddMixerIdeal.Frame
public import proofs.«01_k».proof.Proof.Gen.RefOddMixerIdeal.Run
public import proofs.«01_k».proof.Proof.Gen.EvenMixer.Frame
public import proofs.«01_k».proof.Proof.Gen.EvenMixerIdeal.Frame
public import proofs.«01_k».proof.Proof.Gen.RefEvenMixerIdeal.Run
public import proofs.«01_k».proof.Proof.FfnPair
public import proofs.«01_k».proof.Proof.FfnFinalPair
public import proofs.«01_k».proof.Proof.MemKvPair
public import proofs.«01_k».proof.Proof.CrossPair
public import proofs.«01_k».proof.Proof.OddPair
public import proofs.«01_k».proof.Proof.EvenPair

@[expose] public section
noncomputable section

namespace Cert.Proof

open Idealize.ShloMosaic Idealize.SL.Sem

/-- The reference of `Ffn` runs to its end and leaves its arguments alone. -/
theorem refFfn : Cert.quiescent_RefFfnIdeal := fun m g _ =>
  (θ_run Cert.RefFfnIdeal.defs _ _).mono (fun r h => ⟨fun c => (h c).2, sem_eq_zero_of_no_sems (by decide) r.2⟩)
    (Cert.RefFfnIdeal.Value.run m g)

/-- The reference of `FfnFinal` runs to its end and leaves its arguments alone. -/
theorem refFfnFinal : Cert.quiescent_RefFfnFinalIdeal := fun m g _ =>
  (θ_run Cert.RefFfnFinalIdeal.defs _ _).mono (fun r h => ⟨fun c => (h c).2, sem_eq_zero_of_no_sems (by decide) r.2⟩)
    (Cert.RefFfnFinalIdeal.Value.run m g)

/-- The reference of `MemKv` runs to its end and leaves its arguments alone. -/
theorem refMemKv : Cert.quiescent_RefMemKvIdeal := fun m g _ =>
  (θ_run Cert.RefMemKvIdeal.defs _ _).mono (fun r h => ⟨fun c => (h c).2, sem_eq_zero_of_no_sems (by decide) r.2⟩)
    (Cert.RefMemKvIdeal.Value.run m g)

/-- The reference of `CrossAttn` runs to its end and leaves its arguments alone. -/
theorem refCrossAttn : Cert.quiescent_RefCrossAttnIdeal := fun m g _ =>
  (θ_run Cert.RefCrossAttnIdeal.defs _ _).mono (fun r h => ⟨fun c => (h c).2, sem_eq_zero_of_no_sems (by decide) r.2⟩)
    (Cert.RefCrossAttnIdeal.Value.run m g)

/-- The reference of `OddMixer` runs to its end and leaves its arguments alone. -/
theorem refOddMixer : Cert.quiescent_RefOddMixerIdeal := fun m g _ =>
  (θ_run Cert.RefOddMixerIdeal.defs _ _).mono (fun r h => ⟨fun c => (h c).2, sem_eq_zero_of_no_sems (by decide) r.2⟩)
    (Cert.RefOddMixerIdeal.Value.run m g)

/-- The reference of `EvenMixer` runs to its end and leaves its arguments alone. -/
theorem refEvenMixer : Cert.quiescent_RefEvenMixerIdeal := fun m g _ =>
  (θ_run Cert.RefEvenMixerIdeal.defs _ _).mono (fun r h => ⟨fun c => (h c).2, sem_eq_zero_of_no_sems (by decide) r.2⟩)
    (Cert.RefEvenMixerIdeal.Value.run m g)

/-- Every claim: the programs run to their end, the idealized kernels are the kernels, and they compute what the
    references compute. -/
theorem claim : Cert.Claim :=
  ⟨Cert.Ffn.Gen.facts,
    Cert.FfnIdeal.Gen.facts,
    Cert.RefFfnIdeal.Gen.facts,
    Cert.FfnFinal.Gen.facts,
    Cert.FfnFinalIdeal.Gen.facts,
    Cert.RefFfnFinalIdeal.Gen.facts,
    Cert.MemKv.Gen.facts,
    Cert.MemKvIdeal.Gen.facts,
    Cert.RefMemKvIdeal.Gen.facts,
    Cert.CrossAttn.Gen.facts,
    Cert.CrossAttnIdeal.Gen.facts,
    Cert.RefCrossAttnIdeal.Gen.facts,
    Cert.OddMixer.Gen.facts,
    Cert.OddMixerIdeal.Gen.facts,
    Cert.RefOddMixerIdeal.Gen.facts,
    Cert.EvenMixer.Gen.facts,
    Cert.EvenMixerIdeal.Gen.facts,
    Cert.RefEvenMixerIdeal.Gen.facts,
    Cert.Pre_finite_cross.facts,
    Cert.Pre_finite_even.facts,
    fun m g _ => Cert.Ffn.Gen.frame m g,
    fun m g _ => Cert.FfnIdeal.Gen.frame m g,
    refFfn,
    fun m g _ => Cert.FfnFinal.Gen.frame m g,
    fun m g _ => Cert.FfnFinalIdeal.Gen.frame m g,
    refFfnFinal,
    fun m g _ => Cert.MemKv.Gen.frame m g,
    fun m g _ => Cert.MemKvIdeal.Gen.frame m g,
    refMemKv,
    fun m g _ => Cert.CrossAttn.Gen.frame m g,
    fun m g _ => Cert.CrossAttnIdeal.Gen.frame m g,
    fun m g _ => Cert.CrossAttnIdeal.Gen.frame m g,
    refCrossAttn,
    fun m g _ => refCrossAttn m g trivial,
    fun m g _ => Cert.OddMixer.Gen.frame m g,
    fun m g _ => Cert.OddMixerIdeal.Gen.frame m g,
    refOddMixer,
    fun m g _ => Cert.EvenMixer.Gen.frame m g,
    fun m g _ => Cert.EvenMixerIdeal.Gen.frame m g,
    fun m g _ => Cert.EvenMixerIdeal.Gen.frame m g,
    refEvenMixer,
    fun m g _ => refEvenMixer m g trivial,
    trivial,
    Cert.FfnIdeal.Row.algebraic,
    trivial,
    Cert.FfnFinalIdeal.Row.algebraic,
    trivial,
    Cert.MemKvIdeal.Row.algebraic,
    trivial,
    Cert.CrossAttnIdeal.Row.algebraic,
    trivial,
    Cert.OddMixerIdeal.Row.algebraic,
    trivial,
    Cert.EvenMixerIdeal.Row.algebraic⟩

end Cert.Proof

end
end
